-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))) = (fun _ => 1#1)

def Pre_SbfKernel (m : (ℓ : Loc Cert.SbfKernel.nD Cert.SbfKernel.τ Cert.SbfKernel.sig) → Buf (Elt Bits) ℓ) : Prop :=
  True

def Pre_SbfKernelIdeal (m : (ℓ : Loc Cert.SbfKernelIdeal.nD Cert.SbfKernelIdeal.τ Cert.SbfKernelIdeal.sig) → Buf (Elt Ideal) ℓ) : Prop :=
  True

def Pre_SbfKernelIdeal_sbf_finite [hPre_sbf_finite : Cert.Pre_sbf_finite.Facts] (m : (ℓ : Loc Cert.SbfKernelIdeal.nD Cert.SbfKernelIdeal.τ Cert.SbfKernelIdeal.sig) → Buf (Elt Ideal) ℓ) : Prop :=
  ∀ c : Dev Cert.SbfKernelIdeal.nD,
    (Cert.Pre_sbf_finite.fn (F := Ideal) (m ((c.tc : Thread Cert.SbfKernelIdeal.nD Cert.SbfKernelIdeal.τ).loc Cert.SbfKernelIdeal.main_arg0))) = (fun _ => 1#1)

def Pre_SbfReferenceIdeal (m : (ℓ : Loc Cert.SbfReferenceIdeal.nD Cert.SbfReferenceIdeal.τ Cert.SbfReferenceIdeal.sig) → Buf (Elt Ideal) ℓ) : Prop :=
  True

def Pre_SbfReferenceIdeal_sbf_finite [hPre_sbf_finite : Cert.Pre_sbf_finite.Facts] (m : (ℓ : Loc Cert.SbfReferenceIdeal.nD Cert.SbfReferenceIdeal.τ Cert.SbfReferenceIdeal.sig) → Buf (Elt Ideal) ℓ) : Prop :=
  ∀ c : Dev Cert.SbfReferenceIdeal.nD,
    (Cert.Pre_sbf_finite.fn (F := Ideal) (m ((c.tc : Thread Cert.SbfReferenceIdeal.nD Cert.SbfReferenceIdeal.τ).loc Cert.SbfReferenceIdeal.main_arg0))) = (fun _ => 1#1)

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalKernelIdeal_final_finite [hPre_final_finite : Cert.Pre_final_finite.Facts] (m : (ℓ : Loc Cert.FinalKernelIdeal.nD Cert.FinalKernelIdeal.τ Cert.FinalKernelIdeal.sig) → Buf (Elt Ideal) ℓ) : Prop :=
  ∀ c : Dev Cert.FinalKernelIdeal.nD,
    (Cert.Pre_final_finite.fn (F := Ideal) (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2)) (m ((c.tc : Thread Cert.FinalKernelIdeal.nD Cert.FinalKernelIdeal.τ).loc Cert.FinalKernelIdeal.main_arg3)) (m ((c.tc : Thread Cert.FinalKernelIdeal.nD Cert.FinalKernelIdeal.τ).loc Cert.FinalKernelIdeal.main_arg4))) = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_final_finite [hPre_final_finite : Cert.Pre_final_finite.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_final_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2)) (m ((c.tc : Thread Cert.FinalReferenceIdeal.nD Cert.FinalReferenceIdeal.τ).loc Cert.FinalReferenceIdeal.main_arg3)) (m ((c.tc : Thread Cert.FinalReferenceIdeal.nD Cert.FinalReferenceIdeal.τ).loc Cert.FinalReferenceIdeal.main_arg4))) = (fun _ => 1#1)

def Pre_GnormKernel (m : (ℓ : Loc Cert.GnormKernel.nD Cert.GnormKernel.τ Cert.GnormKernel.sig) → Buf (Elt Bits) ℓ) : Prop :=
  True

def Pre_GnormKernelIdeal (m : (ℓ : Loc Cert.GnormKernelIdeal.nD Cert.GnormKernelIdeal.τ Cert.GnormKernelIdeal.sig) → Buf (Elt Ideal) ℓ) : Prop :=
  True

def Pre_GnormKernelIdeal_gnorm_finite [hPre_gnorm_finite : Cert.Pre_gnorm_finite.Facts] (m : (ℓ : Loc Cert.GnormKernelIdeal.nD Cert.GnormKernelIdeal.τ Cert.GnormKernelIdeal.sig) → Buf (Elt Ideal) ℓ) : Prop :=
  ∀ c : Dev Cert.GnormKernelIdeal.nD,
    (Cert.Pre_gnorm_finite.fn (F := Ideal) (m ((c.tc : Thread Cert.GnormKernelIdeal.nD Cert.GnormKernelIdeal.τ).loc Cert.GnormKernelIdeal.main_arg0)) (m ((c.tc : Thread Cert.GnormKernelIdeal.nD Cert.GnormKernelIdeal.τ).loc Cert.GnormKernelIdeal.main_arg1)) (m ((c.tc : Thread Cert.GnormKernelIdeal.nD Cert.GnormKernelIdeal.τ).loc Cert.GnormKernelIdeal.main_arg2)) (m ((c.tc : Thread Cert.GnormKernelIdeal.nD Cert.GnormKernelIdeal.τ).loc Cert.GnormKernelIdeal.main_arg3))) = (fun _ => 1#1)

def Pre_GnormReferenceIdeal (m : (ℓ : Loc Cert.GnormReferenceIdeal.nD Cert.GnormReferenceIdeal.τ Cert.GnormReferenceIdeal.sig) → Buf (Elt Ideal) ℓ) : Prop :=
  True

def Pre_GnormReferenceIdeal_gnorm_finite [hPre_gnorm_finite : Cert.Pre_gnorm_finite.Facts] (m : (ℓ : Loc Cert.GnormReferenceIdeal.nD Cert.GnormReferenceIdeal.τ Cert.GnormReferenceIdeal.sig) → Buf (Elt Ideal) ℓ) : Prop :=
  ∀ c : Dev Cert.GnormReferenceIdeal.nD,
    (Cert.Pre_gnorm_finite.fn (F := Ideal) (m ((c.tc : Thread Cert.GnormReferenceIdeal.nD Cert.GnormReferenceIdeal.τ).loc Cert.GnormReferenceIdeal.main_arg0)) (m ((c.tc : Thread Cert.GnormReferenceIdeal.nD Cert.GnormReferenceIdeal.τ).loc Cert.GnormReferenceIdeal.main_arg1)) (m ((c.tc : Thread Cert.GnormReferenceIdeal.nD Cert.GnormReferenceIdeal.τ).loc Cert.GnormReferenceIdeal.main_arg2)) (m ((c.tc : Thread Cert.GnormReferenceIdeal.nD Cert.GnormReferenceIdeal.τ).loc Cert.GnormReferenceIdeal.main_arg3))) = (fun _ => 1#1)

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactKernelIdeal_dact_finite [hPre_dact_finite : Cert.Pre_dact_finite.Facts] (m : (ℓ : Loc Cert.DactKernelIdeal.nD Cert.DactKernelIdeal.τ Cert.DactKernelIdeal.sig) → Buf (Elt Ideal) ℓ) : Prop :=
  ∀ c : Dev Cert.DactKernelIdeal.nD,
    (Cert.Pre_dact_finite.fn (F := Ideal) (m ((c.tc : Thread Cert.DactKernelIdeal.nD Cert.DactKernelIdeal.τ).loc Cert.DactKernelIdeal.main_arg0)) (m ((c.tc : Thread Cert.DactKernelIdeal.nD Cert.DactKernelIdeal.τ).loc Cert.DactKernelIdeal.main_arg1)) (m ((c.tc : Thread Cert.DactKernelIdeal.nD Cert.DactKernelIdeal.τ).loc Cert.DactKernelIdeal.main_arg2)) (m ((c.tc : Thread Cert.DactKernelIdeal.nD Cert.DactKernelIdeal.τ).loc Cert.DactKernelIdeal.main_arg3))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_dact_finite [hPre_dact_finite : Cert.Pre_dact_finite.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3))) = (fun _ => 1#1)

def Pre_DgffnKernel (m : (ℓ : Loc Cert.DgffnKernel.nD Cert.DgffnKernel.τ Cert.DgffnKernel.sig) → Buf (Elt Bits) ℓ) : Prop :=
  True

def Pre_DgffnKernelIdeal (m : (ℓ : Loc Cert.DgffnKernelIdeal.nD Cert.DgffnKernelIdeal.τ Cert.DgffnKernelIdeal.sig) → Buf (Elt Ideal) ℓ) : Prop :=
  True

def Pre_DgffnKernelIdeal_dgffn_finite [hPre_dgffn_finite : Cert.Pre_dgffn_finite.Facts] (m : (ℓ : Loc Cert.DgffnKernelIdeal.nD Cert.DgffnKernelIdeal.τ Cert.DgffnKernelIdeal.sig) → Buf (Elt Ideal) ℓ) : Prop :=
  ∀ c : Dev Cert.DgffnKernelIdeal.nD,
    (Cert.Pre_dgffn_finite.fn (F := Ideal) (m ((c.tc : Thread Cert.DgffnKernelIdeal.nD Cert.DgffnKernelIdeal.τ).loc Cert.DgffnKernelIdeal.main_arg0)) (m ((c.tc : Thread Cert.DgffnKernelIdeal.nD Cert.DgffnKernelIdeal.τ).loc Cert.DgffnKernelIdeal.main_arg1)) (m ((c.tc : Thread Cert.DgffnKernelIdeal.nD Cert.DgffnKernelIdeal.τ).loc Cert.DgffnKernelIdeal.main_arg2)) (m ((c.tc : Thread Cert.DgffnKernelIdeal.nD Cert.DgffnKernelIdeal.τ).loc Cert.DgffnKernelIdeal.main_arg3)) (m ((c.tc : Thread Cert.DgffnKernelIdeal.nD Cert.DgffnKernelIdeal.τ).loc Cert.DgffnKernelIdeal.main_arg4)) (m ((c.tc : Thread Cert.DgffnKernelIdeal.nD Cert.DgffnKernelIdeal.τ).loc Cert.DgffnKernelIdeal.main_arg5)) (m ((c.tc : Thread Cert.DgffnKernelIdeal.nD Cert.DgffnKernelIdeal.τ).loc Cert.DgffnKernelIdeal.main_arg6)) (m ((c.tc : Thread Cert.DgffnKernelIdeal.nD Cert.DgffnKernelIdeal.τ).loc Cert.DgffnKernelIdeal.main_arg7))) = (fun _ => 1#1)

def Pre_DgffnReferenceIdeal (m : (ℓ : Loc Cert.DgffnReferenceIdeal.nD Cert.DgffnReferenceIdeal.τ Cert.DgffnReferenceIdeal.sig) → Buf (Elt Ideal) ℓ) : Prop :=
  True

def Pre_DgffnReferenceIdeal_dgffn_finite [hPre_dgffn_finite : Cert.Pre_dgffn_finite.Facts] (m : (ℓ : Loc Cert.DgffnReferenceIdeal.nD Cert.DgffnReferenceIdeal.τ Cert.DgffnReferenceIdeal.sig) → Buf (Elt Ideal) ℓ) : Prop :=
  ∀ c : Dev Cert.DgffnReferenceIdeal.nD,
    (Cert.Pre_dgffn_finite.fn (F := Ideal) (m ((c.tc : Thread Cert.DgffnReferenceIdeal.nD Cert.DgffnReferenceIdeal.τ).loc Cert.DgffnReferenceIdeal.main_arg0)) (m ((c.tc : Thread Cert.DgffnReferenceIdeal.nD Cert.DgffnReferenceIdeal.τ).loc Cert.DgffnReferenceIdeal.main_arg1)) (m ((c.tc : Thread Cert.DgffnReferenceIdeal.nD Cert.DgffnReferenceIdeal.τ).loc Cert.DgffnReferenceIdeal.main_arg2)) (m ((c.tc : Thread Cert.DgffnReferenceIdeal.nD Cert.DgffnReferenceIdeal.τ).loc Cert.DgffnReferenceIdeal.main_arg3)) (m ((c.tc : Thread Cert.DgffnReferenceIdeal.nD Cert.DgffnReferenceIdeal.τ).loc Cert.DgffnReferenceIdeal.main_arg4)) (m ((c.tc : Thread Cert.DgffnReferenceIdeal.nD Cert.DgffnReferenceIdeal.τ).loc Cert.DgffnReferenceIdeal.main_arg5)) (m ((c.tc : Thread Cert.DgffnReferenceIdeal.nD Cert.DgffnReferenceIdeal.τ).loc Cert.DgffnReferenceIdeal.main_arg6)) (m ((c.tc : Thread Cert.DgffnReferenceIdeal.nD Cert.DgffnReferenceIdeal.τ).loc Cert.DgffnReferenceIdeal.main_arg7))) = (fun _ => 1#1)

def Pre_DgmixKernel (m : (ℓ : Loc Cert.DgmixKernel.nD Cert.DgmixKernel.τ Cert.DgmixKernel.sig) → Buf (Elt Bits) ℓ) : Prop :=
  True

def Pre_DgmixKernelIdeal (m : (ℓ : Loc Cert.DgmixKernelIdeal.nD Cert.DgmixKernelIdeal.τ Cert.DgmixKernelIdeal.sig) → Buf (Elt Ideal) ℓ) : Prop :=
  True

def Pre_DgmixKernelIdeal_dgmix_finite [hPre_dgmix_finite : Cert.Pre_dgmix_finite.Facts] (m : (ℓ : Loc Cert.DgmixKernelIdeal.nD Cert.DgmixKernelIdeal.τ Cert.DgmixKernelIdeal.sig) → Buf (Elt Ideal) ℓ) : Prop :=
  ∀ c : Dev Cert.DgmixKernelIdeal.nD,
    (Cert.Pre_dgmix_finite.fn (F := Ideal) (m ((c.tc : Thread Cert.DgmixKernelIdeal.nD Cert.DgmixKernelIdeal.τ).loc Cert.DgmixKernelIdeal.main_arg0)) (m ((c.tc : Thread Cert.DgmixKernelIdeal.nD Cert.DgmixKernelIdeal.τ).loc Cert.DgmixKernelIdeal.main_arg1)) (m ((c.tc : Thread Cert.DgmixKernelIdeal.nD Cert.DgmixKernelIdeal.τ).loc Cert.DgmixKernelIdeal.main_arg2)) (m ((c.tc : Thread Cert.DgmixKernelIdeal.nD Cert.DgmixKernelIdeal.τ).loc Cert.DgmixKernelIdeal.main_arg3)) (m ((c.tc : Thread Cert.DgmixKernelIdeal.nD Cert.DgmixKernelIdeal.τ).loc Cert.DgmixKernelIdeal.main_arg4)) (m ((c.tc : Thread Cert.DgmixKernelIdeal.nD Cert.DgmixKernelIdeal.τ).loc Cert.DgmixKernelIdeal.main_arg5))) = (fun _ => 1#1)

def Pre_DgmixReferenceIdeal (m : (ℓ : Loc Cert.DgmixReferenceIdeal.nD Cert.DgmixReferenceIdeal.τ Cert.DgmixReferenceIdeal.sig) → Buf (Elt Ideal) ℓ) : Prop :=
  True

def Pre_DgmixReferenceIdeal_dgmix_finite [hPre_dgmix_finite : Cert.Pre_dgmix_finite.Facts] (m : (ℓ : Loc Cert.DgmixReferenceIdeal.nD Cert.DgmixReferenceIdeal.τ Cert.DgmixReferenceIdeal.sig) → Buf (Elt Ideal) ℓ) : Prop :=
  ∀ c : Dev Cert.DgmixReferenceIdeal.nD,
    (Cert.Pre_dgmix_finite.fn (F := Ideal) (m ((c.tc : Thread Cert.DgmixReferenceIdeal.nD Cert.DgmixReferenceIdeal.τ).loc Cert.DgmixReferenceIdeal.main_arg0)) (m ((c.tc : Thread Cert.DgmixReferenceIdeal.nD Cert.DgmixReferenceIdeal.τ).loc Cert.DgmixReferenceIdeal.main_arg1)) (m ((c.tc : Thread Cert.DgmixReferenceIdeal.nD Cert.DgmixReferenceIdeal.τ).loc Cert.DgmixReferenceIdeal.main_arg2)) (m ((c.tc : Thread Cert.DgmixReferenceIdeal.nD Cert.DgmixReferenceIdeal.τ).loc Cert.DgmixReferenceIdeal.main_arg3)) (m ((c.tc : Thread Cert.DgmixReferenceIdeal.nD Cert.DgmixReferenceIdeal.τ).loc Cert.DgmixReferenceIdeal.main_arg4)) (m ((c.tc : Thread Cert.DgmixReferenceIdeal.nD Cert.DgmixReferenceIdeal.τ).loc Cert.DgmixReferenceIdeal.main_arg5))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_finite [hPre_conv_finite : Cert.Pre_conv_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_finite [hPre_conv_finite : Cert.Pre_conv_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_GnfKernel (m : (ℓ : Loc Cert.GnfKernel.nD Cert.GnfKernel.τ Cert.GnfKernel.sig) → Buf (Elt Bits) ℓ) : Prop :=
  True

def Pre_GnfKernelIdeal (m : (ℓ : Loc Cert.GnfKernelIdeal.nD Cert.GnfKernelIdeal.τ Cert.GnfKernelIdeal.sig) → Buf (Elt Ideal) ℓ) : Prop :=
  True

def Pre_GnfReferenceIdeal (m : (ℓ : Loc Cert.GnfReferenceIdeal.nD Cert.GnfReferenceIdeal.τ Cert.GnfReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptReferenceIdeal (m : (ℓ : Loc Cert.OptReferenceIdeal.nD Cert.OptReferenceIdeal.τ Cert.OptReferenceIdeal.sig) → Buf (Elt Ideal) ℓ) : Prop :=
  True

def Pre_MmKernel (m : (ℓ : Loc Cert.MmKernel.nD Cert.MmKernel.τ Cert.MmKernel.sig) → Buf (Elt Bits) ℓ) : Prop :=
  True

def Pre_MmKernelIdeal (m : (ℓ : Loc Cert.MmKernelIdeal.nD Cert.MmKernelIdeal.τ Cert.MmKernelIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbfKernel [hSbfKernel : Cert.SbfKernel.Facts] : Prop :=
  ∀ (m : (ℓ : Loc Cert.SbfKernel.nD Cert.SbfKernel.τ Cert.SbfKernel.sig) → Buf (Elt Bits) ℓ) (g : Dev Cert.SbfKernel.nD → PrngReg), Pre_SbfKernel m →
    θ_run (Cert.SbfKernel.defs (F := Bits)) (onTc (τ := Cert.SbfKernel.τ) (Cert.SbfKernel.main (F := Bits))) ⟨m, fun _ => 0, g⟩ (fun r => (∀ c : Dev Cert.SbfKernel.nD,
      r.2.mem ((c.tc : Thread Cert.SbfKernel.nD Cert.SbfKernel.τ).loc Cert.SbfKernel.main_arg0) = m ((c.tc : Thread Cert.SbfKernel.nD Cert.SbfKernel.τ).loc Cert.SbfKernel.main_arg0))
      ∧ r.2.sem = fun _ => 0)

def quiescent_SbfKernelIdeal [hSbfKernelIdeal : Cert.SbfKernelIdeal.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0))
      ∧ r.2.sem = fun _ => 0)

def quiescent_SbfKernelIdeal_pre_sbf_finite [hSbfKernelIdeal : Cert.SbfKernelIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal_sbf_finite m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0))
      ∧ r.2.sem = fun _ => 0)

def quiescent_SbfReferenceIdeal [hSbfReferenceIdeal : Cert.SbfReferenceIdeal.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0))
      ∧ r.2.sem = fun _ => 0)

def quiescent_SbfReferenceIdeal_pre_sbf_finite [hSbfReferenceIdeal : Cert.SbfReferenceIdeal.Facts] [hPre_sbf_finite : Cert.Pre_sbf_finite.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal_sbf_finite m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3)
      ∧ r.2.mem ((c.tc : Thread Cert.FinalKernel.nD Cert.FinalKernel.τ).loc Cert.FinalKernel.main_arg4) = m ((c.tc : Thread Cert.FinalKernel.nD Cert.FinalKernel.τ).loc Cert.FinalKernel.main_arg4))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
      ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4))
      ∧ r.2.sem = fun _ => 0)

def quiescent_FinalKernelIdeal_pre_final_finite [hFinalKernelIdeal : Cert.FinalKernelIdeal.Facts] [hPre_final_finite : Cert.Pre_final_finite.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal_final_finite m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
      ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_FinalReferenceIdeal_pre_final_finite [hFinalReferenceIdeal : Cert.FinalReferenceIdeal.Facts] [hPre_final_finite : Cert.Pre_final_finite.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_final_finite m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_GnormKernel [hGnormKernel : Cert.GnormKernel.Facts] : Prop :=
  ∀ (m : (ℓ : Loc Cert.GnormKernel.nD Cert.GnormKernel.τ Cert.GnormKernel.sig) → Buf (Elt Bits) ℓ) (g : Dev Cert.GnormKernel.nD → PrngReg), Pre_GnormKernel m →
    θ_run (Cert.GnormKernel.defs (F := Bits)) (onTc (τ := Cert.GnormKernel.τ) (Cert.GnormKernel.main (F := Bits))) ⟨m, fun _ => 0, g⟩ (fun r => (∀ c : Dev Cert.GnormKernel.nD,
      r.2.mem ((c.tc : Thread Cert.GnormKernel.nD Cert.GnormKernel.τ).loc Cert.GnormKernel.main_arg0) = m ((c.tc : Thread Cert.GnormKernel.nD Cert.GnormKernel.τ).loc Cert.GnormKernel.main_arg0)
      ∧ r.2.mem ((c.tc : Thread Cert.GnormKernel.nD Cert.GnormKernel.τ).loc Cert.GnormKernel.main_arg1) = m ((c.tc : Thread Cert.GnormKernel.nD Cert.GnormKernel.τ).loc Cert.GnormKernel.main_arg1)
      ∧ r.2.mem ((c.tc : Thread Cert.GnormKernel.nD Cert.GnormKernel.τ).loc Cert.GnormKernel.main_arg2) = m ((c.tc : Thread Cert.GnormKernel.nD Cert.GnormKernel.τ).loc Cert.GnormKernel.main_arg2)
      ∧ r.2.mem ((c.tc : Thread Cert.GnormKernel.nD Cert.GnormKernel.τ).loc Cert.GnormKernel.main_arg3) = m ((c.tc : Thread Cert.GnormKernel.nD Cert.GnormKernel.τ).loc Cert.GnormKernel.main_arg3))
      ∧ r.2.sem = fun _ => 0)

def quiescent_GnormKernelIdeal [hGnormKernelIdeal : Cert.GnormKernelIdeal.Facts] : Prop :=
  ∀ (m : (ℓ : Loc Cert.GnormKernelIdeal.nD Cert.GnormKernelIdeal.τ Cert.GnormKernelIdeal.sig) → Buf (Elt Ideal) ℓ) (g : Dev Cert.GnormKernelIdeal.nD → PrngReg), Pre_GnormKernelIdeal m →
    θ_run (Cert.GnormKernelIdeal.defs (F := Ideal)) (onTc (τ := Cert.GnormKernelIdeal.τ) (Cert.GnormKernelIdeal.main (F := Ideal))) ⟨m, fun _ => 0, g⟩ (fun r => (∀ c : Dev Cert.GnormKernelIdeal.nD,
      r.2.mem ((c.tc : Thread Cert.GnormKernelIdeal.nD Cert.GnormKernelIdeal.τ).loc Cert.GnormKernelIdeal.main_arg0) = m ((c.tc : Thread Cert.GnormKernelIdeal.nD Cert.GnormKernelIdeal.τ).loc Cert.GnormKernelIdeal.main_arg0)
      ∧ r.2.mem ((c.tc : Thread Cert.GnormKernelIdeal.nD Cert.GnormKernelIdeal.τ).loc Cert.GnormKernelIdeal.main_arg1) = m ((c.tc : Thread Cert.GnormKernelIdeal.nD Cert.GnormKernelIdeal.τ).loc Cert.GnormKernelIdeal.main_arg1)
      ∧ r.2.mem ((c.tc : Thread Cert.GnormKernelIdeal.nD Cert.GnormKernelIdeal.τ).loc Cert.GnormKernelIdeal.main_arg2) = m ((c.tc : Thread Cert.GnormKernelIdeal.nD Cert.GnormKernelIdeal.τ).loc Cert.GnormKernelIdeal.main_arg2)
      ∧ r.2.mem ((c.tc : Thread Cert.GnormKernelIdeal.nD Cert.GnormKernelIdeal.τ).loc Cert.GnormKernelIdeal.main_arg3) = m ((c.tc : Thread Cert.GnormKernelIdeal.nD Cert.GnormKernelIdeal.τ).loc Cert.GnormKernelIdeal.main_arg3))
      ∧ r.2.sem = fun _ => 0)

def quiescent_GnormKernelIdeal_pre_gnorm_finite [hGnormKernelIdeal : Cert.GnormKernelIdeal.Facts] [hPre_gnorm_finite : Cert.Pre_gnorm_finite.Facts] : Prop :=
  ∀ (m : (ℓ : Loc Cert.GnormKernelIdeal.nD Cert.GnormKernelIdeal.τ Cert.GnormKernelIdeal.sig) → Buf (Elt Ideal) ℓ) (g : Dev Cert.GnormKernelIdeal.nD → PrngReg), Pre_GnormKernelIdeal_gnorm_finite m →
    θ_run (Cert.GnormKernelIdeal.defs (F := Ideal)) (onTc (τ := Cert.GnormKernelIdeal.τ) (Cert.GnormKernelIdeal.main (F := Ideal))) ⟨m, fun _ => 0, g⟩ (fun r => (∀ c : Dev Cert.GnormKernelIdeal.nD,
      r.2.mem ((c.tc : Thread Cert.GnormKernelIdeal.nD Cert.GnormKernelIdeal.τ).loc Cert.GnormKernelIdeal.main_arg0) = m ((c.tc : Thread Cert.GnormKernelIdeal.nD Cert.GnormKernelIdeal.τ).loc Cert.GnormKernelIdeal.main_arg0)
      ∧ r.2.mem ((c.tc : Thread Cert.GnormKernelIdeal.nD Cert.GnormKernelIdeal.τ).loc Cert.GnormKernelIdeal.main_arg1) = m ((c.tc : Thread Cert.GnormKernelIdeal.nD Cert.GnormKernelIdeal.τ).loc Cert.GnormKernelIdeal.main_arg1)
      ∧ r.2.mem ((c.tc : Thread Cert.GnormKernelIdeal.nD Cert.GnormKernelIdeal.τ).loc Cert.GnormKernelIdeal.main_arg2) = m ((c.tc : Thread Cert.GnormKernelIdeal.nD Cert.GnormKernelIdeal.τ).loc Cert.GnormKernelIdeal.main_arg2)
      ∧ r.2.mem ((c.tc : Thread Cert.GnormKernelIdeal.nD Cert.GnormKernelIdeal.τ).loc Cert.GnormKernelIdeal.main_arg3) = m ((c.tc : Thread Cert.GnormKernelIdeal.nD Cert.GnormKernelIdeal.τ).loc Cert.GnormKernelIdeal.main_arg3))
      ∧ r.2.sem = fun _ => 0)

def quiescent_GnormReferenceIdeal [hGnormReferenceIdeal : Cert.GnormReferenceIdeal.Facts] : Prop :=
  ∀ (m : (ℓ : Loc Cert.GnormReferenceIdeal.nD Cert.GnormReferenceIdeal.τ Cert.GnormReferenceIdeal.sig) → Buf (Elt Ideal) ℓ) (g : Dev Cert.GnormReferenceIdeal.nD → PrngReg), Pre_GnormReferenceIdeal m →
    θ_run (Cert.GnormReferenceIdeal.defs (F := Ideal)) (onTc (τ := Cert.GnormReferenceIdeal.τ) (Cert.GnormReferenceIdeal.main (F := Ideal))) ⟨m, fun _ => 0, g⟩ (fun r => (∀ c : Dev Cert.GnormReferenceIdeal.nD,
      r.2.mem ((c.tc : Thread Cert.GnormReferenceIdeal.nD Cert.GnormReferenceIdeal.τ).loc Cert.GnormReferenceIdeal.main_arg0) = m ((c.tc : Thread Cert.GnormReferenceIdeal.nD Cert.GnormReferenceIdeal.τ).loc Cert.GnormReferenceIdeal.main_arg0)
      ∧ r.2.mem ((c.tc : Thread Cert.GnormReferenceIdeal.nD Cert.GnormReferenceIdeal.τ).loc Cert.GnormReferenceIdeal.main_arg1) = m ((c.tc : Thread Cert.GnormReferenceIdeal.nD Cert.GnormReferenceIdeal.τ).loc Cert.GnormReferenceIdeal.main_arg1)
      ∧ r.2.mem ((c.tc : Thread Cert.GnormReferenceIdeal.nD Cert.GnormReferenceIdeal.τ).loc Cert.GnormReferenceIdeal.main_arg2) = m ((c.tc : Thread Cert.GnormReferenceIdeal.nD Cert.GnormReferenceIdeal.τ).loc Cert.GnormReferenceIdeal.main_arg2)
      ∧ r.2.mem ((c.tc : Thread Cert.GnormReferenceIdeal.nD Cert.GnormReferenceIdeal.τ).loc Cert.GnormReferenceIdeal.main_arg3) = m ((c.tc : Thread Cert.GnormReferenceIdeal.nD Cert.GnormReferenceIdeal.τ).loc Cert.GnormReferenceIdeal.main_arg3))
      ∧ r.2.sem = fun _ => 0)

def quiescent_GnormReferenceIdeal_pre_gnorm_finite [hGnormReferenceIdeal : Cert.GnormReferenceIdeal.Facts] [hPre_gnorm_finite : Cert.Pre_gnorm_finite.Facts] : Prop :=
  ∀ (m : (ℓ : Loc Cert.GnormReferenceIdeal.nD Cert.GnormReferenceIdeal.τ Cert.GnormReferenceIdeal.sig) → Buf (Elt Ideal) ℓ) (g : Dev Cert.GnormReferenceIdeal.nD → PrngReg), Pre_GnormReferenceIdeal_gnorm_finite m →
    θ_run (Cert.GnormReferenceIdeal.defs (F := Ideal)) (onTc (τ := Cert.GnormReferenceIdeal.τ) (Cert.GnormReferenceIdeal.main (F := Ideal))) ⟨m, fun _ => 0, g⟩ (fun r => (∀ c : Dev Cert.GnormReferenceIdeal.nD,
      r.2.mem ((c.tc : Thread Cert.GnormReferenceIdeal.nD Cert.GnormReferenceIdeal.τ).loc Cert.GnormReferenceIdeal.main_arg0) = m ((c.tc : Thread Cert.GnormReferenceIdeal.nD Cert.GnormReferenceIdeal.τ).loc Cert.GnormReferenceIdeal.main_arg0)
      ∧ r.2.mem ((c.tc : Thread Cert.GnormReferenceIdeal.nD Cert.GnormReferenceIdeal.τ).loc Cert.GnormReferenceIdeal.main_arg1) = m ((c.tc : Thread Cert.GnormReferenceIdeal.nD Cert.GnormReferenceIdeal.τ).loc Cert.GnormReferenceIdeal.main_arg1)
      ∧ r.2.mem ((c.tc : Thread Cert.GnormReferenceIdeal.nD Cert.GnormReferenceIdeal.τ).loc Cert.GnormReferenceIdeal.main_arg2) = m ((c.tc : Thread Cert.GnormReferenceIdeal.nD Cert.GnormReferenceIdeal.τ).loc Cert.GnormReferenceIdeal.main_arg2)
      ∧ r.2.mem ((c.tc : Thread Cert.GnormReferenceIdeal.nD Cert.GnormReferenceIdeal.τ).loc Cert.GnormReferenceIdeal.main_arg3) = m ((c.tc : Thread Cert.GnormReferenceIdeal.nD Cert.GnormReferenceIdeal.τ).loc Cert.GnormReferenceIdeal.main_arg3))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2)
      ∧ r.2.mem ((c.tc : Thread Cert.DactKernel.nD Cert.DactKernel.τ).loc Cert.DactKernel.main_arg3) = m ((c.tc : Thread Cert.DactKernel.nD Cert.DactKernel.τ).loc Cert.DactKernel.main_arg3))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactKernelIdeal_pre_dact_finite [hDactKernelIdeal : Cert.DactKernelIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal_dact_finite m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DactReferenceIdeal_pre_dact_finite [hDactReferenceIdeal : Cert.DactReferenceIdeal.Facts] [hPre_dact_finite : Cert.Pre_dact_finite.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_dact_finite m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DgffnKernel [hDgffnKernel : Cert.DgffnKernel.Facts] : Prop :=
  ∀ (m : (ℓ : Loc Cert.DgffnKernel.nD Cert.DgffnKernel.τ Cert.DgffnKernel.sig) → Buf (Elt Bits) ℓ) (g : Dev Cert.DgffnKernel.nD → PrngReg), Pre_DgffnKernel m →
    θ_run (Cert.DgffnKernel.defs (F := Bits)) (onTc (τ := Cert.DgffnKernel.τ) (Cert.DgffnKernel.main (F := Bits))) ⟨m, fun _ => 0, g⟩ (fun r => (∀ c : Dev Cert.DgffnKernel.nD,
      r.2.mem ((c.tc : Thread Cert.DgffnKernel.nD Cert.DgffnKernel.τ).loc Cert.DgffnKernel.main_arg0) = m ((c.tc : Thread Cert.DgffnKernel.nD Cert.DgffnKernel.τ).loc Cert.DgffnKernel.main_arg0)
      ∧ r.2.mem ((c.tc : Thread Cert.DgffnKernel.nD Cert.DgffnKernel.τ).loc Cert.DgffnKernel.main_arg1) = m ((c.tc : Thread Cert.DgffnKernel.nD Cert.DgffnKernel.τ).loc Cert.DgffnKernel.main_arg1)
      ∧ r.2.mem ((c.tc : Thread Cert.DgffnKernel.nD Cert.DgffnKernel.τ).loc Cert.DgffnKernel.main_arg2) = m ((c.tc : Thread Cert.DgffnKernel.nD Cert.DgffnKernel.τ).loc Cert.DgffnKernel.main_arg2)
      ∧ r.2.mem ((c.tc : Thread Cert.DgffnKernel.nD Cert.DgffnKernel.τ).loc Cert.DgffnKernel.main_arg3) = m ((c.tc : Thread Cert.DgffnKernel.nD Cert.DgffnKernel.τ).loc Cert.DgffnKernel.main_arg3)
      ∧ r.2.mem ((c.tc : Thread Cert.DgffnKernel.nD Cert.DgffnKernel.τ).loc Cert.DgffnKernel.main_arg4) = m ((c.tc : Thread Cert.DgffnKernel.nD Cert.DgffnKernel.τ).loc Cert.DgffnKernel.main_arg4)
      ∧ r.2.mem ((c.tc : Thread Cert.DgffnKernel.nD Cert.DgffnKernel.τ).loc Cert.DgffnKernel.main_arg5) = m ((c.tc : Thread Cert.DgffnKernel.nD Cert.DgffnKernel.τ).loc Cert.DgffnKernel.main_arg5)
      ∧ r.2.mem ((c.tc : Thread Cert.DgffnKernel.nD Cert.DgffnKernel.τ).loc Cert.DgffnKernel.main_arg6) = m ((c.tc : Thread Cert.DgffnKernel.nD Cert.DgffnKernel.τ).loc Cert.DgffnKernel.main_arg6)
      ∧ r.2.mem ((c.tc : Thread Cert.DgffnKernel.nD Cert.DgffnKernel.τ).loc Cert.DgffnKernel.main_arg7) = m ((c.tc : Thread Cert.DgffnKernel.nD Cert.DgffnKernel.τ).loc Cert.DgffnKernel.main_arg7))
      ∧ r.2.sem = fun _ => 0)

def quiescent_DgffnKernelIdeal [hDgffnKernelIdeal : Cert.DgffnKernelIdeal.Facts] : Prop :=
  ∀ (m : (ℓ : Loc Cert.DgffnKernelIdeal.nD Cert.DgffnKernelIdeal.τ Cert.DgffnKernelIdeal.sig) → Buf (Elt Ideal) ℓ) (g : Dev Cert.DgffnKernelIdeal.nD → PrngReg), Pre_DgffnKernelIdeal m →
    θ_run (Cert.DgffnKernelIdeal.defs (F := Ideal)) (onTc (τ := Cert.DgffnKernelIdeal.τ) (Cert.DgffnKernelIdeal.main (F := Ideal))) ⟨m, fun _ => 0, g⟩ (fun r => (∀ c : Dev Cert.DgffnKernelIdeal.nD,
      r.2.mem ((c.tc : Thread Cert.DgffnKernelIdeal.nD Cert.DgffnKernelIdeal.τ).loc Cert.DgffnKernelIdeal.main_arg0) = m ((c.tc : Thread Cert.DgffnKernelIdeal.nD Cert.DgffnKernelIdeal.τ).loc Cert.DgffnKernelIdeal.main_arg0)
      ∧ r.2.mem ((c.tc : Thread Cert.DgffnKernelIdeal.nD Cert.DgffnKernelIdeal.τ).loc Cert.DgffnKernelIdeal.main_arg1) = m ((c.tc : Thread Cert.DgffnKernelIdeal.nD Cert.DgffnKernelIdeal.τ).loc Cert.DgffnKernelIdeal.main_arg1)
      ∧ r.2.mem ((c.tc : Thread Cert.DgffnKernelIdeal.nD Cert.DgffnKernelIdeal.τ).loc Cert.DgffnKernelIdeal.main_arg2) = m ((c.tc : Thread Cert.DgffnKernelIdeal.nD Cert.DgffnKernelIdeal.τ).loc Cert.DgffnKernelIdeal.main_arg2)
      ∧ r.2.mem ((c.tc : Thread Cert.DgffnKernelIdeal.nD Cert.DgffnKernelIdeal.τ).loc Cert.DgffnKernelIdeal.main_arg3) = m ((c.tc : Thread Cert.DgffnKernelIdeal.nD Cert.DgffnKernelIdeal.τ).loc Cert.DgffnKernelIdeal.main_arg3)
      ∧ r.2.mem ((c.tc : Thread Cert.DgffnKernelIdeal.nD Cert.DgffnKernelIdeal.τ).loc Cert.DgffnKernelIdeal.main_arg4) = m ((c.tc : Thread Cert.DgffnKernelIdeal.nD Cert.DgffnKernelIdeal.τ).loc Cert.DgffnKernelIdeal.main_arg4)
      ∧ r.2.mem ((c.tc : Thread Cert.DgffnKernelIdeal.nD Cert.DgffnKernelIdeal.τ).loc Cert.DgffnKernelIdeal.main_arg5) = m ((c.tc : Thread Cert.DgffnKernelIdeal.nD Cert.DgffnKernelIdeal.τ).loc Cert.DgffnKernelIdeal.main_arg5)
      ∧ r.2.mem ((c.tc : Thread Cert.DgffnKernelIdeal.nD Cert.DgffnKernelIdeal.τ).loc Cert.DgffnKernelIdeal.main_arg6) = m ((c.tc : Thread Cert.DgffnKernelIdeal.nD Cert.DgffnKernelIdeal.τ).loc Cert.DgffnKernelIdeal.main_arg6)
      ∧ r.2.mem ((c.tc : Thread Cert.DgffnKernelIdeal.nD Cert.DgffnKernelIdeal.τ).loc Cert.DgffnKernelIdeal.main_arg7) = m ((c.tc : Thread Cert.DgffnKernelIdeal.nD Cert.DgffnKernelIdeal.τ).loc Cert.DgffnKernelIdeal.main_arg7))
      ∧ r.2.sem = fun _ => 0)

def quiescent_DgffnKernelIdeal_pre_dgffn_finite [hDgffnKernelIdeal : Cert.DgffnKernelIdeal.Facts] [hPre_dgffn_finite : Cert.Pre_dgffn_finite.Facts] : Prop :=
  ∀ (m : (ℓ : Loc Cert.DgffnKernelIdeal.nD Cert.DgffnKernelIdeal.τ Cert.DgffnKernelIdeal.sig) → Buf (Elt Ideal) ℓ) (g : Dev Cert.DgffnKernelIdeal.nD → PrngReg), Pre_DgffnKernelIdeal_dgffn_finite m →
    θ_run (Cert.DgffnKernelIdeal.defs (F := Ideal)) (onTc (τ := Cert.DgffnKernelIdeal.τ) (Cert.DgffnKernelIdeal.main (F := Ideal))) ⟨m, fun _ => 0, g⟩ (fun r => (∀ c : Dev Cert.DgffnKernelIdeal.nD,
      r.2.mem ((c.tc : Thread Cert.DgffnKernelIdeal.nD Cert.DgffnKernelIdeal.τ).loc Cert.DgffnKernelIdeal.main_arg0) = m ((c.tc : Thread Cert.DgffnKernelIdeal.nD Cert.DgffnKernelIdeal.τ).loc Cert.DgffnKernelIdeal.main_arg0)
      ∧ r.2.mem ((c.tc : Thread Cert.DgffnKernelIdeal.nD Cert.DgffnKernelIdeal.τ).loc Cert.DgffnKernelIdeal.main_arg1) = m ((c.tc : Thread Cert.DgffnKernelIdeal.nD Cert.DgffnKernelIdeal.τ).loc Cert.DgffnKernelIdeal.main_arg1)
      ∧ r.2.mem ((c.tc : Thread Cert.DgffnKernelIdeal.nD Cert.DgffnKernelIdeal.τ).loc Cert.DgffnKernelIdeal.main_arg2) = m ((c.tc : Thread Cert.DgffnKernelIdeal.nD Cert.DgffnKernelIdeal.τ).loc Cert.DgffnKernelIdeal.main_arg2)
      ∧ r.2.mem ((c.tc : Thread Cert.DgffnKernelIdeal.nD Cert.DgffnKernelIdeal.τ).loc Cert.DgffnKernelIdeal.main_arg3) = m ((c.tc : Thread Cert.DgffnKernelIdeal.nD Cert.DgffnKernelIdeal.τ).loc Cert.DgffnKernelIdeal.main_arg3)
      ∧ r.2.mem ((c.tc : Thread Cert.DgffnKernelIdeal.nD Cert.DgffnKernelIdeal.τ).loc Cert.DgffnKernelIdeal.main_arg4) = m ((c.tc : Thread Cert.DgffnKernelIdeal.nD Cert.DgffnKernelIdeal.τ).loc Cert.DgffnKernelIdeal.main_arg4)
      ∧ r.2.mem ((c.tc : Thread Cert.DgffnKernelIdeal.nD Cert.DgffnKernelIdeal.τ).loc Cert.DgffnKernelIdeal.main_arg5) = m ((c.tc : Thread Cert.DgffnKernelIdeal.nD Cert.DgffnKernelIdeal.τ).loc Cert.DgffnKernelIdeal.main_arg5)
      ∧ r.2.mem ((c.tc : Thread Cert.DgffnKernelIdeal.nD Cert.DgffnKernelIdeal.τ).loc Cert.DgffnKernelIdeal.main_arg6) = m ((c.tc : Thread Cert.DgffnKernelIdeal.nD Cert.DgffnKernelIdeal.τ).loc Cert.DgffnKernelIdeal.main_arg6)
      ∧ r.2.mem ((c.tc : Thread Cert.DgffnKernelIdeal.nD Cert.DgffnKernelIdeal.τ).loc Cert.DgffnKernelIdeal.main_arg7) = m ((c.tc : Thread Cert.DgffnKernelIdeal.nD Cert.DgffnKernelIdeal.τ).loc Cert.DgffnKernelIdeal.main_arg7))
      ∧ r.2.sem = fun _ => 0)

def quiescent_DgffnReferenceIdeal [hDgffnReferenceIdeal : Cert.DgffnReferenceIdeal.Facts] : Prop :=
  ∀ (m : (ℓ : Loc Cert.DgffnReferenceIdeal.nD Cert.DgffnReferenceIdeal.τ Cert.DgffnReferenceIdeal.sig) → Buf (Elt Ideal) ℓ) (g : Dev Cert.DgffnReferenceIdeal.nD → PrngReg), Pre_DgffnReferenceIdeal m →
    θ_run (Cert.DgffnReferenceIdeal.defs (F := Ideal)) (onTc (τ := Cert.DgffnReferenceIdeal.τ) (Cert.DgffnReferenceIdeal.main (F := Ideal))) ⟨m, fun _ => 0, g⟩ (fun r => (∀ c : Dev Cert.DgffnReferenceIdeal.nD,
      r.2.mem ((c.tc : Thread Cert.DgffnReferenceIdeal.nD Cert.DgffnReferenceIdeal.τ).loc Cert.DgffnReferenceIdeal.main_arg0) = m ((c.tc : Thread Cert.DgffnReferenceIdeal.nD Cert.DgffnReferenceIdeal.τ).loc Cert.DgffnReferenceIdeal.main_arg0)
      ∧ r.2.mem ((c.tc : Thread Cert.DgffnReferenceIdeal.nD Cert.DgffnReferenceIdeal.τ).loc Cert.DgffnReferenceIdeal.main_arg1) = m ((c.tc : Thread Cert.DgffnReferenceIdeal.nD Cert.DgffnReferenceIdeal.τ).loc Cert.DgffnReferenceIdeal.main_arg1)
      ∧ r.2.mem ((c.tc : Thread Cert.DgffnReferenceIdeal.nD Cert.DgffnReferenceIdeal.τ).loc Cert.DgffnReferenceIdeal.main_arg2) = m ((c.tc : Thread Cert.DgffnReferenceIdeal.nD Cert.DgffnReferenceIdeal.τ).loc Cert.DgffnReferenceIdeal.main_arg2)
      ∧ r.2.mem ((c.tc : Thread Cert.DgffnReferenceIdeal.nD Cert.DgffnReferenceIdeal.τ).loc Cert.DgffnReferenceIdeal.main_arg3) = m ((c.tc : Thread Cert.DgffnReferenceIdeal.nD Cert.DgffnReferenceIdeal.τ).loc Cert.DgffnReferenceIdeal.main_arg3)
      ∧ r.2.mem ((c.tc : Thread Cert.DgffnReferenceIdeal.nD Cert.DgffnReferenceIdeal.τ).loc Cert.DgffnReferenceIdeal.main_arg4) = m ((c.tc : Thread Cert.DgffnReferenceIdeal.nD Cert.DgffnReferenceIdeal.τ).loc Cert.DgffnReferenceIdeal.main_arg4)
      ∧ r.2.mem ((c.tc : Thread Cert.DgffnReferenceIdeal.nD Cert.DgffnReferenceIdeal.τ).loc Cert.DgffnReferenceIdeal.main_arg5) = m ((c.tc : Thread Cert.DgffnReferenceIdeal.nD Cert.DgffnReferenceIdeal.τ).loc Cert.DgffnReferenceIdeal.main_arg5)
      ∧ r.2.mem ((c.tc : Thread Cert.DgffnReferenceIdeal.nD Cert.DgffnReferenceIdeal.τ).loc Cert.DgffnReferenceIdeal.main_arg6) = m ((c.tc : Thread Cert.DgffnReferenceIdeal.nD Cert.DgffnReferenceIdeal.τ).loc Cert.DgffnReferenceIdeal.main_arg6)
      ∧ r.2.mem ((c.tc : Thread Cert.DgffnReferenceIdeal.nD Cert.DgffnReferenceIdeal.τ).loc Cert.DgffnReferenceIdeal.main_arg7) = m ((c.tc : Thread Cert.DgffnReferenceIdeal.nD Cert.DgffnReferenceIdeal.τ).loc Cert.DgffnReferenceIdeal.main_arg7))
      ∧ r.2.sem = fun _ => 0)

def quiescent_DgffnReferenceIdeal_pre_dgffn_finite [hDgffnReferenceIdeal : Cert.DgffnReferenceIdeal.Facts] [hPre_dgffn_finite : Cert.Pre_dgffn_finite.Facts] : Prop :=
  ∀ (m : (ℓ : Loc Cert.DgffnReferenceIdeal.nD Cert.DgffnReferenceIdeal.τ Cert.DgffnReferenceIdeal.sig) → Buf (Elt Ideal) ℓ) (g : Dev Cert.DgffnReferenceIdeal.nD → PrngReg), Pre_DgffnReferenceIdeal_dgffn_finite m →
    θ_run (Cert.DgffnReferenceIdeal.defs (F := Ideal)) (onTc (τ := Cert.DgffnReferenceIdeal.τ) (Cert.DgffnReferenceIdeal.main (F := Ideal))) ⟨m, fun _ => 0, g⟩ (fun r => (∀ c : Dev Cert.DgffnReferenceIdeal.nD,
      r.2.mem ((c.tc : Thread Cert.DgffnReferenceIdeal.nD Cert.DgffnReferenceIdeal.τ).loc Cert.DgffnReferenceIdeal.main_arg0) = m ((c.tc : Thread Cert.DgffnReferenceIdeal.nD Cert.DgffnReferenceIdeal.τ).loc Cert.DgffnReferenceIdeal.main_arg0)
      ∧ r.2.mem ((c.tc : Thread Cert.DgffnReferenceIdeal.nD Cert.DgffnReferenceIdeal.τ).loc Cert.DgffnReferenceIdeal.main_arg1) = m ((c.tc : Thread Cert.DgffnReferenceIdeal.nD Cert.DgffnReferenceIdeal.τ).loc Cert.DgffnReferenceIdeal.main_arg1)
      ∧ r.2.mem ((c.tc : Thread Cert.DgffnReferenceIdeal.nD Cert.DgffnReferenceIdeal.τ).loc Cert.DgffnReferenceIdeal.main_arg2) = m ((c.tc : Thread Cert.DgffnReferenceIdeal.nD Cert.DgffnReferenceIdeal.τ).loc Cert.DgffnReferenceIdeal.main_arg2)
      ∧ r.2.mem ((c.tc : Thread Cert.DgffnReferenceIdeal.nD Cert.DgffnReferenceIdeal.τ).loc Cert.DgffnReferenceIdeal.main_arg3) = m ((c.tc : Thread Cert.DgffnReferenceIdeal.nD Cert.DgffnReferenceIdeal.τ).loc Cert.DgffnReferenceIdeal.main_arg3)
      ∧ r.2.mem ((c.tc : Thread Cert.DgffnReferenceIdeal.nD Cert.DgffnReferenceIdeal.τ).loc Cert.DgffnReferenceIdeal.main_arg4) = m ((c.tc : Thread Cert.DgffnReferenceIdeal.nD Cert.DgffnReferenceIdeal.τ).loc Cert.DgffnReferenceIdeal.main_arg4)
      ∧ r.2.mem ((c.tc : Thread Cert.DgffnReferenceIdeal.nD Cert.DgffnReferenceIdeal.τ).loc Cert.DgffnReferenceIdeal.main_arg5) = m ((c.tc : Thread Cert.DgffnReferenceIdeal.nD Cert.DgffnReferenceIdeal.τ).loc Cert.DgffnReferenceIdeal.main_arg5)
      ∧ r.2.mem ((c.tc : Thread Cert.DgffnReferenceIdeal.nD Cert.DgffnReferenceIdeal.τ).loc Cert.DgffnReferenceIdeal.main_arg6) = m ((c.tc : Thread Cert.DgffnReferenceIdeal.nD Cert.DgffnReferenceIdeal.τ).loc Cert.DgffnReferenceIdeal.main_arg6)
      ∧ r.2.mem ((c.tc : Thread Cert.DgffnReferenceIdeal.nD Cert.DgffnReferenceIdeal.τ).loc Cert.DgffnReferenceIdeal.main_arg7) = m ((c.tc : Thread Cert.DgffnReferenceIdeal.nD Cert.DgffnReferenceIdeal.τ).loc Cert.DgffnReferenceIdeal.main_arg7))
      ∧ r.2.sem = fun _ => 0)

def quiescent_DgmixKernel [hDgmixKernel : Cert.DgmixKernel.Facts] : Prop :=
  ∀ (m : (ℓ : Loc Cert.DgmixKernel.nD Cert.DgmixKernel.τ Cert.DgmixKernel.sig) → Buf (Elt Bits) ℓ) (g : Dev Cert.DgmixKernel.nD → PrngReg), Pre_DgmixKernel m →
    θ_run (Cert.DgmixKernel.defs (F := Bits)) (onTc (τ := Cert.DgmixKernel.τ) (Cert.DgmixKernel.main (F := Bits))) ⟨m, fun _ => 0, g⟩ (fun r => (∀ c : Dev Cert.DgmixKernel.nD,
      r.2.mem ((c.tc : Thread Cert.DgmixKernel.nD Cert.DgmixKernel.τ).loc Cert.DgmixKernel.main_arg0) = m ((c.tc : Thread Cert.DgmixKernel.nD Cert.DgmixKernel.τ).loc Cert.DgmixKernel.main_arg0)
      ∧ r.2.mem ((c.tc : Thread Cert.DgmixKernel.nD Cert.DgmixKernel.τ).loc Cert.DgmixKernel.main_arg1) = m ((c.tc : Thread Cert.DgmixKernel.nD Cert.DgmixKernel.τ).loc Cert.DgmixKernel.main_arg1)
      ∧ r.2.mem ((c.tc : Thread Cert.DgmixKernel.nD Cert.DgmixKernel.τ).loc Cert.DgmixKernel.main_arg2) = m ((c.tc : Thread Cert.DgmixKernel.nD Cert.DgmixKernel.τ).loc Cert.DgmixKernel.main_arg2)
      ∧ r.2.mem ((c.tc : Thread Cert.DgmixKernel.nD Cert.DgmixKernel.τ).loc Cert.DgmixKernel.main_arg3) = m ((c.tc : Thread Cert.DgmixKernel.nD Cert.DgmixKernel.τ).loc Cert.DgmixKernel.main_arg3)
      ∧ r.2.mem ((c.tc : Thread Cert.DgmixKernel.nD Cert.DgmixKernel.τ).loc Cert.DgmixKernel.main_arg4) = m ((c.tc : Thread Cert.DgmixKernel.nD Cert.DgmixKernel.τ).loc Cert.DgmixKernel.main_arg4)
      ∧ r.2.mem ((c.tc : Thread Cert.DgmixKernel.nD Cert.DgmixKernel.τ).loc Cert.DgmixKernel.main_arg5) = m ((c.tc : Thread Cert.DgmixKernel.nD Cert.DgmixKernel.τ).loc Cert.DgmixKernel.main_arg5))
      ∧ r.2.sem = fun _ => 0)

def quiescent_DgmixKernelIdeal [hDgmixKernelIdeal : Cert.DgmixKernelIdeal.Facts] : Prop :=
  ∀ (m : (ℓ : Loc Cert.DgmixKernelIdeal.nD Cert.DgmixKernelIdeal.τ Cert.DgmixKernelIdeal.sig) → Buf (Elt Ideal) ℓ) (g : Dev Cert.DgmixKernelIdeal.nD → PrngReg), Pre_DgmixKernelIdeal m →
    θ_run (Cert.DgmixKernelIdeal.defs (F := Ideal)) (onTc (τ := Cert.DgmixKernelIdeal.τ) (Cert.DgmixKernelIdeal.main (F := Ideal))) ⟨m, fun _ => 0, g⟩ (fun r => (∀ c : Dev Cert.DgmixKernelIdeal.nD,
      r.2.mem ((c.tc : Thread Cert.DgmixKernelIdeal.nD Cert.DgmixKernelIdeal.τ).loc Cert.DgmixKernelIdeal.main_arg0) = m ((c.tc : Thread Cert.DgmixKernelIdeal.nD Cert.DgmixKernelIdeal.τ).loc Cert.DgmixKernelIdeal.main_arg0)
      ∧ r.2.mem ((c.tc : Thread Cert.DgmixKernelIdeal.nD Cert.DgmixKernelIdeal.τ).loc Cert.DgmixKernelIdeal.main_arg1) = m ((c.tc : Thread Cert.DgmixKernelIdeal.nD Cert.DgmixKernelIdeal.τ).loc Cert.DgmixKernelIdeal.main_arg1)
      ∧ r.2.mem ((c.tc : Thread Cert.DgmixKernelIdeal.nD Cert.DgmixKernelIdeal.τ).loc Cert.DgmixKernelIdeal.main_arg2) = m ((c.tc : Thread Cert.DgmixKernelIdeal.nD Cert.DgmixKernelIdeal.τ).loc Cert.DgmixKernelIdeal.main_arg2)
      ∧ r.2.mem ((c.tc : Thread Cert.DgmixKernelIdeal.nD Cert.DgmixKernelIdeal.τ).loc Cert.DgmixKernelIdeal.main_arg3) = m ((c.tc : Thread Cert.DgmixKernelIdeal.nD Cert.DgmixKernelIdeal.τ).loc Cert.DgmixKernelIdeal.main_arg3)
      ∧ r.2.mem ((c.tc : Thread Cert.DgmixKernelIdeal.nD Cert.DgmixKernelIdeal.τ).loc Cert.DgmixKernelIdeal.main_arg4) = m ((c.tc : Thread Cert.DgmixKernelIdeal.nD Cert.DgmixKernelIdeal.τ).loc Cert.DgmixKernelIdeal.main_arg4)
      ∧ r.2.mem ((c.tc : Thread Cert.DgmixKernelIdeal.nD Cert.DgmixKernelIdeal.τ).loc Cert.DgmixKernelIdeal.main_arg5) = m ((c.tc : Thread Cert.DgmixKernelIdeal.nD Cert.DgmixKernelIdeal.τ).loc Cert.DgmixKernelIdeal.main_arg5))
      ∧ r.2.sem = fun _ => 0)

def quiescent_DgmixKernelIdeal_pre_dgmix_finite [hDgmixKernelIdeal : Cert.DgmixKernelIdeal.Facts] [hPre_dgmix_finite : Cert.Pre_dgmix_finite.Facts] : Prop :=
  ∀ (m : (ℓ : Loc Cert.DgmixKernelIdeal.nD Cert.DgmixKernelIdeal.τ Cert.DgmixKernelIdeal.sig) → Buf (Elt Ideal) ℓ) (g : Dev Cert.DgmixKernelIdeal.nD → PrngReg), Pre_DgmixKernelIdeal_dgmix_finite m →
    θ_run (Cert.DgmixKernelIdeal.defs (F := Ideal)) (onTc (τ := Cert.DgmixKernelIdeal.τ) (Cert.DgmixKernelIdeal.main (F := Ideal))) ⟨m, fun _ => 0, g⟩ (fun r => (∀ c : Dev Cert.DgmixKernelIdeal.nD,
      r.2.mem ((c.tc : Thread Cert.DgmixKernelIdeal.nD Cert.DgmixKernelIdeal.τ).loc Cert.DgmixKernelIdeal.main_arg0) = m ((c.tc : Thread Cert.DgmixKernelIdeal.nD Cert.DgmixKernelIdeal.τ).loc Cert.DgmixKernelIdeal.main_arg0)
      ∧ r.2.mem ((c.tc : Thread Cert.DgmixKernelIdeal.nD Cert.DgmixKernelIdeal.τ).loc Cert.DgmixKernelIdeal.main_arg1) = m ((c.tc : Thread Cert.DgmixKernelIdeal.nD Cert.DgmixKernelIdeal.τ).loc Cert.DgmixKernelIdeal.main_arg1)
      ∧ r.2.mem ((c.tc : Thread Cert.DgmixKernelIdeal.nD Cert.DgmixKernelIdeal.τ).loc Cert.DgmixKernelIdeal.main_arg2) = m ((c.tc : Thread Cert.DgmixKernelIdeal.nD Cert.DgmixKernelIdeal.τ).loc Cert.DgmixKernelIdeal.main_arg2)
      ∧ r.2.mem ((c.tc : Thread Cert.DgmixKernelIdeal.nD Cert.DgmixKernelIdeal.τ).loc Cert.DgmixKernelIdeal.main_arg3) = m ((c.tc : Thread Cert.DgmixKernelIdeal.nD Cert.DgmixKernelIdeal.τ).loc Cert.DgmixKernelIdeal.main_arg3)
      ∧ r.2.mem ((c.tc : Thread Cert.DgmixKernelIdeal.nD Cert.DgmixKernelIdeal.τ).loc Cert.DgmixKernelIdeal.main_arg4) = m ((c.tc : Thread Cert.DgmixKernelIdeal.nD Cert.DgmixKernelIdeal.τ).loc Cert.DgmixKernelIdeal.main_arg4)
      ∧ r.2.mem ((c.tc : Thread Cert.DgmixKernelIdeal.nD Cert.DgmixKernelIdeal.τ).loc Cert.DgmixKernelIdeal.main_arg5) = m ((c.tc : Thread Cert.DgmixKernelIdeal.nD Cert.DgmixKernelIdeal.τ).loc Cert.DgmixKernelIdeal.main_arg5))
      ∧ r.2.sem = fun _ => 0)

def quiescent_DgmixReferenceIdeal [hDgmixReferenceIdeal : Cert.DgmixReferenceIdeal.Facts] : Prop :=
  ∀ (m : (ℓ : Loc Cert.DgmixReferenceIdeal.nD Cert.DgmixReferenceIdeal.τ Cert.DgmixReferenceIdeal.sig) → Buf (Elt Ideal) ℓ) (g : Dev Cert.DgmixReferenceIdeal.nD → PrngReg), Pre_DgmixReferenceIdeal m →
    θ_run (Cert.DgmixReferenceIdeal.defs (F := Ideal)) (onTc (τ := Cert.DgmixReferenceIdeal.τ) (Cert.DgmixReferenceIdeal.main (F := Ideal))) ⟨m, fun _ => 0, g⟩ (fun r => (∀ c : Dev Cert.DgmixReferenceIdeal.nD,
      r.2.mem ((c.tc : Thread Cert.DgmixReferenceIdeal.nD Cert.DgmixReferenceIdeal.τ).loc Cert.DgmixReferenceIdeal.main_arg0) = m ((c.tc : Thread Cert.DgmixReferenceIdeal.nD Cert.DgmixReferenceIdeal.τ).loc Cert.DgmixReferenceIdeal.main_arg0)
      ∧ r.2.mem ((c.tc : Thread Cert.DgmixReferenceIdeal.nD Cert.DgmixReferenceIdeal.τ).loc Cert.DgmixReferenceIdeal.main_arg1) = m ((c.tc : Thread Cert.DgmixReferenceIdeal.nD Cert.DgmixReferenceIdeal.τ).loc Cert.DgmixReferenceIdeal.main_arg1)
      ∧ r.2.mem ((c.tc : Thread Cert.DgmixReferenceIdeal.nD Cert.DgmixReferenceIdeal.τ).loc Cert.DgmixReferenceIdeal.main_arg2) = m ((c.tc : Thread Cert.DgmixReferenceIdeal.nD Cert.DgmixReferenceIdeal.τ).loc Cert.DgmixReferenceIdeal.main_arg2)
      ∧ r.2.mem ((c.tc : Thread Cert.DgmixReferenceIdeal.nD Cert.DgmixReferenceIdeal.τ).loc Cert.DgmixReferenceIdeal.main_arg3) = m ((c.tc : Thread Cert.DgmixReferenceIdeal.nD Cert.DgmixReferenceIdeal.τ).loc Cert.DgmixReferenceIdeal.main_arg3)
      ∧ r.2.mem ((c.tc : Thread Cert.DgmixReferenceIdeal.nD Cert.DgmixReferenceIdeal.τ).loc Cert.DgmixReferenceIdeal.main_arg4) = m ((c.tc : Thread Cert.DgmixReferenceIdeal.nD Cert.DgmixReferenceIdeal.τ).loc Cert.DgmixReferenceIdeal.main_arg4)
      ∧ r.2.mem ((c.tc : Thread Cert.DgmixReferenceIdeal.nD Cert.DgmixReferenceIdeal.τ).loc Cert.DgmixReferenceIdeal.main_arg5) = m ((c.tc : Thread Cert.DgmixReferenceIdeal.nD Cert.DgmixReferenceIdeal.τ).loc Cert.DgmixReferenceIdeal.main_arg5))
      ∧ r.2.sem = fun _ => 0)

def quiescent_DgmixReferenceIdeal_pre_dgmix_finite [hDgmixReferenceIdeal : Cert.DgmixReferenceIdeal.Facts] [hPre_dgmix_finite : Cert.Pre_dgmix_finite.Facts] : Prop :=
  ∀ (m : (ℓ : Loc Cert.DgmixReferenceIdeal.nD Cert.DgmixReferenceIdeal.τ Cert.DgmixReferenceIdeal.sig) → Buf (Elt Ideal) ℓ) (g : Dev Cert.DgmixReferenceIdeal.nD → PrngReg), Pre_DgmixReferenceIdeal_dgmix_finite m →
    θ_run (Cert.DgmixReferenceIdeal.defs (F := Ideal)) (onTc (τ := Cert.DgmixReferenceIdeal.τ) (Cert.DgmixReferenceIdeal.main (F := Ideal))) ⟨m, fun _ => 0, g⟩ (fun r => (∀ c : Dev Cert.DgmixReferenceIdeal.nD,
      r.2.mem ((c.tc : Thread Cert.DgmixReferenceIdeal.nD Cert.DgmixReferenceIdeal.τ).loc Cert.DgmixReferenceIdeal.main_arg0) = m ((c.tc : Thread Cert.DgmixReferenceIdeal.nD Cert.DgmixReferenceIdeal.τ).loc Cert.DgmixReferenceIdeal.main_arg0)
      ∧ r.2.mem ((c.tc : Thread Cert.DgmixReferenceIdeal.nD Cert.DgmixReferenceIdeal.τ).loc Cert.DgmixReferenceIdeal.main_arg1) = m ((c.tc : Thread Cert.DgmixReferenceIdeal.nD Cert.DgmixReferenceIdeal.τ).loc Cert.DgmixReferenceIdeal.main_arg1)
      ∧ r.2.mem ((c.tc : Thread Cert.DgmixReferenceIdeal.nD Cert.DgmixReferenceIdeal.τ).loc Cert.DgmixReferenceIdeal.main_arg2) = m ((c.tc : Thread Cert.DgmixReferenceIdeal.nD Cert.DgmixReferenceIdeal.τ).loc Cert.DgmixReferenceIdeal.main_arg2)
      ∧ r.2.mem ((c.tc : Thread Cert.DgmixReferenceIdeal.nD Cert.DgmixReferenceIdeal.τ).loc Cert.DgmixReferenceIdeal.main_arg3) = m ((c.tc : Thread Cert.DgmixReferenceIdeal.nD Cert.DgmixReferenceIdeal.τ).loc Cert.DgmixReferenceIdeal.main_arg3)
      ∧ r.2.mem ((c.tc : Thread Cert.DgmixReferenceIdeal.nD Cert.DgmixReferenceIdeal.τ).loc Cert.DgmixReferenceIdeal.main_arg4) = m ((c.tc : Thread Cert.DgmixReferenceIdeal.nD Cert.DgmixReferenceIdeal.τ).loc Cert.DgmixReferenceIdeal.main_arg4)
      ∧ r.2.mem ((c.tc : Thread Cert.DgmixReferenceIdeal.nD Cert.DgmixReferenceIdeal.τ).loc Cert.DgmixReferenceIdeal.main_arg5) = m ((c.tc : Thread Cert.DgmixReferenceIdeal.nD Cert.DgmixReferenceIdeal.τ).loc Cert.DgmixReferenceIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvKernelIdeal_pre_conv_finite [hConvKernelIdeal : Cert.ConvKernelIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_conv_finite [hConvReferenceIdeal : Cert.ConvReferenceIdeal.Facts] [hPre_conv_finite : Cert.Pre_conv_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_GnfKernel [hGnfKernel : Cert.GnfKernel.Facts] : Prop :=
  ∀ (m : (ℓ : Loc Cert.GnfKernel.nD Cert.GnfKernel.τ Cert.GnfKernel.sig) → Buf (Elt Bits) ℓ) (g : Dev Cert.GnfKernel.nD → PrngReg), Pre_GnfKernel m →
    θ_run (Cert.GnfKernel.defs (F := Bits)) (onTc (τ := Cert.GnfKernel.τ) (Cert.GnfKernel.main (F := Bits))) ⟨m, fun _ => 0, g⟩ (fun r => (∀ c : Dev Cert.GnfKernel.nD,
      r.2.mem ((c.tc : Thread Cert.GnfKernel.nD Cert.GnfKernel.τ).loc Cert.GnfKernel.main_arg0) = m ((c.tc : Thread Cert.GnfKernel.nD Cert.GnfKernel.τ).loc Cert.GnfKernel.main_arg0)
      ∧ r.2.mem ((c.tc : Thread Cert.GnfKernel.nD Cert.GnfKernel.τ).loc Cert.GnfKernel.main_arg1) = m ((c.tc : Thread Cert.GnfKernel.nD Cert.GnfKernel.τ).loc Cert.GnfKernel.main_arg1)
      ∧ r.2.mem ((c.tc : Thread Cert.GnfKernel.nD Cert.GnfKernel.τ).loc Cert.GnfKernel.main_arg2) = m ((c.tc : Thread Cert.GnfKernel.nD Cert.GnfKernel.τ).loc Cert.GnfKernel.main_arg2))
      ∧ r.2.sem = fun _ => 0)

def quiescent_GnfKernelIdeal [hGnfKernelIdeal : Cert.GnfKernelIdeal.Facts] : Prop :=
  ∀ (m : (ℓ : Loc Cert.GnfKernelIdeal.nD Cert.GnfKernelIdeal.τ Cert.GnfKernelIdeal.sig) → Buf (Elt Ideal) ℓ) (g : Dev Cert.GnfKernelIdeal.nD → PrngReg), Pre_GnfKernelIdeal m →
    θ_run (Cert.GnfKernelIdeal.defs (F := Ideal)) (onTc (τ := Cert.GnfKernelIdeal.τ) (Cert.GnfKernelIdeal.main (F := Ideal))) ⟨m, fun _ => 0, g⟩ (fun r => (∀ c : Dev Cert.GnfKernelIdeal.nD,
      r.2.mem ((c.tc : Thread Cert.GnfKernelIdeal.nD Cert.GnfKernelIdeal.τ).loc Cert.GnfKernelIdeal.main_arg0) = m ((c.tc : Thread Cert.GnfKernelIdeal.nD Cert.GnfKernelIdeal.τ).loc Cert.GnfKernelIdeal.main_arg0)
      ∧ r.2.mem ((c.tc : Thread Cert.GnfKernelIdeal.nD Cert.GnfKernelIdeal.τ).loc Cert.GnfKernelIdeal.main_arg1) = m ((c.tc : Thread Cert.GnfKernelIdeal.nD Cert.GnfKernelIdeal.τ).loc Cert.GnfKernelIdeal.main_arg1)
      ∧ r.2.mem ((c.tc : Thread Cert.GnfKernelIdeal.nD Cert.GnfKernelIdeal.τ).loc Cert.GnfKernelIdeal.main_arg2) = m ((c.tc : Thread Cert.GnfKernelIdeal.nD Cert.GnfKernelIdeal.τ).loc Cert.GnfKernelIdeal.main_arg2))
      ∧ r.2.sem = fun _ => 0)

def quiescent_GnfReferenceIdeal [hGnfReferenceIdeal : Cert.GnfReferenceIdeal.Facts] : Prop :=
  ∀ (m : (ℓ : Loc Cert.GnfReferenceIdeal.nD Cert.GnfReferenceIdeal.τ Cert.GnfReferenceIdeal.sig) → Buf (Elt Ideal) ℓ) (g : Dev Cert.GnfReferenceIdeal.nD → PrngReg), Pre_GnfReferenceIdeal m →
    θ_run (Cert.GnfReferenceIdeal.defs (F := Ideal)) (onTc (τ := Cert.GnfReferenceIdeal.τ) (Cert.GnfReferenceIdeal.main (F := Ideal))) ⟨m, fun _ => 0, g⟩ (fun r => (∀ c : Dev Cert.GnfReferenceIdeal.nD,
      r.2.mem ((c.tc : Thread Cert.GnfReferenceIdeal.nD Cert.GnfReferenceIdeal.τ).loc Cert.GnfReferenceIdeal.main_arg0) = m ((c.tc : Thread Cert.GnfReferenceIdeal.nD Cert.GnfReferenceIdeal.τ).loc Cert.GnfReferenceIdeal.main_arg0)
      ∧ r.2.mem ((c.tc : Thread Cert.GnfReferenceIdeal.nD Cert.GnfReferenceIdeal.τ).loc Cert.GnfReferenceIdeal.main_arg1) = m ((c.tc : Thread Cert.GnfReferenceIdeal.nD Cert.GnfReferenceIdeal.τ).loc Cert.GnfReferenceIdeal.main_arg1)
      ∧ r.2.mem ((c.tc : Thread Cert.GnfReferenceIdeal.nD Cert.GnfReferenceIdeal.τ).loc Cert.GnfReferenceIdeal.main_arg2) = m ((c.tc : Thread Cert.GnfReferenceIdeal.nD Cert.GnfReferenceIdeal.τ).loc Cert.GnfReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4)
      ∧ r.2.mem ((c.tc : Thread Cert.AdaKernel.nD Cert.AdaKernel.τ).loc Cert.AdaKernel.main_arg5) = m ((c.tc : Thread Cert.AdaKernel.nD Cert.AdaKernel.τ).loc Cert.AdaKernel.main_arg5)
      ∧ r.2.mem ((c.tc : Thread Cert.AdaKernel.nD Cert.AdaKernel.τ).loc Cert.AdaKernel.main_arg6) = m ((c.tc : Thread Cert.AdaKernel.nD Cert.AdaKernel.τ).loc Cert.AdaKernel.main_arg6)
      ∧ r.2.mem ((c.tc : Thread Cert.AdaKernel.nD Cert.AdaKernel.τ).loc Cert.AdaKernel.main_arg7) = m ((c.tc : Thread Cert.AdaKernel.nD Cert.AdaKernel.τ).loc Cert.AdaKernel.main_arg7))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4)
      ∧ r.2.mem ((c.tc : Thread Cert.AdaKernelIdeal.nD Cert.AdaKernelIdeal.τ).loc Cert.AdaKernelIdeal.main_arg5) = m ((c.tc : Thread Cert.AdaKernelIdeal.nD Cert.AdaKernelIdeal.τ).loc Cert.AdaKernelIdeal.main_arg5)
      ∧ r.2.mem ((c.tc : Thread Cert.AdaKernelIdeal.nD Cert.AdaKernelIdeal.τ).loc Cert.AdaKernelIdeal.main_arg6) = m ((c.tc : Thread Cert.AdaKernelIdeal.nD Cert.AdaKernelIdeal.τ).loc Cert.AdaKernelIdeal.main_arg6)
      ∧ r.2.mem ((c.tc : Thread Cert.AdaKernelIdeal.nD Cert.AdaKernelIdeal.τ).loc Cert.AdaKernelIdeal.main_arg7) = m ((c.tc : Thread Cert.AdaKernelIdeal.nD Cert.AdaKernelIdeal.τ).loc Cert.AdaKernelIdeal.main_arg7))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4)
      ∧ r.2.mem ((c.tc : Thread Cert.AdaReferenceIdeal.nD Cert.AdaReferenceIdeal.τ).loc Cert.AdaReferenceIdeal.main_arg5) = m ((c.tc : Thread Cert.AdaReferenceIdeal.nD Cert.AdaReferenceIdeal.τ).loc Cert.AdaReferenceIdeal.main_arg5)
      ∧ r.2.mem ((c.tc : Thread Cert.AdaReferenceIdeal.nD Cert.AdaReferenceIdeal.τ).loc Cert.AdaReferenceIdeal.main_arg6) = m ((c.tc : Thread Cert.AdaReferenceIdeal.nD Cert.AdaReferenceIdeal.τ).loc Cert.AdaReferenceIdeal.main_arg6)
      ∧ r.2.mem ((c.tc : Thread Cert.AdaReferenceIdeal.nD Cert.AdaReferenceIdeal.τ).loc Cert.AdaReferenceIdeal.main_arg7) = m ((c.tc : Thread Cert.AdaReferenceIdeal.nD Cert.AdaReferenceIdeal.τ).loc Cert.AdaReferenceIdeal.main_arg7))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3)
      ∧ r.2.mem ((c.tc : Thread Cert.OptKernel.nD Cert.OptKernel.τ).loc Cert.OptKernel.main_arg4) = m ((c.tc : Thread Cert.OptKernel.nD Cert.OptKernel.τ).loc Cert.OptKernel.main_arg4)
      ∧ r.2.mem ((c.tc : Thread Cert.OptKernel.nD Cert.OptKernel.τ).loc Cert.OptKernel.main_arg5) = m ((c.tc : Thread Cert.OptKernel.nD Cert.OptKernel.τ).loc Cert.OptKernel.main_arg5)
      ∧ r.2.mem ((c.tc : Thread Cert.OptKernel.nD Cert.OptKernel.τ).loc Cert.OptKernel.main_arg6) = m ((c.tc : Thread Cert.OptKernel.nD Cert.OptKernel.τ).loc Cert.OptKernel.main_arg6)
      ∧ r.2.mem ((c.tc : Thread Cert.OptKernel.nD Cert.OptKernel.τ).loc Cert.OptKernel.main_arg7) = m ((c.tc : Thread Cert.OptKernel.nD Cert.OptKernel.τ).loc Cert.OptKernel.main_arg7)
      ∧ r.2.mem ((c.tc : Thread Cert.OptKernel.nD Cert.OptKernel.τ).loc Cert.OptKernel.main_arg8) = m ((c.tc : Thread Cert.OptKernel.nD Cert.OptKernel.τ).loc Cert.OptKernel.main_arg8)
      ∧ r.2.mem ((c.tc : Thread Cert.OptKernel.nD Cert.OptKernel.τ).loc Cert.OptKernel.main_arg9) = m ((c.tc : Thread Cert.OptKernel.nD Cert.OptKernel.τ).loc Cert.OptKernel.main_arg9)
      ∧ r.2.mem ((c.tc : Thread Cert.OptKernel.nD Cert.OptKernel.τ).loc Cert.OptKernel.main_arg10) = m ((c.tc : Thread Cert.OptKernel.nD Cert.OptKernel.τ).loc Cert.OptKernel.main_arg10)
      ∧ r.2.mem ((c.tc : Thread Cert.OptKernel.nD Cert.OptKernel.τ).loc Cert.OptKernel.main_arg11) = m ((c.tc : Thread Cert.OptKernel.nD Cert.OptKernel.τ).loc Cert.OptKernel.main_arg11))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
      ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
      ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
      ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
      ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
      ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
      ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9)
      ∧ r.2.mem ((c.tc : Thread Cert.OptKernelIdeal.nD Cert.OptKernelIdeal.τ).loc Cert.OptKernelIdeal.main_arg10) = m ((c.tc : Thread Cert.OptKernelIdeal.nD Cert.OptKernelIdeal.τ).loc Cert.OptKernelIdeal.main_arg10)
      ∧ r.2.mem ((c.tc : Thread Cert.OptKernelIdeal.nD Cert.OptKernelIdeal.τ).loc Cert.OptKernelIdeal.main_arg11) = m ((c.tc : Thread Cert.OptKernelIdeal.nD Cert.OptKernelIdeal.τ).loc Cert.OptKernelIdeal.main_arg11))
      ∧ r.2.sem = fun _ => 0)

def quiescent_OptReferenceIdeal [hOptReferenceIdeal : Cert.OptReferenceIdeal.Facts] : Prop :=
  ∀ (m : (ℓ : Loc Cert.OptReferenceIdeal.nD Cert.OptReferenceIdeal.τ Cert.OptReferenceIdeal.sig) → Buf (Elt Ideal) ℓ) (g : Dev Cert.OptReferenceIdeal.nD → PrngReg), Pre_OptReferenceIdeal m →
    θ_run (Cert.OptReferenceIdeal.defs (F := Ideal)) (onTc (τ := Cert.OptReferenceIdeal.τ) (Cert.OptReferenceIdeal.main (F := Ideal))) ⟨m, fun _ => 0, g⟩ (fun r => (∀ c : Dev Cert.OptReferenceIdeal.nD,
      r.2.mem ((c.tc : Thread Cert.OptReferenceIdeal.nD Cert.OptReferenceIdeal.τ).loc Cert.OptReferenceIdeal.main_arg0) = m ((c.tc : Thread Cert.OptReferenceIdeal.nD Cert.OptReferenceIdeal.τ).loc Cert.OptReferenceIdeal.main_arg0)
      ∧ r.2.mem ((c.tc : Thread Cert.OptReferenceIdeal.nD Cert.OptReferenceIdeal.τ).loc Cert.OptReferenceIdeal.main_arg1) = m ((c.tc : Thread Cert.OptReferenceIdeal.nD Cert.OptReferenceIdeal.τ).loc Cert.OptReferenceIdeal.main_arg1)
      ∧ r.2.mem ((c.tc : Thread Cert.OptReferenceIdeal.nD Cert.OptReferenceIdeal.τ).loc Cert.OptReferenceIdeal.main_arg2) = m ((c.tc : Thread Cert.OptReferenceIdeal.nD Cert.OptReferenceIdeal.τ).loc Cert.OptReferenceIdeal.main_arg2)
      ∧ r.2.mem ((c.tc : Thread Cert.OptReferenceIdeal.nD Cert.OptReferenceIdeal.τ).loc Cert.OptReferenceIdeal.main_arg3) = m ((c.tc : Thread Cert.OptReferenceIdeal.nD Cert.OptReferenceIdeal.τ).loc Cert.OptReferenceIdeal.main_arg3)
      ∧ r.2.mem ((c.tc : Thread Cert.OptReferenceIdeal.nD Cert.OptReferenceIdeal.τ).loc Cert.OptReferenceIdeal.main_arg4) = m ((c.tc : Thread Cert.OptReferenceIdeal.nD Cert.OptReferenceIdeal.τ).loc Cert.OptReferenceIdeal.main_arg4)
      ∧ r.2.mem ((c.tc : Thread Cert.OptReferenceIdeal.nD Cert.OptReferenceIdeal.τ).loc Cert.OptReferenceIdeal.main_arg5) = m ((c.tc : Thread Cert.OptReferenceIdeal.nD Cert.OptReferenceIdeal.τ).loc Cert.OptReferenceIdeal.main_arg5)
      ∧ r.2.mem ((c.tc : Thread Cert.OptReferenceIdeal.nD Cert.OptReferenceIdeal.τ).loc Cert.OptReferenceIdeal.main_arg6) = m ((c.tc : Thread Cert.OptReferenceIdeal.nD Cert.OptReferenceIdeal.τ).loc Cert.OptReferenceIdeal.main_arg6)
      ∧ r.2.mem ((c.tc : Thread Cert.OptReferenceIdeal.nD Cert.OptReferenceIdeal.τ).loc Cert.OptReferenceIdeal.main_arg7) = m ((c.tc : Thread Cert.OptReferenceIdeal.nD Cert.OptReferenceIdeal.τ).loc Cert.OptReferenceIdeal.main_arg7)
      ∧ r.2.mem ((c.tc : Thread Cert.OptReferenceIdeal.nD Cert.OptReferenceIdeal.τ).loc Cert.OptReferenceIdeal.main_arg8) = m ((c.tc : Thread Cert.OptReferenceIdeal.nD Cert.OptReferenceIdeal.τ).loc Cert.OptReferenceIdeal.main_arg8)
      ∧ r.2.mem ((c.tc : Thread Cert.OptReferenceIdeal.nD Cert.OptReferenceIdeal.τ).loc Cert.OptReferenceIdeal.main_arg9) = m ((c.tc : Thread Cert.OptReferenceIdeal.nD Cert.OptReferenceIdeal.τ).loc Cert.OptReferenceIdeal.main_arg9)
      ∧ r.2.mem ((c.tc : Thread Cert.OptReferenceIdeal.nD Cert.OptReferenceIdeal.τ).loc Cert.OptReferenceIdeal.main_arg10) = m ((c.tc : Thread Cert.OptReferenceIdeal.nD Cert.OptReferenceIdeal.τ).loc Cert.OptReferenceIdeal.main_arg10)
      ∧ r.2.mem ((c.tc : Thread Cert.OptReferenceIdeal.nD Cert.OptReferenceIdeal.τ).loc Cert.OptReferenceIdeal.main_arg11) = m ((c.tc : Thread Cert.OptReferenceIdeal.nD Cert.OptReferenceIdeal.τ).loc Cert.OptReferenceIdeal.main_arg11))
      ∧ r.2.sem = fun _ => 0)

def quiescent_MmKernel [hMmKernel : Cert.MmKernel.Facts] : Prop :=
  ∀ (m : (ℓ : Loc Cert.MmKernel.nD Cert.MmKernel.τ Cert.MmKernel.sig) → Buf (Elt Bits) ℓ) (g : Dev Cert.MmKernel.nD → PrngReg), Pre_MmKernel m →
    θ_run (Cert.MmKernel.defs (F := Bits)) (onTc (τ := Cert.MmKernel.τ) (Cert.MmKernel.main (F := Bits))) ⟨m, fun _ => 0, g⟩ (fun r => (∀ c : Dev Cert.MmKernel.nD,
      r.2.mem ((c.tc : Thread Cert.MmKernel.nD Cert.MmKernel.τ).loc Cert.MmKernel.main_arg0) = m ((c.tc : Thread Cert.MmKernel.nD Cert.MmKernel.τ).loc Cert.MmKernel.main_arg0)
      ∧ r.2.mem ((c.tc : Thread Cert.MmKernel.nD Cert.MmKernel.τ).loc Cert.MmKernel.main_arg1) = m ((c.tc : Thread Cert.MmKernel.nD Cert.MmKernel.τ).loc Cert.MmKernel.main_arg1))
      ∧ r.2.sem = fun _ => 0)

def quiescent_MmKernelIdeal [hMmKernelIdeal : Cert.MmKernelIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg), Pre_MmKernelIdeal m →
    θ_run (Cert.MmKernelIdeal.defs (F := Ideal)) (onTc (τ := Cert.MmKernelIdeal.τ) (Cert.MmKernelIdeal.main (F := Ideal))) ⟨m, fun _ => 0, g⟩ (fun r => (∀ c : Dev Cert.MmKernelIdeal.nD,
      r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
      ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v17) = v0 c
          ∧ r.2.mem ((c.tc : Thread Cert.GateReferenceIdeal.nD Cert.GateReferenceIdeal.τ).loc Cert.GateReferenceIdeal.main_v19) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_SbKernel_SbKernelIdeal : Prop :=
  IdealRules.named_const.Statement Cert.SbKernelIdeal.κ "no_skip" .f32 0xC2F00000#32 ⊥

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)) →
    ∃ (v0 : (c : Dev Cert.SbKernelIdeal.nD) → Buf (Elt Ideal) ((c.tc : Thread Cert.SbKernelIdeal.nD Cert.SbKernelIdeal.τ).loc Cert.SbKernelIdeal.main_v42_0)) (v1 : (c : Dev Cert.SbKernelIdeal.nD) → Buf (Elt Ideal) ((c.tc : Thread Cert.SbKernelIdeal.nD Cert.SbKernelIdeal.τ).loc Cert.SbKernelIdeal.main_v42_1)) (v2 : (c : Dev Cert.SbKernelIdeal.nD) → Buf (Elt Ideal) ((c.tc : Thread Cert.SbKernelIdeal.nD Cert.SbKernelIdeal.τ).loc Cert.SbKernelIdeal.main_v42_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v42_0) = v0 c
          ∧ r.2.mem ((c.tc : Thread Cert.SbKernelIdeal.nD Cert.SbKernelIdeal.τ).loc Cert.SbKernelIdeal.main_v42_1) = v1 c
          ∧ r.2.mem ((c.tc : Thread Cert.SbKernelIdeal.nD Cert.SbKernelIdeal.τ).loc Cert.SbKernelIdeal.main_v42_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v56) = v0 c
          ∧ r.2.mem ((c.tc : Thread Cert.SbReferenceIdeal.nD Cert.SbReferenceIdeal.τ).loc Cert.SbReferenceIdeal.main_v53) = v1 c
          ∧ r.2.mem ((c.tc : Thread Cert.SbReferenceIdeal.nD Cert.SbReferenceIdeal.τ).loc Cert.SbReferenceIdeal.main_v51) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def preserves_SbfKernel_SbfKernelIdeal : Prop :=
  IdealRules.named_const.Statement Cert.SbfKernelIdeal.κ "no_skip" .f32 0xC2F00000#32 ⊥

def algebraic_SbfKernelIdeal_SbfReferenceIdeal_pre_sbf_finite [hSbfKernelIdeal : Cert.SbfKernelIdeal.Facts] [hSbfReferenceIdeal : Cert.SbfReferenceIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg)
    (m' : (ℓ : Loc Cert.SbfReferenceIdeal.nD Cert.SbfReferenceIdeal.τ Cert.SbfReferenceIdeal.sig) → Buf (Elt Ideal) ℓ) (g' : Dev Cert.SbfReferenceIdeal.nD → PrngReg), Pre_SbfKernelIdeal_sbf_finite m →
    (∀ c : Dev Cert.SbfKernelIdeal.nD,
      m' ((c.tc : Thread Cert.SbfReferenceIdeal.nD Cert.SbfReferenceIdeal.τ).loc Cert.SbfReferenceIdeal.main_arg0) = m ((c.tc : Thread Cert.SbfKernelIdeal.nD Cert.SbfKernelIdeal.τ).loc Cert.SbfKernelIdeal.main_arg0)) →
    ∃ (v0 : (c : Dev Cert.SbfKernelIdeal.nD) → Buf (Elt Ideal) ((c.tc : Thread Cert.SbfKernelIdeal.nD Cert.SbfKernelIdeal.τ).loc Cert.SbfKernelIdeal.main_v8_0)) (v1 : (c : Dev Cert.SbfKernelIdeal.nD) → Buf (Elt Ideal) ((c.tc : Thread Cert.SbfKernelIdeal.nD Cert.SbfKernelIdeal.τ).loc Cert.SbfKernelIdeal.main_v8_1)),
      θ_run (Cert.SbfKernelIdeal.defs (F := Ideal)) (onTc (τ := Cert.SbfKernelIdeal.τ) (Cert.SbfKernelIdeal.main (F := Ideal))) ⟨m, fun _ => 0, g⟩ (fun r => ∀ c : Dev Cert.SbfKernelIdeal.nD,
          r.2.mem ((c.tc : Thread Cert.SbfKernelIdeal.nD Cert.SbfKernelIdeal.τ).loc Cert.SbfKernelIdeal.main_v8_0) = v0 c
          ∧ r.2.mem ((c.tc : Thread Cert.SbfKernelIdeal.nD Cert.SbfKernelIdeal.τ).loc Cert.SbfKernelIdeal.main_v8_1) = v1 c
          ∧ r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0))
      ∧ θ_run (Cert.SbfReferenceIdeal.defs (F := Ideal)) (onTc (τ := Cert.SbfReferenceIdeal.τ) (Cert.SbfReferenceIdeal.main (F := Ideal))) ⟨m', fun _ => 0, g'⟩ (fun r => ∀ c : Dev Cert.SbfReferenceIdeal.nD,
          r.2.mem ((c.tc : Thread Cert.SbfReferenceIdeal.nD Cert.SbfReferenceIdeal.τ).loc Cert.SbfReferenceIdeal.main_v29) = v0 c
          ∧ r.2.mem ((c.tc : Thread Cert.SbfReferenceIdeal.nD Cert.SbfReferenceIdeal.τ).loc Cert.SbfReferenceIdeal.main_v63) = v1 c
          ∧ r.2.mem ((c.tc : Thread Cert.SbfReferenceIdeal.nD Cert.SbfReferenceIdeal.τ).loc Cert.SbfReferenceIdeal.main_arg0) = m' ((c.tc : Thread Cert.SbfReferenceIdeal.nD Cert.SbfReferenceIdeal.τ).loc Cert.SbfReferenceIdeal.main_arg0))

def preserves_FinalKernel_FinalKernelIdeal : Prop :=
  True

def algebraic_FinalKernelIdeal_FinalReferenceIdeal_pre_final_finite [hFinalKernelIdeal : Cert.FinalKernelIdeal.Facts] [hFinalReferenceIdeal : Cert.FinalReferenceIdeal.Facts] [hPre_final_finite : Cert.Pre_final_finite.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal_final_finite m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)
      ∧ m' ((c.tc : Thread Cert.FinalReferenceIdeal.nD Cert.FinalReferenceIdeal.τ).loc Cert.FinalReferenceIdeal.main_arg4) = m ((c.tc : Thread Cert.FinalKernelIdeal.nD Cert.FinalKernelIdeal.τ).loc Cert.FinalKernelIdeal.main_arg4)) →
    ∃ (v0 : (c : Dev Cert.FinalKernelIdeal.nD) → Buf (Elt Ideal) ((c.tc : Thread Cert.FinalKernelIdeal.nD Cert.FinalKernelIdeal.τ).loc Cert.FinalKernelIdeal.main_v1_0)) (v1 : (c : Dev Cert.FinalKernelIdeal.nD) → Buf (Elt Ideal) ((c.tc : Thread Cert.FinalKernelIdeal.nD Cert.FinalKernelIdeal.τ).loc Cert.FinalKernelIdeal.main_v1_1)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v1_0) = v0 c
          ∧ r.2.mem ((c.tc : Thread Cert.FinalKernelIdeal.nD Cert.FinalKernelIdeal.τ).loc Cert.FinalKernelIdeal.main_v1_1) = v1 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
          ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v63) = v0 c
          ∧ r.2.mem ((c.tc : Thread Cert.FinalReferenceIdeal.nD Cert.FinalReferenceIdeal.τ).loc Cert.FinalReferenceIdeal.main_v67) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def preserves_GnormKernel_GnormKernelIdeal : Prop :=
  True

def algebraic_GnormKernelIdeal_GnormReferenceIdeal_pre_gnorm_finite [hGnormKernelIdeal : Cert.GnormKernelIdeal.Facts] [hGnormReferenceIdeal : Cert.GnormReferenceIdeal.Facts] [hPre_gnorm_finite : Cert.Pre_gnorm_finite.Facts] : Prop :=
  ∀ (m : (ℓ : Loc Cert.GnormKernelIdeal.nD Cert.GnormKernelIdeal.τ Cert.GnormKernelIdeal.sig) → Buf (Elt Ideal) ℓ) (g : Dev Cert.GnormKernelIdeal.nD → PrngReg)
    (m' : (ℓ : Loc Cert.GnormReferenceIdeal.nD Cert.GnormReferenceIdeal.τ Cert.GnormReferenceIdeal.sig) → Buf (Elt Ideal) ℓ) (g' : Dev Cert.GnormReferenceIdeal.nD → PrngReg), Pre_GnormKernelIdeal_gnorm_finite m →
    (∀ c : Dev Cert.GnormKernelIdeal.nD,
      m' ((c.tc : Thread Cert.GnormReferenceIdeal.nD Cert.GnormReferenceIdeal.τ).loc Cert.GnormReferenceIdeal.main_arg0) = m ((c.tc : Thread Cert.GnormKernelIdeal.nD Cert.GnormKernelIdeal.τ).loc Cert.GnormKernelIdeal.main_arg0)
      ∧ m' ((c.tc : Thread Cert.GnormReferenceIdeal.nD Cert.GnormReferenceIdeal.τ).loc Cert.GnormReferenceIdeal.main_arg1) = m ((c.tc : Thread Cert.GnormKernelIdeal.nD Cert.GnormKernelIdeal.τ).loc Cert.GnormKernelIdeal.main_arg1)
      ∧ m' ((c.tc : Thread Cert.GnormReferenceIdeal.nD Cert.GnormReferenceIdeal.τ).loc Cert.GnormReferenceIdeal.main_arg2) = m ((c.tc : Thread Cert.GnormKernelIdeal.nD Cert.GnormKernelIdeal.τ).loc Cert.GnormKernelIdeal.main_arg2)
      ∧ m' ((c.tc : Thread Cert.GnormReferenceIdeal.nD Cert.GnormReferenceIdeal.τ).loc Cert.GnormReferenceIdeal.main_arg3) = m ((c.tc : Thread Cert.GnormKernelIdeal.nD Cert.GnormKernelIdeal.τ).loc Cert.GnormKernelIdeal.main_arg3)) →
    ∃ (v0 : (c : Dev Cert.GnormKernelIdeal.nD) → Buf (Elt Ideal) ((c.tc : Thread Cert.GnormKernelIdeal.nD Cert.GnormKernelIdeal.τ).loc Cert.GnormKernelIdeal.main_v9_0)) (v1 : (c : Dev Cert.GnormKernelIdeal.nD) → Buf (Elt Ideal) ((c.tc : Thread Cert.GnormKernelIdeal.nD Cert.GnormKernelIdeal.τ).loc Cert.GnormKernelIdeal.main_v9_1)) (v2 : (c : Dev Cert.GnormKernelIdeal.nD) → Buf (Elt Ideal) ((c.tc : Thread Cert.GnormKernelIdeal.nD Cert.GnormKernelIdeal.τ).loc Cert.GnormKernelIdeal.main_v9_2)),
      θ_run (Cert.GnormKernelIdeal.defs (F := Ideal)) (onTc (τ := Cert.GnormKernelIdeal.τ) (Cert.GnormKernelIdeal.main (F := Ideal))) ⟨m, fun _ => 0, g⟩ (fun r => ∀ c : Dev Cert.GnormKernelIdeal.nD,
          r.2.mem ((c.tc : Thread Cert.GnormKernelIdeal.nD Cert.GnormKernelIdeal.τ).loc Cert.GnormKernelIdeal.main_v9_0) = v0 c
          ∧ r.2.mem ((c.tc : Thread Cert.GnormKernelIdeal.nD Cert.GnormKernelIdeal.τ).loc Cert.GnormKernelIdeal.main_v9_1) = v1 c
          ∧ r.2.mem ((c.tc : Thread Cert.GnormKernelIdeal.nD Cert.GnormKernelIdeal.τ).loc Cert.GnormKernelIdeal.main_v9_2) = v2 c
          ∧ r.2.mem ((c.tc : Thread Cert.GnormKernelIdeal.nD Cert.GnormKernelIdeal.τ).loc Cert.GnormKernelIdeal.main_arg0) = m ((c.tc : Thread Cert.GnormKernelIdeal.nD Cert.GnormKernelIdeal.τ).loc Cert.GnormKernelIdeal.main_arg0)
          ∧ r.2.mem ((c.tc : Thread Cert.GnormKernelIdeal.nD Cert.GnormKernelIdeal.τ).loc Cert.GnormKernelIdeal.main_arg1) = m ((c.tc : Thread Cert.GnormKernelIdeal.nD Cert.GnormKernelIdeal.τ).loc Cert.GnormKernelIdeal.main_arg1)
          ∧ r.2.mem ((c.tc : Thread Cert.GnormKernelIdeal.nD Cert.GnormKernelIdeal.τ).loc Cert.GnormKernelIdeal.main_arg2) = m ((c.tc : Thread Cert.GnormKernelIdeal.nD Cert.GnormKernelIdeal.τ).loc Cert.GnormKernelIdeal.main_arg2)
          ∧ r.2.mem ((c.tc : Thread Cert.GnormKernelIdeal.nD Cert.GnormKernelIdeal.τ).loc Cert.GnormKernelIdeal.main_arg3) = m ((c.tc : Thread Cert.GnormKernelIdeal.nD Cert.GnormKernelIdeal.τ).loc Cert.GnormKernelIdeal.main_arg3))
      ∧ θ_run (Cert.GnormReferenceIdeal.defs (F := Ideal)) (onTc (τ := Cert.GnormReferenceIdeal.τ) (Cert.GnormReferenceIdeal.main (F := Ideal))) ⟨m', fun _ => 0, g'⟩ (fun r => ∀ c : Dev Cert.GnormReferenceIdeal.nD,
          r.2.mem ((c.tc : Thread Cert.GnormReferenceIdeal.nD Cert.GnormReferenceIdeal.τ).loc Cert.GnormReferenceIdeal.main_v41) = v0 c
          ∧ r.2.mem ((c.tc : Thread Cert.GnormReferenceIdeal.nD Cert.GnormReferenceIdeal.τ).loc Cert.GnormReferenceIdeal.main_v43) = v1 c
          ∧ r.2.mem ((c.tc : Thread Cert.GnormReferenceIdeal.nD Cert.GnormReferenceIdeal.τ).loc Cert.GnormReferenceIdeal.main_v46) = v2 c
          ∧ r.2.mem ((c.tc : Thread Cert.GnormReferenceIdeal.nD Cert.GnormReferenceIdeal.τ).loc Cert.GnormReferenceIdeal.main_arg0) = m' ((c.tc : Thread Cert.GnormReferenceIdeal.nD Cert.GnormReferenceIdeal.τ).loc Cert.GnormReferenceIdeal.main_arg0)
          ∧ r.2.mem ((c.tc : Thread Cert.GnormReferenceIdeal.nD Cert.GnormReferenceIdeal.τ).loc Cert.GnormReferenceIdeal.main_arg1) = m' ((c.tc : Thread Cert.GnormReferenceIdeal.nD Cert.GnormReferenceIdeal.τ).loc Cert.GnormReferenceIdeal.main_arg1)
          ∧ r.2.mem ((c.tc : Thread Cert.GnormReferenceIdeal.nD Cert.GnormReferenceIdeal.τ).loc Cert.GnormReferenceIdeal.main_arg2) = m' ((c.tc : Thread Cert.GnormReferenceIdeal.nD Cert.GnormReferenceIdeal.τ).loc Cert.GnormReferenceIdeal.main_arg2)
          ∧ r.2.mem ((c.tc : Thread Cert.GnormReferenceIdeal.nD Cert.GnormReferenceIdeal.τ).loc Cert.GnormReferenceIdeal.main_arg3) = m' ((c.tc : Thread Cert.GnormReferenceIdeal.nD Cert.GnormReferenceIdeal.τ).loc Cert.GnormReferenceIdeal.main_arg3))

def preserves_DactKernel_DactKernelIdeal : Prop :=
  True

def algebraic_DactKernelIdeal_DactReferenceIdeal_pre_dact_finite [hDactKernelIdeal : Cert.DactKernelIdeal.Facts] [hDactReferenceIdeal : Cert.DactReferenceIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal_dact_finite m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)
      ∧ m' ((c.tc : Thread Cert.DactReferenceIdeal.nD Cert.DactReferenceIdeal.τ).loc Cert.DactReferenceIdeal.main_arg3) = m ((c.tc : Thread Cert.DactKernelIdeal.nD Cert.DactKernelIdeal.τ).loc Cert.DactKernelIdeal.main_arg3)) →
    ∃ (v0 : (c : Dev Cert.DactKernelIdeal.nD) → Buf (Elt Ideal) ((c.tc : Thread Cert.DactKernelIdeal.nD Cert.DactKernelIdeal.τ).loc Cert.DactKernelIdeal.main_v2_0)) (v1 : (c : Dev Cert.DactKernelIdeal.nD) → Buf (Elt Ideal) ((c.tc : Thread Cert.DactKernelIdeal.nD Cert.DactKernelIdeal.τ).loc Cert.DactKernelIdeal.main_v2_1)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v2_0) = v0 c
          ∧ r.2.mem ((c.tc : Thread Cert.DactKernelIdeal.nD Cert.DactKernelIdeal.τ).loc Cert.DactKernelIdeal.main_v2_1) = v1 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
          ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v10) = v0 c
          ∧ r.2.mem ((c.tc : Thread Cert.DactReferenceIdeal.nD Cert.DactReferenceIdeal.τ).loc Cert.DactReferenceIdeal.main_v11) = v1 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_DgffnKernel_DgffnKernelIdeal : Prop :=
  True

def algebraic_DgffnKernelIdeal_DgffnReferenceIdeal_pre_dgffn_finite [hDgffnKernelIdeal : Cert.DgffnKernelIdeal.Facts] [hDgffnReferenceIdeal : Cert.DgffnReferenceIdeal.Facts] [hPre_dgffn_finite : Cert.Pre_dgffn_finite.Facts] : Prop :=
  ∀ (m : (ℓ : Loc Cert.DgffnKernelIdeal.nD Cert.DgffnKernelIdeal.τ Cert.DgffnKernelIdeal.sig) → Buf (Elt Ideal) ℓ) (g : Dev Cert.DgffnKernelIdeal.nD → PrngReg)
    (m' : (ℓ : Loc Cert.DgffnReferenceIdeal.nD Cert.DgffnReferenceIdeal.τ Cert.DgffnReferenceIdeal.sig) → Buf (Elt Ideal) ℓ) (g' : Dev Cert.DgffnReferenceIdeal.nD → PrngReg), Pre_DgffnKernelIdeal_dgffn_finite m →
    (∀ c : Dev Cert.DgffnKernelIdeal.nD,
      m' ((c.tc : Thread Cert.DgffnReferenceIdeal.nD Cert.DgffnReferenceIdeal.τ).loc Cert.DgffnReferenceIdeal.main_arg0) = m ((c.tc : Thread Cert.DgffnKernelIdeal.nD Cert.DgffnKernelIdeal.τ).loc Cert.DgffnKernelIdeal.main_arg0)
      ∧ m' ((c.tc : Thread Cert.DgffnReferenceIdeal.nD Cert.DgffnReferenceIdeal.τ).loc Cert.DgffnReferenceIdeal.main_arg1) = m ((c.tc : Thread Cert.DgffnKernelIdeal.nD Cert.DgffnKernelIdeal.τ).loc Cert.DgffnKernelIdeal.main_arg1)
      ∧ m' ((c.tc : Thread Cert.DgffnReferenceIdeal.nD Cert.DgffnReferenceIdeal.τ).loc Cert.DgffnReferenceIdeal.main_arg2) = m ((c.tc : Thread Cert.DgffnKernelIdeal.nD Cert.DgffnKernelIdeal.τ).loc Cert.DgffnKernelIdeal.main_arg2)
      ∧ m' ((c.tc : Thread Cert.DgffnReferenceIdeal.nD Cert.DgffnReferenceIdeal.τ).loc Cert.DgffnReferenceIdeal.main_arg3) = m ((c.tc : Thread Cert.DgffnKernelIdeal.nD Cert.DgffnKernelIdeal.τ).loc Cert.DgffnKernelIdeal.main_arg3)
      ∧ m' ((c.tc : Thread Cert.DgffnReferenceIdeal.nD Cert.DgffnReferenceIdeal.τ).loc Cert.DgffnReferenceIdeal.main_arg4) = m ((c.tc : Thread Cert.DgffnKernelIdeal.nD Cert.DgffnKernelIdeal.τ).loc Cert.DgffnKernelIdeal.main_arg4)
      ∧ m' ((c.tc : Thread Cert.DgffnReferenceIdeal.nD Cert.DgffnReferenceIdeal.τ).loc Cert.DgffnReferenceIdeal.main_arg5) = m ((c.tc : Thread Cert.DgffnKernelIdeal.nD Cert.DgffnKernelIdeal.τ).loc Cert.DgffnKernelIdeal.main_arg5)
      ∧ m' ((c.tc : Thread Cert.DgffnReferenceIdeal.nD Cert.DgffnReferenceIdeal.τ).loc Cert.DgffnReferenceIdeal.main_arg6) = m ((c.tc : Thread Cert.DgffnKernelIdeal.nD Cert.DgffnKernelIdeal.τ).loc Cert.DgffnKernelIdeal.main_arg6)
      ∧ m' ((c.tc : Thread Cert.DgffnReferenceIdeal.nD Cert.DgffnReferenceIdeal.τ).loc Cert.DgffnReferenceIdeal.main_arg7) = m ((c.tc : Thread Cert.DgffnKernelIdeal.nD Cert.DgffnKernelIdeal.τ).loc Cert.DgffnKernelIdeal.main_arg7)) →
    ∃ (v0 : (c : Dev Cert.DgffnKernelIdeal.nD) → Buf (Elt Ideal) ((c.tc : Thread Cert.DgffnKernelIdeal.nD Cert.DgffnKernelIdeal.τ).loc Cert.DgffnKernelIdeal.main_v7_0)) (v1 : (c : Dev Cert.DgffnKernelIdeal.nD) → Buf (Elt Ideal) ((c.tc : Thread Cert.DgffnKernelIdeal.nD Cert.DgffnKernelIdeal.τ).loc Cert.DgffnKernelIdeal.main_v7_1)),
      θ_run (Cert.DgffnKernelIdeal.defs (F := Ideal)) (onTc (τ := Cert.DgffnKernelIdeal.τ) (Cert.DgffnKernelIdeal.main (F := Ideal))) ⟨m, fun _ => 0, g⟩ (fun r => ∀ c : Dev Cert.DgffnKernelIdeal.nD,
          r.2.mem ((c.tc : Thread Cert.DgffnKernelIdeal.nD Cert.DgffnKernelIdeal.τ).loc Cert.DgffnKernelIdeal.main_v7_0) = v0 c
          ∧ r.2.mem ((c.tc : Thread Cert.DgffnKernelIdeal.nD Cert.DgffnKernelIdeal.τ).loc Cert.DgffnKernelIdeal.main_v7_1) = v1 c
          ∧ r.2.mem ((c.tc : Thread Cert.DgffnKernelIdeal.nD Cert.DgffnKernelIdeal.τ).loc Cert.DgffnKernelIdeal.main_arg0) = m ((c.tc : Thread Cert.DgffnKernelIdeal.nD Cert.DgffnKernelIdeal.τ).loc Cert.DgffnKernelIdeal.main_arg0)
          ∧ r.2.mem ((c.tc : Thread Cert.DgffnKernelIdeal.nD Cert.DgffnKernelIdeal.τ).loc Cert.DgffnKernelIdeal.main_arg1) = m ((c.tc : Thread Cert.DgffnKernelIdeal.nD Cert.DgffnKernelIdeal.τ).loc Cert.DgffnKernelIdeal.main_arg1)
          ∧ r.2.mem ((c.tc : Thread Cert.DgffnKernelIdeal.nD Cert.DgffnKernelIdeal.τ).loc Cert.DgffnKernelIdeal.main_arg2) = m ((c.tc : Thread Cert.DgffnKernelIdeal.nD Cert.DgffnKernelIdeal.τ).loc Cert.DgffnKernelIdeal.main_arg2)
          ∧ r.2.mem ((c.tc : Thread Cert.DgffnKernelIdeal.nD Cert.DgffnKernelIdeal.τ).loc Cert.DgffnKernelIdeal.main_arg3) = m ((c.tc : Thread Cert.DgffnKernelIdeal.nD Cert.DgffnKernelIdeal.τ).loc Cert.DgffnKernelIdeal.main_arg3)
          ∧ r.2.mem ((c.tc : Thread Cert.DgffnKernelIdeal.nD Cert.DgffnKernelIdeal.τ).loc Cert.DgffnKernelIdeal.main_arg4) = m ((c.tc : Thread Cert.DgffnKernelIdeal.nD Cert.DgffnKernelIdeal.τ).loc Cert.DgffnKernelIdeal.main_arg4)
          ∧ r.2.mem ((c.tc : Thread Cert.DgffnKernelIdeal.nD Cert.DgffnKernelIdeal.τ).loc Cert.DgffnKernelIdeal.main_arg5) = m ((c.tc : Thread Cert.DgffnKernelIdeal.nD Cert.DgffnKernelIdeal.τ).loc Cert.DgffnKernelIdeal.main_arg5)
          ∧ r.2.mem ((c.tc : Thread Cert.DgffnKernelIdeal.nD Cert.DgffnKernelIdeal.τ).loc Cert.DgffnKernelIdeal.main_arg6) = m ((c.tc : Thread Cert.DgffnKernelIdeal.nD Cert.DgffnKernelIdeal.τ).loc Cert.DgffnKernelIdeal.main_arg6)
          ∧ r.2.mem ((c.tc : Thread Cert.DgffnKernelIdeal.nD Cert.DgffnKernelIdeal.τ).loc Cert.DgffnKernelIdeal.main_arg7) = m ((c.tc : Thread Cert.DgffnKernelIdeal.nD Cert.DgffnKernelIdeal.τ).loc Cert.DgffnKernelIdeal.main_arg7))
      ∧ θ_run (Cert.DgffnReferenceIdeal.defs (F := Ideal)) (onTc (τ := Cert.DgffnReferenceIdeal.τ) (Cert.DgffnReferenceIdeal.main (F := Ideal))) ⟨m', fun _ => 0, g'⟩ (fun r => ∀ c : Dev Cert.DgffnReferenceIdeal.nD,
          r.2.mem ((c.tc : Thread Cert.DgffnReferenceIdeal.nD Cert.DgffnReferenceIdeal.τ).loc Cert.DgffnReferenceIdeal.main_v57) = v0 c
          ∧ r.2.mem ((c.tc : Thread Cert.DgffnReferenceIdeal.nD Cert.DgffnReferenceIdeal.τ).loc Cert.DgffnReferenceIdeal.main_v60) = v1 c
          ∧ r.2.mem ((c.tc : Thread Cert.DgffnReferenceIdeal.nD Cert.DgffnReferenceIdeal.τ).loc Cert.DgffnReferenceIdeal.main_arg0) = m' ((c.tc : Thread Cert.DgffnReferenceIdeal.nD Cert.DgffnReferenceIdeal.τ).loc Cert.DgffnReferenceIdeal.main_arg0)
          ∧ r.2.mem ((c.tc : Thread Cert.DgffnReferenceIdeal.nD Cert.DgffnReferenceIdeal.τ).loc Cert.DgffnReferenceIdeal.main_arg1) = m' ((c.tc : Thread Cert.DgffnReferenceIdeal.nD Cert.DgffnReferenceIdeal.τ).loc Cert.DgffnReferenceIdeal.main_arg1)
          ∧ r.2.mem ((c.tc : Thread Cert.DgffnReferenceIdeal.nD Cert.DgffnReferenceIdeal.τ).loc Cert.DgffnReferenceIdeal.main_arg2) = m' ((c.tc : Thread Cert.DgffnReferenceIdeal.nD Cert.DgffnReferenceIdeal.τ).loc Cert.DgffnReferenceIdeal.main_arg2)
          ∧ r.2.mem ((c.tc : Thread Cert.DgffnReferenceIdeal.nD Cert.DgffnReferenceIdeal.τ).loc Cert.DgffnReferenceIdeal.main_arg3) = m' ((c.tc : Thread Cert.DgffnReferenceIdeal.nD Cert.DgffnReferenceIdeal.τ).loc Cert.DgffnReferenceIdeal.main_arg3)
          ∧ r.2.mem ((c.tc : Thread Cert.DgffnReferenceIdeal.nD Cert.DgffnReferenceIdeal.τ).loc Cert.DgffnReferenceIdeal.main_arg4) = m' ((c.tc : Thread Cert.DgffnReferenceIdeal.nD Cert.DgffnReferenceIdeal.τ).loc Cert.DgffnReferenceIdeal.main_arg4)
          ∧ r.2.mem ((c.tc : Thread Cert.DgffnReferenceIdeal.nD Cert.DgffnReferenceIdeal.τ).loc Cert.DgffnReferenceIdeal.main_arg5) = m' ((c.tc : Thread Cert.DgffnReferenceIdeal.nD Cert.DgffnReferenceIdeal.τ).loc Cert.DgffnReferenceIdeal.main_arg5)
          ∧ r.2.mem ((c.tc : Thread Cert.DgffnReferenceIdeal.nD Cert.DgffnReferenceIdeal.τ).loc Cert.DgffnReferenceIdeal.main_arg6) = m' ((c.tc : Thread Cert.DgffnReferenceIdeal.nD Cert.DgffnReferenceIdeal.τ).loc Cert.DgffnReferenceIdeal.main_arg6)
          ∧ r.2.mem ((c.tc : Thread Cert.DgffnReferenceIdeal.nD Cert.DgffnReferenceIdeal.τ).loc Cert.DgffnReferenceIdeal.main_arg7) = m' ((c.tc : Thread Cert.DgffnReferenceIdeal.nD Cert.DgffnReferenceIdeal.τ).loc Cert.DgffnReferenceIdeal.main_arg7))

def preserves_DgmixKernel_DgmixKernelIdeal : Prop :=
  True

def algebraic_DgmixKernelIdeal_DgmixReferenceIdeal_pre_dgmix_finite [hDgmixKernelIdeal : Cert.DgmixKernelIdeal.Facts] [hDgmixReferenceIdeal : Cert.DgmixReferenceIdeal.Facts] [hPre_dgmix_finite : Cert.Pre_dgmix_finite.Facts] : Prop :=
  ∀ (m : (ℓ : Loc Cert.DgmixKernelIdeal.nD Cert.DgmixKernelIdeal.τ Cert.DgmixKernelIdeal.sig) → Buf (Elt Ideal) ℓ) (g : Dev Cert.DgmixKernelIdeal.nD → PrngReg)
    (m' : (ℓ : Loc Cert.DgmixReferenceIdeal.nD Cert.DgmixReferenceIdeal.τ Cert.DgmixReferenceIdeal.sig) → Buf (Elt Ideal) ℓ) (g' : Dev Cert.DgmixReferenceIdeal.nD → PrngReg), Pre_DgmixKernelIdeal_dgmix_finite m →
    (∀ c : Dev Cert.DgmixKernelIdeal.nD,
      m' ((c.tc : Thread Cert.DgmixReferenceIdeal.nD Cert.DgmixReferenceIdeal.τ).loc Cert.DgmixReferenceIdeal.main_arg0) = m ((c.tc : Thread Cert.DgmixKernelIdeal.nD Cert.DgmixKernelIdeal.τ).loc Cert.DgmixKernelIdeal.main_arg0)
      ∧ m' ((c.tc : Thread Cert.DgmixReferenceIdeal.nD Cert.DgmixReferenceIdeal.τ).loc Cert.DgmixReferenceIdeal.main_arg1) = m ((c.tc : Thread Cert.DgmixKernelIdeal.nD Cert.DgmixKernelIdeal.τ).loc Cert.DgmixKernelIdeal.main_arg1)
      ∧ m' ((c.tc : Thread Cert.DgmixReferenceIdeal.nD Cert.DgmixReferenceIdeal.τ).loc Cert.DgmixReferenceIdeal.main_arg2) = m ((c.tc : Thread Cert.DgmixKernelIdeal.nD Cert.DgmixKernelIdeal.τ).loc Cert.DgmixKernelIdeal.main_arg2)
      ∧ m' ((c.tc : Thread Cert.DgmixReferenceIdeal.nD Cert.DgmixReferenceIdeal.τ).loc Cert.DgmixReferenceIdeal.main_arg3) = m ((c.tc : Thread Cert.DgmixKernelIdeal.nD Cert.DgmixKernelIdeal.τ).loc Cert.DgmixKernelIdeal.main_arg3)
      ∧ m' ((c.tc : Thread Cert.DgmixReferenceIdeal.nD Cert.DgmixReferenceIdeal.τ).loc Cert.DgmixReferenceIdeal.main_arg4) = m ((c.tc : Thread Cert.DgmixKernelIdeal.nD Cert.DgmixKernelIdeal.τ).loc Cert.DgmixKernelIdeal.main_arg4)
      ∧ m' ((c.tc : Thread Cert.DgmixReferenceIdeal.nD Cert.DgmixReferenceIdeal.τ).loc Cert.DgmixReferenceIdeal.main_arg5) = m ((c.tc : Thread Cert.DgmixKernelIdeal.nD Cert.DgmixKernelIdeal.τ).loc Cert.DgmixKernelIdeal.main_arg5)) →
    ∃ (v0 : (c : Dev Cert.DgmixKernelIdeal.nD) → Buf (Elt Ideal) ((c.tc : Thread Cert.DgmixKernelIdeal.nD Cert.DgmixKernelIdeal.τ).loc Cert.DgmixKernelIdeal.main_v33_0)) (v1 : (c : Dev Cert.DgmixKernelIdeal.nD) → Buf (Elt Ideal) ((c.tc : Thread Cert.DgmixKernelIdeal.nD Cert.DgmixKernelIdeal.τ).loc Cert.DgmixKernelIdeal.main_v33_1)),
      θ_run (Cert.DgmixKernelIdeal.defs (F := Ideal)) (onTc (τ := Cert.DgmixKernelIdeal.τ) (Cert.DgmixKernelIdeal.main (F := Ideal))) ⟨m, fun _ => 0, g⟩ (fun r => ∀ c : Dev Cert.DgmixKernelIdeal.nD,
          r.2.mem ((c.tc : Thread Cert.DgmixKernelIdeal.nD Cert.DgmixKernelIdeal.τ).loc Cert.DgmixKernelIdeal.main_v33_0) = v0 c
          ∧ r.2.mem ((c.tc : Thread Cert.DgmixKernelIdeal.nD Cert.DgmixKernelIdeal.τ).loc Cert.DgmixKernelIdeal.main_v33_1) = v1 c
          ∧ r.2.mem ((c.tc : Thread Cert.DgmixKernelIdeal.nD Cert.DgmixKernelIdeal.τ).loc Cert.DgmixKernelIdeal.main_arg0) = m ((c.tc : Thread Cert.DgmixKernelIdeal.nD Cert.DgmixKernelIdeal.τ).loc Cert.DgmixKernelIdeal.main_arg0)
          ∧ r.2.mem ((c.tc : Thread Cert.DgmixKernelIdeal.nD Cert.DgmixKernelIdeal.τ).loc Cert.DgmixKernelIdeal.main_arg1) = m ((c.tc : Thread Cert.DgmixKernelIdeal.nD Cert.DgmixKernelIdeal.τ).loc Cert.DgmixKernelIdeal.main_arg1)
          ∧ r.2.mem ((c.tc : Thread Cert.DgmixKernelIdeal.nD Cert.DgmixKernelIdeal.τ).loc Cert.DgmixKernelIdeal.main_arg2) = m ((c.tc : Thread Cert.DgmixKernelIdeal.nD Cert.DgmixKernelIdeal.τ).loc Cert.DgmixKernelIdeal.main_arg2)
          ∧ r.2.mem ((c.tc : Thread Cert.DgmixKernelIdeal.nD Cert.DgmixKernelIdeal.τ).loc Cert.DgmixKernelIdeal.main_arg3) = m ((c.tc : Thread Cert.DgmixKernelIdeal.nD Cert.DgmixKernelIdeal.τ).loc Cert.DgmixKernelIdeal.main_arg3)
          ∧ r.2.mem ((c.tc : Thread Cert.DgmixKernelIdeal.nD Cert.DgmixKernelIdeal.τ).loc Cert.DgmixKernelIdeal.main_arg4) = m ((c.tc : Thread Cert.DgmixKernelIdeal.nD Cert.DgmixKernelIdeal.τ).loc Cert.DgmixKernelIdeal.main_arg4)
          ∧ r.2.mem ((c.tc : Thread Cert.DgmixKernelIdeal.nD Cert.DgmixKernelIdeal.τ).loc Cert.DgmixKernelIdeal.main_arg5) = m ((c.tc : Thread Cert.DgmixKernelIdeal.nD Cert.DgmixKernelIdeal.τ).loc Cert.DgmixKernelIdeal.main_arg5))
      ∧ θ_run (Cert.DgmixReferenceIdeal.defs (F := Ideal)) (onTc (τ := Cert.DgmixReferenceIdeal.τ) (Cert.DgmixReferenceIdeal.main (F := Ideal))) ⟨m', fun _ => 0, g'⟩ (fun r => ∀ c : Dev Cert.DgmixReferenceIdeal.nD,
          r.2.mem ((c.tc : Thread Cert.DgmixReferenceIdeal.nD Cert.DgmixReferenceIdeal.τ).loc Cert.DgmixReferenceIdeal.main_v52) = v0 c
          ∧ r.2.mem ((c.tc : Thread Cert.DgmixReferenceIdeal.nD Cert.DgmixReferenceIdeal.τ).loc Cert.DgmixReferenceIdeal.main_v55) = v1 c
          ∧ r.2.mem ((c.tc : Thread Cert.DgmixReferenceIdeal.nD Cert.DgmixReferenceIdeal.τ).loc Cert.DgmixReferenceIdeal.main_arg0) = m' ((c.tc : Thread Cert.DgmixReferenceIdeal.nD Cert.DgmixReferenceIdeal.τ).loc Cert.DgmixReferenceIdeal.main_arg0)
          ∧ r.2.mem ((c.tc : Thread Cert.DgmixReferenceIdeal.nD Cert.DgmixReferenceIdeal.τ).loc Cert.DgmixReferenceIdeal.main_arg1) = m' ((c.tc : Thread Cert.DgmixReferenceIdeal.nD Cert.DgmixReferenceIdeal.τ).loc Cert.DgmixReferenceIdeal.main_arg1)
          ∧ r.2.mem ((c.tc : Thread Cert.DgmixReferenceIdeal.nD Cert.DgmixReferenceIdeal.τ).loc Cert.DgmixReferenceIdeal.main_arg2) = m' ((c.tc : Thread Cert.DgmixReferenceIdeal.nD Cert.DgmixReferenceIdeal.τ).loc Cert.DgmixReferenceIdeal.main_arg2)
          ∧ r.2.mem ((c.tc : Thread Cert.DgmixReferenceIdeal.nD Cert.DgmixReferenceIdeal.τ).loc Cert.DgmixReferenceIdeal.main_arg3) = m' ((c.tc : Thread Cert.DgmixReferenceIdeal.nD Cert.DgmixReferenceIdeal.τ).loc Cert.DgmixReferenceIdeal.main_arg3)
          ∧ r.2.mem ((c.tc : Thread Cert.DgmixReferenceIdeal.nD Cert.DgmixReferenceIdeal.τ).loc Cert.DgmixReferenceIdeal.main_arg4) = m' ((c.tc : Thread Cert.DgmixReferenceIdeal.nD Cert.DgmixReferenceIdeal.τ).loc Cert.DgmixReferenceIdeal.main_arg4)
          ∧ r.2.mem ((c.tc : Thread Cert.DgmixReferenceIdeal.nD Cert.DgmixReferenceIdeal.τ).loc Cert.DgmixReferenceIdeal.main_arg5) = m' ((c.tc : Thread Cert.DgmixReferenceIdeal.nD Cert.DgmixReferenceIdeal.τ).loc Cert.DgmixReferenceIdeal.main_arg5))

def preserves_ConvKernel_ConvKernelIdeal : Prop :=
  True

def algebraic_ConvKernelIdeal_ConvReferenceIdeal_pre_conv_finite [hConvKernelIdeal : Cert.ConvKernelIdeal.Facts] [hConvReferenceIdeal : Cert.ConvReferenceIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_conv_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v9_1)) (v1 : (c : Dev Cert.ConvKernelIdeal.nD) → Buf (Elt Ideal) ((c.tc : Thread Cert.ConvKernelIdeal.nD Cert.ConvKernelIdeal.τ).loc Cert.ConvKernelIdeal.main_v10_0)) (v2 : (c : Dev Cert.ConvKernelIdeal.nD) → Buf (Elt Ideal) ((c.tc : Thread Cert.ConvKernelIdeal.nD Cert.ConvKernelIdeal.τ).loc Cert.ConvKernelIdeal.main_v10_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v9_1) = v0 c
          ∧ r.2.mem ((c.tc : Thread Cert.ConvKernelIdeal.nD Cert.ConvKernelIdeal.τ).loc Cert.ConvKernelIdeal.main_v10_0) = v1 c
          ∧ r.2.mem ((c.tc : Thread Cert.ConvKernelIdeal.nD Cert.ConvKernelIdeal.τ).loc Cert.ConvKernelIdeal.main_v10_1) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v28_0) = v0 c
          ∧ r.2.mem ((c.tc : Thread Cert.ConvReferenceIdeal.nD Cert.ConvReferenceIdeal.τ).loc Cert.ConvReferenceIdeal.main_v69) = v1 c
          ∧ r.2.mem ((c.tc : Thread Cert.ConvReferenceIdeal.nD Cert.ConvReferenceIdeal.τ).loc Cert.ConvReferenceIdeal.main_v72) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v19) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_GnfKernel_GnfKernelIdeal : Prop :=
  True

def algebraic_GnfKernelIdeal_GnfReferenceIdeal [hGnfKernelIdeal : Cert.GnfKernelIdeal.Facts] [hGnfReferenceIdeal : Cert.GnfReferenceIdeal.Facts] : Prop :=
  ∀ (m : (ℓ : Loc Cert.GnfKernelIdeal.nD Cert.GnfKernelIdeal.τ Cert.GnfKernelIdeal.sig) → Buf (Elt Ideal) ℓ) (g : Dev Cert.GnfKernelIdeal.nD → PrngReg)
    (m' : (ℓ : Loc Cert.GnfReferenceIdeal.nD Cert.GnfReferenceIdeal.τ Cert.GnfReferenceIdeal.sig) → Buf (Elt Ideal) ℓ) (g' : Dev Cert.GnfReferenceIdeal.nD → PrngReg), Pre_GnfKernelIdeal m →
    (∀ c : Dev Cert.GnfKernelIdeal.nD,
      m' ((c.tc : Thread Cert.GnfReferenceIdeal.nD Cert.GnfReferenceIdeal.τ).loc Cert.GnfReferenceIdeal.main_arg0) = m ((c.tc : Thread Cert.GnfKernelIdeal.nD Cert.GnfKernelIdeal.τ).loc Cert.GnfKernelIdeal.main_arg0)
      ∧ m' ((c.tc : Thread Cert.GnfReferenceIdeal.nD Cert.GnfReferenceIdeal.τ).loc Cert.GnfReferenceIdeal.main_arg1) = m ((c.tc : Thread Cert.GnfKernelIdeal.nD Cert.GnfKernelIdeal.τ).loc Cert.GnfKernelIdeal.main_arg1)
      ∧ m' ((c.tc : Thread Cert.GnfReferenceIdeal.nD Cert.GnfReferenceIdeal.τ).loc Cert.GnfReferenceIdeal.main_arg2) = m ((c.tc : Thread Cert.GnfKernelIdeal.nD Cert.GnfKernelIdeal.τ).loc Cert.GnfKernelIdeal.main_arg2)) →
    ∃ (v0 : (c : Dev Cert.GnfKernelIdeal.nD) → Buf (Elt Ideal) ((c.tc : Thread Cert.GnfKernelIdeal.nD Cert.GnfKernelIdeal.τ).loc Cert.GnfKernelIdeal.main_v9)),
      θ_run (Cert.GnfKernelIdeal.defs (F := Ideal)) (onTc (τ := Cert.GnfKernelIdeal.τ) (Cert.GnfKernelIdeal.main (F := Ideal))) ⟨m, fun _ => 0, g⟩ (fun r => ∀ c : Dev Cert.GnfKernelIdeal.nD,
          r.2.mem ((c.tc : Thread Cert.GnfKernelIdeal.nD Cert.GnfKernelIdeal.τ).loc Cert.GnfKernelIdeal.main_v9) = v0 c
          ∧ r.2.mem ((c.tc : Thread Cert.GnfKernelIdeal.nD Cert.GnfKernelIdeal.τ).loc Cert.GnfKernelIdeal.main_arg0) = m ((c.tc : Thread Cert.GnfKernelIdeal.nD Cert.GnfKernelIdeal.τ).loc Cert.GnfKernelIdeal.main_arg0)
          ∧ r.2.mem ((c.tc : Thread Cert.GnfKernelIdeal.nD Cert.GnfKernelIdeal.τ).loc Cert.GnfKernelIdeal.main_arg1) = m ((c.tc : Thread Cert.GnfKernelIdeal.nD Cert.GnfKernelIdeal.τ).loc Cert.GnfKernelIdeal.main_arg1)
          ∧ r.2.mem ((c.tc : Thread Cert.GnfKernelIdeal.nD Cert.GnfKernelIdeal.τ).loc Cert.GnfKernelIdeal.main_arg2) = m ((c.tc : Thread Cert.GnfKernelIdeal.nD Cert.GnfKernelIdeal.τ).loc Cert.GnfKernelIdeal.main_arg2))
      ∧ θ_run (Cert.GnfReferenceIdeal.defs (F := Ideal)) (onTc (τ := Cert.GnfReferenceIdeal.τ) (Cert.GnfReferenceIdeal.main (F := Ideal))) ⟨m', fun _ => 0, g'⟩ (fun r => ∀ c : Dev Cert.GnfReferenceIdeal.nD,
          r.2.mem ((c.tc : Thread Cert.GnfReferenceIdeal.nD Cert.GnfReferenceIdeal.τ).loc Cert.GnfReferenceIdeal.main_v16) = v0 c
          ∧ r.2.mem ((c.tc : Thread Cert.GnfReferenceIdeal.nD Cert.GnfReferenceIdeal.τ).loc Cert.GnfReferenceIdeal.main_arg0) = m' ((c.tc : Thread Cert.GnfReferenceIdeal.nD Cert.GnfReferenceIdeal.τ).loc Cert.GnfReferenceIdeal.main_arg0)
          ∧ r.2.mem ((c.tc : Thread Cert.GnfReferenceIdeal.nD Cert.GnfReferenceIdeal.τ).loc Cert.GnfReferenceIdeal.main_arg1) = m' ((c.tc : Thread Cert.GnfReferenceIdeal.nD Cert.GnfReferenceIdeal.τ).loc Cert.GnfReferenceIdeal.main_arg1)
          ∧ r.2.mem ((c.tc : Thread Cert.GnfReferenceIdeal.nD Cert.GnfReferenceIdeal.τ).loc Cert.GnfReferenceIdeal.main_arg2) = m' ((c.tc : Thread Cert.GnfReferenceIdeal.nD Cert.GnfReferenceIdeal.τ).loc Cert.GnfReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v6_0)) (v1 : (c : Dev Cert.UpKernelIdeal.nD) → Buf (Elt Ideal) ((c.tc : Thread Cert.UpKernelIdeal.nD Cert.UpKernelIdeal.τ).loc Cert.UpKernelIdeal.main_v6_1)) (v2 : (c : Dev Cert.UpKernelIdeal.nD) → Buf (Elt Ideal) ((c.tc : Thread Cert.UpKernelIdeal.nD Cert.UpKernelIdeal.τ).loc Cert.UpKernelIdeal.main_v6_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6_0) = v0 c
          ∧ r.2.mem ((c.tc : Thread Cert.UpKernelIdeal.nD Cert.UpKernelIdeal.τ).loc Cert.UpKernelIdeal.main_v6_1) = v1 c
          ∧ r.2.mem ((c.tc : Thread Cert.UpKernelIdeal.nD Cert.UpKernelIdeal.τ).loc Cert.UpKernelIdeal.main_v6_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v4) = v1 c
          ∧ r.2.mem ((c.tc : Thread Cert.UpReferenceIdeal.nD Cert.UpReferenceIdeal.τ).loc Cert.UpReferenceIdeal.main_v7) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v2_0)) (v1 : (c : Dev Cert.DownKernelIdeal.nD) → Buf (Elt Ideal) ((c.tc : Thread Cert.DownKernelIdeal.nD Cert.DownKernelIdeal.τ).loc Cert.DownKernelIdeal.main_v2_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2_0) = v0 c
          ∧ r.2.mem ((c.tc : Thread Cert.DownKernelIdeal.nD Cert.DownKernelIdeal.τ).loc Cert.DownKernelIdeal.main_v2_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_v1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)
      ∧ m' ((c.tc : Thread Cert.AdaReferenceIdeal.nD Cert.AdaReferenceIdeal.τ).loc Cert.AdaReferenceIdeal.main_arg5) = m ((c.tc : Thread Cert.AdaKernelIdeal.nD Cert.AdaKernelIdeal.τ).loc Cert.AdaKernelIdeal.main_arg5)
      ∧ m' ((c.tc : Thread Cert.AdaReferenceIdeal.nD Cert.AdaReferenceIdeal.τ).loc Cert.AdaReferenceIdeal.main_arg6) = m ((c.tc : Thread Cert.AdaKernelIdeal.nD Cert.AdaKernelIdeal.τ).loc Cert.AdaKernelIdeal.main_arg6)
      ∧ m' ((c.tc : Thread Cert.AdaReferenceIdeal.nD Cert.AdaReferenceIdeal.τ).loc Cert.AdaReferenceIdeal.main_arg7) = m ((c.tc : Thread Cert.AdaKernelIdeal.nD Cert.AdaKernelIdeal.τ).loc Cert.AdaKernelIdeal.main_arg7)) →
    ∃ (v0 : (c : Dev Cert.AdaKernelIdeal.nD) → Buf (Elt Ideal) ((c.tc : Thread Cert.AdaKernelIdeal.nD Cert.AdaKernelIdeal.τ).loc Cert.AdaKernelIdeal.main_v13)) (v1 : (c : Dev Cert.AdaKernelIdeal.nD) → Buf (Elt Ideal) ((c.tc : Thread Cert.AdaKernelIdeal.nD Cert.AdaKernelIdeal.τ).loc Cert.AdaKernelIdeal.main_v12_0)) (v2 : (c : Dev Cert.AdaKernelIdeal.nD) → Buf (Elt Ideal) ((c.tc : Thread Cert.AdaKernelIdeal.nD Cert.AdaKernelIdeal.τ).loc Cert.AdaKernelIdeal.main_v12_1)) (v3 : (c : Dev Cert.AdaKernelIdeal.nD) → Buf (Elt Ideal) ((c.tc : Thread Cert.AdaKernelIdeal.nD Cert.AdaKernelIdeal.τ).loc Cert.AdaKernelIdeal.main_v12_2)) (v4 : (c : Dev Cert.AdaKernelIdeal.nD) → Buf (Elt Ideal) ((c.tc : Thread Cert.AdaKernelIdeal.nD Cert.AdaKernelIdeal.τ).loc Cert.AdaKernelIdeal.main_v12_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v13) = v0 c
          ∧ r.2.mem ((c.tc : Thread Cert.AdaKernelIdeal.nD Cert.AdaKernelIdeal.τ).loc Cert.AdaKernelIdeal.main_v12_0) = v1 c
          ∧ r.2.mem ((c.tc : Thread Cert.AdaKernelIdeal.nD Cert.AdaKernelIdeal.τ).loc Cert.AdaKernelIdeal.main_v12_1) = v2 c
          ∧ r.2.mem ((c.tc : Thread Cert.AdaKernelIdeal.nD Cert.AdaKernelIdeal.τ).loc Cert.AdaKernelIdeal.main_v12_2) = v3 c
          ∧ r.2.mem ((c.tc : Thread Cert.AdaKernelIdeal.nD Cert.AdaKernelIdeal.τ).loc Cert.AdaKernelIdeal.main_v12_3) = v4 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4)
          ∧ r.2.mem ((c.tc : Thread Cert.AdaKernelIdeal.nD Cert.AdaKernelIdeal.τ).loc Cert.AdaKernelIdeal.main_arg5) = m ((c.tc : Thread Cert.AdaKernelIdeal.nD Cert.AdaKernelIdeal.τ).loc Cert.AdaKernelIdeal.main_arg5)
          ∧ r.2.mem ((c.tc : Thread Cert.AdaKernelIdeal.nD Cert.AdaKernelIdeal.τ).loc Cert.AdaKernelIdeal.main_arg6) = m ((c.tc : Thread Cert.AdaKernelIdeal.nD Cert.AdaKernelIdeal.τ).loc Cert.AdaKernelIdeal.main_arg6)
          ∧ r.2.mem ((c.tc : Thread Cert.AdaKernelIdeal.nD Cert.AdaKernelIdeal.τ).loc Cert.AdaKernelIdeal.main_arg7) = m ((c.tc : Thread Cert.AdaKernelIdeal.nD Cert.AdaKernelIdeal.τ).loc Cert.AdaKernelIdeal.main_arg7))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v25) = v0 c
          ∧ r.2.mem ((c.tc : Thread Cert.AdaReferenceIdeal.nD Cert.AdaReferenceIdeal.τ).loc Cert.AdaReferenceIdeal.main_v6) = v1 c
          ∧ r.2.mem ((c.tc : Thread Cert.AdaReferenceIdeal.nD Cert.AdaReferenceIdeal.τ).loc Cert.AdaReferenceIdeal.main_v49) = v2 c
          ∧ r.2.mem ((c.tc : Thread Cert.AdaReferenceIdeal.nD Cert.AdaReferenceIdeal.τ).loc Cert.AdaReferenceIdeal.main_v30) = v3 c
          ∧ r.2.mem ((c.tc : Thread Cert.AdaReferenceIdeal.nD Cert.AdaReferenceIdeal.τ).loc Cert.AdaReferenceIdeal.main_v36) = v4 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4)
          ∧ r.2.mem ((c.tc : Thread Cert.AdaReferenceIdeal.nD Cert.AdaReferenceIdeal.τ).loc Cert.AdaReferenceIdeal.main_arg5) = m' ((c.tc : Thread Cert.AdaReferenceIdeal.nD Cert.AdaReferenceIdeal.τ).loc Cert.AdaReferenceIdeal.main_arg5)
          ∧ r.2.mem ((c.tc : Thread Cert.AdaReferenceIdeal.nD Cert.AdaReferenceIdeal.τ).loc Cert.AdaReferenceIdeal.main_arg6) = m' ((c.tc : Thread Cert.AdaReferenceIdeal.nD Cert.AdaReferenceIdeal.τ).loc Cert.AdaReferenceIdeal.main_arg6)
          ∧ r.2.mem ((c.tc : Thread Cert.AdaReferenceIdeal.nD Cert.AdaReferenceIdeal.τ).loc Cert.AdaReferenceIdeal.main_arg7) = m' ((c.tc : Thread Cert.AdaReferenceIdeal.nD Cert.AdaReferenceIdeal.τ).loc Cert.AdaReferenceIdeal.main_arg7))

def preserves_OptKernel_OptKernelIdeal : Prop :=
  True

def algebraic_OptKernelIdeal_OptReferenceIdeal [hOptKernelIdeal : Cert.OptKernelIdeal.Facts] [hOptReferenceIdeal : Cert.OptReferenceIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptReferenceIdeal.nD Cert.OptReferenceIdeal.τ Cert.OptReferenceIdeal.sig) → Buf (Elt Ideal) ℓ) (g' : Dev Cert.OptReferenceIdeal.nD → PrngReg), Pre_OptKernelIdeal m →
    (∀ c : Dev Cert.OptKernelIdeal.nD,
      m' ((c.tc : Thread Cert.OptReferenceIdeal.nD Cert.OptReferenceIdeal.τ).loc Cert.OptReferenceIdeal.main_arg0) = m ((c.tc : Thread Cert.OptKernelIdeal.nD Cert.OptKernelIdeal.τ).loc Cert.OptKernelIdeal.main_arg0)
      ∧ m' ((c.tc : Thread Cert.OptReferenceIdeal.nD Cert.OptReferenceIdeal.τ).loc Cert.OptReferenceIdeal.main_arg1) = m ((c.tc : Thread Cert.OptKernelIdeal.nD Cert.OptKernelIdeal.τ).loc Cert.OptKernelIdeal.main_arg1)
      ∧ m' ((c.tc : Thread Cert.OptReferenceIdeal.nD Cert.OptReferenceIdeal.τ).loc Cert.OptReferenceIdeal.main_arg2) = m ((c.tc : Thread Cert.OptKernelIdeal.nD Cert.OptKernelIdeal.τ).loc Cert.OptKernelIdeal.main_arg2)
      ∧ m' ((c.tc : Thread Cert.OptReferenceIdeal.nD Cert.OptReferenceIdeal.τ).loc Cert.OptReferenceIdeal.main_arg3) = m ((c.tc : Thread Cert.OptKernelIdeal.nD Cert.OptKernelIdeal.τ).loc Cert.OptKernelIdeal.main_arg3)
      ∧ m' ((c.tc : Thread Cert.OptReferenceIdeal.nD Cert.OptReferenceIdeal.τ).loc Cert.OptReferenceIdeal.main_arg4) = m ((c.tc : Thread Cert.OptKernelIdeal.nD Cert.OptKernelIdeal.τ).loc Cert.OptKernelIdeal.main_arg4)
      ∧ m' ((c.tc : Thread Cert.OptReferenceIdeal.nD Cert.OptReferenceIdeal.τ).loc Cert.OptReferenceIdeal.main_arg5) = m ((c.tc : Thread Cert.OptKernelIdeal.nD Cert.OptKernelIdeal.τ).loc Cert.OptKernelIdeal.main_arg5)
      ∧ m' ((c.tc : Thread Cert.OptReferenceIdeal.nD Cert.OptReferenceIdeal.τ).loc Cert.OptReferenceIdeal.main_arg6) = m ((c.tc : Thread Cert.OptKernelIdeal.nD Cert.OptKernelIdeal.τ).loc Cert.OptKernelIdeal.main_arg6)
      ∧ m' ((c.tc : Thread Cert.OptReferenceIdeal.nD Cert.OptReferenceIdeal.τ).loc Cert.OptReferenceIdeal.main_arg7) = m ((c.tc : Thread Cert.OptKernelIdeal.nD Cert.OptKernelIdeal.τ).loc Cert.OptKernelIdeal.main_arg7)
      ∧ m' ((c.tc : Thread Cert.OptReferenceIdeal.nD Cert.OptReferenceIdeal.τ).loc Cert.OptReferenceIdeal.main_arg8) = m ((c.tc : Thread Cert.OptKernelIdeal.nD Cert.OptKernelIdeal.τ).loc Cert.OptKernelIdeal.main_arg8)
      ∧ m' ((c.tc : Thread Cert.OptReferenceIdeal.nD Cert.OptReferenceIdeal.τ).loc Cert.OptReferenceIdeal.main_arg9) = m ((c.tc : Thread Cert.OptKernelIdeal.nD Cert.OptKernelIdeal.τ).loc Cert.OptKernelIdeal.main_arg9)
      ∧ m' ((c.tc : Thread Cert.OptReferenceIdeal.nD Cert.OptReferenceIdeal.τ).loc Cert.OptReferenceIdeal.main_arg10) = m ((c.tc : Thread Cert.OptKernelIdeal.nD Cert.OptKernelIdeal.τ).loc Cert.OptKernelIdeal.main_arg10)
      ∧ m' ((c.tc : Thread Cert.OptReferenceIdeal.nD Cert.OptReferenceIdeal.τ).loc Cert.OptReferenceIdeal.main_arg11) = m ((c.tc : Thread Cert.OptKernelIdeal.nD Cert.OptKernelIdeal.τ).loc Cert.OptKernelIdeal.main_arg11)) →
    ∃ (v0 : (c : Dev Cert.OptKernelIdeal.nD) → Buf (Elt Ideal) ((c.tc : Thread Cert.OptKernelIdeal.nD Cert.OptKernelIdeal.τ).loc Cert.OptKernelIdeal.main_v19_0)) (v1 : (c : Dev Cert.OptKernelIdeal.nD) → Buf (Elt Ideal) ((c.tc : Thread Cert.OptKernelIdeal.nD Cert.OptKernelIdeal.τ).loc Cert.OptKernelIdeal.main_v19_1)) (v2 : (c : Dev Cert.OptKernelIdeal.nD) → Buf (Elt Ideal) ((c.tc : Thread Cert.OptKernelIdeal.nD Cert.OptKernelIdeal.τ).loc Cert.OptKernelIdeal.main_v19_2)) (v3 : (c : Dev Cert.OptKernelIdeal.nD) → Buf (Elt Ideal) ((c.tc : Thread Cert.OptKernelIdeal.nD Cert.OptKernelIdeal.τ).loc Cert.OptKernelIdeal.main_v19_3)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v19_0) = v0 c
          ∧ r.2.mem ((c.tc : Thread Cert.OptKernelIdeal.nD Cert.OptKernelIdeal.τ).loc Cert.OptKernelIdeal.main_v19_1) = v1 c
          ∧ r.2.mem ((c.tc : Thread Cert.OptKernelIdeal.nD Cert.OptKernelIdeal.τ).loc Cert.OptKernelIdeal.main_v19_2) = v2 c
          ∧ r.2.mem ((c.tc : Thread Cert.OptKernelIdeal.nD Cert.OptKernelIdeal.τ).loc Cert.OptKernelIdeal.main_v19_3) = v3 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
          ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
          ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
          ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
          ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
          ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
          ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9)
          ∧ r.2.mem ((c.tc : Thread Cert.OptKernelIdeal.nD Cert.OptKernelIdeal.τ).loc Cert.OptKernelIdeal.main_arg10) = m ((c.tc : Thread Cert.OptKernelIdeal.nD Cert.OptKernelIdeal.τ).loc Cert.OptKernelIdeal.main_arg10)
          ∧ r.2.mem ((c.tc : Thread Cert.OptKernelIdeal.nD Cert.OptKernelIdeal.τ).loc Cert.OptKernelIdeal.main_arg11) = m ((c.tc : Thread Cert.OptKernelIdeal.nD Cert.OptKernelIdeal.τ).loc Cert.OptKernelIdeal.main_arg11))
      ∧ θ_run (Cert.OptReferenceIdeal.defs (F := Ideal)) (onTc (τ := Cert.OptReferenceIdeal.τ) (Cert.OptReferenceIdeal.main (F := Ideal))) ⟨m', fun _ => 0, g'⟩ (fun r => ∀ c : Dev Cert.OptReferenceIdeal.nD,
          r.2.mem ((c.tc : Thread Cert.OptReferenceIdeal.nD Cert.OptReferenceIdeal.τ).loc Cert.OptReferenceIdeal.main_v82) = v0 c
          ∧ r.2.mem ((c.tc : Thread Cert.OptReferenceIdeal.nD Cert.OptReferenceIdeal.τ).loc Cert.OptReferenceIdeal.main_v85) = v1 c
          ∧ r.2.mem ((c.tc : Thread Cert.OptReferenceIdeal.nD Cert.OptReferenceIdeal.τ).loc Cert.OptReferenceIdeal.main_v88) = v2 c
          ∧ r.2.mem ((c.tc : Thread Cert.OptReferenceIdeal.nD Cert.OptReferenceIdeal.τ).loc Cert.OptReferenceIdeal.main_v91) = v3 c
          ∧ r.2.mem ((c.tc : Thread Cert.OptReferenceIdeal.nD Cert.OptReferenceIdeal.τ).loc Cert.OptReferenceIdeal.main_arg0) = m' ((c.tc : Thread Cert.OptReferenceIdeal.nD Cert.OptReferenceIdeal.τ).loc Cert.OptReferenceIdeal.main_arg0)
          ∧ r.2.mem ((c.tc : Thread Cert.OptReferenceIdeal.nD Cert.OptReferenceIdeal.τ).loc Cert.OptReferenceIdeal.main_arg1) = m' ((c.tc : Thread Cert.OptReferenceIdeal.nD Cert.OptReferenceIdeal.τ).loc Cert.OptReferenceIdeal.main_arg1)
          ∧ r.2.mem ((c.tc : Thread Cert.OptReferenceIdeal.nD Cert.OptReferenceIdeal.τ).loc Cert.OptReferenceIdeal.main_arg2) = m' ((c.tc : Thread Cert.OptReferenceIdeal.nD Cert.OptReferenceIdeal.τ).loc Cert.OptReferenceIdeal.main_arg2)
          ∧ r.2.mem ((c.tc : Thread Cert.OptReferenceIdeal.nD Cert.OptReferenceIdeal.τ).loc Cert.OptReferenceIdeal.main_arg3) = m' ((c.tc : Thread Cert.OptReferenceIdeal.nD Cert.OptReferenceIdeal.τ).loc Cert.OptReferenceIdeal.main_arg3)
          ∧ r.2.mem ((c.tc : Thread Cert.OptReferenceIdeal.nD Cert.OptReferenceIdeal.τ).loc Cert.OptReferenceIdeal.main_arg4) = m' ((c.tc : Thread Cert.OptReferenceIdeal.nD Cert.OptReferenceIdeal.τ).loc Cert.OptReferenceIdeal.main_arg4)
          ∧ r.2.mem ((c.tc : Thread Cert.OptReferenceIdeal.nD Cert.OptReferenceIdeal.τ).loc Cert.OptReferenceIdeal.main_arg5) = m' ((c.tc : Thread Cert.OptReferenceIdeal.nD Cert.OptReferenceIdeal.τ).loc Cert.OptReferenceIdeal.main_arg5)
          ∧ r.2.mem ((c.tc : Thread Cert.OptReferenceIdeal.nD Cert.OptReferenceIdeal.τ).loc Cert.OptReferenceIdeal.main_arg6) = m' ((c.tc : Thread Cert.OptReferenceIdeal.nD Cert.OptReferenceIdeal.τ).loc Cert.OptReferenceIdeal.main_arg6)
          ∧ r.2.mem ((c.tc : Thread Cert.OptReferenceIdeal.nD Cert.OptReferenceIdeal.τ).loc Cert.OptReferenceIdeal.main_arg7) = m' ((c.tc : Thread Cert.OptReferenceIdeal.nD Cert.OptReferenceIdeal.τ).loc Cert.OptReferenceIdeal.main_arg7)
          ∧ r.2.mem ((c.tc : Thread Cert.OptReferenceIdeal.nD Cert.OptReferenceIdeal.τ).loc Cert.OptReferenceIdeal.main_arg8) = m' ((c.tc : Thread Cert.OptReferenceIdeal.nD Cert.OptReferenceIdeal.τ).loc Cert.OptReferenceIdeal.main_arg8)
          ∧ r.2.mem ((c.tc : Thread Cert.OptReferenceIdeal.nD Cert.OptReferenceIdeal.τ).loc Cert.OptReferenceIdeal.main_arg9) = m' ((c.tc : Thread Cert.OptReferenceIdeal.nD Cert.OptReferenceIdeal.τ).loc Cert.OptReferenceIdeal.main_arg9)
          ∧ r.2.mem ((c.tc : Thread Cert.OptReferenceIdeal.nD Cert.OptReferenceIdeal.τ).loc Cert.OptReferenceIdeal.main_arg10) = m' ((c.tc : Thread Cert.OptReferenceIdeal.nD Cert.OptReferenceIdeal.τ).loc Cert.OptReferenceIdeal.main_arg10)
          ∧ r.2.mem ((c.tc : Thread Cert.OptReferenceIdeal.nD Cert.OptReferenceIdeal.τ).loc Cert.OptReferenceIdeal.main_arg11) = m' ((c.tc : Thread Cert.OptReferenceIdeal.nD Cert.OptReferenceIdeal.τ).loc Cert.OptReferenceIdeal.main_arg11))

def preserves_MmKernel_MmKernelIdeal : Prop :=
  True

def algebraic_MmKernelIdeal_MmReferenceIdeal [hMmKernelIdeal : Cert.MmKernelIdeal.Facts] [hMmReferenceIdeal : Cert.MmReferenceIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmKernelIdeal m →
    (∀ c : Dev Cert.MmKernelIdeal.nD,
      m' ((c.tc : Thread Cert.MmReferenceIdeal.nD Cert.MmReferenceIdeal.τ).loc Cert.MmReferenceIdeal.main_arg0) = m ((c.tc : Thread Cert.MmKernelIdeal.nD Cert.MmKernelIdeal.τ).loc Cert.MmKernelIdeal.main_arg0)
      ∧ m' ((c.tc : Thread Cert.MmReferenceIdeal.nD Cert.MmReferenceIdeal.τ).loc Cert.MmReferenceIdeal.main_arg1) = m ((c.tc : Thread Cert.MmKernelIdeal.nD Cert.MmKernelIdeal.τ).loc Cert.MmKernelIdeal.main_arg1)) →
    ∃ (v0 : (c : Dev Cert.MmKernelIdeal.nD) → Buf (Elt Ideal) ((c.tc : Thread Cert.MmKernelIdeal.nD Cert.MmKernelIdeal.τ).loc Cert.MmKernelIdeal.main_v12)),
      θ_run (Cert.MmKernelIdeal.defs (F := Ideal)) (onTc (τ := Cert.MmKernelIdeal.τ) (Cert.MmKernelIdeal.main (F := Ideal))) ⟨m, fun _ => 0, g⟩ (fun r => ∀ c : Dev Cert.MmKernelIdeal.nD,
          r.2.mem ((c.tc : Thread Cert.MmKernelIdeal.nD Cert.MmKernelIdeal.τ).loc Cert.MmKernelIdeal.main_v12) = v0 c
          ∧ r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
          ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v7) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def Claim : Prop :=
  ∃ (hGateKernel : Cert.GateKernel.Facts) (hGateKernelIdeal : Cert.GateKernelIdeal.Facts) (hGateReferenceIdeal : Cert.GateReferenceIdeal.Facts) (hSbKernel : Cert.SbKernel.Facts) (hSbKernelIdeal : Cert.SbKernelIdeal.Facts) (hSbReferenceIdeal : Cert.SbReferenceIdeal.Facts) (hSbfKernel : Cert.SbfKernel.Facts) (hSbfKernelIdeal : Cert.SbfKernelIdeal.Facts) (hSbfReferenceIdeal : Cert.SbfReferenceIdeal.Facts) (hFinalKernel : Cert.FinalKernel.Facts) (hFinalKernelIdeal : Cert.FinalKernelIdeal.Facts) (hFinalReferenceIdeal : Cert.FinalReferenceIdeal.Facts) (hGnormKernel : Cert.GnormKernel.Facts) (hGnormKernelIdeal : Cert.GnormKernelIdeal.Facts) (hGnormReferenceIdeal : Cert.GnormReferenceIdeal.Facts) (hDactKernel : Cert.DactKernel.Facts) (hDactKernelIdeal : Cert.DactKernelIdeal.Facts) (hDactReferenceIdeal : Cert.DactReferenceIdeal.Facts) (hDgffnKernel : Cert.DgffnKernel.Facts) (hDgffnKernelIdeal : Cert.DgffnKernelIdeal.Facts) (hDgffnReferenceIdeal : Cert.DgffnReferenceIdeal.Facts) (hDgmixKernel : Cert.DgmixKernel.Facts) (hDgmixKernelIdeal : Cert.DgmixKernelIdeal.Facts) (hDgmixReferenceIdeal : Cert.DgmixReferenceIdeal.Facts) (hConvKernel : Cert.ConvKernel.Facts) (hConvKernelIdeal : Cert.ConvKernelIdeal.Facts) (hConvReferenceIdeal : Cert.ConvReferenceIdeal.Facts) (hModKernel : Cert.ModKernel.Facts) (hModKernelIdeal : Cert.ModKernelIdeal.Facts) (hModReferenceIdeal : Cert.ModReferenceIdeal.Facts) (hGnfKernel : Cert.GnfKernel.Facts) (hGnfKernelIdeal : Cert.GnfKernelIdeal.Facts) (hGnfReferenceIdeal : Cert.GnfReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hAdaKernel : Cert.AdaKernel.Facts) (hAdaKernelIdeal : Cert.AdaKernelIdeal.Facts) (hAdaReferenceIdeal : Cert.AdaReferenceIdeal.Facts) (hOptKernel : Cert.OptKernel.Facts) (hOptKernelIdeal : Cert.OptKernelIdeal.Facts) (hOptReferenceIdeal : Cert.OptReferenceIdeal.Facts) (hMmKernel : Cert.MmKernel.Facts) (hMmKernelIdeal : Cert.MmKernelIdeal.Facts) (hMmReferenceIdeal : Cert.MmReferenceIdeal.Facts) (hPre_sb_finite : Cert.Pre_sb_finite.Facts) (hPre_sbf_finite : Cert.Pre_sbf_finite.Facts) (hPre_final_finite : Cert.Pre_final_finite.Facts) (hPre_gnorm_finite : Cert.Pre_gnorm_finite.Facts) (hPre_dact_finite : Cert.Pre_dact_finite.Facts) (hPre_dgffn_finite : Cert.Pre_dgffn_finite.Facts) (hPre_dgmix_finite : Cert.Pre_dgmix_finite.Facts) (hPre_conv_finite : Cert.Pre_conv_finite.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_SbfKernel (hSbfKernel := hSbfKernel)
    ∧ quiescent_SbfKernelIdeal (hSbfKernelIdeal := hSbfKernelIdeal)
    ∧ quiescent_SbfKernelIdeal_pre_sbf_finite (hSbfKernelIdeal := hSbfKernelIdeal) (hPre_sbf_finite := hPre_sbf_finite)
    ∧ quiescent_SbfReferenceIdeal (hSbfReferenceIdeal := hSbfReferenceIdeal)
    ∧ quiescent_SbfReferenceIdeal_pre_sbf_finite (hSbfReferenceIdeal := hSbfReferenceIdeal) (hPre_sbf_finite := hPre_sbf_finite)
    ∧ quiescent_FinalKernel (hFinalKernel := hFinalKernel)
    ∧ quiescent_FinalKernelIdeal (hFinalKernelIdeal := hFinalKernelIdeal)
    ∧ quiescent_FinalKernelIdeal_pre_final_finite (hFinalKernelIdeal := hFinalKernelIdeal) (hPre_final_finite := hPre_final_finite)
    ∧ quiescent_FinalReferenceIdeal (hFinalReferenceIdeal := hFinalReferenceIdeal)
    ∧ quiescent_FinalReferenceIdeal_pre_final_finite (hFinalReferenceIdeal := hFinalReferenceIdeal) (hPre_final_finite := hPre_final_finite)
    ∧ quiescent_GnormKernel (hGnormKernel := hGnormKernel)
    ∧ quiescent_GnormKernelIdeal (hGnormKernelIdeal := hGnormKernelIdeal)
    ∧ quiescent_GnormKernelIdeal_pre_gnorm_finite (hGnormKernelIdeal := hGnormKernelIdeal) (hPre_gnorm_finite := hPre_gnorm_finite)
    ∧ quiescent_GnormReferenceIdeal (hGnormReferenceIdeal := hGnormReferenceIdeal)
    ∧ quiescent_GnormReferenceIdeal_pre_gnorm_finite (hGnormReferenceIdeal := hGnormReferenceIdeal) (hPre_gnorm_finite := hPre_gnorm_finite)
    ∧ quiescent_DactKernel (hDactKernel := hDactKernel)
    ∧ quiescent_DactKernelIdeal (hDactKernelIdeal := hDactKernelIdeal)
    ∧ quiescent_DactKernelIdeal_pre_dact_finite (hDactKernelIdeal := hDactKernelIdeal) (hPre_dact_finite := hPre_dact_finite)
    ∧ quiescent_DactReferenceIdeal (hDactReferenceIdeal := hDactReferenceIdeal)
    ∧ quiescent_DactReferenceIdeal_pre_dact_finite (hDactReferenceIdeal := hDactReferenceIdeal) (hPre_dact_finite := hPre_dact_finite)
    ∧ quiescent_DgffnKernel (hDgffnKernel := hDgffnKernel)
    ∧ quiescent_DgffnKernelIdeal (hDgffnKernelIdeal := hDgffnKernelIdeal)
    ∧ quiescent_DgffnKernelIdeal_pre_dgffn_finite (hDgffnKernelIdeal := hDgffnKernelIdeal) (hPre_dgffn_finite := hPre_dgffn_finite)
    ∧ quiescent_DgffnReferenceIdeal (hDgffnReferenceIdeal := hDgffnReferenceIdeal)
    ∧ quiescent_DgffnReferenceIdeal_pre_dgffn_finite (hDgffnReferenceIdeal := hDgffnReferenceIdeal) (hPre_dgffn_finite := hPre_dgffn_finite)
    ∧ quiescent_DgmixKernel (hDgmixKernel := hDgmixKernel)
    ∧ quiescent_DgmixKernelIdeal (hDgmixKernelIdeal := hDgmixKernelIdeal)
    ∧ quiescent_DgmixKernelIdeal_pre_dgmix_finite (hDgmixKernelIdeal := hDgmixKernelIdeal) (hPre_dgmix_finite := hPre_dgmix_finite)
    ∧ quiescent_DgmixReferenceIdeal (hDgmixReferenceIdeal := hDgmixReferenceIdeal)
    ∧ quiescent_DgmixReferenceIdeal_pre_dgmix_finite (hDgmixReferenceIdeal := hDgmixReferenceIdeal) (hPre_dgmix_finite := hPre_dgmix_finite)
    ∧ quiescent_ConvKernel (hConvKernel := hConvKernel)
    ∧ quiescent_ConvKernelIdeal (hConvKernelIdeal := hConvKernelIdeal)
    ∧ quiescent_ConvKernelIdeal_pre_conv_finite (hConvKernelIdeal := hConvKernelIdeal) (hPre_conv_finite := hPre_conv_finite)
    ∧ quiescent_ConvReferenceIdeal (hConvReferenceIdeal := hConvReferenceIdeal)
    ∧ quiescent_ConvReferenceIdeal_pre_conv_finite (hConvReferenceIdeal := hConvReferenceIdeal) (hPre_conv_finite := hPre_conv_finite)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_GnfKernel (hGnfKernel := hGnfKernel)
    ∧ quiescent_GnfKernelIdeal (hGnfKernelIdeal := hGnfKernelIdeal)
    ∧ quiescent_GnfReferenceIdeal (hGnfReferenceIdeal := hGnfReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_OptKernel (hOptKernel := hOptKernel)
    ∧ quiescent_OptKernelIdeal (hOptKernelIdeal := hOptKernelIdeal)
    ∧ quiescent_OptReferenceIdeal (hOptReferenceIdeal := hOptReferenceIdeal)
    ∧ quiescent_MmKernel (hMmKernel := hMmKernel)
    ∧ quiescent_MmKernelIdeal (hMmKernelIdeal := hMmKernelIdeal)
    ∧ quiescent_MmReferenceIdeal (hMmReferenceIdeal := hMmReferenceIdeal)
    ∧ preserves_GateKernel_GateKernelIdeal
    ∧ algebraic_GateKernelIdeal_GateReferenceIdeal (hGateKernelIdeal := hGateKernelIdeal) (hGateReferenceIdeal := hGateReferenceIdeal)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_SbfKernel_SbfKernelIdeal
    ∧ algebraic_SbfKernelIdeal_SbfReferenceIdeal_pre_sbf_finite (hSbfKernelIdeal := hSbfKernelIdeal) (hSbfReferenceIdeal := hSbfReferenceIdeal) (hPre_sbf_finite := hPre_sbf_finite)
    ∧ preserves_FinalKernel_FinalKernelIdeal
    ∧ algebraic_FinalKernelIdeal_FinalReferenceIdeal_pre_final_finite (hFinalKernelIdeal := hFinalKernelIdeal) (hFinalReferenceIdeal := hFinalReferenceIdeal) (hPre_final_finite := hPre_final_finite)
    ∧ preserves_GnormKernel_GnormKernelIdeal
    ∧ algebraic_GnormKernelIdeal_GnormReferenceIdeal_pre_gnorm_finite (hGnormKernelIdeal := hGnormKernelIdeal) (hGnormReferenceIdeal := hGnormReferenceIdeal) (hPre_gnorm_finite := hPre_gnorm_finite)
    ∧ preserves_DactKernel_DactKernelIdeal
    ∧ algebraic_DactKernelIdeal_DactReferenceIdeal_pre_dact_finite (hDactKernelIdeal := hDactKernelIdeal) (hDactReferenceIdeal := hDactReferenceIdeal) (hPre_dact_finite := hPre_dact_finite)
    ∧ preserves_DgffnKernel_DgffnKernelIdeal
    ∧ algebraic_DgffnKernelIdeal_DgffnReferenceIdeal_pre_dgffn_finite (hDgffnKernelIdeal := hDgffnKernelIdeal) (hDgffnReferenceIdeal := hDgffnReferenceIdeal) (hPre_dgffn_finite := hPre_dgffn_finite)
    ∧ preserves_DgmixKernel_DgmixKernelIdeal
    ∧ algebraic_DgmixKernelIdeal_DgmixReferenceIdeal_pre_dgmix_finite (hDgmixKernelIdeal := hDgmixKernelIdeal) (hDgmixReferenceIdeal := hDgmixReferenceIdeal) (hPre_dgmix_finite := hPre_dgmix_finite)
    ∧ preserves_ConvKernel_ConvKernelIdeal
    ∧ algebraic_ConvKernelIdeal_ConvReferenceIdeal_pre_conv_finite (hConvKernelIdeal := hConvKernelIdeal) (hConvReferenceIdeal := hConvReferenceIdeal) (hPre_conv_finite := hPre_conv_finite)
    ∧ preserves_ModKernel_ModKernelIdeal
    ∧ algebraic_ModKernelIdeal_ModReferenceIdeal (hModKernelIdeal := hModKernelIdeal) (hModReferenceIdeal := hModReferenceIdeal)
    ∧ preserves_GnfKernel_GnfKernelIdeal
    ∧ algebraic_GnfKernelIdeal_GnfReferenceIdeal (hGnfKernelIdeal := hGnfKernelIdeal) (hGnfReferenceIdeal := hGnfReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_OptKernel_OptKernelIdeal
    ∧ algebraic_OptKernelIdeal_OptReferenceIdeal (hOptKernelIdeal := hOptKernelIdeal) (hOptReferenceIdeal := hOptReferenceIdeal)
    ∧ preserves_MmKernel_MmKernelIdeal
    ∧ algebraic_MmKernelIdeal_MmReferenceIdeal (hMmKernelIdeal := hMmKernelIdeal) (hMmReferenceIdeal := hMmReferenceIdeal)
-- ==== Pre_conv_finite.lean ====
abbrev S8192x5128 : Shape := ⟨2, ![8192, 5128]⟩
abbrev S4x1024 : Shape := ⟨2, ![4, 1024]⟩
abbrev S1024 : Shape := ⟨1, ![1024]⟩
abbrev S8192x1024 : Shape := ⟨2, ![8192, 1024]⟩
abbrev S1x1024 : Shape := ⟨2, ![1, 1024]⟩
abbrev S16389x1024 : Shape := ⟨2, ![16389, 1024]⟩
abbrev S_ : Shape := ⟨0, ![]⟩

class Facts : Prop where
  slices_S8192x5128_S8192x1024_0_4096 : S8192x5128.Slices ![0, 4096] S8192x1024
  shapeCasts_S1024_S1x1024 : S1024.ShapeCasts S1x1024
  concatenates_S8192x1024_S8192x1024_S4x1024_S1x1024_S16389x1024_d0 : Shape.Concatenates [S8192x1024, S8192x1024, S4x1024, S1x1024] S16389x1024 0
  bcast_S_S16389x1024 : S_.BroadcastsInDim S16389x1024 (![] : Fin 0 → Fin S16389x1024.rank)

variable [Facts]

def fn {F : FTy → Type} [FloatOps F] (main_arg0 : FVec F S8192x5128 .f32) (main_arg1 : FVec F S4x1024 .f32) (main_arg2 : FVec F S1024 .f32) (main_arg3 : FVec F S8192x1024 .f32) : IVec S16389x1024 1 :=
  let main_v0 : FVec F S8192x1024 .f32 := (extractStridedSlice S8192x1024 ![0, 4096] · slices_S8192x5128_S8192x1024_0_4096) main_arg0
  let main_v1 : FVec F S1x1024 .f32 := shapeCast S1x1024 main_arg2 shapeCasts_S1024_S1x1024
  let main_v2 : FVec F S16389x1024 .f32 := concatenate S16389x1024 0 [⟨S8192x1024, main_v0⟩, ⟨S8192x1024, main_arg3⟩, ⟨S4x1024, main_arg1⟩, ⟨S1x1024, main_v1⟩] concatenates_S8192x1024_S8192x1024_S4x1024_S1x1024_S16389x1024_d0
  let main_v3 : FVec F S16389x1024 .f32 := Host.absf main_v2
  let main_cst : FVec F S_ .f32 := constant S_ .f32 0x7F800000#32
  let main_v4 : FVec F S16389x1024 .f32 := broadcastInDim S16389x1024 ![] bcast_S_S16389x1024 main_cst
  let main_v5 : IVec S16389x1024 1 := cmpf .olt main_v3 main_v4
  main_v5
-- ==== Pre_dact_finite.lean ====
abbrev S8192x1024 : Shape := ⟨2, ![8192, 1024]⟩
abbrev S2816x1024 : Shape := ⟨2, ![2816, 1024]⟩
abbrev S8192x2816 : Shape := ⟨2, ![8192, 2816]⟩
abbrev S8192x6656 : Shape := ⟨2, ![8192, 6656]⟩
abbrev S_ : Shape := ⟨0, ![]⟩
abbrev S2816x5632 : Shape := ⟨2, ![2816, 5632]⟩
abbrev S2816x6656 : Shape := ⟨2, ![2816, 6656]⟩
abbrev S11008x6656 : Shape := ⟨2, ![11008, 6656]⟩

class Facts : Prop where
  bitsLt_bf16_f32 : FTy.bits .bf16 < FTy.bits .f32
  concatenates_S8192x1024_S8192x2816_S8192x2816_S8192x6656_d1 : Shape.Concatenates [S8192x1024, S8192x2816, S8192x2816] S8192x6656 1
  bcast_S_S2816x5632 : S_.BroadcastsInDim S2816x5632 (![] : Fin 0 → Fin S2816x5632.rank)
  concatenates_S2816x1024_S2816x5632_S2816x6656_d1 : Shape.Concatenates [S2816x1024, S2816x5632] S2816x6656 1
  concatenates_S8192x6656_S2816x6656_S11008x6656_d0 : Shape.Concatenates [S8192x6656, S2816x6656] S11008x6656 0
  bcast_S_S11008x6656 : S_.BroadcastsInDim S11008x6656 (![] : Fin 0 → Fin S11008x6656.rank)

variable [Facts]

def fn {F : FTy → Type} [FloatOps F] (main_arg0 : FVec F S8192x1024 .bf16) (main_arg1 : FVec F S2816x1024 .f32) (main_arg2 : FVec F S8192x2816 .bf16) (main_arg3 : FVec F S8192x2816 .bf16) : IVec S11008x6656 1 :=
  let main_v0 : FVec F S8192x1024 .f32 := (extf .f32 · bitsLt_bf16_f32) main_arg0
  let main_v1 : FVec F S8192x2816 .f32 := (extf .f32 · bitsLt_bf16_f32) main_arg2
  let main_v2 : FVec F S8192x2816 .f32 := (extf .f32 · bitsLt_bf16_f32) main_arg3
  let main_v3 : FVec F S8192x6656 .f32 := concatenate S8192x6656 1 [⟨S8192x1024, main_v0⟩, ⟨S8192x2816, main_v1⟩, ⟨S8192x2816, main_v2⟩] concatenates_S8192x1024_S8192x2816_S8192x2816_S8192x6656_d1
  let main_cst : FVec F S_ .f32 := constant S_ .f32 0x00000000#32
  let main_v4 : FVec F S2816x5632 .f32 := broadcastInDim S2816x5632 ![] bcast_S_S2816x5632 main_cst
  let main_v5 : FVec F S2816x6656 .f32 := (fun a b => concatenate S2816x6656 1 [⟨S2816x1024, a⟩, ⟨S2816x5632, b⟩] concatenates_S2816x1024_S2816x5632_S2816x6656_d1) main_arg1 main_v4
  let main_v6 : FVec F S11008x6656 .f32 := (fun a b => concatenate S11008x6656 0 [⟨S8192x6656, a⟩, ⟨S2816x6656, b⟩] concatenates_S8192x6656_S2816x6656_S11008x6656_d0) main_v3 main_v5
  let main_v7 : FVec F S11008x6656 .f32 := Host.absf main_v6
  let main_cst_0 : FVec F S_ .f32 := constant S_ .f32 0x7F800000#32
  let main_v8 : FVec F S11008x6656 .f32 := broadcastInDim S11008x6656 ![] bcast_S_S11008x6656 main_cst_0
  let main_v9 : IVec S11008x6656 1 := cmpf .olt main_v7 main_v8
  main_v9
-- ==== Pre_dgffn_finite.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S8192x6656 : Shape := ⟨2, ![8192, 6656]⟩
abbrev S1024x1024 : Shape := ⟨2, ![1024, 1024]⟩
abbrev S1024x6656 : Shape := ⟨2, ![1024, 6656]⟩
abbrev S_ : Shape := ⟨0, ![]⟩
abbrev S1x5632 : Shape := ⟨2, ![1, 5632]⟩
abbrev S1x6656 : Shape := ⟨2, ![1, 6656]⟩
abbrev S9217x6656 : Shape := ⟨2, ![9217, 6656]⟩

class Facts : Prop where
  bitsLt_bf16_f32 : FTy.bits .bf16 < FTy.bits .f32
  concatenates_S8192x2816_S8192x2816_S8192x1024_S8192x6656_d1 : Shape.Concatenates [S8192x2816, S8192x2816, S8192x1024] S8192x6656 1
  shapeCasts_S1024_S1x1024 : S1024.ShapeCasts S1x1024
  bcast_S1x1024_S1024x1024_0_1 : S1x1024.BroadcastsInDim S1024x1024 (![0, 1] : Fin 2 → Fin S1024x1024.rank)
  concatenates_S1024x2816_S1024x2816_S1024x1024_S1024x6656_d1 : Shape.Concatenates [S1024x2816, S1024x2816, S1024x1024] S1024x6656 1
  bcast_S_S1x5632 : S_.BroadcastsInDim S1x5632 (![] : Fin 0 → Fin S1x5632.rank)
  concatenates_S1x1024_S1x5632_S1x6656_d1 : Shape.Concatenates [S1x1024, S1x5632] S1x6656 1
  concatenates_S8192x6656_S1024x6656_S1x6656_S9217x6656_d0 : Shape.Concatenates [S8192x6656, S1024x6656, S1x6656] S9217x6656 0
  bcast_S_S9217x6656 : S_.BroadcastsInDim S9217x6656 (![] : Fin 0 → Fin S9217x6656.rank)

variable [Facts]

def fn {F : FTy → Type} [FloatOps F] (main_arg0 : FVec F S8192x2816 .bf16) (main_arg1 : FVec F S8192x2816 .bf16) (main_arg2 : FVec F S1024x2816 .f32) (main_arg3 : FVec F S1024x2816 .f32) (main_arg4 : FVec F S8192x1024 .f32) (main_arg5 : FVec F S1024 .f32) (main_arg6 : FVec F S1x1024 .f32) (main_arg7 : FVec F S8192x1024 .f32) : IVec S9217x6656 1 :=
  let main_v0 : FVec F S8192x2816 .f32 := (extf .f32 · bitsLt_bf16_f32) main_arg0
  let main_v1 : FVec F S8192x2816 .f32 := (extf .f32 · bitsLt_bf16_f32) main_arg1
  let main_v2 : FVec F S8192x6656 .f32 := concatenate S8192x6656 1 [⟨S8192x2816, main_v0⟩, ⟨S8192x2816, main_v1⟩, ⟨S8192x1024, main_arg4⟩] concatenates_S8192x2816_S8192x2816_S8192x1024_S8192x6656_d1
  let main_v3 : FVec F S1x1024 .f32 := shapeCast S1x1024 main_arg5 shapeCasts_S1024_S1x1024
  let main_v4 : FVec F S1024x1024 .f32 := broadcastInDim S1024x1024 ![0, 1] bcast_S1x1024_S1024x1024_0_1 main_v3
  let main_v5 : FVec F S1024x6656 .f32 := concatenate S1024x6656 1 [⟨S1024x2816, main_arg2⟩, ⟨S1024x2816, main_arg3⟩, ⟨S1024x1024, main_v4⟩] concatenates_S1024x2816_S1024x2816_S1024x1024_S1024x6656_d1
  let main_cst : FVec F S_ .f32 := constant S_ .f32 0x00000000#32
  let main_v6 : FVec F S1x5632 .f32 := broadcastInDim S1x5632 ![] bcast_S_S1x5632 main_cst
  let main_v7 : FVec F S1x6656 .f32 := (fun a b => concatenate S1x6656 1 [⟨S1x1024, a⟩, ⟨S1x5632, b⟩] concatenates_S1x1024_S1x5632_S1x6656_d1) main_arg6 main_v6
  let main_v8 : FVec F S9217x6656 .f32 := concatenate S9217x6656 0 [⟨S8192x6656, main_v2⟩, ⟨S1024x6656, main_v5⟩, ⟨S1x6656, main_v7⟩] concatenates_S8192x6656_S1024x6656_S1x6656_S9217x6656_d0
  let main_v9 : FVec F S9217x6656 .f32 := Host.absf main_v8
  let main_cst_0 : FVec F S_ .f32 := constant S_ .f32 0x7F800000#32
  let main_v10 : FVec F S9217x6656 .f32 := broadcastInDim S9217x6656 ![] bcast_S_S9217x6656 main_cst_0
  let main_v11 : IVec S9217x6656 1 := cmpf .olt main_v9 main_v10
  main_v11
-- ==== Pre_dgmix_finite.lean ====
abbrev S8192x5128 : Shape := ⟨2, ![8192, 5128]⟩
abbrev S1024x5128 : Shape := ⟨2, ![1024, 5128]⟩
abbrev S8192x1024 : Shape := ⟨2, ![8192, 1024]⟩
abbrev S1024 : Shape := ⟨1, ![1024]⟩
abbrev S1x1024 : Shape := ⟨2, ![1, 1024]⟩
abbrev S8192x6152 : Shape := ⟨2, ![8192, 6152]⟩
abbrev S1024x1024 : Shape := ⟨2, ![1024, 1024]⟩
abbrev S1024x6152 : Shape := ⟨2, ![1024, 6152]⟩
abbrev S_ : Shape := ⟨0, ![]⟩
abbrev S1x5128 : Shape := ⟨2, ![1, 5128]⟩
abbrev S1x6152 : Shape := ⟨2, ![1, 6152]⟩
abbrev S9217x6152 : Shape := ⟨2, ![9217, 6152]⟩

class Facts : Prop where
  concatenates_S8192x5128_S8192x1024_S8192x6152_d1 : Shape.Concatenates [S8192x5128, S8192x1024] S8192x6152 1
  shapeCasts_S1024_S1x1024 : S1024.ShapeCasts S1x1024
  bcast_S1x1024_S1024x1024_0_1 : S1x1024.BroadcastsInDim S1024x1024 (![0, 1] : Fin 2 → Fin S1024x1024.rank)
  concatenates_S1024x5128_S1024x1024_S1024x6152_d1 : Shape.Concatenates [S1024x5128, S1024x1024] S1024x6152 1
  bcast_S_S1x5128 : S_.BroadcastsInDim S1x5128 (![] : Fin 0 → Fin S1x5128.rank)
  concatenates_S1x1024_S1x5128_S1x6152_d1 : Shape.Concatenates [S1x1024, S1x5128] S1x6152 1
  concatenates_S8192x6152_S1024x6152_S1x6152_S9217x6152_d0 : Shape.Concatenates [S8192x6152, S1024x6152, S1x6152] S9217x6152 0
  bcast_S_S9217x6152 : S_.BroadcastsInDim S9217x6152 (![] : Fin 0 → Fin S9217x6152.rank)

variable [Facts]

def fn {F : FTy → Type} [FloatOps F] (main_arg0 : FVec F S8192x5128 .f32) (main_arg1 : FVec F S1024x5128 .f32) (main_arg2 : FVec F S8192x1024 .f32) (main_arg3 : FVec F S1024 .f32) (main_arg4 : FVec F S1x1024 .f32) (main_arg5 : FVec F S8192x1024 .f32) : IVec S9217x6152 1 :=
  let main_v0 : FVec F S8192x6152 .f32 := (fun a b => concatenate S8192x6152 1 [⟨S8192x5128, a⟩, ⟨S8192x1024, b⟩] concatenates_S8192x5128_S8192x1024_S8192x6152_d1) main_arg0 main_arg2
  let main_v1 : FVec F S1x1024 .f32 := shapeCast S1x1024 main_arg3 shapeCasts_S1024_S1x1024
  let main_v2 : FVec F S1024x1024 .f32 := broadcastInDim S1024x1024 ![0, 1] bcast_S1x1024_S1024x1024_0_1 main_v1
  let main_v3 : FVec F S1024x6152 .f32 := (fun a b => concatenate S1024x6152 1 [⟨S1024x5128, a⟩, ⟨S1024x1024, b⟩] concatenates_S1024x5128_S1024x1024_S1024x6152_d1) main_arg1 main_v2
  let main_cst : FVec F S_ .f32 := constant S_ .f32 0x00000000#32
  let main_v4 : FVec F S1x5128 .f32 := broadcastInDim S1x5128 ![] bcast_S_S1x5128 main_cst
  let main_v5 : FVec F S1x6152 .f32 := (fun a b => concatenate S1x6152 1 [⟨S1x1024, a⟩, ⟨S1x5128, b⟩] concatenates_S1x1024_S1x5128_S1x6152_d1) main_arg4 main_v4
  let main_v6 : FVec F S9217x6152 .f32 := concatenate S9217x6152 0 [⟨S8192x6152, main_v0⟩, ⟨S1024x6152, main_v3⟩, ⟨S1x6152, main_v5⟩] concatenates_S8192x6152_S1024x6152_S1x6152_S9217x6152_d0
  let main_v7 : FVec F S9217x6152 .f32 := Host.absf main_v6
  let main_cst_0 : FVec F S_ .f32 := constant S_ .f32 0x7F800000#32
  let main_v8 : FVec F S9217x6152 .f32 := broadcastInDim S9217x6152 ![] bcast_S_S9217x6152 main_cst_0
  let main_v9 : IVec S9217x6152 1 := cmpf .olt main_v7 main_v8
  main_v9
-- ==== Pre_final_finite.lean ====
abbrev S8192x1024 : Shape := ⟨2, ![8192, 1024]⟩
abbrev S1024 : Shape := ⟨1, ![1024]⟩
abbrev S1x1024 : Shape := ⟨2, ![1, 1024]⟩
abbrev S16387x1024 : Shape := ⟨2, ![16387, 1024]⟩
abbrev S_ : Shape := ⟨0, ![]⟩

class Facts : Prop where
  shapeCasts_S1024_S1x1024 : S1024.ShapeCasts S1x1024
  concatenates_S8192x1024_S1x1024_S1x1024_S1x1024_S8192x1024_S16387x1024_d0 : Shape.Concatenates [S8192x1024, S1x1024, S1x1024, S1x1024, S8192x1024] S16387x1024 0
  bcast_S_S16387x1024 : S_.BroadcastsInDim S16387x1024 (![] : Fin 0 → Fin S16387x1024.rank)

variable [Facts]

def fn {F : FTy → Type} [FloatOps F] (main_arg0 : FVec F S8192x1024 .f32) (main_arg1 : FVec F S1024 .f32) (main_arg2 : FVec F S1x1024 .f32) (main_arg3 : FVec F S1x1024 .f32) (main_arg4 : FVec F S8192x1024 .f32) : IVec S16387x1024 1 :=
  let main_v0 : FVec F S1x1024 .f32 := shapeCast S1x1024 main_arg1 shapeCasts_S1024_S1x1024
  let main_v1 : FVec F S16387x1024 .f32 := concatenate S16387x1024 0 [⟨S8192x1024, main_arg0⟩, ⟨S1x1024, main_v0⟩, ⟨S1x1024, main_arg2⟩, ⟨S1x1024, main_arg3⟩, ⟨S8192x1024, main_arg4⟩] concatenates_S8192x1024_S1x1024_S1x1024_S1x1024_S8192x1024_S16387x1024_d0
  let main_v2 : FVec F S16387x1024 .f32 := Host.absf main_v1
  let main_cst : FVec F S_ .f32 := constant S_ .f32 0x7F800000#32
  let main_v3 : FVec F S16387x1024 .f32 := broadcastInDim S16387x1024 ![] bcast_S_S16387x1024 main_cst
  let main_v4 : IVec S16387x1024 1 := cmpf .olt main_v2 main_v3
  main_v4
-- ==== Pre_gnorm_finite.lean ====
abbrev S8192x512 : Shape := ⟨2, ![8192, 512]⟩
abbrev S8192x5128 : Shape := ⟨2, ![8192, 5128]⟩
abbrev S512 : Shape := ⟨1, ![512]⟩
abbrev S8192x1536 : Shape := ⟨2, ![8192, 1536]⟩
abbrev S1x512 : Shape := ⟨2, ![1, 512]⟩
abbrev S8192x2048 : Shape := ⟨2, ![8192, 2048]⟩
abbrev S_ : Shape := ⟨0, ![]⟩

class Facts : Prop where
  shapeCasts_S512_S1x512 : S512.ShapeCasts S1x512
  bcast_S1x512_S8192x512_0_1 : S1x512.BroadcastsInDim S8192x512 (![0, 1] : Fin 2 → Fin S8192x512.rank)
  slices_S8192x5128_S8192x512_0_3584 : S8192x5128.Slices ![0, 3584] S8192x512
  slices_S8192x1536_S8192x512_0_1024 : S8192x1536.Slices ![0, 1024] S8192x512
  concatenates_S8192x512_S8192x512_S8192x512_S8192x512_S8192x2048_d1 : Shape.Concatenates [S8192x512, S8192x512, S8192x512, S8192x512] S8192x2048 1
  bcast_S_S8192x2048 : S_.BroadcastsInDim S8192x2048 (![] : Fin 0 → Fin S8192x2048.rank)

variable [Facts]

def fn {F : FTy → Type} [FloatOps F] (main_arg0 : FVec F S8192x512 .f32) (main_arg1 : FVec F S8192x5128 .f32) (main_arg2 : FVec F S512 .f32) (main_arg3 : FVec F S8192x1536 .f32) : IVec S8192x2048 1 :=
  let main_v0 : FVec F S1x512 .f32 := shapeCast S1x512 main_arg2 shapeCasts_S512_S1x512
  let main_v1 : FVec F S8192x512 .f32 := broadcastInDim S8192x512 ![0, 1] bcast_S1x512_S8192x512_0_1 main_v0
  let main_v2 : FVec F S8192x512 .f32 := (extractStridedSlice S8192x512 ![0, 3584] · slices_S8192x5128_S8192x512_0_3584) main_arg1
  let main_v3 : FVec F S8192x512 .f32 := (extractStridedSlice S8192x512 ![0, 1024] · slices_S8192x1536_S8192x512_0_1024) main_arg3
  let main_v4 : FVec F S8192x2048 .f32 := concatenate S8192x2048 1 [⟨S8192x512, main_arg0⟩, ⟨S8192x512, main_v2⟩, ⟨S8192x512, main_v3⟩, ⟨S8192x512, main_v1⟩] concatenates_S8192x512_S8192x512_S8192x512_S8192x512_S8192x2048_d1
  let main_v5 : FVec F S8192x2048 .f32 := Host.absf main_v4
  let main_cst : FVec F S_ .f32 := constant S_ .f32 0x7F800000#32
  let main_v6 : FVec F S8192x2048 .f32 := broadcastInDim S8192x2048 ![] bcast_S_S8192x2048 main_cst
  let main_v7 : IVec S8192x2048 1 := cmpf .olt main_v5 main_v6
  main_v7
-- ==== Pre_sb_finite.lean ====
abbrev S8192x5128 : Shape := ⟨2, ![8192, 5128]⟩
abbrev S8192x1536 : Shape := ⟨2, ![8192, 1536]⟩
abbrev S8192x512 : Shape := ⟨2, ![8192, 512]⟩
abbrev S8192x2048 : Shape := ⟨2, ![8192, 2048]⟩
abbrev S_ : Shape := ⟨0, ![]⟩

class Facts : Prop where
  slices_S8192x5128_S8192x1536_0_2048 : S8192x5128.Slices ![0, 2048] S8192x1536
  slices_S8192x1536_S8192x512_0_512 : S8192x1536.Slices ![0, 512] S8192x512
  concatenates_S8192x1536_S8192x512_S8192x2048_d1 : Shape.Concatenates [S8192x1536, S8192x512] S8192x2048 1
  bcast_S_S8192x2048 : S_.BroadcastsInDim S8192x2048 (![] : Fin 0 → Fin S8192x2048.rank)

variable [Facts]

def fn {F : FTy → Type} [FloatOps F] (main_arg0 : FVec F S8192x5128 .f32) (main_arg1 : FVec F S8192x1536 .f32) : IVec S8192x2048 1 :=
  let main_v0 : FVec F S8192x1536 .f32 := (extractStridedSlice S8192x1536 ![0, 2048] · slices_S8192x5128_S8192x1536_0_2048) main_arg0
  let main_v1 : FVec F S8192x1536 .f32 := Host.absf main_v0
  let main_v2 : FVec F S8192x512 .f32 := (extractStridedSlice S8192x512 ![0, 512] · slices_S8192x1536_S8192x512_0_512) main_arg1
  let main_v3 : FVec F S8192x512 .f32 := Host.absf main_v2
  let main_v4 : FVec F S8192x2048 .f32 := (fun a b => concatenate S8192x2048 1 [⟨S8192x1536, a⟩, ⟨S8192x512, b⟩] concatenates_S8192x1536_S8192x512_S8192x2048_d1) main_v1 main_v3
  let main_cst : FVec F S_ .f32 := constant S_ .f32 0x7F800000#32
  let main_v5 : FVec F S8192x2048 .f32 := broadcastInDim S8192x2048 ![] bcast_S_S8192x2048 main_cst
  let main_v6 : IVec S8192x2048 1 := cmpf .olt main_v4 main_v5
  main_v6
-- ==== Pre_sbf_finite.lean ====
abbrev S8192x5128 : Shape := ⟨2, ![8192, 5128]⟩
abbrev S8192x1536 : Shape := ⟨2, ![8192, 1536]⟩
abbrev S_ : Shape := ⟨0, ![]⟩

class Facts : Prop where
  slices_S8192x5128_S8192x1536_0_2048 : S8192x5128.Slices ![0, 2048] S8192x1536
  bcast_S_S8192x1536 : S_.BroadcastsInDim S8192x1536 (![] : Fin 0 → Fin S8192x1536.rank)

variable [Facts]

def fn {F : FTy → Type} [FloatOps F] (main_arg0 : FVec F S8192x5128 .f32) : IVec S8192x1536 1 :=
  let main_v0 : FVec F S8192x1536 .f32 := (extractStridedSlice S8192x1536 ![0, 2048] · slices_S8192x5128_S8192x1536_0_2048) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  main_v3
-- ==== GateKernel.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateReferenceIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .bf16⟩
  | .hbm, ⟨26, _⟩ => ⟨S_, .f32⟩
  | .hbm, ⟨27, _⟩ => ⟨S7x1024, .f32⟩
  | .hbm, ⟨28, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== SbKernel.lean ====
abbrev S8192x5128 : Shape := ⟨2, ![8192, 5128]⟩
abbrev S8192x1536 : Shape := ⟨2, ![8192, 1536]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S8192x512 : Shape := ⟨2, ![8192, 512]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192x32x256 : Shape := ⟨4, ![4, 8192, 32, 256]⟩
abbrev S4x8192x32 : Shape := ⟨3, ![4, 8192, 32]⟩
abbrev S32 : Shape := ⟨1, ![32]⟩
abbrev S1x32 : Shape := ⟨2, ![1, 32]⟩
abbrev S8192x32 : Shape := ⟨2, ![8192, 32]⟩
abbrev S256x128 : Shape := ⟨2, ![256, 128]⟩
abbrev S8192x128 : Shape := ⟨2, ![8192, 128]⟩
abbrev S512x128 : Shape := ⟨2, ![512, 128]⟩
abbrev S256x256 : Shape := ⟨2, ![256, 256]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x1 : Shape := ⟨2, ![256, 1]⟩
abbrev S256 : Shape := ⟨1, ![256]⟩

abbrev nBuf : Space → Nat
  | .hbm => 79
  | .vmem => 18
  | .smem => 0
  | _ => 0

abbrev bufTy : (tb : Table) → Fin (tcTables nBuf tb) → BufTy
  | .hbm, ⟨0, _⟩ => ⟨S8192x5128, .f32⟩
  | .hbm, ⟨1, _⟩ => ⟨S8192x1536, .f32⟩
  | .hbm, ⟨2, _⟩ => ⟨S5128x8192, .f32⟩
  | .hbm, ⟨3, _⟩ => ⟨S8x8192, .f32⟩
  | .hbm, ⟨4, _⟩ => ⟨S4x2x8192, .f32⟩
  | .hbm, ⟨5, _⟩ => ⟨S_, .i32⟩
  | .hbm, ⟨6, _⟩ => ⟨S_, .f32⟩
  | .hbm, ⟨7, _⟩ => ⟨S4x128x8192, .f32⟩
  | .hbm, ⟨8, _⟩ => ⟨S5120x8192, .f32⟩
  | .hbm, ⟨9, _⟩ => ⟨S512x8192, .f32⟩
  | .hbm, ⟨10, _⟩ => ⟨S5632x8192, .f32⟩
  | .hbm, ⟨11, _⟩ => ⟨S8192x5632, .f32⟩
  | .hbm, ⟨12, _⟩ => ⟨S8192x512, .f32⟩
  | .hbm, ⟨13, _⟩ => ⟨S8192x4x128, .f32⟩
  | .hbm, ⟨14, _⟩ => ⟨S4x8192x128, .f32⟩
  | .hbm, ⟨15, _⟩ => ⟨S8192x512, .f32⟩
  | .hbm, ⟨16, _⟩ => ⟨S8192x4x128, .f32⟩
  | .hbm, ⟨17, _⟩ => ⟨S4x8192x128, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S4x8192x8192, .f32⟩
  | .hbm, ⟨29, _⟩ => ⟨S4x8192x8192, .f32⟩
  | .hbm, ⟨30, _⟩ => ⟨S_, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .i1⟩
  | .hbm, ⟨36, _⟩ => ⟨S4x8192x8192, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S4x8192x8192, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S_, .f32⟩
  | .hbm, ⟨47, _⟩ => ⟨S4x8192x8192, .i1⟩
  | .hbm, ⟨48, _⟩ => ⟨S4x8192x8192, .f32⟩
  | .hbm, ⟨49, _⟩ => ⟨S4x8192x8192, .f32⟩
  | .hbm, ⟨50, _⟩ => ⟨S4x8192x32x256, .f32⟩
  | .hbm, ⟨51, _⟩ => ⟨S_, .f32⟩
  | .hbm, ⟨52, _⟩ => ⟨S4x8192x32, .f32⟩
  | .hbm, ⟨53, _⟩ => ⟨S_, .f32⟩
  | .hbm, ⟨54, _⟩ => ⟨S_, .f32⟩
  | .hbm, ⟨55, _⟩ => ⟨S4x8192x32, .f32⟩
  | .hbm, ⟨56, _⟩ => ⟨S4x8192x32, .f32⟩
  | .hbm, ⟨57, _⟩ => ⟨S32, .i32⟩
  | .hbm, ⟨58, _⟩ => ⟨S1x32, .i32⟩
  | .hbm, ⟨59, _⟩ => ⟨S_, .i32⟩
  | .hbm, ⟨60, _⟩ => ⟨S1x32, .i32⟩
  | .hbm, ⟨61, _⟩ => ⟨S1x32, .i32⟩
  | .hbm, ⟨62, _⟩ => ⟨S8192x1, .i32⟩
  | .hbm, ⟨63, _⟩ => ⟨S8192x32, .i32⟩
  | .hbm, ⟨64, _⟩ => ⟨S8192x32, .i32⟩
  | .hbm, ⟨65, _⟩ => ⟨S8192x32, .i1⟩
  | .hbm, ⟨66, _⟩ => ⟨S_, .f32⟩
  | .hbm, ⟨67, _⟩ => ⟨S_, .f32⟩
  | .hbm, ⟨68, _⟩ => ⟨S4x8192x32, .i1⟩
  | .hbm, ⟨69, _⟩ => ⟨S4x8192x32, .f32⟩
  | .hbm, ⟨70, _⟩ => ⟨S4x8192x32, .f32⟩
  | .hbm, ⟨71, _⟩ => ⟨S_, .f32⟩
  | .hbm, ⟨72, _⟩ => ⟨S_, .f32⟩
  | .hbm, ⟨73, _⟩ => ⟨S4x8192x128, .f32⟩
  | .hbm, ⟨74, _⟩ => ⟨S8192x4x128, .f32⟩
  | .hbm, ⟨75, _⟩ => ⟨S8192x512, .f32⟩
  | .hbm, ⟨76, _⟩ => ⟨S8192x512, .bf16⟩
  | .hbm, ⟨77, _⟩ => ⟨S8192x512, .f32⟩
  | .hbm, ⟨78, _⟩ => ⟨S8192x512, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S8192x128, .bf16⟩
  | .local _ .vmem, ⟨17, _⟩ => ⟨S8192x128, .bf16⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v24 : Ref sig .tc := ⟨.hbm, 44, rfl⟩
abbrev main_cst_0 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_call3_cst : Ref sig .tc := ⟨.hbm, 53, rfl⟩
abbrev main_call3_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v38 : Ref sig .tc := ⟨.hbm, 70, rfl⟩
abbrev main_cst_4 : Ref sig .tc := ⟨.hbm, 71, rfl⟩
abbrev main_call5_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42_0 : Ref sig .tc := ⟨.hbm, 76, rfl⟩
abbrev main_v42_1 : Ref sig .tc := ⟨.hbm, 77, rfl⟩
abbrev main_v42_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v40 : BitVec 32) : Scf.Loop 32 :=
  let arg1 : BitVec 32 := BitVec.ofNat 32 (i 1).val
  let v43 : BitVec 32 := Scalar.subi arg1 v40
  let c1_i32_11 : BitVec 32 := 1#32
  let v45 : BitVec 32 := Scalar.divsi v43 c1_i32_11
  let v46 : BitVec 32 := Scalar.muli v45 c1_i32_11
  let v47 : BitVec 32 := Scalar.addi v40 v46
  let c1_i32_12 : BitVec 32 := 1#32
  ⟨v40, v47, c1_i32_12⟩

def k0_mult1 (i : grid0.Coords) (v40 : BitVec 32) (k0_t1 : Fin (k0_t1_loop i v40).trips) : BitVec 32 :=
  let c1_i32_12 : BitVec 32 := 1#32
  let arg12 : BitVec 32 := Scf.iv v40 c1_i32_12 k0_t1
  let c256_i32_43 : BitVec 32 := 256#32
  let v134 : BitVec 32 := Scalar.muli arg12 c256_i32_43
  v134
def k0_off1 (i : grid0.Coords) (v40 : BitVec 32) (k0_t1 : Fin (k0_t1_loop i v40).trips) : Fin 2 → Nat :=
  let c1_i32_12 : BitVec 32 := 1#32
  let arg12 : BitVec 32 := Scf.iv v40 c1_i32_12 k0_t1
  let c256_i32_43 : BitVec 32 := 256#32
  let v134 : BitVec 32 := Scalar.muli arg12 c256_i32_43
  let v135 : BitVec 32 := v134
  let v136 : Index := Scalar.indexCast v135
  let c0_44 : Index := 0#32
  ![v136.toNat, 0]
@[reducible] def k0_t2_loop (i : grid0.Coords) (v40 : BitVec 32) : Scf.Loop 32 :=
  let arg1 : BitVec 32 := BitVec.ofNat 32 (i 1).val
  let v43 : BitVec 32 := Scalar.subi arg1 v40
  let c1_i32_11 : BitVec 32 := 1#32
  let v45 : BitVec 32 := Scalar.divsi v43 c1_i32_11
  let v46 : BitVec 32 := Scalar.muli v45 c1_i32_11
  let v47 : BitVec 32 := Scalar.addi v40 v46
  let v44 : BitVec 32 := Scalar.addi v40 v43
  let c1_i32_13 : BitVec 32 := 1#32
  ⟨v47, v44, c1_i32_13⟩
def k0_mult2 (i : grid0.Coords) (v40 : BitVec 32) (k0_t2 : Fin (k0_t2_loop i v40).trips) : BitVec 32 :=
  let arg1 : BitVec 32 := BitVec.ofNat 32 (i 1).val
  let v43 : BitVec 32 := Scalar.subi arg1 v40
  let c1_i32_11 : BitVec 32 := 1#32
  let v45 : BitVec 32 := Scalar.divsi v43 c1_i32_11
  let v46 : BitVec 32 := Scalar.muli v45 c1_i32_11
  let v47 : BitVec 32 := Scalar.addi v40 v46
  let c1_i32_13 : BitVec 32 := 1#32
  let arg12 : BitVec 32 := Scf.iv v47 c1_i32_13 k0_t2
  let c256_i32_43 : BitVec 32 := 256#32
  let v134 : BitVec 32 := Scalar.muli arg12 c256_i32_43
  v134
def k0_off2 (i : grid0.Coords) (v40 : BitVec 32) (k0_t2 : Fin (k0_t2_loop i v40).trips) : Fin 2 → Nat :=
  let arg1 : BitVec 32 := BitVec.ofNat 32 (i 1).val
  let v43 : BitVec 32 := Scalar.subi arg1 v40
  let c1_i32_11 : BitVec 32 := 1#32
  let v45 : BitVec 32 := Scalar.divsi v43 c1_i32_11
  let v46 : BitVec 32 := Scalar.muli v45 c1_i32_11
  let v47 : BitVec 32 := Scalar.addi v40 v46
  let c1_i32_13 : BitVec 32 := 1#32
  let arg12 : BitVec 32 := Scf.iv v47 c1_i32_13 k0_t2
  let c256_i32_43 : BitVec 32 := 256#32
  let v134 : BitVec 32 := Scalar.muli arg12 c256_i32_43
  let v135 : BitVec 32 := v134
  let v136 : Index := Scalar.indexCast v135
  let c0_44 : Index := 0#32
  ![v136.toNat, 0]

def k0_chk1 (i : grid0.Coords) (v40 : BitVec 32) : Prop :=
  ((k0_t1_loop i v40).OK) ∧
  (∀ k0_t1 : Fin (k0_t1_loop i v40).trips, 256 ∣ (k0_mult1 i v40 k0_t1).toNat) ∧
  (∀ k0_t1 : Fin (k0_t1_loop i v40).trips, ∀ a, (k0_off1 i v40 k0_t1) a + S256x128.size a ≤ S8192x128.size a) ∧
  ((k0_t2_loop i v40).OK) ∧
  (∀ k0_t2 : Fin (k0_t2_loop i v40).trips, 256 ∣ (k0_mult2 i v40 k0_t2).toNat) ∧
  (∀ k0_t2 : Fin (k0_t2_loop i v40).trips, ∀ a, (k0_off2 i v40 k0_t2) a + S256x128.size a ≤ S8192x128.size a)
theorem k0_t1_ok : ∀ (i : grid0.Coords) (v40 : BitVec 32) (k0_hw1 : k0_chk1 i v40), (k0_t1_loop i v40).OK := fun i v40 k0_hw1 => k0_hw1.1
theorem k0_mult1_dvd : ∀ (i : grid0.Coords) (v40 : BitVec 32) (k0_hw1 : k0_chk1 i v40) (k0_t1 : Fin (k0_t1_loop i v40).trips), 256 ∣ (k0_mult1 i v40 k0_t1).toNat := fun i v40 k0_hw1 k0_t1 => k0_hw1.2.1 k0_t1
theorem k0_off1_inb : ∀ (i : grid0.Coords) (v40 : BitVec 32) (k0_hw1 : k0_chk1 i v40) (k0_t1 : Fin (k0_t1_loop i v40).trips), ∀ a, (k0_off1 i v40 k0_t1) a + S256x128.size a ≤ S8192x128.size a := fun i v40 k0_hw1 k0_t1 => k0_hw1.2.2.1 k0_t1
theorem k0_t2_ok : ∀ (i : grid0.Coords) (v40 : BitVec 32) (k0_hw1 : k0_chk1 i v40), (k0_t2_loop i v40).OK := fun i v40 k0_hw1 => k0_hw1.2.2.2.1
theorem k0_mult2_dvd : ∀ (i : grid0.Coords) (v40 : BitVec 32) (k0_hw1 : k0_chk1 i v40) (k0_t2 : Fin (k0_t2_loop i v40).trips), 256 ∣ (k0_mult2 i v40 k0_t2).toNat := fun i v40 k0_hw1 k0_t2 => k0_hw1.2.2.2.2.1 k0_t2
theorem k0_off2_inb : ∀ (i : grid0.Coords) (v40 : BitVec 32) (k0_hw1 : k0_chk1 i v40) (k0_t2 : Fin (k0_t2_loop i v40).trips), ∀ a, (k0_off2 i v40 k0_t2) a + S256x128.size a ≤ S8192x128.size a := fun i v40 k0_hw1 k0_t2 => k0_hw1.2.2.2.2.2 k0_t2

def k0_mult3 (i : grid0.Coords) : BitVec 32 :=
  let arg1 : BitVec 32 := BitVec.ofNat 32 (i 1).val
  let c256_i32 : BitVec 32 := 256#32
  let v50 : BitVec 32 := Scalar.muli arg1 c256_i32
  v50
def k0_off3 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v52 : Index := Scalar.indexCast v51
  let c0_14 : Index := 0#32
  ![v52.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbKernelIdeal.lean ====
variable {F : FTy → Type} [FloatOps F] [Named F]
def κ : String → Option EReal := fun
  | "no_skip" => some ⊥
  | _ => none
-- ==== SbReferenceIdeal.lean ====
abbrev S8192x5128 : Shape := ⟨2, ![8192, 5128]⟩
abbrev S8192x1536 : Shape := ⟨2, ![8192, 1536]⟩
abbrev S8192x512 : Shape := ⟨2, ![8192, 512]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩

abbrev nBuf : Space → Nat
  | .hbm => 179
  | .vmem => 0
  | .smem => 0
  | _ => 0

abbrev hbmTy0_0 (i : Nat) : BufTy := match i % 128 with
  | 0 => ⟨S8192x5128, .f32⟩
  | 1 => ⟨S8192x1536, .f32⟩
  | 2 => ⟨S8192x512, .f32⟩
  | 3 => ⟨S8192x512, .f32⟩
  | 4 => ⟨S8192x512, .f32⟩
  | 5 => ⟨S8192x4x128, .f32⟩
  | 6 => ⟨S4x8192x128, .f32⟩
  | 7 => ⟨S8192x4x128, .f32⟩
  | 8 => ⟨S4x8192x128, .f32⟩
  | 9 => ⟨S8192x4x128, .f32⟩
  | 10 => ⟨S4x8192x128, .f32⟩
  | 11 => ⟨S4x8192x8192, .f32⟩
  | 12 => ⟨S_, .f32⟩
  | 13 => ⟨S4x8192x8192, .f32⟩
  | 14 => ⟨S4x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S4x8192x8192, .f32⟩
  | 22 => ⟨S_, .f32⟩
  | 23 => ⟨S4x8192x8192, .f32⟩
  | 24 => ⟨S4x8192x8192, .f32⟩
  | 25 => ⟨S4x8192x8192, .f32⟩
  | 26 => ⟨S4x8192x8192, .f32⟩
  | 27 => ⟨S4x8192x8192, .i1⟩
  | 28 => ⟨S4x8192x8192, .f32⟩
  | 29 => ⟨S4x8192x8192, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S_, .f32⟩
  | 37 => ⟨S4x8192x8192, .f32⟩
  | 38 => ⟨S4x8192x8192, .i1⟩
  | 39 => ⟨S_, .f32⟩
  | 40 => ⟨S4x8192x8192, .f32⟩
  | 41 => ⟨S4x8192x8192, .f32⟩
  | 42 => ⟨S_, .f32⟩
  | 43 => ⟨S4x8192x8192, .f32⟩
  | 44 => ⟨S4x8192x8192, .i1⟩
  | 45 => ⟨S_, .f32⟩
  | 46 => ⟨S4x8192x8192, .f32⟩
  | 47 => ⟨S4x8192x8192, .f32⟩
  | 48 => ⟨S4x8192x8192, .f32⟩
  | 49 => ⟨S4x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S4x8192x8192, .f32⟩
  | 58 => ⟨S4x8192x8192, .i1⟩
  | 59 => ⟨S_, .f32⟩
  | 60 => ⟨S4x8192x8192, .f32⟩
  | 61 => ⟨S4x8192x8192, .f32⟩
  | 62 => ⟨S4x8192x8192, .f32⟩
  | 63 => ⟨S4x8192x8192, .f32⟩
  | 64 => ⟨S4x8192x8192, .f32⟩
  | 65 => ⟨S_, .f32⟩
  | 66 => ⟨S4x8192x8192, .f32⟩
  | 67 => ⟨S4x8192x8192, .f32⟩
  | 68 => ⟨S4x8192x8192, .f32⟩
  | 69 => ⟨S4x8192x8192, .f32⟩
  | 70 => ⟨S4x8192x8192, .f32⟩
  | 71 => ⟨S_, .f32⟩
  | 72 => ⟨S4x8192x8192, .f32⟩
  | 73 => ⟨S4x8192x8192, .f32⟩
  | 74 => ⟨S4x8192x8192, .f32⟩
  | 75 => ⟨S4x8192x8192, .f32⟩
  | 76 => ⟨S4x8192x8192, .i1⟩
  | 77 => ⟨S4x8192x8192, .f32⟩
  | 78 => ⟨S4x8192x8192, .f32⟩
  | 79 => ⟨S4x8192x8192, .f32⟩
  | 80 => ⟨S4x8192x8192, .f32⟩
  | 81 => ⟨S4x8192x8192, .f32⟩
  | 82 => ⟨S4x8192x8192, .f32⟩
  | 83 => ⟨S4x8192x8192, .f32⟩
  | 84 => ⟨S4x8192x8192, .f32⟩
  | 85 => ⟨S_, .f32⟩
  | 86 => ⟨S4x8192x8192, .f32⟩
  | 87 => ⟨S4x8192x8192, .i1⟩
  | 88 => ⟨S_, .f32⟩
  | 89 => ⟨S4x8192x8192, .f32⟩
  | 90 => ⟨S4x8192x8192, .f32⟩
  | 91 => ⟨S_, .f32⟩
  | 92 => ⟨S4x8192x8192, .f32⟩
  | 93 => ⟨S4x8192x8192, .i1⟩
  | 94 => ⟨S_, .f32⟩
  | 95 => ⟨S4x8192x8192, .f32⟩
  | 96 => ⟨S4x8192x8192, .f32⟩
  | 97 => ⟨S4x8192x8192, .f32⟩
  | 98 => ⟨S4x8192x8192, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S4x8192x8192, .f32⟩
  | 107 => ⟨S4x8192x8192, .i1⟩
  | 108 => ⟨S_, .f32⟩
  | 109 => ⟨S4x8192x8192, .f32⟩
  | 110 => ⟨S4x8192x8192, .f32⟩
  | 111 => ⟨S4x8192x8192, .f32⟩
  | 112 => ⟨S4x8192x8192, .f32⟩
  | 113 => ⟨S4x8192x8192, .f32⟩
  | 114 => ⟨S_, .f32⟩
  | 115 => ⟨S4x8192x8192, .f32⟩
  | 116 => ⟨S4x8192x8192, .f32⟩
  | 117 => ⟨S4x8192x8192, .f32⟩
  | 118 => ⟨S_, .f32⟩
  | 119 => ⟨S_, .f32⟩
  | 120 => ⟨S4x8192x8192, .i1⟩
  | 121 => ⟨S4x8192x8192, .f32⟩
  | 122 => ⟨S4x8192x8192, .f32⟩
  | 123 => ⟨S_, .f32⟩
  | 124 => ⟨S4x8192x8192, .f32⟩
  | 125 => ⟨S_, .f32⟩
  | 126 => ⟨S_, .f32⟩
  | 127 => ⟨S4x8192x8192, .f32⟩
  | _ => ⟨S8192x5128, .f32⟩

abbrev hbmTy0_1 (i : Nat) : BufTy := match i % 128 with
  | 0 => ⟨S4x8192x8192, .f32⟩
  | 1 => ⟨S4x8192x8192, .f32⟩
  | 2 => ⟨S4x8192x8192, .f32⟩
  | 3 => ⟨S_, .f32⟩
  | 4 => ⟨S_, .f32⟩
  | 5 => ⟨S4x8192x8192, .i1⟩
  | 6 => ⟨S4x8192x8192, .f32⟩
  | 7 => ⟨S4x8192x8192, .f32⟩
  | 8 => ⟨S_, .f32⟩
  | 9 => ⟨S4x8192x8192, .f32⟩
  | 10 => ⟨S4x8192x128, .f32⟩
  | 11 => ⟨S8192x4x128, .f32⟩
  | 12 => ⟨S8192x512, .f32⟩
  | 13 => ⟨S8192x512, .f32⟩
  | 14 => ⟨S8192x4x128, .f32⟩
  | 15 => ⟨S4x8192x128, .f32⟩
  | 16 => ⟨S4x128x8192, .f32⟩
  | 17 => ⟨S4x8192x128, .f32⟩
  | 18 => ⟨S4x8192x8192, .f32⟩
  | 19 => ⟨S_, .f32⟩
  | 20 => ⟨S4x8192x8192, .f32⟩
  | 21 => ⟨S4x8192x8192, .f32⟩
  | 22 => ⟨S4x8192x8192, .f32⟩
  | 23 => ⟨S4x8192x8192, .f32⟩
  | 24 => ⟨S_, .f32⟩
  | 25 => ⟨S_, .f32⟩
  | 26 => ⟨S4x8192x8192, .f32⟩
  | 27 => ⟨S4x8192x8192, .f32⟩
  | 28 => ⟨S_, .f32⟩
  | 29 => ⟨S4x8192x8192, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S4x8192x8192, .f32⟩
  | 38 => ⟨S4x8192x8192, .f32⟩
  | 39 => ⟨S_, .f32⟩
  | 40 => ⟨S4x8192x8192, .f32⟩
  | 41 => ⟨S4x8192x8192, .f32⟩
  | 42 => ⟨S4x8192x128, .f32⟩
  | 43 => ⟨S4x8192x128, .f32⟩
  | 44 => ⟨S8192x4x128, .f32⟩
  | 45 => ⟨S8192x512, .f32⟩
  | 46 => ⟨S8192x4x128, .f32⟩
  | 47 => ⟨S8192x512, .f32⟩
  | 48 => ⟨S8192x4x128, .f32⟩
  | 49 => ⟨S8192x512, .f32⟩
  | 50 => ⟨S8192x512, .bf16⟩
  | _ => ⟨S8192x5128, .f32⟩

abbrev hbmTy (i : Nat) : BufTy := match i / 128 with
  | 0 => hbmTy0_0 i
  | 1 => hbmTy0_1 i
  | _ => ⟨S8192x5128, .f32⟩

abbrev bufTy : (tb : Table) → Fin (tcTables nBuf tb) → BufTy
  | .hbm, ⟨i, _⟩ => hbmTy i
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_call8_v0 : Ref sig .tc := ⟨.hbm, 159, rfl⟩
abbrev main_call8_v1 : Ref sig .tc := ⟨.hbm, 160, rfl⟩
abbrev main_v42 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== SbfKernel.lean ====
abbrev S8192x5128 : Shape := ⟨2, ![8192, 5128]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S8192x512 : Shape := ⟨2, ![8192, 512]⟩
abbrev S256x128 : Shape := ⟨2, ![256, 128]⟩
abbrev S8192x128 : Shape := ⟨2, ![8192, 128]⟩
abbrev S512x128 : Shape := ⟨2, ![512, 128]⟩
abbrev S256x256 : Shape := ⟨2, ![256, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x5128, .f32⟩
  | .hbm, ⟨1, _⟩ => ⟨S5128x8192, .f32⟩
  | .hbm, ⟨2, _⟩ => ⟨S8x8192, .f32⟩
  | .hbm, ⟨3, _⟩ => ⟨S4x2x8192, .f32⟩
  | .hbm, ⟨4, _⟩ => ⟨S_, .i32⟩
  | .hbm, ⟨5, _⟩ => ⟨S_, .f32⟩
  | .hbm, ⟨6, _⟩ => ⟨S4x128x8192, .f32⟩
  | .hbm, ⟨7, _⟩ => ⟨S5120x8192, .f32⟩
  | .hbm, ⟨8, _⟩ => ⟨S512x8192, .f32⟩
  | .hbm, ⟨9, _⟩ => ⟨S5632x8192, .f32⟩
  | .hbm, ⟨10, _⟩ => ⟨S8192x5632, .f32⟩
  | .hbm, ⟨11, _⟩ => ⟨S8192x512, .f32⟩
  | .hbm, ⟨12, _⟩ => ⟨S8192x512, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S8192x128, .bf16⟩
  | .local _ .vmem, ⟨11, _⟩ => ⟨S8192x128, .bf16⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v19 : BitVec 32 := Scalar.muli arg1 c256_i32
  v19
def k0_off1 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v21 : Index := Scalar.indexCast v20
  let c0_4 : Index := 0#32
  ![v21.toNat, 0]
def k0_mult2 (i : grid0.Coords) (arg9 : BitVec 32) : BitVec 32 :=
  let arg1 : BitVec 32 := BitVec.ofNat 32 (i 1).val
  let c1_i32_23 : BitVec 32 := 1#32
  let v71 : BitVec 32 := Scalar.subi arg1 c1_i32_23
  let v72 : BitVec 32 := Scalar.subi v71 arg9
  let c256_i32_24 : BitVec 32 := 256#32
  let v73 : BitVec 32 := Scalar.muli v72 c256_i32_24
  v73

def k0_off2 (i : grid0.Coords) (arg9 : BitVec 32) : Fin 2 → Nat :=
  let arg1 : BitVec 32 := BitVec.ofNat 32 (i 1).val
  let c1_i32_23 : BitVec 32 := 1#32
  let v71 : BitVec 32 := Scalar.subi arg1 c1_i32_23
  let v72 : BitVec 32 := Scalar.subi v71 arg9
  let c256_i32_24 : BitVec 32 := 256#32
  let v73 : BitVec 32 := Scalar.muli v72 c256_i32_24
  let v74 : BitVec 32 := v73
  let v75 : Index := Scalar.indexCast v74
  let c0_25 : Index := 0#32
  ![v75.toNat, 0]

def k0_chk1 (i : grid0.Coords) (arg9 : BitVec 32) : Prop :=
  (256 ∣ (k0_mult2 i arg9).toNat) ∧
  (∀ a, (k0_off2 i arg9) a + S256x128.size a ≤ S8192x128.size a)
theorem k0_mult2_dvd : ∀ (i : grid0.Coords) (arg9 : BitVec 32) (k0_hw1 : k0_chk1 i arg9), 256 ∣ (k0_mult2 i arg9).toNat := fun i arg9 k0_hw1 => k0_hw1.1
theorem k0_off2_inb : ∀ (i : grid0.Coords) (arg9 : BitVec 32) (k0_hw1 : k0_chk1 i arg9), ∀ a, (k0_off2 i arg9) a + S256x128.size a ≤ S8192x128.size a := fun i arg9 k0_hw1 => k0_hw1.2

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbfKernelIdeal.lean ====
variable {F : FTy → Type} [FloatOps F] [Named F]
def κ : String → Option EReal := fun
  | "no_skip" => some ⊥
  | _ => none
-- ==== SbfReferenceIdeal.lean ====
abbrev S8192x5128 : Shape := ⟨2, ![8192, 5128]⟩
abbrev S8192x512 : Shape := ⟨2, ![8192, 512]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192x32x256 : Shape := ⟨4, ![4, 8192, 32, 256]⟩
abbrev S4x8192x32 : Shape := ⟨3, ![4, 8192, 32]⟩
abbrev S32 : Shape := ⟨1, ![32]⟩
abbrev S1x32 : Shape := ⟨2, ![1, 32]⟩
abbrev S8192x32 : Shape := ⟨2, ![8192, 32]⟩

abbrev nBuf : Space → Nat
  | .hbm => 136
  | .vmem => 0
  | .smem => 0
  | _ => 0

abbrev hbmTy0_0 (i : Nat) : BufTy := match i % 128 with
  | 0 => ⟨S8192x5128, .f32⟩
  | 1 => ⟨S8192x512, .f32⟩
  | 2 => ⟨S8192x512, .f32⟩
  | 3 => ⟨S8192x512, .f32⟩
  | 4 => ⟨S8192x4x128, .f32⟩
  | 5 => ⟨S4x8192x128, .f32⟩
  | 6 => ⟨S8192x4x128, .f32⟩
  | 7 => ⟨S4x8192x128, .f32⟩
  | 8 => ⟨S8192x4x128, .f32⟩
  | 9 => ⟨S4x8192x128, .f32⟩
  | 10 => ⟨S4x8192x8192, .f32⟩
  | 11 => ⟨S_, .f32⟩
  | 12 => ⟨S4x8192x8192, .f32⟩
  | 13 => ⟨S4x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S4x8192x8192, .f32⟩
  | 21 => ⟨S_, .f32⟩
  | 22 => ⟨S4x8192x8192, .f32⟩
  | 23 => ⟨S4x8192x8192, .f32⟩
  | 24 => ⟨S4x8192x8192, .f32⟩
  | 25 => ⟨S4x8192x8192, .f32⟩
  | 26 => ⟨S4x8192x8192, .i1⟩
  | 27 => ⟨S4x8192x8192, .f32⟩
  | 28 => ⟨S4x8192x8192, .f32⟩
  | 29 => ⟨S4x8192x8192, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S4x8192x8192, .f32⟩
  | 38 => ⟨S_, .f32⟩
  | 39 => ⟨S4x8192x8192, .f32⟩
  | 40 => ⟨S4x8192x8192, .f32⟩
  | 41 => ⟨S4x8192x8192, .f32⟩
  | 42 => ⟨S4x8192x8192, .f32⟩
  | 43 => ⟨S4x8192x8192, .i1⟩
  | 44 => ⟨S4x8192x8192, .f32⟩
  | 45 => ⟨S4x8192x8192, .f32⟩
  | 46 => ⟨S4x8192x8192, .f32⟩
  | 47 => ⟨S4x8192x8192, .f32⟩
  | 48 => ⟨S4x8192x8192, .f32⟩
  | 49 => ⟨S4x8192x8192, .f32⟩
  | 50 => ⟨S4x8192x8192, .f32⟩
  | 51 => ⟨S4x8192x8192, .f32⟩
  | 52 => ⟨S4x8192x8192, .f32⟩
  | 53 => ⟨S_, .f32⟩
  | 54 => ⟨S_, .f32⟩
  | 55 => ⟨S4x8192x8192, .i1⟩
  | 56 => ⟨S4x8192x8192, .f32⟩
  | 57 => ⟨S4x8192x8192, .f32⟩
  | 58 => ⟨S_, .f32⟩
  | 59 => ⟨S_, .f32⟩
  | 60 => ⟨S4x8192x8192, .f32⟩
  | 61 => ⟨S4x8192x8192, .f32⟩
  | 62 => ⟨S4x8192x8192, .f32⟩
  | 63 => ⟨S4x8192x8192, .f32⟩
  | 64 => ⟨S_, .f32⟩
  | 65 => ⟨S_, .f32⟩
  | 66 => ⟨S4x8192x8192, .i1⟩
  | 67 => ⟨S4x8192x8192, .f32⟩
  | 68 => ⟨S4x8192x8192, .f32⟩
  | 69 => ⟨S4x8192x128, .f32⟩
  | 70 => ⟨S8192x4x128, .f32⟩
  | 71 => ⟨S8192x512, .f32⟩
  | 72 => ⟨S8192x512, .f32⟩
  | 73 => ⟨S8192x4x128, .f32⟩
  | 74 => ⟨S4x8192x128, .f32⟩
  | 75 => ⟨S8192x512, .f32⟩
  | 76 => ⟨S8192x4x128, .f32⟩
  | 77 => ⟨S4x8192x128, .f32⟩
  | 78 => ⟨S4x8192x8192, .f32⟩
  | 79 => ⟨S_, .f32⟩
  | 80 => ⟨S4x8192x8192, .f32⟩
  | 81 => ⟨S4x8192x8192, .f32⟩
  | 82 => ⟨S8192, .i32⟩
  | 83 => ⟨S1x8192, .i32⟩
  | 84 => ⟨S8192x1, .i32⟩
  | 85 => ⟨S8192x8192, .i32⟩
  | 86 => ⟨S8192x8192, .i32⟩
  | 87 => ⟨S8192x8192, .i1⟩
  | 88 => ⟨S4x8192x8192, .f32⟩
  | 89 => ⟨S4x8192x8192, .f32⟩
  | 90 => ⟨S_, .f32⟩
  | 91 => ⟨S4x8192x8192, .f32⟩
  | 92 => ⟨S4x8192x8192, .f32⟩
  | 93 => ⟨S4x8192x8192, .f32⟩
  | 94 => ⟨S4x8192x8192, .f32⟩
  | 95 => ⟨S4x8192x8192, .i1⟩
  | 96 => ⟨S4x8192x8192, .f32⟩
  | 97 => ⟨S4x8192x8192, .f32⟩
  | 98 => ⟨S4x8192x8192, .f32⟩
  | 99 => ⟨S4x8192x8192, .f32⟩
  | 100 => ⟨S4x8192x8192, .f32⟩
  | 101 => ⟨S4x8192x8192, .f32⟩
  | 102 => ⟨S4x8192x8192, .f32⟩
  | 103 => ⟨S4x8192x8192, .f32⟩
  | 104 => ⟨S4x8192x8192, .f32⟩
  | 105 => ⟨S_, .f32⟩
  | 106 => ⟨S_, .f32⟩
  | 107 => ⟨S4x8192x8192, .i1⟩
  | 108 => ⟨S4x8192x8192, .f32⟩
  | 109 => ⟨S4x8192x8192, .f32⟩
  | 110 => ⟨S4x8192x32x256, .f32⟩
  | 111 => ⟨S_, .f32⟩
  | 112 => ⟨S4x8192x32, .f32⟩
  | 113 => ⟨S_, .f32⟩
  | 114 => ⟨S_, .f32⟩
  | 115 => ⟨S4x8192x32, .f32⟩
  | 116 => ⟨S4x8192x32, .f32⟩
  | 117 => ⟨S32, .i32⟩
  | 118 => ⟨S1x32, .i32⟩
  | 119 => ⟨S_, .i32⟩
  | 120 => ⟨S1x32, .i32⟩
  | 121 => ⟨S1x32, .i32⟩
  | 122 => ⟨S8192x1, .i32⟩
  | 123 => ⟨S8192x32, .i32⟩
  | 124 => ⟨S8192x32, .i32⟩
  | 125 => ⟨S8192x32, .i1⟩
  | 126 => ⟨S_, .f32⟩
  | 127 => ⟨S_, .f32⟩
  | _ => ⟨S8192x5128, .f32⟩

abbrev hbmTy0_1 (i : Nat) : BufTy := match i % 128 with
  | 0 => ⟨S4x8192x32, .i1⟩
  | 1 => ⟨S4x8192x32, .f32⟩
  | 2 => ⟨S4x8192x32, .f32⟩
  | 3 => ⟨S_, .f32⟩
  | 4 => ⟨S_, .f32⟩
  | 5 => ⟨S4x8192x128, .f32⟩
  | 6 => ⟨S8192x4x128, .f32⟩
  | 7 => ⟨S8192x512, .f32⟩
  | _ => ⟨S8192x5128, .f32⟩

abbrev hbmTy (i : Nat) : BufTy := match i / 128 with
  | 0 => hbmTy0_0 i
  | 1 => hbmTy0_1 i
  | _ => ⟨S8192x5128, .f32⟩

abbrev bufTy : (tb : Table) → Fin (tcTables nBuf tb) → BufTy
  | .hbm, ⟨i, _⟩ => hbmTy i
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_2 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call5_v0 : Ref sig .tc := ⟨.hbm, 89, rfl⟩
abbrev main_call5_call0_cst : Ref sig .tc := ⟨.hbm, 90, rfl⟩
abbrev main_call5_call0_v0 : Ref sig .tc := ⟨.hbm, 91, rfl⟩
abbrev main_call5_call0_v1 : Ref sig .tc := ⟨.hbm, 92, rfl⟩
abbrev main_call5_call0_v2 : Ref sig .tc := ⟨.hbm, 93, rfl⟩
abbrev main_call5_call0_v3 : Ref sig .tc := ⟨.hbm, 94, rfl⟩
abbrev main_call5_call0_v4 : Ref sig .tc := ⟨.hbm, 95, rfl⟩
abbrev main_call5_call0_v5 : Ref sig .tc := ⟨.hbm, 96, rfl⟩
abbrev main_call5_call0_v6 : Ref sig .tc := ⟨.hbm, 97, rfl⟩
abbrev main_call5_call0_v7 : Ref sig .tc := ⟨.hbm, 98, rfl⟩
abbrev main_call5_call0_v8 : Ref sig .tc := ⟨.hbm, 99, rfl⟩
abbrev main_call5_call0_v9 : Ref sig .tc := ⟨.hbm, 100, rfl⟩
abbrev main_call5_call0_v10 : Ref sig .tc := ⟨.hbm, 101, rfl⟩
abbrev main_call5_call0_v11 : Ref sig .tc := ⟨.hbm, 102, rfl⟩
abbrev main_call5_v1 : Ref sig .tc := ⟨.hbm, 103, rfl⟩
abbrev main_v46 : Ref sig .tc := ⟨.hbm, 104, rfl⟩
abbrev main_cst_3 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v47 : Ref sig .tc := ⟨.hbm, 109, rfl⟩
abbrev main_v48 : Ref sig .tc := ⟨.hbm, 110, rfl⟩
abbrev main_cst_4 : Ref sig .tc := ⟨.hbm, 111, rfl⟩
abbrev main_v49 : Ref sig .tc := ⟨.hbm, 112, rfl⟩
abbrev main_call7_cst : Ref sig .tc := ⟨.hbm, 113, rfl⟩
abbrev main_call7_v0 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_c : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_5 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_v60 : Ref sig .tc := ⟨.hbm, 130, rfl⟩
abbrev main_cst_6 : Ref sig .tc := ⟨.hbm, 131, rfl⟩
abbrev main_call9_v0 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩

abbrev nD : Nat := 1
abbrev τ : Topo := Topo.v7x

variable {F : FTy → Type} [FloatOps F]
-- ==== FinalKernel.lean ====
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalReferenceIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x1024 : Shape := ⟨2, ![4, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S4x1024, .f32⟩
  | .hbm, ⟨93, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_cst_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== GnormKernel.lean ====
abbrev S8192x512 : Shape := ⟨2, ![8192, 512]⟩
abbrev S8192x5128 : Shape := ⟨2, ![8192, 5128]⟩
abbrev S512 : Shape := ⟨1, ![512]⟩
abbrev S8192x1536 : Shape := ⟨2, ![8192, 1536]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S1x512 : Shape := ⟨2, ![1, 512]⟩
abbrev S8x512 : Shape := ⟨2, ![8, 512]⟩
abbrev S512x512 : Shape := ⟨2, ![512, 512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x5128, .f32⟩
  | .hbm, ⟨2, _⟩ => ⟨S512, .f32⟩
  | .hbm, ⟨3, _⟩ => ⟨S8192x1536, .f32⟩
  | .hbm, ⟨4, _⟩ => ⟨S5128x8192, .f32⟩
  | .hbm, ⟨5, _⟩ => ⟨S8x8192, .f32⟩
  | .hbm, ⟨6, _⟩ => ⟨S4x2x8192, .f32⟩
  | .hbm, ⟨7, _⟩ => ⟨S_, .i32⟩
  | .hbm, ⟨8, _⟩ => ⟨S_, .f32⟩
  | .hbm, ⟨9, _⟩ => ⟨S4x128x8192, .f32⟩
  | .hbm, ⟨10, _⟩ => ⟨S5120x8192, .f32⟩
  | .hbm, ⟨11, _⟩ => ⟨S512x8192, .f32⟩
  | .hbm, ⟨12, _⟩ => ⟨S5632x8192, .f32⟩
  | .hbm, ⟨13, _⟩ => ⟨S8192x5632, .f32⟩
  | .hbm, ⟨14, _⟩ => ⟨S1x512, .f32⟩
  | .hbm, ⟨15, _⟩ => ⟨S8192x512, .f32⟩
  | .hbm, ⟨16, _⟩ => ⟨S8192x512, .bf16⟩
  | .hbm, ⟨17, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GnormReferenceIdeal.lean ====
abbrev S8192x512 : Shape := ⟨2, ![8192, 512]⟩
abbrev S8192x5128 : Shape := ⟨2, ![8192, 5128]⟩
abbrev S512 : Shape := ⟨1, ![512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S7x512 : Shape := ⟨2, ![7, 512]⟩
abbrev S8x512 : Shape := ⟨2, ![8, 512]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5128, .f32⟩
  | .hbm, ⟨2, _⟩ => ⟨S512, .f32⟩
  | .hbm, ⟨3, _⟩ => ⟨S8192x1536, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S512, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x512, .f32⟩
  | .hbm, ⟨53, _⟩ => ⟨S8192x512, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .bf16⟩
  | .hbm, ⟨72, _⟩ => ⟨S1x512, .f32⟩
  | .hbm, ⟨73, _⟩ => ⟨S_, .f32⟩
  | .hbm, ⟨74, _⟩ => ⟨S7x512, .f32⟩
  | .hbm, ⟨75, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== DactKernel.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S4096x1024 : Shape := ⟨2, ![4096, 1024]⟩
abbrev S256x1024 : Shape := ⟨2, ![256, 1024]⟩
abbrev S4096x256 : Shape := ⟨2, ![4096, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S_, .i32⟩
  | .hbm, ⟨5, _⟩ => ⟨S_, .f32⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DgffnKernel.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S2816x1024 : Shape := ⟨2, ![2816, 1024]⟩
abbrev S_ : Shape := ⟨0, ![]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S2816x1024, .f32⟩
  | .hbm, ⟨9, _⟩ => ⟨S_, .i32⟩
  | .hbm, ⟨10, _⟩ => ⟨S_, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S_, .i32⟩
  | .hbm, ⟨15, _⟩ => ⟨S_, .f32⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S8192x1024, .f32⟩
  | .hbm, ⟨20, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DgffnReferenceIdeal.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S_, .f32⟩
  | .hbm, ⟨81, _⟩ => ⟨S5x1024, .f32⟩
  | .hbm, ⟨82, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== DgmixKernel.lean ====
abbrev S8192x5128 : Shape := ⟨2, ![8192, 5128]⟩
abbrev S1024x5128 : Shape := ⟨2, ![1024, 5128]⟩
abbrev S8192x1024 : Shape := ⟨2, ![8192, 1024]⟩
abbrev S1024 : Shape := ⟨1, ![1024]⟩
abbrev S1x1024 : Shape := ⟨2, ![1, 1024]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S8192x2048 : Shape := ⟨2, ![8192, 2048]⟩
abbrev S8192x512 : Shape := ⟨2, ![8192, 512]⟩
abbrev S5128x1024 : Shape := ⟨2, ![5128, 1024]⟩
abbrev S5136x1024 : Shape := ⟨2, ![5136, 1024]⟩
abbrev S8x1024 : Shape := ⟨2, ![8, 1024]⟩
abbrev S4x2x1024 : Shape := ⟨3, ![4, 2, 1024]⟩
abbrev S4x128x1024 : Shape := ⟨3, ![4, 128, 1024]⟩
abbrev S5120x1024 : Shape := ⟨2, ![5120, 1024]⟩
abbrev S512x1024 : Shape := ⟨2, ![512, 1024]⟩
abbrev S5632x1024 : Shape := ⟨2, ![5632, 1024]⟩
abbrev S512x2048 : Shape := ⟨2, ![512, 2048]⟩
abbrev S512x512 : Shape := ⟨2, ![512, 512]⟩
abbrev S2048x1024 : Shape := ⟨2, ![2048, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 47
  | .vmem => 24
  | .smem => 0
  | _ => 0

abbrev bufTy : (tb : Table) → Fin (tcTables nBuf tb) → BufTy
  | .hbm, ⟨0, _⟩ => ⟨S8192x5128, .f32⟩
  | .hbm, ⟨1, _⟩ => ⟨S1024x5128, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S5128x8192, .f32⟩
  | .hbm, ⟨7, _⟩ => ⟨S8x8192, .f32⟩
  | .hbm, ⟨8, _⟩ => ⟨S4x2x8192, .f32⟩
  | .hbm, ⟨9, _⟩ => ⟨S_, .i32⟩
  | .hbm, ⟨10, _⟩ => ⟨S_, .f32⟩
  | .hbm, ⟨11, _⟩ => ⟨S4x128x8192, .f32⟩
  | .hbm, ⟨12, _⟩ => ⟨S5120x8192, .f32⟩
  | .hbm, ⟨13, _⟩ => ⟨S512x8192, .f32⟩
  | .hbm, ⟨14, _⟩ => ⟨S5632x8192, .f32⟩
  | .hbm, ⟨15, _⟩ => ⟨S8192x5632, .f32⟩
  | .hbm, ⟨16, _⟩ => ⟨S8192x2048, .f32⟩
  | .hbm, ⟨17, _⟩ => ⟨S8192x2048, .bf16⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .bf16⟩
  | .hbm, ⟨24, _⟩ => ⟨S8192x1024, .f32⟩
  | .hbm, ⟨25, _⟩ => ⟨S8192x1024, .bf16⟩
  | .hbm, ⟨26, _⟩ => ⟨S8192x512, .f32⟩
  | .hbm, ⟨27, _⟩ => ⟨S8192x512, .bf16⟩
  | .hbm, ⟨28, _⟩ => ⟨S5128x1024, .f32⟩
  | .hbm, ⟨29, _⟩ => ⟨S_, .i32⟩
  | .hbm, ⟨30, _⟩ => ⟨S_, .f32⟩
  | .hbm, ⟨31, _⟩ => ⟨S5136x1024, .f32⟩
  | .hbm, ⟨32, _⟩ => ⟨S5136x1024, .bf16⟩
  | .hbm, ⟨33, _⟩ => ⟨S5128x1024, .bf16⟩
  | .hbm, ⟨34, _⟩ => ⟨S1024x5128, .bf16⟩
  | .hbm, ⟨35, _⟩ => ⟨S5128x1024, .bf16⟩
  | .hbm, ⟨36, _⟩ => ⟨S8x1024, .bf16⟩
  | .hbm, ⟨37, _⟩ => ⟨S4x2x1024, .bf16⟩
  | .hbm, ⟨38, _⟩ => ⟨S_, .i32⟩
  | .hbm, ⟨39, _⟩ => ⟨S_, .bf16⟩
  | .hbm, ⟨40, _⟩ => ⟨S4x128x1024, .bf16⟩
  | .hbm, ⟨41, _⟩ => ⟨S5120x1024, .bf16⟩
  | .hbm, ⟨42, _⟩ => ⟨S512x1024, .bf16⟩
  | .hbm, ⟨43, _⟩ => ⟨S5632x1024, .bf16⟩
  | .hbm, ⟨44, _⟩ => ⟨S1x1024, .f32⟩
  | .hbm, ⟨45, _⟩ => ⟨S8192x1024, .f32⟩
  | .hbm, ⟨46, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S5632x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_call2_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DgmixReferenceIdeal.lean ====
abbrev S8192x5128 : Shape := ⟨2, ![8192, 5128]⟩
abbrev S1024x5128 : Shape := ⟨2, ![1024, 5128]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x5128, .f32⟩
  | .hbm, ⟨1, _⟩ => ⟨S1024x5128, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x5128, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S_, .f32⟩
  | .hbm, ⟨74, _⟩ => ⟨S5x1024, .f32⟩
  | .hbm, ⟨75, _⟩ => ⟨S8x1024, .f32⟩
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== ConvKernel.lean ====
abbrev S8192x5128 : Shape := ⟨2, ![8192, 5128]⟩
abbrev S4x1024 : Shape := ⟨2, ![4, 1024]⟩
abbrev S1024 : Shape := ⟨1, ![1024]⟩
abbrev S8192x1024 : Shape := ⟨2, ![8192, 1024]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S1x1024 : Shape := ⟨2, ![1, 1024]⟩
abbrev S8192x128 : Shape := ⟨2, ![8192, 128]⟩
abbrev S4x128 : Shape := ⟨2, ![4, 128]⟩
abbrev S1x128 : Shape := ⟨2, ![1, 128]⟩
abbrev S8x1024 : Shape := ⟨2, ![8, 1024]⟩
abbrev S8x128 : Shape := ⟨2, ![8, 128]⟩
abbrev S128 : Shape := ⟨1, ![128]⟩
abbrev S3x128 : Shape := ⟨2, ![3, 128]⟩

abbrev nBuf : Space → Nat
  | .hbm => 19
  | .vmem => 22
  | .smem => 0
  | _ => 0

abbrev bufTy : (tb : Table) → Fin (tcTables nBuf tb) → BufTy
  | .hbm, ⟨0, _⟩ => ⟨S8192x5128, .f32⟩
  | .hbm, ⟨1, _⟩ => ⟨S4x1024, .f32⟩
  | .hbm, ⟨2, _⟩ => ⟨S1024, .f32⟩
  | .hbm, ⟨3, _⟩ => ⟨S8192x1024, .f32⟩
  | .hbm, ⟨4, _⟩ => ⟨S5128x8192, .f32⟩
  | .hbm, ⟨5, _⟩ => ⟨S8x8192, .f32⟩
  | .hbm, ⟨6, _⟩ => ⟨S4x2x8192, .f32⟩
  | .hbm, ⟨7, _⟩ => ⟨S_, .i32⟩
  | .hbm, ⟨8, _⟩ => ⟨S_, .f32⟩
  | .hbm, ⟨9, _⟩ => ⟨S4x128x8192, .f32⟩
  | .hbm, ⟨10, _⟩ => ⟨S5120x8192, .f32⟩
  | .hbm, ⟨11, _⟩ => ⟨S512x8192, .f32⟩
  | .hbm, ⟨12, _⟩ => ⟨S5632x8192, .f32⟩
  | .hbm, ⟨13, _⟩ => ⟨S8192x5632, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8x1024, .f32⟩
  | .local _ .vmem, ⟨0, _⟩ => ⟨S8192x128, .f32⟩
  | .local _ .vmem, ⟨1, _⟩ => ⟨S8192x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S4x128, .f32⟩
  | .local _ .vmem, ⟨17, _⟩ => ⟨S4x128, .f32⟩
  | .local _ .vmem, ⟨18, _⟩ => ⟨S8192x128, .bf16⟩
  | .local _ .vmem, ⟨19, _⟩ => ⟨S8192x128, .bf16⟩
  | .local _ .vmem, ⟨20, _⟩ => ⟨S8x128, .f32⟩
  | .local _ .vmem, ⟨21, _⟩ => ⟨S8x128, .f32⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ConvReferenceIdeal.lean ====
abbrev S8192x5128 : Shape := ⟨2, ![8192, 5128]⟩
abbrev S4x1024 : Shape := ⟨2, ![4, 1024]⟩
abbrev S1024 : Shape := ⟨1, ![1024]⟩
abbrev S8192x1024 : Shape := ⟨2, ![8192, 1024]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x5128, .f32⟩
  | .hbm, ⟨1, _⟩ => ⟨S4x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S3x1024, .f32⟩
  | .hbm, ⟨7, _⟩ => ⟨S8195x1024, .f32⟩
  | .hbm, ⟨8, _⟩ => ⟨S_, .f32⟩
  | .hbm, ⟨9, _⟩ => ⟨S3x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S4x1024, .f32⟩
  | .hbm, ⟨65, _⟩ => ⟨S_, .f32⟩
  | .hbm, ⟨66, _⟩ => ⟨S8195x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S4x1024, .f32⟩
  | .hbm, ⟨75, _⟩ => ⟨S4x1024, .f32⟩
  | .hbm, ⟨76, _⟩ => ⟨S_, .f32⟩
  | .hbm, ⟨77, _⟩ => ⟨S8195x1024, .f32⟩
  | .hbm, ⟨78, _⟩ => ⟨S8195x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S8195x1024, .f32⟩
  | .hbm, ⟨90, _⟩ => ⟨S8195x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S4x1024, .f32⟩
  | .hbm, ⟨99, _⟩ => ⟨S4x1024, .f32⟩
  | .hbm, ⟨100, _⟩ => ⟨S_, .f32⟩
  | .hbm, ⟨101, _⟩ => ⟨S8195x1024, .f32⟩
  | .hbm, ⟨102, _⟩ => ⟨S8195x1024, .f32⟩
  | .hbm, ⟨103, _⟩ => ⟨S3x1024, .f32⟩
  | .hbm, ⟨104, _⟩ => ⟨S8192x1024, .f32⟩
  | .hbm, ⟨105, _⟩ => ⟨S8192x1024, .bf16⟩
  | .hbm, ⟨106, _⟩ => ⟨S1x1024, .f32⟩
  | .hbm, ⟨107, _⟩ => ⟨S_, .f32⟩
  | .hbm, ⟨108, _⟩ => ⟨S3x1024, .f32⟩
  | .hbm, ⟨109, _⟩ => ⟨S8x1024, .f32⟩
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== ModKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModReferenceIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GnfKernel.lean ====
abbrev S8192x512 : Shape := ⟨2, ![8192, 512]⟩
abbrev S8192x5128 : Shape := ⟨2, ![8192, 5128]⟩
abbrev S512 : Shape := ⟨1, ![512]⟩
abbrev S5128x8192 : Shape := ⟨2, ![5128, 8192]⟩
abbrev S8x8192 : Shape := ⟨2, ![8, 8192]⟩
abbrev S4x2x8192 : Shape := ⟨3, ![4, 2, 8192]⟩
abbrev S_ : Shape := ⟨0, ![]⟩
abbrev S4x128x8192 : Shape := ⟨3, ![4, 128, 8192]⟩
abbrev S5120x8192 : Shape := ⟨2, ![5120, 8192]⟩
abbrev S512x8192 : Shape := ⟨2, ![512, 8192]⟩
abbrev S5632x8192 : Shape := ⟨2, ![5632, 8192]⟩
abbrev S8192x5632 : Shape := ⟨2, ![8192, 5632]⟩
abbrev S1x512 : Shape := ⟨2, ![1, 512]⟩
abbrev S512x512 : Shape := ⟨2, ![512, 512]⟩
abbrev S512x1 : Shape := ⟨2, ![512, 1]⟩

abbrev nBuf : Space → Nat
  | .hbm => 15
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x5128, .f32⟩
  | .hbm, ⟨2, _⟩ => ⟨S512, .f32⟩
  | .hbm, ⟨3, _⟩ => ⟨S5128x8192, .f32⟩
  | .hbm, ⟨4, _⟩ => ⟨S8x8192, .f32⟩
  | .hbm, ⟨5, _⟩ => ⟨S4x2x8192, .f32⟩
  | .hbm, ⟨6, _⟩ => ⟨S_, .i32⟩
  | .hbm, ⟨7, _⟩ => ⟨S_, .f32⟩
  | .hbm, ⟨8, _⟩ => ⟨S4x128x8192, .f32⟩
  | .hbm, ⟨9, _⟩ => ⟨S5120x8192, .f32⟩
  | .hbm, ⟨10, _⟩ => ⟨S512x8192, .f32⟩
  | .hbm, ⟨11, _⟩ => ⟨S5632x8192, .f32⟩
  | .hbm, ⟨12, _⟩ => ⟨S8192x5632, .f32⟩
  | .hbm, ⟨13, _⟩ => ⟨S1x512, .f32⟩
  | .hbm, ⟨14, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GnfReferenceIdeal.lean ====
abbrev S8192x512 : Shape := ⟨2, ![8192, 512]⟩
abbrev S8192x5128 : Shape := ⟨2, ![8192, 5128]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5128, .f32⟩
  | .hbm, ⟨2, _⟩ => ⟨S512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== UpKernel.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S4096x1024 : Shape := ⟨2, ![4096, 1024]⟩
abbrev S256x1024 : Shape := ⟨2, ![256, 1024]⟩
abbrev S4096x256 : Shape := ⟨2, ![4096, 256]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S_, .i32⟩
  | .hbm, ⟨5, _⟩ => ⟨S_, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S_, .i32⟩
  | .hbm, ⟨10, _⟩ => ⟨S_, .f32⟩
  | .hbm, ⟨11, _⟩ => ⟨S2816x1024, .f32⟩
  | .hbm, ⟨12, _⟩ => ⟨S2816x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .bf16⟩
  | .hbm, ⟨7, _⟩ => ⟨S8192x2816, .bf16⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== DownKernel.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S512x2816 : Shape := ⟨2, ![512, 2816]⟩
abbrev S512x1024 : Shape := ⟨2, ![512, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S2816x1024, .f32⟩
  | .hbm, ⟨7, _⟩ => ⟨S2816x1024, .bf16⟩
  | .hbm, ⟨8, _⟩ => ⟨S8192x1024, .f32⟩
  | .hbm, ⟨9, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== AdaKernel.lean ====
abbrev S8x1024 : Shape := ⟨2, ![8, 1024]⟩
abbrev S2x1024x1152 : Shape := ⟨3, ![2, 1024, 1152]⟩
abbrev S2x1152 : Shape := ⟨2, ![2, 1152]⟩
abbrev S1024x256 : Shape := ⟨2, ![1024, 256]⟩
abbrev S256 : Shape := ⟨1, ![256]⟩
abbrev S8x256 : Shape := ⟨2, ![8, 256]⟩
abbrev S1x1024x1152 : Shape := ⟨3, ![1, 1024, 1152]⟩
abbrev S1024x1152 : Shape := ⟨2, ![1024, 1152]⟩
abbrev S1024x2560 : Shape := ⟨2, ![1024, 2560]⟩
abbrev S1x2304 : Shape := ⟨2, ![1, 2304]⟩
abbrev S1x256 : Shape := ⟨2, ![1, 256]⟩
abbrev S1x2560 : Shape := ⟨2, ![1, 2560]⟩
abbrev S_ : Shape := ⟨0, ![]⟩
abbrev S16x1024 : Shape := ⟨2, ![16, 1024]⟩
abbrev S16x2560 : Shape := ⟨2, ![16, 2560]⟩
abbrev S1024x512 : Shape := ⟨2, ![1024, 512]⟩
abbrev S1x512 : Shape := ⟨2, ![1, 512]⟩
abbrev S16x512 : Shape := ⟨2, ![16, 512]⟩
abbrev S1024x8 : Shape := ⟨2, ![1024, 8]⟩
abbrev S256x8 : Shape := ⟨2, ![256, 8]⟩
abbrev S256x256 : Shape := ⟨2, ![256, 256]⟩
abbrev S256x1 : Shape := ⟨2, ![256, 1]⟩
abbrev S8x2560 : Shape := ⟨2, ![8, 2560]⟩

abbrev nBuf : Space → Nat
  | .hbm => 28
  | .vmem => 25
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S2x1152, .f32⟩
  | .hbm, ⟨3, _⟩ => ⟨S1024x256, .f32⟩
  | .hbm, ⟨4, _⟩ => ⟨S256, .f32⟩
  | .hbm, ⟨5, _⟩ => ⟨S8x256, .f32⟩
  | .hbm, ⟨6, _⟩ => ⟨S1024x256, .f32⟩
  | .hbm, ⟨7, _⟩ => ⟨S1024x256, .f32⟩
  | .hbm, ⟨8, _⟩ => ⟨S1x1024x1152, .f32⟩
  | .hbm, ⟨9, _⟩ => ⟨S1024x1152, .f32⟩
  | .hbm, ⟨10, _⟩ => ⟨S1x1024x1152, .f32⟩
  | .hbm, ⟨11, _⟩ => ⟨S1024x1152, .f32⟩
  | .hbm, ⟨12, _⟩ => ⟨S1024x2560, .f32⟩
  | .hbm, ⟨13, _⟩ => ⟨S1x2304, .f32⟩
  | .hbm, ⟨14, _⟩ => ⟨S1x256, .f32⟩
  | .hbm, ⟨15, _⟩ => ⟨S1x2560, .f32⟩
  | .hbm, ⟨16, _⟩ => ⟨S_, .i32⟩
  | .hbm, ⟨17, _⟩ => ⟨S_, .f32⟩
  | .hbm, ⟨18, _⟩ => ⟨S16x1024, .f32⟩
  | .hbm, ⟨19, _⟩ => ⟨S16x2560, .f32⟩
  | .hbm, ⟨20, _⟩ => ⟨S16x1024, .f32⟩
  | .hbm, ⟨21, _⟩ => ⟨S8x1024, .f32⟩
  | .hbm, ⟨22, _⟩ => ⟨S1024x8, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S8x2560, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | .local _ .vmem, ⟨7, _⟩ => ⟨S16x1024, .f32⟩
  | .local _ .vmem, ⟨8, _⟩ => ⟨S256x8, .f32⟩
  | .local _ .vmem, ⟨9, _⟩ => ⟨S256x8, .f32⟩
  | .local _ .vmem, ⟨10, _⟩ => ⟨S8x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdaReferenceIdeal.lean ====
abbrev S8x1024 : Shape := ⟨2, ![8, 1024]⟩
abbrev S2x1024x1152 : Shape := ⟨3, ![2, 1024, 1152]⟩
abbrev S2x1152 : Shape := ⟨2, ![2, 1152]⟩
abbrev S1024x256 : Shape := ⟨2, ![1024, 256]⟩
abbrev S256 : Shape := ⟨1, ![256]⟩
abbrev S8x256 : Shape := ⟨2, ![8, 256]⟩
abbrev S_ : Shape := ⟨0, ![]⟩
abbrev S1x256 : Shape := ⟨2, ![1, 256]⟩
abbrev S256x1024 : Shape := ⟨2, ![256, 1024]⟩
abbrev S1x1024x1152 : Shape := ⟨3, ![1, 1024, 1152]⟩
abbrev S1024x1152 : Shape := ⟨2, ![1024, 1152]⟩
abbrev S1x1152 : Shape := ⟨2, ![1, 1152]⟩
abbrev S1152 : Shape := ⟨1, ![1152]⟩
abbrev S8x1152 : Shape := ⟨2, ![8, 1152]⟩
abbrev S8x2560 : Shape := ⟨2, ![8, 2560]⟩

abbrev nBuf : Space → Nat
  | .hbm => 91
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S2x1152, .f32⟩
  | .hbm, ⟨3, _⟩ => ⟨S1024x256, .f32⟩
  | .hbm, ⟨4, _⟩ => ⟨S256, .f32⟩
  | .hbm, ⟨5, _⟩ => ⟨S8x256, .f32⟩
  | .hbm, ⟨6, _⟩ => ⟨S1024x256, .f32⟩
  | .hbm, ⟨7, _⟩ => ⟨S1024x256, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x256, .f32⟩
  | .hbm, ⟨18, _⟩ => ⟨S1x256, .f32⟩
  | .hbm, ⟨19, _⟩ => ⟨S8x256, .f32⟩
  | .hbm, ⟨20, _⟩ => ⟨S8x256, .f32⟩
  | .hbm, ⟨21, _⟩ => ⟨S256x1024, .f32⟩
  | .hbm, ⟨22, _⟩ => ⟨S1024x256, .f32⟩
  | .hbm, ⟨23, _⟩ => ⟨S1x1024x1152, .f32⟩
  | .hbm, ⟨24, _⟩ => ⟨S1024x1152, .f32⟩
  | .hbm, ⟨25, _⟩ => ⟨S1x1152, .f32⟩
  | .hbm, ⟨26, _⟩ => ⟨S1152, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S8x1152, .f32⟩
  | .hbm, ⟨37, _⟩ => ⟨S1x1152, .f32⟩
  | .hbm, ⟨38, _⟩ => ⟨S8x1152, .f32⟩
  | .hbm, ⟨39, _⟩ => ⟨S8x1152, .f32⟩
  | .hbm, ⟨40, _⟩ => ⟨S1x1024x1152, .f32⟩
  | .hbm, ⟨41, _⟩ => ⟨S1024x1152, .f32⟩
  | .hbm, ⟨42, _⟩ => ⟨S1x1152, .f32⟩
  | .hbm, ⟨43, _⟩ => ⟨S1152, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | .hbm, ⟨49, _⟩ => ⟨S_, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8x1152, .f32⟩
  | .hbm, ⟨54, _⟩ => ⟨S1x1152, .f32⟩
  | .hbm, ⟨55, _⟩ => ⟨S8x1152, .f32⟩
  | .hbm, ⟨56, _⟩ => ⟨S8x1152, .f32⟩
  | .hbm, ⟨57, _⟩ => ⟨S8x2560, .f32⟩
  | .hbm, ⟨58, _⟩ => ⟨S_, .f32⟩
  | .hbm, ⟨59, _⟩ => ⟨S1024x256, .f32⟩
  | .hbm, ⟨60, _⟩ => ⟨S1024x256, .f32⟩
  | .hbm, ⟨61, _⟩ => ⟨S_, .f32⟩
  | .hbm, ⟨62, _⟩ => ⟨S1024x256, .f32⟩
  | .hbm, ⟨63, _⟩ => ⟨S1024x256, .f32⟩
  | .hbm, ⟨64, _⟩ => ⟨S1024x256, .f32⟩
  | .hbm, ⟨65, _⟩ => ⟨S_, .f32⟩
  | .hbm, ⟨66, _⟩ => ⟨S1024x256, .f32⟩
  | .hbm, ⟨67, _⟩ => ⟨S1024x256, .f32⟩
  | .hbm, ⟨68, _⟩ => ⟨S1024x256, .f32⟩
  | .hbm, ⟨69, _⟩ => ⟨S_, .f32⟩
  | .hbm, ⟨70, _⟩ => ⟨S1024x256, .f32⟩
  | .hbm, ⟨71, _⟩ => ⟨S1024x256, .f32⟩
  | .hbm, ⟨72, _⟩ => ⟨S1024x256, .f32⟩
  | .hbm, ⟨73, _⟩ => ⟨S_, .f32⟩
  | .hbm, ⟨74, _⟩ => ⟨S1024x256, .f32⟩
  | .hbm, ⟨75, _⟩ => ⟨S1024x256, .f32⟩
  | .hbm, ⟨76, _⟩ => ⟨S_, .f32⟩
  | .hbm, ⟨77, _⟩ => ⟨S1024x256, .f32⟩
  | .hbm, ⟨78, _⟩ => ⟨S1024x256, .f32⟩
  | .hbm, ⟨79, _⟩ => ⟨S1024x256, .f32⟩
  | .hbm, ⟨80, _⟩ => ⟨S_, .f32⟩
  | .hbm, ⟨81, _⟩ => ⟨S1024x256, .f32⟩
  | .hbm, ⟨82, _⟩ => ⟨S1024x256, .f32⟩
  | .hbm, ⟨83, _⟩ => ⟨S1024x256, .f32⟩
  | .hbm, ⟨84, _⟩ => ⟨S_, .f32⟩
  | .hbm, ⟨85, _⟩ => ⟨S1024x256, .f32⟩
  | .hbm, ⟨86, _⟩ => ⟨S1024x256, .f32⟩
  | .hbm, ⟨87, _⟩ => ⟨S1024x256, .f32⟩
  | .hbm, ⟨88, _⟩ => ⟨S_, .f32⟩
  | .hbm, ⟨89, _⟩ => ⟨S1024x256, .f32⟩
  | .hbm, ⟨90, _⟩ => ⟨S1024x256, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst : Ref sig .tc := ⟨.hbm, 58, rfl⟩
abbrev main_v26 : Ref sig .tc := ⟨.hbm, 59, rfl⟩
abbrev main_v27 : Ref sig .tc := ⟨.hbm, 60, rfl⟩
abbrev main_cst_0 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_1 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_2 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_5 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_7 : Ref sig .tc := ⟨.hbm, 88, rfl⟩
abbrev main_v48 : Ref sig .tc := ⟨.hbm, 89, rfl⟩
abbrev main_v49 : Ref sig .tc := ⟨.hbm, 90, rfl⟩

abbrev nD : Nat := 1
abbrev τ : Topo := Topo.v7x

variable {F : FTy → Type} [FloatOps F]
-- ==== OptKernel.lean ====
abbrev S4x352x1024 : Shape := ⟨3, ![4, 352, 1024]⟩
abbrev S1024x352 : Shape := ⟨2, ![1024, 352]⟩
abbrev S352x1024 : Shape := ⟨2, ![352, 1024]⟩
abbrev S4x1056x1024 : Shape := ⟨3, ![4, 1056, 1024]⟩
abbrev S_ : Shape := ⟨0, ![]⟩
abbrev S1056x1024 : Shape := ⟨2, ![1056, 1024]⟩
abbrev S1x352x1024 : Shape := ⟨3, ![1, 352, 1024]⟩

abbrev nBuf : Space → Nat
  | .hbm => 53
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S1024x352, .f32⟩
  | .hbm, ⟨8, _⟩ => ⟨S352x1024, .f32⟩
  | .hbm, ⟨9, _⟩ => ⟨S1024x352, .f32⟩
  | .hbm, ⟨10, _⟩ => ⟨S1024x352, .f32⟩
  | .hbm, ⟨11, _⟩ => ⟨S352x1024, .f32⟩
  | .hbm, ⟨12, _⟩ => ⟨S4x1056x1024, .bf16⟩
  | .hbm, ⟨13, _⟩ => ⟨S352x1024, .f32⟩
  | .hbm, ⟨14, _⟩ => ⟨S_, .i32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S_, .i32⟩
  | .hbm, ⟨19, _⟩ => ⟨S_, .f32⟩
  | .hbm, ⟨20, _⟩ => ⟨S352x1024, .f32⟩
  | .hbm, ⟨21, _⟩ => ⟨S_, .i32⟩
  | .hbm, ⟨22, _⟩ => ⟨S_, .f32⟩
  | .hbm, ⟨23, _⟩ => ⟨S352x1024, .f32⟩
  | .hbm, ⟨24, _⟩ => ⟨S1056x1024, .f32⟩
  | .hbm, ⟨25, _⟩ => ⟨S352x1024, .f32⟩
  | .hbm, ⟨26, _⟩ => ⟨S_, .i32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .i32⟩
  | .hbm, ⟨31, _⟩ => ⟨S_, .f32⟩
  | .hbm, ⟨32, _⟩ => ⟨S352x1024, .f32⟩
  | .hbm, ⟨33, _⟩ => ⟨S_, .i32⟩
  | .hbm, ⟨34, _⟩ => ⟨S_, .f32⟩
  | .hbm, ⟨35, _⟩ => ⟨S352x1024, .f32⟩
  | .hbm, ⟨36, _⟩ => ⟨S1056x1024, .f32⟩
  | .hbm, ⟨37, _⟩ => ⟨S352x1024, .f32⟩
  | .hbm, ⟨38, _⟩ => ⟨S_, .i32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S_, .i32⟩
  | .hbm, ⟨43, _⟩ => ⟨S_, .f32⟩
  | .hbm, ⟨44, _⟩ => ⟨S352x1024, .f32⟩
  | .hbm, ⟨45, _⟩ => ⟨S_, .i32⟩
  | .hbm, ⟨46, _⟩ => ⟨S_, .f32⟩
  | .hbm, ⟨47, _⟩ => ⟨S352x1024, .f32⟩
  | .hbm, ⟨48, _⟩ => ⟨S1056x1024, .f32⟩
  | .hbm, ⟨49, _⟩ => ⟨S1056x1024, .f32⟩
  | .hbm, ⟨50, _⟩ => ⟨S1056x1024, .f32⟩
  | .hbm, ⟨51, _⟩ => ⟨S1056x1024, .f32⟩
  | .hbm, ⟨52, _⟩ => ⟨S1056x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_c_1 : Ref sig .tc := ⟨.hbm, 21, rfl⟩
abbrev main_call2_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_call3_v0 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_call4_v0 : Ref sig .tc := ⟨.hbm, 31, rfl⟩
abbrev main_v10 : Ref sig .tc := ⟨.hbm, 32, rfl⟩
abbrev main_c_4 : Ref sig .tc := ⟨.hbm, 33, rfl⟩
abbrev main_call5_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_5 : Ref sig .tc := ⟨.hbm, 38, rfl⟩
abbrev main_call6_v0 : Ref sig .tc := ⟨.hbm, 39, rfl⟩
abbrev main_v14 : Ref sig .tc := ⟨.hbm, 40, rfl⟩
abbrev main_v15 : Ref sig .tc := ⟨.hbm, 41, rfl⟩
abbrev main_c_6 : Ref sig .tc := ⟨.hbm, 42, rfl⟩
abbrev main_call7_v0 : Ref sig .tc := ⟨.hbm, 43, rfl⟩
abbrev main_v16 : Ref sig .tc := ⟨.hbm, 44, rfl⟩
abbrev main_c_7 : Ref sig .tc := ⟨.hbm, 45, rfl⟩
abbrev main_call8_v0 : Ref sig .tc := ⟨.hbm, 46, rfl⟩
abbrev main_v17 : Ref sig .tc := ⟨.hbm, 47, rfl⟩
abbrev main_v18 : Ref sig .tc := ⟨.hbm, 48, rfl⟩
abbrev main_v19_0 : Ref sig .tc := ⟨.hbm, 49, rfl⟩
abbrev main_v19_1 : Ref sig .tc := ⟨.hbm, 50, rfl⟩
abbrev main_v19_2 : Ref sig .tc := ⟨.hbm, 51, rfl⟩
abbrev main_v19_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptReferenceIdeal.lean ====
abbrev S4x352x1024 : Shape := ⟨3, ![4, 352, 1024]⟩
abbrev S1024x352 : Shape := ⟨2, ![1024, 352]⟩
abbrev S352x1024 : Shape := ⟨2, ![352, 1024]⟩
abbrev S_ : Shape := ⟨0, ![]⟩
abbrev S1056x1024 : Shape := ⟨2, ![1056, 1024]⟩

abbrev nBuf : Space → Nat
  | .hbm => 134
  | .vmem => 0
  | .smem => 0
  | _ => 0

abbrev hbmTy0_0 (i : Nat) : BufTy := match i % 128 with
  | 0 => ⟨S4x352x1024, .bf16⟩
  | 1 => ⟨S4x352x1024, .bf16⟩
  | 2 => ⟨S4x352x1024, .bf16⟩
  | 3 => ⟨S1024x352, .f32⟩
  | 4 => ⟨S1024x352, .f32⟩
  | 5 => ⟨S352x1024, .f32⟩
  | 6 => ⟨S1024x352, .f32⟩
  | 7 => ⟨S1024x352, .f32⟩
  | 8 => ⟨S352x1024, .f32⟩
  | 9 => ⟨S1024x352, .f32⟩
  | 10 => ⟨S1024x352, .f32⟩
  | 11 => ⟨S352x1024, .f32⟩
  | 12 => ⟨S4x352x1024, .f32⟩
  | 13 => ⟨S_, .f32⟩
  | 14 => ⟨S352x1024, .f32⟩
  | 15 => ⟨S1024x352, .f32⟩
  | 16 => ⟨S4x352x1024, .f32⟩
  | 17 => ⟨S_, .f32⟩
  | 18 => ⟨S352x1024, .f32⟩
  | 19 => ⟨S1024x352, .f32⟩
  | 20 => ⟨S4x352x1024, .f32⟩
  | 21 => ⟨S_, .f32⟩
  | 22 => ⟨S352x1024, .f32⟩
  | 23 => ⟨S_, .f32⟩
  | 24 => ⟨S1024x352, .f32⟩
  | 25 => ⟨S1024x352, .f32⟩
  | 26 => ⟨S_, .f32⟩
  | 27 => ⟨S1024x352, .f32⟩
  | 28 => ⟨S1024x352, .f32⟩
  | 29 => ⟨S1024x352, .f32⟩
  | 30 => ⟨S_, .f32⟩
  | 31 => ⟨S1024x352, .f32⟩
  | 32 => ⟨S1024x352, .f32⟩
  | 33 => ⟨S1024x352, .f32⟩
  | 34 => ⟨S_, .f32⟩
  | 35 => ⟨S1024x352, .f32⟩
  | 36 => ⟨S1024x352, .f32⟩
  | 37 => ⟨S1024x352, .f32⟩
  | 38 => ⟨S_, .f32⟩
  | 39 => ⟨S1024x352, .f32⟩
  | 40 => ⟨S1024x352, .f32⟩
  | 41 => ⟨S_, .f32⟩
  | 42 => ⟨S1024x352, .f32⟩
  | 43 => ⟨S1024x352, .f32⟩
  | 44 => ⟨S1024x352, .f32⟩
  | 45 => ⟨S_, .f32⟩
  | 46 => ⟨S1024x352, .f32⟩
  | 47 => ⟨S1024x352, .f32⟩
  | 48 => ⟨S1024x352, .f32⟩
  | 49 => ⟨S_, .f32⟩
  | 50 => ⟨S1024x352, .f32⟩
  | 51 => ⟨S1024x352, .f32⟩
  | 52 => ⟨S1024x352, .f32⟩
  | 53 => ⟨S_, .f32⟩
  | 54 => ⟨S1024x352, .f32⟩
  | 55 => ⟨S1024x352, .f32⟩
  | 56 => ⟨S_, .f32⟩
  | 57 => ⟨S1024x352, .f32⟩
  | 58 => ⟨S1024x352, .f32⟩
  | 59 => ⟨S_, .f32⟩
  | 60 => ⟨S1024x352, .f32⟩
  | 61 => ⟨S1024x352, .f32⟩
  | 62 => ⟨S1024x352, .f32⟩
  | 63 => ⟨S_, .f32⟩
  | 64 => ⟨S1024x352, .f32⟩
  | 65 => ⟨S1024x352, .f32⟩
  | 66 => ⟨S1024x352, .f32⟩
  | 67 => ⟨S_, .f32⟩
  | 68 => ⟨S1024x352, .f32⟩
  | 69 => ⟨S1024x352, .f32⟩
  | 70 => ⟨S1024x352, .f32⟩
  | 71 => ⟨S_, .f32⟩
  | 72 => ⟨S1024x352, .f32⟩
  | 73 => ⟨S1024x352, .f32⟩
  | 74 => ⟨S_, .f32⟩
  | 75 => ⟨S1024x352, .f32⟩
  | 76 => ⟨S1024x352, .f32⟩
  | 77 => ⟨S1024x352, .f32⟩
  | 78 => ⟨S_, .f32⟩
  | 79 => ⟨S1024x352, .f32⟩
  | 80 => ⟨S1024x352, .f32⟩
  | 81 => ⟨S1024x352, .f32⟩
  | 82 => ⟨S_, .f32⟩
  | 83 => ⟨S1024x352, .f32⟩
  | 84 => ⟨S1024x352, .f32⟩
  | 85 => ⟨S1024x352, .f32⟩
  | 86 => ⟨S_, .f32⟩
  | 87 => ⟨S1024x352, .f32⟩
  | 88 => ⟨S1024x352, .f32⟩
  | 89 => ⟨S_, .f32⟩
  | 90 => ⟨S352x1024, .f32⟩
  | 91 => ⟨S352x1024, .f32⟩
  | 92 => ⟨S_, .f32⟩
  | 93 => ⟨S352x1024, .f32⟩
  | 94 => ⟨S352x1024, .f32⟩
  | 95 => ⟨S352x1024, .f32⟩
  | 96 => ⟨S_, .f32⟩
  | 97 => ⟨S352x1024, .f32⟩
  | 98 => ⟨S352x1024, .f32⟩
  | 99 => ⟨S352x1024, .f32⟩
  | 100 => ⟨S_, .f32⟩
  | 101 => ⟨S352x1024, .f32⟩
  | 102 => ⟨S352x1024, .f32⟩
  | 103 => ⟨S352x1024, .f32⟩
  | 104 => ⟨S_, .f32⟩
  | 105 => ⟨S352x1024, .f32⟩
  | 106 => ⟨S352x1024, .f32⟩
  | 107 => ⟨S_, .f32⟩
  | 108 => ⟨S352x1024, .f32⟩
  | 109 => ⟨S352x1024, .f32⟩
  | 110 => ⟨S352x1024, .f32⟩
  | 111 => ⟨S_, .f32⟩
  | 112 => ⟨S352x1024, .f32⟩
  | 113 => ⟨S352x1024, .f32⟩
  | 114 => ⟨S352x1024, .f32⟩
  | 115 => ⟨S_, .f32⟩
  | 116 => ⟨S352x1024, .f32⟩
  | 117 => ⟨S352x1024, .f32⟩
  | 118 => ⟨S352x1024, .f32⟩
  | 119 => ⟨S_, .f32⟩
  | 120 => ⟨S352x1024, .f32⟩
  | 121 => ⟨S352x1024, .f32⟩
  | 122 => ⟨S352x1024, .f32⟩
  | 123 => ⟨S352x1024, .f32⟩
  | 124 => ⟨S1056x1024, .f32⟩
  | 125 => ⟨S352x1024, .f32⟩
  | 126 => ⟨S352x1024, .f32⟩
  | 127 => ⟨S1056x1024, .f32⟩
  | _ => ⟨S4x352x1024, .bf16⟩

abbrev hbmTy0_1 (i : Nat) : BufTy := match i % 128 with
  | 0 => ⟨S352x1024, .f32⟩
  | 1 => ⟨S352x1024, .f32⟩
  | 2 => ⟨S1056x1024, .f32⟩
  | 3 => ⟨S352x1024, .f32⟩
  | 4 => ⟨S352x1024, .f32⟩
  | 5 => ⟨S1056x1024, .f32⟩
  | _ => ⟨S4x352x1024, .bf16⟩

abbrev hbmTy (i : Nat) : BufTy := match i / 128 with
  | 0 => hbmTy0_0 i
  | 1 => hbmTy0_1 i
  | _ => ⟨S4x352x1024, .bf16⟩

abbrev bufTy : (tb : Table) → Fin (tcTables nBuf tb) → BufTy
  | .hbm, ⟨i, _⟩ => hbmTy i
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_cst_16 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_19 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_cst_25 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_26 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_27 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_28 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== MmKernel.lean ====
abbrev S8192x1024 : Shape := ⟨2, ![8192, 1024]⟩
abbrev S1024x5128 : Shape := ⟨2, ![1024, 5128]⟩
abbrev S5128x1024 : Shape := ⟨2, ![5128, 1024]⟩
abbrev S_ : Shape := ⟨0, ![]⟩
abbrev S5136x1024 : Shape := ⟨2, ![5136, 1024]⟩
abbrev S8x1024 : Shape := ⟨2, ![8, 1024]⟩
abbrev S4x2x1024 : Shape := ⟨3, ![4, 2, 1024]⟩
abbrev S4x128x1024 : Shape := ⟨3, ![4, 128, 1024]⟩
abbrev S5120x1024 : Shape := ⟨2, ![5120, 1024]⟩
abbrev S512x1024 : Shape := ⟨2, ![512, 1024]⟩
abbrev S5632x1024 : Shape := ⟨2, ![5632, 1024]⟩
abbrev S8192x5632 : Shape := ⟨2, ![8192, 5632]⟩
abbrev S4096x1024 : Shape := ⟨2, ![4096, 1024]⟩
abbrev S4096x512 : Shape := ⟨2, ![4096, 512]⟩

abbrev nBuf : Space → Nat
  | .hbm => 19
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5128, .f32⟩
  | .hbm, ⟨2, _⟩ => ⟨S5128x1024, .f32⟩
  | .hbm, ⟨3, _⟩ => ⟨S_, .i32⟩
  | .hbm, ⟨4, _⟩ => ⟨S_, .f32⟩
  | .hbm, ⟨5, _⟩ => ⟨S5136x1024, .f32⟩
  | .hbm, ⟨6, _⟩ => ⟨S5136x1024, .bf16⟩
  | .hbm, ⟨7, _⟩ => ⟨S5128x1024, .bf16⟩
  | .hbm, ⟨8, _⟩ => ⟨S1024x5128, .bf16⟩
  | .hbm, ⟨9, _⟩ => ⟨S5128x1024, .bf16⟩
  | .hbm, ⟨10, _⟩ => ⟨S8x1024, .bf16⟩
  | .hbm, ⟨11, _⟩ => ⟨S4x2x1024, .bf16⟩
  | .hbm, ⟨12, _⟩ => ⟨S_, .i32⟩
  | .hbm, ⟨13, _⟩ => ⟨S_, .bf16⟩
  | .hbm, ⟨14, _⟩ => ⟨S4x128x1024, .bf16⟩
  | .hbm, ⟨15, _⟩ => ⟨S5120x1024, .bf16⟩
  | .hbm, ⟨16, _⟩ => ⟨S512x1024, .bf16⟩
  | .hbm, ⟨17, _⟩ => ⟨S5632x1024, .bf16⟩
  | .hbm, ⟨18, _⟩ => ⟨S8192x5632, .f32⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x512, .f32⟩
  | .local _ .vmem, ⟨5, _⟩ => ⟨S4096x512, .f32⟩
  | .local _ .vmem, ⟨6, _⟩ => ⟨S4096x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmReferenceIdeal.lean ====
abbrev S8192x1024 : Shape := ⟨2, ![8192, 1024]⟩
abbrev S1024x5128 : Shape := ⟨2, ![1024, 5128]⟩
abbrev S8192x5128 : Shape := ⟨2, ![8192, 5128]⟩
abbrev S8192x8 : Shape := ⟨2, ![8192, 8]⟩
abbrev S8192x4x2 : Shape := ⟨3, ![8192, 4, 2]⟩
abbrev S_ : Shape := ⟨0, ![]⟩
abbrev S8192x4x128 : Shape := ⟨3, ![8192, 4, 128]⟩
abbrev S8192x5120 : Shape := ⟨2, ![8192, 5120]⟩
abbrev S8192x512 : Shape := ⟨2, ![8192, 512]⟩
abbrev S8192x5632 : Shape := ⟨2, ![8192, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5128, .f32⟩
  | .hbm, ⟨2, _⟩ => ⟨S8192x1024, .f32⟩
  | .hbm, ⟨3, _⟩ => ⟨S8192x5128, .f32⟩
  | .hbm, ⟨4, _⟩ => ⟨S8192x8, .f32⟩
  | .hbm, ⟨5, _⟩ => ⟨S8192x4x2, .f32⟩
  | .hbm, ⟨6, _⟩ => ⟨S_, .i32⟩
  | .hbm, ⟨7, _⟩ => ⟨S_, .f32⟩
  | .hbm, ⟨8, _⟩ => ⟨S8192x4x128, .f32⟩
  | .hbm, ⟨9, _⟩ => ⟨S8192x5120, .f32⟩
  | .hbm, ⟨10, _⟩ => ⟨S8192x512, .f32⟩
  | .hbm, ⟨11, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Common.lean ====
/- Facts shared by the value proofs: rows stored into and read from a rank-two buffer, and sums accumulated tile by tile. -/
module

public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.WritesUnit
public import Idealize.ShloMosaic.PureOps.Ideal.Laws

@[expose] public section

set_option maxRecDepth 16384

noncomputable section

namespace Cert.Common

open Idealize.ShloMosaic Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## Rows of a rank-two buffer -/

section Rows

variable {sig : RefSig} {κ : Kind} {sp : Space} {e : EltTy} {Val : EltTy → Type} {R D : ℕ}

/-- The last store covering one whole row, read at an index: that row's payload, elsewhere what the earlier stores left. -/
theorem read_row (v : View sig κ sp (⟨2, ![R, D]⟩ : Shape) e) (f : v.ty.Contents Val) (k : ℕ)
    (inb : ∀ a : Fin 2, (![k, 0] : Fin 2 → ℕ) a + (![1, D] : Fin 2 → ℕ) a ≤ (![R, D] : Fin 2 → ℕ) a)
    (w : (⟨2, ![1, D]⟩ : Shape).Idx → Val e) (L : List (View.Piece Val (⟨2, ![R, D]⟩ : Shape) e)) (r : Fin R) (l : Fin D) :
    v.read Val (v.writes Val f ((⟨Rect.unit (s := ⟨2, ![R, D]⟩) ![k, 0] ![1, D] inb, w⟩ : View.Piece Val (⟨2, ![R, D]⟩ : Shape) e) :: L)) (ix2 r l)
      = if r.val = k then w (ix2 0 l) else v.read Val (v.writes Val f L) (ix2 r l) := by
  split
  · next h =>
    exact View.read_writes_cons_rows_of_mem v f (size := ![1, D]) inb w L (ix2 r l) (ix2 0 l) rfl
      (by show r.val = k + 0; omega) rfl
  · next h =>
    exact View.read_writes_cons_rows_of_not_mem v f (size := ![1, D]) (W := 1) inb w L (ix2 r l) rfl rfl
      (by show r.val < k ∨ k + 1 ≤ r.val; omega)

/-- A store covering the whole buffer, read at an index. -/
theorem read_whole (v : View sig κ sp (⟨2, ![R, D]⟩ : Shape) e) (f : v.ty.Contents Val)
    (inb : ∀ a : Fin 2, (![0, 0] : Fin 2 → ℕ) a + (![R, D] : Fin 2 → ℕ) a ≤ (![R, D] : Fin 2 → ℕ) a)
    (w : (⟨2, ![R, D]⟩ : Shape).Idx → Val e) (L : List (View.Piece Val (⟨2, ![R, D]⟩ : Shape) e)) (r : Fin R) (l : Fin D) :
    v.read Val (v.writes Val f ((⟨Rect.unit (s := ⟨2, ![R, D]⟩) ![0, 0] ![R, D] inb, w⟩ : View.Piece Val (⟨2, ![R, D]⟩ : Shape) e) :: L)) (ix2 r l)
      = w (ix2 r l) :=
  View.read_writes_cons_rows_of_mem v f (size := ![R, D]) inb w L (ix2 r l) (ix2 r l) rfl
    (by show r.val = 0 + r.val; omega) rfl

/-- A load of one row, at an index. -/
theorem readAt_row (v : View sig κ sp (⟨2, ![R, D]⟩ : Shape) e) (f : v.ty.Contents Val) (k : ℕ) (hk : k < R)
    (inb : ∀ a : Fin 2, (![k, 0] : Fin 2 → ℕ) a + (![1, D] : Fin 2 → ℕ) a ≤ (![R, D] : Fin 2 → ℕ) a) (l : Fin D) :
    v.readAt Val (Rect.unit (s := ⟨2, ![R, D]⟩) ![k, 0] ![1, D] inb).toLoadRect f (ix2 0 l) = v.read Val f (ix2 ⟨k, hk⟩ l) := by
  show v.read Val f _ = _
  congr 1
  refine Shape.idx_ext₂ ?_ ?_
  · show k + 1 * 0 = k; omega
  · show 0 + 1 * l.val = l.val; omega

/-- A load of a whole buffer. -/
theorem readAt_whole {sig : RefSig} {κ : Kind} {sp : Space} {e : EltTy} {Val : EltTy → Type} {S : Shape} (a : Memref sig κ sp S e) (h : a.IsWhole)
    {off : Fin S.rank → ℕ} (hoff : ∀ i, off i = 0) (inb : ∀ i, off i + S.size i ≤ S.size i) (x : S.Idx → Val e) :
    View.readAt Val a.view (Rect.unit (s := S) off S.size inb).toLoadRect (h.unread x) = x := by
  obtain rfl : off = fun _ => 0 := funext hoff
  rw [View.readAt_eq_ld, h.read_unread]
  exact View.ld_unit_zero (S := S) rfl _ _

/-- A load of one row behind some stores, at an index. -/
theorem readCov_row [∀ e, Nonempty (Val e)] (v : View sig κ sp (⟨2, ![R, D]⟩ : Shape) e) (L : List (View.Piece Val (⟨2, ![R, D]⟩ : Shape) e))
    (k : ℕ) (hk : k < R)
    (inb : ∀ a : Fin 2, (![k, 0] : Fin 2 → ℕ) a + (![1, D] : Fin 2 → ℕ) a ≤ (![R, D] : Fin 2 → ℕ) a) (l : Fin D) :
    v.readCov L (Rect.unit (s := ⟨2, ![R, D]⟩) ![k, 0] ![1, D] inb).toLoadRect (ix2 0 l)
      = v.read Val (v.writes Val v.junk L) (ix2 ⟨k, hk⟩ l) :=
  readAt_row v _ k hk inb l

end Rows

/-! ## Sums accumulated tile by tile -/

/-- The terms of `N` tiles of `T` rows are the terms of all the rows. -/
theorem sum_tiles {M : Type} [AddCommMonoid M] {N T R : ℕ} (F : Fin N → Fin T → M) (G : Fin R → M) (hR : T * N = R)
    (h : ∀ (t : Fin N) (k : Fin T) (hi : T * t.val + k.val < R), F t k = G ⟨T * t.val + k.val, hi⟩) :
    ∑ t, ∑ k, F t k = ∑ i, G i := by
  subst hR
  rw [← Finset.sum_product', Finset.univ_product_univ, ← (finProdFinEquiv.trans (finCongr (Nat.mul_comm N T))).sum_comp]
  refine Finset.sum_congr rfl fun p _ => ?_
  have e : (finProdFinEquiv.trans (finCongr (Nat.mul_comm N T))) p = ⟨T * p.1.val + p.2.val, by
      have h1 := p.1.isLt; have h2 := p.2.isLt
      calc T * p.1.val + p.2.val < T * p.1.val + T := by omega
        _ = T * (p.1.val + 1) := by ring
        _ ≤ T * N := Nat.mul_le_mul_left T h1⟩ := Fin.ext (by simp [finProdFinEquiv]; ring)
  rw [e]
  exact h p.1 p.2 _

/-- A running sum reset at the first point, that takes a tile of `T` terms at every point, is at the last point the sum of
    all the terms. -/
theorem acc_last {M : Type} [AddCommMonoid M] {N T R : ℕ} (J : ℕ) (f : (n : ℕ) → n < N → M) (F : Fin N → Fin T → M) (G : Fin R → M)
    (h0 : ∀ t : Fin N, t.val % J = 0 → f t.val t.isLt = ∑ k, F t k)
    (hs : ∀ t : Fin N, ¬t.val % J = 0 → f t.val t.isLt = f (t.val - 1) (Nat.lt_of_le_of_lt (Nat.sub_le _ _) t.isLt) + ∑ k, F t k)
    (hN : N ≤ J) (hR : T * N = R)
    (h : ∀ (t : Fin N) (k : Fin T) (hi : T * t.val + k.val < R), F t k = G ⟨T * t.val + k.val, hi⟩)
    (t : Fin N) (ht : t.val + 1 = N) : f t.val t.isLt = ∑ i, G i := by
  rw [Pipeline.eq_sum_fin_of_reset_step_last f J 0 (fun t => ∑ k, F t k) (fun t h => by rw [h0 t h, zero_add]) hs hN t ht, zero_add]
  exact sum_tiles F G hR h

/-- What is zero after the first point and kept at every later one is zero at every point. -/
theorem zero_kept {M : Type} [AddCommMonoid M] {N : ℕ} (J : ℕ) (f : (n : ℕ) → n < N → M)
    (h0 : ∀ t : Fin N, t.val % J = 0 → f t.val t.isLt = 0)
    (hs : ∀ t : Fin N, ¬t.val % J = 0 → f t.val t.isLt = f (t.val - 1) (Nat.lt_of_le_of_lt (Nat.sub_le _ _) t.isLt))
    (t : Fin N) : f t.val t.isLt = 0 := by
  rw [Pipeline.eq_sum_of_reset_step f J 0 (fun _ => 0) (fun t h => by rw [h0 t h, zero_add]) (fun t h => by rw [hs t h, add_zero])]
  simp

/-- The literal one half. -/
theorem ofBits_half : Ideal.ofBits .f32 0x3F000000#32 = ((1 / 2 : ℝ) : EReal) := by
  simp [Ideal.ofBits, Ideal.ieee]
  rw [← EReal.coe_mul]; norm_num

/-- The literal one. -/
theorem ofBits_one : Ideal.ofBits .f32 0x3F800000#32 = 1 := by
  simp [Ideal.ofBits, Ideal.ieee]
  rw [← EReal.coe_mul]; norm_num

/-- A nonnegative real factor moves through a finite sum of extended reals. -/
theorem real_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

end Cert.Common

end
-- ==== Proof.GateValue.lean ====
/- What the gated residual's gradient leaves in its two results, as functions of its arguments. -/
module

public import proofs.«01_k».proof.Proof.Gen.GateKernelIdeal.Value
public import proofs.«01_k».proof.Proof.Common
public import proofs.«01_k».proof.Defs
public import proofs.«01_k».proof.Proof.Gen.GateReferenceIdeal.Read
public import Idealize.ShloMosaic.Lib.Tactic

@[expose] public section

set_option maxRecDepth 16384

noncomputable section

namespace Cert.GateKernelIdeal.Value

open Cert.GateKernelIdeal Cert.GateKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

/-- The output's gradient of one tile. -/
theorem outA3 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S8x1024 .f32) (h5 : a5.IsWhole) (hc0 : cond0_0 i)
    (x0 : Vec Ideal S512x1024 .f32) (x1 : Vec Ideal S512x1024 .f32) (x2 : Vec Ideal S1x1024 .f32) :
    out0_A_3 c i a1 h1 a2 h2 a3 h3 a4 h4 a5 h5 hc0 x0 x1 x2 = k0_pay1 x0 x2 := by
  frame_out

theorem outB3 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S8x1024 .f32) (h5 : a5.IsWhole) (hc0 : ¬ cond0_0 i)
    (x0 : Vec Ideal S512x1024 .f32) (x1 : Vec Ideal S512x1024 .f32) (x2 : Vec Ideal S1x1024 .f32) (xo : Vec Ideal S8x1024 .f32) :
    out0_B_3 c i a1 h1 a2 h2 a3 h3 a4 h4 a5 h5 hc0 x0 x1 x2 xo = k0_pay1 x0 x2 := by
  frame_out

/-- The first point's statistics: row 0 the first tile's half sum, the other rows zero. -/
theorem outA4 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S8x1024 .f32) (h5 : a5.IsWhole) (hc0 : cond0_0 i)
    (x0 : Vec Ideal S512x1024 .f32) (x1 : Vec Ideal S512x1024 .f32) (x2 : Vec Ideal S1x1024 .f32) (r : Fin 8) (l : Fin 1024) :
    out0_A_4 c i a1 h1 a2 h2 a3 h3 a4 h4 a5 h5 hc0 x0 x1 x2 (ix2 r l)
      = if r.val = 0 then ∑ k : Fin 512, ((1 / 2 : ℝ) : EReal) * (x0 (ix2 k l) * x1 (ix2 k l)) else 0 := by
  unfold out0_A_4
  unfold kernelRun0_A
  dsimp only
  sl_unfold_words
  rw [read_row, read_whole, readAt_whole _ h1 (by decide), readAt_whole _ h2 (by decide)]
  split
  · pointwise [k0_pay3]
    rw [readCov_row (R := 8) (D := 1024) a5.view _ 0 (by decide), read_whole, ofBits_half, real_mul_sum _ _ (by norm_num)]
    pointwise [k0_pay2]
  · pointwise [k0_pay2]

/-- A later point's statistics: row 0 its tile's half sum over what the point before left, the other rows kept. -/
theorem outB4 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S8x1024 .f32) (h5 : a5.IsWhole) (hc0 : ¬ cond0_0 i)
    (x0 : Vec Ideal S512x1024 .f32) (x1 : Vec Ideal S512x1024 .f32) (x2 : Vec Ideal S1x1024 .f32) (xo : Vec Ideal S8x1024 .f32) (r : Fin 8) (l : Fin 1024) :
    out0_B_4 c i a1 h1 a2 h2 a3 h3 a4 h4 a5 h5 hc0 x0 x1 x2 xo (ix2 r l)
      = if r.val = 0 then xo (ix2 r l) + ∑ k : Fin 512, ((1 / 2 : ℝ) : EReal) * (x0 (ix2 k l) * x1 (ix2 k l)) else xo (ix2 r l) := by
  unfold out0_B_4
  unfold kernelRun0_B
  dsimp only
  sl_unfold_words
  rw [read_row, View.writes_nil, h5.read_unread, readAt_whole _ h1 (by decide), readAt_whole _ h2 (by decide)]
  split
  · next h =>
    pointwise [k0_pay3]
    rw [readAt_row (R := 8) (D := 1024) a5.view _ 0 (by decide), h5.read_unread, ofBits_half, real_mul_sum _ _ (by norm_num),
      show r = ⟨0, by decide⟩ from Fin.ext h]
  · rfl

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- The term of row `i` in the gate's gradient at lane `l`. -/
abbrev term {R : ℕ} (X0 X1 : FVec Ideal ⟨2, ![R, 1024]⟩ .f32) (l : Fin 1024) (i : Fin R) : EReal := ((1 / 2 : ℝ) : EReal) * (X0 (ix2 i l) * X1 (ix2 i l))

/-- Row 0 of the statistics after the last point: the gate's gradient; the other rows zero. -/
theorem stat (c : Dev nD) (t : Fin cfg0.N) (ht : t.val + 1 = cfg0.N) (r : Fin 8) (l : Fin 1024) :
    (outsAt0 m c t.val t.isLt).2 (ix2 r l)
      = if r.val = 0 then ∑ i : Fin 8192, term (R := 8192) (m ((c : Thread nD τ).loc main_arg0)) (m ((c : Thread nD τ).loc main_arg1)) l i else 0 := by
  split
  · next h =>
    refine acc_last 16 (fun n h => (outsAt0 m c n h).2 (ix2 r l)) (fun t k => term (R := 512) (iblk m c 0 t) (iblk m c 1 t) l k) _
      (fun t h0 => ?_) (fun t h0 => ?_) (le_of_eq N_0) (by rw [show cfg0.N = 16 from N_0]) (fun t k hi => ?_) t ht
    · show (outsAt0 m c t.val t.isLt).2 (ix2 r l) = _
      rw [outsAt0_A m c t h0]
      dsimp only
      rw [outA4, if_pos h]
    · show (outsAt0 m c t.val t.isLt).2 (ix2 r l) = _
      rw [outsAt0_B m c t h0]
      dsimp only
      rw [outB4, if_pos h]
    · dsimp only [term]
      blk_point [iblk, V, idx t]
  · next h =>
    refine zero_kept 16 (fun n h => (outsAt0 m c n h).2 (ix2 r l)) (fun t h0 => ?_) (fun t h0 => ?_) t
    · show (outsAt0 m c t.val t.isLt).2 (ix2 r l) = _
      rw [outsAt0_A m c t h0]
      dsimp only
      rw [outA4, if_neg h]
    · show (outsAt0 m c t.val t.isLt).2 (ix2 r l) = _
      rw [outsAt0_B m c t h0]
      dsimp only
      rw [outB4, if_neg h]

open Cert.GateReferenceIdeal.Read in
/-- The reference's gate gradient over seven zero rows, at an index. -/
theorem ref4 (X0 X1 : FVec Ideal S8192x1024 .f32) (r : Fin 8) (l : Fin 1024) :
    val_main_v19 (F := Ideal) X0 X1 (ix2 r l) = if r.val = 0 then ∑ i : Fin 8192, term (R := 8192) X0 X1 l i else 0 := by
  pointwise [val_main_v19, val_main_v18, val_main_v16, val_main_v15, val_main_v14, val_main_v13, val_main_v12, val_main_v9, val_main_cst_2, val_main_cst_3, val_main_cst_4]
  rw [ofBits_half, real_mul_sum _ _ (by norm_num)]
  simp only [Nat.lt_one_iff, dite_eq_ite]

theorem final3 (c : Dev nD) : (dats m 0 c).arrAt 3 cfg0.N
    = Cert.GateReferenceIdeal.Read.val_main_v17 (F := Ideal) (m ((c : Thread nD τ).loc main_arg0)) (m ((c : Thread nD τ).loc main_arg2)) := by
  refine (dats m 0 c).arrAt_eq_of_covers 3 _ (by decide +kernel) fun t _ y => ?_
  blk_simp
  rw [after0_3]
  have e : (outsAt0 m c t.val t.isLt).1 = k0_pay1 (iblk m c 0 t) (iblk m c 2 t) := by
    by_cases h0 : t.val % 16 = 0
    · rw [outsAt0_A m c t h0, outA3]
    · rw [outsAt0_B m c t h0, outB3]
  rw [e]
  open Cert.GateReferenceIdeal.Read in
  pointwise [k0_pay1, val_main_v17, val_main_v11, val_main_v10, val_main_v9, val_main_v4, val_main_v3, val_main_v2, val_main_v1, val_main_cst_0, val_main_cst_1]
  blk_point [iblk, V, idx t]

theorem final4 (c : Dev nD) : (dats m 0 c).arrAt 4 cfg0.N
    = Cert.GateReferenceIdeal.Read.val_main_v19 (F := Ideal) (m ((c : Thread nD τ).loc main_arg0)) (m ((c : Thread nD τ).loc main_arg1)) := by
  refine (dats m 0 c).arrAt_eq_of_covers 4 _ (by decide +kernel) fun t hf y => ?_
  have ht : t.val + 1 = cfg0.N := by
    have := (flush0_4 t).mp hf; have := t.isLt; have hN : cfg0.N = 16 := N_0; omega
  blk_simp
  rw [after0_4]
  obtain ⟨r, l, rfl⟩ : ∃ (r : Fin 8) (l : Fin 1024), y = ix2 r l := ⟨y 0, y 1, Shape.idx_ext₂ rfl rfl⟩
  rw [show (win0_4.blk t).view.emb (ix2 r l) = ix2 r l from by blk_ext [idx t], ref4]
  exact stat m c t ht r l

end Cert.GateKernelIdeal.Value

namespace Cert.Gate

/-- The kernel's two results are the reference's. -/
theorem algebraic : Cert.algebraic_GateKernelIdeal_GateReferenceIdeal := by
  pair_intro
  · run_from Cert.GateKernelIdeal.Value.run_blocks m g
  · run_from Cert.GateReferenceIdeal.Value.run m' g'
    · exact (Cert.GateKernelIdeal.Value.final3 m c).symm
    · exact (Cert.GateKernelIdeal.Value.final4 m c).symm

end Cert.Gate

end
-- ==== Proof.SbChk.lean ====
module

public import proofs.«01_k».proof.Proof.Gen.SbKernelIdeal.Skeleton
public import Idealize.ShloMosaic.Lib.Affine
public import Idealize.ShloMosaic.Lib.WordSum
public import Idealize.ShloMosaic.Lib.Pointwise

@[expose] public section

/- The one word the body reads: how many key blocks it leaves out. It never exceeds the query block's number, so both
   loops have a meaning, every trip's block lies inside the scratch, and the second loop runs no trip. -/
namespace Cert.SbKernelIdeal.Sb

open Cert.SbKernelIdeal Cert.SbKernelIdeal.Gen
open Idealize.ShloMosaic Idealize.ShloMosaic.TcCoe

variable {F : FTy → Type} [FloatOps F] [Named F]

/-- The number of key blocks the body leaves out at a grid point, from the point's carries. -/
noncomputable abbrev word (i : grid0.Coords) (x : Vec F S256x128 .f32) : BitVec 32 :=
  extractAt ![0, 0, 0] (k0_pay57 i x) inpos_S1x1x1_p0_0_0

theorem fold_addi {ι : Type*} (S : Finset ι) (f : ι → BitVec 32) : S.fold IntOp.addi 0#32 f = ∑ x ∈ S, f x := by
  classical
  induction S using Finset.induction_on with
  | empty => rfl
  | insert a S ha ih => rw [Finset.fold_insert ha, Finset.sum_insert ha, ih]; rfl

theorem count_le (n : ℕ) (f : Fin 1 × Fin 128 → BitVec 32) (hf : ∀ x, (f x).toNat ≤ if x.2.val < n then 1 else 0) :
    (Finset.univ.fold IntOp.addi 0#32 f).toNat ≤ n := by
  have h1 : ∑ x, (f x).toNat ≤ ∑ x : Fin 1 × Fin 128, if x.2.val < n then 1 else 0 := Finset.sum_le_sum fun x _ => hf x
  have h2 : (∑ x : Fin 1 × Fin 128, if x.2.val < n then 1 else 0) = ∑ l : Fin 128, if l.val < n then 1 else 0 := by
    rw [Fintype.sum_prod_type]; simp
  have h3 : (∑ l : Fin 128, if l.val < n then 1 else 0) = (Finset.univ.filter fun l : Fin 128 => l.val < n).card := by
    rw [Finset.card_filter]
  have h4 : (Finset.univ.filter fun l : Fin 128 => l.val < n).card ≤ n := by
    refine (Finset.card_le_card_of_injOn (t := Finset.range n) Fin.val (fun l hl => ?_) Fin.val_injective.injOn).trans (Finset.card_range n).le
    simpa using hl
  have h5 : (Finset.univ.filter fun l : Fin 128 => l.val < n).card ≤ 128 := by
    simpa using Finset.card_filter_le (Finset.univ : Finset (Fin 128)) fun l => l.val < n
  rw [fold_addi, WordSum.toNat_sum _ _ (by omega)]
  omega

theorem i_lt (i : grid0.Coords) : (i 1).val < 32 := (i 1).isLt

theorem word_le (i : grid0.Coords) (x : Vec F S256x128 .f32) : (word i x).toNat ≤ (i 1).val := by
  have e : ∃ f : Fin 1 × Fin 128 → BitVec 32, word i x = Finset.univ.fold IntOp.addi 0#32 f ∧
      ∀ y, (f y).toNat ≤ if y.2.val < (i 1).val then 1 else 0 := by
    refine ⟨_, by pointwise [word, k0_pay57]; rfl, fun y => ?_⟩
    have hi := i_lt i
    have hy := y.2.isLt
    split
    · next h => simp only [Scalar.select]; split <;> simp
    · next h =>
      have hc : IntOp.cmpi CmpIPredicate.slt (BitVec.ofNat 32 y.2.val) (BitVec.ofNat 32 (i 1).val) = 0#1 := by
        have := Affine.slt_fails (Affine.ofNat (e := (y.2.val : Int)) y.2.val (by omega)) (Affine.ofNat (e := ((i 1).val : Int)) (i 1).val (by omega)) (by omega)
        simp only [Affine.Fails] at this
        rcases (by decide : ∀ b : BitVec 1, b = 0#1 ∨ b = 1#1) (Scalar.cmpi .slt (BitVec.ofNat 32 y.2.val) (BitVec.ofNat 32 (i 1).val)) with h' | h'
        · exact h'
        · exact absurd h' this
      rw [hc]
      simp [Scalar.select, IntOp.andi]
  obtain ⟨f, he, hf⟩ := e
  rw [he]
  exact count_le _ f hf

section
variable (i : grid0.Coords) (w : BitVec 32) (hw : w.toNat ≤ (i 1).val)
include hw

theorem isInt_word : Affine.IsInt w (w.toNat : Int) := by
  have hi := i_lt i
  have h := Affine.ofNat (e := (w.toNat : Int)) w.toNat (by omega)
  rwa [BitVec.ofNat_toNat, BitVec.setWidth_eq] at h

theorem loops : (k0_t1_loop i w).OK ∧ (k0_t1_loop i w).trips = (i 1).val - w.toNat ∧ (k0_t2_loop i w).OK ∧ (k0_t2_loop i w).trips = 0 := by
  have hi := i_lt i
  have h_w := isInt_word i w hw
  have h_1 : Affine.IsInt (BitVec.ofNat 32 (i 1).val) ((i 1).val : Int) := Affine.ofNat _ (by omega)
  have h_c1 : Affine.IsInt 1#32 1 := Affine.ofNat _ (by omega)
  have h_43 : Affine.IsInt _ (((i 1).val : Int) - w.toNat) := Affine.subi h_1 h_w (by omega)
  have h_45 : Affine.IsInt _ (((i 1).val : Int) - w.toNat) := Affine.divsi_one h_43 h_c1 (by omega)
  have h_46 : Affine.IsInt _ (((i 1).val : Int) - w.toNat) := Affine.muli h_45 h_c1 (by omega)
  have h_47 : Affine.IsInt _ ((i 1).val : Int) := Affine.addi h_w h_46 (by omega)
  have h_44 : Affine.IsInt _ ((i 1).val : Int) := Affine.addi h_w h_43 (by omega)
  refine ⟨Affine.ok h_w h_47 h_c1 (by omega), ?_, Affine.ok h_47 h_44 h_c1 (by omega), ?_⟩
  · exact Affine.trips_eq h_w h_47 h_c1 _ (by omega)
  · exact Nat.le_zero.mp (Affine.trips_le h_47 h_44 h_c1 _ (by omega))

/-- A trip of the first loop visits the key block after the ones left out and the trips before. -/
theorem iv_toNat (k : Fin (k0_t1_loop i w).trips) : (Scf.iv w 1#32 k).toNat = w.toNat + k.val := by
  have hi := i_lt i
  have hk : k.val < (i 1).val - w.toNat := (loops i w hw).2.1 ▸ k.isLt
  have h := Affine.iv (isInt_word i w hw) (Affine.ofNat (e := 1) 1 (by omega)) k.val (e := ((w.toNat + k.val : ℕ) : Int)) (by omega)
  have h' := Affine.ofNat (e := ((w.toNat + k.val : ℕ) : Int)) (w.toNat + k.val) (by omega)
  have e : Scf.iv w 1#32 k = BitVec.ofNat 32 (w.toNat + k.val) := BitVec.eq_of_toInt_eq (by simp only [Affine.IsInt] at h h'; rw [h, h'])
  rw [e, BitVec.toNat_ofNat, Nat.mod_eq_of_lt (by omega)]

theorem mult1 (k : Fin (k0_t1_loop i w).trips) : (k0_mult1 i w k).toNat = (w.toNat + k.val) * 256 := by
  have hi := i_lt i
  have hk : k.val < (i 1).val - w.toNat := (loops i w hw).2.1 ▸ k.isLt
  show (Scf.iv w 1#32 k * 256#32).toNat = _
  rw [BitVec.toNat_mul, iv_toNat i w hw k, BitVec.toNat_ofNat]
  omega

theorem off1 (k : Fin (k0_t1_loop i w).trips) : k0_off1 i w k = ![(w.toNat + k.val) * 256, 0] := by
  show ![(k0_mult1 i w k).toNat, 0] = _
  rw [mult1 i w hw k]

theorem chk : k0_chk1 i w := by
  have hi := i_lt i
  obtain ⟨h1, ht1, h2, ht2⟩ := loops i w hw
  have none : Fin (k0_t2_loop i w).trips → False := fun k => absurd k.isLt (by omega)
  refine ⟨h1, fun k => mult1 i w hw k ▸ Dvd.intro_left _ rfl, fun k a => ?_, h2, fun k => (none k).elim, fun k => (none k).elim⟩
  have hk : k.val < (i 1).val - w.toNat := ht1 ▸ k.isLt
  rw [off1 i w hw k]
  match a with
  | ⟨0, _⟩ => show (w.toNat + k.val) * 256 + 256 ≤ 8192; omega
  | ⟨1, _⟩ => show 0 + 128 ≤ 128; omega
end

end Cert.SbKernelIdeal.Sb
-- ==== Proof.SbStep.lean ====
module

public import proofs.«01_k».proof.Proof.SbChk
public import proofs.«01_k».proof.Proof.Gen.SbKernelIdeal.Loops
public import Idealize.ShloMosaic.Lib.VecWindow

@[expose] public section

set_option maxRecDepth 16384

noncomputable section

/- One grid point of the kernel as a function of vectors: a trip of the loop over the earlier key blocks, the loop, and
   the diagonal block. The runs of the loop that the generated invariant names leave what these functions say. -/
namespace Cert.SbKernelIdeal.Sb

open Cert.SbKernelIdeal Cert.SbKernelIdeal.Gen
open Idealize.ShloMosaic Idealize.ShloMosaic.TcCoe Idealize.ShloMosaic.Tactic Idealize.ShloMosaic.VecWindow

variable {F : FTy → Type} [FloatOps F] [Named F]

/-- What the loop carries and the two gradients it adds to: the row sums of the tail gradient, `dq`, `dk` and `dv`. -/
abbrev St (F : FTy → Type) := (FVec F S256x1 .f32 × FVec F S256x128 .f32) × Vec F S8192x128 .f32 × Vec F S8192x128 .f32

section
variable (i : grid0.Coords) (q o : FVec F S256x128 .bf16) (cin : FVec F S256x128 .f32) (aft bef : FVec F S256x256 .bf16) (lane : IVec S256x128 32)
  (w : BitVec 32) (hw : k0_chk1 i w) (Kb Vb : Vec F S8192x128 .bf16)

/-- One trip: key block `w + k`. -/
def trip (k : Fin (k0_t1_loop i w).trips) (s : St F) : St F :=
  let kb : Vec F S256x128 .bf16 := window Kb (k0_off1 i w k) S256x128.size (k0_off1_inb i w hw k)
  let vb : Vec F S256x128 .bf16 := window Vb (k0_off1 i w k) S256x128.size (k0_off1_inb i w hw k)
  let lb := k0_pay41 q kb
  let wt := k0_pay42 i q cin aft lane w 1#32 k kb
  let e := k0_pay43 i q o cin aft lane w 1#32 k kb vb
  ((k0_pay63 s.1.1 e, k0_pay64 bef s.1.1 s.1.2 kb lb e),
    put s.2.1 (k0_off1 i w k) S256x128.size (k0_pay62 q bef s.1.1 lb e (window s.2.1 (k0_off1 i w k) S256x128.size (k0_off1_inb i w hw k))),
    put s.2.2 (k0_off1 i w k) S256x128.size (k0_pay60 o wt (k0_pay44 (window s.2.2 (k0_off1 i w k) S256x128.size (k0_off1_inb i w hw k)))))

/-- The trips before `k`. -/
def loop (s : St F) : ℕ → St F
  | 0 => s
  | k + 1 => if h : k < (k0_t1_loop i w).trips then trip i q o cin aft bef lane w hw Kb Vb ⟨k, h⟩ (loop s k) else loop s k

theorem loop_succ (s : St F) (k : ℕ) (h : k < (k0_t1_loop i w).trips) :
    loop i q o cin aft bef lane w hw Kb Vb s (k + 1) = trip i q o cin aft bef lane w hw Kb Vb ⟨k, h⟩ (loop i q o cin aft bef lane w hw Kb Vb s k) := dif_pos h
end

/-- One grid point at its operands: the loop over the earlier key blocks, then the diagonal block. The three results in the order dq, dk, dv. -/
def pointAt (i : grid0.Coords) (q o : FVec F S256x128 .bf16) (cin : FVec F S256x128 .f32) (w : BitVec 32) (hw : k0_chk1 i w) (Kb Vb : Vec F S8192x128 .bf16)
    (dk dv : Vec F S8192x128 .f32) : Vec F S256x128 .bf16 × Vec F S8192x128 .f32 × Vec F S8192x128 .f32 :=
  let lane : IVec S256x128 32 := iota .tc S256x128 32 [1] iota_S256x128_d1_w32
  let s := loop i q o cin k0_pay55 k0_pay56 lane w hw Kb Vb ((k0_pay58, k0_pay59), dk, dv) (k0_t1_loop i w).trips
  let kb : Vec F S256x128 .bf16 := window Kb (k0_off3 i) S256x128.size (k0_off3_inb i)
  let vb : Vec F S256x128 .bf16 := window Vb (k0_off3 i) S256x128.size (k0_off3_inb i)
  let lb := k0_pay72 q kb
  let tl := k0_pay74 (BitVec.ofNat 32 (i 1).val) cin lane
  let lo := k0_pay76 q k0_pay54 kb
  let hi := k0_pay77 q k0_pay54 k0_pay55 kb
  (k0_pay1 s.1.2 kb (k0_pay80 o k0_pay54 k0_pay55 k0_pay56 s.1.1 vb lb tl lo hi),
    put s.2.1 (k0_off3 i) S256x128.size (k0_pay81 q o k0_pay54 k0_pay55 k0_pay56 s.1.1 vb lb tl lo hi (window s.2.1 (k0_off3 i) S256x128.size (k0_off3_inb i))),
    put s.2.2 (k0_off3 i) S256x128.size (k0_pay79 o k0_pay54 k0_pay55 lb tl lo hi (window s.2.2 (k0_off3 i) S256x128.size (k0_off3_inb i))))

/-- One grid point from the blocks of q, of the carries and of the cotangent. -/
def point (i : grid0.Coords) (x0 x3 x4 : Vec F S256x128 .f32) (Kb Vb : Vec F S8192x128 .bf16) (dk dv : Vec F S8192x128 .f32) :
    Vec F S256x128 .bf16 × Vec F S8192x128 .f32 × Vec F S8192x128 .f32 :=
  pointAt i (k0_pay51 x0) (k0_pay52 x4) (k0_pay53 x3) (word i x3) (chk i _ (word_le i x3)) Kb Vb dk dv

section Bridge
variable (𝒱 : Variants) (c : Dev nD) (bd : Option 𝒱.V) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole)
  (arg1 : BitVec 32) (q o : FVec F S256x128 .bf16) (cin : FVec F S256x128 .f32) (v12 : IVec S256x256 1) (aft bef : FVec F S256x256 .bf16) (lane : IVec S256x128 32)
  (w : BitVec 32) (hw : k0_chk1 i w) (v41 : FVec F S256x1 .f32)
  (X10 : BufTy.Contents (Elt F) arg10.view.ty) (X11 : BufTy.Contents (Elt F) arg11.view.ty)

theorem trip_run (k : Fin (k0_t1_loop i w).trips) (acc : FVec F S256x1 .f32 × FVec F S256x128 .f32) (f8 : BufTy.Contents (Elt F) arg8.view.ty) (f9 : BufTy.Contents (Elt F) arg9.view.ty) :
    let r := trip i q o cin aft bef lane w hw (arg10.view.read (Elt F) X10) (arg11.view.read (Elt F) X11) k (acc, arg8.view.read (Elt F) f8, arg9.view.read (Elt F) f9)
    let L := tripL_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 k acc f8 f9
    tripR_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 k acc f8 f9 = r.1
      ∧ arg8.view.read (Elt F) (arg8.view.writes (Elt F) f8 L.1) = r.2.1
      ∧ arg9.view.read (Elt F) (arg9.view.writes (Elt F) f9 L.2) = r.2.2 := by
  dsimp only [tripR_k0_t1, tripL_k0_t1]
  unfold trip_k0_t1
  dsimp only
  exact ⟨rfl, (View.read_writes_cons_put _ _ _ _ [] rfl).trans rfl, (View.read_writes_cons_put _ _ _ _ [] rfl).trans rfl⟩

theorem loop_run (G8 : BufTy.Contents (Elt F) arg8.view.ty) (G9 : BufTy.Contents (Elt F) arg9.view.ty) (init : FVec F S256x1 .f32 × FVec F S256x128 .f32)
    (k : ℕ) (hk : k ≤ (k0_t1_loop i w).trips) :
    let r := loop i q o cin aft bef lane w hw (arg10.view.read (Elt F) X10) (arg11.view.read (Elt F) X11) (init, arg8.view.read (Elt F) G8, arg9.view.read (Elt F) G9) k
    let s := st_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 G8 G9 init k
    s.1 = r.1 ∧ arg8.view.read (Elt F) (arg8.view.writes (Elt F) G8 s.2.1) = r.2.1 ∧ arg9.view.read (Elt F) (arg9.view.writes (Elt F) G9 s.2.2) = r.2.2 := by
  induction k with
  | zero => exact ⟨rfl, rfl, rfl⟩
  | succ k ih =>
    obtain ⟨h1, h2, h3⟩ := ih (by omega)
    have e := st_k0_t1_succ 𝒱 c bd i arg2 harg2 arg3 harg3 arg4 harg4 arg5 harg5 arg6 harg6 arg7 harg7 arg8 harg8 arg9 harg9 arg10 harg10 arg11 harg11 arg1 q o cin v12 aft bef lane w hw v41 X10 X11 G8 G9 init ⟨k, hk⟩
    dsimp only at e ⊢ h1 h2 h3
    rw [e, loop_succ _ _ _ _ _ _ _ _ _ _ _ _ k hk]
    have t := trip_run 𝒱 c bd i arg2 harg2 arg3 harg3 arg4 harg4 arg5 harg5 arg6 harg6 arg7 harg7 arg8 harg8 arg9 harg9 arg10 harg10 arg11 harg11 arg1 q o cin v12 aft bef lane w hw v41 X10 X11 ⟨k, hk⟩
      (st_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 G8 G9 init k).1
      (arg8.view.writes (Elt F) G8 (st_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 G8 G9 init k).2.1)
      (arg9.view.writes (Elt F) G9 (st_k0_t1 𝒱 c bd i arg2 harg2 arg3 harg3 arg4 harg4 arg5 harg5 arg6 harg6 arg7 harg7 arg8 harg8 arg9 harg9 arg10 harg10 arg11 harg11 arg1 q o cin v12 aft bef lane w hw v41 X10 X11 G8 G9 init k).2.2)
    dsimp only at t
    rw [h2, h3, h1] at t
    rw [View.writes_append, View.writes_append, h1]
    exact t

/-- The second loop makes no trip, so it leaves nothing and yields what it was given. -/
theorem loop2_run {v47 : BitVec 32} {G8 : BufTy.Contents (Elt F) arg8.view.ty} {G9 : BufTy.Contents (Elt F) arg9.view.ty}
    {init : FVec F S256x1 .f32 × FVec F S256x128 .f32} {n : ℕ} (hn : n = 0) :
    st_k0_t2 𝒱 c bd i arg2 harg2 arg3 harg3 arg4 harg4 arg5 harg5 arg6 harg6 arg7 harg7 arg8 harg8 arg9 harg9 arg10 harg10 arg11 harg11 arg1 q o cin v12 aft bef lane w hw v41 v47 X10 X11 G8 G9 init n = (init, [], []) := by subst hn; rfl

/-- What the run of a whole point leaves, at the runs of its two loops. -/
theorem point_run {v47 : BitVec 32} {n2 : ℕ} (hn : n2 = 0) (G8 : BufTy.Contents (Elt F) arg8.view.ty) (G9 : BufTy.Contents (Elt F) arg9.view.ty) :
    let r := pointAt i q o cin w hw (arg10.view.read (Elt F) X10) (arg11.view.read (Elt F) X11) (arg8.view.read (Elt F) G8) (arg9.view.read (Elt F) G9)
    let s := st_k0_t1 𝒱 c bd i arg2 harg2 arg3 harg3 arg4 harg4 arg5 harg5 arg6 harg6 arg7 harg7 arg8 harg8 arg9 harg9 arg10 harg10 arg11 harg11 (BitVec.ofNat 32 (i 1).val) q o cin k0_pay54 k0_pay55 k0_pay56 (iota .tc S256x128 32 [1] iota_S256x128_d1_w32) w hw k0_pay58 X10 X11 G8 G9 (k0_pay58, k0_pay59) (k0_t1_loop i w).trips
    let s' := st_k0_t2 𝒱 c bd i arg2 harg2 arg3 harg3 arg4 harg4 arg5 harg5 arg6 harg6 arg7 harg7 arg8 harg8 arg9 harg9 arg10 harg10 arg11 harg11 (BitVec.ofNat 32 (i 1).val) q o cin k0_pay54 k0_pay55 k0_pay56 (iota .tc S256x128 32 [1] iota_S256x128_d1_w32) w hw k0_pay58 v47 X10 X11
      (arg8.view.writes (Elt F) G8 s.2.1) (arg9.view.writes (Elt F) G9 s.2.2) (s.1.1, s.1.2) n2
    let kb : Vec F S256x128 .bf16 := arg10.view.readAt (Elt F) (Rect.unit (s := S8192x128) (k0_off3 i) S256x128.size (k0_off3_inb i)).toLoadRect X10
    let vb : Vec F S256x128 .bf16 := arg11.view.readAt (Elt F) (Rect.unit (s := S8192x128) (k0_off3 i) S256x128.size (k0_off3_inb i)).toLoadRect X11
    let lb := k0_pay72 q kb
    let tl := k0_pay74 (BitVec.ofNat 32 (i 1).val) cin (iota .tc S256x128 32 [1] iota_S256x128_d1_w32)
    let lo := k0_pay76 q k0_pay54 kb
    let hi := k0_pay77 q k0_pay54 k0_pay55 kb
    k0_pay1 s'.1.2 kb (k0_pay80 o k0_pay54 k0_pay55 k0_pay56 s'.1.1 vb lb tl lo hi) = r.1
      ∧ arg8.view.read (Elt F) (arg8.view.writes (Elt F) G8 (⟨Rect.unit (s := S8192x128) (k0_off3 i) S256x128.size (k0_off3_inb i),
          k0_pay81 q o k0_pay54 k0_pay55 k0_pay56 s'.1.1 vb lb tl lo hi (arg8.view.readAt (Elt F) (Rect.unit (s := S8192x128) (k0_off3 i) S256x128.size (k0_off3_inb i)).toLoadRect
            (arg8.view.writes (Elt F) G8 (s'.2.1 ++ s.2.1)))⟩ :: (s'.2.1 ++ s.2.1))) = r.2.1
      ∧ arg9.view.read (Elt F) (arg9.view.writes (Elt F) G9 (⟨Rect.unit (s := S8192x128) (k0_off3 i) S256x128.size (k0_off3_inb i),
          k0_pay79 o k0_pay54 k0_pay55 lb tl lo hi (arg9.view.readAt (Elt F) (Rect.unit (s := S8192x128) (k0_off3 i) S256x128.size (k0_off3_inb i)).toLoadRect
            (arg9.view.writes (Elt F) G9 (s'.2.2 ++ s.2.2)))⟩ :: (s'.2.2 ++ s.2.2))) = r.2.2 := by
  intro r s s' kb vb lb tl lo hi
  obtain ⟨s1, s8, s9⟩ := loop_run 𝒱 c bd i arg2 harg2 arg3 harg3 arg4 harg4 arg5 harg5 arg6 harg6 arg7 harg7 arg8 harg8 arg9 harg9 arg10 harg10 arg11 harg11 (BitVec.ofNat 32 (i 1).val) q o cin k0_pay54 k0_pay55 k0_pay56
      (iota .tc S256x128 32 [1] iota_S256x128_d1_w32) w hw k0_pay58 X10 X11 G8 G9 (k0_pay58, k0_pay59) _ le_rfl
  have hs : s' = ((s.1.1, s.1.2), [], []) := loop2_run (hn := hn) ..
  clear_value s'
  subst hs
  dsimp only [List.nil_append]
  refine ⟨?_, (View.read_writes_cons_put _ _ _ _ _ rfl).trans ?_, (View.read_writes_cons_put _ _ _ _ _ rfl).trans ?_⟩
  · exact (congrArg (fun t => k0_pay1 t.2 kb (k0_pay80 o k0_pay54 k0_pay55 k0_pay56 t.1 vb lb tl lo hi)) s1).trans rfl
  · exact congr (congrArg (fun (t : FVec F S256x1 .f32 × FVec F S256x128 .f32) (d : Vec F S8192x128 .f32) => put d (k0_off3 i) S256x128.size (k0_pay81 q o k0_pay54 k0_pay55 k0_pay56 t.1 vb lb tl lo hi
      (window d (k0_off3 i) S256x128.size (k0_off3_inb i)))) s1) s8
  · exact congrArg (fun (d : Vec F S8192x128 .f32) => put d (k0_off3 i) S256x128.size (k0_pay79 o k0_pay54 k0_pay55 lb tl lo hi
      (window d (k0_off3 i) S256x128.size (k0_off3_inb i)))) s9
/-- The same where the gradients already hold writes, kept in the lists. -/
theorem point_run_over {v47 : BitVec 32} {n2 : ℕ} (hn : n2 = 0) (F8 : BufTy.Contents (Elt F) arg8.view.ty) (F9 : BufTy.Contents (Elt F) arg9.view.ty)
    (Z8 Z9 : List (View.Piece (Elt F) S8192x128 .f32)) :
    let r := pointAt i q o cin w hw (arg10.view.read (Elt F) X10) (arg11.view.read (Elt F) X11) (arg8.view.read (Elt F) (arg8.view.writes (Elt F) F8 Z8)) (arg9.view.read (Elt F) (arg9.view.writes (Elt F) F9 Z9))
    let s := st_k0_t1 𝒱 c bd i arg2 harg2 arg3 harg3 arg4 harg4 arg5 harg5 arg6 harg6 arg7 harg7 arg8 harg8 arg9 harg9 arg10 harg10 arg11 harg11 (BitVec.ofNat 32 (i 1).val) q o cin k0_pay54 k0_pay55 k0_pay56 (iota .tc S256x128 32 [1] iota_S256x128_d1_w32) w hw k0_pay58 X10 X11 (arg8.view.writes (Elt F) F8 Z8) (arg9.view.writes (Elt F) F9 Z9) (k0_pay58, k0_pay59) (k0_t1_loop i w).trips
    let s' := st_k0_t2 𝒱 c bd i arg2 harg2 arg3 harg3 arg4 harg4 arg5 harg5 arg6 harg6 arg7 harg7 arg8 harg8 arg9 harg9 arg10 harg10 arg11 harg11 (BitVec.ofNat 32 (i 1).val) q o cin k0_pay54 k0_pay55 k0_pay56 (iota .tc S256x128 32 [1] iota_S256x128_d1_w32) w hw k0_pay58 v47 X10 X11
      (arg8.view.writes (Elt F) F8 (s.2.1 ++ Z8)) (arg9.view.writes (Elt F) F9 (s.2.2 ++ Z9)) (s.1.1, s.1.2) n2
    let kb : Vec F S256x128 .bf16 := arg10.view.readAt (Elt F) (Rect.unit (s := S8192x128) (k0_off3 i) S256x128.size (k0_off3_inb i)).toLoadRect X10
    let vb : Vec F S256x128 .bf16 := arg11.view.readAt (Elt F) (Rect.unit (s := S8192x128) (k0_off3 i) S256x128.size (k0_off3_inb i)).toLoadRect X11
    let lb := k0_pay72 q kb
    let tl := k0_pay74 (BitVec.ofNat 32 (i 1).val) cin (iota .tc S256x128 32 [1] iota_S256x128_d1_w32)
    let lo := k0_pay76 q k0_pay54 kb
    let hi := k0_pay77 q k0_pay54 k0_pay55 kb
    k0_pay1 s'.1.2 kb (k0_pay80 o k0_pay54 k0_pay55 k0_pay56 s'.1.1 vb lb tl lo hi) = r.1
      ∧ arg8.view.read (Elt F) (arg8.view.writes (Elt F) F8 (⟨Rect.unit (s := S8192x128) (k0_off3 i) S256x128.size (k0_off3_inb i),
          k0_pay81 q o k0_pay54 k0_pay55 k0_pay56 s'.1.1 vb lb tl lo hi (arg8.view.readAt (Elt F) (Rect.unit (s := S8192x128) (k0_off3 i) S256x128.size (k0_off3_inb i)).toLoadRect
            (arg8.view.writes (Elt F) F8 (s'.2.1 ++ (s.2.1 ++ Z8))))⟩ :: (s'.2.1 ++ (s.2.1 ++ Z8)))) = r.2.1
      ∧ arg9.view.read (Elt F) (arg9.view.writes (Elt F) F9 (⟨Rect.unit (s := S8192x128) (k0_off3 i) S256x128.size (k0_off3_inb i),
          k0_pay79 o k0_pay54 k0_pay55 lb tl lo hi (arg9.view.readAt (Elt F) (Rect.unit (s := S8192x128) (k0_off3 i) S256x128.size (k0_off3_inb i)).toLoadRect
            (arg9.view.writes (Elt F) F9 (s'.2.2 ++ (s.2.2 ++ Z9))))⟩ :: (s'.2.2 ++ (s.2.2 ++ Z9)))) = r.2.2 := by
  have h := point_run 𝒱 c bd i arg2 harg2 arg3 harg3 arg4 harg4 arg5 harg5 arg6 harg6 arg7 harg7 arg8 harg8 arg9 harg9 arg10 harg10 arg11 harg11 q o cin w hw X10 X11 (v47 := v47) hn (arg8.view.writes (Elt F) F8 Z8) (arg9.view.writes (Elt F) F9 Z9)
  simp only [← View.writes_append, List.cons_append, List.append_assoc] at h ⊢
  exact h

end Bridge

end Cert.SbKernelIdeal.Sb
-- ==== Proof.SbBody.lean ====
module

public import proofs.«01_k».proof.Proof.SbStep
public import proofs.«01_k».proof.Proof.Common

@[expose] public section

set_option maxRecDepth 16384

noncomputable section

namespace Cert.SbKernelIdeal.Sb

open Cert.SbKernelIdeal Cert.SbKernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which the body fills the scratch: the first query block of a head. -/
abbrev cond0 (i : grid0.Coords) : Prop := (Scalar.cmpi .ne (Scalar.extui (Scalar.cmpi .eq (BitVec.ofNat 32 (i 1).val) 0#32)) 0#32) = 1#1

set_option maxHeartbeats 4000000 in
theorem body_B (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (hc0 : ¬cond0 i)
    (x0 : Vec F S256x128 .f32) (x1 : Vec F S8192x128 .f32) (x2 : Vec F S8192x128 .f32) (x3 : Vec F S256x128 .f32) (x4 : Vec F S256x128 .f32) (xo6 : Vec F S8192x128 .f32) (xo7 : Vec F S8192x128 .f32) (xs0 : Vec F S8192x128 .bf16) (xs1 : Vec F S8192x128 .bf16)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (point i x0 x3 x4 xs0 xs1 xo6 xo7).1 ∗ owns (c : Thread nD τ) arg8 fullShare (point i x0 x3 x4 xs0 xs1 xo6 xo7).2.1 ∗ owns (c : Thread nD τ) arg9 fullShare (point i x0 x3 x4 xs0 xs1 xo6 xo7).2.2 ∗ owns (c : Thread nD τ) arg10 fullShare xs0 ∗ owns (c : Thread nD τ) arg11 fullShare xs1) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11) K := by
    simp only [cc0_sb_bwd_eq_skeleton]; unfold cc0_sb_bwd_skel
    simp only [k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1
    have hchk : ∀ x, k0_chk1 i (word i x) := fun x : Vec F S256x128 .f32 => chk i _ (word_le i x)
    sl_exec (disch := first | sl_exact hc0 | exact hchk _)
    let l0 : Vec F S256x128 .f32 := arg2.view.readAt (Elt F) (Rect.unit ![0, 0] S256x128.size inb_S256x128_S256x128_0_0).toLoadRect (harg2.unread x0)
    let l3 : Vec F S256x128 .f32 := arg5.view.readAt (Elt F) (Rect.unit ![0, 0] S256x128.size inb_S256x128_S256x128_0_0).toLoadRect (harg5.unread x3)
    let l4 : Vec F S256x128 .f32 := arg6.view.readAt (Elt F) (Rect.unit ![0, 0] S256x128.size inb_S256x128_S256x128_0_0).toLoadRect (harg6.unread x4)
    have e0 : l0 = x0 := readAt_whole _ harg2 (congrFun hz) _ _
    have e3 : l3 = x3 := readAt_whole _ harg5 (congrFun hz) _ _
    have e4 : l4 = x4 := readAt_whole _ harg6 (congrFun hz) _ _
    have t2 : ∀ x : Vec F S256x128 .f32, (k0_t2_loop i (word i x)).trips = 0 := fun x => (loops i _ (word_le i x)).2.2.2
    obtain ⟨r5, r8, r9⟩ := point_run Variants.none c none i arg2 harg2 arg3 harg3 arg4 harg4 arg5 harg5 arg6 harg6 arg7 harg7 arg8 harg8 arg9 harg9 arg10 harg10 arg11 harg11 (k0_pay51 l0) (k0_pay52 l4) (k0_pay53 l3) (word i l3) (hchk l3) (harg10.unread xs0) (harg11.unread xs1)
      (v47 := Scalar.addi (word i l3) (Scalar.muli (Scalar.divsi (Scalar.subi (BitVec.ofNat 32 (i 1).val) (word i l3)) 1#32) 1#32)) (t2 l3) (harg8.unread xo6) (harg9.unread xo7)
    rw [harg10.read_unread, harg11.read_unread, harg8.read_unread, harg9.read_unread] at r5 r8 r9
    have ep : pointAt i (k0_pay51 l0) (k0_pay52 l4) (k0_pay53 l3) (word i l3) (hchk l3) xs0 xs1 xo6 xo7 = point i x0 x3 x4 xs0 xs1 xo6 xo7 := by
      clear_value l0 l3 l4; subst e0 e3 e4; rfl
    rw [ep] at r5 r8 r9
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact (funext fun x => by rw [eq_ix2 x]; exact read_whole ..).trans r5
    isplitl [H6]
    · iexists _; isplitr; swap; · iexact H6
      ipureintro; exact r8
    isplitl [H7]
    · iexists _; isplitr; swap; · iexact H7
      ipureintro; exact r9
    isplitl [HS0]
    · iexists _; isplitr; · ipureintro; exact harg10.read_unread _
      iexact HS0
    iexists _; isplitr; · ipureintro; exact harg11.read_unread _
    iexact HS1

end Cert.SbKernelIdeal.Sb
-- ==== Proof.SbBodyA.lean ====
module

public import proofs.«01_k».proof.Proof.SbBody
public import proofs.«01_k».proof.Proof.Common

@[expose] public section

set_option maxRecDepth 16384

noncomputable section

namespace Cert.SbKernelIdeal.Sb

open Cert.SbKernelIdeal Cert.SbKernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A column block rounded to bf16, and the zeros the two gradients start from. -/
def narrow (x : Vec F S8192x128 .f32) : Vec F S8192x128 .bf16 := truncf .bf16 x bitsLt_bf16_f32
def zeros : Vec F S8192x128 .f32 := k0_pay37

/-- A chunk of a column, rounded and stored, is the rounded column there. -/
theorem chunk (a : Memref sig .tc .vmem S8192x128 .f32) (h : a.IsWhole) (x : Vec F S8192x128 .f32) {off : Fin 2 → ℕ} (inb : ∀ b, off b + S512x128.size b ≤ S8192x128.size b)
    (y : S512x128.Idx) : k0_pay2 (a.view.readAt (Elt F) (Rect.unit (s := S8192x128) off S512x128.size inb).toLoadRect (h.unread x)) y
      = narrow x ((Rect.unit (s := S8192x128) off S512x128.size inb).emb y) := by
  unfold k0_pay2 narrow
  simp only [shapeCast_id]
  rw [View.readAt_unit _ _ inb rfl inb, h.read_unread]; rfl

set_option maxHeartbeats 4000000 in
theorem body_A (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .bf16) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (hc0 : cond0 i)
    (x0 : Vec F S256x128 .f32) (x1 : Vec F S8192x128 .f32) (x2 : Vec F S8192x128 .f32) (x3 : Vec F S256x128 .f32) (x4 : Vec F S256x128 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (point i x0 x3 x4 (narrow x1) (narrow x2) zeros zeros).1 ∗ owns (c : Thread nD τ) arg8 fullShare (point i x0 x3 x4 (narrow x1) (narrow x2) zeros zeros).2.1 ∗ owns (c : Thread nD τ) arg9 fullShare (point i x0 x3 x4 (narrow x1) (narrow x2) zeros zeros).2.2 ∗ owns (c : Thread nD τ) arg10 fullShare (narrow x1) ∗ owns (c : Thread nD τ) arg11 fullShare (narrow x2)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11) K := by
    simp only [cc0_sb_bwd_eq_skeleton]; unfold cc0_sb_bwd_skel
    simp only [k0_part9_eq_skeleton, k0_part1_eq_skeleton, k0_part2_eq_skeleton, k0_part3_eq_skeleton, k0_part4_eq_skeleton, k0_part5_eq_skeleton, k0_part6_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    have hchk : ∀ x, k0_chk1 i (word i x) := fun x : Vec F S256x128 .f32 => chk i _ (word_le i x)
    sl_exec (disch := first | sl_exact hc0 | exact hchk _)
    have hS0 : arg10.view.read (Elt F) (arg10.view.writes (Elt F) arg10.view.junk (body_A.sl.HS0_16 c arg3 harg3 x1)) = narrow x1 := by
      refine funext fun y => View.read_writes_apply_of_pieces _ _ (narrow x1) _ ?_ y (View.cover_of_tiled (s := S8192x128) _ S512x128.size (by sl_kernel_rfl) y)
      sl_unfold_words
      simp only [List.forall_mem_cons]
      refine ⟨?_, ?_, ?_, ?_, ?_, ?_, ?_, ?_, ?_, ?_, ?_, ?_, ?_, ?_, ?_, ?_, fun _ h => absurd h List.not_mem_nil⟩
      all_goals exact fun x => chunk arg3 harg3 x1 _ x
    have hS1 : arg11.view.read (Elt F) (arg11.view.writes (Elt F) arg11.view.junk (body_A.sl.HS1_16 c arg4 harg4 x2)) = narrow x2 := by
      refine funext fun y => View.read_writes_apply_of_pieces _ _ (narrow x2) _ ?_ y (View.cover_of_tiled (s := S8192x128) _ S512x128.size (by sl_kernel_rfl) y)
      sl_unfold_words
      simp only [List.forall_mem_cons]
      refine ⟨?_, ?_, ?_, ?_, ?_, ?_, ?_, ?_, ?_, ?_, ?_, ?_, ?_, ?_, ?_, ?_, fun _ h => absurd h List.not_mem_nil⟩
      all_goals exact fun x => chunk arg4 harg4 x2 _ x
    have h8 : arg8.view.read (Elt F) (arg8.view.writes (Elt F) arg8.view.junk body_A.sl.H6_1) = zeros := by
      sl_unfold_words
      exact funext fun x => by rw [eq_ix2 x]; exact read_whole ..
    have h9 : arg9.view.read (Elt F) (arg9.view.writes (Elt F) arg9.view.junk body_A.sl.H7_1) = zeros := by
      sl_unfold_words
      exact funext fun x => by rw [eq_ix2 x]; exact read_whole ..
    let l0 : Vec F S256x128 .f32 := arg2.view.readAt (Elt F) (Rect.unit ![0, 0] S256x128.size inb_S256x128_S256x128_0_0).toLoadRect (harg2.unread x0)
    let l3 : Vec F S256x128 .f32 := arg5.view.readAt (Elt F) (Rect.unit ![0, 0] S256x128.size inb_S256x128_S256x128_0_0).toLoadRect (harg5.unread x3)
    let l4 : Vec F S256x128 .f32 := arg6.view.readAt (Elt F) (Rect.unit ![0, 0] S256x128.size inb_S256x128_S256x128_0_0).toLoadRect (harg6.unread x4)
    have e0 : l0 = x0 := readAt_whole _ harg2 (congrFun hz) _ _
    have e3 : l3 = x3 := readAt_whole _ harg5 (congrFun hz) _ _
    have e4 : l4 = x4 := readAt_whole _ harg6 (congrFun hz) _ _
    have t2 : ∀ x : Vec F S256x128 .f32, (k0_t2_loop i (word i x)).trips = 0 := fun x => (loops i _ (word_le i x)).2.2.2
    obtain ⟨r5, r8, r9⟩ := point_run_over Variants.none c none i arg2 harg2 arg3 harg3 arg4 harg4 arg5 harg5 arg6 harg6 arg7 harg7 arg8 harg8 arg9 harg9 arg10 harg10 arg11 harg11 (k0_pay51 l0) (k0_pay52 l4) (k0_pay53 l3) (word i l3) (hchk l3)
      (arg10.view.writes (Elt F) arg10.view.junk (body_A.sl.HS0_16 c arg3 harg3 x1)) (arg11.view.writes (Elt F) arg11.view.junk (body_A.sl.HS1_16 c arg4 harg4 x2))
      (v47 := Scalar.addi (word i l3) (Scalar.muli (Scalar.divsi (Scalar.subi (BitVec.ofNat 32 (i 1).val) (word i l3)) 1#32) 1#32)) (t2 l3)
      arg8.view.junk arg9.view.junk body_A.sl.H6_1 body_A.sl.H7_1
    rw [hS0, hS1, h8, h9] at r5 r8 r9
    have ep : pointAt i (k0_pay51 l0) (k0_pay52 l4) (k0_pay53 l3) (word i l3) (hchk l3) (narrow x1) (narrow x2) zeros zeros = point i x0 x3 x4 (narrow x1) (narrow x2) zeros zeros := by
      clear_value l0 l3 l4; subst e0 e3 e4; rfl
    rw [ep] at r5 r8 r9
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact (funext fun x => by rw [eq_ix2 x]; exact read_whole ..).trans r5
    isplitl [H6]
    · iexists _; isplitr; swap; · iexact H6
      ipureintro; exact r8
    isplitl [H7]
    · iexists _; isplitr; swap; · iexact H7
      ipureintro; exact r9
    isplitl [HS0]
    · iexists _; isplitr; swap; · iexact HS0
      ipureintro; exact hS0
    iexists _; isplitr; swap; · iexact HS1
    ipureintro; exact hS1

end Cert.SbKernelIdeal.Sb
-- ==== Proof.SbFrame.lean ====
module

public import proofs.«01_k».proof.Proof.SbBody
public import proofs.«01_k».proof.Proof.SbBodyA
public import proofs.«01_k».proof.Proof.Gen.SbKernelIdeal.Frame
public import Idealize.ShloMosaic.Lib.Claim

@[expose] public section

set_option maxRecDepth 16384

noncomputable section

/- The run of the stick-breaking gradient: what the three results hold point by point, the body obligation, and the frame. -/
namespace Cert.SbKernelIdeal.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cond0_iff : ∀ t : Fin cfg0.N, cond0 (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [cond0, e1]
    word_cmp
   : ∀ t : Fin grid0.N, cond0 (grid0.coords t) ↔ t.val % 32 = 0)

abbrev mem0 (t : Fin cfg0.N) : Memref sig .tc .vmem S256x128 .f32 := win0_0.stage (cfg0.slots t 0)
abbrev mem1 (t : Fin cfg0.N) : Memref sig .tc .vmem S8192x128 .f32 := win0_1.stage (cfg0.slots t 1)
abbrev mem2 (t : Fin cfg0.N) : Memref sig .tc .vmem S8192x128 .f32 := win0_2.stage (cfg0.slots t 2)
abbrev mem3 (t : Fin cfg0.N) : Memref sig .tc .vmem S256x128 .f32 := win0_3.stage (cfg0.slots t 3)
abbrev mem4 (t : Fin cfg0.N) : Memref sig .tc .vmem S256x128 .f32 := win0_4.stage (cfg0.slots t 4)
abbrev mem5 (t : Fin cfg0.N) : Memref sig .tc .vmem S256x128 .bf16 := win0_5.stage (cfg0.slots t 5)
abbrev mem6 (t : Fin cfg0.N) : Memref sig .tc .vmem S8192x128 .f32 := win0_6.stage (cfg0.slots t 6)
abbrev mem7 (t : Fin cfg0.N) : Memref sig .tc .vmem S8192x128 .f32 := win0_7.stage (cfg0.slots t 7)
abbrev kbuf : Memref sig .tc .vmem S8192x128 .bf16 := Memref.whole cc0_scratch0
abbrev vbuf : Memref sig .tc .vmem S8192x128 .bf16 := Memref.whole cc0_scratch1

theorem PhiA_eq (c : Dev nD) : (Pipeline.ΦA spec0 c : sProp 𝕄)
    = iprop(iprop((∃ d, owns (c : Thread nD τ) kbuf fullShare d) ∗ (∃ d, owns (c : Thread nD τ) vbuf fullShare d)) ∗ (∃ r, prngReg c r)) := by
  unfold Pipeline.ΦA; rw [scopedRest0_eq]; simp only [kbuf, vbuf, owns_whole]; try rfl

/-- After a point: the three results' blocks and the two scratch buffers. -/
abbrev Outs (F : FTy → Type) := (Vec F S256x128 .bf16 × Vec F S8192x128 .f32 × Vec F S8192x128 .f32) × Vec F S8192x128 .bf16 × Vec F S8192x128 .bf16

/-- A head's first point: the scratch is filled and the gradients start from zero. -/
def first (c : Dev nD) (t : Fin cfg0.N) : Outs F :=
  (point (grid0.coords t) (iblk m c 0 t) (iblk m c 3 t) (iblk m c 4 t) (narrow (iblk m c 1 t)) (narrow (iblk m c 2 t)) zeros zeros, narrow (iblk m c 1 t), narrow (iblk m c 2 t))

/-- A later point, over what the point before left. -/
def next (c : Dev nD) (t : Fin cfg0.N) (p : Outs F) : Outs F :=
  (point (grid0.coords t) (iblk m c 0 t) (iblk m c 3 t) (iblk m c 4 t) p.2.1 p.2.2 p.1.2.1 p.1.2.2, p.2)

def outsAt (c : Dev nD) : (n : ℕ) → n < cfg0.N → Outs F
  | 0, hn => first m c ⟨0, hn⟩
  | n + 1, hn => if (n + 1) % 32 = 0 then first m c ⟨n + 1, hn⟩ else next m c ⟨n + 1, hn⟩ (outsAt c n (Nat.lt_of_succ_lt hn))

theorem outsAt_first (c : Dev nD) (t : Fin cfg0.N) (h0 : t.val % 32 = 0) : outsAt m c t.val t.isLt = first m c t := by
  obtain ⟨n, hn⟩ := t
  cases n with
  | zero => rfl
  | succ n => exact if_pos h0

theorem outsAt_next (c : Dev nD) (t : Fin cfg0.N) (h0 : ¬t.val % 32 = 0) :
    outsAt m c t.val t.isLt = next m c t (outsAt m c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: the scratch at what the point before left. -/
def Phi (c : Dev nD) : (n : ℕ) → n ≤ cfg0.N → sProp 𝕄
  | 0, _ => Pipeline.ΦA spec0 c
  | n + 1, hn => iprop(iprop(owns (c : Thread nD τ) kbuf fullShare (outsAt m c n hn).2.1 ∗ owns (c : Thread nD τ) vbuf fullShare (outsAt m c n hn).2.2) ∗ (∃ r, prngReg c r))

theorem Phi_pos (c : Dev nD) (n : ℕ) (h : n ≤ cfg0.N) (hz : n ≠ 0) :
    Phi m c n h = iprop(iprop(owns (c : Thread nD τ) kbuf fullShare (outsAt m c (n - 1) (by omega)).2.1 ∗ owns (c : Thread nD τ) vbuf fullShare (outsAt m c (n - 1) (by omega)).2.2) ∗ (∃ r, prngReg c r)) := by
  cases n with
  | zero => exact absurd rfl hz
  | succ n => rfl

theorem Phi_forget (c : Dev nD) (n : ℕ) (h : n ≤ cfg0.N) : Phi m c n h ⊢ Pipeline.ΦA spec0 c := by
  by_cases hz : n = 0
  · subst hz; exact .rfl
  · rw [Phi_pos m c n h hz, PhiA_eq]
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1.1
    | ⟨6, _⟩ => (outsAt m c t.val t.isLt).1.2.1
    | ⟨7, _⟩ => (outsAt m c t.val t.isLt).1.2.2
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1.1 := by dsimp only [dats]
theorem after6 (c : Dev nD) (t : Fin cfg0.N) : (dats m 0 c).after 6 t = (outsAt m c t.val t.isLt).1.2.1 := by dsimp only [dats]
theorem after7 (c : Dev nD) (t : Fin cfg0.N) : (dats m 0 c).after 7 t = (outsAt m c t.val t.isLt).1.2.2 := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- Between a head's points the blocks of dk and dv stay. -/
theorem kept6 (c : Dev nD) (t : Fin cfg0.N) (h0 : ¬t.val % 32 = 0) (d) :
    (dats m 0 c).before 6 t d = (outsAt m c (t.val - 1) (Nat.lt_of_le_of_lt (Nat.sub_le _ _) t.isLt)).1.2.1 := by
  have hN : t.val < 128 := lt_of_lt_of_eq t.isLt N_0
  rw [Dat.before_out_kept _ 6 rfl t (by omega) (Bool.eq_false_iff.mpr fun h => by have := (flush0_6 _).mp h; dsimp only at this; omega) (fun _ => rfl) (fun _ _ => rfl)]
  dsimp only [dats]
theorem kept7 (c : Dev nD) (t : Fin cfg0.N) (h0 : ¬t.val % 32 = 0) (d) :
    (dats m 0 c).before 7 t d = (outsAt m c (t.val - 1) (Nat.lt_of_le_of_lt (Nat.sub_le _ _) t.isLt)).1.2.2 := by
  have hN : t.val < 128 := lt_of_lt_of_eq t.isLt N_0
  rw [Dat.before_out_kept _ 7 rfl t (by omega) (Bool.eq_false_iff.mpr fun h => by have := (flush0_7 _).mp h; dsimp only at this; omega) (fun _ => rfl) (fun _ _ => rfl)]
  dsimp only [dats]

/-- What the body is called with at a point, and what it returns. -/
def pre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

def post (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t))

set_option maxHeartbeats 6400000 in
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4, after5, after6, after7]
  rw [show (dats m 0 c).Φ t.succ = iprop(iprop(owns (c : Thread nD τ) kbuf fullShare (outsAt m c t.val t.isLt).2.1 ∗ owns (c : Thread nD τ) vbuf fullShare (outsAt m c t.val t.isLt).2.2) ∗ (∃ r, prngReg c r)) from rfl,
    Phi_castSucc m c t]
  by_cases h0 : t.val % 32 = 0
  · refine (sep_mono (Phi_forget m c t.val (Nat.le_of_lt t.isLt)) .rfl).trans ?_
    rw [outsAt_first m c t h0, PhiA_eq]
    unfold first
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_A c (grid0.coords t) _ _ _ _ _ _ _ _ _ _ _ _ _ _ _ _ _ _ _ _ ((cond0_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    rw [Phi_pos m c _ _ hz, outsAt_next m c t h0]
    simp only [kept6 m c t h0, kept7 m c t h0]
    unfold next
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) _ _ _ _ _ _ _ _ _ _ _ _ _ _ _ _ _ _ _ _ (fun h => h0 ((cond0_iff t).mp h)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

-- the implicit arguments of the launch theorem are found by unifying its conclusion with this one
set_option backward.isDefEq.respectTransparency.types false in
/-- The launch: every array of the pipeline ends at what the proof data computes, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := fun _ => .rfl) (hout := fun c => Phi_forget m c (Fin.last cfg0.N).val (Nat.le_of_lt_succ (Fin.last cfg0.N).isLt))

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.SbKernelIdeal.Sb
-- ==== Proof.SbKernelFrame.lean ====
module

public import proofs.«01_k».proof.Defs
public import proofs.«01_k».proof.Proof.SbFrame
public import Idealize.ShloMosaic.Lib.Tactic

@[expose] public section

noncomputable section

/- The frame of the kernel as printed: the run of the ideal text, read at machine words with the named threshold at the word it was printed for. -/
namespace Cert.Sb

open Idealize.ShloMosaic Idealize.SL.Sem

abbrev words : Named Bits := ⟨fun _ _ φ b => Scalar.ofBits φ b⟩

theorem frame_kernel [h : Cert.SbKernel.Facts] [h' : Cert.SbKernelIdeal.Facts] : Cert.quiescent_SbKernel :=
  letI := words
  have u : ∀ (m : (ℓ : Loc Cert.SbKernelIdeal.nD Cert.SbKernelIdeal.τ Cert.SbKernelIdeal.sig) → Buf (Elt Bits) ℓ) (ρ : Dev Cert.SbKernelIdeal.nD → PrngReg), True →
    θ_run (Cert.SbKernelIdeal.defs (F := Bits)) (onTc (τ := Cert.SbKernelIdeal.τ) (Cert.SbKernelIdeal.main (F := Bits))) ⟨m, fun _ => 0, ρ⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0) := fun m ρ _ => Cert.SbKernelIdeal.Sb.unchanged (F := Bits) m ρ
  Eq.mp (by sl_kernel_rfl) u

end Cert.Sb
-- ==== Proof.SbReal.lean ====
/- Real numbers inside the extended reals, the scalar functions of stick-breaking attention on them, and its gradient. -/
module

public import Idealize.ShloMosaic.Lib.Pointwise
public import Idealize.ShloMosaic.PureOps.Ideal.Laws

@[expose] public section

set_option maxRecDepth 16384

noncomputable section

namespace Cert.Sb

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_min (a b : ℝ) : ((min a b : ℝ) : EReal) = min (a : EReal) b := EReal.coe_strictMono.monotone.map_min
theorem coe_max (a b : ℝ) : ((max a b : ℝ) : EReal) = max (a : EReal) b := EReal.coe_strictMono.monotone.map_max
theorem coe_abs (a : ℝ) : ((|a| : ℝ) : EReal) = max (a : EReal) (-(a : EReal)) := by rw [← EReal.coe_neg, ← coe_max]; rfl
theorem exp_coe (a : ℝ) : Ideal.exp (a : EReal) = ((Real.exp a : ℝ) : EReal) := rfl
theorem log_coe (a : ℝ) (h : 0 < a) : Ideal.log (a : EReal) = ((Real.log a : ℝ) : EReal) := by
  show (if a ≤ 0 then (⊥ : EReal) else _) = _
  rw [if_neg (not_le.mpr h)]
theorem log1p_coe (a : ℝ) (h : 0 < a) : Ideal.log1p (a : EReal) = ((Real.log (1 + a) : ℝ) : EReal) := by
  rw [Ideal.log1p, ← EReal.coe_one, ← EReal.coe_add, log_coe _ (by linarith)]
theorem coe_ite (p : Prop) [Decidable p] (a b : ℝ) : ((if p then a else b : ℝ) : EReal) = if p then (a : EReal) else (b : EReal) := by split <;> rfl

/-- The factor of the scores. -/
def c : ℝ := 11863283 * (2 ^ 27)⁻¹

theorem ofBits_c : Ideal.ofBits .f32 0x3DB504F3#32 = (c : EReal) := by
  simp [Ideal.ofBits, Ideal.ieee, c]

/-- The logarithm of the sigmoid. -/
def ls (x : ℝ) : ℝ := min x 0 - Real.log (1 + Real.exp (-|x|))

theorem keep_coe (z : ℝ) : min (0 - (z : EReal)) 0 - ((Real.log (1 + Real.exp (-|z|)) : ℝ) : EReal) = (ls (-z) : EReal) := by
  rw [ls, abs_neg, zero_sub, EReal.coe_sub, coe_min, EReal.coe_neg, EReal.coe_zero]

theorem sub_self_coe (a : ℝ) : (a : EReal) - a = 0 := by rw [← EReal.coe_sub, sub_self, EReal.coe_zero]

/-- A table of reals as a vector. -/
abbrev up {R D : ℕ} (f : Fin R → Fin D → ℝ) : (⟨2, ![R, D]⟩ : Shape).Idx → EReal := fun y => (f (y 0) (y 1) : EReal)

theorem up_ix2 {R D : ℕ} (f : Fin R → Fin D → ℝ) (r : Fin R) (l : Fin D) : up f (ix2 r l) = (f r l : EReal) := rfl

theorem eq_up {R D : ℕ} {v : (⟨2, ![R, D]⟩ : Shape).Idx → EReal} {f : Fin R → Fin D → ℝ} (h : ∀ r l, v (ix2 r l) = (f r l : EReal)) : v = up f :=
  funext fun y => by rw [eq_ix2 y]; exact h _ _

theorem toInt_word (a : ℕ) (ha : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

theorem slt_word (a b : ℕ) (ha : a < 2 ^ 31) (hb : b < 2 ^ 31) : IntOp.cmpi .slt (BitVec.ofNat 32 a) (BitVec.ofNat 32 b) = BitVec.ofBool (decide (a < b)) := by
  show BitVec.ofBool (BitVec.slt _ _) = _
  rw [BitVec.slt_eq_decide, toInt_word a ha, toInt_word b hb]
  simp

theorem sitofp_ofBool (p : Prop) [Decidable p] :
    FloatOps.sitofp (F := Ideal) .f32 (BitVec.setWidth 32 (BitVec.ofBool (decide p))) = (((if p then 1 else 0 : ℝ)) : EReal) := by
  show (((BitVec.setWidth 32 (BitVec.ofBool (decide p))).toInt : ℝ) : EReal) = _
  by_cases h : p <;> simp [h]

theorem toNat_word {n : ℕ} (h : n ≤ 2 ^ 32) (x : Fin n) : (BitVec.ofNat 32 x.val).toNat = x.val := by
  have := x.isLt
  rw [BitVec.toNat_ofNat, Nat.mod_eq_of_lt (by omega)]

/-- The lane named by a word, out of a row. -/
theorem pick {n : ℕ} (h : n ≤ 2 ^ 32) (j : Fin n) (f : Fin n → EReal) :
    (∑ x : Fin n, if (BitVec.ofNat 32 x.val).toNat = (BitVec.ofNat 32 j.val).toNat then f x else 0) = f j := by
  rw [Finset.sum_eq_single j, if_pos rfl]
  · intro b _ hb
    rw [if_neg]
    rw [toNat_word h, toNat_word h]
    exact fun e => hb (Fin.ext e)
  · simp

theorem ofBits_inf : Ideal.ofBits .f32 0x7F800000#32 = ⊤ := by simp [Ideal.ofBits, Ideal.ieee]

/-- A number whose absolute value lies below the infinite word is finite. -/
theorem finite (x : Ideal .f32) (h : BitVec.ofBool (decide ((FloatOps.absf x : EReal) < Ideal.ofBits FTy.f32 0x7F800000#32)) = 1#1) : (x : EReal) ≠ ⊤ ∧ (x : EReal) ≠ ⊥ := by
  rw [ofBits_inf] at h
  have hx : (FloatOps.absf x : EReal) < ⊤ := by
    by_contra hn
    rw [decide_eq_false hn] at h
    exact absurd h (by decide)
  have hx' : max (x : EReal) (-x) < ⊤ := hx
  refine ⟨(lt_of_le_of_lt (le_max_left _ _) hx').ne, fun hb => ?_⟩
  rw [hb] at hx'
  simp at hx'

/-- Such a number is the real number it stands for. -/
theorem real (x : Ideal .f32) (h : BitVec.ofBool (decide ((FloatOps.absf x : EReal) < Ideal.ofBits FTy.f32 0x7F800000#32)) = 1#1) :
    (x : EReal) = ((EReal.toReal x : ℝ) : EReal) := (EReal.coe_toReal (finite x h).1 (finite x h).2).symm

end Cert.Sb
-- ==== Proof.SbSpec.lean ====
/- Stick-breaking attention and its gradient over the reals, for one head, and the sums of it by blocks of 256. -/
module

public import proofs.«01_k».proof.Proof.SbReal

@[expose] public section

set_option maxRecDepth 16384

noncomputable section

namespace Cert.Sb

open Idealize.ShloMosaic

abbrev Tab (R D : ℕ) := Fin R → Fin D → ℝ

/-- Row `r` of block `b`. -/
def row (b : Fin 32) (r : Fin 256) : Fin 8192 := ⟨b.val * 256 + r.val, by omega⟩

theorem row_val (b : Fin 32) (r : Fin 256) : (row b r).val = b.val * 256 + r.val := rfl

theorem row_lt (b : Fin 32) (r s : Fin 256) : row b s < row b r ↔ s < r := by
  rw [Fin.lt_def, Fin.lt_def, row_val, row_val]; omega

section
variable (Q K V D : Tab 8192 128)

def sc (t s : Fin 8192) : ℝ := (∑ d, Q t d * K s d) * c
def keep (t s : Fin 8192) : ℝ := if s < t then ls (-sc Q K t s) else 0
def tail (t s : Fin 8192) : ℝ := ∑ u, if s < u then keep Q K t u else 0
def wgt (t s : Fin 8192) : ℝ := if s < t then Real.exp (ls (sc Q K t s) + tail Q K t s) else 0
def ev (t s : Fin 8192) : ℝ := wgt Q K t s * ∑ d, D t d * V s d
def pre (t s : Fin 8192) : ℝ := ∑ u, if u < s then ev Q K V D t u else 0
def dsc (t s : Fin 8192) : ℝ :=
  if s < t then (ev Q K V D t s * (1 - Real.exp (ls (sc Q K t s))) - Real.exp (ls (sc Q K t s)) * pre Q K V D t s) * c else 0
def dq (t : Fin 8192) (d : Fin 128) : ℝ := ∑ s, dsc Q K V D t s * K s d
def dk (s : Fin 8192) (d : Fin 128) : ℝ := ∑ t, dsc Q K V D t s * Q t d
def dv (s : Fin 8192) (d : Fin 128) : ℝ := ∑ t, wgt Q K t s * D t d

/-- The keeps after block `j`. -/
def carry (t : Fin 8192) (j : ℕ) : ℝ := ∑ u : Fin 8192, if (j + 1) * 256 ≤ u.val then keep Q K t u else 0
end

/-- The sum over the first `n` places. -/
def upto (n : ℕ) (f : Fin 8192 → ℝ) : ℝ := ∑ u : Fin 8192, if u.val < n then f u else 0

theorem upto_zero (f : Fin 8192 → ℝ) : upto 0 f = 0 := by simp [upto]

theorem upto_all (n : ℕ) (h : 8192 ≤ n) (f : Fin 8192 → ℝ) : upto n f = ∑ u, f u :=
  Finset.sum_congr rfl fun u _ => if_pos (by omega)

theorem upto_stop (n : ℕ) (f : Fin 8192 → ℝ) (h : ∀ u : Fin 8192, n ≤ u.val → f u = 0) : upto n f = ∑ u, f u :=
  Finset.sum_congr rfl fun u _ => by
    split
    · rfl
    · next h' => exact (h u (by omega)).symm

theorem sum_block (j : Fin 32) (f : Fin 8192 → ℝ) : (∑ u : Fin 8192, if j.val * 256 ≤ u.val ∧ u.val < (j.val + 1) * 256 then f u else 0) = ∑ v, f (row j v) := by
  rw [← Finset.sum_filter]
  refine (Finset.sum_bij (fun v _ => row j v) ?_ ?_ ?_ ?_).symm
  · intro v _
    have := v.isLt
    simp only [Finset.mem_filter, Finset.mem_univ, true_and, row_val]
    omega
  · intro a _ b _ h
    have := congrArg Fin.val h
    rw [row_val, row_val] at this
    exact Fin.ext (by omega)
  · intro u hu
    simp only [Finset.mem_filter, Finset.mem_univ, true_and] at hu
    exact ⟨⟨u.val - j.val * 256, by omega⟩, Finset.mem_univ _, Fin.ext (by rw [row_val]; show j.val * 256 + (u.val - j.val * 256) = u.val; omega)⟩
  · intro _ _; rfl

theorem upto_succ (j : Fin 32) (f : Fin 8192 → ℝ) : upto ((j.val + 1) * 256) f = upto (j.val * 256) f + ∑ v, f (row j v) := by
  rw [← sum_block, upto, upto, ← Finset.sum_add_distrib]
  refine Finset.sum_congr rfl fun u _ => ?_
  by_cases h1 : u.val < j.val * 256
  · rw [if_pos h1, if_pos (by omega), if_neg (by omega), add_zero]
  · by_cases h2 : u.val < (j.val + 1) * 256
    · rw [if_neg h1, if_pos h2, if_pos (by omega), zero_add]
    · rw [if_neg h1, if_neg h2, if_neg (by omega), zero_add]

/-- The places after one in its block, and those after the block. -/
theorem after_split (j : Fin 32) (v : Fin 256) (f : Fin 8192 → ℝ) :
    (∑ u, if row j v < u then f u else 0) = (∑ u, f (row j u) * if v < u then 1 else 0) + ∑ u : Fin 8192, if (j.val + 1) * 256 ≤ u.val then f u else 0 := by
  have e : (∑ u, f (row j u) * if v < u then (1 : ℝ) else 0) = ∑ u, (fun x => if row j v < x then f x else 0) (row j u) :=
    Finset.sum_congr rfl fun u _ => by simp only [row_lt]; split <;> simp
  rw [e, ← sum_block j (fun x => if row j v < x then f x else 0), ← Finset.sum_add_distrib]
  refine Finset.sum_congr rfl fun u _ => ?_
  have hv := v.isLt
  have hr := row_val j v
  simp only [Fin.lt_def]
  by_cases h1 : (j.val + 1) * 256 ≤ u.val
  · rw [if_pos h1, if_pos (by omega), if_neg (by omega), zero_add]
  · by_cases h2 : j.val * 256 ≤ u.val
    · rw [if_neg h1, if_pos (⟨h2, by omega⟩ : j.val * 256 ≤ u.val ∧ u.val < (j.val + 1) * 256), add_zero]
    · rw [if_neg h1, if_neg (by omega), if_neg (by omega), add_zero]

/-- The places before one: those before its block, and those before it within the block. -/
theorem before_split (j : Fin 32) (v : Fin 256) (f : Fin 8192 → ℝ) :
    (∑ u, if u < row j v then f u else 0) = (∑ u, f (row j u) * if u < v then 1 else 0) + upto (j.val * 256) f := by
  have e : (∑ u, f (row j u) * if u < v then (1 : ℝ) else 0) = ∑ u, (fun x => if x < row j v then f x else 0) (row j u) :=
    Finset.sum_congr rfl fun u _ => by simp only [row_lt]; split <;> simp
  rw [e, ← sum_block j (fun x => if x < row j v then f x else 0), upto, ← Finset.sum_add_distrib]
  refine Finset.sum_congr rfl fun u _ => ?_
  have hv := v.isLt
  have hr := row_val j v
  simp only [Fin.lt_def]
  by_cases h1 : u.val < j.val * 256
  · rw [if_pos h1, if_pos (by omega), if_neg (by omega), zero_add]
  · by_cases h2 : u.val < (j.val + 1) * 256
    · rw [if_neg h1, if_pos (⟨by omega, h2⟩ : j.val * 256 ≤ u.val ∧ u.val < (j.val + 1) * 256), add_zero]
    · rw [if_neg h1, if_neg (by omega), if_neg (by omega), add_zero]

end Cert.Sb
-- ==== Proof.Scan.lean ====
/- A running sum along the last axis of a rank-3 array, as the host computes it: the sum of the elements its window reaches. -/
module

public import Idealize.ShloMosaic.PureOps.Ideal.Laws
public import Idealize.ShloMosaic.Lib.ValueIdx
public import Idealize.ShloMosaic.Lib.Pointwise

@[expose] public section

noncomputable section

namespace Cert.Common

open Idealize.ShloMosaic

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The positions of a window one element wide in the first two axes. -/
def lane (N : ℕ) : Fin N ≃ (⟨3, ![1, 1, N]⟩ : Shape).Idx where
  toFun n := ix3 0 0 n
  invFun w := w 2
  left_inv _ := rfl
  right_inv w := by
    refine funext fun i => ?_
    match i with
    | ⟨0, _⟩ => exact Subsingleton.elim (α := Fin 1) _ _
    | ⟨1, _⟩ => exact Subsingleton.elim (α := Fin 1) _ _
    | ⟨2, _⟩ => rfl

/-- The window at `j` holds the elements `u` with `j ≤ u + lo < j + N`. -/
theorem scan_sum {A B N : ℕ} (lo hi : ℕ) (x : (⟨3, ![A, B, N]⟩ : Shape).Idx → EReal)
    (h : (⟨3, ![A, B, N]⟩ : Shape).ReduceWindows (![1, 1, N] : Fin 3 → ℕ) ![1, 1, 1] ![0, 0, lo] ![0, 0, hi] ⟨3, ![A, B, N]⟩) (a : Fin A) (b : Fin B) (j : Fin N) :
    Ideal.hostReduceWindowAdd (s := ⟨3, ![A, B, N]⟩) ![1, 1, N] ![1, 1, 1] ![0, 0, lo] ![0, 0, hi] h x 0 (ix3 a b j)
      = ∑ u : Fin N, if j.val ≤ u.val + lo ∧ u.val + lo < j.val + N then x (ix3 a b u) else 0 := by
  let K : ℕ → EReal := fun n => if h : lo ≤ j.val + n ∧ j.val + n - lo < N then x (ix3 a b ⟨j.val + n - lo, h.2⟩) else 0
  have ha := a.isLt
  have hb := b.isLt
  unfold Ideal.hostReduceWindowAdd Host.reduceWindow
  dsimp only
  rw [foldl_add, zero_add, ← Fin.sum_univ_def]
  refine Eq.trans (Finset.sum_congr rfl fun n _ => ?_) ((Equiv.sum_comp (Shape.rowMajor ⟨3, ![1, 1, N]⟩).symm fun w => K (w 2).val).trans ((Equiv.sum_comp (lane N) fun w => K (w 2).val).symm.trans ?_))
  · have w0 : ((Shape.rowMajor ⟨3, ![1, 1, N]⟩).symm n 0).val = 0 := Nat.lt_one_iff.mp ((Shape.rowMajor ⟨3, ![1, 1, N]⟩).symm n 0).isLt
    have w1 : ((Shape.rowMajor ⟨3, ![1, 1, N]⟩).symm n 1).val = 0 := Nat.lt_one_iff.mp ((Shape.rowMajor ⟨3, ![1, 1, N]⟩).symm n 1).isLt
    let w : (⟨3, ![1, 1, N]⟩ : Shape).Idx := (Shape.rowMajor ⟨3, ![1, 1, N]⟩).symm n
    have w0 : (w 0).val = 0 := w0
    have w1 : (w 1).val = 0 := w1
    have key : (∀ i : Fin 3, (![0, 0, lo] : Fin 3 → ℕ) i ≤ (ix3 a b j i).val * (![1, 1, 1] : Fin 3 → ℕ) i + (w i).val ∧ (ix3 a b j i).val * (![1, 1, 1] : Fin 3 → ℕ) i + (w i).val - (![0, 0, lo] : Fin 3 → ℕ) i < (![A, B, N] : Fin 3 → ℕ) i)
        ↔ lo ≤ j.val + (w 2).val ∧ j.val + (w 2).val - lo < N := by
      constructor
      · intro hin
        have := hin 2
        change lo ≤ j.val * 1 + (w 2).val ∧ j.val * 1 + (w 2).val - lo < N at this
        omega
      · intro hin i
        match i with
        | ⟨0, _⟩ => show 0 ≤ a.val * 1 + (w 0).val ∧ a.val * 1 + (w 0).val - 0 < A; omega
        | ⟨1, _⟩ => show 0 ≤ b.val * 1 + (w 1).val ∧ b.val * 1 + (w 1).val - 0 < B; omega
        | ⟨2, _⟩ => show lo ≤ j.val * 1 + (w 2).val ∧ j.val * 1 + (w 2).val - lo < N; omega
    by_cases hc : lo ≤ j.val + (w 2).val ∧ j.val + (w 2).val - lo < N
    · refine (dif_pos (key.mpr hc)).trans (Eq.trans ?_ (dif_pos hc).symm)
      refine congrArg x (funext fun i => Fin.ext ?_)
      match i with
      | ⟨0, _⟩ => show a.val * 1 + (w 0).val - 0 = a.val; omega
      | ⟨1, _⟩ => show b.val * 1 + (w 1).val - 0 = b.val; omega
      | ⟨2, _⟩ => show j.val * 1 + (w 2).val - lo = j.val + (w 2).val - lo; omega
    · have hK : K (w 2).val = 0 := dif_neg hc
      exact (dif_neg fun hk => hc (key.mp hk)).trans hK.symm
  · show ∑ n : Fin N, K n.val = _
    rw [← Finset.sum_filter]
    rw [← Finset.sum_filter_of_ne (p := fun n : Fin N => lo ≤ j.val + n.val ∧ j.val + n.val - lo < N) (fun n _ hne => by
      by_contra hc
      exact hne (dif_neg hc))]
    refine Finset.sum_bij (fun n hn => ⟨j.val + n.val - lo, (Finset.mem_filter.mp hn).2.2⟩) ?_ ?_ ?_ ?_
    · intro n hn
      have := (Finset.mem_filter.mp hn).2
      have := n.isLt
      simp only [Finset.mem_filter, Finset.mem_univ, true_and]
      omega
    · intro n hn n' hn' he
      have h1 := (Finset.mem_filter.mp hn).2
      have h2 := (Finset.mem_filter.mp hn').2
      have h3 := congrArg Fin.val he
      dsimp only at h3
      exact Fin.ext (by omega)
    · intro u hu
      have h1 := (Finset.mem_filter.mp hu).2
      have := u.isLt
      exact ⟨⟨u.val + lo - j.val, by omega⟩, Finset.mem_filter.mpr ⟨Finset.mem_univ _, by dsimp only; omega⟩, Fin.ext (by dsimp only; omega)⟩
    · intro n hn
      exact dif_pos (Finset.mem_filter.mp hn).2

theorem window_sum {A B N : ℕ} {u : Shape} (lo hi : ℕ) (x : FVec Ideal ⟨3, ![A, B, N]⟩ .f32) (init : FVec Ideal u .f32)
    (h : (⟨3, ![A, B, N]⟩ : Shape).ReduceWindows (![1, 1, N] : Fin 3 → ℕ) ![1, 1, 1] ![0, 0, lo] ![0, 0, hi] ⟨3, ![A, B, N]⟩) (h1 : 0 < u.numel)
    (h0 : ∀ i, init i = (0 : EReal)) (a : Fin A) (b : Fin B) (j : Fin N) :
    Host.reduceWindowAdd ![1, 1, N] ![1, 1, 1] ![0, 0, lo] ![0, 0, hi] x init h h1 (ix3 a b j)
      = ∑ u : Fin N, if j.val ≤ u.val + lo ∧ u.val + lo < j.val + N then (x (ix3 a b u) : EReal) else 0 := by
  rw [← scan_sum lo hi x h a b j]
  show Ideal.hostReduceWindowAdd (s := ⟨3, ![A, B, N]⟩) ![1, 1, N] ![1, 1, 1] ![0, 0, lo] ![0, 0, hi] h x (init _) (ix3 a b j) = _
  rw [h0]

end Cert.Common
-- ==== Proof.SbRef.lean ====
/- The gradient of stick-breaking attention read off its program, at arrays of reals. -/
module

public import proofs.«01_k».proof.Proof.SbSpec
public import proofs.«01_k».proof.Proof.Scan
public import proofs.«01_k».proof.Proof.Gen.SbReferenceIdeal.Read
public import Idealize.ShloMosaic.Lib.Pointwise

@[expose] public section

set_option maxRecDepth 16384

noncomputable section

namespace Cert.Sb

open Cert.SbReferenceIdeal Cert.SbReferenceIdeal.Read Cert.Common
open Idealize.ShloMosaic Idealize.ShloMosaic.TcCoe Idealize.ShloMosaic.StableHlo

/-- Column `d` of head `h`, the heads' columns starting at `o`. -/
abbrev col (n o : ℕ) (hn : o + 512 ≤ n) (h : Fin 4) (d : Fin 128) : Fin n := ⟨o + (h.val * 128 + d.val), by omega⟩

/-- The arrays hold the reals of the four tables, head by head. -/
structure Holds (x0 : FVec Ideal S8192x5128 .f32) (x1 : FVec Ideal S8192x1536 .f32) (Q K V D : Fin 4 → Tab 8192 128) : Prop where
  q : ∀ h t d, x0 (ix2 t (col 5128 2048 (by decide) h d)) = (Q h t d : EReal)
  k : ∀ h t d, x0 (ix2 t (col 5128 2560 (by decide) h d)) = (K h t d : EReal)
  v : ∀ h t d, x0 (ix2 t (col 5128 3072 (by decide) h d)) = (V h t d : EReal)
  o : ∀ h t d, x1 (ix2 t (col 1536 512 (by decide) h d)) = (D h t d : EReal)

theorem at_ix2 {a b : ℕ} {α : Type} (x : (⟨2, ![a, b]⟩ : Shape).Idx → α) (i : (⟨2, ![a, b]⟩ : Shape).Idx) (r : Fin a) (l : Fin b)
    (h0 : (i 0).val = r.val) (h1 : (i 1).val = l.val) : x i = x (ix2 r l) :=
  congrArg x ((eq_ix2 i).trans (congr (congrArg ix2 (Fin.ext h0)) (Fin.ext h1)))

theorem at_ix3 {a b e : ℕ} {α : Type} (x : (⟨3, ![a, b, e]⟩ : Shape).Idx → α) (i : (⟨3, ![a, b, e]⟩ : Shape).Idx) (r : Fin a) (l : Fin b) (k : Fin e)
    (h0 : (i 0).val = r.val) (h1 : (i 1).val = l.val) (h2 : (i 2).val = k.val) : x i = x (ix3 r l k) :=
  congrArg x ((eq_ix3 i).trans (congr (congr (congrArg ix3 (Fin.ext h0)) (Fin.ext h1)) (Fin.ext h2)))

section
variable {x0 : FVec Ideal S8192x5128 .f32} {x1 : FVec Ideal S8192x1536 .f32} {Q K V D : Fin 4 → Tab 8192 128} (H : Holds x0 x1 Q K V D)
include H

theorem q_at (h : Fin 4) (t : Fin 8192) (d : Fin 128) : val_main_v4 (F := Ideal) x0 (ix3 h t d) = (Q h t d : EReal) := by
  rw [val_main_v4_apply, val_main_v3_apply, val_main_v0_apply, ← H.q h t d]
  refine at_ix2 x0 _ _ _ ?_ ?_
  · show ((t.val * 4 + h.val) * 128 + d.val) / 512 = t.val; omega
  · show 2048 + ((t.val * 4 + h.val) * 128 + d.val) % 512 = 2048 + (h.val * 128 + d.val); omega

theorem k_at (h : Fin 4) (t : Fin 8192) (d : Fin 128) : val_main_v6 (F := Ideal) x0 (ix3 h t d) = (K h t d : EReal) := by
  rw [val_main_v6_apply, val_main_v5_apply, val_main_v1_apply, ← H.k h t d]
  refine at_ix2 x0 _ _ _ ?_ ?_
  · show ((t.val * 4 + h.val) * 128 + d.val) / 512 = t.val; omega
  · show 2560 + ((t.val * 4 + h.val) * 128 + d.val) % 512 = 2560 + (h.val * 128 + d.val); omega

theorem v_at (h : Fin 4) (t : Fin 8192) (d : Fin 128) : val_main_v8 (F := Ideal) x0 (ix3 h t d) = (V h t d : EReal) := by
  rw [val_main_v8_apply, val_main_v7_apply, val_main_v2_apply, ← H.v h t d]
  refine at_ix2 x0 _ _ _ ?_ ?_
  · show ((t.val * 4 + h.val) * 128 + d.val) / 512 = t.val; omega
  · show 3072 + ((t.val * 4 + h.val) * 128 + d.val) % 512 = 3072 + (h.val * 128 + d.val); omega

theorem o_at (h : Fin 4) (t : Fin 8192) (d : Fin 128) : val_main_v32 (F := Ideal) x1 (ix3 h t d) = (D h t d : EReal) := by
  rw [val_main_v32_apply, val_main_v31_apply, val_main_v30_apply, ← H.o h t d]
  refine at_ix2 x1 _ _ _ ?_ ?_
  · show ((t.val * 4 + h.val) * 128 + d.val) / 512 = t.val; omega
  · show 512 + ((t.val * 4 + h.val) * 128 + d.val) % 512 = 512 + (h.val * 128 + d.val); omega

theorem z_at (h : Fin 4) (t s : Fin 8192) : val_main_v11 (F := Ideal) x0 (ix3 h t s) = (sc (Q h) (K h) t s : EReal) := by
  pointwise [val_main_v11, val_main_v9, val_main_v10, val_main_cst]
  simp only [q_at H, k_at H]
  rw [sc, EReal.coe_mul, coe_sum, ofBits_c]
  simp only [EReal.coe_mul]
end

theorem mask_at (t s : Fin 8192) : val_main_v17 (F := Ideal) (ix2 t s) = BitVec.ofBool (decide (s.val < t.val)) := by
  pointwise [val_main_v17, val_main_v15, val_main_v16, val_main_v13, val_main_v14, val_main_v12]
  exact slt_word _ _ (by omega) (by omega)

theorem mask_keep (h : Fin 4) (t s : Fin 8192) : val_main_v21_1 (F := Ideal) (ix3 h t s) = BitVec.ofBool (decide (s.val < t.val)) := by
  rw [val_main_v21_1_apply, ← mask_at t s]
  exact at_ix2 _ _ _ _ rfl rfl

theorem mask_wgt (h : Fin 4) (t s : Fin 8192) : val_main_v26_1 (F := Ideal) (ix3 h t s) = BitVec.ofBool (decide (s.val < t.val)) := by
  rw [val_main_v26_1_apply, ← mask_at t s]
  exact at_ix2 _ _ _ _ rfl rfl

/-- The softplus of a real, as the programs spell it. -/
def sp (y : ℝ) : ℝ := max y 0 + Real.log (1 + Real.exp (-|y|))

theorem sp_coe (y : ℝ) : (if (y : EReal) ≠ y then (y : EReal) else max (y : EReal) 0 + Ideal.log1p (Ideal.exp (-FloatOps.absf (F := Ideal) (φ := .f32) (y : EReal)))) = (sp y : EReal) := by
  rw [if_neg (fun h => h rfl)]
  have e : -FloatOps.absf (F := Ideal) (φ := .f32) (y : EReal) = ((-|y| : ℝ) : EReal) := by rw [EReal.coe_neg, coe_abs]; rfl
  rw [e, exp_coe, log1p_coe _ (Real.exp_pos _), sp, EReal.coe_add, coe_max, EReal.coe_zero]

theorem sp_neg (z : ℝ) : -sp (-z) = ls z := by
  rw [sp, ls, abs_neg]
  have : max (-z) 0 = -min z 0 := by rw [← neg_zero, max_neg_neg, neg_zero]
  rw [this]; ring

theorem ls_shift (z : ℝ) : z + ls (-z) = ls z := by
  rw [ls, ls, abs_neg]
  have : z + min (-z) 0 = min z 0 := by
    rcases le_total z 0 with h | h
    · rw [min_eq_left h, min_eq_right (by linarith)]; ring
    · rw [min_eq_right h, min_eq_left (by linarith)]; ring
  rw [← this]; ring

/-- The sigmoids of a number and of its negative add up to one. -/
theorem exp_ls_neg (z : ℝ) : Real.exp (ls (-z)) = 1 - Real.exp (ls z) := by
  have hp := Real.exp_pos z
  have h2 : Real.exp (ls (-z)) + Real.exp z * Real.exp (ls (-z)) = 1 := by
    rw [ls, abs_neg, Real.exp_sub, Real.exp_log (by positivity)]
    rcases le_total z 0 with h | h
    · rw [min_eq_right (by linarith), abs_of_nonpos h, neg_neg, Real.exp_zero]
      field_simp
    · rw [min_eq_left (by linarith), abs_of_nonneg h, Real.exp_neg]
      field_simp
      ring
  have h1 : Real.exp (ls z) = Real.exp z * Real.exp (ls (-z)) := by rw [← ls_shift z, Real.exp_add]
  rw [h1]; linarith

section
variable {x0 : FVec Ideal S8192x5128 .f32}

theorem sp_at (h : Fin 4) (t s : Fin 8192) (z : ℝ) (hz : val_main_v11 (F := Ideal) x0 (ix3 h t s) = (z : EReal)) :
    val_main_call0_v1_0 (F := Ideal) x0 (ix3 h t s) = (sp (-z) : EReal) := by
  pointwise [val_main_call0_v1_0, val_main_call0_call0_v4, val_main_call0_call0_v3, val_main_call0_call0_v6, val_main_call0_call0_v11, val_main_call0_call0_v1, val_main_call0_call0_v10, val_main_call0_call0_v9, val_main_call0_call0_v8, val_main_call0_call0_v7, val_main_call0_call0_v0, val_main_call0_call0_v2, val_main_call0_call0_v5, val_main_call0_v0, val_main_call0_call0_cst, hz]
  exact sp_coe (-z)

theorem sp_at' (h : Fin 4) (t s : Fin 8192) (z : ℝ) (hz : val_main_v11 (F := Ideal) x0 (ix3 h t s) = (z : EReal)) :
    val_main_call1_v1_0 (F := Ideal) x0 (ix3 h t s) = (sp z : EReal) := by
  pointwise [val_main_call1_v1_0, val_main_call1_call0_v4, val_main_call1_call0_v3, val_main_call1_call0_v6, val_main_call1_call0_v11, val_main_call1_call0_v1, val_main_call1_call0_v10, val_main_call1_call0_v9, val_main_call1_call0_v8, val_main_call1_call0_v7, val_main_call1_call0_v0, val_main_call1_call0_v2, val_main_call1_call0_v5, val_main_call1_v0, val_main_call1_call0_cst, val_main_v19, hz]
  rw [neg_neg]
  exact sp_coe z

theorem ls_at (h : Fin 4) (t s : Fin 8192) (z : ℝ) (hz : val_main_v11 (F := Ideal) x0 (ix3 h t s) = (z : EReal)) :
    val_main_v18_0 (F := Ideal) x0 (ix3 h t s) = (ls z : EReal) := by
  pointwise [val_main_v18_0, sp_at h t s z hz]
  rw [← sp_neg, EReal.coe_neg]

theorem ls_at' (h : Fin 4) (t s : Fin 8192) (z : ℝ) (hz : val_main_v11 (F := Ideal) x0 (ix3 h t s) = (z : EReal)) :
    val_main_v20_0 (F := Ideal) x0 (ix3 h t s) = (ls (-z) : EReal) := by
  pointwise [val_main_v20_0, sp_at' h t s z hz]
  rw [← sp_neg, neg_neg, EReal.coe_neg]

theorem sig_at (h : Fin 4) (t s : Fin 8192) (z : ℝ) (hz : val_main_v11 (F := Ideal) x0 (ix3 h t s) = (z : EReal)) :
    val_main_v18_1 (F := Ideal) x0 (ix3 h t s) = ((1 - Real.exp (ls z) : ℝ) : EReal) := by
  pointwise [val_main_v18_1, val_main_call0_call0_v21, val_main_call0_call0_v16, val_main_call0_call0_v14, val_main_call0_call0_v13, val_main_call0_call0_v15, val_main_call0_call0_v20, val_main_call0_call0_v18, val_main_call0_call0_v17, val_main_call0_call0_v19, val_main_call0_call0_cst_0, val_main_call0_call0_cst_1, val_main_call0_call0_cst_2, val_main_call0_call0_cst_3, val_main_call0_v0, sp_at h t s z hz, hz, ofBits_inf]
  rw [← EReal.coe_neg, if_neg (EReal.coe_ne_top _), if_neg (EReal.coe_ne_top _), ← EReal.coe_sub, exp_coe, ← exp_ls_neg, ← ls_shift (-z), neg_neg, ← sp_neg z, sub_eq_add_neg]

theorem sig_at' (h : Fin 4) (t s : Fin 8192) (z : ℝ) (hz : val_main_v11 (F := Ideal) x0 (ix3 h t s) = (z : EReal)) :
    val_main_v20_1 (F := Ideal) x0 (ix3 h t s) = ((Real.exp (ls z) : ℝ) : EReal) := by
  pointwise [val_main_v20_1, val_main_call1_call0_v21, val_main_call1_call0_v16, val_main_call1_call0_v14, val_main_call1_call0_v13, val_main_call1_call0_v15, val_main_call1_call0_v20, val_main_call1_call0_v18, val_main_call1_call0_v17, val_main_call1_call0_v19, val_main_call1_call0_cst_0, val_main_call1_call0_cst_1, val_main_call1_call0_cst_2, val_main_call1_call0_cst_3, val_main_call1_v0, val_main_v19, sp_at' h t s z hz, hz, ofBits_inf]
  rw [neg_neg, if_neg (EReal.coe_ne_top _), if_neg (EReal.coe_ne_top _), ← EReal.coe_sub, exp_coe, ← ls_shift z, ← sp_neg (-z), neg_neg, sub_eq_add_neg]
end

section
variable {x0 : FVec Ideal S8192x5128 .f32} {x1 : FVec Ideal S8192x1536 .f32} {Q K V D : Fin 4 → Tab 8192 128} (H : Holds x0 x1 Q K V D)
include H

omit H in
theorem zero_word : (id (constant (F := Ideal) S_ .f32 0x00000000#32) ix0 : EReal) = 0 := by
  show Ideal.ofBits .f32 0x00000000#32 = 0
  simp [Ideal.ofBits, Ideal.ieee]

theorem keep_at (h : Fin 4) (t s : Fin 8192) : val_main_v21_0 (F := Ideal) x0 (ix3 h t s) = (keep (Q h) (K h) t s : EReal) := by
  rw [val_main_v21_0_apply, mask_keep, ls_at' h t s _ (z_at H h t s), keep]
  rw [coe_ite, EReal.coe_zero]
  pointwise [val_main_call2_v2, val_main_call2_v0, val_main_cst_0]
  exact if_congr Iff.rfl rfl zero_word

theorem tail_at (h : Fin 4) (t s : Fin 8192) : val_main_v23 (F := Ideal) x0 (ix3 h t s) = (tail (Q h) (K h) t s : EReal) := by
  have e : val_main_v22 (F := Ideal) x0 (ix3 h t s) = ((∑ u : Fin 8192, if s.val ≤ u.val then keep (Q h) (K h) t u else 0 : ℝ) : EReal) := by
    rw [coe_sum]
    unfold val_main_v22
    refine (window_sum 0 8191 (val_main_v21_0 (F := Ideal) x0) _ _ _ (fun i => ?_) h t s).trans (Finset.sum_congr rfl fun u _ => ?_)
    · pointwise [val_main_call3_v0, val_main_call3_cst]
    · rw [keep_at H h t u, coe_ite, EReal.coe_zero]
      exact if_congr (by omega) rfl rfl
  rw [val_main_v23_apply, e, keep_at H h t s]
  show ((_ : ℝ) : EReal) - ((_ : ℝ) : EReal) = _
  rw [← EReal.coe_sub]
  refine congrArg Real.toEReal ?_
  rw [tail, sub_eq_iff_eq_add, ← Fintype.sum_ite_eq s fun u => keep (Q h) (K h) t u, ← Finset.sum_add_distrib]
  refine Finset.sum_congr rfl fun u _ => ?_
  simp only [Fin.lt_def, Fin.ext_iff]
  rcases lt_trichotomy s.val u.val with hl | hl | hl
  · rw [if_pos hl.le, if_pos hl, if_neg (by omega), add_zero]
  · rw [if_pos hl.le, if_neg (by omega), if_pos hl, zero_add]
  · rw [if_neg (by omega), if_neg (by omega), if_neg (by omega), add_zero]

theorem exp_at (h : Fin 4) (t s : Fin 8192) : val_main_v25 (F := Ideal) x0 (ix3 h t s) = (Real.exp (ls (sc (Q h) (K h) t s) + tail (Q h) (K h) t s) : EReal) := by
  rw [val_main_v25_apply, val_main_v24_apply, ls_at h t s _ (z_at H h t s), tail_at H]
  exact congrArg Ideal.exp (EReal.coe_add _ _).symm

theorem wgt_at (h : Fin 4) (t s : Fin 8192) : val_main_v26_0 (F := Ideal) x0 (ix3 h t s) = (wgt (Q h) (K h) t s : EReal) := by
  rw [val_main_v26_0_apply, mask_wgt, exp_at H, wgt]
  rw [coe_ite, EReal.coe_zero]
  pointwise [val_main_call4_v2, val_main_call4_v0, val_main_cst_1]
  exact if_congr Iff.rfl rfl zero_word

theorem ev_at (h : Fin 4) (t s : Fin 8192) : val_main_v37 (F := Ideal) x0 x1 (ix3 h t s) = (ev (Q h) (K h) (V h) (D h) t s : EReal) := by
  pointwise [val_main_v37, val_main_v36, val_main_v35, val_main_call5_v0, val_main_call5_cst, mask_wgt, exp_at H, v_at H, o_at H]
  rw [ev, wgt]
  simp only [← EReal.coe_mul, Fin.lt_def]
  rw [← coe_sum]
  split
  · rw [← EReal.coe_mul, mul_comm]
  · rw [zero_mul, zero_mul, EReal.coe_zero]

theorem pre_at (h : Fin 4) (t s : Fin 8192) : val_main_v40 (F := Ideal) x0 x1 (ix3 h t s) = (pre (Q h) (K h) (V h) (D h) t s : EReal) := by
  have e : val_main_v39 (F := Ideal) x0 x1 (ix3 h t s) = ((∑ u : Fin 8192, if u.val ≤ s.val then ev (Q h) (K h) (V h) (D h) t u else 0 : ℝ) : EReal) := by
    rw [coe_sum]
    unfold val_main_v39
    refine (window_sum 8191 0 (val_main_v37 (F := Ideal) x0 x1) _ _ _ (fun i => ?_) h t s).trans (Finset.sum_congr rfl fun u _ => ?_)
    · pointwise [val_main_call6_v0, val_main_call6_cst]
    · rw [ev_at H h t u, coe_ite, EReal.coe_zero]
      exact if_congr (by omega) rfl rfl
  rw [val_main_v40_apply, e, val_main_v38_apply, ev_at H h t s]
  show -((_ : ℝ) : EReal) + ((_ : ℝ) : EReal) = _
  rw [← EReal.coe_neg, ← EReal.coe_add]
  refine congrArg Real.toEReal ?_
  rw [pre, neg_add_eq_iff_eq_add, ← Fintype.sum_ite_eq s fun u => ev (Q h) (K h) (V h) (D h) t u, ← Finset.sum_add_distrib]
  refine Finset.sum_congr rfl fun u _ => ?_
  simp only [Fin.lt_def, Fin.ext_iff]
  rcases lt_trichotomy u.val s.val with hl | hl | hl
  · rw [if_pos hl.le, if_pos hl, if_neg (by omega), zero_add]
  · rw [if_pos hl.le, if_pos hl.symm, if_neg (by omega), add_zero]
  · rw [if_neg (by omega), if_neg (by omega), if_neg (by omega), add_zero]

theorem dsc_at (h : Fin 4) (t s : Fin 8192) : val_main_v47 (F := Ideal) x0 x1 (ix3 h t s) = (dsc (Q h) (K h) (V h) (D h) t s : EReal) := by
  pointwise [val_main_v47, val_main_v46, val_main_cst_2, val_main_v45, val_main_v44, val_main_call9_v1, val_main_call9_v0, val_main_v43, val_main_v42, val_main_call8_v1, val_main_call8_v0, val_main_v41, val_main_call7_v0, val_main_call7_cst, mask_keep, pre_at H, ev_at H, sig_at h t s _ (z_at H h t s), sig_at' h t s _ (z_at H h t s), ofBits_c]
  rw [dsc]
  simp only [Fin.lt_def]
  split
  · simp only [← EReal.coe_neg, ← EReal.coe_mul, ← EReal.coe_add]
    refine congrArg Real.toEReal ?_
    ring
  · next hn =>
    rw [ev, wgt, if_neg (show ¬ s < t from hn)]
    simp only [neg_zero, zero_mul, EReal.coe_zero, add_zero]

theorem ref_dq (h : Fin 4) (t : Fin 8192) (d : Fin 128) : val_main_v56 (F := Ideal) x0 x1 (ix2 t (col 512 0 (by decide) h d)) = (dq (Q h) (K h) (V h) (D h) t d : EReal) := by
  rw [val_main_v56_apply, val_main_v55_apply, val_main_v54_apply]
  refine (at_ix3 (val_main_v49 (F := Ideal) x0 x1) _ h t d ?_ ?_ ?_).trans ?_
  · show (t.val * 512 + (0 + (h.val * 128 + d.val))) / 128 % 4 = h.val; omega
  · show (t.val * 512 + (0 + (h.val * 128 + d.val))) / 512 = t.val; omega
  · show (t.val * 512 + (0 + (h.val * 128 + d.val))) % 128 = d.val; omega
  · pointwise [val_main_v49, dsc_at H, k_at H]
    rw [dq, coe_sum]
    simp only [EReal.coe_mul]

theorem ref_dk (h : Fin 4) (t : Fin 8192) (d : Fin 128) : val_main_v53 (F := Ideal) x0 x1 (ix2 t (col 512 0 (by decide) h d)) = (dk (Q h) (K h) (V h) (D h) t d : EReal) := by
  rw [val_main_v53_apply, val_main_v52_apply]
  refine (at_ix3 (val_main_v48 (F := Ideal) x0 x1) _ h t d ?_ ?_ ?_).trans ?_
  · show (t.val * 512 + (0 + (h.val * 128 + d.val))) / 128 % 4 = h.val; omega
  · show (t.val * 512 + (0 + (h.val * 128 + d.val))) / 512 = t.val; omega
  · show (t.val * 512 + (0 + (h.val * 128 + d.val))) % 128 = d.val; omega
  · pointwise [val_main_v48, dsc_at H, q_at H]
    rw [dk, coe_sum]
    simp only [EReal.coe_mul]

theorem ref_dv (h : Fin 4) (t : Fin 8192) (d : Fin 128) : val_main_v51 (F := Ideal) x0 x1 (ix2 t (col 512 0 (by decide) h d)) = (dv (Q h) (K h) (D h) t d : EReal) := by
  rw [val_main_v51_apply, val_main_v50_apply]
  refine (at_ix3 (val_main_v34 (F := Ideal) x0 x1) _ h t d ?_ ?_ ?_).trans ?_
  · show (t.val * 512 + (0 + (h.val * 128 + d.val))) / 128 % 4 = h.val; omega
  · show (t.val * 512 + (0 + (h.val * 128 + d.val))) / 512 = t.val; omega
  · show (t.val * 512 + (0 + (h.val * 128 + d.val))) % 128 = d.val; omega
  · pointwise [val_main_v34, val_main_v33, wgt_at H, o_at H]
    rw [dv, coe_sum]
    refine Finset.sum_congr rfl fun u _ => ?_
    rw [EReal.coe_mul, mul_comm]
end
end Cert.Sb
-- ==== Proof.SbHost.lean ====
/- What the host hands the kernel: the projection with its step columns spread out, and each query row's carries. -/
module

public import proofs.«01_k».proof.Proof.SbFrame
public import proofs.«01_k».proof.Proof.SbRef
public import proofs.«01_k».proof.Proof.Common
public import Idealize.ShloMosaic.Lib.Pipeline.ValueKit

@[expose] public section

set_option maxRecDepth 16384

noncomputable section

namespace Cert.Sb

open Cert.SbKernelIdeal Cert.SbKernelIdeal.Gen Cert.Common
open Idealize.ShloMosaic Idealize.ShloMosaic.TcCoe Idealize.ShloMosaic.StableHlo

section
variable (x : FVec Ideal S8192x5128 .f32)

def flipped : FVec Ideal S5128x8192 .f32 := transpose S5128x8192 [1, 0] x transposes_S8192x5128_S5128x8192_1_0

def steps : FVec Ideal S512x8192 .f32 :=
  shapeCast S512x8192 (pad S4x128x8192 ![0, 0, 0] ![0, 126, 0] ![0, 0, 0]
    (shapeCast S4x2x8192 (extractStridedSlice S8x8192 ![5120, 0] (flipped x) slices_S5128x8192_S8x8192_5120_0) shapeCasts_S8x8192_S4x2x8192)
    (sitofp .f32 (constantI S_ 32 0#32)) pads_S4x2x8192_S4x128x8192_000_01260_000 h_S_) shapeCasts_S4x128x8192_S512x8192

def packed : FVec Ideal S8192x5632 .f32 :=
  transpose S8192x5632 [1, 0] (concatenate S5632x8192 0 [⟨S5120x8192, extractStridedSlice S5120x8192 ![0, 0] (flipped x) slices_S5128x8192_S5120x8192_0_0⟩, ⟨S512x8192, steps x⟩]
    concatenates_S5120x8192_S512x8192_S5632x8192_d0) transposes_S5632x8192_S8192x5632_1_0

def blocks : FVec Ideal S4x8192x32x256 .f32 := shapeCast _ (Cert.SbReferenceIdeal.Read.val_main_v21_0 (F := Ideal) x) shapeCasts_S4x8192x8192_S4x8192x32x256

def sums : FVec Ideal S4x8192x32 .f32 := Host.reduceAdd (blocks x) (constant S_ .f32 0x00000000#32) reducesTo_S4x8192x32x256_S4x8192x32_d3 h_S_

def runs : FVec Ideal S4x8192x32 .f32 :=
  Host.reduceWindowAdd ![1, 1, 32] ![1, 1, 1] ![0, 0, 0] ![0, 0, 31] (sums x) (broadcastInDim S_ ![] bcast_S_S_ (constant S_ .f32 0x00000000#32)) reduceWindows_S4x8192x32_S4x8192x32_w1s1p0_0_w1s1p0_0_w32s1p0_31 h_S_

def visited : IVec S8192x32 1 :=
  cmpi .sle
    (broadcastInDim S8192x32 ![0, 1] bcast_S1x32_S8192x32_0_1 (muli (broadcastInDim S1x32 ![1] bcast_S32_S1x32_1 (iotaInDim S32 32 0)) (broadcastInDim S1x32 ![] bcast_S_S1x32 (constantI S_ 32 256#32))))
    (broadcastInDim S8192x32 ![0, 1] bcast_S8192x1_S8192x32_0_1 (broadcastInDim S8192x1 ![0] bcast_S8192_S8192x1_0 (iotaInDim S8192 32 0)))

def rest : FVec Ideal S4x8192x32 .f32 :=
  select (broadcastInDim S4x8192x32 ![1, 2] bcast_S8192x32_S4x8192x32_1_2 visited) (subf (runs x) (sums x))
    (broadcastInDim S4x8192x32 ![] bcast_S_S4x8192x32 (constant S_ .f32 0xF149F2CA#32))

def wide : FVec Ideal S4x8192x128 .f32 :=
  pad S4x8192x128 ![0, 0, 0] ![0, 0, 96] ![0, 0, 0] (rest x) (constant S_ .f32 0xF149F2CA#32) pads_S4x8192x32_S4x8192x128_000_000_0960 h_S_

def carries : FVec Ideal S8192x512 .f32 :=
  shapeCast S8192x512 (transpose S8192x4x128 [1, 0, 2] (wide x)
    transposes_S4x8192x128_S8192x4x128_1_0_2) shapeCasts_S8192x4x128_S8192x512
end

section
variable (m : (ℓ : Loc nD τ sig) → Buf (Elt Ideal) ℓ) (c : Dev nD)

set_option maxHeartbeats 4000000 in
theorem V_packed : V m c main_v7 = packed (m (c, Proc.tc.devRef main_arg0)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  rfl

set_option maxHeartbeats 4000000 in
theorem V_carries : V m c main_v41 = carries (m (c, Proc.tc.devRef main_arg0)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
  rfl

theorem V_arg1 : V m c main_arg1 = m (c, Proc.tc.devRef main_arg1) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp
end

theorem packed_at (x : FVec Ideal S8192x5128 .f32) (t : Fin 8192) (l : Fin 5632) (hl : l.val < 5120) : packed x (ix2 t l) = x (ix2 t ⟨l.val, by omega⟩) := by
  pointwise [packed, flipped]
  rw [dif_pos hl]

theorem visited_at (t : Fin 8192) (j : Fin 32) : visited (ix2 t j) = BitVec.ofBool (decide (j.val * 256 ≤ t.val)) := by
  pointwise [visited]
  have e : IntOp.muli (BitVec.ofNat 32 j.val) 256#32 = BitVec.ofNat 32 (j.val * 256) := by
    rw [BitVec.ofNat_mul]; rfl
  rw [e]
  show BitVec.ofBool (BitVec.sle _ _) = _
  rw [BitVec.sle_eq_decide, toInt_word _ (by omega), toInt_word _ (by omega)]
  exact congrArg BitVec.ofBool (decide_eq_decide.mpr (by omega))

/-- The number that stands for no carry. -/
def low : ℝ := -(13234890 * 2 ^ 76)

theorem ofBits_low : Ideal.ofBits .f32 0xF149F2CA#32 = (low : EReal) := by
  simp [Ideal.ofBits, Ideal.ieee, low]

/-- A query row's lanes: the carry after each block the row has a key in. -/
def lanes (Q K : Tab 8192 128) (t : Fin 8192) (l : Fin 128) : ℝ := if l.val * 256 ≤ t.val then carry Q K t l.val else low

section
variable {x0 : FVec Ideal S8192x5128 .f32} {x1 : FVec Ideal S8192x1536 .f32} {Q K V D : Fin 4 → Tab 8192 128} (H : Holds x0 x1 Q K V D)
include H

theorem sums_at (h : Fin 4) (t : Fin 8192) (j : Fin 32) : sums x0 (ix3 h t j) = ((∑ v, keep (Q h) (K h) t (row j v) : ℝ) : EReal) := by
  pointwise [sums]
  rw [coe_sum]
  refine Finset.sum_congr rfl fun v _ => (Eq.trans ?_ (keep_at H h t (row j v)))
  pointwise [blocks]
  rfl

theorem runs_at (h : Fin 4) (t : Fin 8192) (j : Fin 32) :
    runs x0 (ix3 h t j) = ((∑ u : Fin 32, if j.val ≤ u.val then ∑ v, keep (Q h) (K h) t (row u v) else 0 : ℝ) : EReal) := by
  rw [coe_sum]
  unfold runs
  refine (window_sum 0 31 (sums x0) _ _ _ (fun i => ?_) h t j).trans (Finset.sum_congr rfl fun u _ => ?_)
  · show Ideal.ofBits .f32 0x00000000#32 = 0
    simp [Ideal.ofBits, Ideal.ieee]
  · rw [sums_at H h t u, coe_ite, EReal.coe_zero]
    exact if_congr (by omega) rfl rfl

omit H in
theorem carry_blocks (Q K : Tab 8192 128) (t : Fin 8192) (j : Fin 32) :
    (∑ u : Fin 32, if j.val ≤ u.val then ∑ v, keep Q K t (row u v) else 0) - ∑ v, keep Q K t (row j v) = carry Q K t j.val := by
  rw [carry, sub_eq_iff_eq_add, ← Fintype.sum_ite_eq j fun u => ∑ v, keep Q K t (row u v)]
  have e : (∑ u : Fin 8192, if (j.val + 1) * 256 ≤ u.val then keep Q K t u else 0) = ∑ u : Fin 32, ∑ v : Fin 256, if (j.val + 1) * 256 ≤ (row u v).val then keep Q K t (row u v) else 0 := by
    refine (sum_tiles (fun u v => if (j.val + 1) * 256 ≤ (row u v).val then keep Q K t (row u v) else 0) (fun u => if (j.val + 1) * 256 ≤ u.val then keep Q K t u else 0) (by decide : 256 * 32 = 8192) fun u v hi => ?_).symm
    exact congrArg (fun x : Fin 8192 => if (j.val + 1) * 256 ≤ x.val then keep Q K t x else 0) (Fin.ext (by rw [row_val]; dsimp only; omega))
  rw [e, ← Finset.sum_add_distrib]
  refine Finset.sum_congr rfl fun u _ => ?_
  simp only [Fin.ext_iff]
  rcases lt_trichotomy j.val u.val with hl | hl | hl
  · rw [if_pos hl.le, if_neg (by omega), add_zero]
    exact Finset.sum_congr rfl fun v _ => (if_pos (by rw [row_val]; omega)).symm
  · rw [if_pos hl.le, if_pos hl, right_eq_add]
    refine Finset.sum_eq_zero ?_
    exact fun v _ => if_neg (by rw [row_val]; omega)
  · rw [if_neg (by omega), if_neg (by omega), add_zero, eq_comm]
    refine Finset.sum_eq_zero ?_
    exact fun v _ => if_neg (by rw [row_val]; omega)

theorem wide_at (h : Fin 4) (t : Fin 8192) (l : Fin 128) : wide x0 (ix3 h t l) = (lanes (Q h) (K h) t l : EReal) := by
  have key : ∀ b : Fin 32, b.val = l.val → rest x0 (ix3 h t b) = (lanes (Q h) (K h) t l : EReal) := fun b hb => by
    pointwise [rest, ofBits_low, visited_at, runs_at H, sums_at H]
    rw [← EReal.coe_sub, carry_blocks, lanes, coe_ite, hb]
  pointwise [wide, ofBits_low]
  split
  · next hc => exact key ⟨l.val, hc⟩ rfl
  · next hc => rw [lanes, if_neg (by omega)]

theorem carries_at (h : Fin 4) (t : Fin 8192) (l : Fin 128) : carries x0 (ix2 t (col 512 0 (by decide) h l)) = (lanes (Q h) (K h) t l : EReal) := by
  rw [← wide_at H h t l]
  pointwise [carries]
  exact at_ix3 (wide x0) _ h t l (show (h.val * 128 + l.val) / 128 = h.val by omega) rfl (show (h.val * 128 + l.val) % 128 = l.val by omega)
end
end Cert.Sb
-- ==== Proof.SbTile.lean ====
/- The arithmetic of one pair of blocks of the stick-breaking gradient, on tables of reals. -/
module

public import proofs.«01_k».proof.Proof.SbStep
public import proofs.«01_k».proof.Proof.SbSpec
public import Idealize.ShloMosaic.Lib.WordCmp

@[expose] public section

set_option maxRecDepth 16384

noncomputable section

namespace Cert.Sb

open Idealize.ShloMosaic Idealize.ShloMosaic.TcCoe
open Cert.SbKernelIdeal Cert.SbKernelIdeal.Gen

/-- The scores of a block. -/
def zt (Q K : Tab 256 128) : Tab 256 256 := fun r s => (∑ d, Q r d * K s d) * c

theorem pay39 (Q K : Tab 256 128) : k0_pay39 (F := Ideal) (up Q) (up K) = up (zt Q K) := by
  refine eq_up fun r s => ?_
  pointwise [k0_pay39, ofBits_c]
  simp only [up_ix2, zt, EReal.coe_mul, coe_sum]

theorem ls_parts (z : ℝ) : ls z = min z 0 - Real.log (1 + Real.exp (-|z|)) := rfl

theorem pay40 (Q K : Tab 256 128) : k0_pay40 (F := Ideal) (up Q) (up K) = up (fun r s => Real.log (1 + Real.exp (-|zt Q K r s|))) := by
  refine eq_up fun r s => ?_
  pointwise [k0_pay40, pay39, ofBits_c]
  rw [Ideal.absf_def, up_ix2, ← coe_abs, zero_sub, ← EReal.coe_neg, exp_coe, log1p_coe _ (Real.exp_pos _)]

theorem pay41 (Q K : Tab 256 128) : k0_pay41 (F := Ideal) (up Q) (up K) = up (fun r s => ls (zt Q K r s)) := by
  refine eq_up fun r s => ?_
  pointwise [k0_pay41, pay40, pay39, ofBits_c]
  rw [up_ix2, up_ix2, ← EReal.coe_zero, ← coe_min, ← EReal.coe_sub, ls]

theorem pay54 (r s : Fin 256) : k0_pay54 (ix2 r s) = BitVec.ofBool (decide (s < r)) := by
  pointwise [k0_pay54]
  exact slt_word _ _ (by omega) (by omega)

theorem pay55 : k0_pay55 (F := Ideal) = up (fun r s => if s < r then 1 else 0) := by
  refine eq_up fun r s => ?_
  pointwise [k0_pay55, hlo_ix]
  exact (congrArg (fun b => FloatOps.sitofp (F := Ideal) .f32 (BitVec.setWidth 32 b)) (slt_word s.val r.val (by omega) (by omega))).trans (sitofp_ofBool _)

theorem pay56 : k0_pay56 (F := Ideal) = up (fun r s => if r < s then 1 else 0) := by
  refine eq_up fun r s => ?_
  pointwise [k0_pay56, hlo_ix]
  exact (congrArg (fun b => FloatOps.sitofp (F := Ideal) .f32 (BitVec.setWidth 32 b)) (slt_word r.val s.val (by omega) (by omega))).trans (sitofp_ofBool _)

/-- The weights of a block: the keeps after each key within the block, and those after the block. -/
def tw (lb lk : Tab 256 256) (C : Fin 256 → ℝ) : Tab 256 256 := fun r s => Real.exp (lb r s + (∑ u, lk r u * if s < u then 1 else 0) + C r)

/-- The gradient of the scores of a block. -/
def gz (lb e : Tab 256 256) (E : Fin 256 → ℝ) : Tab 256 256 := fun r s =>
  (e r s * (1 - Real.exp (lb r s)) - Real.exp (lb r s) * ((∑ u, e r u * if u < s then 1 else 0) + E r)) * c

theorem pay42 (i : grid0.Coords) (w : BitVec 32) (k : Fin (k0_t1_loop i w).trips) (j : Fin 128) (hj : Scf.iv w 1#32 k = BitVec.ofNat 32 j.val)
    (Q K C : Tab 256 128) :
    k0_pay42 (F := Ideal) i (up Q) (up C) k0_pay55 (iota .tc S256x128 32 [1] iota_S256x128_d1_w32) w 1#32 k (up K)
      = up (tw (fun r s => ls (zt Q K r s)) (fun r s => ls (-zt Q K r s)) fun r => C r j) := by
  refine eq_up fun r s => ?_
  pointwise [k0_pay42, pay41, pay40, pay39, pay55, hj, hlo_ix]
  simp only [up_ix2, keep_coe, sub_self_coe, zero_mul, Finset.sum_const_zero, add_zero]
  rw [pick (by omega) j (fun x => (C r x : EReal))]
  simp only [← EReal.coe_mul, ← coe_sum, ← EReal.coe_add, exp_coe]
  rfl

theorem pay74 (w : BitVec 32) (j : Fin 128) (hj : w = BitVec.ofNat 32 j.val) (C : Tab 256 128) :
    k0_pay74 (F := Ideal) w (up C) (iota .tc S256x128 32 [1] iota_S256x128_d1_w32) = up (fun r (_ : Fin 1) => C r j) := by
  refine eq_up fun r s => ?_
  pointwise [k0_pay74, hj, hlo_ix]
  exact pick (by omega) j (fun x => (C r x : EReal))

theorem pay63 (E : Fin 256 → ℝ) (e : Tab 256 256) :
    k0_pay63 (F := Ideal) (up fun r (_ : Fin 1) => E r) (up e) = up (fun r (_ : Fin 1) => E r + ∑ s, e r s) := by
  refine eq_up fun r s => ?_
  pointwise [k0_pay63]
  simp only [up_ix2, EReal.coe_add, coe_sum]

theorem pay61 (E : Fin 256 → ℝ) (lb e : Tab 256 256) :
    k0_pay61 (F := Ideal) k0_pay56 (up fun r (_ : Fin 1) => E r) (up lb) (up e) = up (gz lb e E) := by
  refine eq_up fun r s => ?_
  pointwise [k0_pay61, pay56, ofBits_c]
  simp only [up_ix2, sub_self_coe, zero_mul, Finset.sum_const_zero, add_zero, exp_coe, ← EReal.coe_one, ← EReal.coe_sub, ← EReal.coe_mul, ← coe_sum, ← EReal.coe_add]
  rfl

theorem pay62 (Q A : Tab 256 128) (E : Fin 256 → ℝ) (lb e : Tab 256 256) :
    k0_pay62 (F := Ideal) (up Q) k0_pay56 (up fun r (_ : Fin 1) => E r) (up lb) (up e) (up A) = up (fun s d => A s d + ∑ r, gz lb e E r s * Q r d) := by
  refine eq_up fun r s => ?_
  pointwise [k0_pay62, pay61]
  simp only [up_ix2, EReal.coe_add, EReal.coe_mul, coe_sum]

theorem pay64 (K A : Tab 256 128) (E : Fin 256 → ℝ) (lb e : Tab 256 256) :
    k0_pay64 (F := Ideal) k0_pay56 (up fun r (_ : Fin 1) => E r) (up A) (up K) (up lb) (up e) = up (fun r d => A r d + ∑ s, gz lb e E r s * K s d) := by
  refine eq_up fun r s => ?_
  pointwise [k0_pay64, pay61]
  simp only [up_ix2, EReal.coe_add, EReal.coe_mul, coe_sum]

theorem pay60 (D A : Tab 256 128) (w : Tab 256 256) :
    k0_pay60 (F := Ideal) (up D) (up w) (k0_pay44 (up A)) = up (fun s d => A s d + ∑ r, w r s * D r d) := by
  refine eq_up fun r s => ?_
  pointwise [k0_pay60, k0_pay44]
  simp only [up_ix2, EReal.coe_add, EReal.coe_mul, coe_sum]

theorem pay58 : k0_pay58 (F := Ideal) = up (fun _ (_ : Fin 1) => (0 : ℝ)) := by
  refine eq_up fun r s => ?_
  pointwise [k0_pay58]
  rfl

theorem pay59 : k0_pay59 (F := Ideal) = up (fun _ _ => (0 : ℝ)) := by
  refine eq_up fun r s => ?_
  pointwise [k0_pay59]
  rfl

theorem pay43 (i : grid0.Coords) (w : BitVec 32) (k : Fin (k0_t1_loop i w).trips) (j : Fin 128) (hj : Scf.iv w 1#32 k = BitVec.ofNat 32 j.val)
    (Q K C D V : Tab 256 128) :
    k0_pay43 (F := Ideal) i (up Q) (up D) (up C) k0_pay55 (iota .tc S256x128 32 [1] iota_S256x128_d1_w32) w 1#32 k (up K) (up V)
      = up (fun r s => tw (fun r s => ls (zt Q K r s)) (fun r s => ls (-zt Q K r s)) (fun r => C r j) r s * ∑ d, D r d * V s d) := by
  refine eq_up fun r s => ?_
  pointwise [k0_pay43, pay42 i w k j hj]
  simp only [up_ix2, EReal.coe_add, EReal.coe_mul, coe_sum]

/-! ## The diagonal block -/

theorem pay70 (Q K : Tab 256 128) : k0_pay70 (F := Ideal) (up Q) (up K) = up (zt Q K) := pay39 Q K
theorem pay71 (Q K : Tab 256 128) : k0_pay71 (F := Ideal) (up Q) (up K) = up (fun r s => Real.log (1 + Real.exp (-|zt Q K r s|))) := pay40 Q K
theorem pay72 (Q K : Tab 256 128) : k0_pay72 (F := Ideal) (up Q) (up K) = up (fun r s => ls (zt Q K r s)) := pay41 Q K

theorem pay73 (Q K : Tab 256 128) : k0_pay73 (F := Ideal) (up Q) k0_pay54 (up K) = up (fun r s => if s < r then ls (-zt Q K r s) else 0) := by
  refine eq_up fun r s => ?_
  pointwise [k0_pay73, pay70, pay71, pay54]
  rw [up_ix2, up_ix2, keep_coe, coe_ite, EReal.coe_zero]

theorem pay78 (Q K : Tab 256 128) (C : Fin 256 → ℝ) :
    k0_pay78 (F := Ideal) k0_pay54 k0_pay55 (up fun r s => ls (zt Q K r s)) (up fun r (_ : Fin 1) => C r) (k0_pay76 (up Q) k0_pay54 (up K)) (k0_pay77 (up Q) k0_pay54 k0_pay55 (up K))
      = up (fun r s => if s < r then tw (fun r s => ls (zt Q K r s)) (fun r s => if s < r then ls (-zt Q K r s) else 0) C r s else 0) := by
  refine eq_up fun r s => ?_
  pointwise [k0_pay78, k0_pay77, k0_pay76, k0_pay75, pay73, pay54, pay55]
  simp only [up_ix2, sub_self_coe, zero_mul, Finset.sum_const_zero, add_zero, ← EReal.coe_mul, ← coe_sum, ← EReal.coe_add, exp_coe]
  rw [coe_ite, EReal.coe_zero]
  rfl

theorem pay79 (D A : Tab 256 128) (w : Tab 256 256) (l c' : FVec Ideal S256x256 .f32) (t : FVec Ideal S256x1 .f32) (g : FVec Ideal S256x256 .bf16)
    (h : k0_pay78 (F := Ideal) k0_pay54 k0_pay55 l t g c' = up w) :
    k0_pay79 (F := Ideal) (up D) k0_pay54 k0_pay55 l t g c' (up A) = up (fun s d => A s d + ∑ r, w r s * D r d) := by
  refine eq_up fun r s => ?_
  pointwise [k0_pay79, h]
  simp only [up_ix2, EReal.coe_add, EReal.coe_mul, coe_sum]

theorem pay80 (D V : Tab 256 128) (E : Fin 256 → ℝ) (lb w : Tab 256 256) (c' : FVec Ideal S256x256 .f32) (t : FVec Ideal S256x1 .f32) (g : FVec Ideal S256x256 .bf16)
    (h : k0_pay78 (F := Ideal) k0_pay54 k0_pay55 (up lb) t g c' = up w) :
    k0_pay80 (F := Ideal) (up D) k0_pay54 k0_pay55 k0_pay56 (up fun r (_ : Fin 1) => E r) (up V) (up lb) t g c'
      = up (fun r s => if s < r then gz lb (fun r s => w r s * ∑ d, D r d * V s d) E r s else 0) := by
  refine eq_up fun r s => ?_
  pointwise [k0_pay80, h, pay54, pay56, ofBits_c]
  simp only [up_ix2, ← EReal.coe_mul, ← coe_sum, sub_self_coe, zero_mul, Finset.sum_const_zero, add_zero, exp_coe, ← EReal.coe_one, ← EReal.coe_sub, ← EReal.coe_add]
  rw [coe_ite, EReal.coe_zero]
  split
  · rw [← EReal.coe_mul]; rfl
  · rw [zero_mul]

theorem pay81 (Q D A : Tab 256 128) (g' : Tab 256 256) (V : Vec Ideal S256x128 .bf16) (E : FVec Ideal S256x1 .f32) (l c' : FVec Ideal S256x256 .f32) (t : FVec Ideal S256x1 .f32) (g : FVec Ideal S256x256 .bf16)
    (h : k0_pay80 (F := Ideal) (up D) k0_pay54 k0_pay55 k0_pay56 E V l t g c' = up g') :
    k0_pay81 (F := Ideal) (up Q) (up D) k0_pay54 k0_pay55 k0_pay56 E V l t g c' (up A) = up (fun s d => A s d + ∑ r, g' r s * Q r d) := by
  refine eq_up fun r s => ?_
  pointwise [k0_pay81, h]
  simp only [up_ix2, EReal.coe_add, EReal.coe_mul, coe_sum]

theorem pay1 (K A : Tab 256 128) (g : Tab 256 256) : k0_pay1 (F := Ideal) (up A) (up K) (up g) = up (fun r d => A r d + ∑ s, g r s * K s d) := by
  refine eq_up fun r s => ?_
  pointwise [k0_pay1]
  simp only [up_ix2, EReal.coe_add, EReal.coe_mul, coe_sum]

end Cert.Sb
-- ==== Proof.SbPoint.lean ====
/- One grid point of the stick-breaking gradient on tables of reals: the loop over the earlier key blocks, then the diagonal. -/
module

public import proofs.«01_k».proof.Proof.SbTile

@[expose] public section

set_option maxRecDepth 16384

noncomputable section

namespace Cert.Sb

open Idealize.ShloMosaic Idealize.ShloMosaic.TcCoe Idealize.ShloMosaic.VecWindow
open Cert.SbKernelIdeal Cert.SbKernelIdeal.Gen Cert.SbKernelIdeal.Sb

/-! ## Blocks of a table -/

/-- Block `b` of 256 rows. -/
abbrev blk (f : Tab 8192 128) (b : Fin 32) : Tab 256 128 := fun r d => f (row b r) d

theorem window_up (f : Tab 8192 128) (j : Fin 32) (off : Fin 2 → ℕ) (hoff : off = ![j.val * 256, 0])
    (inb : ∀ a : Fin 2, off a + S256x128.size a ≤ S8192x128.size a) :
    window (s := S8192x128) (up f) off S256x128.size inb = up (blk f j) := by
  subst hoff
  refine eq_up fun r l => ?_
  exact congrArg (fun x : ℝ => (x : EReal)) (congr (congrArg f (Fin.ext ((congrArg (j.val * 256 + ·) (Nat.one_mul r.val)))))
    (Fin.ext ((Nat.zero_add _).trans (Nat.one_mul l.val))))

/-- Within block `j`. -/
abbrev inBlock (j : Fin 32) (u : Fin 8192) : Prop := j.val * 256 ≤ u.val ∧ u.val < (j.val + 1) * 256

theorem put_up (f g : Tab 8192 128) (j : Fin 32) (off : Fin 2 → ℕ) (hoff : off = ![j.val * 256, 0]) :
    put (s := S8192x128) (up f) off S256x128.size (up (blk g j)) = up (fun u d => if inBlock j u then g u d else f u d) := by
  subst hoff
  refine eq_up fun u d => ?_
  have hd := d.isLt
  by_cases h : inBlock j u
  · have hh : ∀ a : Fin 2, (![j.val * 256, 0] : Fin 2 → ℕ) a ≤ ((ix2 u d : S8192x128.Idx) a).val ∧ ((ix2 u d : S8192x128.Idx) a).val < (![j.val * 256, 0] : Fin 2 → ℕ) a + S256x128.size a := fun a => by
      obtain ⟨h1, h2⟩ := h
      match a with
      | ⟨0, _⟩ => exact ⟨h1, (show u.val < j.val * 256 + 256 by omega)⟩
      | ⟨1, _⟩ => exact ⟨Nat.zero_le _, (show d.val < 0 + 128 by omega)⟩
    rw [if_pos h]
    refine (dif_pos hh).trans ?_
    exact congrArg (fun x : ℝ => (x : EReal)) (congr (congrArg g (Fin.ext (show j.val * 256 + (u.val - j.val * 256) = u.val from Nat.add_sub_cancel' h.1))) (Fin.ext (Nat.sub_zero _)))
  · rw [if_neg h]
    refine dif_neg fun hall => ?_
    have h0 : j.val * 256 ≤ u.val ∧ u.val < j.val * 256 + 256 := hall 0
    exact h ⟨h0.1, by omega⟩

/-! ## The tables of a pair of blocks -/

section
variable (Q K V D : Tab 8192 128) (b j : Fin 32)

theorem zt_blk (r s : Fin 256) : zt (blk Q b) (blk K j) r s = sc Q K (row b r) (row j s) := rfl

theorem row_before (h : j.val < b.val) (r s : Fin 256) : row j s < row b r := by
  rw [Fin.lt_def, row_val, row_val]; omega

theorem tw_before (h : j.val < b.val) (C : Fin 256 → ℝ) (hC : ∀ r, C r = carry Q K (row b r) j.val) :
    tw (fun r s => ls (zt (blk Q b) (blk K j) r s)) (fun r s => ls (-zt (blk Q b) (blk K j) r s)) C = fun r s => wgt Q K (row b r) (row j s) := by
  funext r s
  have e : ∀ u, ls (-zt (blk Q b) (blk K j) r u) = keep Q K (row b r) (row j u) := fun u => (if_pos (row_before b j h r u)).symm
  rw [tw, wgt, if_pos (row_before b j h r s), tail, after_split j s, hC, zt_blk, add_assoc]
  simp only [e]
  rfl

theorem tw_diag (C : Fin 256 → ℝ) (hC : ∀ r, C r = carry Q K (row b r) b.val) :
    (fun r s => if s < r then tw (fun r s => ls (zt (blk Q b) (blk K b) r s)) (fun r s => if s < r then ls (-zt (blk Q b) (blk K b) r s) else 0) C r s else 0)
      = fun r s => wgt Q K (row b r) (row b s) := by
  funext r s
  have e : ∀ u, (if u < r then ls (-zt (blk Q b) (blk K b) r u) else 0) = keep Q K (row b r) (row b u) := fun u => by
    simp only [keep, row_lt]; rfl
  rw [wgt]
  simp only [row_lt]
  split
  · rw [tw, tail, after_split b s, hC, zt_blk, add_assoc]
    simp only [e]
    rfl
  · rfl

theorem gz_before (h : j.val < b.val) :
    gz (fun r s => ls (zt (blk Q b) (blk K j) r s)) (fun r s => ev Q K V D (row b r) (row j s)) (fun r => upto (j.val * 256) (ev Q K V D (row b r)))
      = fun r s => dsc Q K V D (row b r) (row j s) := by
  funext r s
  rw [gz, dsc, if_pos (row_before b j h r s), pre, before_split j s, zt_blk]

theorem gz_diag :
    (fun r s => if s < r then gz (fun r s => ls (zt (blk Q b) (blk K b) r s)) (fun r s => ev Q K V D (row b r) (row b s)) (fun r => upto (b.val * 256) (ev Q K V D (row b r))) r s else 0)
      = fun r s => dsc Q K V D (row b r) (row b s) := by
  funext r s
  rw [dsc]
  simp only [row_lt]
  split
  · rw [gz, pre, before_split b s, zt_blk]
  · rfl

/-! ## The loop -/

/-- What the loop holds before key block `j`, from the gradients `A` and `B` it found. -/
def held (A B : Tab 8192 128) (n : ℕ) : St Ideal :=
  ((up (fun r (_ : Fin 1) => upto (n * 256) (ev Q K V D (row b r))), up (fun r d => upto (n * 256) fun s => dsc Q K V D (row b r) s * K s d)),
    up (fun s d => A s d + if s.val < n * 256 then ∑ r, dsc Q K V D (row b r) s * Q (row b r) d else 0),
    up (fun s d => B s d + if s.val < n * 256 then ∑ r, wgt Q K (row b r) s * D (row b r) d else 0))

theorem grow (A : Tab 8192 128) (g : Tab 8192 128) :
    (fun u d => if inBlock j u then A u d + (if u.val < j.val * 256 then g u d else 0) + g u d else A u d + if u.val < j.val * 256 then g u d else 0)
      = fun u d => A u d + if u.val < (j.val + 1) * 256 then g u d else 0 := by
  funext u d
  by_cases h : inBlock j u
  · rw [if_pos h, if_neg (by unfold inBlock at h; omega), if_pos h.2, add_zero]
  · rw [if_neg h]
    by_cases h' : u.val < j.val * 256
    · rw [if_pos h', if_pos (by omega)]
    · rw [if_neg h', if_neg (by unfold inBlock at h; omega)]

variable (i : grid0.Coords) (hb : (i 1).val = b.val) (C : Tab 256 128) (hC : ∀ r (j : Fin 32) (l : Fin 128), l.val = j.val → j.val ≤ b.val → C r l = carry Q K (row b r) j.val)
  (w : BitVec 32) (hw : k0_chk1 i w) (hw0 : w = 0#32)
include hb hC hw0

theorem trip_held (A B : Tab 8192 128) (k : Fin (k0_t1_loop i w).trips) (hk : k.val = j.val) :
    trip (F := Ideal) i (up (blk Q b)) (up (blk D b)) (up C) k0_pay55 k0_pay56 (iota .tc S256x128 32 [1] iota_S256x128_d1_w32) w hw (up K) (up V) k (held Q K V D b A B j.val)
      = held Q K V D b A B (j.val + 1) := by
  have hwi : w.toNat ≤ (i 1).val := by subst hw0; exact Nat.zero_le _
  have hkb : j.val < b.val := by
    have := (loops i w hwi).2.1
    have := k.isLt
    omega
  have w0 : w.toNat = 0 := by subst hw0; rfl
  have hoff : k0_off1 i w k = ![j.val * 256, 0] := by rw [off1 i w hwi k, w0, zero_add, hk]
  let l : Fin 128 := ⟨j.val, by omega⟩
  have hl : Scf.iv w 1#32 k = BitVec.ofNat 32 l.val := by
    apply BitVec.eq_of_toNat_eq
    rw [iv_toNat i w hwi k, w0, zero_add, hk, BitVec.toNat_ofNat, Nat.mod_eq_of_lt (by omega)]
  have hCl := fun r => hC r j l rfl (by omega)
  have e43 := pay43 i w k l hl (blk Q b) (blk K j) C (blk D b) (blk V j)
  have e42 := pay42 i w k l hl (blk Q b) (blk K j) C
  rw [tw_before Q K b j hkb _ hCl] at e42 e43
  have e41 := pay41 (blk Q b) (blk K j)
  unfold trip held
  dsimp only
  simp only [window_up _ j _ hoff]
  rw [e41, e42]
  rw [show k0_pay43 (F := Ideal) i (up (blk Q b)) (up (blk D b)) (up C) k0_pay55 (iota .tc S256x128 32 [1] iota_S256x128_d1_w32) w 1#32 k (up (blk K j)) (up (blk V j)) = up (fun r s => ev Q K V D (row b r) (row j s)) from e43]
  rw [pay63, pay64, pay62, pay60, gz_before Q K V D b j hkb]
  refine Prod.ext (Prod.ext ?_ ?_) (Prod.ext ?_ ?_) <;> dsimp only
  · exact congrArg up (funext fun r => funext fun _ => (upto_succ j _).symm)
  · exact congrArg up (funext fun r => funext fun d => (upto_succ j _).symm)
  · refine (put_up _ (fun s d => A s d + (if s.val < j.val * 256 then ∑ r, dsc Q K V D (row b r) s * Q (row b r) d else 0) + ∑ r, dsc Q K V D (row b r) s * Q (row b r) d) j _ hoff).trans ?_
    exact congrArg up (grow j A fun s d => ∑ r, dsc Q K V D (row b r) s * Q (row b r) d)
  · refine (put_up _ (fun s d => B s d + (if s.val < j.val * 256 then ∑ r, wgt Q K (row b r) s * D (row b r) d else 0) + ∑ r, wgt Q K (row b r) s * D (row b r) d) j _ hoff).trans ?_
    exact congrArg up (grow j B fun s d => ∑ r, wgt Q K (row b r) s * D (row b r) d)

theorem loop_held (A B : Tab 8192 128) (n : ℕ) (hn : n ≤ (k0_t1_loop i w).trips) :
    loop (F := Ideal) i (up (blk Q b)) (up (blk D b)) (up C) k0_pay55 k0_pay56 (iota .tc S256x128 32 [1] iota_S256x128_d1_w32) w hw (up K) (up V) (held Q K V D b A B 0) n
      = held Q K V D b A B n := by
  induction n with
  | zero => rfl
  | succ n ih =>
    have hwi : w.toNat ≤ (i 1).val := by subst hw0; exact Nat.zero_le _
    have ht := (loops i w hwi).2.1
    have hb' := b.isLt
    rw [loop_succ _ _ _ _ _ _ _ _ _ _ _ _ n hn, ih (by omega)]
    exact trip_held Q K V D b ⟨n, by omega⟩ i hb C hC w hw hw0 A B ⟨n, hn⟩ rfl

theorem held_zero (A B : Tab 8192 128) : ((k0_pay58, k0_pay59), up A, up B) = held Q K V D b A B 0 := by
  unfold held
  simp only [pay58, pay59, Nat.zero_mul, upto_zero, Nat.not_lt_zero, if_false, add_zero]

theorem off3 : k0_off3 i = ![b.val * 256, 0] := by
  have e : (BitVec.ofNat 32 (i 1).val * 256#32).toNat = b.val * 256 := by
    have := b.isLt
    rw [hb, BitVec.toNat_mul, BitVec.toNat_ofNat, BitVec.toNat_ofNat]
    omega
  show ![(BitVec.ofNat 32 (i 1).val * 256#32).toNat, 0] = _
  rw [e]

theorem point_held (A B : Tab 8192 128) :
    pointAt (F := Ideal) i (up (blk Q b)) (up (blk D b)) (up C) w hw (up K) (up V) (up A) (up B)
      = (up (blk (dq Q K V D) b), up (fun s d => A s d + ∑ r, dsc Q K V D (row b r) s * Q (row b r) d), up (fun s d => B s d + ∑ r, wgt Q K (row b r) s * D (row b r) d)) := by
  have hwi : w.toNat ≤ (i 1).val := by subst hw0; exact Nat.zero_le _
  have ht : (k0_t1_loop i w).trips = b.val := by
    have := (loops i w hwi).2.1
    have w0 : w.toNat = 0 := by subst hw0; rfl
    omega
  have hb' := b.isLt
  let l : Fin 128 := ⟨b.val, by omega⟩
  have hoff := off3 Q K b i hb C hC w hw0
  have hCl := fun r => hC r b l rfl le_rfl
  unfold pointAt
  dsimp only
  rw [held_zero Q K V D b i hb C hC w hw0 A B, loop_held Q K V D b i hb C hC w hw hw0 A B _ le_rfl, ht]
  unfold held
  dsimp only
  simp only [window_up _ b _ hoff]
  have e74 := pay74 (BitVec.ofNat 32 (i 1).val) l (by rw [hb]) C
  have e78 := pay78 (blk Q b) (blk K b) fun r => C r l
  rw [tw_diag Q K b _ hCl] at e78
  have e80 := pay80 (blk D b) (blk V b) (fun r => upto (b.val * 256) (ev Q K V D (row b r))) _ _ _ _ _ e78
  rw [show (fun r s => wgt Q K (row b r) (row b s) * ∑ d, blk D b r d * blk V b s d) = fun r s => ev Q K V D (row b r) (row b s) from rfl, gz_diag Q K V D b] at e80
  rw [pay72, e74, e80, pay79 (h := e78), pay81 (h := e80), pay1]
  refine Prod.ext ?_ (Prod.ext ?_ ?_) <;> dsimp only
  · refine congrArg up (funext fun r => funext fun d => ?_)
    rw [← upto_succ b fun s => dsc Q K V D (row b r) s * K s d]
    refine upto_stop _ _ fun u hu => ?_
    rw [dsc, if_neg, zero_mul]
    rw [Fin.lt_def, row_val]; omega
  · refine (put_up _ (fun s d => A s d + (if s.val < b.val * 256 then ∑ r, dsc Q K V D (row b r) s * Q (row b r) d else 0) + ∑ r, dsc Q K V D (row b r) s * Q (row b r) d) b _ hoff).trans ?_
    refine congrArg up ((grow b A fun s d => ∑ r, dsc Q K V D (row b r) s * Q (row b r) d).trans (funext fun s => funext fun d => ?_))
    split
    · rfl
    · next h =>
      congr 1
      refine (Finset.sum_eq_zero fun r _ => ?_).symm
      rw [dsc, if_neg, zero_mul]
      rw [Fin.lt_def, row_val]; omega
  · refine (put_up _ (fun s d => B s d + (if s.val < b.val * 256 then ∑ r, wgt Q K (row b r) s * D (row b r) d else 0) + ∑ r, wgt Q K (row b r) s * D (row b r) d) b _ hoff).trans ?_
    refine congrArg up ((grow b B fun s d => ∑ r, wgt Q K (row b r) s * D (row b r) d).trans (funext fun s => funext fun d => ?_))
    split
    · rfl
    · next h =>
      congr 1
      refine (Finset.sum_eq_zero fun r _ => ?_).symm
      rw [wgt, if_neg, zero_mul]
      rw [Fin.lt_def, row_val]; omega

end

end Cert.Sb
-- ==== Proof.SbValue.lean ====
/- What stick-breaking attention's gradient leaves in its three results. -/
module

public import proofs.«01_k».proof.Proof.SbHost
public import proofs.«01_k».proof.Proof.SbPoint
public import proofs.«01_k».proof.Defs
public import proofs.«01_k».proof.Proof.Gen.SbReferenceIdeal.Run
public import proofs.«01_k».proof.Proof.Gen.SbReferenceIdeal.Read
public import Idealize.ShloMosaic.Lib.Claim
public import Idealize.ShloMosaic.Lib.Tactic

@[expose] public section

set_option maxRecDepth 16384

noncomputable section

namespace Cert.Sb

open Cert.SbKernelIdeal Cert.SbKernelIdeal.Gen Cert.SbKernelIdeal.Sb Cert.Common
open Idealize.ShloMosaic Idealize.ShloMosaic.TcCoe Idealize.SL.Sem
open Idealize.ShloMosaic.Pipeline (Dat)

theorem no_skip : (Named.named κ "no_skip" 0xC2F00000#32 : Ideal .f32) = (⊥ : EReal) :=
  IdealRules.named_const.ideal_named_scalar _ _ _ _ rfl

/-- With the exit's threshold at −∞ the count of lanes to leave out is zero. -/
theorem word_zero (i : grid0.Coords) (C : Tab 256 128) : word (F := Ideal) i (up C) = 0#32 := by
  have e : ∃ f : Fin 1 × Fin 128 → BitVec 32, word (F := Ideal) i (up C) = Finset.univ.fold IntOp.addi 0#32 f ∧ ∀ y, f y = 0#32 := by
    refine ⟨_, by pointwise [word, k0_pay57, k0_pay53]; rfl, fun y => ?_⟩
    have hp : ¬ (Finset.univ.fold max (Ideal.ofBits FTy.f32 4286578688#32) (fun x : Fin 256 => up C (ix2 x y.2)) ≤ (Named.named κ "no_skip" 0xC2F00000#32 : Ideal .f32)) := by
      rw [no_skip, le_bot_iff]
      refine fun hb => EReal.coe_ne_bot (C ⟨0, by omega⟩ y.2) (le_bot_iff.mp (le_trans ?_ hb.le))
      exact (Finset.le_fold_max _).mpr (Or.inr ⟨⟨0, by omega⟩, Finset.mem_univ _, (up_ix2 C _ _).ge⟩)
    rw [decide_eq_false hp]
    generalize IntOp.cmpi CmpIPredicate.slt (BitVec.ofNat 32 y.2.val) (BitVec.ofNat 32 (i 1).val) = z
    revert z
    decide
  obtain ⟨f, he, hf⟩ := e
  rw [he, fold_addi, Finset.sum_eq_zero fun y _ => hf y]
  rfl

theorem narrow_up (f : Tab 8192 128) : narrow (F := Ideal) (up f) = up f := by
  refine eq_up fun r l => ?_
  pointwise [narrow, up_ix2]

theorem zeros_up : zeros (F := Ideal) = up fun _ _ => (0 : ℝ) := by
  refine eq_up fun r l => ?_
  pointwise [zeros, k0_pay37]
  rfl

theorem q_up (f : Tab 256 128) : k0_pay51 (F := Ideal) (up f) = up f := eq_up fun r l => by pointwise [k0_pay51, up_ix2]
theorem o_up (f : Tab 256 128) : k0_pay52 (F := Ideal) (up f) = up f := eq_up fun r l => by pointwise [k0_pay52, up_ix2]
theorem c_up (f : Tab 256 128) : k0_pay53 (F := Ideal) (up f) = up f := eq_up fun r l => by pointwise [k0_pay53, up_ix2]

theorem idx : ∀ t : Fin cfg0.N, win0_0.index t = ![t.val % 32, 16 + t.val / 32] ∧ win0_1.index t = ![0, 20 + t.val / 32] ∧ win0_2.index t = ![0, 24 + t.val / 32]
    ∧ win0_3.index t = ![t.val % 32, t.val / 32] ∧ win0_4.index t = ![t.val % 32, 4 + t.val / 32] ∧ win0_5.index t = ![t.val % 32, t.val / 32]
    ∧ win0_6.index t = ![0, t.val / 32] ∧ win0_7.index t = ![0, t.val / 32] :=
  (by decide +kernel : ∀ t : Fin grid0.N, _)

theorem coord : ∀ t : Fin cfg0.N, (grid0.coords t 1).val = t.val % 32 := (by decide +kernel : ∀ t : Fin grid0.N, _)

def head (t : Fin cfg0.N) : Fin 4 := ⟨t.val / 32, by have := t.isLt; have : cfg0.N = 128 := N_0; omega⟩
def part (t : Fin cfg0.N) : Fin 32 := ⟨t.val % 32, by omega⟩

abbrev lanesAt (Q K : Tab 8192 128) (b : Fin 32) : Tab 256 128 := fun r l => lanes Q K (row b r) l

section
variable (m : (ℓ : Loc nD τ sig) → Buf (Elt Ideal) ℓ) (c : Dev nD) {Q K V D : Fin 4 → Tab 8192 128}
  (H : Holds (m ((c : Thread nD τ).loc main_arg0)) (m ((c : Thread nD τ).loc main_arg1)) Q K V D)
include H

theorem in0 (t : Fin cfg0.N) : iblk m c 0 t = up (blk (Q (head t)) (part t)) := by
  refine eq_up fun r d => ?_
  refine Eq.trans ?_ (H.q (head t) (row (part t) r) d)
  refine Eq.trans ?_ (packed_at _ _ ⟨2048 + ((head t).val * 128 + d.val), by omega⟩ (by dsimp only; omega))
  rw [← V_packed]
  blk_ext [iblk, idx t]
  · rw [row_val]; rfl
  · simp only [head]; omega

theorem in1 (t : Fin cfg0.N) : iblk m c 1 t = up (K (head t)) := by
  refine eq_up fun r d => ?_
  refine Eq.trans ?_ (H.k (head t) r d)
  refine Eq.trans ?_ (packed_at _ _ ⟨2560 + ((head t).val * 128 + d.val), by omega⟩ (by dsimp only; omega))
  rw [← V_packed]
  blk_ext [iblk, idx t]
  simp only [head]; omega

theorem in2 (t : Fin cfg0.N) : iblk m c 2 t = up (V (head t)) := by
  refine eq_up fun r d => ?_
  refine Eq.trans ?_ (H.v (head t) r d)
  refine Eq.trans ?_ (packed_at _ _ ⟨3072 + ((head t).val * 128 + d.val), by omega⟩ (by dsimp only; omega))
  rw [← V_packed]
  blk_ext [iblk, idx t]
  simp only [head]; omega

theorem in3 (t : Fin cfg0.N) : iblk m c 3 t = up (lanesAt (Q (head t)) (K (head t)) (part t)) := by
  refine eq_up fun r l => ?_
  refine Eq.trans ?_ (carries_at H (head t) (row (part t) r) l)
  rw [← V_carries]
  blk_ext [iblk, idx t]
  · rw [row_val]; rfl
  · simp only [head, col]; omega

theorem in4 (t : Fin cfg0.N) : iblk m c 4 t = up (blk (D (head t)) (part t)) := by
  refine eq_up fun r d => ?_
  refine Eq.trans ?_ (H.o (head t) (row (part t) r) d)
  rw [← V_arg1 m c]
  blk_ext [iblk, idx t]
  · rw [row_val]; rfl
  · simp only [head, col]; omega

/-- One block of one head, from what the blocks before it left. -/
theorem at_block (t : Fin cfg0.N) (A B : Tab 8192 128) :
    point (F := Ideal) (grid0.coords t) (iblk m c 0 t) (iblk m c 3 t) (iblk m c 4 t) (up (K (head t))) (up (V (head t))) (up A) (up B)
      = (up (blk (dq (Q (head t)) (K (head t)) (V (head t)) (D (head t))) (part t)),
        up (fun s d => A s d + ∑ r, dsc (Q (head t)) (K (head t)) (V (head t)) (D (head t)) (row (part t) r) s * Q (head t) (row (part t) r) d),
        up (fun s d => B s d + ∑ r, wgt (Q (head t)) (K (head t)) (row (part t) r) s * D (head t) (row (part t) r) d)) := by
  rw [in0 m c H, in3 m c H, in4 m c H]
  unfold point
  rw [q_up, o_up, c_up]
  refine point_held _ _ _ _ _ _ (coord t) _ (fun r j l hl hj => ?_) _ _ (word_zero _ _) _ _
  have hr := row_val (part t) r
  refine (if_pos ?_).trans (by rw [hl])
  have : l.val * 256 ≤ (part t).val * 256 := Nat.mul_le_mul_right _ (by omega)
  omega
end

/-- The sum of the first `n + 1` of 32 numbers. -/
def acc (f : Fin 32 → ℝ) (n : ℕ) : ℝ := ∑ j, if j.val ≤ n then f j else 0

theorem acc_zero (f : Fin 32 → ℝ) (b : Fin 32) (h : b.val = 0) : 0 + f b = acc f b.val := by
  unfold acc
  rw [Finset.sum_eq_single b, if_pos le_rfl, zero_add]
  · exact fun j _ hj => if_neg fun hle => hj (Fin.ext (by omega))
  · exact fun hb => absurd (Finset.mem_univ _) hb

theorem acc_succ (f : Fin 32 → ℝ) (n : ℕ) (b : Fin 32) (h : b.val = n + 1) : acc f n + f b = acc f b.val := by
  unfold acc
  rw [← Finset.sum_ite_eq' Finset.univ b f |>.trans (if_pos (Finset.mem_univ _)), ← Finset.sum_add_distrib]
  refine Finset.sum_congr rfl fun j _ => ?_
  by_cases hj : j = b
  · subst hj; rw [if_neg (by omega), if_pos rfl, if_pos le_rfl, zero_add]
  · have : j.val ≠ b.val := fun e => hj (Fin.ext e)
    rw [if_neg hj, add_zero]
    exact if_congr (by omega) rfl rfl

theorem acc_all (f : Fin 32 → ℝ) : acc f 31 = ∑ j, f j := Finset.sum_congr rfl fun j _ => if_pos (by omega)

section
variable (Q K V D : Tab 8192 128)

/-- What the blocks up to `n` add to the gradient of the keys, and of the values. -/
def dkAt (n : ℕ) : Tab 8192 128 := fun s d => acc (fun j => ∑ r, dsc Q K V D (row j r) s * Q (row j r) d) n
def dvAt (n : ℕ) : Tab 8192 128 := fun s d => acc (fun j => ∑ r, wgt Q K (row j r) s * D (row j r) d) n

theorem rows (f : Fin 8192 → ℝ) : ∑ j : Fin 32, ∑ r : Fin 256, f (row j r) = ∑ t, f t :=
  sum_tiles (fun j r => f (row j r)) f (by decide) fun j r _ => congrArg f (Fin.ext (by rw [row_val, Nat.mul_comm]))

theorem dkAt_all : dkAt Q K V D 31 = dk Q K V D :=
  funext fun s => funext fun d => (acc_all _).trans (rows fun t => dsc Q K V D t s * Q t d)
theorem dvAt_all : dvAt Q K D 31 = dv Q K D :=
  funext fun s => funext fun d => (acc_all _).trans (rows fun t => wgt Q K t s * D t d)
end

section
variable (m : (ℓ : Loc nD τ sig) → Buf (Elt Ideal) ℓ) (c : Dev nD) {Q K V D : Fin 4 → Tab 8192 128}
  (H : Holds (m ((c : Thread nD τ).loc main_arg0)) (m ((c : Thread nD τ).loc main_arg1)) Q K V D)
include H

theorem outs_first (t : Fin cfg0.N) (h0 : t.val % 32 = 0) : outsAt m c t.val t.isLt
    = ((up (blk (dq (Q (head t)) (K (head t)) (V (head t)) (D (head t))) (part t)),
        up (dkAt (Q (head t)) (K (head t)) (V (head t)) (D (head t)) (part t).val), up (dvAt (Q (head t)) (K (head t)) (D (head t)) (part t).val)),
      up (K (head t)), up (V (head t))) := by
  rw [outsAt_first m c t h0]
  unfold first
  rw [in1 m c H, in2 m c H, narrow_up, narrow_up, zeros_up, at_block m c H]
  have ek : (fun s d => 0 + ∑ r, dsc (Q (head t)) (K (head t)) (V (head t)) (D (head t)) (row (part t) r) s * Q (head t) (row (part t) r) d)
      = dkAt (Q (head t)) (K (head t)) (V (head t)) (D (head t)) (part t).val :=
    funext fun s => funext fun d => acc_zero (fun j => ∑ r, dsc (Q (head t)) (K (head t)) (V (head t)) (D (head t)) (row j r) s * Q (head t) (row j r) d) (part t) h0
  have ev : (fun s d => 0 + ∑ r, wgt (Q (head t)) (K (head t)) (row (part t) r) s * D (head t) (row (part t) r) d)
      = dvAt (Q (head t)) (K (head t)) (D (head t)) (part t).val :=
    funext fun s => funext fun d => acc_zero (fun j => ∑ r, wgt (Q (head t)) (K (head t)) (row j r) s * D (head t) (row j r) d) (part t) h0
  rw [ek, ev]

/-- After each point the block of the queries' gradient and what the head's blocks so far add to the other two. -/
theorem outs (n : ℕ) : ∀ t : Fin cfg0.N, t.val = n → outsAt m c t.val t.isLt
    = ((up (blk (dq (Q (head t)) (K (head t)) (V (head t)) (D (head t))) (part t)),
        up (dkAt (Q (head t)) (K (head t)) (V (head t)) (D (head t)) (part t).val), up (dvAt (Q (head t)) (K (head t)) (D (head t)) (part t).val)),
      up (K (head t)), up (V (head t))) := by
  induction n with
  | zero => exact fun t ht => outs_first m c H t (by omega)
  | succ n ih =>
    intro t ht
    by_cases h0 : t.val % 32 = 0
    · exact outs_first m c H t h0
    · have hlt : n < cfg0.N := by have := t.isLt; omega
      have hh : head ⟨n, hlt⟩ = head t := Fin.ext (by simp only [head]; omega)
      have hb : (part t).val = (part ⟨n, hlt⟩).val + 1 := by simp only [part]; omega
      have e := ih ⟨n, hlt⟩ rfl
      rw [hh] at e
      rw [outsAt_next m c t h0]
      have ep : ∀ (k : ℕ) (hk : k < cfg0.N), k = n → outsAt m c k hk = outsAt m c n hlt := by rintro k hk rfl; rfl
      rw [ep _ _ (by omega), e]
      unfold next
      dsimp only
      rw [at_block m c H]
      have ek : (fun s d => dkAt (Q (head t)) (K (head t)) (V (head t)) (D (head t)) (part ⟨n, hlt⟩).val s d
            + ∑ r, dsc (Q (head t)) (K (head t)) (V (head t)) (D (head t)) (row (part t) r) s * Q (head t) (row (part t) r) d)
          = dkAt (Q (head t)) (K (head t)) (V (head t)) (D (head t)) (part t).val := funext fun s => funext fun d => acc_succ _ _ (part t) hb
      have ev : (fun s d => dvAt (Q (head t)) (K (head t)) (D (head t)) (part ⟨n, hlt⟩).val s d
            + ∑ r, wgt (Q (head t)) (K (head t)) (row (part t) r) s * D (head t) (row (part t) r) d)
          = dvAt (Q (head t)) (K (head t)) (D (head t)) (part t).val := funext fun s => funext fun d => acc_succ _ _ (part t) hb
      rw [ek, ev]

theorem final5 : (dats m 0 c).arrAt 5 cfg0.N
    = Cert.SbReferenceIdeal.Read.val_main_v56 (F := Ideal) (m ((c : Thread nD τ).loc main_arg0)) (m ((c : Thread nD τ).loc main_arg1)) := by
  refine (dats m 0 c).arrAt_eq_of_covers 5 _ (by decide +kernel) fun t _ y => ?_
  blk_simp
  rw [after5, outs m c H _ t rfl]
  obtain ⟨r, d, rfl⟩ : ∃ (r : Fin 256) (d : Fin 128), y = ix2 r d := ⟨y 0, y 1, Shape.idx_ext₂ rfl rfl⟩
  have e : (win0_5.blk t).view.emb (ix2 r d) = ix2 (row (part t) r) (col 512 0 (by decide) (head t) d) := by
    blk_ext [idx t]
    · rw [row_val]; rfl
    · simp only [head, col]; omega
  rw [e, ref_dq H]
  exact up_ix2 _ _ _

theorem final6 : (dats m 0 c).arrAt 6 cfg0.N
    = Cert.SbReferenceIdeal.Read.val_main_v53 (F := Ideal) (m ((c : Thread nD τ).loc main_arg0)) (m ((c : Thread nD τ).loc main_arg1)) := by
  refine (dats m 0 c).arrAt_eq_of_covers 6 _ (by decide +kernel) fun t hf y => ?_
  have hp : (part t).val = 31 := (flush0_6 t).mp hf
  blk_simp
  rw [after6, outs m c H _ t rfl]
  obtain ⟨r, d, rfl⟩ : ∃ (r : Fin 8192) (d : Fin 128), y = ix2 r d := ⟨y 0, y 1, Shape.idx_ext₂ rfl rfl⟩
  have e : (win0_6.blk t).view.emb (ix2 r d) = ix2 r (col 512 0 (by decide) (head t) d) := by
    blk_ext [idx t]
    simp only [head, col]; omega
  rw [e, ref_dk H]
  dsimp only
  rw [hp, dkAt_all]
  exact up_ix2 _ _ _

theorem final7 : (dats m 0 c).arrAt 7 cfg0.N
    = Cert.SbReferenceIdeal.Read.val_main_v51 (F := Ideal) (m ((c : Thread nD τ).loc main_arg0)) (m ((c : Thread nD τ).loc main_arg1)) := by
  refine (dats m 0 c).arrAt_eq_of_covers 7 _ (by decide +kernel) fun t hf y => ?_
  have hp : (part t).val = 31 := (flush0_7 t).mp hf
  blk_simp
  rw [after7, outs m c H _ t rfl]
  obtain ⟨r, d, rfl⟩ : ∃ (r : Fin 8192) (d : Fin 128), y = ix2 r d := ⟨y 0, y 1, Shape.idx_ext₂ rfl rfl⟩
  have e : (win0_7.blk t).view.emb (ix2 r d) = ix2 r (col 512 0 (by decide) (head t) d) := by
    blk_ext [idx t]
    simp only [head, col]; omega
  rw [e, ref_dv H]
  dsimp only
  rw [hp, dvAt_all]
  exact up_ix2 _ _ _
end

/-- Under the precondition every argument column in use holds finite numbers. -/
theorem holds [Cert.Pre_sb_finite.Facts] (x0 : FVec Ideal S8192x5128 .f32) (x1 : FVec Ideal S8192x1536 .f32)
    (h : Cert.Pre_sb_finite.fn (F := Ideal) x0 x1 = fun _ => 1#1) : ∃ Q K V D, Holds x0 x1 Q K V D := by
  have h0 : ∀ (t : Fin 8192) (l : Fin 5128), 2048 ≤ l.val → l.val < 3584 → (x0 (ix2 t l) : EReal) ≠ ⊤ ∧ (x0 (ix2 t l) : EReal) ≠ ⊥ := by
    intro t l h1 h2
    have e := congrFun h (ix2 t ⟨l.val - 2048, by omega⟩)
    revert e
    pointwise [Cert.Pre_sb_finite.fn]
    intro e
    have hl : l.val - 2048 < 1536 := by omega
    rw [dif_pos hl] at e
    have := finite _ e
    rwa [show (⟨2048 + (l.val - 2048), by omega⟩ : Fin 5128) = l from Fin.ext (by dsimp only; omega)] at this
  have h1 : ∀ (t : Fin 8192) (l : Fin 1536), 512 ≤ l.val → l.val < 1024 → (x1 (ix2 t l) : EReal) ≠ ⊤ ∧ (x1 (ix2 t l) : EReal) ≠ ⊥ := by
    intro t l h1 h2
    have e := congrFun h (ix2 t ⟨1536 + (l.val - 512), by omega⟩)
    revert e
    pointwise [Cert.Pre_sb_finite.fn]
    intro e
    have := finite _ e
    rwa [show (⟨512 + (l.val - 512), by omega⟩ : Fin 1536) = l from Fin.ext (by dsimp only; omega)] at this
  refine ⟨fun h t d => (x0 (ix2 t (col 5128 2048 (by decide) h d)) : EReal).toReal, fun h t d => (x0 (ix2 t (col 5128 2560 (by decide) h d)) : EReal).toReal,
    fun h t d => (x0 (ix2 t (col 5128 3072 (by decide) h d)) : EReal).toReal, fun h t d => (x1 (ix2 t (col 1536 512 (by decide) h d)) : EReal).toReal, ?_, ?_, ?_, ?_⟩
  · intro h t d; have := h0 t (col 5128 2048 (by decide) h d) (by simp only [col]; omega) (by simp only [col]; omega); exact (EReal.coe_toReal this.1 this.2).symm
  · intro h t d; have := h0 t (col 5128 2560 (by decide) h d) (by simp only [col]; omega) (by simp only [col]; omega); exact (EReal.coe_toReal this.1 this.2).symm
  · intro h t d; have := h0 t (col 5128 3072 (by decide) h d) (by simp only [col]; omega) (by simp only [col]; omega); exact (EReal.coe_toReal this.1 this.2).symm
  · intro h t d; have := h1 t (col 1536 512 (by decide) h d) (by simp only [col]; omega) (by simp only [col]; omega); exact (EReal.coe_toReal this.1 this.2).symm

section
variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
    r.2.mem ((c.tc : Thread nD τ).loc main_v42_0) = (dats m 0 c).arrAt 5 cfg0.N
    ∧ r.2.mem ((c.tc : Thread nD τ).loc main_v42_1) = (dats m 0 c).arrAt 6 cfg0.N
    ∧ r.2.mem ((c.tc : Thread nD τ).loc main_v42_2) = (dats m 0 c).arrAt 7 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h.1.1 c).1 5, (h.1.1 c).1 6, (h.1.1 c).1 7, h.2.1 c⟩) (θ_run_and (run_main m ρ) (unchanged m ρ))
end

/-- The kernel's three gradients are the reference's. -/
theorem algebraic [Cert.Pre_sb_finite.Facts] : Cert.algebraic_SbKernelIdeal_SbReferenceIdeal_pre_sb_finite := by
  intro m g m' g' hpre hagree
  refine ⟨fun c => Cert.SbReferenceIdeal.Read.val_main_v56 (F := Ideal) (m ((c.tc : Thread nD τ).loc main_arg0)) (m ((c.tc : Thread nD τ).loc main_arg1)),
    fun c => Cert.SbReferenceIdeal.Read.val_main_v53 (F := Ideal) (m ((c.tc : Thread nD τ).loc main_arg0)) (m ((c.tc : Thread nD τ).loc main_arg1)),
    fun c => Cert.SbReferenceIdeal.Read.val_main_v51 (F := Ideal) (m ((c.tc : Thread nD τ).loc main_arg0)) (m ((c.tc : Thread nD τ).loc main_arg1)), ?_, ?_⟩
  · refine (θ_run defs _ _).mono (fun r h c => ?_) (run m g)
    obtain ⟨Q, K, V, D, H⟩ := holds _ _ (hpre c)
    exact ⟨(h c).1.trans (final5 m c H), (h c).2.1.trans (final6 m c H), (h c).2.2.1.trans (final7 m c H), (h c).2.2.2⟩
  · refine (θ_run Cert.SbReferenceIdeal.defs _ _).mono (fun r h c => ?_) (Cert.SbReferenceIdeal.Value.run m' g')
    have agree {β : Type} (f : FVec Ideal S8192x5128 .f32 → FVec Ideal S8192x1536 .f32 → β) :
        f (m' ((c.tc : Thread Cert.SbReferenceIdeal.nD Cert.SbReferenceIdeal.τ).loc Cert.SbReferenceIdeal.main_arg0)) (m' ((c.tc : Thread Cert.SbReferenceIdeal.nD Cert.SbReferenceIdeal.τ).loc Cert.SbReferenceIdeal.main_arg1))
          = f (m ((c.tc : Thread nD τ).loc main_arg0)) (m ((c.tc : Thread nD τ).loc main_arg1)) := congr (congrArg f (hagree c).1) (hagree c).2
    exact ⟨(h c).1.trans ((Cert.SbReferenceIdeal.Read.val_main_v56_eq m' c).trans (agree _)),
      (h c).2.1.trans ((Cert.SbReferenceIdeal.Read.val_main_v53_eq m' c).trans (agree _)),
      (h c).2.2.1.trans ((Cert.SbReferenceIdeal.Read.val_main_v51_eq m' c).trans (agree _)), (h c).2.2.2⟩

end Cert.Sb

end
-- ==== Proof.SbfStep.lean ====
module

public import proofs.«01_k».proof.Proof.Common
public import proofs.«01_k».proof.Proof.Gen.SbfKernelIdeal.Launch
public import proofs.«01_k».proof.Proof.Gen.SbfKernelIdeal.Points
public import proofs.«01_k».proof.Proof.Gen.SbfKernelIdeal.Skeleton
public import Idealize.ShloMosaic.Lib.Tactic
public import Idealize.ShloMosaic.Lib.VecWindow

@[expose] public section

set_option maxRecDepth 16384

noncomputable section

/- One grid point of the forward attention as a function of vectors: the diagonal key block, then the earlier key blocks from
   the nearest to the first, as long as the test on the carries passes. The loop's label is met by what these functions say. -/
namespace Cert.SbfKernelIdeal.Sb

open Cert.SbfKernelIdeal Cert.SbfKernelIdeal.Gen Cert.Common
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The counter -/

theorem counter_test : ∀ T < 32, ∀ j < T, Scalar.cmpi .slt (BitVec.ofNat 32 j) (BitVec.ofNat 32 T) = 1#1 := by decide +kernel
theorem counter_stop : ∀ T < 32, ¬Scalar.cmpi .slt (BitVec.ofNat 32 T) (BitVec.ofNat 32 T) = 1#1 := by decide +kernel
theorem counter_next : ∀ j < 32, Scalar.addi (BitVec.ofNat 32 j) 1#32 = BitVec.ofNat 32 (j + 1) := by decide +kernel
theorem counter_row : ∀ T < 32, ∀ j < T, (Scalar.muli (Scalar.subi (Scalar.subi (BitVec.ofNat 32 T) 1#32) (BitVec.ofNat 32 j)) 256#32).toNat = (T - 1 - j) * 256 := by decide +kernel

theorem i_lt (i : grid0.Coords) : (i 1).val < 32 := (i 1).isLt

theorem off2 (i : grid0.Coords) (j : ℕ) (hj : j < (i 1).val) : k0_off2 i (BitVec.ofNat 32 j) = ![((i 1).val - 1 - j) * 256, 0] :=
  congrArg (fun n : ℕ => (![n, 0] : Fin 2 → ℕ)) (counter_row _ (i_lt i) j hj)

theorem chk (i : grid0.Coords) (j : ℕ) (hj : j < (i 1).val) : k0_chk1 i (BitVec.ofNat 32 j) := by
  have hi := i_lt i
  refine ⟨?_, fun a => ?_⟩
  · rw [show (k0_mult2 i (BitVec.ofNat 32 j)).toNat = _ from counter_row _ hi j hj]; exact Dvd.intro_left _ rfl
  · rw [off2 i j hj]
    match a with
    | ⟨0, _⟩ => show ((i 1).val - 1 - j) * 256 + 256 ≤ 8192; omega
    | ⟨1, _⟩ => show 0 + 128 ≤ 128; omega

/-! ## The functions -/

/-- What the loop carries: the carries, the output and the stored carries. -/
abbrev St (F : FTy → Type) := FVec F S256x1 .f32 × FVec F S256x128 .f32 × FVec F S256x128 .f32

section
variable (i : grid0.Coords) (q : FVec F S256x128 .bf16) (aft : FVec F S256x256 .bf16) (lane : IVec S256x128 32) (Kb Vb : Vec F S8192x128 .bf16)

/-- One trip: the key block `j + 1` before the diagonal one. -/
def trip (j : ℕ) (hj : j < (i 1).val) (s : St F) : St F :=
  let kb : Vec F S256x128 .bf16 := window Kb (k0_off2 i (BitVec.ofNat 32 j)) S256x128.size (k0_off2_inb i _ (chk i j hj))
  let vb : Vec F S256x128 .bf16 := window Vb (k0_off2 i (BitVec.ofNat 32 j)) S256x128.size (k0_off2_inb i _ (chk i j hj))
  (k0_pay54 q s.1 kb, k0_pay55 q aft s.1 s.2.1 kb vb, k0_pay5 s.1 s.2.2 (k0_pay56 lane (BitVec.ofNat 32 j) (BitVec.ofNat 32 (i 1).val)))

/-- The test on the carries. -/
abbrev alive (s : St F) : Prop := Scalar.cmpf .ogt (k0_pay4 s.1) (Named.named κ "no_skip" 0xC2F00000#32 : F .f32) = 1#1

/-- At most `n` trips from `j` on. -/
def go : ℕ → ℕ → St F → St F
  | 0, _, s => s
  | n + 1, j, s => if h : j < (i 1).val ∧ alive s then go n (j + 1) (trip i q aft lane Kb Vb j h.1 s) else s

theorem go_succ (n j : ℕ) (s : St F) (hj : j < (i 1).val) (ha : alive s) :
    go i q aft lane Kb Vb (n + 1) j s = go i q aft lane Kb Vb n (j + 1) (trip i q aft lane Kb Vb j hj s) := by
  rw [go, dif_pos ⟨hj, ha⟩]

theorem go_stop (n j : ℕ) (s : St F) (ha : ¬alive s) : go i q aft lane Kb Vb n j s = s := by
  cases n with
  | zero => rfl
  | succ n => rw [go, dif_neg fun h => ha h.2]
end

/-- The diagonal block. -/
def diag (i : grid0.Coords) (x0 : Vec F S256x128 .f32) (Kb Vb : Vec F S8192x128 .bf16) : St F :=
  let kb : Vec F S256x128 .bf16 := window Kb (k0_off1 i) S256x128.size (k0_off1_inb i)
  let vb : Vec F S256x128 .bf16 := window Vb (k0_off1 i) S256x128.size (k0_off1_inb i)
  (k0_pay1 k0_pay44 (k0_pay50 x0 kb), k0_pay2 k0_pay42 k0_pay43 k0_pay44 k0_pay45 (k0_pay49 x0 kb) (k0_pay50 x0 kb) vb,
    k0_pay3 (BitVec.ofNat 32 (i 1).val) (iota .tc S256x128 32 [1] iota_S256x128_d1_w32) k0_pay44 k0_pay46)

/-- One grid point: the output's block and the stored carries. -/
def point (i : grid0.Coords) (x0 : Vec F S256x128 .f32) (Kb Vb : Vec F S8192x128 .bf16) : St F :=
  go i (k0_pay41 x0) k0_pay43 (iota .tc S256x128 32 [1] iota_S256x128_d1_w32) Kb Vb (i 1).val 0 (diag i x0 Kb Vb)

/-! ## The loop's label -/

/-- The label's variants: the trips still to run. -/
abbrev 𝒱₀ : Variants := Variants.nat

section
variable (c : Dev nD) (i : grid0.Coords) (arg7 : Memref sig .tc .vmem S8192x128 .bf16) (harg7 : arg7.IsWhole) (arg8 : Memref sig .tc .vmem S8192x128 .bf16) (harg8 : arg8.IsWhole)
  (q : FVec F S256x128 .bf16) (aft : FVec F S256x256 .bf16) (lane : IVec S256x128 32)
  (X7 : BufTy.Contents (Elt F) arg7.view.ty) (X8 : BufTy.Contents (Elt F) arg8.view.ty)

/-- The two scratch buffers the label reads. -/
def held : sProp 𝕄 :=
  iprop((arg7.view.loc (c : Thread nD τ) ↦[arg7.view.set]{fullShare} X7) ∗ (arg8.view.loc (c : Thread nD τ) ↦[arg8.view.set]{fullShare} X8))

def spec (n j : ℕ) (s : St F) : sWPT 𝕄 (BitVec 32 × FVec F S256x1 .f32 × FVec F S256x128 .f32 × FVec F S256x128 .f32) := do
  sWPT.consume (held c arg7 arg8 X7 X8)
  let r ← sWPT.arbitrary
  sWPT.assume (r.2 = go i q aft lane (arg7.view.read (Elt F) X7) (arg8.view.read (Elt F) X8) n j s)
  sWPT.produce (held c arg7 arg8 X7 X8)
  pure r

theorem spec_apply (n j : ℕ) (s : St F) (K : BitVec 32 × FVec F S256x1 .f32 × FVec F S256x128 .f32 × FVec F S256x128 .f32 → sProp 𝕄) :
    spec c i arg7 arg8 q aft lane X7 X8 n j s K
      = iprop(held c arg7 arg8 X7 X8 ∗ ∀ r : BitVec 32 × FVec F S256x1 .f32 × FVec F S256x128 .f32 × FVec F S256x128 .f32,
          ⌜r.2 = go i q aft lane (arg7.view.read (Elt F) X7) (arg8.view.read (Elt F) X8) n j s⌝ -∗ (held c arg7 arg8 X7 X8 -∗ K r)) := rfl

theorem and_one (b : BitVec 1) : Scalar.andi 1#1 b = b := by revert b; decide
theorem and_not (a b : BitVec 1) (h : ¬a = 1#1) : ¬Scalar.andi a b = 1#1 := by revert a b; decide

set_option maxHeartbeats 4000000 in
theorem spec_le (E : Set ℕ) : ∀ n j, j + n = (i 1).val → ∀ (s : St F) K, spec c i arg7 arg8 q aft lane X7 X8 n j s K
    ⊢ wp frame (wpE (defs₀ (F := F)) 𝒱₀ (c : Thread nD τ) (some n)) E
        (defs₀ (F := F) .tc 1 ⟨i, arg7, harg7, q, aft, arg8, harg8, lane, BitVec.ofNat 32 j, s.1, s.2.1, s.2.2⟩) K := by
  have hi := i_lt i
  intro n
  induction n with
  | zero =>
    intro j hj s K
    rw [spec_apply]
    show _ ⊢ wp frame (wpE (defs₀ (F := F)) 𝒱₀ (c : Thread nD τ) (some 0)) E (cc0_while1 i arg7 harg7 q aft arg8 harg8 lane (BitVec.ofNat 32 j) s.1 s.2.1 s.2.2) K
    simp only [cc0_while1_eq_skeleton]; unfold cc0_while1_skel
    obtain rfl : j = (i 1).val := by omega
    have htest := fun b => and_not _ b (counter_stop (i 1).val hi)
    simp only [htest, ↓reduceIte, Prog.pure_eq_ret]
    iintro ⟨H, Hk⟩
    rw [wp_ret]; imodintro
    iapply Hk
    · ipureintro; rfl
    · iexact H
  | succ n ih =>
    intro j hj s K
    have hjT : j < (i 1).val := by omega
    rw [spec_apply]
    show _ ⊢ wp frame (wpE (defs₀ (F := F)) 𝒱₀ (c : Thread nD τ) (some (n + 1))) E (cc0_while1 i arg7 harg7 q aft arg8 harg8 lane (BitVec.ofNat 32 j) s.1 s.2.1 s.2.2) K
    simp only [cc0_while1_eq_skeleton]; unfold cc0_while1_skel
    simp only [counter_test (i 1).val hi j hjT, and_one]
    by_cases ha : alive s
    · rw [if_pos ha]
      simp only [k0_part7_eq_skeleton]; unfold k0_part7_skel
      unfold held
      iintro ⟨⟨Hx, Hw⟩, Hk⟩
      sl_exec (disch := sl_exact (chk i j hjT))
      have next := ih (j + 1) (by omega) (trip i q aft lane (arg7.view.read (Elt F) X7) (arg8.view.read (Elt F) X8) j hjT s)
      rw [← counter_next j (by omega)] at next
      iapply (wp_call_spec 𝒱₀ (c : Thread nD τ) (some (n + 1)) E (spec c i arg7 arg8 q aft lane X7 X8 n (j + 1) (trip i q aft lane (arg7.view.read (Elt F) X7) (arg8.view.read (Elt F) X8) j hjT s)) n
        (fun u hu => by cases hu; exact Nat.lt_succ_self n)
        next)
      rw [spec_apply]; unfold held
      isplitl [Hx Hw]
      · isplitl [Hx]; · iexact Hx
        iexact Hw
      iintro %r %hr ⟨Hx, Hw⟩
      rw [wp_ret]; imodintro
      iapply Hk
      · ipureintro; rw [hr, go_succ _ _ _ _ _ _ _ _ _ hjT ha]
      · isplitl [Hx]; · iexact Hx
        iexact Hw
    · rw [if_neg ha]
      iintro ⟨H, Hk⟩
      rw [Prog.pure_eq_ret, wp_ret]; imodintro
      iapply Hk
      · ipureintro; exact (go_stop _ _ _ _ _ _ _ _ _ ha).symm
      · iexact H
end

end Cert.SbfKernelIdeal.Sb
-- ==== Proof.SbfBody.lean ====
module

public import proofs.«01_k».proof.Proof.SbfStep

@[expose] public section

set_option maxRecDepth 16384

noncomputable section

/- The kernel's body at one grid point: what it leaves in the results' blocks and in the scratch. -/
namespace Cert.SbfKernelIdeal.Sb

open Cert.SbfKernelIdeal Cert.SbfKernelIdeal.Gen Cert.Common
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which the body fills the scratch: the first query block of a head. -/
abbrev cond0 (i : grid0.Coords) : Prop := (Scalar.cmpi .ne (Scalar.extui (Scalar.cmpi .eq (BitVec.ofNat 32 (i 1).val) 0#32)) 0#32) = 1#1

/-- A column block rounded to bf16. -/
def narrow (x : Vec F S8192x128 .f32) : Vec F S8192x128 .bf16 := truncf .bf16 x bitsLt_bf16_f32

/-- A chunk of a column, rounded and stored, is the rounded column there. -/
theorem chunk (a : Memref sig .tc .vmem S8192x128 .f32) (h : a.IsWhole) (x : Vec F S8192x128 .f32) {off : Fin 2 → ℕ} (inb : ∀ b, off b + S512x128.size b ≤ S8192x128.size b)
    (y : S512x128.Idx) : k0_pay6 (a.view.readAt (Elt F) (Rect.unit (s := S8192x128) off S512x128.size inb).toLoadRect (h.unread x)) y
      = narrow x ((Rect.unit (s := S8192x128) off S512x128.size inb).emb y) := by
  unfold k0_pay6 narrow
  simp only [shapeCast_id]
  rw [View.readAt_unit _ _ inb rfl inb, h.read_unread]; rfl

set_option maxHeartbeats 4000000 in
theorem body_B (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S8192x128 .bf16) (harg7 : arg7.IsWhole) (arg8 : Memref sig .tc .vmem S8192x128 .bf16) (harg8 : arg8.IsWhole) (hc0 : ¬cond0 i)
    (x0 : Vec F S256x128 .f32) (x1 x2 : Vec F S8192x128 .f32) (xs0 xs1 : Vec F S8192x128 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare (point i x0 xs0 xs1).2.1 ∗ owns (c : Thread nD τ) arg6 fullShare (point i x0 xs0 xs1).2.2 ∗ owns (c : Thread nD τ) arg7 fullShare xs0 ∗ owns (c : Thread nD τ) arg8 fullShare xs1) -∗ K ⟨⟩))
          ⊢ wp frame (wpE (defs₀ (F := F)) 𝒱₀ c none) E (cc0_sb i arg2 harg2 arg3 harg3 arg4 harg4 arg5 harg5 arg6 harg6 arg7 harg7 arg8 harg8) K := by
    simp only [cc0_sb_eq_skeleton]; unfold cc0_sb_skel
    simp only [k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := sl_exact hc0)
    let l0 : Vec F S256x128 .f32 := arg2.view.readAt (Elt F) (Rect.unit ![0, 0] S256x128.size inb_S256x128_S256x128_0_0).toLoadRect (harg2.unread x0)
    have e0 : l0 = x0 := readAt_whole _ harg2 (congrFun hz) _ _
    iapply (wp_call_spec 𝒱₀ (c : Thread nD τ) none E (spec c i arg7 arg8 (k0_pay41 l0) k0_pay43 (iota .tc S256x128 32 [1] iota_S256x128_d1_w32) (harg7.unread xs0) (harg8.unread xs1) (i 1).val 0
        (diag i l0 (arg7.view.read (Elt F) (harg7.unread xs0)) (arg8.view.read (Elt F) (harg8.unread xs1))))
      (i 1).val (fun u hu => nomatch hu) (spec_le c i arg7 harg7 arg8 harg8 _ _ _ _ _ E (i 1).val 0 (Nat.zero_add _) _))
    rw [spec_apply]; unfold held
    isplitl [HS0 HS1]
    · isplitl [HS0]; · iexact HS0
      iexact HS1
    iintro %r %hr ⟨HS0, HS1⟩
    have er : r.2 = point i x0 xs0 xs1 := by
      rw [hr, harg7.read_unread, harg8.read_unread]; clear_value l0; subst e0; rfl
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact (funext fun x => by rw [eq_ix2 x]; exact read_whole ..).trans (congrArg (fun s : St F => s.2.1) er)
    isplitl [H4]
    · iexists _; isplitr; swap; · iexact H4
      ipureintro; exact (funext fun x => by rw [eq_ix2 x]; exact read_whole ..).trans (congrArg (fun s : St F => s.2.2) er)
    isplitl [HS0]
    · iexists _; isplitr; swap; · iexact HS0
      ipureintro; exact harg7.read_unread _
    iexists _; isplitr; swap; · iexact HS1
    ipureintro; exact harg8.read_unread _

set_option maxHeartbeats 4000000 in
theorem body_A (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S8192x128 .bf16) (harg7 : arg7.IsWhole) (arg8 : Memref sig .tc .vmem S8192x128 .bf16) (harg8 : arg8.IsWhole) (hc0 : cond0 i)
    (x0 : Vec F S256x128 .f32) (x1 x2 : Vec F S8192x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare (point i x0 (narrow x1) (narrow x2)).2.1 ∗ owns (c : Thread nD τ) arg6 fullShare (point i x0 (narrow x1) (narrow x2)).2.2 ∗ owns (c : Thread nD τ) arg7 fullShare (narrow x1) ∗ owns (c : Thread nD τ) arg8 fullShare (narrow x2)) -∗ K ⟨⟩))
          ⊢ wp frame (wpE (defs₀ (F := F)) 𝒱₀ c none) E (cc0_sb i arg2 harg2 arg3 harg3 arg4 harg4 arg5 harg5 arg6 harg6 arg7 harg7 arg8 harg8) K := by
    simp only [cc0_sb_eq_skeleton]; unfold cc0_sb_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := sl_exact hc0)
    have hHS0 : arg7.view.read (Elt F) (arg7.view.writes (Elt F) arg7.view.junk (body_A.sl.HS0_16 c arg3 harg3 x1)) = narrow x1 := by
      refine funext fun y => View.read_writes_apply_of_pieces _ _ (narrow x1) _ ?_ y (View.cover_of_tiled (s := S8192x128) _ S512x128.size (by sl_kernel_rfl) y)
      sl_unfold_words
      simp only [List.forall_mem_cons]
      refine ⟨?_, ?_, ?_, ?_, ?_, ?_, ?_, ?_, ?_, ?_, ?_, ?_, ?_, ?_, ?_, ?_, fun _ h => absurd h List.not_mem_nil⟩
      all_goals exact fun x => chunk arg3 harg3 x1 _ x
    have hHS1 : arg8.view.read (Elt F) (arg8.view.writes (Elt F) arg8.view.junk (body_A.sl.HS1_16 c arg4 harg4 x2)) = narrow x2 := by
      refine funext fun y => View.read_writes_apply_of_pieces _ _ (narrow x2) _ ?_ y (View.cover_of_tiled (s := S8192x128) _ S512x128.size (by sl_kernel_rfl) y)
      sl_unfold_words
      simp only [List.forall_mem_cons]
      refine ⟨?_, ?_, ?_, ?_, ?_, ?_, ?_, ?_, ?_, ?_, ?_, ?_, ?_, ?_, ?_, ?_, fun _ h => absurd h List.not_mem_nil⟩
      all_goals exact fun x => chunk arg4 harg4 x2 _ x
    let l0 : Vec F S256x128 .f32 := arg2.view.readAt (Elt F) (Rect.unit ![0, 0] S256x128.size inb_S256x128_S256x128_0_0).toLoadRect (harg2.unread x0)
    have e0 : l0 = x0 := readAt_whole _ harg2 (congrFun hz) _ _
    iapply (wp_call_spec 𝒱₀ (c : Thread nD τ) none E (spec c i arg7 arg8 (k0_pay41 l0) k0_pay43 (iota .tc S256x128 32 [1] iota_S256x128_d1_w32) (arg7.view.writes (Elt F) arg7.view.junk (body_A.sl.HS0_16 c arg3 harg3 x1)) (arg8.view.writes (Elt F) arg8.view.junk (body_A.sl.HS1_16 c arg4 harg4 x2)) (i 1).val 0
        (diag i l0 (arg7.view.read (Elt F) (arg7.view.writes (Elt F) arg7.view.junk (body_A.sl.HS0_16 c arg3 harg3 x1))) (arg8.view.read (Elt F) (arg8.view.writes (Elt F) arg8.view.junk (body_A.sl.HS1_16 c arg4 harg4 x2)))))
      (i 1).val (fun u hu => nomatch hu) (spec_le c i arg7 harg7 arg8 harg8 _ _ _ _ _ E (i 1).val 0 (Nat.zero_add _) _))
    rw [spec_apply]; unfold held
    isplitl [HS0 HS1]
    · isplitl [HS0]; · iexact HS0
      iexact HS1
    iintro %r %hr ⟨HS0, HS1⟩
    have er : r.2 = point i x0 (narrow x1) (narrow x2) := by
      rw [hr, hHS0, hHS1]; clear_value l0; subst e0; rfl
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact (funext fun x => by rw [eq_ix2 x]; exact read_whole ..).trans (congrArg (fun s : St F => s.2.1) er)
    isplitl [H4]
    · iexists _; isplitr; swap; · iexact H4
      ipureintro; exact (funext fun x => by rw [eq_ix2 x]; exact read_whole ..).trans (congrArg (fun s : St F => s.2.2) er)
    isplitl [HS0]
    · iexists _; isplitr; swap; · iexact HS0
      ipureintro; exact hHS0
    iexists _; isplitr; swap; · iexact HS1
    ipureintro; exact hHS1

end Cert.SbfKernelIdeal.Sb
-- ==== Proof.SbfFrame.lean ====
module

public import proofs.«01_k».proof.Proof.SbfBody
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

/- The run of the forward attention: the arrays as the region finds them, what the two results hold point by point, the body
   obligation, and the frame. -/
namespace Cert.SbfKernelIdeal.Sb

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host lines. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The host lines leave the argument. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Window `w`'s block at point `t`, of its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem cond0_iff : ∀ t : Fin (cfg0 (F := F)).N, cond0 (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [cond0, e1]
    word_cmp
   : ∀ t : Fin grid0.N, cond0 (grid0.coords t) ↔ t.val % 32 = 0)

abbrev mem0 (t : Fin (cfg0 (F := F)).N) : Memref sig .tc .vmem S256x128 .f32 := win0_0.stage ((cfg0 (F := F)).slots t 0)
abbrev mem1 (t : Fin (cfg0 (F := F)).N) : Memref sig .tc .vmem S8192x128 .f32 := win0_1.stage ((cfg0 (F := F)).slots t 1)
abbrev mem2 (t : Fin (cfg0 (F := F)).N) : Memref sig .tc .vmem S8192x128 .f32 := win0_2.stage ((cfg0 (F := F)).slots t 2)
abbrev mem3 (t : Fin (cfg0 (F := F)).N) : Memref sig .tc .vmem S256x128 .f32 := win0_3.stage ((cfg0 (F := F)).slots t 3)
abbrev mem4 (t : Fin (cfg0 (F := F)).N) : Memref sig .tc .vmem S256x128 .f32 := win0_4.stage ((cfg0 (F := F)).slots t 4)
abbrev kbuf : Memref sig .tc .vmem S8192x128 .bf16 := Memref.whole cc0_scratch0
abbrev vbuf : Memref sig .tc .vmem S8192x128 .bf16 := Memref.whole cc0_scratch1

theorem PhiA_eq (c : Dev nD) : (Pipeline.ΦA spec0 c : sProp 𝕄)
    = iprop(iprop((∃ d, owns (c : Thread nD τ) kbuf fullShare d) ∗ (∃ d, owns (c : Thread nD τ) vbuf fullShare d)) ∗ (∃ r, prngReg c r)) := by
  unfold Pipeline.ΦA; rw [scopedRest0_eq]; simp only [kbuf, vbuf, owns_whole]; try rfl

/-- After a point: the two results' blocks and the two scratch buffers. -/
abbrev Outs (F : FTy → Type) := (Vec F S256x128 .f32 × Vec F S256x128 .f32) × Vec F S8192x128 .bf16 × Vec F S8192x128 .bf16

/-- A head's first point: the scratch is filled. -/
def first (c : Dev nD) (t : Fin (cfg0 (F := F)).N) : Outs F :=
  ((point (grid0.coords t) (iblk m c 0 t) (narrow (iblk m c 1 t)) (narrow (iblk m c 2 t))).2, narrow (iblk m c 1 t), narrow (iblk m c 2 t))

/-- A later point, over the scratch of the point before. -/
def next (c : Dev nD) (t : Fin (cfg0 (F := F)).N) (p : Outs F) : Outs F :=
  ((point (grid0.coords t) (iblk m c 0 t) p.2.1 p.2.2).2, p.2)

def outsAt (c : Dev nD) : (n : ℕ) → n < (cfg0 (F := F)).N → Outs F
  | 0, hn => first m c ⟨0, hn⟩
  | n + 1, hn => if (n + 1) % 32 = 0 then first m c ⟨n + 1, hn⟩ else next m c ⟨n + 1, hn⟩ (outsAt c n (Nat.lt_of_succ_lt hn))

theorem outsAt_first (c : Dev nD) (t : Fin (cfg0 (F := F)).N) (h0 : t.val % 32 = 0) : outsAt m c t.val t.isLt = first m c t := by
  obtain ⟨n, hn⟩ := t
  cases n with
  | zero => rfl
  | succ n => exact if_pos h0

theorem outsAt_next (c : Dev nD) (t : Fin (cfg0 (F := F)).N) (h0 : ¬t.val % 32 = 0) :
    outsAt m c t.val t.isLt = next m c t (outsAt m c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: the scratch at what the point before left. -/
def Phi (c : Dev nD) : (n : ℕ) → n ≤ (cfg0 (F := F)).N → sProp 𝕄
  | 0, _ => Pipeline.ΦA spec0 c
  | n + 1, hn => iprop(iprop(owns (c : Thread nD τ) kbuf fullShare (outsAt m c n hn).2.1 ∗ owns (c : Thread nD τ) vbuf fullShare (outsAt m c n hn).2.2) ∗ (∃ r, prngReg c r))

theorem Phi_pos (c : Dev nD) (n : ℕ) (h : n ≤ (cfg0 (F := F)).N) (hz : n ≠ 0) :
    Phi m c n h = iprop(iprop(owns (c : Thread nD τ) kbuf fullShare (outsAt m c (n - 1) (by omega)).2.1 ∗ owns (c : Thread nD τ) vbuf fullShare (outsAt m c (n - 1) (by omega)).2.2) ∗ (∃ r, prngReg c r)) := by
  cases n with
  | zero => exact absurd rfl hz
  | succ n => rfl

theorem Phi_forget (c : Dev nD) (n : ℕ) (h : n ≤ (cfg0 (F := F)).N) : Phi m c n h ⊢ Pipeline.ΦA spec0 c := by
  by_cases hz : n = 0
  · subst hz; exact .rfl
  · rw [Phi_pos m c n h hz, PhiA_eq]
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1.1
    | ⟨4, _⟩ => (outsAt m c t.val t.isLt).1.2
  Φ t := Phi m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by dsimp only [dats]

theorem Phi_castSucc (c : Dev nD) (t : Fin (cfg0 (F := F)).N) : (dats m 0 c).Φ t.castSucc = Phi m c t.val (Nat.le_of_lt t.isLt) := by
  dsimp only [dats]; exact Pipeline.Dat.Φ_castSucc (Phi m c) t

theorem after0 (c : Dev nD) (t : Fin (cfg0 (F := F)).N) : (dats m 0 c).after 0 t = iblk m c 0 t := rfl
theorem after1 (c : Dev nD) (t : Fin (cfg0 (F := F)).N) : (dats m 0 c).after 1 t = iblk m c 1 t := rfl
theorem after2 (c : Dev nD) (t : Fin (cfg0 (F := F)).N) : (dats m 0 c).after 2 t = iblk m c 2 t := rfl
theorem after3 (c : Dev nD) (t : Fin (cfg0 (F := F)).N) : (dats m 0 c).after 3 t = (outsAt m c t.val t.isLt).1.1 := rfl
theorem after4 (c : Dev nD) (t : Fin (cfg0 (F := F)).N) : (dats m 0 c).after 4 t = (outsAt m c t.val t.isLt).1.2 := rfl

theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What the body is called with at a point, and what it returns. -/
def pre (c : Dev nD) (t : Fin (cfg0 (F := F)).N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

def post (c : Dev nD) (t : Fin (cfg0 (F := F)).N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t))

set_option maxHeartbeats 6400000 in
theorem sound (c : Dev nD) (t : Fin (cfg0 (F := F)).N) :
    pre m c t ⊢ wp frame (wpE (defs₀ (F := F)) 𝒱₀ c none) Set.univ (bodyAt0 t) (fun _ => post m c t) := by
  unfold pre post bodyAt0
  simp only [before0, before1, before2]
  rw [show (dats m 0 c).owesAt () t.succ = (dats m 0 c).owesAt () t.castSucc from rfl,
    after0, after1, after2, after3, after4]
  rw [show (dats m 0 c).Φ t.succ = iprop(iprop(owns (c : Thread nD τ) kbuf fullShare (outsAt m c t.val t.isLt).2.1 ∗ owns (c : Thread nD τ) vbuf fullShare (outsAt m c t.val t.isLt).2.2) ∗ (∃ r, prngReg c r)) from rfl,
    Phi_castSucc m c t]
  by_cases h0 : t.val % 32 = 0
  · refine (sep_mono (Phi_forget m c t.val (Nat.le_of_lt t.isLt)) .rfl).trans ?_
    rw [outsAt_first m c t h0, PhiA_eq]
    unfold first
    dsimp only
    iintro ⟨⟨⟨HS0, HS1⟩, Hg⟩, Ho, ⟨%d0, H0⟩, ⟨%d1, H1⟩, ⟨%d2, H2⟩, ⟨%d3, H3⟩, ⟨%d4, H4⟩⟩
    iapply (body_A c (grid0.coords t) _ _ _ _ _ _ _ _ _ _ _ _ _ _ ((cond0_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [Phi_pos m c _ _ hz, outsAt_next m c t h0]
    unfold next
    dsimp only
    iintro ⟨⟨⟨HS0, HS1⟩, Hg⟩, Ho, ⟨%d0, H0⟩, ⟨%d1, H1⟩, ⟨%d2, H2⟩, ⟨%d3, H3⟩, ⟨%d4, H4⟩⟩
    iapply (body_B c (grid0.coords t) _ _ _ _ _ _ _ _ _ _ _ _ _ _ (fun h => h0 ((cond0_iff t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, defs₀_row]
  exact triple_restated (sound m c t) rfl .rfl fun _ => .rfl

-- the implicit arguments of the launch theorem are found by unifying its conclusion with this one
set_option backward.isDefEq.respectTransparency.types false in
/-- The launch: every array of the pipeline ends at what the proof data computes, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (obligation m c).loose) (hq := fun _ _ _ => rfl)
    (howed := fun _ _ => rfl) (V := V m) (hmain := hmain m) (hA := A_eq m) (hin := fun _ => .rfl) (hout := fun c => Phi_forget m c (Fin.last (cfg0 (F := F)).N).val (Nat.le_of_lt_succ (Fin.last (cfg0 (F := F)).N).isLt))

theorem arr_ne (w : Fin (cfgs (F := F) 0).W) : ((cfgs (F := F) 0).spec w).arr.view.ref ≠ main_arg0 :=
  (by decide : ∀ w : Fin 5, (spec0 w).arr.view.ref ≠ main_arg0) w

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (fun w => arr_ne w))).trans (V_arg m c), h.2⟩) (run_main m ρ)

end Cert.SbfKernelIdeal.Sb
-- ==== Proof.SbfPoint.lean ====
/- One grid point of stick-breaking attention on tables of reals: the diagonal block, then the key blocks before it. -/
module

public import proofs.«01_k».proof.Proof.SbfStep
public import proofs.«01_k».proof.Proof.SbPoint
public import proofs.«01_k».proof.Proof.SbHost

@[expose] public section

set_option maxRecDepth 16384

noncomputable section

namespace Cert.Sbf

open Idealize.ShloMosaic Idealize.ShloMosaic.TcCoe Idealize.ShloMosaic.VecWindow
open Cert.Sb hiding packed
open Cert.SbfKernelIdeal Cert.SbfKernelIdeal.Gen Cert.SbfKernelIdeal.Sb

/-! ## The arithmetic of a pair of blocks -/

theorem pay41 (Q : Tab 256 128) : k0_pay41 (F := Ideal) (up Q) = up Q := eq_up fun r l => by pointwise [k0_pay41, up_ix2]

theorem pay42 (r s : Fin 256) : k0_pay42 (ix2 r s) = BitVec.ofBool (decide (s < r)) := by
  pointwise [k0_pay42]
  exact slt_word _ _ (by omega) (by omega)

theorem pay43 : k0_pay43 (F := Ideal) = up (fun r s => if s < r then 1 else 0) := by
  refine eq_up fun r s => ?_
  pointwise [k0_pay43]
  exact (congrArg (fun b => FloatOps.sitofp (F := Ideal) .f32 (BitVec.setWidth 32 b)) (slt_word s.val r.val (by omega) (by omega))).trans (sitofp_ofBool _)

theorem pay44 : k0_pay44 (F := Ideal) = up (fun _ (_ : Fin 1) => (0 : ℝ)) := by
  refine eq_up fun r s => ?_
  pointwise [k0_pay44]
  rfl

theorem pay45 : k0_pay45 (F := Ideal) = up (fun _ _ => (0 : ℝ)) := by
  refine eq_up fun r s => ?_
  pointwise [k0_pay45]
  rfl

theorem pay46 : k0_pay46 (F := Ideal) = up (fun _ _ => low) := by
  refine eq_up fun r s => ?_
  pointwise [k0_pay46, ofBits_low]

theorem pay51 (Q K : Tab 256 128) : k0_pay51 (F := Ideal) (up Q) (up K) = up (zt Q K) := by
  refine eq_up fun r s => ?_
  pointwise [k0_pay51, ofBits_c]
  simp only [up_ix2, zt, EReal.coe_mul, coe_sum]

theorem pay52 (Q K : Tab 256 128) : k0_pay52 (F := Ideal) (up Q) (up K) = up (fun r s => Real.log (1 + Real.exp (-|zt Q K r s|))) := by
  refine eq_up fun r s => ?_
  pointwise [k0_pay52, pay51]
  rw [Ideal.absf_def, up_ix2, ← coe_abs, zero_sub, ← EReal.coe_neg, exp_coe, log1p_coe _ (Real.exp_pos _)]

theorem pay53 (Q K : Tab 256 128) : k0_pay53 (F := Ideal) (up Q) (up K) = up (fun r s => ls (-zt Q K r s)) := by
  refine eq_up fun r s => ?_
  pointwise [k0_pay53, pay52, pay51]
  rw [up_ix2, up_ix2, keep_coe]

theorem pay54 (Q K : Tab 256 128) (C : Fin 256 → ℝ) :
    k0_pay54 (F := Ideal) (up Q) (up fun r (_ : Fin 1) => C r) (up K) = up (fun r (_ : Fin 1) => C r + ∑ s, ls (-zt Q K r s)) := by
  refine eq_up fun r s => ?_
  pointwise [k0_pay54, pay53]
  simp only [up_ix2, EReal.coe_add, coe_sum]

theorem pay55 (Q K V A : Tab 256 128) (C : Fin 256 → ℝ) :
    k0_pay55 (F := Ideal) (up Q) k0_pay43 (up fun r (_ : Fin 1) => C r) (up A) (up K) (up V)
      = up (fun r d => A r d + ∑ s, tw (fun r s => ls (zt Q K r s)) (fun r s => ls (-zt Q K r s)) C r s * V s d) := by
  refine eq_up fun r d => ?_
  pointwise [k0_pay55, pay53, pay52, pay51, pay43]
  simp only [up_ix2, sub_self_coe, zero_mul, Finset.sum_const_zero, add_zero]
  simp only [← EReal.coe_zero, ← coe_min, ← EReal.coe_sub, ← EReal.coe_mul, ← coe_sum, ← EReal.coe_add, exp_coe]
  simp only [tw, ls, add_assoc]

theorem pay47 (Q K : Tab 256 128) : k0_pay47 (F := Ideal) (up Q) (up K) = up (zt Q K) := by
  unfold k0_pay47
  rw [pay41]
  exact pay51 Q K

theorem pay49 (Q K : Tab 256 128) : k0_pay49 (F := Ideal) (up Q) (up K) = up (fun r s => ls (zt Q K r s)) := by
  refine eq_up fun r s => ?_
  pointwise [k0_pay49, k0_pay48, pay47]
  rw [Ideal.absf_def, up_ix2, ← coe_abs, zero_sub, ← EReal.coe_neg, exp_coe, log1p_coe _ (Real.exp_pos _), ← EReal.coe_zero, ← coe_min, ← EReal.coe_sub, ls]

theorem pay50 (Q K : Tab 256 128) : k0_pay50 (F := Ideal) (up Q) (up K) = up (fun r s => if s < r then ls (-zt Q K r s) else 0) := by
  refine eq_up fun r s => ?_
  pointwise [k0_pay50, k0_pay48, pay47, pay42]
  rw [Ideal.absf_def, up_ix2, ← coe_abs, zero_sub (|zt Q K r s| : ℝ).toEReal, ← EReal.coe_neg, exp_coe, log1p_coe _ (Real.exp_pos _), keep_coe, coe_ite, EReal.coe_zero]

theorem pay1 (C : Fin 256 → ℝ) (g : Tab 256 256) :
    k0_pay1 (F := Ideal) (up fun r (_ : Fin 1) => C r) (up g) = up (fun r (_ : Fin 1) => C r + ∑ s, g r s) := by
  refine eq_up fun r s => ?_
  pointwise [k0_pay1]
  simp only [up_ix2, EReal.coe_add, coe_sum]

theorem pay2 (V A : Tab 256 128) (lb lk : Tab 256 256) (C : Fin 256 → ℝ) :
    k0_pay2 (F := Ideal) k0_pay42 k0_pay43 (up fun r (_ : Fin 1) => C r) (up A) (up lb) (up lk) (up V)
      = up (fun r d => A r d + ∑ s, (if s < r then tw lb lk C r s else 0) * V s d) := by
  refine eq_up fun r d => ?_
  pointwise [k0_pay2, pay42, pay43]
  simp only [up_ix2, sub_self_coe, zero_mul, Finset.sum_const_zero, add_zero]
  simp only [← EReal.coe_zero, ← EReal.coe_mul, ← coe_sum, ← EReal.coe_add, exp_coe]
  simp only [← coe_ite, ← EReal.coe_mul, ← coe_sum, ← EReal.coe_add]
  simp only [tw, add_assoc]

/-- Comparing two block numbers' words compares the numbers. -/
theorem eq_word (a b : ℕ) (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

/-- The lane of a block takes its carry. -/
theorem pay3 (b : ℕ) (hb : b < 32) (C : Fin 256 → ℝ) (L : Tab 256 128) :
    k0_pay3 (F := Ideal) (BitVec.ofNat 32 b) (iota .tc S256x128 32 [1] iota_S256x128_d1_w32) (up fun r (_ : Fin 1) => C r) (up L)
      = up (fun r l => if l.val = b then C r else L r l) := by
  refine eq_up fun r l => ?_
  pointwise [k0_pay3]
  simp only [up_ix2, coe_ite]
  rw [eq_word l.val b (by omega) (by omega)]
  by_cases h : l.val = b
  · rw [decide_eq_true h, if_pos h]; rfl
  · rw [decide_eq_false h, if_neg h]; rfl

theorem lane_word (b : ℕ) (hb : b < 32) (j : ℕ) (hj : j < b) : Scalar.subi (Scalar.subi (BitVec.ofNat 32 b) 1#32) (BitVec.ofNat 32 j) = BitVec.ofNat 32 (b - 1 - j) :=
  (by decide +kernel : ∀ b < 32, ∀ j < b, Scalar.subi (Scalar.subi (BitVec.ofNat 32 b) 1#32) (BitVec.ofNat 32 j) = BitVec.ofNat 32 (b - 1 - j)) b hb j hj

theorem pay5 (b j : ℕ) (hb : b < 32) (hj : j < b) (C : Fin 256 → ℝ) (L : Tab 256 128) :
    k0_pay5 (F := Ideal) (up fun r (_ : Fin 1) => C r) (up L) (k0_pay56 (iota .tc S256x128 32 [1] iota_S256x128_d1_w32) (BitVec.ofNat 32 j) (BitVec.ofNat 32 b))
      = up (fun r l => if l.val = b - 1 - j then C r else L r l) := by
  rw [← pay3 (b - 1 - j) (by omega) C L, ← lane_word b hb j hj]
  rfl

/-- The test passes on every table of reals. -/
theorem test (C : Fin 256 → ℝ) (s : FVec Ideal S256x128 .f32 × FVec Ideal S256x128 .f32) : alive (F := Ideal) (up (fun r (_ : Fin 1) => C r), s) := by
  have e : (⊥ : EReal) < k0_pay4 (F := Ideal) (up fun r (_ : Fin 1) => C r) := by
    pointwise [k0_pay4]
    refine lt_of_lt_of_le (EReal.bot_lt_coe (C ⟨0, by omega⟩)) ?_
    exact (Finset.le_fold_max _).mpr (Or.inr ⟨(⟨0, by omega⟩, 0), Finset.mem_univ _, (up_ix2 (fun r (_ : Fin 1) => C r) _ _).ge⟩)
  unfold alive
  rw [show (Named.named κ "no_skip" 0xC2F00000#32 : Ideal .f32) = (⊥ : EReal) from IdealRules.named_const.ideal_named_scalar _ _ _ _ rfl]
  exact congrArg BitVec.ofBool (decide_eq_true e)

/-! ## Sums from a block on -/

/-- The sum over the places from block `n` on. -/
def since (n : ℕ) (f : Fin 8192 → ℝ) : ℝ := ∑ u : Fin 8192, if n * 256 ≤ u.val then f u else 0

theorem since_zero (f : Fin 8192 → ℝ) : since 0 f = ∑ u, f u := Finset.sum_congr rfl fun u _ => if_pos (by omega)

theorem since_none (n : ℕ) (f : Fin 8192 → ℝ) (h : ∀ u : Fin 8192, n * 256 ≤ u.val → f u = 0) : since n f = 0 :=
  Finset.sum_eq_zero fun u _ => by
    split
    · next h' => exact h u h'
    · rfl

theorem since_block (j : Fin 32) (f : Fin 8192 → ℝ) : since (j.val + 1) f + ∑ v, f (row j v) = since j.val f := by
  rw [← sum_block, since, since, ← Finset.sum_add_distrib]
  refine Finset.sum_congr rfl fun u _ => ?_
  by_cases h1 : (j.val + 1) * 256 ≤ u.val
  · rw [if_pos h1, if_neg (by omega), if_pos (by omega), add_zero]
  · by_cases h2 : j.val * 256 ≤ u.val
    · rw [if_neg h1, if_pos ⟨h2, by omega⟩, if_pos h2, zero_add]
    · rw [if_neg h1, if_neg (by omega), if_neg h2, add_zero]

/-! ## The loop -/

section
variable (Q K V : Tab 8192 128) (b : Fin 32)

/-- Attention's output. -/
def att (t : Fin 8192) (d : Fin 128) : ℝ := ∑ s, wgt Q K t s * V s d

/-- What the point holds once the blocks from `n` to the diagonal are in. -/
def have_ (n : ℕ) : St Ideal :=
  (up (fun r (_ : Fin 1) => since n (keep Q K (row b r))), up (fun r d => since n fun s => wgt Q K (row b r) s * V s d),
    up (fun r l => if n ≤ l.val ∧ l.val ≤ b.val then carry Q K (row b r) l.val else low))

variable (i : grid0.Coords) (hb : (i 1).val = b.val)
include hb

theorem diag_have : diag (F := Ideal) i (up (blk Q b)) (up K) (up V) = have_ Q K V b b.val := by
  have hoff : k0_off1 i = ![b.val * 256, 0] := by
    have e : (BitVec.ofNat 32 (i 1).val * 256#32).toNat = b.val * 256 := by
      have := b.isLt
      rw [hb, BitVec.toNat_mul, BitVec.toNat_ofNat, BitVec.toNat_ofNat]
      omega
    show ![(BitVec.ofNat 32 (i 1).val * 256#32).toNat, 0] = _
    rw [e]
  have past : ∀ r (u : Fin 8192), (b.val + 1) * 256 ≤ u.val → ¬u < row b r := fun r u hu hl => by
    rw [Fin.lt_def, row_val] at hl; omega
  have hk : ∀ r, since (b.val + 1) (keep Q K (row b r)) = 0 := fun r => since_none _ _ fun u hu => if_neg (past r u hu)
  have hw : ∀ r d, since (b.val + 1) (fun s => wgt Q K (row b r) s * V s d) = 0 := fun r d => since_none _ _ fun u hu => by
    rw [wgt, if_neg (past r u hu), zero_mul]
  unfold diag have_
  dsimp only
  simp only [window_up _ b _ hoff]
  have e := tw_diag Q K b (fun _ => 0) fun r => (hk r).symm
  rw [pay44, pay45, pay46, pay49, pay50, pay1, pay2, hb, pay3 b.val b.isLt]
  refine Prod.ext ?_ (Prod.ext ?_ ?_) <;> dsimp only
  · refine congrArg up (funext fun r => funext fun _ => ?_)
    rw [← since_block b, hk]
    simp only [keep, row_lt, zt_blk]
  · refine congrArg up (funext fun r => funext fun d => ?_)
    rw [← since_block b, hw]
    exact congrArg (0 + ·) (Finset.sum_congr rfl fun s _ => congrArg (· * V (row b s) d) (congrFun (congrFun e r) s))
  · refine congrArg up (funext fun r => funext fun l => ?_)
    by_cases h : l.val = b.val
    · rw [if_pos h, if_pos ⟨h.ge, h.le⟩, h]
      exact (hk r).symm
    · rw [if_neg h, if_neg (by omega)]

theorem trip_have (n : ℕ) (hn : n < (i 1).val) :
    trip (F := Ideal) i (up (blk Q b)) k0_pay43 (iota .tc S256x128 32 [1] iota_S256x128_d1_w32) (up K) (up V) n hn (have_ Q K V b (b.val - n))
      = have_ Q K V b (b.val - (n + 1)) := by
  have hlt := b.isLt
  obtain ⟨j, hj⟩ : ∃ j : Fin 32, j.val = b.val - 1 - n := ⟨⟨b.val - 1 - n, by omega⟩, rfl⟩
  have hoff : k0_off2 i (BitVec.ofNat 32 n) = ![j.val * 256, 0] := by rw [off2 i n hn, hb, hj]
  have e0 : b.val - n = j.val + 1 := by omega
  have e1 : b.val - (n + 1) = j.val := by omega
  have hjb : j.val < b.val := by omega
  rw [e0, e1]
  unfold trip have_
  dsimp only
  simp only [window_up _ j _ hoff]
  rw [pay54, pay55, hb, pay5 b.val n hlt (by omega), tw_before Q K b j hjb (fun r => since (j.val + 1) (keep Q K (row b r))) fun r => rfl]
  refine Prod.ext ?_ (Prod.ext ?_ ?_) <;> dsimp only
  · refine congrArg up (funext fun r => funext fun _ => ?_)
    rw [← since_block j]
    congr 1
    exact Finset.sum_congr rfl fun s _ => (if_pos (row_before b j hjb r s)).symm
  · refine congrArg up (funext fun r => funext fun d => ?_)
    rw [← since_block j]
  · refine congrArg up (funext fun r => funext fun l => ?_)
    by_cases h : l.val = j.val
    · rw [if_pos (by omega), if_pos ⟨h.ge, by omega⟩, h]
      rfl
    · rw [if_neg (by omega)]
      exact if_congr (by omega) rfl rfl

theorem go_have (n : ℕ) : ∀ j, j + n = (i 1).val →
    go (F := Ideal) i (up (blk Q b)) k0_pay43 (iota .tc S256x128 32 [1] iota_S256x128_d1_w32) (up K) (up V) n j (have_ Q K V b (b.val - j)) = have_ Q K V b 0 := by
  induction n with
  | zero => intro j hj; rw [show b.val - j = 0 by omega]; rfl
  | succ n ih =>
    intro j hj
    refine (go_succ i _ _ _ _ _ n j (have_ Q K V b (b.val - j)) (by omega) (test _ _)).trans ?_
    rw [trip_have Q K V b i hb j]
    exact ih (j + 1) (by omega)

theorem point_have : point (F := Ideal) i (up (blk Q b)) (up K) (up V)
    = (up (fun r (_ : Fin 1) => ∑ u, keep Q K (row b r) u), up (blk (att Q K V) b), up (fun r l => lanes Q K (row b r) l)) := by
  unfold point
  rw [pay41, diag_have Q K V b i hb]
  refine (go_have Q K V b i hb (i 1).val 0 (Nat.zero_add _)).trans ?_
  unfold have_
  refine Prod.ext ?_ (Prod.ext ?_ ?_) <;> dsimp only
  · exact congrArg up (funext fun r => funext fun _ => since_zero _)
  · exact congrArg up (funext fun r => funext fun d => since_zero _)
  · refine congrArg up (funext fun r => funext fun l => ?_)
    have := row_val b r
    exact if_congr (by omega) rfl rfl

end

end Cert.Sbf
-- ==== Proof.SbfValue.lean ====
/- What stick-breaking attention leaves in its two results: the output, and the carries its gradient starts from. -/
module

public import proofs.«01_k».proof.Proof.SbfFrame
public import proofs.«01_k».proof.Proof.SbfPoint
public import proofs.«01_k».proof.Defs
public import proofs.«01_k».proof.Proof.Gen.SbfReferenceIdeal.Run
public import proofs.«01_k».proof.Proof.Gen.SbfReferenceIdeal.Read
public import Idealize.ShloMosaic.Lib.Claim
public import Idealize.ShloMosaic.Lib.Tactic

@[expose] public section

set_option maxRecDepth 16384

noncomputable section

namespace Cert.Sbf

open Cert.Sb
open Cert.SbfKernelIdeal Cert.SbfKernelIdeal.Gen Cert.SbfKernelIdeal.Sb Cert.Common
open Idealize.ShloMosaic Idealize.ShloMosaic.TcCoe Idealize.SL.Sem Idealize.ShloMosaic.StableHlo
open Idealize.ShloMosaic.Pipeline (Dat)

/-! ## The reference -/

section
variable {x0 : FVec Ideal S8192x5128 .f32} {x1 : FVec Ideal Cert.SbReferenceIdeal.S8192x1536 .f32} {Q K V D : Fin 4 → Tab 8192 128} (H : Holds x0 x1 Q K V D)
include H

theorem ref_weights (h : Fin 4) (t s : Fin 8192) : Cert.SbfReferenceIdeal.Read.val_main_v26 (F := Ideal) x0 (ix3 h t s) = (wgt (Q h) (K h) t s : EReal) := wgt_at H h t s
theorem ref_values (h : Fin 4) (t : Fin 8192) (d : Fin 128) : Cert.SbfReferenceIdeal.Read.val_main_v8 (F := Ideal) x0 (ix3 h t d) = (V h t d : EReal) := v_at H h t d

theorem ref_out (h : Fin 4) (t : Fin 8192) (d : Fin 128) : Cert.SbfReferenceIdeal.Read.val_main_v29 (F := Ideal) x0 (ix2 t (col 512 0 (by decide) h d)) = (att (Q h) (K h) (V h) t d : EReal) := by
  rw [Cert.SbfReferenceIdeal.Read.val_main_v29_apply, Cert.SbfReferenceIdeal.Read.val_main_v28_apply]
  refine (at_ix3 (Cert.SbfReferenceIdeal.Read.val_main_v27 (F := Ideal) x0) _ h t d ?_ ?_ ?_).trans ?_
  · show (t.val * 512 + (0 + (h.val * 128 + d.val))) / 128 % 4 = h.val; omega
  · show (t.val * 512 + (0 + (h.val * 128 + d.val))) / 512 = t.val; omega
  · show (t.val * 512 + (0 + (h.val * 128 + d.val))) % 128 = d.val; omega
  · pointwise [Cert.SbfReferenceIdeal.Read.val_main_v27, ref_weights H, ref_values H]
    rw [att, coe_sum]
    simp only [EReal.coe_mul]

theorem ref_carries (h : Fin 4) (t : Fin 8192) (l : Fin 128) : Cert.SbfReferenceIdeal.Read.val_main_v63 (F := Ideal) x0 (ix2 t (col 512 0 (by decide) h l)) = (lanes (Q h) (K h) t l : EReal) := carries_at H h t l
end

/-! ## The kernel -/

theorem narrow_up (f : Tab 8192 128) : Cert.SbfKernelIdeal.Sb.narrow (F := Ideal) (up f) = up f := by
  refine eq_up fun r l => ?_
  pointwise [Cert.SbfKernelIdeal.Sb.narrow, up_ix2]

theorem idx : ∀ t : Fin (cfg0 (F := Ideal)).N, win0_0.index t = ![t.val % 32, 16 + t.val / 32] ∧ win0_1.index t = ![0, 20 + t.val / 32] ∧ win0_2.index t = ![0, 24 + t.val / 32]
    ∧ win0_3.index t = ![t.val % 32, t.val / 32] ∧ win0_4.index t = ![t.val % 32, t.val / 32] :=
  (by decide +kernel : ∀ t : Fin grid0.N, _)

theorem coord : ∀ t : Fin (cfg0 (F := Ideal)).N, (grid0.coords t 1).val = t.val % 32 := (by decide +kernel : ∀ t : Fin grid0.N, _)

def head (t : Fin (cfg0 (F := Ideal)).N) : Fin 4 := ⟨t.val / 32, by have := t.isLt; have : (cfg0 (F := Ideal)).N = 128 := N_0; omega⟩
def part (t : Fin (cfg0 (F := Ideal)).N) : Fin 32 := ⟨t.val % 32, by omega⟩

section
variable (m : (ℓ : Loc nD τ sig) → Buf (Elt Ideal) ℓ) (c : Dev nD)

set_option maxHeartbeats 4000000 in
theorem V_packed : V m c main_v7 = Cert.Sb.packed (m (c, Proc.tc.devRef main_arg0)) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  rfl

variable {x1 : FVec Ideal Cert.SbReferenceIdeal.S8192x1536 .f32} {Q K V D : Fin 4 → Tab 8192 128}
  (H : Holds (m ((c : Thread nD τ).loc main_arg0)) x1 Q K V D)
include H

theorem in0 (t : Fin (cfg0 (F := Ideal)).N) : iblk m c 0 t = up (blk (Q (head t)) (part t)) := by
  refine eq_up fun r d => ?_
  refine Eq.trans ?_ (H.q (head t) (row (part t) r) d)
  refine Eq.trans ?_ (packed_at _ _ ⟨2048 + ((head t).val * 128 + d.val), by omega⟩ (by dsimp only; omega))
  rw [← V_packed]
  blk_ext [iblk, idx t]
  · rw [row_val]; rfl
  · simp only [head]; omega

theorem in1 (t : Fin (cfg0 (F := Ideal)).N) : iblk m c 1 t = up (K (head t)) := by
  refine eq_up fun r d => ?_
  refine Eq.trans ?_ (H.k (head t) r d)
  refine Eq.trans ?_ (packed_at _ _ ⟨2560 + ((head t).val * 128 + d.val), by omega⟩ (by dsimp only; omega))
  rw [← V_packed]
  blk_ext [iblk, idx t]
  simp only [head]; omega

theorem in2 (t : Fin (cfg0 (F := Ideal)).N) : iblk m c 2 t = up (V (head t)) := by
  refine eq_up fun r d => ?_
  refine Eq.trans ?_ (H.v (head t) r d)
  refine Eq.trans ?_ (packed_at _ _ ⟨3072 + ((head t).val * 128 + d.val), by omega⟩ (by dsimp only; omega))
  rw [← V_packed]
  blk_ext [iblk, idx t]
  simp only [head]; omega

theorem outs_first (t : Fin (cfg0 (F := Ideal)).N) (h0 : t.val % 32 = 0) : outsAt m c t.val t.isLt
    = ((up (blk (att (Q (head t)) (K (head t)) (V (head t))) (part t)), up (fun r l => lanes (Q (head t)) (K (head t)) (row (part t) r) l)), up (K (head t)), up (V (head t))) := by
  rw [outsAt_first m c t h0]
  unfold first
  rw [in0 m c H, in1 m c H, in2 m c H, narrow_up, narrow_up, point_have _ _ _ _ _ (coord t)]

/-- After each point: the output's block and the carries' block, over the head's keys and values. -/
theorem outs (n : ℕ) : ∀ t : Fin (cfg0 (F := Ideal)).N, t.val = n → outsAt m c t.val t.isLt
    = ((up (blk (att (Q (head t)) (K (head t)) (V (head t))) (part t)), up (fun r l => lanes (Q (head t)) (K (head t)) (row (part t) r) l)), up (K (head t)), up (V (head t))) := by
  induction n with
  | zero => exact fun t ht => outs_first m c H t (by omega)
  | succ n ih =>
    intro t ht
    by_cases h0 : t.val % 32 = 0
    · exact outs_first m c H t h0
    · have hlt : n < (cfg0 (F := Ideal)).N := by have := t.isLt; omega
      have hh : head ⟨n, hlt⟩ = head t := Fin.ext (by simp only [head]; omega)
      have e := ih ⟨n, hlt⟩ rfl
      rw [hh] at e
      rw [outsAt_next m c t h0]
      have ep : ∀ (k : ℕ) (hk : k < (cfg0 (F := Ideal)).N), k = n → outsAt m c k hk = outsAt m c n hlt := by rintro k hk rfl; rfl
      rw [ep _ _ (by omega), e]
      unfold next
      dsimp only
      rw [in0 m c H, point_have _ _ _ _ _ (coord t)]

theorem final3 : (dats m 0 c).arrAt 3 (cfg0 (F := Ideal)).N = Cert.SbfReferenceIdeal.Read.val_main_v29 (F := Ideal) (m ((c : Thread nD τ).loc main_arg0)) := by
  refine (dats m 0 c).arrAt_eq_of_covers 3 _ (by decide +kernel) fun t _ y => ?_
  blk_simp
  rw [after3, outs m c H _ t rfl]
  obtain ⟨r, d, rfl⟩ : ∃ (r : Fin 256) (d : Fin 128), y = ix2 r d := ⟨y 0, y 1, Shape.idx_ext₂ rfl rfl⟩
  have e : (win0_3.blk t).view.emb (ix2 r d) = ix2 (row (part t) r) (col 512 0 (by decide) (head t) d) := by
    blk_ext [idx t]
    · rw [row_val]; rfl
    · simp only [head, col]; omega
  rw [e, ref_out H]
  exact up_ix2 _ _ _

theorem final4 : (dats m 0 c).arrAt 4 (cfg0 (F := Ideal)).N = Cert.SbfReferenceIdeal.Read.val_main_v63 (F := Ideal) (m ((c : Thread nD τ).loc main_arg0)) := by
  refine (dats m 0 c).arrAt_eq_of_covers 4 _ (by decide +kernel) fun t _ y => ?_
  blk_simp
  rw [after4, outs m c H _ t rfl]
  obtain ⟨r, d, rfl⟩ : ∃ (r : Fin 256) (d : Fin 128), y = ix2 r d := ⟨y 0, y 1, Shape.idx_ext₂ rfl rfl⟩
  have e : (win0_4.blk t).view.emb (ix2 r d) = ix2 (row (part t) r) (col 512 0 (by decide) (head t) d) := by
    blk_ext [idx t]
    · rw [row_val]; rfl
    · simp only [head, col]; omega
  rw [e, ref_carries H]
  rfl
end

/-- Under the precondition the columns of the queries, keys and values hold finite numbers. -/
theorem holds [Cert.Pre_sbf_finite.Facts] (x0 : FVec Ideal S8192x5128 .f32) (h : Cert.Pre_sbf_finite.fn (F := Ideal) x0 = fun _ => 1#1) :
    ∃ Q K V D, Holds x0 (fun _ => (0 : EReal)) Q K V D := by
  have h0 : ∀ (t : Fin 8192) (l : Fin 5128), 2048 ≤ l.val → l.val < 3584 → (x0 (ix2 t l) : EReal) = ((x0 (ix2 t l) : EReal).toReal : EReal) := by
    intro t l h1 h2
    have e := congrFun h (ix2 t ⟨l.val - 2048, by omega⟩)
    revert e
    pointwise [Cert.Pre_sbf_finite.fn]
    intro e
    have := real _ e
    rwa [show (⟨2048 + (l.val - 2048), by omega⟩ : Fin 5128) = l from Fin.ext (by dsimp only; omega)] at this
  exact ⟨fun h t d => (x0 (ix2 t (col 5128 2048 (by decide) h d)) : EReal).toReal, fun h t d => (x0 (ix2 t (col 5128 2560 (by decide) h d)) : EReal).toReal,
    fun h t d => (x0 (ix2 t (col 5128 3072 (by decide) h d)) : EReal).toReal, fun _ _ _ => 0,
    fun h t d => h0 t _ (by simp only [col]; omega) (by simp only [col]; omega), fun h t d => h0 t _ (by simp only [col]; omega) (by simp only [col]; omega),
    fun h t d => h0 t _ (by simp only [col]; omega) (by simp only [col]; omega), fun _ _ _ => EReal.coe_zero.symm⟩

section
variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
    r.2.mem ((c.tc : Thread nD τ).loc main_v8_0) = (dats m 0 c).arrAt 3 (cfg0 (F := Ideal)).N
    ∧ r.2.mem ((c.tc : Thread nD τ).loc main_v8_1) = (dats m 0 c).arrAt 4 (cfg0 (F := Ideal)).N
    ∧ r.2.mem ((c.tc : Thread nD τ).loc main_arg0) = m ((c.tc : Thread nD τ).loc main_arg0)) :=
  (θ_run defs _ _).mono (fun _ h c => ⟨(h.1.1 c).1 3, (h.1.1 c).1 4, h.2.1 c⟩) (θ_run_and (run_main m ρ) (unchanged m ρ))
end

/-- The kernel's output and stored carries are the reference's. -/
theorem algebraic [Cert.Pre_sbf_finite.Facts] : Cert.algebraic_SbfKernelIdeal_SbfReferenceIdeal_pre_sbf_finite := by
  intro m g m' g' hpre hagree
  refine ⟨fun c => Cert.SbfReferenceIdeal.Read.val_main_v29 (F := Ideal) (m ((c.tc : Thread nD τ).loc main_arg0)),
    fun c => Cert.SbfReferenceIdeal.Read.val_main_v63 (F := Ideal) (m ((c.tc : Thread nD τ).loc main_arg0)), ?_, ?_⟩
  · refine (θ_run defs _ _).mono (fun r h c => ?_) (run m g)
    obtain ⟨Q, K, V, D, H⟩ := holds _ (hpre c)
    exact ⟨(h c).1.trans (final3 m c H), (h c).2.1.trans (final4 m c H), (h c).2.2⟩
  · refine (θ_run Cert.SbfReferenceIdeal.defs _ _).mono (fun r h c => ?_) (Cert.SbfReferenceIdeal.Value.run m' g')
    exact ⟨(h c).1.trans ((Cert.SbfReferenceIdeal.Read.val_main_v29_eq m' c).trans (congrArg _ (hagree c))),
      (h c).2.1.trans ((Cert.SbfReferenceIdeal.Read.val_main_v63_eq m' c).trans (congrArg _ (hagree c))), (h c).2.2⟩

end Cert.Sbf
-- ==== Proof.Norm.lean ====
/- The gradient of a root mean square norm, over the reals: what a kernel writes by hand and what the derivative of the forward lines is. -/
module

public import proofs.«01_k».proof.Proof.SbReal
public import Idealize.ShloMosaic.Lib.Tactic

@[expose] public section

noncomputable section

namespace Cert.Norm

open Idealize.ShloMosaic Cert.Sb

/-! ## Literals -/

def eps : ℝ := 8796093 * (2 ^ 43)⁻¹
theorem eps_pos : 0 < eps := by unfold eps; positivity
theorem ofBits_eps : Ideal.ofBits .f32 0x358637BD#32 = (eps : EReal) := by simp [Ideal.ofBits, Ideal.ieee, eps]
theorem ofBits_1024 : Ideal.ofBits .f32 0x44800000#32 = ((1024 : ℝ) : EReal) := by simp [Ideal.ofBits, Ideal.ieee]; rw [← EReal.coe_mul]; norm_num
theorem ofBits_512 : Ideal.ofBits .f32 0x44000000#32 = ((512 : ℝ) : EReal) := by simp [Ideal.ofBits, Ideal.ieee]; rw [← EReal.coe_mul]; norm_num
theorem ofBits_1 : Ideal.ofBits .f32 0x3F800000#32 = ((1 : ℝ) : EReal) := by simp [Ideal.ofBits, Ideal.ieee]; rw [← EReal.coe_mul]; norm_num
theorem ofBits_2 : Ideal.ofBits .f32 0x40000000#32 = ((2 : ℝ) : EReal) := by simp [Ideal.ofBits, Ideal.ieee]; rw [← EReal.coe_mul]; norm_num
theorem ofBits_half : Ideal.ofBits .f32 0x3F000000#32 = ((1 / 2 : ℝ) : EReal) := by simp [Ideal.ofBits, Ideal.ieee]; rw [← EReal.coe_mul]; norm_num
theorem ofBits_neg_half : Ideal.ofBits .f32 0xBF000000#32 = ((-1 / 2 : ℝ) : EReal) := by simp [Ideal.ofBits, Ideal.ieee]; rw [← EReal.coe_mul, ← EReal.coe_neg]; norm_num
theorem ofBits_inv1024 : Ideal.ofBits .f32 0x3A800000#32 = ((1 / 1024 : ℝ) : EReal) := by simp [Ideal.ofBits, Ideal.ieee]; rw [← EReal.coe_mul]; norm_num

/-! ## Real operations -/

theorem add_coe (a b : ℝ) : (a : EReal) + b = ((a + b : ℝ) : EReal) := (EReal.coe_add a b).symm
theorem sub_coe (a b : ℝ) : (a : EReal) - b = ((a - b : ℝ) : EReal) := (EReal.coe_sub a b).symm
theorem mul_coe (a b : ℝ) : (a : EReal) * b = ((a * b : ℝ) : EReal) := (EReal.coe_mul a b).symm
theorem neg_coe (a : ℝ) : -(a : EReal) = ((-a : ℝ) : EReal) := (EReal.coe_neg a).symm
theorem sum_coe {ι : Type} (s : Finset ι) (f : ι → ℝ) : ∑ i ∈ s, (f i : EReal) = ((∑ i ∈ s, f i : ℝ) : EReal) := (coe_sum s f).symm
theorem div_coe (a b : ℝ) (h : b ≠ 0) : Ideal.div (a : EReal) (b : EReal) = ((a / b : ℝ) : EReal) := by
  rw [Ideal.div_coe h, mul_coe, mul_one_div]
theorem div_1024 (a : ℝ) : Ideal.div (a : EReal) ((1024 : ℝ) : EReal) = ((a / 1024 : ℝ) : EReal) := div_coe a 1024 (by norm_num)
theorem div_512 (a : ℝ) : Ideal.div (a : EReal) ((512 : ℝ) : EReal) = ((a / 512 : ℝ) : EReal) := div_coe a 512 (by norm_num)
theorem rsqrt_coe (a : ℝ) (h : 0 < a) : Ideal.rsqrt (a : EReal) = (((Real.sqrt a)⁻¹ : ℝ) : EReal) := by
  rw [Ideal.rsqrt_coe, if_neg (not_lt.mpr h.le), if_neg h.ne']

/-! ## The norm -/

variable {n : ℕ} (w : ℝ) (x u : Fin n → ℝ)

/-- The mean square, over the norm's small constant. -/
def ms : ℝ := (∑ k, x k * x k) / w + eps
/-- The reciprocal root. -/
def inv : ℝ := (Real.sqrt (ms w x))⁻¹
/-- The gradient of a row `x` by its normalised row's gradient `u`, as the kernels write it. -/
def grad (l : Fin n) : ℝ := inv w x * (u l - x l * inv w x * ((∑ k, u k * (x k * inv w x)) / w))
/-- The gradient of the mean square, as the derivative of the forward lines writes it. -/
def gradMs : ℝ := (∑ k, x k * u k) * (-1 / 2 * (inv w x / ms w x)) / w

variable {w x u}

theorem ms_pos (hw : 0 < w) : 0 < ms w x :=
  add_pos_of_nonneg_of_pos (div_nonneg (Finset.sum_nonneg fun k _ => mul_self_nonneg _) hw.le) eps_pos

theorem inv_sq (hw : 0 < w) : inv w x * inv w x = 1 / ms w x := by
  unfold inv
  rw [← mul_inv, Real.mul_self_sqrt (ms_pos hw).le, one_div]

theorem inv_coe (hw : 0 < w) : Ideal.rsqrt ((ms w x : ℝ) : EReal) = ((inv w x : ℝ) : EReal) := rsqrt_coe _ (ms_pos hw)

/-- The two gradients are one. -/
theorem grad_eq (hw : 0 < w) (l : Fin n) : grad w x u l = u l * inv w x + (gradMs w x u * x l + x l * gradMs w x u) := by
  unfold grad gradMs
  have e : ∑ k, u k * (x k * inv w x) = inv w x * ∑ k, x k * u k := by rw [Finset.mul_sum]; exact Finset.sum_congr rfl fun k _ => by ring
  rw [e, div_eq_mul_one_div (inv w x) (ms w x), ← inv_sq hw]
  ring

/-! ## The logistic function -/

def sg (a : ℝ) : ℝ := 1 / (1 + Real.exp (-a))

theorem logistic_coe' (a : ℝ) : Ideal.div ((1 : ℝ) : EReal) (((1 : ℝ) : EReal) + Ideal.exp (-(a : EReal))) = ((sg a : ℝ) : EReal) := by
  rw [neg_coe, exp_coe, add_coe, div_coe _ _ (by positivity)]
  rfl

theorem logistic_coe (a : ℝ) : Ideal.logistic (a : EReal) = ((sg a : ℝ) : EReal) := logistic_coe' a

/-! ## The modulated norm -/

section
variable (x p g sc : Fin 1024 → ℝ) (l : Fin 1024)

/-- The gradient of the normalised row, from the modulated one's. -/
def modU : ℝ := p l * (1 + sc l) * g l
/-- The row's terms in the statistics: the gradients of the gain, the shift and the scale. -/
def modSt (r : ℕ) : ℝ :=
  if r = 2 then p l * (x l * inv 1024 x * g l) else if r = 1 then p l else if r = 0 then p l * (1 + sc l) * (x l * inv 1024 x) else 0

theorem modSt_rest (r : ℕ) (h : 3 ≤ r) : modSt x p g sc l r = 0 := by
  unfold modSt
  rw [if_neg (by omega), if_neg (by omega), if_neg (by omega)]
end

end Cert.Norm

end
-- ==== Proof.FinalValue.lean ====
/- What the loss's gradient through the last norm leaves in its two results. -/
module

public import proofs.«01_k».proof.Proof.Gen.FinalKernelIdeal.Value
public import proofs.«01_k».proof.Proof.Common
public import proofs.«01_k».proof.Proof.Norm
public import proofs.«01_k».proof.Defs
public import proofs.«01_k».proof.Proof.Gen.FinalReferenceIdeal.Run
public import proofs.«01_k».proof.Proof.Gen.FinalReferenceIdeal.Read
public import Idealize.ShloMosaic.Lib.Tactic

@[expose] public section

set_option maxRecDepth 16384

noncomputable section

namespace Cert.Final

open Cert.Norm Idealize.ShloMosaic

/-! ## A row over the reals -/

section
variable (x t g sh sc : Fin 1024 → ℝ) (l : Fin 1024)

/-- The error, and its gradient. -/
def err : ℝ := x l * inv 1024 x * g l * (1 + sc l) + sh l - t l
def e : ℝ := err x t g sh sc l * (1 / 1024)
/-- The gradient of the normalised row. -/
def u : ℝ := e x t g sh sc l * (1 + sc l) * g l
/-- The row's terms in the statistics. -/
def st (r : ℕ) : ℝ :=
  if r = 3 then 1 / 2 * ((∑ k, err x t g sh sc k * err x t g sh sc k) / 1024)
  else if r = 2 then e x t g sh sc l * (x l * inv 1024 x * g l)
  else if r = 1 then e x t g sh sc l
  else if r = 0 then e x t g sh sc l * (1 + sc l) * (x l * inv 1024 x)
  else 0
end

end Cert.Final

namespace Cert.FinalKernelIdeal.Value

open Cert.FinalKernelIdeal Cert.FinalKernelIdeal.Gen Idealize.ShloMosaic Idealize.ShloMosaic.TcCoe Idealize.SL.Sem
open Idealize.ShloMosaic.Pipeline (Dat)
open Cert.Common Cert.Norm Cert.Final

section Tile
variable {x0 : Vec Ideal S512x1024 .f32} {x1 x2 x3 : Vec Ideal S1x1024 .f32} {x4 : Vec Ideal S512x1024 .f32}
  {X T : Fin 512 → Fin 1024 → ℝ} {G SH SC : Fin 1024 → ℝ}

/-- A tile's arguments are real. -/
structure Tile (x0 : Vec Ideal S512x1024 .f32) (x1 x2 x3 : Vec Ideal S1x1024 .f32) (x4 : Vec Ideal S512x1024 .f32)
    (X T : Fin 512 → Fin 1024 → ℝ) (G SH SC : Fin 1024 → ℝ) : Prop where
  h : ∀ i l, x0 (ix2 i l) = ((X i l : ℝ) : EReal)
  g : ∀ l, x1 (ix2 0 l) = ((G l : ℝ) : EReal)
  sh : ∀ l, x2 (ix2 0 l) = ((SH l : ℝ) : EReal)
  sc : ∀ l, x3 (ix2 0 l) = ((SC l : ℝ) : EReal)
  t : ∀ i l, x4 (ix2 i l) = ((T i l : ℝ) : EReal)

variable (H : Tile x0 x1 x2 x3 x4 X T G SH SC) (i : Fin 512) (l : Fin 1024)
include H

theorem pay3_at : k0_pay3 x0 (ix2 i 0) = ((inv 1024 (X i) : ℝ) : EReal) := by
  pointwise [k0_pay3, H.h, ofBits_1024, ofBits_eps]
  simp only [mul_coe, sum_coe, div_1024, add_coe]
  exact inv_coe (by norm_num)

theorem pay4_at : k0_pay4 x0 (ix2 i l) = ((X i l * inv 1024 (X i) : ℝ) : EReal) := by
  pointwise [k0_pay4, pay3_at H, H.h]
  simp only [mul_coe]

theorem pay6_at : k0_pay6 x0 x1 x3 x2 x4 (ix2 i l) = ((err (X i) (T i) G SH SC l : ℝ) : EReal) := by
  pointwise [k0_pay6, k0_pay5, k0_pay2, pay4_at H, H.g, H.sh, H.sc, H.t, ofBits_1]
  simp only [mul_coe, add_coe, sub_coe]
  rfl

theorem pay5_at : k0_pay5 x0 x1 (ix2 i l) = ((X i l * inv 1024 (X i) * G l : ℝ) : EReal) := by
  pointwise [k0_pay5, k0_pay2, pay4_at H, H.g]
  simp only [mul_coe]

theorem pay7_at : k0_pay7 x0 x1 x3 x2 x4 (ix2 i l) = ((e (X i) (T i) G SH SC l : ℝ) : EReal) := by
  pointwise [k0_pay7, pay6_at H, ofBits_inv1024]
  simp only [mul_coe]
  rfl

theorem pay8_at : k0_pay8 x0 x1 x3 x2 x4 x3 (ix2 i l) = ((e (X i) (T i) G SH SC l * (1 + SC l) : ℝ) : EReal) := by
  pointwise [k0_pay8, pay7_at H, H.sc, ofBits_1]
  simp only [mul_coe, add_coe]

theorem pay9_at : k0_pay9 x0 x1 x3 x2 x4 x3 (ix2 i l) = ((u (X i) (T i) G SH SC l : ℝ) : EReal) := by
  pointwise [k0_pay9, k0_pay2, pay8_at H, H.g]
  simp only [mul_coe]
  rfl

theorem pay11_at : k0_pay11 (k0_pay3 x0) (k0_pay4 x0) (k0_pay9 x0 x1 x3 x2 x4 x3) (k0_pay10 x0 x1 x3 x2 x4 x3) (ix2 i l)
    = ((grad 1024 (X i) (u (X i) (T i) G SH SC) l : ℝ) : EReal) := by
  pointwise [k0_pay11, k0_pay10, pay3_at H, pay4_at H, pay9_at H, ofBits_1024]
  simp only [mul_coe, add_coe, sub_coe, sum_coe, div_1024]
  rfl

/-- The statistics' four terms of a tile. -/
theorem row0_at (z : Vec Ideal S1x1024 .f32) : k0_pay13 (k0_pay4 x0) (k0_pay8 x0 x1 x3 x2 x4 x3) z (ix2 0 l)
    = z (ix2 0 l) + ∑ i, ((st (X i) (T i) G SH SC l 0 : ℝ) : EReal) := by
  pointwise [k0_pay13, pay4_at H, pay8_at H]
  simp only [mul_coe]
  rfl
theorem row1_at (z : Vec Ideal S1x1024 .f32) : k0_pay14 (k0_pay7 x0 x1 x3 x2 x4) z (ix2 0 l)
    = z (ix2 0 l) + ∑ i, ((st (X i) (T i) G SH SC l 1 : ℝ) : EReal) := by
  pointwise [k0_pay14, pay7_at H]
  rfl
theorem row2_at (z : Vec Ideal S1x1024 .f32) : k0_pay15 (k0_pay5 x0 x1) (k0_pay7 x0 x1 x3 x2 x4) z (ix2 0 l)
    = z (ix2 0 l) + ∑ i, ((st (X i) (T i) G SH SC l 2 : ℝ) : EReal) := by
  pointwise [k0_pay15, pay5_at H, pay7_at H]
  simp only [mul_coe]
  rfl
theorem row3_at (z : Vec Ideal S1x1024 .f32) : k0_pay1 (k0_pay16 (k0_pay6 x0 x1 x3 x2 x4)) z (ix2 0 l)
    = z (ix2 0 l) + ∑ i, ((st (X i) (T i) G SH SC l 3 : ℝ) : EReal) := by
  pointwise [k0_pay1, k0_pay16, pay6_at H, ofBits_1024, Norm.ofBits_half]
  simp only [mul_coe, sum_coe, div_1024, Finset.mul_sum]
  rfl
end Tile

theorem st_rest (x t g sh sc : Fin 1024 → ℝ) (l : Fin 1024) (r : ℕ) (h : 4 ≤ r) : st x t g sh sc l r = 0 := by
  unfold st
  rw [if_neg (by omega), if_neg (by omega), if_neg (by omega), if_neg (by omega)]

theorem zero_at (r : Fin 8) (l : Fin 1024) : k0_pay12 (F := Ideal) (ix2 r l) = 0 := by
  pointwise [k0_pay12]

/-- The rows' gradients of one tile. -/
theorem outA5 (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole) (hc0 : cond0_0 i)
    (x0 : Vec Ideal S512x1024 .f32) (x1 x2 x3 : Vec Ideal S1x1024 .f32) (x4 : Vec Ideal S512x1024 .f32) :
    out0_A_5 c i a1 h1 a2 h2 a3 h3 a4 h4 a5 h5 a6 h6 a7 h7 hc0 x0 x1 x2 x3 x4 = k0_pay11 (k0_pay3 x0) (k0_pay4 x0) (k0_pay9 x0 x1 x3 x2 x4 x3) (k0_pay10 x0 x1 x3 x2 x4 x3) := by
  frame_out

theorem outB5 (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole) (hc0 : ¬ cond0_0 i)
    (x0 : Vec Ideal S512x1024 .f32) (x1 x2 x3 : Vec Ideal S1x1024 .f32) (x4 : Vec Ideal S512x1024 .f32) (xo : Vec Ideal S8x1024 .f32) :
    out0_B_5 c i a1 h1 a2 h2 a3 h3 a4 h4 a5 h5 a6 h6 a7 h7 hc0 x0 x1 x2 x3 x4 xo = k0_pay11 (k0_pay3 x0) (k0_pay4 x0) (k0_pay9 x0 x1 x3 x2 x4 x3) (k0_pay10 x0 x1 x3 x2 x4 x3) := by
  frame_out

section
variable {X T : Fin 512 → Fin 1024 → ℝ} {G SH SC : Fin 1024 → ℝ}

/-- The first point's statistics. -/
theorem outA6 (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole) (hc0 : cond0_0 i)
    (x0 : Vec Ideal S512x1024 .f32) (x1 x2 x3 : Vec Ideal S1x1024 .f32) (x4 : Vec Ideal S512x1024 .f32) (H : Tile x0 x1 x2 x3 x4 X T G SH SC) (r : Fin 8) (l : Fin 1024) :
    out0_A_6 c i a1 h1 a2 h2 a3 h3 a4 h4 a5 h5 a6 h6 a7 h7 hc0 x0 x1 x2 x3 x4 (ix2 r l) = ∑ i, ((st (X i) (T i) G SH SC l r.val : ℝ) : EReal) := by
  unfold out0_A_6
  unfold kernelRun0_A
  dsimp only
  sl_unfold_words
  rw [read_row, read_row, read_row, read_row, read_whole, readAt_whole _ h1 (congrFun hz), readAt_whole _ h2 (congrFun hz), readAt_whole _ h3 (congrFun hz), readAt_whole _ h4 (congrFun hz), readAt_whole _ h5 (congrFun hz)]
  split
  · next h => rw [row3_at H, readCov_row (R := 8) (D := 1024) a7.view _ 3 (by decide), read_row, read_row, read_row, read_whole, if_neg (by decide), if_neg (by decide), if_neg (by decide), zero_at, zero_add, h]
  split
  · next h => rw [row2_at H, readCov_row (R := 8) (D := 1024) a7.view _ 2 (by decide), read_row, read_row, read_whole, if_neg (by decide), if_neg (by decide), zero_at, zero_add, h]
  split
  · next h => rw [row1_at H, readCov_row (R := 8) (D := 1024) a7.view _ 1 (by decide), read_row, read_whole, if_neg (by decide), zero_at, zero_add, h]
  split
  · next h => rw [row0_at H, readCov_row (R := 8) (D := 1024) a7.view _ 0 (by decide), read_whole, zero_at, zero_add, h]
  simp only [zero_at, st_rest _ _ _ _ _ l r.val (by omega), EReal.coe_zero, Finset.sum_const_zero, add_zero]

/-- A later point's statistics, over what the point before left. -/
theorem outB6 (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole) (hc0 : ¬ cond0_0 i)
    (x0 : Vec Ideal S512x1024 .f32) (x1 x2 x3 : Vec Ideal S1x1024 .f32) (x4 : Vec Ideal S512x1024 .f32) (xo : Vec Ideal S8x1024 .f32) (H : Tile x0 x1 x2 x3 x4 X T G SH SC) (r : Fin 8) (l : Fin 1024) :
    out0_B_6 c i a1 h1 a2 h2 a3 h3 a4 h4 a5 h5 a6 h6 a7 h7 hc0 x0 x1 x2 x3 x4 xo (ix2 r l) = xo (ix2 r l) + ∑ i, ((st (X i) (T i) G SH SC l r.val : ℝ) : EReal) := by
  unfold out0_B_6
  unfold kernelRun0_B
  dsimp only
  sl_unfold_words
  rw [read_row, read_row, read_row, read_row, View.writes_nil, h7.read_unread, readAt_whole _ h1 (congrFun hz), readAt_whole _ h2 (congrFun hz), readAt_whole _ h3 (congrFun hz), readAt_whole _ h4 (congrFun hz), readAt_whole _ h5 (congrFun hz)]
  split
  · next h =>
    rw [row3_at H, readAt_row (R := 8) (D := 1024) a7.view _ 3 (by decide), h7.read_unread, show r = ⟨3, by decide⟩ from Fin.ext h]
  split
  · next h =>
    rw [row2_at H, readAt_row (R := 8) (D := 1024) a7.view _ 2 (by decide), h7.read_unread, show r = ⟨2, by decide⟩ from Fin.ext h]
  split
  · next h =>
    rw [row1_at H, readAt_row (R := 8) (D := 1024) a7.view _ 1 (by decide), h7.read_unread, show r = ⟨1, by decide⟩ from Fin.ext h]
  split
  · next h =>
    rw [row0_at H, readAt_row (R := 8) (D := 1024) a7.view _ 0 (by decide), h7.read_unread, show r = ⟨0, by decide⟩ from Fin.ext h]
  simp only [zero_at, st_rest _ _ _ _ _ l r.val (by omega), EReal.coe_zero, Finset.sum_const_zero, add_zero]
end

/-! ## The reference over real arguments -/

section Whole
variable {x0 : Vec Ideal S8192x1024 .f32} {x1 : Vec Ideal S1024 .f32} {x2 x3 : Vec Ideal S1x1024 .f32} {x4 : Vec Ideal S8192x1024 .f32}
  {X T : Fin 8192 → Fin 1024 → ℝ} {G SH SC : Fin 1024 → ℝ}

/-- The arguments are real. -/
structure Whole (x0 : Vec Ideal S8192x1024 .f32) (x1 : Vec Ideal S1024 .f32) (x2 x3 : Vec Ideal S1x1024 .f32) (x4 : Vec Ideal S8192x1024 .f32)
    (X T : Fin 8192 → Fin 1024 → ℝ) (G SH SC : Fin 1024 → ℝ) : Prop where
  h : ∀ i l, x0 (ix2 i l) = ((X i l : ℝ) : EReal)
  g : ∀ l, x1 (ix1 l) = ((G l : ℝ) : EReal)
  sh : ∀ l, x2 (ix2 0 l) = ((SH l : ℝ) : EReal)
  sc : ∀ l, x3 (ix2 0 l) = ((SC l : ℝ) : EReal)
  t : ∀ i l, x4 (ix2 i l) = ((T i l : ℝ) : EReal)

variable (H : Whole x0 x1 x2 x3 x4 X T G SH SC) (i : Fin 8192) (l : Fin 1024)
include H
open Cert.FinalReferenceIdeal.Read

theorem v6_at : val_main_v6 (F := Ideal) x0 (ix2 i 0) = ((ms 1024 (X i) : ℝ) : EReal) := by
  pointwise [val_main_v6, val_main_v5, val_main_v4, val_main_v3, val_main_v2, val_main_v1, val_main_v0, val_main_cst, val_main_cst_0, val_main_cst_1, H.h, ofBits_1024, ofBits_eps]
  simp only [mul_coe, sum_coe, div_1024, add_coe]
  rfl

theorem v7_at : val_main_v7 (F := Ideal) x0 (ix2 i 0) = ((inv 1024 (X i) : ℝ) : EReal) := by
  pointwise [val_main_v7, v6_at H]
  exact inv_coe (by norm_num)

theorem v10_at (z : Fin 1) : val_main_v10 (F := Ideal) x0 (ix2 i z) = ((-1 / 2 * (inv 1024 (X i) / ms 1024 (X i)) : ℝ) : EReal) := by
  obtain rfl : z = 0 := Subsingleton.elim _ _
  pointwise [val_main_v10, val_main_v9, val_main_v8, val_main_cst_2, v6_at H, v7_at H, ofBits_neg_half]
  rw [div_coe _ _ (ms_pos (by norm_num)).ne', mul_coe]

theorem v15_at : val_main_v15 (F := Ideal) x0 x1 (ix2 i l) = ((X i l * inv 1024 (X i) * G l : ℝ) : EReal) := by
  pointwise [val_main_v15, val_main_v14, val_main_v13, val_main_v12, val_main_v11, v7_at H, H.h, H.g]
  simp only [mul_coe]

theorem v22_at : val_main_v22 (F := Ideal) x0 x1 x2 x3 x4 (ix2 i l) = ((err (X i) (T i) G SH SC l : ℝ) : EReal) := by
  pointwise [val_main_v22, val_main_v21, val_main_v20, val_main_v19, val_main_v18, val_main_v17, val_main_v16, val_main_cst_3, v15_at H, H.sh, H.sc, H.t, ofBits_1]
  simp only [mul_coe, add_coe, sub_coe]
  rfl

theorem v36_at : val_main_v36 (F := Ideal) x0 x1 x2 x3 x4 (ix2 i l) = ((e (X i) (T i) G SH SC l : ℝ) : EReal) := by
  pointwise [val_main_v36, val_main_v35, val_main_v34, val_main_v33, val_main_v32, val_main_v31, val_main_v25, val_main_v24, val_main_cst_4, val_main_cst_9, val_main_cst_10, val_main_cst_11, v22_at H, ofBits_1, ofBits_2, Norm.ofBits_half, ofBits_1024]
  simp only [mul_coe, div_1024]
  refine congrArg _ ?_
  unfold e
  ring

theorem v43_at : val_main_v43 (F := Ideal) x0 x1 x2 x3 x4 (ix2 i l) = ((e (X i) (T i) G SH SC l * (1 + SC l) : ℝ) : EReal) := by
  pointwise [val_main_v43, val_main_v42, val_main_v17, val_main_v16, val_main_cst_3, v36_at H, H.sc, ofBits_1]
  simp only [mul_coe, add_coe]

theorem v48_at : val_main_v48 (F := Ideal) x0 x1 x2 x3 x4 (ix2 i l) = ((u (X i) (T i) G SH SC l : ℝ) : EReal) := by
  pointwise [val_main_v48, val_main_v47, val_main_v13, v43_at H, H.g]
  simp only [mul_coe]
  rfl

theorem v59_at : val_main_v59 (F := Ideal) x0 x1 x2 x3 x4 (ix2 i l) = ((gradMs 1024 (X i) (u (X i) (T i) G SH SC) : ℝ) : EReal) := by
  pointwise [val_main_v59, val_main_v58, val_main_v57, val_main_v56, val_main_v55, val_main_v52, val_main_v51, val_main_v50, val_main_cst_16, val_main_cst_17, val_main_cst_18, v48_at H, v10_at H, H.h, ofBits_1024]
  simp only [v10_at H, Fin.sum_univ_one, mul_coe, sum_coe, div_1024]
  rfl

theorem ref_dh : val_main_v63 (F := Ideal) x0 x1 x2 x3 x4 (ix2 i l) = ((grad 1024 (X i) (u (X i) (T i) G SH SC) l : ℝ) : EReal) := by
  pointwise [val_main_v63, val_main_v62, val_main_v61, val_main_v60, val_main_v54, val_main_v53, v48_at H, v59_at H, v7_at H, H.h]
  simp only [mul_coe, add_coe]
  rw [grad_eq (by norm_num), add_assoc, mul_comm (X i l)]

theorem ref_st (r : Fin 8) : val_main_v67 (F := Ideal) x0 x1 x2 x3 x4 (ix2 r l) = ∑ i, ((st (X i) (T i) G SH SC l r.val : ℝ) : EReal) := by
  unfold st
  obtain rfl | rfl | rfl | rfl | h : r = 0 ∨ r = 1 ∨ r = 2 ∨ r = 3 ∨ 4 ≤ r.val := by omega
  all_goals pointwise [val_main_v67, val_main_v66, val_main_v65, val_main_v64, val_main_v49, val_main_v46, val_main_v45, val_main_v44, val_main_v41, val_main_v40, val_main_v39, val_main_v38, val_main_v37, val_main_v30, val_main_v29, val_main_v28, val_main_v27, val_main_v26, val_main_v23, val_main_cst_5, val_main_cst_6, val_main_cst_7, val_main_cst_8, val_main_cst_12, val_main_cst_13, val_main_cst_14, val_main_cst_15, val_main_cst_19, val_main_v12, val_main_v11, v7_at H, v15_at H, v22_at H, v36_at H, v43_at H, H.h, ofBits_1024, Norm.ofBits_half]
  · simp only [Fin.sum_univ_one, mul_coe, mul_comm]
  · simp only [mul_coe, mul_comm]
  · simp only [mul_coe, sum_coe, div_1024, ← Finset.mul_sum]
  · simp only [if_neg (show ¬r.val = 3 by omega), if_neg (show ¬r.val = 2 by omega), if_neg (show ¬r.val = 1 by omega), if_neg (show ¬r.val = 0 by omega),
      EReal.coe_zero, Finset.sum_const_zero]
    rw [dif_neg (by omega), dif_neg (by omega), dif_neg (by omega), dif_neg (by omega)]
end Whole

/-! ## The two results -/

/-- The row of the whole a tile's row is. -/
abbrev row (t : Fin cfg0.N) (i : Fin 512) : Fin 8192 := ⟨512 * t.val + i.val, by have := t.isLt; have hN : cfg0.N = 16 := N_0; omega⟩

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (ρ : Dev nD → PrngReg)

section
variable (c : Dev nD) {X T : Fin 8192 → Fin 1024 → ℝ} {G SH SC : Fin 1024 → ℝ}
  (H : Whole (m ((c : Thread nD τ).loc main_arg0)) (m ((c : Thread nD τ).loc main_arg1)) (m ((c : Thread nD τ).loc main_arg2))
    (m ((c : Thread nD τ).loc main_arg3)) (m ((c : Thread nD τ).loc main_arg4)) X T G SH SC)
include H

/-- The blocks of a grid point are real. -/
theorem tile (t : Fin cfg0.N) : Tile (iblk m c 0 t) (iblk m c 1 t) (iblk m c 2 t) (iblk m c 3 t) (iblk m c 4 t)
    (fun i => X (row t i)) (fun i => T (row t i)) G SH SC := by
  refine ⟨fun i l => ?_, fun l => ?_, fun l => ?_, fun l => ?_, fun i l => ?_⟩
  · rw [← H.h]; blk_point [iblk, V, idx t]
  · rw [← H.g]; blk_point [iblk, V, idx t]
  · rw [← H.sh]; blk_point [iblk, V, idx t]
  · rw [← H.sc]; blk_point [iblk, V, idx t]
  · rw [← H.t]; blk_point [iblk, V, idx t]

theorem final5 : (dats m 0 c).arrAt 5 cfg0.N = Cert.FinalReferenceIdeal.Read.val_main_v63 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨i, l, rfl⟩ : ∃ (i : Fin 512) (l : Fin 1024), y = ix2 i l := ⟨y 0, y 1, Shape.idx_ext₂ rfl rfl⟩
  rw [show (win0_5.blk t).view.emb (ix2 i l) = ix2 (row t i) l from by blk_ext [idx t], ref_dh H]
  by_cases h0 : t.val % 16 = 0
  · rw [outsAt0_A m c t h0]
    dsimp only
    rw [outA5, pay11_at (tile m c H t)]
  · rw [outsAt0_B m c t h0]
    dsimp only
    rw [outB5, pay11_at (tile m c H t)]

/-- The statistics after the last point. -/
theorem stat (t : Fin cfg0.N) (ht : t.val + 1 = cfg0.N) (r : Fin 8) (l : Fin 1024) :
    (outsAt0 m c t.val t.isLt).2 (ix2 r l) = ∑ i : Fin 8192, ((st (X i) (T i) G SH SC l r.val : ℝ) : EReal) := by
  refine acc_last 16 (fun n h => (outsAt0 m c n h).2 (ix2 r l)) (fun t k => ((st (X (row t k)) (T (row t k)) G SH SC l r.val : ℝ) : EReal)) _
    (fun t h0 => ?_) (fun t h0 => ?_) (le_of_eq N_0) (by rw [show cfg0.N = 16 from N_0]) (fun _ _ _ => rfl) t ht
  · show (outsAt0 m c t.val t.isLt).2 (ix2 r l) = _
    rw [outsAt0_A m c t h0]
    dsimp only
    rw [outA6 (H := tile m c H t)]
  · show (outsAt0 m c t.val t.isLt).2 (ix2 r l) = _
    rw [outsAt0_B m c t h0]
    dsimp only
    rw [outB6 (H := tile m c H t)]

theorem final6 : (dats m 0 c).arrAt 6 cfg0.N = Cert.FinalReferenceIdeal.Read.val_main_v67 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val + 1 = cfg0.N := by
    have := (flush0_6 t).mp hf; have := t.isLt; have hN : cfg0.N = 16 := N_0; omega
  blk_simp
  rw [after0_6]
  obtain ⟨r, l, rfl⟩ : ∃ (r : Fin 8) (l : Fin 1024), y = ix2 r l := ⟨y 0, y 1, Shape.idx_ext₂ rfl rfl⟩
  rw [show (win0_6.blk t).view.emb (ix2 r l) = ix2 r l from by blk_ext [idx t], ref_st H]
  exact stat m c H t ht r l
end

end Cert.FinalKernelIdeal.Value

namespace Cert.Final

open Cert.FinalKernelIdeal Cert.FinalKernelIdeal.Value Idealize.ShloMosaic Idealize.ShloMosaic.TcCoe Idealize.SL.Sem

/-- Under the precondition every argument is real. -/
theorem holds [Cert.Pre_final_finite.Facts] (x0 : FVec Ideal S8192x1024 .f32) (x1 : FVec Ideal S1024 .f32) (x2 x3 : FVec Ideal S1x1024 .f32)
    (x4 : FVec Ideal S8192x1024 .f32) (h : Cert.Pre_final_finite.fn (F := Ideal) x0 x1 x2 x3 x4 = fun _ => 1#1) : ∃ X T G SH SC, Whole x0 x1 x2 x3 x4 X T G SH SC := by
  refine ⟨_, _, _, _, _, fun i l => Sb.real _ ?_, fun l => Sb.real _ ?_, fun l => Sb.real _ ?_, fun l => Sb.real _ ?_, fun i l => Sb.real _ ?_⟩
  · have e := congrFun h (ix2 ⟨i.val, by omega⟩ l)
    revert e
    pointwise [Cert.Pre_final_finite.fn]
    intro e
    exact e
  · have e := congrFun h (ix2 ⟨8192, by omega⟩ l)
    revert e
    pointwise [Cert.Pre_final_finite.fn]
    exact id
  · have e := congrFun h (ix2 ⟨8193, by omega⟩ l)
    revert e
    pointwise [Cert.Pre_final_finite.fn]
    exact id
  · have e := congrFun h (ix2 ⟨8194, by omega⟩ l)
    revert e
    pointwise [Cert.Pre_final_finite.fn]
    exact id
  · have e := congrFun h (ix2 ⟨8195 + i.val, by omega⟩ l)
    revert e
    pointwise [Cert.Pre_final_finite.fn]
    intro e
    rw [dif_neg (by omega), dif_neg (by omega), dif_neg (by omega), dif_neg (by omega)] at e
    rwa [show (⟨8195 + i.val - 8192 - 1 - 1 - 1, by omega⟩ : Fin 8192) = i from Fin.ext (by dsimp only; omega)] at e

/-- The kernel's two results are the reference's. -/
theorem algebraic [Cert.Pre_final_finite.Facts] : Cert.algebraic_FinalKernelIdeal_FinalReferenceIdeal_pre_final_finite := by
  intro m g m' g' hpre hagree
  refine ⟨fun c => Cert.FinalReferenceIdeal.Read.val_main_v63 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    fun c => Cert.FinalReferenceIdeal.Read.val_main_v67 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · refine (θ_run defs _ _).mono (fun r h c => ?_) (Cert.FinalKernelIdeal.Value.run_blocks m g)
    obtain ⟨X, T, G, SH, SC, H⟩ := holds _ _ _ _ _ (hpre c)
    exact ⟨(h c).1.trans (final5 m c H), (h c).2.1.trans (final6 m c H), (h c).2.2⟩
  · refine (θ_run Cert.FinalReferenceIdeal.defs _ _).mono (fun r h c => ?_) (Cert.FinalReferenceIdeal.Value.run m' g')
    refine ⟨(h c).1.trans ((Cert.FinalReferenceIdeal.Read.val_main_v63_eq m' c).trans ?_),
      (h c).2.1.trans ((Cert.FinalReferenceIdeal.Read.val_main_v67_eq m' c).trans ?_), (h c).2.2⟩
    all_goals rw [(hagree c).1, (hagree c).2.1, (hagree c).2.2.1, (hagree c).2.2.2.1, (hagree c).2.2.2.2]

end Cert.Final
-- ==== Proof.GnormValue.lean ====
/- What the gated norm's gradient leaves in its three results. -/
module

public import proofs.«01_k».proof.Proof.Gen.GnormKernelIdeal.Value
public import proofs.«01_k».proof.Proof.Common
public import proofs.«01_k».proof.Proof.Norm
public import proofs.«01_k».proof.Proof.SbHost
public import proofs.«01_k».proof.Defs
public import proofs.«01_k».proof.Proof.Gen.GnormReferenceIdeal.Run
public import proofs.«01_k».proof.Proof.Gen.GnormReferenceIdeal.Read
public import Idealize.ShloMosaic.Lib.Tactic

@[expose] public section

set_option maxRecDepth 16384

noncomputable section

namespace Cert.Gnorm

open Cert.Norm Idealize.ShloMosaic

/-! ## A row over the reals -/

section
variable (y z d g : Fin 512 → ℝ) (l : Fin 512)

/-- The gated row, and the gradient of the normalised one. -/
def v : ℝ := y l * (z l * sg (z l))
def u : ℝ := d l * g l
/-- The gradients of the row and of its gate. -/
def dy : ℝ := grad 512 (v y z) (u d g) l * (z l * sg (z l))
def dz : ℝ := grad 512 (v y z) (u d g) l * y l * (sg (z l) * (1 + z l * (1 - sg (z l))))
/-- The row's terms in the statistics. -/
def st (r : ℕ) : ℝ := if r = 0 then d l * (v y z l * inv 512 (v y z)) else 0
end

end Cert.Gnorm

namespace Cert.GnormKernelIdeal.Value

open Cert.GnormKernelIdeal Cert.GnormKernelIdeal.Gen Idealize.ShloMosaic Idealize.ShloMosaic.TcCoe Idealize.SL.Sem
open Idealize.ShloMosaic.Pipeline (Dat)
open Cert.Common Cert.Norm Cert.Gnorm

section Tile
variable {x0 x1 : Vec Ideal S512x512 .f32} {x2 : Vec Ideal S1x512 .f32} {x3 : Vec Ideal S512x512 .f32}
  {Y Z D : Fin 512 → Fin 512 → ℝ} {G : Fin 512 → ℝ}

/-- A tile's arguments are real. -/
structure Tile (x0 x1 : Vec Ideal S512x512 .f32) (x2 : Vec Ideal S1x512 .f32) (x3 : Vec Ideal S512x512 .f32)
    (Y Z D : Fin 512 → Fin 512 → ℝ) (G : Fin 512 → ℝ) : Prop where
  y : ∀ i l, x0 (ix2 i l) = ((Y i l : ℝ) : EReal)
  z : ∀ i l, x1 (ix2 i l) = ((Z i l : ℝ) : EReal)
  g : ∀ l, x2 (ix2 0 l) = ((G l : ℝ) : EReal)
  d : ∀ i l, x3 (ix2 i l) = ((D i l : ℝ) : EReal)

variable (H : Tile x0 x1 x2 x3 Y Z D G) (i l : Fin 512)
include H

theorem pay5_at : k0_pay5 x1 (ix2 i l) = ((sg (Z i l) : ℝ) : EReal) := by
  pointwise [k0_pay5, k0_pay4, H.z]
  exact logistic_coe _

theorem pay6_at : k0_pay6 x1 (ix2 i l) = ((Z i l * sg (Z i l) : ℝ) : EReal) := by
  pointwise [k0_pay6, k0_pay4, pay5_at H, H.z]
  simp only [mul_coe]

theorem pay7_at : k0_pay7 x1 x0 (ix2 i l) = ((v (Y i) (Z i) l : ℝ) : EReal) := by
  pointwise [k0_pay7, pay6_at H, H.y]
  simp only [mul_coe]
  rfl

theorem pay8_at : k0_pay8 x1 x0 (ix2 i 0) = ((inv 512 (v (Y i) (Z i)) : ℝ) : EReal) := by
  pointwise [k0_pay8, pay7_at H, ofBits_512, ofBits_eps]
  simp only [mul_coe, sum_coe, div_512, add_coe]
  exact inv_coe (by norm_num)

theorem pay9_at : k0_pay9 x1 x0 (ix2 i l) = ((v (Y i) (Z i) l * inv 512 (v (Y i) (Z i)) : ℝ) : EReal) := by
  pointwise [k0_pay9, pay7_at H, pay8_at H]
  simp only [mul_coe]

theorem pay12_at : k0_pay12 x3 x2 (ix2 i l) = ((u (D i) G l : ℝ) : EReal) := by
  pointwise [k0_pay12, H.d, H.g]
  simp only [mul_coe]
  rfl

theorem pay1_at : k0_pay1 (k0_pay8 x1 x0) (k0_pay9 x1 x0) (k0_pay12 x3 x2) (k0_pay13 x1 x0 x3 x2) (ix2 i l)
    = ((grad 512 (v (Y i) (Z i)) (u (D i) G) l : ℝ) : EReal) := by
  pointwise [k0_pay1, k0_pay13, pay8_at H, pay9_at H, pay12_at H, ofBits_512]
  simp only [mul_coe, sub_coe, sum_coe, div_512]
  rfl

theorem dy_at : k0_pay2 (k0_pay6 x1) (k0_pay8 x1 x0) (k0_pay9 x1 x0) (k0_pay12 x3 x2) (k0_pay13 x1 x0 x3 x2) (ix2 i l) = ((dy (Y i) (Z i) (D i) G l : ℝ) : EReal) := by
  pointwise [k0_pay2, pay1_at H, pay6_at H]
  simp only [mul_coe]
  rfl

theorem dz_at : k0_pay3 (k0_pay4 x1) x0 (k0_pay5 x1) (k0_pay8 x1 x0) (k0_pay9 x1 x0) (k0_pay12 x3 x2) (k0_pay13 x1 x0 x3 x2) (ix2 i l) = ((dz (Y i) (Z i) (D i) G l : ℝ) : EReal) := by
  pointwise [k0_pay3, k0_pay4, pay1_at H, pay5_at H, H.y, H.z, ofBits_1]
  simp only [mul_coe, add_coe, sub_coe]
  rfl

/-- The statistics' term of a tile. -/
theorem row0_at (z : Vec Ideal S1x512 .f32) : k0_pay11 x1 x0 x3 z (ix2 0 l) = z (ix2 0 l) + ∑ i, ((st (Y i) (Z i) (D i) l 0 : ℝ) : EReal) := by
  pointwise [k0_pay11, pay9_at H, H.d]
  simp only [mul_coe]
  rfl
end Tile

theorem zero_at (r : Fin 8) (l : Fin 512) : k0_pay10 (F := Ideal) (ix2 r l) = 0 := by
  pointwise [k0_pay10]

theorem outA4 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : cond0_0 i) (x0 x1 : Vec Ideal S512x512 .f32) (x2 : Vec Ideal S1x512 .f32) (x3 : Vec Ideal S512x512 .f32) :
    out0_A_4 c i a1 h1 a2 h2 a3 h3 a4 h4 a5 h5 a6 h6 a7 h7 hc0 x0 x1 x2 x3 = k0_pay2 (k0_pay6 x1) (k0_pay8 x1 x0) (k0_pay9 x1 x0) (k0_pay12 x3 x2) (k0_pay13 x1 x0 x3 x2) := by
  frame_out
theorem outB4 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : ¬ cond0_0 i) (x0 x1 : Vec Ideal S512x512 .f32) (x2 : Vec Ideal S1x512 .f32) (x3 : Vec Ideal S512x512 .f32) (xo : Vec Ideal S8x512 .f32) :
    out0_B_4 c i a1 h1 a2 h2 a3 h3 a4 h4 a5 h5 a6 h6 a7 h7 hc0 x0 x1 x2 x3 xo = k0_pay2 (k0_pay6 x1) (k0_pay8 x1 x0) (k0_pay9 x1 x0) (k0_pay12 x3 x2) (k0_pay13 x1 x0 x3 x2) := by
  frame_out
theorem outA5 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : cond0_0 i) (x0 x1 : Vec Ideal S512x512 .f32) (x2 : Vec Ideal S1x512 .f32) (x3 : Vec Ideal S512x512 .f32) :
    out0_A_5 c i a1 h1 a2 h2 a3 h3 a4 h4 a5 h5 a6 h6 a7 h7 hc0 x0 x1 x2 x3 = k0_pay3 (k0_pay4 x1) x0 (k0_pay5 x1) (k0_pay8 x1 x0) (k0_pay9 x1 x0) (k0_pay12 x3 x2) (k0_pay13 x1 x0 x3 x2) := by
  frame_out
theorem outB5 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : ¬ cond0_0 i) (x0 x1 : Vec Ideal S512x512 .f32) (x2 : Vec Ideal S1x512 .f32) (x3 : Vec Ideal S512x512 .f32) (xo : Vec Ideal S8x512 .f32) :
    out0_B_5 c i a1 h1 a2 h2 a3 h3 a4 h4 a5 h5 a6 h6 a7 h7 hc0 x0 x1 x2 x3 xo = k0_pay3 (k0_pay4 x1) x0 (k0_pay5 x1) (k0_pay8 x1 x0) (k0_pay9 x1 x0) (k0_pay12 x3 x2) (k0_pay13 x1 x0 x3 x2) := by
  frame_out

section
variable {Y Z D : Fin 512 → Fin 512 → ℝ} {G : Fin 512 → ℝ}

/-- The first point's statistics. -/
theorem outA6 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : cond0_0 i) (x0 x1 : Vec Ideal S512x512 .f32) (x2 : Vec Ideal S1x512 .f32) (x3 : Vec Ideal S512x512 .f32) (H : Tile x0 x1 x2 x3 Y Z D G) (r : Fin 8) (l : Fin 512) :
    out0_A_6 c i a1 h1 a2 h2 a3 h3 a4 h4 a5 h5 a6 h6 a7 h7 hc0 x0 x1 x2 x3 (ix2 r l) = ∑ i, ((st (Y i) (Z i) (D i) l r.val : ℝ) : EReal) := by
  unfold out0_A_6
  unfold kernelRun0_A
  dsimp only
  sl_unfold_words
  rw [read_row, read_whole, readAt_whole _ h1 (congrFun hz), readAt_whole _ h2 (congrFun hz), readAt_whole _ h4 (congrFun hz)]
  split
  · next h => rw [row0_at H, readCov_row (R := 8) (D := 512) a7.view _ 0 (by decide), read_whole, zero_at, zero_add, h]
  · next h => simp only [zero_at, st, if_neg h, EReal.coe_zero, Finset.sum_const_zero]

/-- A later point's statistics, over what the point before left. -/
theorem outB6 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .f32) (h4 : a4.IsWhole) (a5 : Memref sig .tc .vmem S512x512 .f32) (h5 : a5.IsWhole) (a6 : Memref sig .tc .vmem S512x512 .bf16) (h6 : a6.IsWhole) (a7 : Memref sig .tc .vmem S8x512 .f32) (h7 : a7.IsWhole) (hc0 : ¬ cond0_0 i) (x0 x1 : Vec Ideal S512x512 .f32) (x2 : Vec Ideal S1x512 .f32) (x3 : Vec Ideal S512x512 .f32) (xo : Vec Ideal S8x512 .f32) (H : Tile x0 x1 x2 x3 Y Z D G) (r : Fin 8) (l : Fin 512) :
    out0_B_6 c i a1 h1 a2 h2 a3 h3 a4 h4 a5 h5 a6 h6 a7 h7 hc0 x0 x1 x2 x3 xo (ix2 r l) = xo (ix2 r l) + ∑ i, ((st (Y i) (Z i) (D i) l r.val : ℝ) : EReal) := by
  unfold out0_B_6
  unfold kernelRun0_B
  dsimp only
  sl_unfold_words
  rw [read_row, View.writes_nil, h7.read_unread, readAt_whole _ h1 (congrFun hz), readAt_whole _ h2 (congrFun hz), readAt_whole _ h4 (congrFun hz)]
  split
  · next h => rw [row0_at H, readAt_row (R := 8) (D := 512) a7.view _ 0 (by decide), h7.read_unread, show r = ⟨0, by decide⟩ from Fin.ext h]
  · next h => simp only [st, if_neg h, EReal.coe_zero, Finset.sum_const_zero, add_zero]
end

/-! ## The reference over real arguments -/

section Whole
variable {x0 : Vec Ideal S8192x512 .f32} {x1 : Vec Ideal S8192x5128 .f32} {x2 : Vec Ideal S512 .f32} {x3 : Vec Ideal S8192x1536 .f32}
  {Y Z D : Fin 8192 → Fin 512 → ℝ} {G : Fin 512 → ℝ}

/-- The columns in use of the arguments are real. -/
structure Whole (x0 : Vec Ideal S8192x512 .f32) (x1 : Vec Ideal S8192x5128 .f32) (x2 : Vec Ideal S512 .f32) (x3 : Vec Ideal S8192x1536 .f32)
    (Y Z D : Fin 8192 → Fin 512 → ℝ) (G : Fin 512 → ℝ) : Prop where
  y : ∀ i l, x0 (ix2 i l) = ((Y i l : ℝ) : EReal)
  z : ∀ i (l : Fin 512), x1 (ix2 i ⟨3584 + l.val, by omega⟩) = ((Z i l : ℝ) : EReal)
  g : ∀ l, x2 (ix1 l) = ((G l : ℝ) : EReal)
  d : ∀ i (l : Fin 512), x3 (ix2 i ⟨1024 + l.val, by omega⟩) = ((D i l : ℝ) : EReal)

variable (H : Whole x0 x1 x2 x3 Y Z D G) (i : Fin 8192) (l : Fin 512)
include H
open Cert.GnormReferenceIdeal.Read

theorem v1_2_at : val_main_v1_2 (F := Ideal) x1 (ix2 i l) = ((sg (Z i l) : ℝ) : EReal) := by
  pointwise [val_main_v1_2, val_main_call0_v4, val_main_call0_v3, val_main_call0_v2, val_main_call0_v1, val_main_call0_v0, val_main_call0_cst, val_main_call0_cst_0, val_main_v0, H.z, ofBits_1]
  exact logistic_coe' _

theorem v1_0_at : val_main_v1_0 (F := Ideal) x1 (ix2 i l) = ((Z i l * sg (Z i l) : ℝ) : EReal) := by
  pointwise [val_main_v1_0, val_main_v0, v1_2_at H, H.z]
  simp only [mul_coe]

theorem v2_at : val_main_v2 (F := Ideal) x0 x1 (ix2 i l) = ((v (Y i) (Z i) l : ℝ) : EReal) := by
  pointwise [val_main_v2, v1_0_at H, H.y]
  simp only [mul_coe]
  rfl

theorem v9_at : val_main_v9 (F := Ideal) x0 x1 (ix2 i 0) = ((ms 512 (v (Y i) (Z i)) : ℝ) : EReal) := by
  pointwise [val_main_v9, val_main_v8, val_main_v7, val_main_v6, val_main_v5, val_main_v4, val_main_v3, val_main_cst, val_main_cst_0, val_main_cst_1, v2_at H, ofBits_512, ofBits_eps]
  simp only [mul_coe, sum_coe, div_512, add_coe]
  rfl

theorem v10_at : val_main_v10 (F := Ideal) x0 x1 (ix2 i 0) = ((inv 512 (v (Y i) (Z i)) : ℝ) : EReal) := by
  pointwise [val_main_v10, v9_at H]
  exact inv_coe (by norm_num)

theorem v13_at (z : Fin 1) : val_main_v13 (F := Ideal) x0 x1 (ix2 i z) = ((-1 / 2 * (inv 512 (v (Y i) (Z i)) / ms 512 (v (Y i) (Z i))) : ℝ) : EReal) := by
  obtain rfl : z = 0 := Subsingleton.elim _ _
  pointwise [val_main_v13, val_main_v12, val_main_v11, val_main_cst_2, v9_at H, v10_at H, ofBits_neg_half]
  rw [div_coe _ _ (ms_pos (by norm_num)).ne', mul_coe]

theorem v24_at : val_main_v24 (F := Ideal) x2 x3 (ix2 i l) = ((u (D i) G l : ℝ) : EReal) := by
  pointwise [val_main_v24, val_main_v23, val_main_v19, val_main_v16, H.d, H.g]
  simp only [mul_coe]
  rfl

theorem v35_at : val_main_v35 (F := Ideal) x0 x1 x2 x3 (ix2 i l) = ((gradMs 512 (v (Y i) (Z i)) (u (D i) G) : ℝ) : EReal) := by
  pointwise [val_main_v35, val_main_v34, val_main_v33, val_main_v32, val_main_v31, val_main_v28, val_main_v27, val_main_v26, val_main_cst_5, val_main_cst_6, val_main_cst_7, v24_at H, v2_at H, ofBits_512]
  simp only [v13_at H, Fin.sum_univ_one, mul_coe, sum_coe, div_512]
  rfl

theorem v39_at : val_main_v39 (F := Ideal) x0 x1 x2 x3 (ix2 i l) = ((grad 512 (v (Y i) (Z i)) (u (D i) G) l : ℝ) : EReal) := by
  pointwise [val_main_v39, val_main_v38, val_main_v37, val_main_v36, val_main_v30, val_main_v29, v2_at H, v24_at H, v35_at H, v10_at H]
  simp only [mul_coe, add_coe]
  rw [grad_eq (by norm_num), add_assoc, mul_comm (v (Y i) (Z i) l)]

theorem ref_dy : val_main_v41 (F := Ideal) x0 x1 x2 x3 (ix2 i l) = ((dy (Y i) (Z i) (D i) G l : ℝ) : EReal) := by
  pointwise [val_main_v41, v39_at H, v1_0_at H]
  simp only [mul_coe]
  rfl

theorem ref_dz : val_main_v43 (F := Ideal) x0 x1 x2 x3 (ix2 i l) = ((dz (Y i) (Z i) (D i) G l : ℝ) : EReal) := by
  pointwise [val_main_v43, val_main_v42, val_main_call1_v2, val_main_call1_v1, val_main_call1_v0, val_main_v40, val_main_v1_1, val_main_call0_v7, val_main_call0_v6, val_main_call0_cst_1, val_main_v0, v39_at H, v1_2_at H, H.y, H.z, ofBits_1]
  simp only [mul_coe, add_coe, sub_coe]
  refine congrArg _ ?_
  unfold dz
  ring

theorem ref_st (r : Fin 8) : val_main_v46 (F := Ideal) x0 x1 x3 (ix2 r l) = ∑ i, ((st (Y i) (Z i) (D i) l r.val : ℝ) : EReal) := by
  unfold st
  obtain rfl | h : r = 0 ∨ 1 ≤ r.val := by omega
  all_goals pointwise [val_main_v46, val_main_v45, val_main_v44, val_main_v25, val_main_v22, val_main_v21, val_main_v20, val_main_v19, val_main_v15, val_main_v14, val_main_cst_3, val_main_cst_4, val_main_cst_8, v10_at H, v2_at H, H.d]
  · simp only [Fin.sum_univ_one, mul_coe, mul_comm]
  · simp only [if_neg (show ¬r.val = 0 by omega), EReal.coe_zero, Finset.sum_const_zero]
    rw [dif_neg (by omega)]
end Whole

/-! ## The three results -/

/-- The row of the whole a tile's row is. -/
abbrev row (t : Fin cfg0.N) (i : Fin 512) : Fin 8192 := ⟨512 * t.val + i.val, by have := t.isLt; have hN : cfg0.N = 16 := N_0; omega⟩

theorem idx : ∀ t : Fin cfg0.N, win0_0.index t = ![t.val, 0] ∧ win0_1.index t = ![t.val, 7] ∧ win0_2.index t = ![0, 0]
    ∧ win0_3.index t = ![t.val, 2] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (ρ : Dev nD → PrngReg)

theorem V_packed (c : Dev nD) : V m c main_v7 = Cert.Sb.packed (m (c, Proc.tc.devRef main_arg1)) := by
  simp only [V, hostOps0, hostOps0_1, hostOps0_2, List.flatten_cons, List.flatten_nil, List.append_nil, List.cons_append, List.nil_append]
  after_results_simp
  rfl

theorem V_gain (c : Dev nD) : V m c main_v8 = shapeCast S1x512 (m (c, Proc.tc.devRef main_arg2)) shapeCasts_S512_S1x512 := by
  simp only [V, hostOps0, hostOps0_1, hostOps0_2, List.flatten_cons, List.flatten_nil, List.append_nil, List.cons_append, List.nil_append]
  after_results_simp
  rfl

section
variable (c : Dev nD) {Y Z D : Fin 8192 → Fin 512 → ℝ} {G : Fin 512 → ℝ} (H : Whole (m ((c : Thread nD τ).loc main_arg0)) (m ((c : Thread nD τ).loc main_arg1)) (m ((c : Thread nD τ).loc main_arg2)) (m ((c : Thread nD τ).loc main_arg3)) Y Z D G)
include H

/-- The blocks of a grid point are real. -/
theorem tile (t : Fin cfg0.N) : Tile (iblk m c 0 t) (iblk m c 1 t) (iblk m c 2 t) (iblk m c 3 t)
    (fun i => Y (row t i)) (fun i => Z (row t i)) (fun i => D (row t i)) G := by
  refine ⟨fun i l => ?_, fun i l => ?_, fun l => ?_, fun i l => ?_⟩
  · rw [← H.y]; blk_point [iblk, V, idx t]
  · rw [← H.z]
    show V m c main_v7 ((win0_1.blk t).view.emb (ix2 i l)) = _
    rw [V_packed, show (win0_1.blk t).view.emb (ix2 i l) = ix2 (row t i) ⟨3584 + l.val, by omega⟩ from by blk_ext [idx t], Cert.Sb.packed_at _ _ _ (by dsimp only; omega)]
  · rw [← H.g]
    show V m c main_v8 ((win0_2.blk t).view.emb (ix2 0 l)) = _
    rw [V_gain, show (win0_2.blk t).view.emb (ix2 0 l) = ix2 0 l from by blk_ext [idx t]]
    pointwise
  · rw [← H.d]; blk_point [iblk, V, idx t]

theorem final4 : (dats m 0 c).arrAt 4 cfg0.N = Cert.GnormReferenceIdeal.Read.val_main_v41 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, l, rfl⟩ : ∃ (i l : Fin 512), y = ix2 i l := ⟨y 0, y 1, Shape.idx_ext₂ rfl rfl⟩
  rw [show (win0_4.blk t).view.emb (ix2 i l) = ix2 (row t i) l from by blk_ext [idx t], ref_dy H]
  by_cases h0 : t.val % 16 = 0
  · rw [outsAt0_A m c t h0]
    dsimp only
    rw [outA4, dy_at (tile m c H t)]
  · rw [outsAt0_B m c t h0]
    dsimp only
    rw [outB4, dy_at (tile m c H t)]

theorem final5 : (dats m 0 c).arrAt 5 cfg0.N = Cert.GnormReferenceIdeal.Read.val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨i, l, rfl⟩ : ∃ (i l : Fin 512), y = ix2 i l := ⟨y 0, y 1, Shape.idx_ext₂ rfl rfl⟩
  rw [show (win0_5.blk t).view.emb (ix2 i l) = ix2 (row t i) l from by blk_ext [idx t], ref_dz H]
  by_cases h0 : t.val % 16 = 0
  · rw [outsAt0_A m c t h0]
    dsimp only
    rw [outA5, dz_at (tile m c H t)]
  · rw [outsAt0_B m c t h0]
    dsimp only
    rw [outB5, dz_at (tile m c H t)]

/-- The statistics after the last point. -/
theorem stat (t : Fin cfg0.N) (ht : t.val + 1 = cfg0.N) (r : Fin 8) (l : Fin 512) :
    (outsAt0 m c t.val t.isLt).2.2 (ix2 r l) = ∑ i : Fin 8192, ((st (Y i) (Z i) (D i) l r.val : ℝ) : EReal) := by
  refine acc_last 16 (fun n h => (outsAt0 m c n h).2.2 (ix2 r l)) (fun t k => ((st (Y (row t k)) (Z (row t k)) (D (row t k)) l r.val : ℝ) : EReal)) _
    (fun t h0 => ?_) (fun t h0 => ?_) (le_of_eq N_0) (by rw [show cfg0.N = 16 from N_0]) (fun _ _ _ => rfl) t ht
  · show (outsAt0 m c t.val t.isLt).2.2 (ix2 r l) = _
    rw [outsAt0_A m c t h0]
    dsimp only
    rw [outA6 (H := tile m c H t)]
  · show (outsAt0 m c t.val t.isLt).2.2 (ix2 r l) = _
    rw [outsAt0_B m c t h0]
    dsimp only
    rw [outB6 (H := tile m c H t)]

theorem final6 : (dats m 0 c).arrAt 6 cfg0.N = Cert.GnormReferenceIdeal.Read.val_main_v46 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  have ht : t.val + 1 = cfg0.N := by
    have := (flush0_6 t).mp hf; have := t.isLt; have hN : cfg0.N = 16 := N_0; omega
  blk_simp
  rw [after0_6]
  obtain ⟨r, l, rfl⟩ : ∃ (r : Fin 8) (l : Fin 512), y = ix2 r l := ⟨y 0, y 1, Shape.idx_ext₂ rfl rfl⟩
  rw [show (win0_6.blk t).view.emb (ix2 r l) = ix2 r l from by blk_ext [idx t], ref_st H]
  exact stat m c H t ht r l
end

end Cert.GnormKernelIdeal.Value

namespace Cert.Gnorm

open Cert.GnormKernelIdeal Cert.GnormKernelIdeal.Value Idealize.ShloMosaic Idealize.ShloMosaic.TcCoe Idealize.SL.Sem

/-- Under the precondition the columns in use are real. -/
theorem holds [Cert.Pre_gnorm_finite.Facts] (x0 : FVec Ideal S8192x512 .f32) (x1 : FVec Ideal S8192x5128 .f32) (x2 : FVec Ideal S512 .f32)
    (x3 : FVec Ideal S8192x1536 .f32) (h : Cert.Pre_gnorm_finite.fn (F := Ideal) x0 x1 x2 x3 = fun _ => 1#1) : ∃ Y Z D G, Whole x0 x1 x2 x3 Y Z D G := by
  refine ⟨_, _, _, _, fun i l => Sb.real _ ?_, fun i l => Sb.real _ ?_, fun l => Sb.real _ ?_, fun i l => Sb.real _ ?_⟩
  · have e := congrFun h (ix2 i ⟨0 + l.val, by omega⟩)
    revert e
    pointwise [Cert.Pre_gnorm_finite.fn]
    exact id
  · have e := congrFun h (ix2 i ⟨512 + l.val, by omega⟩)
    revert e
    pointwise [Cert.Pre_gnorm_finite.fn]
    exact id
  · have e := congrFun h (ix2 0 ⟨1536 + l.val, by omega⟩)
    revert e
    pointwise [Cert.Pre_gnorm_finite.fn]
    intro e
    rw [dif_neg (by omega), dif_neg (by omega), dif_neg (by omega)] at e
    rwa [show (⟨1536 + l.val - 512 - 512 - 512, by omega⟩ : Fin 512) = l from Fin.ext (by dsimp only; omega)] at e
  · have e := congrFun h (ix2 i ⟨1024 + l.val, by omega⟩)
    revert e
    pointwise [Cert.Pre_gnorm_finite.fn]
    intro e
    rw [dif_neg (by omega), dif_neg (by omega), dif_pos (by omega)] at e
    rwa [show (⟨1024 + (1024 + l.val - 512 - 512), by omega⟩ : Fin 1536) = ⟨1024 + l.val, by omega⟩ from Fin.ext (by dsimp only; omega)] at e

/-- The kernel's three results are the reference's. -/
theorem algebraic [Cert.Pre_gnorm_finite.Facts] : Cert.algebraic_GnormKernelIdeal_GnormReferenceIdeal_pre_gnorm_finite := by
  intro m g m' g' hpre hagree
  refine ⟨fun c => Cert.GnormReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)),
    fun c => Cert.GnormReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)),
    fun c => Cert.GnormReferenceIdeal.Read.val_main_v46 (F := Ideal) (m ((c.tc : Thread nD τ).loc main_arg0)) (m ((c.tc : Thread nD τ).loc main_arg1)) (m ((c.tc : Thread nD τ).loc main_arg3)), ?_, ?_⟩
  · refine (θ_run defs _ _).mono (fun r h c => ?_) (Cert.GnormKernelIdeal.Value.run_blocks m g)
    obtain ⟨Y, Z, D, G, H⟩ := holds _ _ _ _ (hpre c)
    exact ⟨(h c).1.trans (final4 m c H), (h c).2.1.trans (final5 m c H), (h c).2.2.1.trans (final6 m c H), (h c).2.2.2⟩
  · refine (θ_run Cert.GnormReferenceIdeal.defs _ _).mono (fun r h c => ?_) (Cert.GnormReferenceIdeal.Value.run m' g')
    refine ⟨(h c).1.trans ((Cert.GnormReferenceIdeal.Read.val_main_v41_eq m' c).trans ?_),
      (h c).2.1.trans ((Cert.GnormReferenceIdeal.Read.val_main_v43_eq m' c).trans ?_),
      (h c).2.2.1.trans ((Cert.GnormReferenceIdeal.Read.val_main_v46_eq _ _ _).trans ?_), (h c).2.2.2⟩
    all_goals simp only [(hagree c).1, (hagree c).2.1, (hagree c).2.2.1, (hagree c).2.2.2]

end Cert.Gnorm

end
-- ==== Proof.DactValue.lean ====
/- What the gradient of a gated unit's two projections leaves in its two results. -/
module

public import proofs.«01_k».proof.Proof.Gen.DactKernelIdeal.Value
public import proofs.«01_k».proof.Proof.Common
public import proofs.«01_k».proof.Proof.Norm
public import proofs.«01_k».proof.Defs
public import proofs.«01_k».proof.Proof.Gen.DactReferenceIdeal.Run
public import proofs.«01_k».proof.Proof.Gen.DactReferenceIdeal.Read
public import Idealize.ShloMosaic.Lib.Tactic

@[expose] public section

set_option maxRecDepth 16384

noncomputable section

namespace Cert.DactKernelIdeal.Value

open Cert.DactKernelIdeal Cert.DactKernelIdeal.Gen Idealize.ShloMosaic Idealize.ShloMosaic.TcCoe Idealize.SL.Sem
open Idealize.ShloMosaic.Pipeline (Dat)
open Cert.Common Cert.Norm

/-- The gradients of the gate and of the up projection, from the unit's. -/
def gateOf (g a b : ℝ) : ℝ := g * b * (sg a * (1 + a * (1 - sg a)))
def upOf (g a : ℝ) : ℝ := g * a * sg a

section Tile
variable {x0 : Vec Ideal S4096x1024 .bf16} {x1 : Vec Ideal S256x1024 .bf16} {x2 x3 : Vec Ideal S4096x256 .bf16} {G A B : Fin 4096 → Fin 256 → ℝ}

/-- A tile's gate and up projection are real, and so is the product of its gradient with the weights. -/
structure Tile (x0 : Vec Ideal S4096x1024 .bf16) (x1 : Vec Ideal S256x1024 .bf16) (x2 x3 : Vec Ideal S4096x256 .bf16) (G A B : Fin 4096 → Fin 256 → ℝ) : Prop where
  g : ∀ i l, k0_pay1 x0 x1 (ix2 i l) = ((G i l : ℝ) : EReal)
  a : ∀ i l, x2 (ix2 i l) = ((A i l : ℝ) : EReal)
  b : ∀ i l, x3 (ix2 i l) = ((B i l : ℝ) : EReal)

variable (H : Tile x0 x1 x2 x3 G A B) (i : Fin 4096) (l : Fin 256)
include H

theorem sg_at : k0_pay3 x2 (ix2 i l) = ((sg (A i l) : ℝ) : EReal) := by
  pointwise [k0_pay3, k0_pay2, H.a]
  exact logistic_coe _

theorem up_at : k0_pay4 x0 x1 x2 (ix2 i l) = ((upOf (G i l) (A i l) : ℝ) : EReal) := by
  pointwise [k0_pay4, k0_pay2, sg_at H, H.g, H.a]
  simp only [mul_coe]
  rfl

theorem gate_at : k0_pay5 x0 x1 x2 x3 (ix2 i l) = ((gateOf (G i l) (A i l) (B i l) : ℝ) : EReal) := by
  pointwise [k0_pay5, k0_pay2, sg_at H, H.g, H.a, H.b, ofBits_1]
  simp only [mul_coe, sub_coe, add_coe]
  rfl
end Tile

theorem out4 (x0 : Vec Ideal S4096x1024 .bf16) (x1 : Vec Ideal S256x1024 .bf16) (x2 x3 : Vec Ideal S4096x256 .bf16) : out0_4 x0 x1 x2 x3 = k0_pay5 x0 x1 x2 x3 := by
  frame_out
theorem out5 (x0 : Vec Ideal S4096x1024 .bf16) (x1 : Vec Ideal S256x1024 .bf16) (x2 x3 : Vec Ideal S4096x256 .bf16) : out0_5 x0 x1 x2 x3 = k0_pay4 x0 x1 x2 := by
  frame_out

/-! ## The reference over real arguments -/

section Whole
variable {x0 : FVec Ideal S8192x1024 .bf16} {x1 : FVec Ideal S2816x1024 .f32} {x2 x3 : FVec Ideal S8192x2816 .bf16} {G A B : Fin 8192 → Fin 2816 → ℝ}

structure Whole (x0 : FVec Ideal S8192x1024 .bf16) (x1 : FVec Ideal S2816x1024 .f32) (x2 x3 : FVec Ideal S8192x2816 .bf16) (G A B : Fin 8192 → Fin 2816 → ℝ) : Prop where
  g : ∀ i l, ∑ k, x0 (ix2 i k) * x1 (ix2 l k) = ((G i l : ℝ) : EReal)
  a : ∀ i l, x2 (ix2 i l) = ((A i l : ℝ) : EReal)
  b : ∀ i l, x3 (ix2 i l) = ((B i l : ℝ) : EReal)

variable (H : Whole x0 x1 x2 x3 G A B) (i : Fin 8192) (l : Fin 2816)
include H
open Cert.DactReferenceIdeal.Read

theorem v6_at : val_main_v6 (F := Ideal) x0 x1 (ix2 i l) = ((G i l : ℝ) : EReal) := by
  rw [← H.g]
  pointwise [val_main_v6, val_main_v5]

theorem s_at : val_main_v2_2 (F := Ideal) x2 (ix2 i l) = ((sg (A i l) : ℝ) : EReal) := by
  pointwise [val_main_v2_2, val_main_call0_v4, val_main_call0_v3, val_main_call0_v2, val_main_call0_v1, val_main_call0_v0, val_main_call0_cst, val_main_call0_cst_0, val_main_v0, H.a, ofBits_1]
  exact logistic_coe' _

theorem ref_gate : val_main_v10 (F := Ideal) x0 x1 x2 x3 (ix2 i l) = ((gateOf (G i l) (A i l) (B i l) : ℝ) : EReal) := by
  pointwise [val_main_v10, val_main_v9, val_main_call1_v2, val_main_call1_v1, val_main_call1_v0, val_main_v8, val_main_v2_1, val_main_call0_v7, val_main_call0_v6, val_main_call0_cst_1, val_main_v1, val_main_v0, s_at H, v6_at H, H.a, H.b, ofBits_1]
  simp only [mul_coe, sub_coe, add_coe]
  exact congrArg _ (by unfold gateOf; ring)

theorem ref_up : val_main_v11 (F := Ideal) x0 x1 x2 (ix2 i l) = ((upOf (G i l) (A i l) : ℝ) : EReal) := by
  pointwise [val_main_v11, val_main_v7, val_main_v2_0, val_main_v0, s_at H, v6_at H, H.a]
  simp only [mul_coe]
  exact congrArg _ (by unfold upOf; ring)
end Whole

/-! ## The two results -/

abbrev row (t : Fin cfg0.N) (i : Fin 4096) : Fin 8192 := ⟨4096 * (t.val / 11) + i.val, by have := t.isLt; have hN : cfg0.N = 22 := N_0; omega⟩
abbrev lane (t : Fin cfg0.N) (l : Fin 256) : Fin 2816 := ⟨256 * (t.val % 11) + l.val, by omega⟩

theorem idx : ∀ t : Fin cfg0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11] :=
  (by decide +kernel : ∀ t : Fin grid0.N, _)

variable (m : (ℓ : Loc nD τ sig) → Buf (Elt Ideal) ℓ) (ρ : Dev nD → PrngReg)

theorem padded_at (w : FVec Ideal S2816x1024 .f32) (k : Fin 2816) (l : Fin 1024) : (truncf .bf16 (pad S2816x1024 ![0, 0] ![0, 0] ![0, 0] w (sitofp .f32 (constantI S_ 32 0#32)) pads_S2816x1024_S2816x1024_000_000 h_S_) bitsLt_bf16_f32 : FVec Ideal S2816x1024 .bf16) (ix2 k l) = w (ix2 k l) := by
  pointwise

theorem V_w (c : Dev nD) (k : Fin 2816) (l : Fin 1024) : V m c main_v1 (ix2 k l) = m (c, Proc.tc.devRef main_arg1) (ix2 k l) := by
  have e : V m c main_v1 = (truncf .bf16 (pad S2816x1024 ![0, 0] ![0, 0] ![0, 0] (m (c, Proc.tc.devRef main_arg1) : FVec Ideal S2816x1024 .f32) (sitofp .f32 (constantI S_ 32 0#32)) pads_S2816x1024_S2816x1024_000_000 h_S_) bitsLt_bf16_f32 : FVec Ideal S2816x1024 .bf16) := by
    simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  rw [e]
  exact padded_at _ k l

section
variable (c : Dev nD) {G A B : Fin 8192 → Fin 2816 → ℝ} (H : Whole (m ((c : Thread nD τ).loc main_arg0)) (m ((c : Thread nD τ).loc main_arg1)) (m ((c : Thread nD τ).loc main_arg2)) (m ((c : Thread nD τ).loc main_arg3)) G A B)
include H

/-- The blocks of a grid point are real. -/
theorem tile (t : Fin cfg0.N) : Tile (iblk m c 0 t) (iblk m c 1 t) (iblk m c 2 t) (iblk m c 3 t) (fun i l => G (row t i) (lane t l)) (fun i l => A (row t i) (lane t l)) (fun i l => B (row t i) (lane t l)) := by
  refine ⟨fun i l => ?_, fun i l => ?_, fun i l => ?_⟩
  · rw [← H.g]
    pointwise [k0_pay1]
    refine Finset.sum_congr rfl fun k _ => congrArg₂ (· * ·) ?_ ?_
    · blk_point [iblk, V, idx t]
    · show V m c main_v1 ((win0_1.blk t).view.emb (ix2 l k)) = _
      rw [show (win0_1.blk t).view.emb (ix2 l k) = ix2 (lane t l) k from by blk_ext [idx t], V_w]
  · rw [← H.a]; blk_point [iblk, V, idx t]
  · rw [← H.b]; blk_point [iblk, V, idx t]

theorem final4 : (dats m 0 c).arrAt 4 cfg0.N = Cert.DactReferenceIdeal.Read.val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, l, rfl⟩ : ∃ (i : Fin 4096) (l : Fin 256), y = ix2 i l := ⟨y 0, y 1, Shape.idx_ext₂ rfl rfl⟩
  rw [show (win0_4.blk t).view.emb (ix2 i l) = ix2 (row t i) (lane t l) from by blk_ext [idx t], ref_gate H, out4, gate_at (tile m c H t)]

theorem final5 : (dats m 0 c).arrAt 5 cfg0.N = Cert.DactReferenceIdeal.Read.val_main_v11 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨i, l, rfl⟩ : ∃ (i : Fin 4096) (l : Fin 256), y = ix2 i l := ⟨y 0, y 1, Shape.idx_ext₂ rfl rfl⟩
  rw [show (win0_5.blk t).view.emb (ix2 i l) = ix2 (row t i) (lane t l) from by blk_ext [idx t], ref_up H, out5, up_at (tile m c H t)]
end

end Cert.DactKernelIdeal.Value

namespace Cert.Dact

open Cert.DactKernelIdeal Cert.DactKernelIdeal.Value Idealize.ShloMosaic Idealize.ShloMosaic.TcCoe Idealize.SL.Sem

/-- Under the precondition the arguments are real. -/
theorem holds [Cert.Pre_dact_finite.Facts] (x0 : FVec Ideal S8192x1024 .bf16) (x1 : FVec Ideal S2816x1024 .f32) (x2 x3 : FVec Ideal S8192x2816 .bf16)
    (h : Cert.Pre_dact_finite.fn (F := Ideal) x0 x1 x2 x3 = fun _ => 1#1) : ∃ G A B, Whole x0 x1 x2 x3 G A B := by
  have a0 (i : Fin 8192) (k : Fin 1024) : x0 (ix2 i k) = ((EReal.toReal (x0 (ix2 i k)) : ℝ) : EReal) := Sb.real _ (by
    have e := congrFun h (ix2 ⟨i.val, by omega⟩ ⟨k.val, by omega⟩)
    revert e
    pointwise [Cert.Pre_dact_finite.fn]
    exact id)
  have a1 (i : Fin 2816) (k : Fin 1024) : x1 (ix2 i k) = ((EReal.toReal (x1 (ix2 i k)) : ℝ) : EReal) := Sb.real _ (by
    have e := congrFun h (ix2 ⟨8192 + i.val, by omega⟩ ⟨k.val, by omega⟩)
    revert e
    pointwise [Cert.Pre_dact_finite.fn]
    exact id)
  have a2 (i : Fin 8192) (k : Fin 2816) : x2 (ix2 i k) = ((EReal.toReal (x2 (ix2 i k)) : ℝ) : EReal) := Sb.real _ (by
    have e := congrFun h (ix2 ⟨i.val, by omega⟩ ⟨1024 + k.val, by omega⟩)
    revert e
    pointwise [Cert.Pre_dact_finite.fn]
    exact id)
  have a3 (i : Fin 8192) (k : Fin 2816) : x3 (ix2 i k) = ((EReal.toReal (x3 (ix2 i k)) : ℝ) : EReal) := Sb.real _ (by
    have e := congrFun h (ix2 ⟨i.val, by omega⟩ ⟨3840 + k.val, by omega⟩)
    revert e
    pointwise [Cert.Pre_dact_finite.fn]
    intro e
    rw [dif_neg (by omega), dif_neg (by omega)] at e
    rwa [show (⟨3840 + k.val - 1024 - 2816, by omega⟩ : Fin 2816) = k from Fin.ext (by dsimp only; omega)] at e)
  obtain ⟨D, a0⟩ : ∃ A : Fin 8192 → Fin 1024 → ℝ, ∀ i k, x0 (ix2 i k) = ((A i k : ℝ) : EReal) := ⟨_, a0⟩
  obtain ⟨W, a1⟩ : ∃ A : Fin 2816 → Fin 1024 → ℝ, ∀ i k, x1 (ix2 i k) = ((A i k : ℝ) : EReal) := ⟨_, a1⟩
  exact ⟨fun i l => ∑ k, D i k * W l k, _, _, ⟨fun i l => by simp only [a0, a1, Norm.mul_coe, Norm.sum_coe], a2, a3⟩⟩

/-- The kernel's two results are the reference's. -/
theorem algebraic [Cert.Pre_dact_finite.Facts] : Cert.algebraic_DactKernelIdeal_DactReferenceIdeal_pre_dact_finite := by
  intro m g m' g' hpre hagree
  refine ⟨fun c => Cert.DactReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg3)),
    fun c => Cert.DactReferenceIdeal.Read.val_main_v11 (F := Ideal) (m ((c.tc : Thread nD τ).loc main_arg0)) (m ((c.tc : Thread nD τ).loc main_arg1)) (m ((c.tc : Thread nD τ).loc main_arg2)), ?_, ?_⟩
  · refine (θ_run defs _ _).mono (fun r h c => ?_) (Cert.DactKernelIdeal.Value.run_blocks m g)
    obtain ⟨G, A, B, H⟩ := holds _ _ _ _ (hpre c)
    exact ⟨(h c).1.trans (final4 m c H), (h c).2.1.trans (final5 m c H), (h c).2.2⟩
  · refine (θ_run Cert.DactReferenceIdeal.defs _ _).mono (fun r h c => ?_) (Cert.DactReferenceIdeal.Value.run m' g')
    refine ⟨(h c).1.trans ((Cert.DactReferenceIdeal.Read.val_main_v10_eq _ _ _ _).trans ?_),
      (h c).2.1.trans ((Cert.DactReferenceIdeal.Read.val_main_v11_eq _ _ _).trans ?_), (h c).2.2⟩
    all_goals simp only [(hagree c).1, (hagree c).2.1, (hagree c).2.2.1, (hagree c).2.2.2]

end Cert.Dact

end
-- ==== Proof.DgffnValue.lean ====
/- What the gradient of a modulated norm under two projections leaves in its two results. -/
module

public import proofs.«01_k».proof.Proof.Gen.DgffnKernelIdeal.Value
public import proofs.«01_k».proof.Proof.Common
public import proofs.«01_k».proof.Proof.Norm
public import proofs.«01_k».proof.Defs
public import proofs.«01_k».proof.Proof.Gen.DgffnReferenceIdeal.Run
public import proofs.«01_k».proof.Proof.Gen.DgffnReferenceIdeal.Read
public import Idealize.ShloMosaic.Lib.Tactic

@[expose] public section

set_option maxRecDepth 16384

noncomputable section

namespace Cert.DgffnKernelIdeal.Value

open Cert.DgffnKernelIdeal Cert.DgffnKernelIdeal.Gen Idealize.ShloMosaic Idealize.ShloMosaic.TcCoe Idealize.SL.Sem
open Idealize.ShloMosaic.Pipeline (Dat)
open Cert.Common Cert.Norm

section Tile
variable {x0 : Vec Ideal S512x2816 .bf16} {x1 : Vec Ideal S512x2816 .bf16} {x2 : Vec Ideal S2816x1024 .bf16} {x3 : Vec Ideal S2816x1024 .bf16} {x4 : Vec Ideal S512x1024 .f32} {x5 : Vec Ideal S1x1024 .f32} {x6 : Vec Ideal S1x1024 .f32} {x7 : Vec Ideal S512x1024 .f32}
  {X P E : Fin 512 → Fin 1024 → ℝ} {G SC : Fin 1024 → ℝ}

/-- A tile's arguments are real, and so is the product of its gradients with the weights. -/
structure Tile (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S1x1024 .f32) (x7 : Vec Ideal S512x1024 .f32)
    (X P : Fin 512 → Fin 1024 → ℝ) (G SC : Fin 1024 → ℝ) : Prop where
  p : ∀ i l, k0_pay6 x0 x2 x1 x3 (ix2 i l) = ((P i l : ℝ) : EReal)
  h : ∀ i l, x4 (ix2 i l) = ((X i l : ℝ) : EReal)
  g : ∀ l, x5 (ix2 0 l) = ((G l : ℝ) : EReal)
  sc : ∀ l, x6 (ix2 0 l) = ((SC l : ℝ) : EReal)

variable (H : Tile x0 x1 x2 x3 x4 x5 x6 x7 X P G SC) (i : Fin 512) (l : Fin 1024)
include H

theorem inv_at : k0_pay8 x4 (ix2 i 0) = ((inv 1024 (X i) : ℝ) : EReal) := by
  pointwise [k0_pay8, H.h, ofBits_1024, ofBits_eps]
  simp only [mul_coe, sum_coe, div_1024, add_coe]
  exact inv_coe (by norm_num)

theorem xn_at : k0_pay9 x4 (ix2 i l) = ((X i l * inv 1024 (X i) : ℝ) : EReal) := by
  pointwise [k0_pay9, inv_at H, H.h]
  simp only [mul_coe]

theorem psc_at : k0_pay10 x0 x2 x1 x3 x6 (ix2 i l) = ((P i l * (1 + SC l) : ℝ) : EReal) := by
  pointwise [k0_pay10, H.p, H.sc, ofBits_1]
  simp only [mul_coe, add_coe]

theorem u_at : k0_pay11 x0 x2 x1 x3 x5 x6 (ix2 i l) = ((modU (P i) G SC l : ℝ) : EReal) := by
  pointwise [k0_pay11, k0_pay7, psc_at H, H.g]
  simp only [mul_coe]
  rfl

theorem dh_at : k0_pay1 (k0_pay8 x4) (k0_pay9 x4) (k0_pay11 x0 x2 x1 x3 x5 x6) x7 (k0_pay12 x0 x2 x1 x3 x4 x5 x6) (ix2 i l) = x7 (ix2 i l) + ((grad 1024 (X i) (modU (P i) G SC) l : ℝ) : EReal) := by
  pointwise [k0_pay1, k0_pay12, inv_at H, xn_at H, u_at H, ofBits_1024]
  simp only [mul_coe, sub_coe, sum_coe, div_1024]
  rfl

/-- The statistics' three terms of a tile. -/
theorem row0_at (z : Vec Ideal S1x1024 .f32) : k0_pay3 (k0_pay9 x4) (k0_pay10 x0 x2 x1 x3 x6) z (ix2 0 l) = z (ix2 0 l) + ∑ i, ((modSt (X i) (P i) G SC l 0 : ℝ) : EReal) := by
  pointwise [k0_pay3, xn_at H, psc_at H]
  simp only [mul_coe]
  rfl
theorem row1_at (z : Vec Ideal S1x1024 .f32) : k0_pay4 (k0_pay6 x0 x2 x1 x3) z (ix2 0 l) = z (ix2 0 l) + ∑ i, ((modSt (X i) (P i) G SC l 1 : ℝ) : EReal) := by
  pointwise [k0_pay4, H.p]
  rfl
theorem row2_at (z : Vec Ideal S1x1024 .f32) : k0_pay5 (k0_pay6 x0 x2 x1 x3) (k0_pay7 x5) (k0_pay9 x4) z (ix2 0 l) = z (ix2 0 l) + ∑ i, ((modSt (X i) (P i) G SC l 2 : ℝ) : EReal) := by
  pointwise [k0_pay5, k0_pay7, xn_at H, H.p, H.g]
  simp only [mul_coe]
  rfl
end Tile

theorem zero_at (r : Fin 8) (l : Fin 1024) : k0_pay2 (F := Ideal) (ix2 r l) = 0 := by
  pointwise [k0_pay2]

theorem outA8 (c : Dev nD) (i : grid0.Coords) (a1 : Memref sig .tc .vmem S512x2816 .bf16) (h1 : a1.IsWhole) (a2 : Memref sig .tc .vmem S512x2816 .bf16) (h2 : a2.IsWhole) (a3 : Memref sig .tc .vmem S2816x1024 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S8x1024 .f32) (h10 : a10.IsWhole) (hc0 : cond0_0 i) (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S1x1024 .f32) (x7 : Vec Ideal S512x1024 .f32) :
    out0_A_8 c i a1 h1 a2 h2 a3 h3 a4 h4 a5 h5 a6 h6 a7 h7 a8 h8 a9 h9 a10 h10 hc0 x0 x1 x2 x3 x4 x5 x6 x7 = k0_pay1 (k0_pay8 x4) (k0_pay9 x4) (k0_pay11 x0 x2 x1 x3 x5 x6) x7 (k0_pay12 x0 x2 x1 x3 x4 x5 x6) := by
  frame_out

theorem outB8 (c : Dev nD) (i : grid0.Coords) (a1 : Memref sig .tc .vmem S512x2816 .bf16) (h1 : a1.IsWhole) (a2 : Memref sig .tc .vmem S512x2816 .bf16) (h2 : a2.IsWhole) (a3 : Memref sig .tc .vmem S2816x1024 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S8x1024 .f32) (h10 : a10.IsWhole) (hc0 : ¬ cond0_0 i) (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S1x1024 .f32) (x7 : Vec Ideal S512x1024 .f32) (xo : Vec Ideal S8x1024 .f32) :
    out0_B_8 c i a1 h1 a2 h2 a3 h3 a4 h4 a5 h5 a6 h6 a7 h7 a8 h8 a9 h9 a10 h10 hc0 x0 x1 x2 x3 x4 x5 x6 x7 xo = k0_pay1 (k0_pay8 x4) (k0_pay9 x4) (k0_pay11 x0 x2 x1 x3 x5 x6) x7 (k0_pay12 x0 x2 x1 x3 x4 x5 x6) := by
  frame_out

section
variable {X P : Fin 512 → Fin 1024 → ℝ} {G SC : Fin 1024 → ℝ}

/-- The first point's statistics. -/
theorem outA9 (c : Dev nD) (i : grid0.Coords) (a1 : Memref sig .tc .vmem S512x2816 .bf16) (h1 : a1.IsWhole) (a2 : Memref sig .tc .vmem S512x2816 .bf16) (h2 : a2.IsWhole) (a3 : Memref sig .tc .vmem S2816x1024 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S8x1024 .f32) (h10 : a10.IsWhole) (hc0 : cond0_0 i) (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S1x1024 .f32) (x7 : Vec Ideal S512x1024 .f32) (H : Tile x0 x1 x2 x3 x4 x5 x6 x7 X P G SC) (r : Fin 8) (l : Fin 1024) :
    out0_A_9 c i a1 h1 a2 h2 a3 h3 a4 h4 a5 h5 a6 h6 a7 h7 a8 h8 a9 h9 a10 h10 hc0 x0 x1 x2 x3 x4 x5 x6 x7 (ix2 r l) = ∑ i, ((modSt (X i) (P i) G SC l r.val : ℝ) : EReal) := by
  unfold out0_A_9
  unfold kernelRun0_A
  dsimp only
  sl_unfold_words
  rw [read_row, read_row, read_row, read_whole, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz)]
  split
  · next h => rw [row2_at H, readCov_row (R := 8) (D := 1024) a10.view _ 2 (by decide), read_row, read_row, read_whole, if_neg (by decide), if_neg (by decide), zero_at, zero_add, h]
  split
  · next h => rw [row1_at H, readCov_row (R := 8) (D := 1024) a10.view _ 1 (by decide), read_row, read_whole, if_neg (by decide), zero_at, zero_add, h]
  split
  · next h => rw [row0_at H, readCov_row (R := 8) (D := 1024) a10.view _ 0 (by decide), read_whole, zero_at, zero_add, h]
  simp only [zero_at, modSt_rest _ _ _ _ l r.val (by omega), EReal.coe_zero, Finset.sum_const_zero, add_zero]

/-- A later point's statistics, over what the point before left. -/
theorem outB9 (c : Dev nD) (i : grid0.Coords) (a1 : Memref sig .tc .vmem S512x2816 .bf16) (h1 : a1.IsWhole) (a2 : Memref sig .tc .vmem S512x2816 .bf16) (h2 : a2.IsWhole) (a3 : Memref sig .tc .vmem S2816x1024 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S8x1024 .f32) (h10 : a10.IsWhole) (hc0 : ¬ cond0_0 i) (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S1x1024 .f32) (x7 : Vec Ideal S512x1024 .f32) (xo : Vec Ideal S8x1024 .f32) (H : Tile x0 x1 x2 x3 x4 x5 x6 x7 X P G SC) (r : Fin 8) (l : Fin 1024) :
    out0_B_9 c i a1 h1 a2 h2 a3 h3 a4 h4 a5 h5 a6 h6 a7 h7 a8 h8 a9 h9 a10 h10 hc0 x0 x1 x2 x3 x4 x5 x6 x7 xo (ix2 r l) = xo (ix2 r l) + ∑ i, ((modSt (X i) (P i) G SC l r.val : ℝ) : EReal) := by
  unfold out0_B_9
  unfold kernelRun0_B
  dsimp only
  sl_unfold_words
  rw [read_row, read_row, read_row, View.writes_nil, h10.read_unread, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz)]
  split
  · next h => rw [row2_at H, readAt_row (R := 8) (D := 1024) a10.view _ 2 (by decide), h10.read_unread, show r = ⟨2, by decide⟩ from Fin.ext h]
  split
  · next h => rw [row1_at H, readAt_row (R := 8) (D := 1024) a10.view _ 1 (by decide), h10.read_unread, show r = ⟨1, by decide⟩ from Fin.ext h]
  split
  · next h => rw [row0_at H, readAt_row (R := 8) (D := 1024) a10.view _ 0 (by decide), h10.read_unread, show r = ⟨0, by decide⟩ from Fin.ext h]
  simp only [zero_at, modSt_rest _ _ _ _ l r.val (by omega), EReal.coe_zero, Finset.sum_const_zero, add_zero]

end

/-! ## The reference over real arguments -/

section Whole
variable {x0 : Vec Ideal S8192x2816 .bf16} {x1 : Vec Ideal S8192x2816 .bf16} {x2 : Vec Ideal S1024x2816 .f32} {x3 : Vec Ideal S1024x2816 .f32} {x4 : Vec Ideal S8192x1024 .f32} {x5 : Vec Ideal S1024 .f32} {x6 : Vec Ideal S1x1024 .f32} {x7 : Vec Ideal S8192x1024 .f32}
  {X P : Fin 8192 → Fin 1024 → ℝ} {G SC : Fin 1024 → ℝ}

/-- The arguments are real, and so is the product of the gradients with the weights. -/
structure Whole (x0 : Vec Ideal S8192x2816 .bf16) (x1 : Vec Ideal S8192x2816 .bf16) (x2 : Vec Ideal S1024x2816 .f32) (x3 : Vec Ideal S1024x2816 .f32) (x4 : Vec Ideal S8192x1024 .f32) (x5 : Vec Ideal S1024 .f32) (x6 : Vec Ideal S1x1024 .f32) (x7 : Vec Ideal S8192x1024 .f32)
    (X P : Fin 8192 → Fin 1024 → ℝ) (G SC : Fin 1024 → ℝ) : Prop where
  p : ∀ i l, (∑ k, x0 (ix2 i k) * x2 (ix2 l k)) + (∑ k, x1 (ix2 i k) * x3 (ix2 l k)) = ((P i l : ℝ) : EReal)
  h : ∀ i l, x4 (ix2 i l) = ((X i l : ℝ) : EReal)
  g : ∀ l, x5 (ix1 l) = ((G l : ℝ) : EReal)
  sc : ∀ l, x6 (ix2 0 l) = ((SC l : ℝ) : EReal)

variable (H : Whole x0 x1 x2 x3 x4 x5 x6 x7 X P G SC) (i : Fin 8192) (l : Fin 1024)
include H
open Cert.DgffnReferenceIdeal.Read

theorem vp_at : val_main_v29 (F := Ideal) x0 x1 x2 x3 (ix2 i l) = ((P i l : ℝ) : EReal) := by
  rw [← H.p, add_comm]
  pointwise [val_main_v29, val_main_v28, val_main_v27, val_main_v26, val_main_v25]

theorem v7_at : val_main_v7 (F := Ideal) x4 (ix2 i 0) = ((ms 1024 (X i) : ℝ) : EReal) := by
  pointwise [val_main_v7, val_main_v6, val_main_v5, val_main_v4, val_main_v3, val_main_v2, val_main_v1, val_main_cst_0, val_main_cst_1, val_main_cst_2, H.h, ofBits_1024, ofBits_eps]
  simp only [mul_coe, sum_coe, div_1024, add_coe]
  rfl

theorem v8_at : val_main_v8 (F := Ideal) x4 (ix2 i 0) = ((inv 1024 (X i) : ℝ) : EReal) := by
  pointwise [val_main_v8, v7_at H]
  exact inv_coe (by norm_num)

theorem v11_at (z : Fin 1) : val_main_v11 (F := Ideal) x4 (ix2 i z) = ((-1 / 2 * (inv 1024 (X i) / ms 1024 (X i)) : ℝ) : EReal) := by
  obtain rfl : z = 0 := Subsingleton.elim _ _
  pointwise [val_main_v11, val_main_v10, val_main_v9, val_main_cst_3, v7_at H, v8_at H, ofBits_neg_half]
  rw [div_coe _ _ (ms_pos (by norm_num)).ne', mul_coe]

theorem v36_at : val_main_v36 (F := Ideal) x0 x1 x2 x3 x6 (ix2 i l) = ((P i l * (1 + SC l) : ℝ) : EReal) := by
  pointwise [val_main_v36, val_main_v35, val_main_v18, val_main_v17, val_main_cst_4, vp_at H, H.sc, ofBits_1]
  simp only [mul_coe, add_coe]

theorem v41_at : val_main_v41 (F := Ideal) x0 x1 x2 x3 x5 x6 (ix2 i l) = ((modU (P i) G SC l : ℝ) : EReal) := by
  pointwise [val_main_v41, val_main_v40, val_main_v14, v36_at H, H.g]
  simp only [mul_coe]
  rfl

theorem v53_at : val_main_v53 (F := Ideal) x0 x1 x2 x3 x4 x5 x6 (ix2 i l) = ((gradMs 1024 (X i) (modU (P i) G SC) : ℝ) : EReal) := by
  pointwise [val_main_v53, val_main_v52, val_main_v51, val_main_v50, val_main_v49, val_main_v45, val_main_v44, val_main_v43, val_main_cst_9, val_main_cst_10, val_main_cst_11, v41_at H, H.h, ofBits_1024]
  simp only [v11_at H, Fin.sum_univ_one, mul_coe, sum_coe, div_1024]
  rfl

theorem ref_dh : val_main_v57 (F := Ideal) x0 x1 x2 x3 x4 x5 x6 x7 (ix2 i l) = x7 (ix2 i l) + ((grad 1024 (X i) (modU (P i) G SC) l : ℝ) : EReal) := by
  pointwise [val_main_v57, val_main_v56, val_main_v55, val_main_v54, val_main_v48, val_main_v47, val_main_v46, v41_at H, v53_at H, v8_at H, H.h]
  simp only [mul_coe]
  rw [add_assoc, add_assoc]
  simp only [add_coe]
  rw [grad_eq (by norm_num), mul_comm (X i l)]

theorem ref_st (r : Fin 8) : val_main_v60 (F := Ideal) x0 x1 x2 x3 x4 x5 x6 (ix2 r l) = ∑ i, ((modSt (X i) (P i) G SC l r.val : ℝ) : EReal) := by
  unfold modSt
  obtain rfl | rfl | rfl | h : r = 0 ∨ r = 1 ∨ r = 2 ∨ 3 ≤ r.val := by omega
  · pointwise [val_main_v60, val_main_v59, val_main_v58, val_main_v42, val_main_v39, val_main_v38, val_main_v37, val_main_v34, val_main_v33, val_main_v32, val_main_v31, val_main_v30, val_main_cst_5, val_main_cst_6, val_main_cst_7, val_main_cst_8, val_main_cst_12, val_main_v16, val_main_v15, val_main_v14, val_main_v13, val_main_v12, v8_at H, vp_at H, v36_at H, H.h, H.g]
    simp only [Fin.sum_univ_one, mul_coe, mul_comm]
  · pointwise [val_main_v60, val_main_v59, val_main_v58, val_main_v42, val_main_v39, val_main_v38, val_main_v37, val_main_v34, val_main_v33, val_main_v32, val_main_v31, val_main_v30, val_main_cst_5, val_main_cst_6, val_main_cst_7, val_main_cst_8, val_main_cst_12, val_main_v16, val_main_v15, val_main_v14, val_main_v13, val_main_v12, v8_at H, vp_at H, v36_at H, H.h, H.g]
  · pointwise [val_main_v60, val_main_v59, val_main_v58, val_main_v42, val_main_v39, val_main_v38, val_main_v37, val_main_v34, val_main_v33, val_main_v32, val_main_v31, val_main_v30, val_main_cst_5, val_main_cst_6, val_main_cst_7, val_main_cst_8, val_main_cst_12, val_main_v16, val_main_v15, val_main_v14, val_main_v13, val_main_v12, v8_at H, vp_at H, v36_at H, H.h, H.g]
    simp only [mul_coe, mul_comm]
  · pointwise [val_main_v60, val_main_v59, val_main_v58, val_main_v42, val_main_v39, val_main_v38, val_main_v37, val_main_v34, val_main_v33, val_main_v32, val_main_v31, val_main_v30, val_main_cst_5, val_main_cst_6, val_main_cst_7, val_main_cst_8, val_main_cst_12, val_main_v16, val_main_v15, val_main_v14, val_main_v13, val_main_v12, v8_at H, vp_at H, v36_at H, H.h, H.g]
    simp only [if_neg (show ¬r.val = 2 by omega), if_neg (show ¬r.val = 1 by omega), if_neg (show ¬r.val = 0 by omega),
      EReal.coe_zero, Finset.sum_const_zero]
    rw [dif_neg (by omega), dif_neg (by omega), dif_neg (by omega)]
end Whole

/-! ## The two results -/

/-- The row of the whole a tile's row is. -/
abbrev row (t : Fin cfg0.N) (i : Fin 512) : Fin 8192 := ⟨512 * t.val + i.val, by have := t.isLt; have hN : cfg0.N = 16 := N_0; omega⟩

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] ∧ win0_7.index t = ![t.val, 0] ∧ win0_8.index t = ![t.val, 0] ∧ win0_9.index t = ![0, 0] :=
  (by decide +kernel : ∀ t : Fin grid0.N, _)

variable (m : (ℓ : Loc nD τ sig) → Buf (Elt Ideal) ℓ) (ρ : Dev nD → PrngReg)

theorem V_gain (c : Dev nD) : V m c main_v6 = shapeCast S1x1024 (m (c, Proc.tc.devRef main_arg5)) shapeCasts_S1024_S1x1024 := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl
theorem V_wg (c : Dev nD) (k : Fin 2816) (l : Fin 1024) : V m c main_v2 (ix2 k l) = m (c, Proc.tc.devRef main_arg2) (ix2 l k) := by
  have e : V m c main_v2 = (truncf .bf16 (pad S2816x1024 ![0, 0] ![0, 0] ![0, 0] (transpose S2816x1024 [1, 0] (m (c, Proc.tc.devRef main_arg2) : FVec Ideal S1024x2816 .f32) transposes_S1024x2816_S2816x1024_1_0) (sitofp .f32 (constantI S_ 32 0#32)) pads_S2816x1024_S2816x1024_000_000 h_S_) bitsLt_bf16_f32 : FVec Ideal S2816x1024 .bf16) := by
    simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp

  rw [e]
  pointwise
theorem V_wu (c : Dev nD) (k : Fin 2816) (l : Fin 1024) : V m c main_v5 (ix2 k l) = m (c, Proc.tc.devRef main_arg3) (ix2 l k) := by
  have e : V m c main_v5 = (truncf .bf16 (pad S2816x1024 ![0, 0] ![0, 0] ![0, 0] (transpose S2816x1024 [1, 0] (m (c, Proc.tc.devRef main_arg3) : FVec Ideal S1024x2816 .f32) transposes_S1024x2816_S2816x1024_1_0) (sitofp .f32 (constantI S_ 32 0#32)) pads_S2816x1024_S2816x1024_000_000 h_S_) bitsLt_bf16_f32 : FVec Ideal S2816x1024 .bf16) := by
    simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp

  rw [e]
  pointwise

section
variable (c : Dev nD) {X P : Fin 8192 → Fin 1024 → ℝ} {G SC : Fin 1024 → ℝ} (H : Whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) X P G SC)
include H

/-- The blocks of a grid point are real. -/
theorem tile (t : Fin cfg0.N) : Tile (iblk m c 0 t) (iblk m c 1 t) (iblk m c 2 t) (iblk m c 3 t) (iblk m c 4 t) (iblk m c 5 t) (iblk m c 6 t) (iblk m c 7 t) (fun i => X (row t i)) (fun i => P (row t i)) G SC := by
  refine ⟨fun i l => ?_, fun i l => ?_, fun l => ?_, fun l => ?_⟩
  · rw [← H.p]
    pointwise [k0_pay6]
    refine congrArg₂ (· + ·) (Finset.sum_congr rfl fun k _ => congrArg₂ (· * ·) ?_ ?_) (Finset.sum_congr rfl fun k _ => congrArg₂ (· * ·) ?_ ?_)
    · blk_point [iblk, V, idx t]
    · show V m c main_v2 ((win0_2.blk t).view.emb (ix2 k l)) = _
      rw [show (win0_2.blk t).view.emb (ix2 k l) = ix2 k l from by blk_ext [idx t], V_wg]
    · blk_point [iblk, V, idx t]
    · show V m c main_v5 ((win0_3.blk t).view.emb (ix2 k l)) = _
      rw [show (win0_3.blk t).view.emb (ix2 k l) = ix2 k l from by blk_ext [idx t], V_wu]
  · rw [← H.h]; blk_point [iblk, V, idx t]
  · rw [← H.g];
    show V m c main_v6 ((win0_5.blk t).view.emb (ix2 0 l)) = _
    rw [V_gain, show (win0_5.blk t).view.emb (ix2 0 l) = ix2 0 l from by blk_ext [idx t]]
    pointwise
  · rw [← H.sc]; blk_point [iblk, V, idx t]

theorem final8 : (dats m 0 c).arrAt 8 cfg0.N = Cert.DgffnReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  obtain ⟨i, l, rfl⟩ : ∃ (i : Fin 512) (l : Fin 1024), y = ix2 i l := ⟨y 0, y 1, Shape.idx_ext₂ rfl rfl⟩
  rw [show (win0_8.blk t).view.emb (ix2 i l) = ix2 (row t i) l from by blk_ext [idx t], ref_dh H]
  have e : iblk m c 7 t (ix2 i l) = m ((c : Thread nD τ).loc main_arg7) (ix2 (row t i) l) := by blk_point [iblk, V, idx t]
  rw [← e]
  by_cases h0 : t.val % 16 = 0
  · rw [outsAt0_A m c t h0]
    dsimp only
    rw [outA8, dh_at (tile m c H t)]
  · rw [outsAt0_B m c t h0]
    dsimp only
    rw [outB8, dh_at (tile m c H t)]

/-- The statistics after the last point. -/
theorem stat (t : Fin cfg0.N) (ht : t.val + 1 = cfg0.N) (r : Fin 8) (l : Fin 1024) :
    (outsAt0 m c t.val t.isLt).2 (ix2 r l) = ∑ i : Fin 8192, ((modSt (X i) (P i) G SC l r.val : ℝ) : EReal) := by
  refine acc_last 16 (fun n h => (outsAt0 m c n h).2 (ix2 r l)) (fun t k => ((modSt (X (row t k)) (P (row t k)) G SC l r.val : ℝ) : EReal)) _
    (fun t h0 => ?_) (fun t h0 => ?_) (le_of_eq N_0) (by rw [show cfg0.N = 16 from N_0]) (fun _ _ _ => rfl) t ht
  · show (outsAt0 m c t.val t.isLt).2 (ix2 r l) = _
    rw [outsAt0_A m c t h0]
    dsimp only
    rw [outA9 (H := tile m c H t)]
  · show (outsAt0 m c t.val t.isLt).2 (ix2 r l) = _
    rw [outsAt0_B m c t h0]
    dsimp only
    rw [outB9 (H := tile m c H t)]

theorem final9 : (dats m 0 c).arrAt 9 cfg0.N = Cert.DgffnReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht : t.val + 1 = cfg0.N := by
    have := (flush0_9 t).mp hf; have := t.isLt; have hN : cfg0.N = 16 := N_0; omega
  blk_simp
  rw [after0_9]
  obtain ⟨r, l, rfl⟩ : ∃ (r : Fin 8) (l : Fin 1024), y = ix2 r l := ⟨y 0, y 1, Shape.idx_ext₂ rfl rfl⟩
  rw [show (win0_9.blk t).view.emb (ix2 r l) = ix2 r l from by blk_ext [idx t], ref_st H]
  exact stat m c H t ht r l
end

end Cert.DgffnKernelIdeal.Value

namespace Cert.Dgffn

open Cert.DgffnKernelIdeal Cert.DgffnKernelIdeal.Value Idealize.ShloMosaic Idealize.ShloMosaic.TcCoe Idealize.SL.Sem

/-- Under the precondition the arguments are real. -/
theorem holds [Cert.Pre_dgffn_finite.Facts] (x0 : FVec Ideal S8192x2816 .bf16) (x1 : FVec Ideal S8192x2816 .bf16) (x2 : FVec Ideal S1024x2816 .f32) (x3 : FVec Ideal S1024x2816 .f32) (x4 : FVec Ideal S8192x1024 .f32) (x5 : FVec Ideal S1024 .f32) (x6 : FVec Ideal S1x1024 .f32) (x7 : FVec Ideal S8192x1024 .f32) (h : Cert.Pre_dgffn_finite.fn (F := Ideal) x0 x1 x2 x3 x4 x5 x6 x7 = fun _ => 1#1) : ∃ X P G SC, Whole x0 x1 x2 x3 x4 x5 x6 x7 X P G SC := by
  have a0 (i : Fin 8192) (k : Fin 2816) : x0 (ix2 i k) = ((EReal.toReal (x0 (ix2 i k)) : ℝ) : EReal) := Sb.real _ (by
    have e := congrFun h (ix2 ⟨i.val, by omega⟩ ⟨k.val, by omega⟩)
    revert e
    pointwise [Cert.Pre_dgffn_finite.fn]
    exact id)
  have a1 (i : Fin 8192) (k : Fin 2816) : x1 (ix2 i k) = ((EReal.toReal (x1 (ix2 i k)) : ℝ) : EReal) := Sb.real _ (by
    have e := congrFun h (ix2 ⟨i.val, by omega⟩ ⟨2816 + k.val, by omega⟩)
    revert e
    pointwise [Cert.Pre_dgffn_finite.fn]
    exact id)
  have a4 (i : Fin 8192) (k : Fin 1024) : x4 (ix2 i k) = ((EReal.toReal (x4 (ix2 i k)) : ℝ) : EReal) := Sb.real _ (by
    have e := congrFun h (ix2 ⟨i.val, by omega⟩ ⟨5632 + k.val, by omega⟩)
    revert e
    pointwise [Cert.Pre_dgffn_finite.fn]
    intro e
    rw [dif_neg (by omega), dif_neg (by omega)] at e
    rwa [show (⟨5632 + k.val - 2816 - 2816, by omega⟩ : Fin 1024) = k from Fin.ext (by dsimp only; omega)] at e)
  have a2 (i : Fin 1024) (k : Fin 2816) : x2 (ix2 i k) = ((EReal.toReal (x2 (ix2 i k)) : ℝ) : EReal) := Sb.real _ (by
    have e := congrFun h (ix2 ⟨8192 + i.val, by omega⟩ ⟨k.val, by omega⟩)
    revert e
    pointwise [Cert.Pre_dgffn_finite.fn]
    exact id)
  have a3 (i : Fin 1024) (k : Fin 2816) : x3 (ix2 i k) = ((EReal.toReal (x3 (ix2 i k)) : ℝ) : EReal) := Sb.real _ (by
    have e := congrFun h (ix2 ⟨8192 + i.val, by omega⟩ ⟨2816 + k.val, by omega⟩)
    revert e
    pointwise [Cert.Pre_dgffn_finite.fn]
    exact id)
  have a5 (k : Fin 1024) : x5 (ix1 k) = ((EReal.toReal (x5 (ix1 k)) : ℝ) : EReal) := Sb.real _ (by
    have e := congrFun h (ix2 ⟨8192, by omega⟩ ⟨5632 + k.val, by omega⟩)
    revert e
    pointwise [Cert.Pre_dgffn_finite.fn]
    intro e
    rw [dif_neg (by omega), dif_neg (by omega)] at e
    rwa [show (⟨5632 + k.val - 2816 - 2816, by omega⟩ : Fin 1024) = k from Fin.ext (by dsimp only; omega)] at e)
  have a6 (k : Fin 1024) : x6 (ix2 0 k) = ((EReal.toReal (x6 (ix2 0 k)) : ℝ) : EReal) := Sb.real _ (by
    have e := congrFun h (ix2 ⟨9216, by omega⟩ ⟨k.val, by omega⟩)
    revert e
    pointwise [Cert.Pre_dgffn_finite.fn]
    exact id)
  obtain ⟨A, a0⟩ : ∃ A : Fin 8192 → Fin 2816 → ℝ, ∀ i k, x0 (ix2 i k) = ((A i k : ℝ) : EReal) := ⟨_, a0⟩
  obtain ⟨B, a1⟩ : ∃ A : Fin 8192 → Fin 2816 → ℝ, ∀ i k, x1 (ix2 i k) = ((A i k : ℝ) : EReal) := ⟨_, a1⟩
  obtain ⟨V, a2⟩ : ∃ A : Fin 1024 → Fin 2816 → ℝ, ∀ i k, x2 (ix2 i k) = ((A i k : ℝ) : EReal) := ⟨_, a2⟩
  obtain ⟨W, a3⟩ : ∃ A : Fin 1024 → Fin 2816 → ℝ, ∀ i k, x3 (ix2 i k) = ((A i k : ℝ) : EReal) := ⟨_, a3⟩
  exact ⟨_, fun i l => (∑ k, A i k * V l k) + ∑ k, B i k * W l k, _, _, ⟨fun i l => by simp only [a0, a1, a2, a3, Norm.mul_coe, Norm.sum_coe, Norm.add_coe], a4, a5, a6⟩⟩

/-- The kernel's two results are the reference's. -/
theorem algebraic [Cert.Pre_dgffn_finite.Facts] : Cert.algebraic_DgffnKernelIdeal_DgffnReferenceIdeal_pre_dgffn_finite := by
  intro m g m' g' hpre hagree
  refine ⟨fun c => Cert.DgffnReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Cert.DgffnReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)), ?_, ?_⟩
  · refine (θ_run defs _ _).mono (fun r h c => ?_) (Cert.DgffnKernelIdeal.Value.run_blocks m g)
    obtain ⟨X, P, G, SC, H⟩ := holds _ _ _ _ _ _ _ _ (hpre c)
    exact ⟨(h c).1.trans (final8 m c H), (h c).2.1.trans (final9 m c H), (h c).2.2⟩
  · refine (θ_run Cert.DgffnReferenceIdeal.defs _ _).mono (fun r h c => ?_) (Cert.DgffnReferenceIdeal.Value.run m' g')
    refine ⟨(h c).1.trans ((Cert.DgffnReferenceIdeal.Read.val_main_v57_eq m' c).trans ?_),
      (h c).2.1.trans ((Cert.DgffnReferenceIdeal.Read.val_main_v60_eq _ _ _ _ _ _ _).trans ?_), (h c).2.2⟩
    all_goals simp only [(hagree c).1, (hagree c).2.1, (hagree c).2.2.1, (hagree c).2.2.2.1, (hagree c).2.2.2.2.1, (hagree c).2.2.2.2.2.1, (hagree c).2.2.2.2.2.2.1, (hagree c).2.2.2.2.2.2.2]

end Cert.Dgffn

end
-- ==== Proof.Pack.lean ====
/- The packed columns: the step columns of each head spread out to a lane group, the lanes between them zero. -/
module

public import proofs.«01_k».proof.Proof.SbHost

@[expose] public section

set_option maxRecDepth 16384

noncomputable section

namespace Cert.Pack

open Cert.Common Idealize.ShloMosaic

/-- The packed line of a line of 5128. -/
def spread (f : Fin 5128 → EReal) (l : Fin 5632) : EReal :=
  if h : l.val < 5120 then f ⟨l.val, by omega⟩
  else if h' : (l.val - 5120) % 128 < 2 then f ⟨5120 + ((l.val - 5120) / 128 * 2 + (l.val - 5120) % 128), by omega⟩ else 0

theorem sum_cut {M : Type} [AddCommMonoid M] (a b : ℕ) {n : ℕ} (h : a + b = n) (f : Fin n → M) :
    ∑ k, f k = (∑ k : Fin a, f ⟨k.val, by omega⟩) + ∑ k : Fin b, f ⟨a + k.val, by omega⟩ := by
  subst h
  exact Fin.sum_univ_add f

/-- The product of two packed lines is that of the lines. -/
theorem sum_spread (f g : Fin 5128 → EReal) : ∑ l, spread f l * spread g l = ∑ k, f k * g k := by
  rw [sum_cut 5120 512 rfl, sum_cut 5120 8 rfl (fun k => f k * g k)]
  refine congrArg₂ (· + ·) (Finset.sum_congr rfl fun k _ => ?_) ?_
  · simp only [spread, dif_pos k.isLt]
  rw [← sum_tiles (N := 4) (T := 128) (fun t k => spread f ⟨5120 + (128 * t.val + k.val), by omega⟩ * spread g ⟨5120 + (128 * t.val + k.val), by omega⟩) _ rfl (fun _ _ _ => rfl),
    ← sum_tiles (N := 4) (T := 2) (fun t k => f ⟨5120 + (2 * t.val + k.val), by omega⟩ * g ⟨5120 + (2 * t.val + k.val), by omega⟩) _ rfl (fun _ _ _ => rfl)]
  refine Finset.sum_congr rfl fun t _ => ?_
  rw [sum_cut 2 126 rfl]
  have hz : ∀ k : Fin 126, spread f ⟨5120 + (128 * t.val + (2 + k.val)), by omega⟩ = 0 := fun k => by
    rw [spread, dif_neg (by dsimp only; omega), dif_neg (by dsimp only; omega)]
  simp only [hz, zero_mul, Finset.sum_const_zero, add_zero]
  refine Finset.sum_congr rfl fun k _ => ?_
  have hs : ∀ f : Fin 5128 → EReal, spread f ⟨5120 + (128 * t.val + k.val), by omega⟩ = f ⟨5120 + (2 * t.val + k.val), by omega⟩ := fun f => by
    rw [spread, dif_neg (by dsimp only; omega), dif_pos (by dsimp only; omega)]
    exact congrArg f (Fin.ext (by dsimp only; omega))
  rw [hs, hs]

theorem steps_at (x : FVec Ideal Cert.SbKernelIdeal.S8192x5128 .f32) (q : Fin 512) (t : Fin 8192) :
    Cert.Sb.steps x (ix2 q t) = (if h' : q.val % 128 < 2 then x (ix2 t ⟨5120 + (q.val / 128 * 2 + q.val % 128), by omega⟩) else (0 : EReal) : EReal) := by
  unfold Cert.Sb.steps Cert.Sb.flipped
  by_cases hq : q.val % 128 < 2
  · rw [dif_pos hq]
    pointwise
    exact dif_pos (And.intro (by omega) hq)
  · rw [dif_neg hq]
    pointwise
    refine (dif_neg (fun h => hq h.2)).trans ?_
    show (((0#32 : BitVec 32).toInt : ℝ) : EReal) = 0
    simp

theorem packed_spread (x : FVec Ideal Cert.SbKernelIdeal.S8192x5128 .f32) (t : Fin 8192) (l : Fin 5632) :
    Cert.Sb.packed x (ix2 t l) = spread (fun k => x (ix2 t k)) l := by
  unfold spread
  split
  · next h => exact Cert.Sb.packed_at x t l h
  · next h =>
    pointwise [Cert.Sb.packed]
    rw [dif_neg h, steps_at]

end Cert.Pack

end
-- ==== Proof.DgmixValue.lean ====
/- What the gradient of a modulated norm under the input projection leaves in its two results. -/
module

public import proofs.«01_k».proof.Proof.Gen.DgmixKernelIdeal.Value
public import proofs.«01_k».proof.Proof.Common
public import proofs.«01_k».proof.Proof.Norm
public import proofs.«01_k».proof.Proof.Pack
public import proofs.«01_k».proof.Defs
public import proofs.«01_k».proof.Proof.Gen.DgmixReferenceIdeal.Run
public import proofs.«01_k».proof.Proof.Gen.DgmixReferenceIdeal.Read
public import Idealize.ShloMosaic.Lib.Tactic

@[expose] public section

set_option maxRecDepth 16384

noncomputable section

namespace Cert.DgmixKernelIdeal.Value

open Cert.DgmixKernelIdeal Cert.DgmixKernelIdeal.Gen Idealize.ShloMosaic Idealize.ShloMosaic.TcCoe Idealize.SL.Sem
open Idealize.ShloMosaic.Pipeline (Dat)
open Cert.Common Cert.Norm

open Cert.Pack

/-- Rows of the packed weights. -/
def slab (k n : ℕ) (h : k + n ≤ 5632) (x : Vec Ideal S5632x1024 .bf16) : Vec Ideal (⟨2, ![n, 1024]⟩ : Shape) .bf16 :=
  fun y => x (ix2 ⟨k + (y 0).val, by have : (y 0).val < n := (y 0).isLt; omega⟩ (y 1))

theorem slab_at (k n : ℕ) (h : k + n ≤ 5632) (x : Vec Ideal S5632x1024 .bf16) (r : Fin n) (l : Fin 1024) :
    slab k n h x (ix2 r l) = x (ix2 ⟨k + r.val, by omega⟩ l) := rfl

theorem readAt_slab {sig : RefSig} {κ : Kind} {sp : Space} (a : Memref sig κ sp S5632x1024 .bf16) (ha : a.IsWhole) (k n : ℕ) (h : k + n ≤ 5632)
    (inb : ∀ i : Fin 2, (![k, 0] : Fin 2 → ℕ) i + (![n, 1024] : Fin 2 → ℕ) i ≤ S5632x1024.size i) (x : Vec Ideal S5632x1024 .bf16) :
    View.readAt (Elt Ideal) a.view (Rect.unit (s := S5632x1024) ![k, 0] ![n, 1024] inb).toLoadRect (ha.unread x) = slab k n h x := by
  rw [View.readAt_eq_ld, ha.read_unread]
  funext y
  show x _ = x _
  congr 1
  refine Shape.idx_ext₂ ?_ ?_
  · show k + 1 * (y 0).val = k + (y 0).val; omega
  · show 0 + 1 * (y 1).val = (y 1).val; omega

section Tile
variable {x0 : Vec Ideal S512x2048 .bf16} {x1 : Vec Ideal S512x512 .bf16} {x2 : Vec Ideal S512x512 .f32} {x3 : Vec Ideal S512x512 .f32} {x4 : Vec Ideal S512x512 .bf16} {x5 : Vec Ideal S512x1024 .bf16} {x6 : Vec Ideal S512x512 .bf16} {x7 : Vec Ideal S5632x1024 .bf16} {x8 : Vec Ideal S512x1024 .f32} {x9 : Vec Ideal S1x1024 .f32} {x10 : Vec Ideal S1x1024 .f32} {x11 : Vec Ideal S512x1024 .f32}
  {X P E : Fin 512 → Fin 1024 → ℝ} {G SC : Fin 1024 → ℝ}

/-- A tile's arguments are real, and so is the product of its gradients with the weights. -/
structure Tile (x0 : Vec Ideal S512x2048 .bf16) (x1 : Vec Ideal S512x512 .bf16) (x2 : Vec Ideal S512x512 .f32) (x3 : Vec Ideal S512x512 .f32) (x4 : Vec Ideal S512x512 .bf16) (x5 : Vec Ideal S512x1024 .bf16) (x6 : Vec Ideal S512x512 .bf16) (x7 : Vec Ideal S5632x1024 .bf16) (x8 : Vec Ideal S512x1024 .f32) (x9 : Vec Ideal S1x1024 .f32) (x10 : Vec Ideal S1x1024 .f32) (x11 : Vec Ideal S512x1024 .f32)
    (X P : Fin 512 → Fin 1024 → ℝ) (G SC : Fin 1024 → ℝ) : Prop where
  p : ∀ i l, k0_pay7 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) (ix2 i l) = ((P i l : ℝ) : EReal)
  h : ∀ i l, x8 (ix2 i l) = ((X i l : ℝ) : EReal)
  g : ∀ l, x9 (ix2 0 l) = ((G l : ℝ) : EReal)
  sc : ∀ l, x10 (ix2 0 l) = ((SC l : ℝ) : EReal)

variable (H : Tile x0 x1 x2 x3 x4 x5 x6 x7 x8 x9 x10 x11 X P G SC) (i : Fin 512) (l : Fin 1024)
include H

theorem inv_at : k0_pay9 x8 (ix2 i 0) = ((inv 1024 (X i) : ℝ) : EReal) := by
  pointwise [k0_pay9, H.h, ofBits_1024, ofBits_eps]
  simp only [mul_coe, sum_coe, div_1024, add_coe]
  exact inv_coe (by norm_num)

theorem xn_at : k0_pay10 x8 (ix2 i l) = ((X i l * inv 1024 (X i) : ℝ) : EReal) := by
  pointwise [k0_pay10, inv_at H, H.h]
  simp only [mul_coe]

theorem psc_at : k0_pay11 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x10 (ix2 i l) = ((P i l * (1 + SC l) : ℝ) : EReal) := by
  pointwise [k0_pay11, H.p, H.sc, ofBits_1]
  simp only [mul_coe, add_coe]

theorem u_at : k0_pay12 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x9 x10 (ix2 i l) = ((modU (P i) G SC l : ℝ) : EReal) := by
  pointwise [k0_pay12, k0_pay8, psc_at H, H.g]
  simp only [mul_coe]
  rfl

theorem dh_at : k0_pay1 (k0_pay9 x8) (k0_pay10 x8) (k0_pay12 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x9 x10) x11 (k0_pay13 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x8 x9 x10) (ix2 i l) = x11 (ix2 i l) + ((grad 1024 (X i) (modU (P i) G SC) l : ℝ) : EReal) := by
  pointwise [k0_pay1, k0_pay13, inv_at H, xn_at H, u_at H, ofBits_1024]
  simp only [mul_coe, sub_coe, sum_coe, div_1024]
  rfl

/-- The statistics' three terms of a tile. -/
theorem row0_at (z : Vec Ideal S1x1024 .f32) : k0_pay3 (k0_pay10 x8) (k0_pay11 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x10) z (ix2 0 l) = z (ix2 0 l) + ∑ i, ((modSt (X i) (P i) G SC l 0 : ℝ) : EReal) := by
  pointwise [k0_pay3, xn_at H, psc_at H]
  simp only [mul_coe]
  rfl
theorem row1_at (z : Vec Ideal S1x1024 .f32) : k0_pay4 (k0_pay7 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7)) z (ix2 0 l) = z (ix2 0 l) + ∑ i, ((modSt (X i) (P i) G SC l 1 : ℝ) : EReal) := by
  pointwise [k0_pay4, H.p]
  rfl
theorem row2_at (z : Vec Ideal S1x1024 .f32) : k0_pay5 (k0_pay7 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7)) (k0_pay8 x9) (k0_pay10 x8) z (ix2 0 l) = z (ix2 0 l) + ∑ i, ((modSt (X i) (P i) G SC l 2 : ℝ) : EReal) := by
  pointwise [k0_pay5, k0_pay8, xn_at H, H.p, H.g]
  simp only [mul_coe]
  rfl
end Tile

theorem zero_at (r : Fin 8) (l : Fin 1024) : k0_pay2 (F := Ideal) (ix2 r l) = 0 := by
  pointwise [k0_pay2]

theorem outA12 (c : Dev nD) (i : grid0.Coords) (a1 : Memref sig .tc .vmem S512x2048 .bf16) (h1 : a1.IsWhole) (a2 : Memref sig .tc .vmem S512x512 .bf16) (h2 : a2.IsWhole) (a3 : Memref sig .tc .vmem S512x512 .f32) (h3 : a3.IsWhole) (a4 : Memref sig .tc .vmem S512x512 .f32) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S5632x1024 .bf16) (h8 : a8.IsWhole) (a9 : Memref sig .tc .vmem S512x1024 .f32) (h9 : a9.IsWhole) (a10 : Memref sig .tc .vmem S1x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S8x1024 .f32) (h14 : a14.IsWhole) (hc0 : cond0_0 i) (x0 : Vec Ideal S512x2048 .bf16) (x1 : Vec Ideal S512x512 .bf16) (x2 : Vec Ideal S512x512 .f32) (x3 : Vec Ideal S512x512 .f32) (x4 : Vec Ideal S512x512 .bf16) (x5 : Vec Ideal S512x1024 .bf16) (x6 : Vec Ideal S512x512 .bf16) (x7 : Vec Ideal S5632x1024 .bf16) (x8 : Vec Ideal S512x1024 .f32) (x9 : Vec Ideal S1x1024 .f32) (x10 : Vec Ideal S1x1024 .f32) (x11 : Vec Ideal S512x1024 .f32) :
    out0_A_12 c i a1 h1 a2 h2 a3 h3 a4 h4 a5 h5 a6 h6 a7 h7 a8 h8 a9 h9 a10 h10 a11 h11 a12 h12 a13 h13 a14 h14 hc0 x0 x1 x2 x3 x4 x5 x6 x7 x8 x9 x10 x11 = k0_pay1 (k0_pay9 x8) (k0_pay10 x8) (k0_pay12 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x9 x10) x11 (k0_pay13 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x8 x9 x10) := by
  unfold out0_A_12
  unfold kernelRun0_A
  dsimp only
  sl_unfold_words
  funext y
  obtain ⟨i', l, rfl⟩ : ∃ (i : Fin 512) (l : Fin 1024), y = ix2 i l := ⟨y 0, y 1, Shape.idx_ext₂ rfl rfl⟩
  rw [read_whole, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz), readAt_whole _ h9 (congrFun hz), readAt_whole _ h10 (congrFun hz), readAt_whole _ h11 (congrFun hz), readAt_slab _ h8 0 2048 (by decide), readAt_slab _ h8 2048 512 (by decide), readAt_slab _ h8 2560 512 (by decide), readAt_slab _ h8 3072 512 (by decide), readAt_slab _ h8 3584 512 (by decide), readAt_slab _ h8 4096 1024 (by decide), readAt_slab _ h8 5120 512 (by decide), readAt_whole _ h12 (congrFun hz)]

theorem outB12 (c : Dev nD) (i : grid0.Coords) (a1 : Memref sig .tc .vmem S512x2048 .bf16) (h1 : a1.IsWhole) (a2 : Memref sig .tc .vmem S512x512 .bf16) (h2 : a2.IsWhole) (a3 : Memref sig .tc .vmem S512x512 .f32) (h3 : a3.IsWhole) (a4 : Memref sig .tc .vmem S512x512 .f32) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S5632x1024 .bf16) (h8 : a8.IsWhole) (a9 : Memref sig .tc .vmem S512x1024 .f32) (h9 : a9.IsWhole) (a10 : Memref sig .tc .vmem S1x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S8x1024 .f32) (h14 : a14.IsWhole) (hc0 : ¬ cond0_0 i) (x0 : Vec Ideal S512x2048 .bf16) (x1 : Vec Ideal S512x512 .bf16) (x2 : Vec Ideal S512x512 .f32) (x3 : Vec Ideal S512x512 .f32) (x4 : Vec Ideal S512x512 .bf16) (x5 : Vec Ideal S512x1024 .bf16) (x6 : Vec Ideal S512x512 .bf16) (x7 : Vec Ideal S5632x1024 .bf16) (x8 : Vec Ideal S512x1024 .f32) (x9 : Vec Ideal S1x1024 .f32) (x10 : Vec Ideal S1x1024 .f32) (x11 : Vec Ideal S512x1024 .f32) (xo : Vec Ideal S8x1024 .f32) :
    out0_B_12 c i a1 h1 a2 h2 a3 h3 a4 h4 a5 h5 a6 h6 a7 h7 a8 h8 a9 h9 a10 h10 a11 h11 a12 h12 a13 h13 a14 h14 hc0 x0 x1 x2 x3 x4 x5 x6 x7 x8 x9 x10 x11 xo = k0_pay1 (k0_pay9 x8) (k0_pay10 x8) (k0_pay12 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x9 x10) x11 (k0_pay13 (k0_pay6 x0 (slab 0 2048 (by decide) x7) x1 (slab 2048 512 (by decide) x7) x2 (slab 2560 512 (by decide) x7) x3 (slab 3072 512 (by decide) x7) x4 (slab 3584 512 (by decide) x7)) x5 (slab 4096 1024 (by decide) x7) x6 (slab 5120 512 (by decide) x7) x8 x9 x10) := by
  unfold out0_B_12
  unfold kernelRun0_B
  dsimp only
  sl_unfold_words
  funext y
  obtain ⟨i', l, rfl⟩ : ∃ (i : Fin 512) (l : Fin 1024), y = ix2 i l := ⟨y 0, y 1, Shape.idx_ext₂ rfl rfl⟩
  rw [read_whole, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz), readAt_whole _ h9 (congrFun hz), readAt_whole _ h10 (congrFun hz), readAt_whole _ h11 (congrFun hz), readAt_slab _ h8 0 2048 (by decide), readAt_slab _ h8 2048 512 (by decide), readAt_slab _ h8 2560 512 (by decide), readAt_slab _ h8 3072 512 (by decide), readAt_slab _ h8 3584 512 (by decide), readAt_slab _ h8 4096 1024 (by decide), readAt_slab _ h8 5120 512 (by decide), readAt_whole _ h12 (congrFun hz)]

section
variable {X P : Fin 512 → Fin 1024 → ℝ} {G SC : Fin 1024 → ℝ}

/-- The first point's statistics. -/
theorem outA13 (c : Dev nD) (i : grid0.Coords) (a1 : Memref sig .tc .vmem S512x2048 .bf16) (h1 : a1.IsWhole) (a2 : Memref sig .tc .vmem S512x512 .bf16) (h2 : a2.IsWhole) (a3 : Memref sig .tc .vmem S512x512 .f32) (h3 : a3.IsWhole) (a4 : Memref sig .tc .vmem S512x512 .f32) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S5632x1024 .bf16) (h8 : a8.IsWhole) (a9 : Memref sig .tc .vmem S512x1024 .f32) (h9 : a9.IsWhole) (a10 : Memref sig .tc .vmem S1x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S8x1024 .f32) (h14 : a14.IsWhole) (hc0 : cond0_0 i) (x0 : Vec Ideal S512x2048 .bf16) (x1 : Vec Ideal S512x512 .bf16) (x2 : Vec Ideal S512x512 .f32) (x3 : Vec Ideal S512x512 .f32) (x4 : Vec Ideal S512x512 .bf16) (x5 : Vec Ideal S512x1024 .bf16) (x6 : Vec Ideal S512x512 .bf16) (x7 : Vec Ideal S5632x1024 .bf16) (x8 : Vec Ideal S512x1024 .f32) (x9 : Vec Ideal S1x1024 .f32) (x10 : Vec Ideal S1x1024 .f32) (x11 : Vec Ideal S512x1024 .f32) (H : Tile x0 x1 x2 x3 x4 x5 x6 x7 x8 x9 x10 x11 X P G SC) (r : Fin 8) (l : Fin 1024) :
    out0_A_13 c i a1 h1 a2 h2 a3 h3 a4 h4 a5 h5 a6 h6 a7 h7 a8 h8 a9 h9 a10 h10 a11 h11 a12 h12 a13 h13 a14 h14 hc0 x0 x1 x2 x3 x4 x5 x6 x7 x8 x9 x10 x11 (ix2 r l) = ∑ i, ((modSt (X i) (P i) G SC l r.val : ℝ) : EReal) := by
  unfold out0_A_13
  unfold kernelRun0_A
  dsimp only
  sl_unfold_words
  rw [read_row, read_row, read_row, read_whole, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz), readAt_whole _ h9 (congrFun hz), readAt_whole _ h10 (congrFun hz), readAt_whole _ h11 (congrFun hz), readAt_slab _ h8 0 2048 (by decide), readAt_slab _ h8 2048 512 (by decide), readAt_slab _ h8 2560 512 (by decide), readAt_slab _ h8 3072 512 (by decide), readAt_slab _ h8 3584 512 (by decide), readAt_slab _ h8 4096 1024 (by decide), readAt_slab _ h8 5120 512 (by decide)]
  split
  · next h => rw [row2_at H, readCov_row (R := 8) (D := 1024) a14.view _ 2 (by decide), read_row, read_row, read_whole, if_neg (by decide), if_neg (by decide), zero_at, zero_add, h]
  split
  · next h => rw [row1_at H, readCov_row (R := 8) (D := 1024) a14.view _ 1 (by decide), read_row, read_whole, if_neg (by decide), zero_at, zero_add, h]
  split
  · next h => rw [row0_at H, readCov_row (R := 8) (D := 1024) a14.view _ 0 (by decide), read_whole, zero_at, zero_add, h]
  simp only [zero_at, modSt_rest _ _ _ _ l r.val (by omega), EReal.coe_zero, Finset.sum_const_zero, add_zero]

/-- A later point's statistics, over what the point before left. -/
theorem outB13 (c : Dev nD) (i : grid0.Coords) (a1 : Memref sig .tc .vmem S512x2048 .bf16) (h1 : a1.IsWhole) (a2 : Memref sig .tc .vmem S512x512 .bf16) (h2 : a2.IsWhole) (a3 : Memref sig .tc .vmem S512x512 .f32) (h3 : a3.IsWhole) (a4 : Memref sig .tc .vmem S512x512 .f32) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S5632x1024 .bf16) (h8 : a8.IsWhole) (a9 : Memref sig .tc .vmem S512x1024 .f32) (h9 : a9.IsWhole) (a10 : Memref sig .tc .vmem S1x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S8x1024 .f32) (h14 : a14.IsWhole) (hc0 : ¬ cond0_0 i) (x0 : Vec Ideal S512x2048 .bf16) (x1 : Vec Ideal S512x512 .bf16) (x2 : Vec Ideal S512x512 .f32) (x3 : Vec Ideal S512x512 .f32) (x4 : Vec Ideal S512x512 .bf16) (x5 : Vec Ideal S512x1024 .bf16) (x6 : Vec Ideal S512x512 .bf16) (x7 : Vec Ideal S5632x1024 .bf16) (x8 : Vec Ideal S512x1024 .f32) (x9 : Vec Ideal S1x1024 .f32) (x10 : Vec Ideal S1x1024 .f32) (x11 : Vec Ideal S512x1024 .f32) (xo : Vec Ideal S8x1024 .f32) (H : Tile x0 x1 x2 x3 x4 x5 x6 x7 x8 x9 x10 x11 X P G SC) (r : Fin 8) (l : Fin 1024) :
    out0_B_13 c i a1 h1 a2 h2 a3 h3 a4 h4 a5 h5 a6 h6 a7 h7 a8 h8 a9 h9 a10 h10 a11 h11 a12 h12 a13 h13 a14 h14 hc0 x0 x1 x2 x3 x4 x5 x6 x7 x8 x9 x10 x11 xo (ix2 r l) = xo (ix2 r l) + ∑ i, ((modSt (X i) (P i) G SC l r.val : ℝ) : EReal) := by
  unfold out0_B_13
  unfold kernelRun0_B
  dsimp only
  sl_unfold_words
  rw [read_row, read_row, read_row, View.writes_nil, h14.read_unread, readAt_whole _ h1 (congrFun hz), readAt_whole _ h2 (congrFun hz), readAt_whole _ h3 (congrFun hz), readAt_whole _ h4 (congrFun hz), readAt_whole _ h5 (congrFun hz), readAt_whole _ h6 (congrFun hz), readAt_whole _ h7 (congrFun hz), readAt_whole _ h9 (congrFun hz), readAt_whole _ h10 (congrFun hz), readAt_whole _ h11 (congrFun hz), readAt_slab _ h8 0 2048 (by decide), readAt_slab _ h8 2048 512 (by decide), readAt_slab _ h8 2560 512 (by decide), readAt_slab _ h8 3072 512 (by decide), readAt_slab _ h8 3584 512 (by decide), readAt_slab _ h8 4096 1024 (by decide), readAt_slab _ h8 5120 512 (by decide)]
  split
  · next h => rw [row2_at H, readAt_row (R := 8) (D := 1024) a14.view _ 2 (by decide), h14.read_unread, show r = ⟨2, by decide⟩ from Fin.ext h]
  split
  · next h => rw [row1_at H, readAt_row (R := 8) (D := 1024) a14.view _ 1 (by decide), h14.read_unread, show r = ⟨1, by decide⟩ from Fin.ext h]
  split
  · next h => rw [row0_at H, readAt_row (R := 8) (D := 1024) a14.view _ 0 (by decide), h14.read_unread, show r = ⟨0, by decide⟩ from Fin.ext h]
  simp only [zero_at, modSt_rest _ _ _ _ l r.val (by omega), EReal.coe_zero, Finset.sum_const_zero, add_zero]

end

/-! ## The reference over real arguments -/

section Whole
variable {x0 : Vec Ideal S8192x5128 .f32} {x1 : Vec Ideal S1024x5128 .f32} {x2 : Vec Ideal S8192x1024 .f32} {x3 : Vec Ideal S1024 .f32} {x4 : Vec Ideal S1x1024 .f32} {x5 : Vec Ideal S8192x1024 .f32}
  {X P : Fin 8192 → Fin 1024 → ℝ} {G SC : Fin 1024 → ℝ}

/-- The arguments are real, and so is the product of the gradients with the weights. -/
structure Whole (x0 : Vec Ideal S8192x5128 .f32) (x1 : Vec Ideal S1024x5128 .f32) (x2 : Vec Ideal S8192x1024 .f32) (x3 : Vec Ideal S1024 .f32) (x4 : Vec Ideal S1x1024 .f32) (x5 : Vec Ideal S8192x1024 .f32)
    (X P : Fin 8192 → Fin 1024 → ℝ) (G SC : Fin 1024 → ℝ) : Prop where
  p : ∀ i l, (∑ k, x0 (ix2 i k) * x1 (ix2 l k)) = ((P i l : ℝ) : EReal)
  h : ∀ i l, x2 (ix2 i l) = ((X i l : ℝ) : EReal)
  g : ∀ l, x3 (ix1 l) = ((G l : ℝ) : EReal)
  sc : ∀ l, x4 (ix2 0 l) = ((SC l : ℝ) : EReal)

variable (H : Whole x0 x1 x2 x3 x4 x5 X P G SC) (i : Fin 8192) (l : Fin 1024)
include H
open Cert.DgmixReferenceIdeal.Read

theorem vp_at : val_main_v24 (F := Ideal) x0 x1 (ix2 i l) = ((P i l : ℝ) : EReal) := by
  rw [← H.p]
  pointwise [val_main_v24]

theorem v7_at : val_main_v7 (F := Ideal) x2 (ix2 i 0) = ((ms 1024 (X i) : ℝ) : EReal) := by
  pointwise [val_main_v7, val_main_v6, val_main_v5, val_main_v4, val_main_v3, val_main_v2, val_main_v1, val_main_cst_0, val_main_cst_1, val_main_cst_2, H.h, ofBits_1024, ofBits_eps]
  simp only [mul_coe, sum_coe, div_1024, add_coe]
  rfl

theorem v8_at : val_main_v8 (F := Ideal) x2 (ix2 i 0) = ((inv 1024 (X i) : ℝ) : EReal) := by
  pointwise [val_main_v8, v7_at H]
  exact inv_coe (by norm_num)

theorem v11_at (z : Fin 1) : val_main_v11 (F := Ideal) x2 (ix2 i z) = ((-1 / 2 * (inv 1024 (X i) / ms 1024 (X i)) : ℝ) : EReal) := by
  obtain rfl : z = 0 := Subsingleton.elim _ _
  pointwise [val_main_v11, val_main_v10, val_main_v9, val_main_cst_3, v7_at H, v8_at H, ofBits_neg_half]
  rw [div_coe _ _ (ms_pos (by norm_num)).ne', mul_coe]

theorem v31_at : val_main_v31 (F := Ideal) x0 x1 x4 (ix2 i l) = ((P i l * (1 + SC l) : ℝ) : EReal) := by
  pointwise [val_main_v31, val_main_v30, val_main_v18, val_main_v17, val_main_cst_4, vp_at H, H.sc, ofBits_1]
  simp only [mul_coe, add_coe]

theorem v36_at : val_main_v36 (F := Ideal) x0 x1 x3 x4 (ix2 i l) = ((modU (P i) G SC l : ℝ) : EReal) := by
  pointwise [val_main_v36, val_main_v35, val_main_v14, v31_at H, H.g]
  simp only [mul_coe]
  rfl

theorem v48_at : val_main_v48 (F := Ideal) x0 x1 x2 x3 x4 (ix2 i l) = ((gradMs 1024 (X i) (modU (P i) G SC) : ℝ) : EReal) := by
  pointwise [val_main_v48, val_main_v47, val_main_v46, val_main_v45, val_main_v44, val_main_v40, val_main_v39, val_main_v38, val_main_cst_9, val_main_cst_10, val_main_cst_11, v36_at H, H.h, ofBits_1024]
  simp only [v11_at H, Fin.sum_univ_one, mul_coe, sum_coe, div_1024]
  rfl

theorem ref_dh : val_main_v52 (F := Ideal) x0 x1 x2 x3 x4 x5 (ix2 i l) = x5 (ix2 i l) + ((grad 1024 (X i) (modU (P i) G SC) l : ℝ) : EReal) := by
  pointwise [val_main_v52, val_main_v51, val_main_v50, val_main_v49, val_main_v43, val_main_v42, val_main_v41, v36_at H, v48_at H, v8_at H, H.h]
  simp only [mul_coe]
  rw [add_assoc, add_assoc]
  simp only [add_coe]
  rw [grad_eq (by norm_num), mul_comm (X i l)]

theorem ref_st (r : Fin 8) : val_main_v55 (F := Ideal) x0 x1 x2 x3 x4 (ix2 r l) = ∑ i, ((modSt (X i) (P i) G SC l r.val : ℝ) : EReal) := by
  unfold modSt
  obtain rfl | rfl | rfl | h : r = 0 ∨ r = 1 ∨ r = 2 ∨ 3 ≤ r.val := by omega
  · pointwise [val_main_v55, val_main_v54, val_main_v53, val_main_v37, val_main_v34, val_main_v33, val_main_v32, val_main_v29, val_main_v28, val_main_v27, val_main_v26, val_main_v25, val_main_cst_5, val_main_cst_6, val_main_cst_7, val_main_cst_8, val_main_cst_12, val_main_v16, val_main_v15, val_main_v14, val_main_v13, val_main_v12, v8_at H, vp_at H, v31_at H, H.h, H.g]
    simp only [Fin.sum_univ_one, mul_coe, mul_comm]
  · pointwise [val_main_v55, val_main_v54, val_main_v53, val_main_v37, val_main_v34, val_main_v33, val_main_v32, val_main_v29, val_main_v28, val_main_v27, val_main_v26, val_main_v25, val_main_cst_5, val_main_cst_6, val_main_cst_7, val_main_cst_8, val_main_cst_12, val_main_v16, val_main_v15, val_main_v14, val_main_v13, val_main_v12, v8_at H, vp_at H, v31_at H, H.h, H.g]
  · pointwise [val_main_v55, val_main_v54, val_main_v53, val_main_v37, val_main_v34, val_main_v33, val_main_v32, val_main_v29, val_main_v28, val_main_v27, val_main_v26, val_main_v25, val_main_cst_5, val_main_cst_6, val_main_cst_7, val_main_cst_8, val_main_cst_12, val_main_v16, val_main_v15, val_main_v14, val_main_v13, val_main_v12, v8_at H, vp_at H, v31_at H, H.h, H.g]
    simp only [mul_coe, mul_comm]
  · pointwise [val_main_v55, val_main_v54, val_main_v53, val_main_v37, val_main_v34, val_main_v33, val_main_v32, val_main_v29, val_main_v28, val_main_v27, val_main_v26, val_main_v25, val_main_cst_5, val_main_cst_6, val_main_cst_7, val_main_cst_8, val_main_cst_12, val_main_v16, val_main_v15, val_main_v14, val_main_v13, val_main_v12, v8_at H, vp_at H, v31_at H, H.h, H.g]
    simp only [if_neg (show ¬r.val = 2 by omega), if_neg (show ¬r.val = 1 by omega), if_neg (show ¬r.val = 0 by omega),
      EReal.coe_zero, Finset.sum_const_zero]
    rw [dif_neg (by omega), dif_neg (by omega), dif_neg (by omega)]
end Whole

/-! ## The two results -/

/-- The row of the whole a tile's row is. -/
abbrev row (t : Fin cfg0.N) (i : Fin 512) : Fin 8192 := ⟨512 * t.val + i.val, by have := t.isLt; have hN : cfg0.N = 16 := N_0; omega⟩

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![0, 0] ∧ win0_10.index t = ![0, 0] ∧ win0_11.index t = ![t.val, 0] ∧ win0_12.index t = ![t.val, 0] ∧ win0_13.index t = ![0, 0] :=
  (by decide +kernel : ∀ t : Fin grid0.N, _)

variable (m : (ℓ : Loc nD τ sig) → Buf (Elt Ideal) ℓ) (ρ : Dev nD → PrngReg)

/-- The weights' rows as the host packs them. -/
def flat (w : FVec Ideal S1024x5128 .f32) : FVec Ideal S5128x1024 .bf16 :=
  transpose S5128x1024 [1, 0] (transpose S1024x5128 [1, 0] (extractStridedSlice S5128x1024 ![0, 0]
    (truncf .bf16 (pad S5136x1024 ![0, 0] ![8, 0] ![0, 0] (transpose S5128x1024 [1, 0] w transposes_S1024x5128_S5128x1024_1_0) (sitofp .f32 (constantI S_ 32 0#32)) pads_S5128x1024_S5136x1024_080_000 h_S_) bitsLt_bf16_f32)
    slices_S5136x1024_S5128x1024_0_0) transposes_S5128x1024_S1024x5128_1_0) transposes_S1024x5128_S5128x1024_1_0

def heads (w : FVec Ideal S1024x5128 .f32) : FVec Ideal S512x1024 .bf16 :=
  shapeCast S512x1024 (pad S4x128x1024 ![0, 0, 0] ![0, 126, 0] ![0, 0, 0] (shapeCast S4x2x1024 (extractStridedSlice S8x1024 ![5120, 0] (flat w) slices_S5128x1024_S8x1024_5120_0) shapeCasts_S8x1024_S4x2x1024)
    (sitofp .bf16 (constantI S_ 32 0#32)) pads_S4x2x1024_S4x128x1024_000_01260_000 h_S_) shapeCasts_S4x128x1024_S512x1024

def weights (w : FVec Ideal S1024x5128 .f32) : FVec Ideal S5632x1024 .bf16 :=
  concatenate S5632x1024 0 [⟨S5120x1024, extractStridedSlice S5120x1024 ![0, 0] (flat w) slices_S5128x1024_S5120x1024_0_0⟩, ⟨S512x1024, heads w⟩] concatenates_S5120x1024_S512x1024_S5632x1024_d0

theorem flat_at (w : FVec Ideal S1024x5128 .f32) (k : Fin 5128) (l : Fin 1024) : flat w (ix2 k l) = w (ix2 l k) := by
  pointwise [flat]

theorem heads_at (w : FVec Ideal S1024x5128 .f32) (q : Fin 512) (l : Fin 1024) :
    heads w (ix2 q l) = (if h' : q.val % 128 < 2 then w (ix2 l ⟨5120 + (q.val / 128 * 2 + q.val % 128), by omega⟩) else (0 : EReal) : EReal) := by
  unfold heads
  by_cases hq : q.val % 128 < 2
  · rw [dif_pos hq]
    pointwise [flat_at]
    exact dif_pos (And.intro (by omega) hq)
  · rw [dif_neg hq]
    pointwise [flat_at]
    refine (dif_neg (fun h => hq h.2)).trans ?_
    show (((0#32 : BitVec 32).toInt : ℝ) : EReal) = 0
    simp

theorem weights_spread (w : FVec Ideal S1024x5128 .f32) (k : Fin 5632) (l : Fin 1024) : weights w (ix2 k l) = spread (fun k => w (ix2 l k)) k := by
  unfold spread
  pointwise [weights]
  split
  · next h => rw [flat_at]
  · next h => rw [heads_at]

theorem V_gain (c : Dev nD) : V m c main_v32 = shapeCast S1x1024 (m (c, Proc.tc.devRef main_arg3)) shapeCasts_S1024_S1x1024 := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl
theorem V_weights (c : Dev nD) : V m c main_v31 = weights (m (c, Proc.tc.devRef main_arg1)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl
theorem V_piece0 (c : Dev nD) (i : Fin 8192) (l : Fin 2048) : V m c main_v9 (ix2 i l) = spread (fun k => (m (c, Proc.tc.devRef main_arg0) : FVec Ideal S8192x5128 .f32) (ix2 i k)) ⟨0 + l.val, by omega⟩ := by
  have e : V m c main_v9 = (truncf .bf16 (extractStridedSlice S8192x2048 ![0, 0] (Cert.Sb.packed (m (c, Proc.tc.devRef main_arg0))) slices_S8192x5632_S8192x2048_0_0) bitsLt_bf16_f32 : FVec Ideal S8192x2048 .bf16) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece1 (c : Dev nD) (i : Fin 8192) (l : Fin 512) : V m c main_v11 (ix2 i l) = spread (fun k => (m (c, Proc.tc.devRef main_arg0) : FVec Ideal S8192x5128 .f32) (ix2 i k)) ⟨2048 + l.val, by omega⟩ := by
  have e : V m c main_v11 = (truncf .bf16 (extractStridedSlice S8192x512 ![0, 2048] (Cert.Sb.packed (m (c, Proc.tc.devRef main_arg0))) slices_S8192x5632_S8192x512_0_2048) bitsLt_bf16_f32 : FVec Ideal S8192x512 .bf16) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece2 (c : Dev nD) (i : Fin 8192) (l : Fin 512) : V m c main_v12 (ix2 i l) = spread (fun k => (m (c, Proc.tc.devRef main_arg0) : FVec Ideal S8192x5128 .f32) (ix2 i k)) ⟨2560 + l.val, by omega⟩ := by
  have e : V m c main_v12 = (extractStridedSlice S8192x512 ![0, 2560] (Cert.Sb.packed (m (c, Proc.tc.devRef main_arg0))) slices_S8192x5632_S8192x512_0_2560 : FVec Ideal S8192x512 .f32) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece3 (c : Dev nD) (i : Fin 8192) (l : Fin 512) : V m c main_v13 (ix2 i l) = spread (fun k => (m (c, Proc.tc.devRef main_arg0) : FVec Ideal S8192x5128 .f32) (ix2 i k)) ⟨3072 + l.val, by omega⟩ := by
  have e : V m c main_v13 = (extractStridedSlice S8192x512 ![0, 3072] (Cert.Sb.packed (m (c, Proc.tc.devRef main_arg0))) slices_S8192x5632_S8192x512_0_3072 : FVec Ideal S8192x512 .f32) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece4 (c : Dev nD) (i : Fin 8192) (l : Fin 512) : V m c main_v15 (ix2 i l) = spread (fun k => (m (c, Proc.tc.devRef main_arg0) : FVec Ideal S8192x5128 .f32) (ix2 i k)) ⟨3584 + l.val, by omega⟩ := by
  have e : V m c main_v15 = (truncf .bf16 (extractStridedSlice S8192x512 ![0, 3584] (Cert.Sb.packed (m (c, Proc.tc.devRef main_arg0))) slices_S8192x5632_S8192x512_0_3584) bitsLt_bf16_f32 : FVec Ideal S8192x512 .bf16) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece5 (c : Dev nD) (i : Fin 8192) (l : Fin 1024) : V m c main_v17 (ix2 i l) = spread (fun k => (m (c, Proc.tc.devRef main_arg0) : FVec Ideal S8192x5128 .f32) (ix2 i k)) ⟨4096 + l.val, by omega⟩ := by
  have e : V m c main_v17 = (truncf .bf16 (extractStridedSlice S8192x1024 ![0, 4096] (Cert.Sb.packed (m (c, Proc.tc.devRef main_arg0))) slices_S8192x5632_S8192x1024_0_4096) bitsLt_bf16_f32 : FVec Ideal S8192x1024 .bf16) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise
theorem V_piece6 (c : Dev nD) (i : Fin 8192) (l : Fin 512) : V m c main_v19 (ix2 i l) = spread (fun k => (m (c, Proc.tc.devRef main_arg0) : FVec Ideal S8192x5128 .f32) (ix2 i k)) ⟨5120 + l.val, by omega⟩ := by
  have e : V m c main_v19 = (truncf .bf16 (extractStridedSlice S8192x512 ![0, 5120] (Cert.Sb.packed (m (c, Proc.tc.devRef main_arg0))) slices_S8192x5632_S8192x512_0_5120) bitsLt_bf16_f32 : FVec Ideal S8192x512 .bf16) := by
    simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  rw [e, ← packed_spread]
  pointwise

theorem blk_weights (c : Dev nD) (t : Fin cfg0.N) (k : Fin 5632) (l : Fin 1024) : iblk m c 7 t (ix2 k l) = spread (fun k => m ((c : Thread nD τ).loc main_arg1) (ix2 l k)) k := by
  show V m c main_v31 ((win0_7.blk t).view.emb (ix2 k l)) = _
  rw [show (win0_7.blk t).view.emb (ix2 k l) = ix2 k l from by blk_ext [idx t], V_weights, weights_spread]
theorem blk_piece0 (c : Dev nD) (t : Fin cfg0.N) (i : Fin 512) (k : Fin 2048) : iblk m c 0 t (ix2 i k) = spread (fun k => m ((c : Thread nD τ).loc main_arg0) (ix2 (row t i) k)) ⟨0 + k.val, by omega⟩ := by
  show V m c main_v9 ((win0_0.blk t).view.emb (ix2 i k)) = _
  rw [show (win0_0.blk t).view.emb (ix2 i k) = ix2 (row t i) k from by blk_ext [idx t], V_piece0]
theorem blk_piece1 (c : Dev nD) (t : Fin cfg0.N) (i : Fin 512) (k : Fin 512) : iblk m c 1 t (ix2 i k) = spread (fun k => m ((c : Thread nD τ).loc main_arg0) (ix2 (row t i) k)) ⟨2048 + k.val, by omega⟩ := by
  show V m c main_v11 ((win0_1.blk t).view.emb (ix2 i k)) = _
  rw [show (win0_1.blk t).view.emb (ix2 i k) = ix2 (row t i) k from by blk_ext [idx t], V_piece1]
theorem blk_piece2 (c : Dev nD) (t : Fin cfg0.N) (i : Fin 512) (k : Fin 512) : iblk m c 2 t (ix2 i k) = spread (fun k => m ((c : Thread nD τ).loc main_arg0) (ix2 (row t i) k)) ⟨2560 + k.val, by omega⟩ := by
  show V m c main_v12 ((win0_2.blk t).view.emb (ix2 i k)) = _
  rw [show (win0_2.blk t).view.emb (ix2 i k) = ix2 (row t i) k from by blk_ext [idx t], V_piece2]
theorem blk_piece3 (c : Dev nD) (t : Fin cfg0.N) (i : Fin 512) (k : Fin 512) : iblk m c 3 t (ix2 i k) = spread (fun k => m ((c : Thread nD τ).loc main_arg0) (ix2 (row t i) k)) ⟨3072 + k.val, by omega⟩ := by
  show V m c main_v13 ((win0_3.blk t).view.emb (ix2 i k)) = _
  rw [show (win0_3.blk t).view.emb (ix2 i k) = ix2 (row t i) k from by blk_ext [idx t], V_piece3]
theorem blk_piece4 (c : Dev nD) (t : Fin cfg0.N) (i : Fin 512) (k : Fin 512) : iblk m c 4 t (ix2 i k) = spread (fun k => m ((c : Thread nD τ).loc main_arg0) (ix2 (row t i) k)) ⟨3584 + k.val, by omega⟩ := by
  show V m c main_v15 ((win0_4.blk t).view.emb (ix2 i k)) = _
  rw [show (win0_4.blk t).view.emb (ix2 i k) = ix2 (row t i) k from by blk_ext [idx t], V_piece4]
theorem blk_piece5 (c : Dev nD) (t : Fin cfg0.N) (i : Fin 512) (k : Fin 1024) : iblk m c 5 t (ix2 i k) = spread (fun k => m ((c : Thread nD τ).loc main_arg0) (ix2 (row t i) k)) ⟨4096 + k.val, by omega⟩ := by
  show V m c main_v17 ((win0_5.blk t).view.emb (ix2 i k)) = _
  rw [show (win0_5.blk t).view.emb (ix2 i k) = ix2 (row t i) k from by blk_ext [idx t], V_piece5]
theorem blk_piece6 (c : Dev nD) (t : Fin cfg0.N) (i : Fin 512) (k : Fin 512) : iblk m c 6 t (ix2 i k) = spread (fun k => m ((c : Thread nD τ).loc main_arg0) (ix2 (row t i) k)) ⟨5120 + k.val, by omega⟩ := by
  show V m c main_v19 ((win0_6.blk t).view.emb (ix2 i k)) = _
  rw [show (win0_6.blk t).view.emb (ix2 i k) = ix2 (row t i) k from by blk_ext [idx t], V_piece6]

section
variable (c : Dev nD) {X P : Fin 8192 → Fin 1024 → ℝ} {G SC : Fin 1024 → ℝ} (H : Whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) X P G SC)
include H

/-- The blocks of a grid point are real. -/
theorem tile (t : Fin cfg0.N) : Tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun i => X (row t i)) (fun i => P (row t i)) G SC := by
  refine ⟨fun i l => ?_, fun i l => ?_, fun l => ?_, fun l => ?_⟩
  · rw [← H.p, ← sum_spread, sum_cut 5120 512 rfl, sum_cut 4096 1024 rfl, sum_cut 3584 512 rfl, sum_cut 3072 512 rfl, sum_cut 2560 512 rfl, sum_cut 2048 512 rfl]
    pointwise [k0_pay7, k0_pay6, slab_at, blk_weights, blk_piece0, blk_piece1, blk_piece2, blk_piece3, blk_piece4, blk_piece5, blk_piece6, Nat.zero_add]
  · rw [← H.h]; blk_point [iblk, V, idx t]
  · rw [← H.g];
    show V m c main_v32 ((win0_9.blk t).view.emb (ix2 0 l)) = _
    rw [V_gain, show (win0_9.blk t).view.emb (ix2 0 l) = ix2 0 l from by blk_ext [idx t]]
    pointwise
  · rw [← H.sc]; blk_point [iblk, V, idx t]

theorem final12 : (dats m 0 c).arrAt 12 cfg0.N = Cert.DgmixReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  obtain ⟨i, l, rfl⟩ : ∃ (i : Fin 512) (l : Fin 1024), y = ix2 i l := ⟨y 0, y 1, Shape.idx_ext₂ rfl rfl⟩
  rw [show (win0_12.blk t).view.emb (ix2 i l) = ix2 (row t i) l from by blk_ext [idx t], ref_dh H]
  have e : iblk m c 11 t (ix2 i l) = m ((c : Thread nD τ).loc main_arg5) (ix2 (row t i) l) := by blk_point [iblk, V, idx t]
  rw [← e]
  by_cases h0 : t.val % 16 = 0
  · rw [outsAt0_A m c t h0]
    dsimp only
    rw [outA12, dh_at (tile m c H t)]
  · rw [outsAt0_B m c t h0]
    dsimp only
    rw [outB12, dh_at (tile m c H t)]

/-- The statistics after the last point. -/
theorem stat (t : Fin cfg0.N) (ht : t.val + 1 = cfg0.N) (r : Fin 8) (l : Fin 1024) :
    (outsAt0 m c t.val t.isLt).2 (ix2 r l) = ∑ i : Fin 8192, ((modSt (X i) (P i) G SC l r.val : ℝ) : EReal) := by
  refine acc_last 16 (fun n h => (outsAt0 m c n h).2 (ix2 r l)) (fun t k => ((modSt (X (row t k)) (P (row t k)) G SC l r.val : ℝ) : EReal)) _
    (fun t h0 => ?_) (fun t h0 => ?_) (le_of_eq N_0) (by rw [show cfg0.N = 16 from N_0]) (fun _ _ _ => rfl) t ht
  · show (outsAt0 m c t.val t.isLt).2 (ix2 r l) = _
    rw [outsAt0_A m c t h0]
    dsimp only
    rw [outA13 (H := tile m c H t)]
  · show (outsAt0 m c t.val t.isLt).2 (ix2 r l) = _
    rw [outsAt0_B m c t h0]
    dsimp only
    rw [outB13 (H := tile m c H t)]

theorem final13 : (dats m 0 c).arrAt 13 cfg0.N = Cert.DgmixReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  have ht : t.val + 1 = cfg0.N := by
    have := (flush0_13 t).mp hf; have := t.isLt; have hN : cfg0.N = 16 := N_0; omega
  blk_simp
  rw [after0_13]
  obtain ⟨r, l, rfl⟩ : ∃ (r : Fin 8) (l : Fin 1024), y = ix2 r l := ⟨y 0, y 1, Shape.idx_ext₂ rfl rfl⟩
  rw [show (win0_13.blk t).view.emb (ix2 r l) = ix2 r l from by blk_ext [idx t], ref_st H]
  exact stat m c H t ht r l
end

end Cert.DgmixKernelIdeal.Value

namespace Cert.Dgmix

open Cert.DgmixKernelIdeal Cert.DgmixKernelIdeal.Value Idealize.ShloMosaic Idealize.ShloMosaic.TcCoe Idealize.SL.Sem

/-- Under the precondition the arguments are real. -/
theorem holds [Cert.Pre_dgmix_finite.Facts] (x0 : FVec Ideal S8192x5128 .f32) (x1 : FVec Ideal S1024x5128 .f32) (x2 : FVec Ideal S8192x1024 .f32) (x3 : FVec Ideal S1024 .f32) (x4 : FVec Ideal S1x1024 .f32) (x5 : FVec Ideal S8192x1024 .f32) (h : Cert.Pre_dgmix_finite.fn (F := Ideal) x0 x1 x2 x3 x4 x5 = fun _ => 1#1) : ∃ X P G SC, Whole x0 x1 x2 x3 x4 x5 X P G SC := by
  have a0 (i : Fin 8192) (k : Fin 5128) : x0 (ix2 i k) = ((EReal.toReal (x0 (ix2 i k)) : ℝ) : EReal) := Sb.real _ (by
    have e := congrFun h (ix2 ⟨i.val, by omega⟩ ⟨k.val, by omega⟩)
    revert e
    pointwise [Cert.Pre_dgmix_finite.fn]
    exact id)
  have a2 (i : Fin 8192) (k : Fin 1024) : x2 (ix2 i k) = ((EReal.toReal (x2 (ix2 i k)) : ℝ) : EReal) := Sb.real _ (by
    have e := congrFun h (ix2 ⟨i.val, by omega⟩ ⟨5128 + k.val, by omega⟩)
    revert e
    pointwise [Cert.Pre_dgmix_finite.fn]
    exact id)
  have a1 (i : Fin 1024) (k : Fin 5128) : x1 (ix2 i k) = ((EReal.toReal (x1 (ix2 i k)) : ℝ) : EReal) := Sb.real _ (by
    have e := congrFun h (ix2 ⟨8192 + i.val, by omega⟩ ⟨k.val, by omega⟩)
    revert e
    pointwise [Cert.Pre_dgmix_finite.fn]
    exact id)
  have a3 (k : Fin 1024) : x3 (ix1 k) = ((EReal.toReal (x3 (ix1 k)) : ℝ) : EReal) := Sb.real _ (by
    have e := congrFun h (ix2 ⟨8192, by omega⟩ ⟨5128 + k.val, by omega⟩)
    revert e
    pointwise [Cert.Pre_dgmix_finite.fn]
    exact id)
  have a4 (k : Fin 1024) : x4 (ix2 0 k) = ((EReal.toReal (x4 (ix2 0 k)) : ℝ) : EReal) := Sb.real _ (by
    have e := congrFun h (ix2 ⟨9216, by omega⟩ ⟨k.val, by omega⟩)
    revert e
    pointwise [Cert.Pre_dgmix_finite.fn]
    exact id)
  obtain ⟨A, a0⟩ : ∃ A : Fin 8192 → Fin 5128 → ℝ, ∀ i k, x0 (ix2 i k) = ((A i k : ℝ) : EReal) := ⟨_, a0⟩
  obtain ⟨W, a1⟩ : ∃ A : Fin 1024 → Fin 5128 → ℝ, ∀ i k, x1 (ix2 i k) = ((A i k : ℝ) : EReal) := ⟨_, a1⟩
  exact ⟨_, fun i l => ∑ k, A i k * W l k, _, _, ⟨fun i l => by simp only [a0, a1, Norm.mul_coe, Norm.sum_coe], a2, a3, a4⟩⟩

/-- The kernel's two results are the reference's. -/
theorem algebraic [Cert.Pre_dgmix_finite.Facts] : Cert.algebraic_DgmixKernelIdeal_DgmixReferenceIdeal_pre_dgmix_finite := by
  intro m g m' g' hpre hagree
  refine ⟨fun c => Cert.DgmixReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.DgmixReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run defs _ _).mono (fun r h c => ?_) (Cert.DgmixKernelIdeal.Value.run_blocks m g)
    obtain ⟨X, P, G, SC, H⟩ := holds _ _ _ _ _ _ (hpre c)
    exact ⟨(h c).1.trans (final12 m c H), (h c).2.1.trans (final13 m c H), (h c).2.2⟩
  · refine (θ_run Cert.DgmixReferenceIdeal.defs _ _).mono (fun r h c => ?_) (Cert.DgmixReferenceIdeal.Value.run m' g')
    refine ⟨(h c).1.trans ((Cert.DgmixReferenceIdeal.Read.val_main_v52_eq m' c).trans ?_),
      (h c).2.1.trans ((Cert.DgmixReferenceIdeal.Read.val_main_v55_eq _ _ _ _ _).trans ?_), (h c).2.2⟩
    all_goals simp only [(hagree c).1, (hagree c).2.1, (hagree c).2.2.1, (hagree c).2.2.2.1, (hagree c).2.2.2.2.1, (hagree c).2.2.2.2.2]

end Cert.Dgmix

end
-- ==== Proof.ConvValue.lean ====
/- What the causal depthwise convolution with its silu leaves, and what its gradient leaves. -/
module

public import proofs.«01_k».proof.Proof.Gen.ConvKernelIdeal.Frame
public import proofs.«01_k».proof.Proof.Common
public import proofs.«01_k».proof.Proof.Norm
public import proofs.«01_k».proof.Proof.SbHost
public import proofs.«01_k».proof.Defs
public import proofs.«01_k».proof.Proof.Gen.ConvReferenceIdeal.Run
public import proofs.«01_k».proof.Proof.Gen.ConvReferenceIdeal.Read
public import Idealize.ShloMosaic.Lib.Tactic
public import Idealize.ShloMosaic.Lib.Pipeline.Value

@[expose] public section

set_option maxRecDepth 16384

noncomputable section

namespace Cert.ConvKernelIdeal.Value

open Cert.ConvKernelIdeal Cert.ConvKernelIdeal.Gen Idealize.ShloMosaic Idealize.ShloMosaic.TcCoe Idealize.SL.Sem
open Idealize.ShloMosaic.Pipeline (Dat)
open Cert.Common Cert.Norm

/-- The line `d` tokens before, and `d` tokens after; zero outside. -/
def down (f : Fin 8192 → ℝ) (d : ℕ) (t : Fin 8192) : ℝ := if h : d ≤ t.val then f ⟨t.val - d, by omega⟩ else 0
def up (f : Fin 8192 → ℝ) (d : ℕ) (t : Fin 8192) : ℝ := if h : t.val + d < 8192 then f ⟨t.val + d, h⟩ else 0

/-- A column's convolution, its silu, and the gradient of the convolution. -/
def pre (x : Fin 8192 → ℝ) (w : Fin 4 → ℝ) (b : ℝ) (t : Fin 8192) : ℝ := b + w 3 * x t + w 2 * down x 1 t + w 1 * down x 2 t + w 0 * down x 3 t
def act (p : ℝ) : ℝ := p * sg p
def dpre (p a : ℝ) : ℝ := a * (sg p * (1 + p * (1 - sg p)))
def dx (w : Fin 4 → ℝ) (g : Fin 8192 → ℝ) (t : Fin 8192) : ℝ := w 3 * g t + w 2 * up g 1 t + w 1 * up g 2 t + w 0 * up g 3 t
def stat (x g : Fin 8192 → ℝ) (r : ℕ) : ℝ := if r < 4 then ∑ t, g t * down x (3 - r) t else if r = 4 then ∑ t, g t else 0

theorem down_zero (f : Fin 8192 → ℝ) (t : Fin 8192) : down f 0 t = f t := by simp [down]

section Tile
variable {x0 p0 a0 : Vec Ideal S8192x128 .f32} {w0 : Vec Ideal S4x128 .f32} {b0 : Vec Ideal S1x128 .f32} {X P A : Fin 8192 → Fin 128 → ℝ} {W : Fin 4 → Fin 128 → ℝ} {B : Fin 128 → ℝ}

theorem shift_down (d : ℕ) (hd : d < 8192) (f : Fin 8192 → ℝ) (t : Fin 8192) :
    Scalar.select (IntOp.cmpi .sge (BitVec.ofNat 32 t.val) (BitVec.ofNat 32 d)) ((f ⟨(t.val + 8192 - d) % 8192, Nat.mod_lt _ (by decide)⟩ : ℝ) : EReal) 0 = ((down f d t : ℝ) : EReal) := by
  have ht := t.isLt
  rw [WordCmp.cmpi_sge_ofNat (by omega) (by omega)]
  unfold down
  by_cases h : d ≤ t.val
  · rw [dif_pos h, decide_eq_true h]
    exact congrArg (fun k => ((f k : ℝ) : EReal)) (Fin.ext (by dsimp only; omega))
  · rw [dif_neg h, decide_eq_false h]
    rfl

/-- The same under a factor. -/
theorem shift_down_mul (d : ℕ) (hd : d < 8192) (f : Fin 8192 → ℝ) (a : ℝ) (t : Fin 8192) :
    Scalar.select (IntOp.cmpi .sge (BitVec.ofNat 32 t.val) (BitVec.ofNat 32 d)) ((a * f ⟨(t.val + 8192 - d) % 8192, Nat.mod_lt _ (by decide)⟩ : ℝ) : EReal) 0 = ((a * down f d t : ℝ) : EReal) := by
  have e := shift_down d hd (fun k => a * f k) t
  rw [e]
  unfold down
  split <;> simp

theorem shift_up (n d : ℕ) (hn : n + d = 8192) (f : Fin 8192 → ℝ) (t : Fin 8192) :
    Scalar.select (IntOp.cmpi .slt (BitVec.ofNat 32 t.val) (BitVec.ofNat 32 n)) ((f ⟨(t.val + 8192 - n) % 8192, Nat.mod_lt _ (by decide)⟩ : ℝ) : EReal) 0 = ((up f d t : ℝ) : EReal) := by
  have ht := t.isLt
  rw [WordCmp.cmpi_slt_ofNat (by omega) (by omega)]
  unfold up
  by_cases h : t.val + d < 8192
  · rw [dif_pos h, decide_eq_true (by omega)]
    exact congrArg (fun k => ((f k : ℝ) : EReal)) (Fin.ext (by dsimp only; omega))
  · rw [dif_neg h, decide_eq_false (by omega)]
    rfl

theorem shift_up_mul (n d : ℕ) (hn : n + d = 8192) (f : Fin 8192 → ℝ) (a : ℝ) (t : Fin 8192) :
    Scalar.select (IntOp.cmpi .slt (BitVec.ofNat 32 t.val) (BitVec.ofNat 32 n)) ((a * f ⟨(t.val + 8192 - n) % 8192, Nat.mod_lt _ (by decide)⟩ : ℝ) : EReal) 0 = ((a * up f d t : ℝ) : EReal) := by
  have e := shift_up n d hn (fun k => a * f k) t
  rw [e]
  unfold up
  split <;> simp

theorem stat_lt (x g : Fin 8192 → ℝ) (r d : ℕ) (h : r + d = 3) : stat x g r = ∑ t, g t * down x d t := by
  obtain rfl : 3 - r = d := by omega
  exact if_pos (by omega)
theorem stat_four (x g : Fin 8192 → ℝ) : stat x g 4 = ∑ t, g t := by
  unfold stat
  rw [if_neg (by decide), if_pos rfl]
theorem stat_rest (x g : Fin 8192 → ℝ) (r : ℕ) (h : 5 ≤ r) : stat x g r = 0 := by
  unfold stat
  rw [if_neg (by omega), if_neg (by omega)]

theorem ld_row {R : ℕ} (v : Vec Ideal ⟨2, ![R, 128]⟩ .f32) (k : ℕ) (hk : k < R) (h) (l : Fin 128) :
    View.ld v (Rect.unit (s := ⟨2, ![R, 128]⟩) ![k, 0] S1x128.size h) (ix2 0 l) = v (ix2 ⟨k, hk⟩ l) :=
  congrArg v (Shape.idx_ext₂ (by show k + 1 * 0 = k; omega) (by show 0 + 1 * l.val = l.val; omega))

/-- The convolution's column. -/
theorem pre_at (hx : ∀ t l, x0 (ix2 t l) = ((X t l : ℝ) : EReal)) (hw : ∀ k l, w0 (ix2 k l) = ((W k l : ℝ) : EReal)) (hb : ∀ l, b0 (ix2 0 l) = ((B l : ℝ) : EReal)) (t : Fin 8192) (l : Fin 128) :
    k0_pay3 x0 w0 b0 (ix2 t l) = ((pre (X · l) (W · l) (B l) t : ℝ) : EReal) := by
  have e0 (l) := ld_row w0 0 (by decide) inb_S4x128_S1x128_0_0 l
  have e1 (l) := ld_row w0 1 (by decide) inb_S4x128_S1x128_1_0 l
  have e2 (l) := ld_row w0 2 (by decide) inb_S4x128_S1x128_2_0 l
  have e3 (l) := ld_row w0 3 (by decide) inb_S4x128_S1x128_3_0 l
  have eb (l) := ld_row b0 0 (by decide) inb_S1x128_S1x128_0_0 l
  have ex : View.ld x0 r0_0 = x0 := by frame_out
  unfold k0_pay3
  rw [ex]
  pointwise [k0_pay2, e0, e1, e2, e3, eb, hx, hw]
  simp only [mul_coe]
  rw [shift_down_mul 1 (by decide) (fun t => X t l), shift_down_mul 2 (by decide) (fun t => X t l), shift_down_mul 3 (by decide) (fun t => X t l)]
  erw [hb]
  simp only [mul_coe, add_coe]
  rfl

theorem out3_at (hx : ∀ t l, x0 (ix2 t l) = ((X t l : ℝ) : EReal)) (hw : ∀ k l, w0 (ix2 k l) = ((W k l : ℝ) : EReal)) (hb : ∀ l, b0 (ix2 0 l) = ((B l : ℝ) : EReal)) (t : Fin 8192) (l : Fin 128) :
    out0_3 x0 w0 b0 (ix2 t l) = ((pre (X · l) (W · l) (B l) t : ℝ) : EReal) := by
  rw [← pre_at hx hw hb]
  exact congrFun (by frame_out : out0_3 x0 w0 b0 = k0_pay3 x0 w0 b0) _

theorem out4_at (hx : ∀ t l, x0 (ix2 t l) = ((X t l : ℝ) : EReal)) (hw : ∀ k l, w0 (ix2 k l) = ((W k l : ℝ) : EReal)) (hb : ∀ l, b0 (ix2 0 l) = ((B l : ℝ) : EReal)) (t : Fin 8192) (l : Fin 128) :
    out0_4 x0 w0 b0 (ix2 t l) = ((act (pre (X · l) (W · l) (B l) t) : ℝ) : EReal) := by
  rw [show out0_4 x0 w0 b0 = k0_pay1 (k0_pay3 x0 w0 b0) from by frame_out]
  pointwise [k0_pay1, pre_at hx hw hb, logistic_coe]
  rw [mul_coe]
  rfl

/-! ## The gradient's column -/

section
variable (hx : ∀ t l, x0 (ix2 t l) = ((X t l : ℝ) : EReal)) (hp : ∀ t l, p0 (ix2 t l) = ((P t l : ℝ) : EReal)) (ha : ∀ t l, a0 (ix2 t l) = ((A t l : ℝ) : EReal)) (hw : ∀ k l, w0 (ix2 k l) = ((W k l : ℝ) : EReal))

include hp ha in
theorem dpre_at (t : Fin 8192) (l : Fin 128) : k1_pay6 p0 a0 (ix2 t l) = ((dpre (P t l) (A t l) : ℝ) : EReal) := by
  pointwise [k1_pay6, hp, ha, ofBits_1, logistic_coe]
  simp only [mul_coe, sub_coe, add_coe]
  rfl

abbrev tok : IVec S8192x128 32 := iota .tc S8192x128 32 [0] iota_S8192x128_d0_w32

set_option maxRecDepth 200000 in
include hp ha in
/-- The gradient of the input, from the four rows of the weights. -/
theorem dx_at (r0 r1 r2 r3 : Vec Ideal S1x128 .f32) (e0 : ∀ l, r0 (ix2 0 l) = ((W 0 l : ℝ) : EReal)) (e1 : ∀ l, r1 (ix2 0 l) = ((W 1 l : ℝ) : EReal)) (e2 : ∀ l, r2 (ix2 0 l) = ((W 2 l : ℝ) : EReal)) (e3 : ∀ l, r3 (ix2 0 l) = ((W 3 l : ℝ) : EReal)) (t : Fin 8192) (l : Fin 128) :
    k1_pay4 (k1_pay12 tok (k1_pay6 p0 a0) (k1_pay8 p0 a0 r3 r2) r1 r0) (ix2 t l) = ((dx (W · l) (fun t => dpre (P t l) (A t l)) t : ℝ) : EReal) := by
  pointwise [k1_pay4, k1_pay12, k1_pay8, dpre_at hp ha, e0, e1, e2, e3]
  simp only [mul_coe]
  rw [shift_up_mul 8191 1 (by decide) (fun t => dpre (P t l) (A t l)), shift_up_mul 8190 2 (by decide) (fun t => dpre (P t l) (A t l)), shift_up_mul 8189 3 (by decide) (fun t => dpre (P t l) (A t l))]
  simp only [mul_coe, add_coe]
  rfl

include hx hp ha in
theorem st0_at (l : Fin 128) : k1_pay7 x0 p0 a0 (ix2 0 l) = ((stat (X · l) (fun t => dpre (P t l) (A t l)) 3 : ℝ) : EReal) := by
  pointwise [k1_pay7, k1_pay5, dpre_at hp ha, hx]
  rw [stat_lt _ _ 3 0 rfl]
  simp only [mul_coe, sum_coe, down_zero]

include hx hp ha in
theorem st1_at (l : Fin 128) : k1_pay10 (k1_pay9 x0 p0 a0) (ix2 0 l) = ((stat (X · l) (fun t => dpre (P t l) (A t l)) 2 : ℝ) : EReal) := by
  pointwise [k1_pay10, k1_pay9, k1_pay5, dpre_at hp ha, hx]
  rw [stat_lt _ _ 2 1 rfl]
  simp only [mul_coe]
  rw [← sum_coe]
  exact Finset.sum_congr rfl fun t _ => shift_down_mul 1 (by decide) (X · l) _ t

include hx hp ha in
theorem st2_at (l : Fin 128) : k1_pay11 (k1_pay5 x0) tok (k1_pay6 p0 a0) (ix2 0 l) = ((stat (X · l) (fun t => dpre (P t l) (A t l)) 1 : ℝ) : EReal) := by
  pointwise [k1_pay11, k1_pay5, dpre_at hp ha, hx]
  rw [stat_lt _ _ 1 2 rfl]
  simp only [mul_coe]
  rw [← sum_coe]
  exact Finset.sum_congr rfl fun t _ => shift_down_mul 2 (by decide) (X · l) _ t

include hx hp ha in
theorem st3_at (l : Fin 128) : k1_pay1 (k1_pay13 (k1_pay5 x0) tok (k1_pay6 p0 a0)) (ix2 0 l) = ((stat (X · l) (fun t => dpre (P t l) (A t l)) 0 : ℝ) : EReal) := by
  pointwise [k1_pay1, k1_pay13, k1_pay5, dpre_at hp ha, hx]
  rw [stat_lt _ _ 0 3 rfl]
  simp only [mul_coe]
  rw [← sum_coe]
  exact Finset.sum_congr rfl fun t _ => shift_down_mul 3 (by decide) (X · l) _ t

include hp ha in
theorem st4_at (l : Fin 128) : k1_pay2 (k1_pay6 p0 a0) (ix2 0 l) = ((stat (X · l) (fun t => dpre (P t l) (A t l)) 4 : ℝ) : EReal) := by
  pointwise [k1_pay2, dpre_at hp ha]
  rw [stat_four]
  simp only [sum_coe]

include hp ha hw in
theorem outA4 (c : Dev nD) (i : grid1.Coords) (a1 : Memref sig .tc .vmem S8192x128 .f32) (h1 : a1.IsWhole) (a2 : Memref sig .tc .vmem S8192x128 .f32) (h2 : a2.IsWhole) (a3 : Memref sig .tc .vmem S8192x128 .f32) (h3 : a3.IsWhole) (a4 : Memref sig .tc .vmem S4x128 .f32) (h4 : a4.IsWhole) (a5 : Memref sig .tc .vmem S8192x128 .bf16) (h5 : a5.IsWhole) (a6 : Memref sig .tc .vmem S8x128 .f32) (h6 : a6.IsWhole) (t : Fin 8192) (l : Fin 128) :
    out1_A_4 c i a1 h1 a2 h2 a3 h3 a4 h4 a5 h5 a6 h6 x0 p0 a0 w0 (ix2 t l) = ((dx (W · l) (fun t => dpre (P t l) (A t l)) t : ℝ) : EReal) := by
  unfold out1_A_4 kernelRun1_A
  dsimp only
  sl_unfold_words
  rw [read_whole, readAt_whole _ h2 (by decide), readAt_whole _ h3 (by decide)]
  refine dx_at hp ha _ _ _ _ (fun l => ?_) (fun l => ?_) (fun l => ?_) (fun l => ?_) t l
  · rw [readAt_row (R := 4) (D := 128) a4.view _ 0 (by decide), h4.read_unread]; exact hw _ _
  · rw [readAt_row (R := 4) (D := 128) a4.view _ 1 (by decide), h4.read_unread]; exact hw _ _
  · rw [readAt_row (R := 4) (D := 128) a4.view _ 2 (by decide), h4.read_unread]; exact hw _ _
  · rw [readAt_row (R := 4) (D := 128) a4.view _ 3 (by decide), h4.read_unread]; exact hw _ _

include hx hp ha in
theorem outA5 (c : Dev nD) (i : grid1.Coords) (a1 : Memref sig .tc .vmem S8192x128 .f32) (h1 : a1.IsWhole) (a2 : Memref sig .tc .vmem S8192x128 .f32) (h2 : a2.IsWhole) (a3 : Memref sig .tc .vmem S8192x128 .f32) (h3 : a3.IsWhole) (a4 : Memref sig .tc .vmem S4x128 .f32) (h4 : a4.IsWhole) (a5 : Memref sig .tc .vmem S8192x128 .bf16) (h5 : a5.IsWhole) (a6 : Memref sig .tc .vmem S8x128 .f32) (h6 : a6.IsWhole) (r : Fin 8) (l : Fin 128) :
    out1_A_5 c i a1 h1 a2 h2 a3 h3 a4 h4 a5 h5 a6 h6 x0 p0 a0 w0 (ix2 r l) = ((stat (X · l) (fun t => dpre (P t l) (A t l)) r.val : ℝ) : EReal) := by
  unfold out1_A_5 kernelRun1_A
  dsimp only
  sl_unfold_words
  rw [readAt_whole _ h1 (by decide), readAt_whole _ h2 (by decide), readAt_whole _ h3 (by decide)]
  by_cases hr : 5 ≤ r.val
  · rw [stat_rest _ _ _ hr]
    refine (View.read_writes_cons_rows_of_mem VO1_5 _ (size := ![3, 128]) _ _ _ (ix2 r l) (ix2 ⟨r.val - 5, by omega⟩ l) rfl (by show r.val = 5 + (r.val - 5); omega) rfl).trans ?_
    pointwise [k1_pay3]
    rfl
  · rw [View.read_writes_cons_rows_of_not_mem VO1_5 _ (size := ![3, 128]) (W := 3) _ _ _ (ix2 r l) rfl rfl (by show r.val < 5 ∨ 5 + 3 ≤ r.val; omega)]
    rw [read_row, read_row, read_row, read_row, read_row, st0_at hx hp ha, st1_at hx hp ha, st2_at hx hp ha, st3_at hx hp ha, st4_at (X := X) hp ha]
    rcases (by omega : r.val = 0 ∨ r.val = 1 ∨ r.val = 2 ∨ r.val = 3 ∨ r.val = 4) with h | h | h | h | h <;>
      simp only [h, reduceIte, Nat.reduceEqDiff, OfNat.ofNat_ne_zero, OfNat.zero_ne_ofNat, zero_ne_one, one_ne_zero, OfNat.ofNat_ne_one, OfNat.one_ne_ofNat]
end
end Tile

/-! ## The reference over real arguments -/

section Whole
variable {x0 : FVec Ideal S8192x5128 .f32} {x1 : FVec Ideal S4x1024 .f32} {x2 : FVec Ideal S1024 .f32} {x3 : FVec Ideal S8192x1024 .f32} {X A : Fin 8192 → Fin 1024 → ℝ} {W : Fin 4 → Fin 1024 → ℝ} {B : Fin 1024 → ℝ}

structure Whole (x0 : FVec Ideal S8192x5128 .f32) (x1 : FVec Ideal S4x1024 .f32) (x2 : FVec Ideal S1024 .f32) (x3 : FVec Ideal S8192x1024 .f32) (X A : Fin 8192 → Fin 1024 → ℝ) (W : Fin 4 → Fin 1024 → ℝ) (B : Fin 1024 → ℝ) : Prop where
  x : ∀ t (l : Fin 1024), x0 (ix2 t ⟨4096 + l.val, by omega⟩) = ((X t l : ℝ) : EReal)
  w : ∀ k l, x1 (ix2 k l) = ((W k l : ℝ) : EReal)
  b : ∀ l, x2 (ix1 l) = ((B l : ℝ) : EReal)
  a : ∀ t l, x3 (ix2 t l) = ((A t l : ℝ) : EReal)

variable (H : Whole x0 x1 x2 x3 X A W B) (t : Fin 8192) (l : Fin 1024)
include H
open Cert.ConvReferenceIdeal.Read

theorem v4_at : val_main_v4 (F := Ideal) x0 (ix2 t l) = ((down (X · l) 3 t : ℝ) : EReal) := by
  unfold down
  by_cases h : 3 ≤ t.val
  · rw [dif_pos h, ← H.x]
    pointwise [val_main_v4, val_main_v2, val_main_v1, val_main_v0, val_main_cst]
    rw [dif_neg (by omega)]
  · rw [dif_neg h]
    pointwise [val_main_v4, val_main_v2, val_main_v1, val_main_v0, val_main_cst]
    rw [dif_pos (by omega)]
    rfl

theorem v10_at : val_main_v10 (F := Ideal) x0 (ix2 t l) = ((down (X · l) 2 t : ℝ) : EReal) := by
  unfold down
  by_cases h : 2 ≤ t.val
  · rw [dif_pos h, ← H.x]
    pointwise [val_main_v10, val_main_v2, val_main_v1, val_main_v0, val_main_cst]
    rw [dif_neg (by omega)]
    exact congrArg (fun i => x0 (ix2 i ⟨4096 + l.val, by omega⟩)) (Fin.ext (by dsimp only; omega) : (⟨1 + t.val - 3, by omega⟩ : Fin 8192) = ⟨t.val - 2, by omega⟩)
  · rw [dif_neg h]
    pointwise [val_main_v10, val_main_v2, val_main_v1, val_main_v0, val_main_cst]
    rw [dif_pos (by omega)]
    rfl

theorem v15_at : val_main_v15 (F := Ideal) x0 (ix2 t l) = ((down (X · l) 1 t : ℝ) : EReal) := by
  unfold down
  by_cases h : 1 ≤ t.val
  · rw [dif_pos h, ← H.x]
    pointwise [val_main_v15, val_main_v2, val_main_v1, val_main_v0, val_main_cst]
    rw [dif_neg (by omega)]
    exact congrArg (fun i => x0 (ix2 i ⟨4096 + l.val, by omega⟩)) (Fin.ext (by dsimp only; omega) : (⟨2 + t.val - 3, by omega⟩ : Fin 8192) = ⟨t.val - 1, by omega⟩)
  · rw [dif_neg h]
    pointwise [val_main_v15, val_main_v2, val_main_v1, val_main_v0, val_main_cst]
    rw [dif_pos (by omega)]
    rfl

theorem v20_at : val_main_v20 (F := Ideal) x0 (ix2 t l) = ((X t l : ℝ) : EReal) := by
  rw [← H.x]
  pointwise [val_main_v20, val_main_v2, val_main_v1, val_main_v0, val_main_cst]

theorem v27_at : val_main_v27 (F := Ideal) x0 x1 x2 (ix2 t l) = ((pre (X · l) (W · l) (B l) t : ℝ) : EReal) := by
  pointwise [val_main_v27, val_main_v26, val_main_v25, val_main_v24, val_main_v23, val_main_v22, val_main_v21, val_main_v19, val_main_v18, val_main_v17, val_main_v16, val_main_v14, val_main_v13, val_main_v12, val_main_v11, val_main_v9, val_main_v8, val_main_v7, val_main_v6, val_main_v5, val_main_cst_1, v4_at H, v10_at H, v15_at H, v20_at H, H.w, H.b]
  simp only [mul_coe, add_coe]
  exact congrArg _ (by unfold pre; ring)

theorem s_at : val_main_v28_2 (F := Ideal) x0 x1 x2 (ix2 t l) = ((sg (pre (X · l) (W · l) (B l) t) : ℝ) : EReal) := by
  pointwise [val_main_v28_2, val_main_call0_v4, val_main_call0_v3, val_main_call0_v2, val_main_call0_v1, val_main_call0_v0, val_main_call0_cst, val_main_call0_cst_0, v27_at H, ofBits_1]
  exact logistic_coe' _

theorem ref_act : val_main_v28_0 (F := Ideal) x0 x1 x2 (ix2 t l) = ((act (pre (X · l) (W · l) (B l) t) : ℝ) : EReal) := by
  pointwise [val_main_v28_0, s_at H, v27_at H]
  rw [mul_coe]
  rfl

/-- The gradient of the convolution. -/
abbrev gr (X A : Fin 8192 → Fin 1024 → ℝ) (W : Fin 4 → Fin 1024 → ℝ) (B : Fin 1024 → ℝ) (l : Fin 1024) (t : Fin 8192) : ℝ := dpre (pre (X · l) (W · l) (B l) t) (A t l)

theorem v29_at : val_main_v29 (F := Ideal) x0 x1 x2 x3 (ix2 t l) = ((gr X A W B l t : ℝ) : EReal) := by
  pointwise [val_main_v29, val_main_call1_v2, val_main_call1_v1, val_main_call1_v0, val_main_v28_1, val_main_call0_v7, val_main_call0_v6, val_main_call0_cst_1, s_at H, v27_at H, H.a, ofBits_1]
  simp only [mul_coe, sub_coe, add_coe]
  exact congrArg _ (by unfold gr dpre; ring)

theorem v37_at : val_main_v37 (F := Ideal) x0 x1 x2 x3 (ix2 t l) = ((W 3 l * gr X A W B l t : ℝ) : EReal) := by
  pointwise [val_main_v37, val_main_v36, val_main_v21, v29_at H, H.w]
  rw [mul_coe, mul_comm]

theorem v39_at (k : Fin 8195) (hk : k.val = t.val + 3) : val_main_v39 (F := Ideal) x0 x1 x2 x3 (ix2 k l) = ((W 3 l * gr X A W B l t : ℝ) : EReal) := by
  pointwise [val_main_v39]
  rw [dif_pos (by omega)]
  exact (congrArg (fun i => val_main_v37 (F := Ideal) x0 x1 x2 x3 (ix2 i l)) (Fin.ext (by dsimp only; omega) : (⟨k.val - 3, by omega⟩ : Fin 8192) = t)).trans (v37_at H t l)

theorem v35_at (r : Fin 1) : val_main_v35 (F := Ideal) x0 x1 x2 x3 (ix2 r l) = ((∑ t, gr X A W B l t * X t l : ℝ) : EReal) := by
  pointwise [val_main_v35, val_main_v34, val_main_v33, val_main_cst_4, v20_at H, v29_at H]
  simp only [mul_coe, sum_coe]
  exact congrArg _ (Finset.sum_congr rfl fun t _ => mul_comm _ _)

theorem v38_at (r : Fin 4) : val_main_v38 (F := Ideal) x0 x1 x2 x3 (ix2 r l) = (((if r.val = 3 then ∑ t, gr X A W B l t * X t l else 0) : ℝ) : EReal) := by
  by_cases h : r.val = 3
  · rw [if_pos h]
    pointwise [val_main_v38]
    rw [dif_pos (by omega)]
    exact v35_at H l _
  · rw [if_neg h]
    pointwise [val_main_v38, val_main_cst_5]
    rw [dif_neg (by omega)]
    rfl

theorem v44_at : val_main_v44 (F := Ideal) x0 x1 x2 x3 (ix2 t l) = ((W 2 l * gr X A W B l t : ℝ) : EReal) := by
  pointwise [val_main_v44, val_main_v43, val_main_v16, v29_at H, H.w]
  rw [mul_coe, mul_comm]

theorem v47_at (k : Fin 8195) (hk : k.val = t.val + 3) : val_main_v47 (F := Ideal) x0 x1 x2 x3 (ix2 k l) = ((W 2 l * up (gr X A W B l) 1 t : ℝ) : EReal) := by
  unfold up
  by_cases h : t.val + 1 < 8192
  · rw [dif_pos h]
    pointwise [val_main_v47]
    rw [dif_pos (by omega)]
    exact (congrArg (fun i => val_main_v44 (F := Ideal) x0 x1 x2 x3 (ix2 i l)) (Fin.ext (by dsimp only; omega) : (⟨k.val - 2, by omega⟩ : Fin 8192) = ⟨t.val + 1, h⟩)).trans (v44_at H _ l)
  · rw [dif_neg h, mul_zero]
    pointwise [val_main_v47, val_main_cst_9]
    rw [dif_neg (by omega)]
    rfl

theorem v42_at (r : Fin 1) : val_main_v42 (F := Ideal) x0 x1 x2 x3 (ix2 r l) = ((∑ t, gr X A W B l t * down (X · l) 1 t : ℝ) : EReal) := by
  pointwise [val_main_v42, val_main_v41, val_main_v40, val_main_cst_7, v15_at H, v29_at H]
  simp only [mul_coe, sum_coe]
  exact congrArg _ (Finset.sum_congr rfl fun t _ => mul_comm _ _)

theorem v45_at (r : Fin 4) : val_main_v45 (F := Ideal) x0 x1 x2 x3 (ix2 r l) = (((if r.val = 2 then ∑ t, gr X A W B l t * down (X · l) 1 t else 0) : ℝ) : EReal) := by
  by_cases h : r.val = 2
  · rw [if_pos h]
    pointwise [val_main_v45]
    rw [dif_pos (by omega)]
    exact v42_at H l _
  · rw [if_neg h]
    pointwise [val_main_v45, val_main_cst_8]
    rw [dif_neg (by omega)]
    rfl

theorem v53_at : val_main_v53 (F := Ideal) x0 x1 x2 x3 (ix2 t l) = ((W 1 l * gr X A W B l t : ℝ) : EReal) := by
  pointwise [val_main_v53, val_main_v52, val_main_v11, v29_at H, H.w]
  rw [mul_coe, mul_comm]

theorem v56_at (k : Fin 8195) (hk : k.val = t.val + 3) : val_main_v56 (F := Ideal) x0 x1 x2 x3 (ix2 k l) = ((W 1 l * up (gr X A W B l) 2 t : ℝ) : EReal) := by
  unfold up
  by_cases h : t.val + 2 < 8192
  · rw [dif_pos h]
    pointwise [val_main_v56]
    rw [dif_pos (by omega)]
    exact (congrArg (fun i => val_main_v53 (F := Ideal) x0 x1 x2 x3 (ix2 i l)) (Fin.ext (by dsimp only; omega) : (⟨k.val - 1, by omega⟩ : Fin 8192) = ⟨t.val + 2, h⟩)).trans (v53_at H _ l)
  · rw [dif_neg h, mul_zero]
    pointwise [val_main_v56, val_main_cst_12]
    rw [dif_neg (by omega)]
    rfl

theorem v51_at (r : Fin 1) : val_main_v51 (F := Ideal) x0 x1 x2 x3 (ix2 r l) = ((∑ t, gr X A W B l t * down (X · l) 2 t : ℝ) : EReal) := by
  pointwise [val_main_v51, val_main_v50, val_main_v49, val_main_cst_10, v10_at H, v29_at H]
  simp only [mul_coe, sum_coe]
  exact congrArg _ (Finset.sum_congr rfl fun t _ => mul_comm _ _)

theorem v54_at (r : Fin 4) : val_main_v54 (F := Ideal) x0 x1 x2 x3 (ix2 r l) = (((if r.val = 1 then ∑ t, gr X A W B l t * down (X · l) 2 t else 0) : ℝ) : EReal) := by
  by_cases h : r.val = 1
  · rw [if_pos h]
    pointwise [val_main_v54]
    rw [dif_pos (by omega)]
    exact v51_at H l _
  · rw [if_neg h]
    pointwise [val_main_v54, val_main_cst_11]
    rw [dif_neg (by omega)]
    rfl

theorem v62_at : val_main_v62 (F := Ideal) x0 x1 x2 x3 (ix2 t l) = ((W 0 l * gr X A W B l t : ℝ) : EReal) := by
  pointwise [val_main_v62, val_main_v61, val_main_v5, v29_at H, H.w]
  rw [mul_coe, mul_comm]

theorem v65_at (k : Fin 8195) (hk : k.val = t.val + 3) : val_main_v65 (F := Ideal) x0 x1 x2 x3 (ix2 k l) = ((W 0 l * up (gr X A W B l) 3 t : ℝ) : EReal) := by
  unfold up
  by_cases h : t.val + 3 < 8192
  · rw [dif_pos h]
    pointwise [val_main_v65]
    rw [dif_pos (by omega)]
    exact (congrArg (fun i => val_main_v62 (F := Ideal) x0 x1 x2 x3 (ix2 i l)) (Fin.ext (by dsimp only; omega) : (⟨k.val, by omega⟩ : Fin 8192) = ⟨t.val + 3, h⟩)).trans (v62_at H _ l)
  · rw [dif_neg h, mul_zero]
    pointwise [val_main_v65, val_main_cst_15]
    rw [dif_neg (by omega)]
    rfl

theorem v60_at (r : Fin 1) : val_main_v60 (F := Ideal) x0 x1 x2 x3 (ix2 r l) = ((∑ t, gr X A W B l t * down (X · l) 3 t : ℝ) : EReal) := by
  pointwise [val_main_v60, val_main_v59, val_main_v58, val_main_cst_13, v4_at H, v29_at H]
  simp only [mul_coe, sum_coe]
  exact congrArg _ (Finset.sum_congr rfl fun t _ => mul_comm _ _)

theorem v63_at (r : Fin 4) : val_main_v63 (F := Ideal) x0 x1 x2 x3 (ix2 r l) = (((if r.val = 0 then ∑ t, gr X A W B l t * down (X · l) 3 t else 0) : ℝ) : EReal) := by
  by_cases h : r.val = 0
  · rw [if_pos h]
    pointwise [val_main_v63]
    rw [dif_pos (by omega)]
    exact v60_at H l _
  · rw [if_neg h]
    pointwise [val_main_v63, val_main_cst_14]
    rw [dif_neg (by omega)]
    rfl

theorem ref_dx : val_main_v69 (F := Ideal) x0 x1 x2 x3 (ix2 t l) = ((dx (W · l) (gr X A W B l) t : ℝ) : EReal) := by
  pointwise [val_main_v69, val_main_v68, val_main_v66, val_main_v57, val_main_v48]
  rw [v39_at H t l _ (by dsimp only; omega), v47_at H t l _ (by dsimp only; omega), v56_at H t l _ (by dsimp only; omega), v65_at H t l _ (by dsimp only; omega)]
  simp only [add_coe]
  rfl

theorem v70_at (r : Fin 1) : val_main_v70 (F := Ideal) x0 x1 x2 x3 (ix2 r l) = ((∑ t, gr X A W B l t : ℝ) : EReal) := by
  pointwise [val_main_v70, val_main_v32, val_main_v31, val_main_v30, val_main_cst_2, val_main_cst_3, v29_at H]
  simp [sum_coe]

theorem ref_stat (r : Fin 8) : val_main_v72 (F := Ideal) x0 x1 x2 x3 (ix2 r l) = ((stat (X · l) (gr X A W B l) r.val : ℝ) : EReal) := by
  unfold stat
  by_cases h : r.val < 4
  · rw [if_pos h]
    pointwise [val_main_v72, val_main_v64, val_main_v55, val_main_v46]
    rw [dif_pos h, v38_at H, v45_at H, v54_at H, v63_at H]
    simp only [add_coe]
    refine congrArg _ ?_
    obtain h | h | h | h : r.val = 0 ∨ r.val = 1 ∨ r.val = 2 ∨ r.val = 3 := by omega
    all_goals simp [h, down_zero]
  · rw [if_neg h]
    by_cases h' : r.val = 4
    · rw [if_pos h']
      pointwise [val_main_v72]
      rw [dif_neg h, dif_pos (by omega)]
      exact v70_at H l _
    · rw [if_neg h']
      pointwise [val_main_v72, val_main_v71, val_main_cst_16]
      rw [dif_neg h, dif_neg (by omega)]
      rfl
end Whole

/-! ## The two calls' results -/

abbrev lane (t : Fin 8) (l : Fin 128) : Fin 1024 := ⟨128 * t.val + l.val, by omega⟩

theorem idx0 : ∀ t : Fin cfg0.N, win0_0.index t = ![0, 32 + t.val] ∧ win0_1.index t = ![0, t.val] ∧ win0_2.index t = ![0, t.val] ∧ win0_3.index t = ![0, t.val] ∧ win0_4.index t = ![0, t.val] :=
  (by decide +kernel : ∀ t : Fin grid0.N, _)

theorem idx1 : ∀ t : Fin cfg1.N, win1_0.index t = ![0, 32 + t.val] ∧ win1_1.index t = ![0, t.val] ∧ win1_2.index t = ![0, t.val] ∧ win1_3.index t = ![0, t.val] ∧ win1_4.index t = ![0, t.val] ∧ win1_5.index t = ![0, t.val] :=
  (by decide +kernel : ∀ t : Fin grid1.N, _)

variable (m : (ℓ : Loc nD τ sig) → Buf (Elt Ideal) ℓ) (ρ : Dev nD → PrngReg)

theorem V_packed (c : Dev nD) : V3 m ρ c main_v7 = Cert.Sb.packed (m (c, Proc.tc.devRef main_arg0)) := by
  simp only [V3, W3, W2, W1, W0, hostOps0, hostOps0_1, hostOps0_2, StableHlo.TRef.binary, StableHlo.TRef.nullary, StableHlo.TRef.unary, StableHlo.TRef.toBuf, StableHlo.TRef.ofBuf, cast_eq]
  after_results_simp
  rfl

theorem V_bias (c : Dev nD) : V3 m ρ c main_v8 = shapeCast S1x1024 (m (c, Proc.tc.devRef main_arg2) : FVec Ideal S1024 .f32) shapeCasts_S1024_S1x1024 := by
  simp only [V3, W3, W2, W1, W0, hostOps0, hostOps0_1, hostOps0_2, StableHlo.TRef.binary, StableHlo.TRef.nullary, StableHlo.TRef.unary, StableHlo.TRef.toBuf, StableHlo.TRef.ofBuf, cast_eq]
  after_results_simp
  rfl

theorem bias_at (b : FVec Ideal S1024 .f32) (l : Fin 1024) : (shapeCast S1x1024 b shapeCasts_S1024_S1x1024 : FVec Ideal S1x1024 .f32) (ix2 0 l) = b (ix1 l) := by
  pointwise

section
variable (c : Dev nD) {X A : Fin 8192 → Fin 1024 → ℝ} {W : Fin 4 → Fin 1024 → ℝ} {B : Fin 1024 → ℝ} (H : Whole (m ((c : Thread nD τ).loc main_arg0)) (m ((c : Thread nD τ).loc main_arg1)) (m ((c : Thread nD τ).loc main_arg2)) (m ((c : Thread nD τ).loc main_arg3)) X A W B)
include H

theorem packed_real (k : Fin 8192) (l : Fin 1024) : Cert.Sb.packed (m ((c : Thread nD τ).loc main_arg0)) (ix2 k ⟨4096 + l.val, by omega⟩) = ((X k l : ℝ) : EReal) :=
  (Cert.Sb.packed_at _ k _ (by dsimp only; omega)).trans (H.x k l)

/-- The blocks of a point of the forward call. -/
theorem x0_at (t : Fin cfg0.N) (k : Fin 8192) (l : Fin 128) : iblk0 (V3 m ρ) c 0 t (ix2 k l) = ((X k (lane t l) : ℝ) : EReal) := by
  show V3 m ρ c main_v7 ((win0_0.blk t).view.emb (ix2 k l)) = _
  rw [show (win0_0.blk t).view.emb (ix2 k l) = ix2 k ⟨4096 + (lane t l).val, by omega⟩ from by blk_ext [idx0 t], V_packed]
  exact packed_real m c H k _

theorem w0_at (t : Fin cfg0.N) (k : Fin 4) (l : Fin 128) : iblk0 (V3 m ρ) c 1 t (ix2 k l) = ((W k (lane t l) : ℝ) : EReal) := by
  show V3 m ρ c main_arg1 ((win0_1.blk t).view.emb (ix2 k l)) = _
  rw [show (win0_1.blk t).view.emb (ix2 k l) = ix2 k (lane t l) from by blk_ext [idx0 t], ← H.w]
  exact congrFun (W3_args m ρ c main_arg1 (by decide)) _

theorem b0_at (t : Fin cfg0.N) (l : Fin 128) : iblk0 (V3 m ρ) c 2 t (ix2 0 l) = ((B (lane t l) : ℝ) : EReal) := by
  show V3 m ρ c main_v8 ((win0_2.blk t).view.emb (ix2 0 l)) = _
  rw [show (win0_2.blk t).view.emb (ix2 0 l) = ix2 0 (lane t l) from by blk_ext [idx0 t], V_bias, bias_at]
  exact H.b _

theorem final0_3 (k : Fin 8192) (l : Fin 1024) : (dat0 (V3 m ρ) c).arrAt 3 cfg0.N (ix2 k l) = ((pre (X · l) (W · l) (B l) k : ℝ) : EReal) := by
  have e : (dat0 (V3 m ρ) c).arrAt 3 cfg0.N = (fun y : S8192x1024.Idx => ((pre (X · (y 1)) (W · (y 1)) (B (y 1)) (y 0) : ℝ) : EReal)) := by
    refine (dat0 (V3 m ρ) c).arrAt_eq_of_covers 3 _ (by decide +kernel) fun t _ y => ?_
    blk_simp
    rw [after0_3]
    obtain ⟨i, l, rfl⟩ : ∃ (i : Fin 8192) (l : Fin 128), y = ix2 i l := ⟨y 0, y 1, Shape.idx_ext₂ rfl rfl⟩
    rw [show (win0_3.blk t).view.emb (ix2 i l) = ix2 i (lane t l) from by blk_ext [idx0 t], out3_at (x0_at m ρ c H t) (w0_at m ρ c H t) (b0_at m ρ c H t)]
    rfl
  rw [e]
  rfl

theorem final_act : (dat0 (V3 m ρ) c).arrAt 4 cfg0.N = Cert.ConvReferenceIdeal.Read.val_main_v28_0 (F := Ideal) (m ((c : Thread nD τ).loc main_arg0)) (m ((c : Thread nD τ).loc main_arg1)) (m ((c : Thread nD τ).loc main_arg2)) := by
  refine (dat0 (V3 m ρ) c).arrAt_eq_of_covers 4 _ (by decide +kernel) fun t _ y => ?_
  blk_simp
  rw [after0_4]
  obtain ⟨i, l, rfl⟩ : ∃ (i : Fin 8192) (l : Fin 128), y = ix2 i l := ⟨y 0, y 1, Shape.idx_ext₂ rfl rfl⟩
  rw [show (win0_4.blk t).view.emb (ix2 i l) = ix2 i (lane t l) from by blk_ext [idx0 t], out4_at (x0_at m ρ c H t) (w0_at m ρ c H t) (b0_at m ρ c H t), ref_act H]

/-- The blocks of a point of the backward call. -/
theorem x1_at (t : Fin cfg1.N) (k : Fin 8192) (l : Fin 128) : iblk1 (V4 m ρ) c 0 t (ix2 k l) = ((X k (lane t l) : ℝ) : EReal) := by
  show V4 m ρ c main_v7 ((win1_0.blk t).view.emb (ix2 k l)) = _
  rw [show (win1_0.blk t).view.emb (ix2 k l) = ix2 k ⟨4096 + (lane t l).val, by omega⟩ from by blk_ext [idx1 t], show V4 m ρ c main_v7 = V3 m ρ c main_v7 from W4_of m ρ c main_v7 (by decide), V_packed]
  exact packed_real m c H k _

theorem p1_at (t : Fin cfg1.N) (k : Fin 8192) (l : Fin 128) : iblk1 (V4 m ρ) c 1 t (ix2 k l) = ((pre (X · (lane t l)) (W · (lane t l)) (B (lane t l)) k : ℝ) : EReal) := by
  show V4 m ρ c main_v9_0 ((win1_1.blk t).view.emb (ix2 k l)) = _
  rw [show (win1_1.blk t).view.emb (ix2 k l) = ix2 k (lane t l) from by blk_ext [idx1 t], show V4 m ρ c main_v9_0 = _ from W4_arr m ρ c 3]
  exact final0_3 m ρ c H k _

theorem a1_at (t : Fin cfg1.N) (k : Fin 8192) (l : Fin 128) : iblk1 (V4 m ρ) c 2 t (ix2 k l) = ((A k (lane t l) : ℝ) : EReal) := by
  show V4 m ρ c main_arg3 ((win1_2.blk t).view.emb (ix2 k l)) = _
  rw [show (win1_2.blk t).view.emb (ix2 k l) = ix2 k (lane t l) from by blk_ext [idx1 t], ← H.a]
  exact congrFun (W4_args m ρ c main_arg3 (by decide)) _

theorem w1_at (t : Fin cfg1.N) (k : Fin 4) (l : Fin 128) : iblk1 (V4 m ρ) c 3 t (ix2 k l) = ((W k (lane t l) : ℝ) : EReal) := by
  show V4 m ρ c main_arg1 ((win1_3.blk t).view.emb (ix2 k l)) = _
  rw [show (win1_3.blk t).view.emb (ix2 k l) = ix2 k (lane t l) from by blk_ext [idx1 t], ← H.w]
  exact congrFun (W4_args m ρ c main_arg1 (by decide)) _

theorem final_dx : (dat1 (V4 m ρ) c).arrAt 4 cfg1.N = Cert.ConvReferenceIdeal.Read.val_main_v69 (F := Ideal) (m ((c : Thread nD τ).loc main_arg0)) (m ((c : Thread nD τ).loc main_arg1)) (m ((c : Thread nD τ).loc main_arg2)) (m ((c : Thread nD τ).loc main_arg3)) := by
  refine (dat1 (V4 m ρ) c).arrAt_eq_of_covers 4 _ (by decide +kernel) fun t _ y => ?_
  blk_simp
  rw [after1_4]
  obtain ⟨i, l, rfl⟩ : ∃ (i : Fin 8192) (l : Fin 128), y = ix2 i l := ⟨y 0, y 1, Shape.idx_ext₂ rfl rfl⟩
  rw [show (win1_4.blk t).view.emb (ix2 i l) = ix2 i (lane t l) from by blk_ext [idx1 t], ref_dx H]
  dsimp only [outsAt1]
  exact outA4 (W := fun k l => W k (lane t l)) (P := fun k l => pre (X · (lane t l)) (W · (lane t l)) (B (lane t l)) k) (A := fun k l => A k (lane t l)) (p1_at m ρ c H t) (a1_at m ρ c H t) (w1_at m ρ c H t) c _ _ _ _ _ _ _ _ _ _ _ _ _ i l

theorem final_stat : (dat1 (V4 m ρ) c).arrAt 5 cfg1.N = Cert.ConvReferenceIdeal.Read.val_main_v72 (F := Ideal) (m ((c : Thread nD τ).loc main_arg0)) (m ((c : Thread nD τ).loc main_arg1)) (m ((c : Thread nD τ).loc main_arg2)) (m ((c : Thread nD τ).loc main_arg3)) := by
  refine (dat1 (V4 m ρ) c).arrAt_eq_of_covers 5 _ (by decide +kernel) fun t _ y => ?_
  blk_simp
  rw [after1_5]
  obtain ⟨i, l, rfl⟩ : ∃ (i : Fin 8) (l : Fin 128), y = ix2 i l := ⟨y 0, y 1, Shape.idx_ext₂ rfl rfl⟩
  rw [show (win1_5.blk t).view.emb (ix2 i l) = ix2 i (lane t l) from by blk_ext [idx1 t], ref_stat H]
  dsimp only [outsAt1]
  exact outA5 (X := fun k l => X k (lane t l)) (P := fun k l => pre (X · (lane t l)) (W · (lane t l)) (B (lane t l)) k) (A := fun k l => A k (lane t l)) (x1_at m ρ c H t) (p1_at m ρ c H t) (a1_at m ρ c H t) c _ _ _ _ _ _ _ _ _ _ _ _ _ i l
end

local notation "𝕄" => MT nD τ sig Unit (Elt Ideal) ℕ (UR sig nD τ) ℕ
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

/-- The run leaves what the two calls write; the arguments are unchanged. -/
theorem run : θ_run defs (onTc (τ := τ) (main (F := Ideal))) ⟨m, fun _ => 0, ρ⟩ (fun r => ∀ c : Dev nD,
      r.2.mem ((c.tc : Thread nD τ).loc main_v9_1) = (dat0 (V3 m ρ) c).arrAt 4 cfg0.N
      ∧ r.2.mem ((c.tc : Thread nD τ).loc main_v10_0) = (dat1 (V4 m ρ) c).arrAt 4 cfg1.N
      ∧ r.2.mem ((c.tc : Thread nD τ).loc main_v10_1) = (dat1 (V4 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v9_1 (by decide))).trans ((W5_of m ρ c main_v9_1 (by decide)).trans (W4_arr m ρ c 4)),
       (h c _ (mem_uc main_v10_0 (by decide))).trans (W5_arr m ρ c 4),
       (h c _ (mem_uc main_v10_1 (by decide))).trans (W5_arr m ρ c 5),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.ConvKernelIdeal.Value

namespace Cert.Conv

open Cert.ConvKernelIdeal Cert.ConvKernelIdeal.Value Idealize.ShloMosaic Idealize.ShloMosaic.TcCoe Idealize.SL.Sem

/-- Under the precondition the arguments are real. -/
theorem holds [Cert.Pre_conv_finite.Facts] (x0 : FVec Ideal S8192x5128 .f32) (x1 : FVec Ideal S4x1024 .f32) (x2 : FVec Ideal S1024 .f32) (x3 : FVec Ideal S8192x1024 .f32)
    (h : Cert.Pre_conv_finite.fn (F := Ideal) x0 x1 x2 x3 = fun _ => 1#1) : ∃ X A W B, Whole x0 x1 x2 x3 X A W B := by
  have a0 (i : Fin 8192) (l : Fin 1024) : x0 (ix2 i ⟨4096 + l.val, by omega⟩) = ((EReal.toReal (x0 (ix2 i ⟨4096 + l.val, by omega⟩)) : ℝ) : EReal) := Sb.real _ (by
    have e := congrFun h (ix2 ⟨i.val, by omega⟩ l)
    revert e
    pointwise [Cert.Pre_conv_finite.fn]
    exact id)
  have a3 (i : Fin 8192) (l : Fin 1024) : x3 (ix2 i l) = ((EReal.toReal (x3 (ix2 i l)) : ℝ) : EReal) := Sb.real _ (by
    have e := congrFun h (ix2 ⟨8192 + i.val, by omega⟩ l)
    revert e
    pointwise [Cert.Pre_conv_finite.fn]
    exact id)
  have a1 (i : Fin 4) (l : Fin 1024) : x1 (ix2 i l) = ((EReal.toReal (x1 (ix2 i l)) : ℝ) : EReal) := Sb.real _ (by
    have e := congrFun h (ix2 ⟨16384 + i.val, by omega⟩ l)
    revert e
    pointwise [Cert.Pre_conv_finite.fn]
    intro e
    rw [dif_neg (by omega), dif_neg (by omega), dif_pos (by omega)] at e
    rwa [show (⟨16384 + i.val - 8192 - 8192, by omega⟩ : Fin 4) = i from Fin.ext (by dsimp only; omega)] at e)
  have a2 (l : Fin 1024) : x2 (ix1 l) = ((EReal.toReal (x2 (ix1 l)) : ℝ) : EReal) := Sb.real _ (by
    have e := congrFun h (ix2 ⟨16388, by omega⟩ l)
    revert e
    pointwise [Cert.Pre_conv_finite.fn]
    exact id)
  exact ⟨_, _, _, _, ⟨a0, a1, a2, a3⟩⟩

/-- The kernel's three results are the reference's. -/
theorem algebraic [Cert.Pre_conv_finite.Facts] : Cert.algebraic_ConvKernelIdeal_ConvReferenceIdeal_pre_conv_finite := by
  intro m g m' g' hpre hagree
  refine ⟨fun c => Cert.ConvReferenceIdeal.Read.val_main_v28_0 (F := Ideal) (m ((c.tc : Thread nD τ).loc main_arg0)) (m ((c.tc : Thread nD τ).loc main_arg1)) (m ((c.tc : Thread nD τ).loc main_arg2)),
    fun c => Cert.ConvReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)),
    fun c => Cert.ConvReferenceIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run defs _ _).mono (fun r h c => ?_) (Cert.ConvKernelIdeal.Value.run m g)
    obtain ⟨X, A, W, B, H⟩ := holds _ _ _ _ (hpre c)
    exact ⟨(h c).1.trans (final_act m g c H), (h c).2.1.trans (final_dx m g c H), (h c).2.2.1.trans (final_stat m g c H), (h c).2.2.2⟩
  · refine (θ_run Cert.ConvReferenceIdeal.defs _ _).mono (fun r h c => ?_) (Cert.ConvReferenceIdeal.Value.run m' g')
    refine ⟨(h c).1.trans ((Cert.ConvReferenceIdeal.Read.val_main_v28_0_eq _ _).trans ?_),
      (h c).2.1.trans ((Cert.ConvReferenceIdeal.Read.val_main_v69_eq _ _).trans ?_),
      (h c).2.2.1.trans ((Cert.ConvReferenceIdeal.Read.val_main_v72_eq _ _).trans ?_), (h c).2.2.2⟩
    all_goals simp only [(hagree c).1, (hagree c).2.1, (hagree c).2.2.1, (hagree c).2.2.2]

end Cert.Conv

end
-- ==== Proof.ModValue.lean ====
/- What the modulated norm leaves in its result. -/
module

public import proofs.«01_k».proof.Proof.Gen.ModKernelIdeal.Value
public import proofs.«01_k».proof.Proof.Common
public import proofs.«01_k».proof.Proof.SbHost
public import proofs.«01_k».proof.Defs
public import proofs.«01_k».proof.Proof.Gen.ModReferenceIdeal.Run
public import proofs.«01_k».proof.Proof.Gen.ModReferenceIdeal.Read
public import Idealize.ShloMosaic.Lib.Tactic

@[expose] public section

set_option maxRecDepth 16384

noncomputable section

namespace Cert.ModKernelIdeal.Value

open Cert.ModKernelIdeal Cert.ModKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

theorem out4 (x0 : Vec Ideal S512x1024 .f32) (x1 x2 x3 : Vec Ideal S1x1024 .f32) : out0_4 x0 x1 x2 x3 = k0_pay1 x0 x1 x3 x2 := by
  frame_out

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The row of the whole a tile's row is. -/
abbrev row (t : Fin cfg0.N) (i : Fin 512) : Fin 8192 := ⟨512 * t.val + i.val, by have := t.isLt; have hN : cfg0.N = 16 := N_0; omega⟩

/-! ## The blocks of a grid point -/

section
variable (c : Dev nD) (t : Fin cfg0.N)

theorem h_at (i : Fin 512) (l : Fin 1024) : iblk m c 0 t (ix2 i l) = m ((c : Thread nD τ).loc main_arg0) (ix2 (row t i) l) := by
  blk_point [iblk, V, idx t]

theorem gain_at (l : Fin 1024) : iblk m c 1 t (ix2 0 l) = m ((c : Thread nD τ).loc main_arg1) (ix1 l) := by
  show V m c main_v0 ((win0_1.blk t).view.emb (ix2 0 l)) = _
  rw [show V m c main_v0 = shapeCast S1x1024 (m (c, Proc.tc.devRef main_arg1)) shapeCasts_S1024_S1x1024 from by
      simp only [V, hostOps0]
      after_results_simp
      rfl, show (win0_1.blk t).view.emb (ix2 0 l) = ix2 0 l from by blk_ext [idx t]]
  pointwise

theorem shift_at (l : Fin 1024) : iblk m c 2 t (ix2 0 l) = m ((c : Thread nD τ).loc main_arg2) (ix2 0 l) := by
  blk_point [iblk, V, idx t]

theorem scale_at (l : Fin 1024) : iblk m c 3 t (ix2 0 l) = m ((c : Thread nD τ).loc main_arg3) (ix2 0 l) := by
  blk_point [iblk, V, idx t]
end

/-- The result is the reference's. -/
theorem final4 (c : Dev nD) : (dats m 0 c).arrAt 4 cfg0.N = Cert.ModReferenceIdeal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, l, rfl⟩ : ∃ (i : Fin 512) (l : Fin 1024), y = ix2 i l := ⟨y 0, y 1, Shape.idx_ext₂ rfl rfl⟩
  rw [show (win0_4.blk t).view.emb (ix2 i l) = ix2 (row t i) l from by blk_ext [idx t], out4]
  open Cert.ModReferenceIdeal.Read in
  pointwise [k0_pay1, h_at, gain_at, shift_at, scale_at, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

end Cert.ModKernelIdeal.Value

namespace Cert.Mod

/-- The kernel's result is the reference's. -/
theorem algebraic : Cert.algebraic_ModKernelIdeal_ModReferenceIdeal := by
  pair_intro
  · run_from Cert.ModKernelIdeal.Value.run_blocks m g
  · run_from Cert.ModReferenceIdeal.Value.run m' g'
    exact (Cert.ModKernelIdeal.Value.final4 m c).symm

end Cert.Mod

end
-- ==== Proof.GnfValue.lean ====
/- What the gated norm leaves in its result. -/
module

public import proofs.«01_k».proof.Proof.Gen.GnfKernelIdeal.Value
public import proofs.«01_k».proof.Proof.Common
public import proofs.«01_k».proof.Proof.SbHost
public import proofs.«01_k».proof.Defs
public import proofs.«01_k».proof.Proof.Gen.GnfReferenceIdeal.Run
public import proofs.«01_k».proof.Proof.Gen.GnfReferenceIdeal.Read
public import Idealize.ShloMosaic.Lib.Tactic

@[expose] public section

set_option maxRecDepth 16384

noncomputable section

namespace Cert.GnfKernelIdeal.Value

open Cert.GnfKernelIdeal Cert.GnfKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

theorem out3 (x0 x1 : Vec Ideal S512x512 .f32) (x2 : Vec Ideal S1x512 .f32) : out0_3 x0 x1 x2 = k0_pay1 x1 x0 x2 := by
  frame_out

theorem idx : ∀ t : Fin cfg0.N, win0_0.index t = ![t.val, 0] ∧ win0_1.index t = ![t.val, 7] ∧ win0_2.index t = ![0, 0] ∧ win0_3.index t = ![t.val, 0] :=
  (by decide +kernel : ∀ t : Fin grid0.N, _)

/-- The row of the whole a tile's row is. -/
abbrev row (t : Fin cfg0.N) (i : Fin 512) : Fin 8192 := ⟨512 * t.val + i.val, by have := t.isLt; have hN : cfg0.N = 16 := N_0; omega⟩

/-! ## The blocks of a grid point -/

section
variable (c : Dev nD) (t : Fin cfg0.N)

theorem y_at (i : Fin 512) (l : Fin 512) : iblk m c 0 t (ix2 i l) = m ((c : Thread nD τ).loc main_arg0) (ix2 (row t i) l) := by
  blk_point [iblk, V, idx t]

theorem z_at (i : Fin 512) (l : Fin 512) : iblk m c 1 t (ix2 i l) = m ((c : Thread nD τ).loc main_arg1) (ix2 (row t i) ⟨3584 + l.val, by omega⟩) := by
  show V m c main_v7 ((win0_1.blk t).view.emb (ix2 i l)) = _
  rw [show V m c main_v7 = Cert.Sb.packed (m (c, Proc.tc.devRef main_arg1)) from by
      simp only [V, hostOps0, hostOps0_1, hostOps0_2, List.flatten_cons, List.flatten_nil, List.append_nil, List.cons_append, List.nil_append]
      after_results_simp
      rfl, show (win0_1.blk t).view.emb (ix2 i l) = ix2 (row t i) ⟨3584 + l.val, by omega⟩ from by blk_ext [idx t],
    Cert.Sb.packed_at _ _ _ (by dsimp only; omega)]

theorem gain_at (l : Fin 512) : iblk m c 2 t (ix2 0 l) = m ((c : Thread nD τ).loc main_arg2) (ix1 l) := by
  show V m c main_v8 ((win0_2.blk t).view.emb (ix2 0 l)) = _
  rw [show V m c main_v8 = shapeCast S1x512 (m (c, Proc.tc.devRef main_arg2)) shapeCasts_S512_S1x512 from by
      simp only [V, hostOps0, hostOps0_1, hostOps0_2, List.flatten_cons, List.flatten_nil, List.append_nil, List.cons_append, List.nil_append]
      after_results_simp
      rfl, show (win0_2.blk t).view.emb (ix2 0 l) = ix2 0 l from by blk_ext [idx t]]
  pointwise
end

/-- The result is the reference's. -/
theorem final3 (c : Dev nD) : (dats m 0 c).arrAt 3 cfg0.N = Cert.GnfReferenceIdeal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨i, l, rfl⟩ : ∃ (i l : Fin 512), y = ix2 i l := ⟨y 0, y 1, Shape.idx_ext₂ rfl rfl⟩
  rw [show (win0_3.blk t).view.emb (ix2 i l) = ix2 (row t i) l from by blk_ext [idx t], out3]
  open Cert.GnfReferenceIdeal.Read in
  pointwise [k0_pay1, y_at, z_at, gain_at, Ideal.logistic, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1, ofBits_one]

end Cert.GnfKernelIdeal.Value

namespace Cert.Gnf

/-- The kernel's result is the reference's. -/
theorem algebraic : Cert.algebraic_GnfKernelIdeal_GnfReferenceIdeal := by
  pair_intro
  · run_from Cert.GnfKernelIdeal.Value.run_blocks m g
  · run_from Cert.GnfReferenceIdeal.Value.run m' g'
    exact (Cert.GnfKernelIdeal.Value.final3 m c).symm

end Cert.Gnf

end
-- ==== Proof.UpValue.lean ====
/- What the gated unit leaves in its three results: the two projections and their product through the silu. -/
module

public import proofs.«01_k».proof.Proof.Gen.UpKernelIdeal.Value
public import proofs.«01_k».proof.Proof.Common
public import proofs.«01_k».proof.Proof.SbHost
public import proofs.«01_k».proof.Defs
public import proofs.«01_k».proof.Proof.Gen.UpReferenceIdeal.Run
public import proofs.«01_k».proof.Proof.Gen.UpReferenceIdeal.Read
public import Idealize.ShloMosaic.Lib.Tactic

@[expose] public section

set_option maxRecDepth 16384

noncomputable section

namespace Cert.UpKernelIdeal.Value

open Cert.UpKernelIdeal Cert.UpKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

theorem out3 (x0 : Vec Ideal S4096x1024 .bf16) (x1 x2 : Vec Ideal S256x1024 .bf16) : out0_3 x0 x1 x2 = k0_pay3 x0 x1 := by
  frame_out
theorem out4 (x0 : Vec Ideal S4096x1024 .bf16) (x1 x2 : Vec Ideal S256x1024 .bf16) : out0_4 x0 x1 x2 = k0_pay4 x0 x2 := by
  frame_out
theorem out5 (x0 : Vec Ideal S4096x1024 .bf16) (x1 x2 : Vec Ideal S256x1024 .bf16) : out0_5 x0 x1 x2 = k0_pay5 x0 x1 x2 := by
  frame_out

abbrev row (t : Fin cfg0.N) (i : Fin 4096) : Fin 8192 := ⟨4096 * (t.val / 11) + i.val, by have := t.isLt; have hN : cfg0.N = 22 := N_0; omega⟩
abbrev lane (t : Fin cfg0.N) (l : Fin 256) : Fin 2816 := ⟨256 * (t.val % 11) + l.val, by omega⟩

theorem idx : ∀ t : Fin cfg0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11] ∧ win0_5.index t = ![t.val / 11, t.val % 11] :=
  (by decide +kernel : ∀ t : Fin grid0.N, _)

/-! ## The blocks of a grid point -/

/-- A weight as the host lays it out for the kernel. -/
abbrev laid (w : FVec Ideal S1024x2816 .f32) : FVec Ideal S2816x1024 .bf16 := (truncf .bf16 (pad S2816x1024 ![0, 0] ![0, 0] ![0, 0] (transpose S2816x1024 [1, 0] w transposes_S1024x2816_S2816x1024_1_0) (sitofp .f32 (constantI S_ 32 0#32)) pads_S2816x1024_S2816x1024_000_000 h_S_) bitsLt_bf16_f32 : FVec Ideal S2816x1024 .bf16)

theorem laid_at (w : FVec Ideal S1024x2816 .f32) (l : Fin 2816) (k : Fin 1024) : laid w (ix2 l k) = w (ix2 k l) := by
  pointwise

section
variable (c : Dev nD) (t : Fin cfg0.N)

theorem u_at (i : Fin 4096) (k : Fin 1024) : iblk m c 0 t (ix2 i k) = m ((c : Thread nD τ).loc main_arg0) (ix2 (row t i) k) := by
  blk_point [iblk, V, idx t]

theorem wg_at (l : Fin 256) (k : Fin 1024) : iblk m c 1 t (ix2 l k) = m ((c : Thread nD τ).loc main_arg1) (ix2 k (lane t l)) := by
  show V m c main_v2 ((win0_1.blk t).view.emb (ix2 l k)) = _
  rw [show V m c main_v2 = laid (m (c, Proc.tc.devRef main_arg1)) from by
      simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp, show (win0_1.blk t).view.emb (ix2 l k) = ix2 (lane t l) k from by blk_ext [idx t], laid_at]

theorem wu_at (l : Fin 256) (k : Fin 1024) : iblk m c 2 t (ix2 l k) = m ((c : Thread nD τ).loc main_arg2) (ix2 k (lane t l)) := by
  show V m c main_v5 ((win0_2.blk t).view.emb (ix2 l k)) = _
  rw [show V m c main_v5 = laid (m (c, Proc.tc.devRef main_arg2)) from by
      simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp, show (win0_2.blk t).view.emb (ix2 l k) = ix2 (lane t l) k from by blk_ext [idx t], laid_at]

open Cert.UpReferenceIdeal.Read

/-- The two projections' tiles. -/
theorem a_at (i : Fin 4096) (l : Fin 256) : k0_pay3 (iblk m c 0 t) (iblk m c 1 t) (ix2 i l) = val_main_v3 (F := Ideal) (m ((c : Thread nD τ).loc main_arg0)) (m ((c : Thread nD τ).loc main_arg1)) (ix2 (row t i) (lane t l)) := by
  pointwise [k0_pay3, k0_pay1, u_at, wg_at, val_main_v3, val_main_v1, val_main_v0]

theorem b_at (i : Fin 4096) (l : Fin 256) : k0_pay4 (iblk m c 0 t) (iblk m c 2 t) (ix2 i l) = val_main_v4 (F := Ideal) (m ((c : Thread nD τ).loc main_arg0)) (m ((c : Thread nD τ).loc main_arg2)) (ix2 (row t i) (lane t l)) := by
  pointwise [k0_pay4, k0_pay2, u_at, wu_at, val_main_v4, val_main_v2, val_main_v0]

theorem act_at (i : Fin 4096) (l : Fin 256) : k0_pay5 (iblk m c 0 t) (iblk m c 1 t) (iblk m c 2 t) (ix2 i l) = val_main_v7 (F := Ideal) (m ((c : Thread nD τ).loc main_arg0)) (m ((c : Thread nD τ).loc main_arg1)) (m ((c : Thread nD τ).loc main_arg2)) (ix2 (row t i) (lane t l)) := by
  pointwise [k0_pay5, k0_pay1, k0_pay2, u_at, wg_at, wu_at, Ideal.logistic, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, ofBits_one]
end

theorem final3 (c : Dev nD) : (dats m 0 c).arrAt 3 cfg0.N = Cert.UpReferenceIdeal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  obtain ⟨i, l, rfl⟩ : ∃ (i : Fin 4096) (l : Fin 256), y = ix2 i l := ⟨y 0, y 1, Shape.idx_ext₂ rfl rfl⟩
  rw [show (win0_3.blk t).view.emb (ix2 i l) = ix2 (row t i) (lane t l) from by blk_ext [idx t], out3]
  exact a_at m c t i l

theorem final4 (c : Dev nD) : (dats m 0 c).arrAt 4 cfg0.N = Cert.UpReferenceIdeal.Read.val_main_v4 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  obtain ⟨i, l, rfl⟩ : ∃ (i : Fin 4096) (l : Fin 256), y = ix2 i l := ⟨y 0, y 1, Shape.idx_ext₂ rfl rfl⟩
  rw [show (win0_4.blk t).view.emb (ix2 i l) = ix2 (row t i) (lane t l) from by blk_ext [idx t], out4]
  exact b_at m c t i l

theorem final5 (c : Dev nD) : (dats m 0 c).arrAt 5 cfg0.N = Cert.UpReferenceIdeal.Read.val_main_v7 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨i, l, rfl⟩ : ∃ (i : Fin 4096) (l : Fin 256), y = ix2 i l := ⟨y 0, y 1, Shape.idx_ext₂ rfl rfl⟩
  rw [show (win0_5.blk t).view.emb (ix2 i l) = ix2 (row t i) (lane t l) from by blk_ext [idx t], out5]
  exact act_at m c t i l

end Cert.UpKernelIdeal.Value

namespace Cert.Up

/-- The kernel's three results are the reference's. -/
theorem algebraic : Cert.algebraic_UpKernelIdeal_UpReferenceIdeal := by
  pair_intro
  · run_from Cert.UpKernelIdeal.Value.run_blocks m g
  · run_from Cert.UpReferenceIdeal.Value.run m' g'
    all_goals first
      | exact (Cert.UpKernelIdeal.Value.final3 m c).symm
      | exact (Cert.UpKernelIdeal.Value.final4 m c).symm
      | exact (Cert.UpKernelIdeal.Value.final5 m c).symm

end Cert.Up

end
-- ==== Proof.DownValue.lean ====
/- What the down projection with its gated residual leaves in its two results. -/
module

public import proofs.«01_k».proof.Proof.Gen.DownKernelIdeal.Value
public import proofs.«01_k».proof.Proof.Common
public import proofs.«01_k».proof.Proof.SbHost
public import proofs.«01_k».proof.Defs
public import proofs.«01_k».proof.Proof.Gen.DownReferenceIdeal.Run
public import proofs.«01_k».proof.Proof.Gen.DownReferenceIdeal.Read
public import Idealize.ShloMosaic.Lib.Tactic

@[expose] public section

set_option maxRecDepth 16384

noncomputable section

namespace Cert.DownKernelIdeal.Value

open Cert.DownKernelIdeal Cert.DownKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

theorem out4 (x0 : Vec Ideal S512x2816 .bf16) (x1 : Vec Ideal S2816x1024 .bf16) (x2 : Vec Ideal S512x1024 .f32) (x3 : Vec Ideal S1x1024 .f32) : out0_4 x0 x1 x2 x3 = k0_pay2 x0 x1 x2 x3 := by
  frame_out
theorem out5 (x0 : Vec Ideal S512x2816 .bf16) (x1 : Vec Ideal S2816x1024 .bf16) (x2 : Vec Ideal S512x1024 .f32) (x3 : Vec Ideal S1x1024 .f32) : out0_5 x0 x1 x2 x3 = k0_pay1 x0 x1 := by
  frame_out

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The row of the whole a tile's row is. -/
abbrev row (t : Fin cfg0.N) (i : Fin 512) : Fin 8192 := ⟨512 * t.val + i.val, by have := t.isLt; have hN : cfg0.N = 16 := N_0; omega⟩

/-! ## The blocks of a grid point -/

/-- The weight as the host lays it out for the kernel. -/
abbrev laid (w : FVec Ideal S2816x1024 .f32) : FVec Ideal S2816x1024 .bf16 := (truncf .bf16 (pad S2816x1024 ![0, 0] ![0, 0] ![0, 0] w (sitofp .f32 (constantI S_ 32 0#32)) pads_S2816x1024_S2816x1024_000_000 h_S_) bitsLt_bf16_f32 : FVec Ideal S2816x1024 .bf16)

theorem laid_at (w : FVec Ideal S2816x1024 .f32) (k : Fin 2816) (l : Fin 1024) : laid w (ix2 k l) = w (ix2 k l) := by
  pointwise

section
variable (c : Dev nD) (t : Fin cfg0.N)

theorem act_at (i : Fin 512) (k : Fin 2816) : iblk m c 0 t (ix2 i k) = m ((c : Thread nD τ).loc main_arg0) (ix2 (row t i) k) := by
  blk_point [iblk, V, idx t]

theorem w_at (k : Fin 2816) (l : Fin 1024) : iblk m c 1 t (ix2 k l) = m ((c : Thread nD τ).loc main_arg1) (ix2 k l) := by
  show V m c main_v1 ((win0_1.blk t).view.emb (ix2 k l)) = _
  rw [show V m c main_v1 = laid (m (c, Proc.tc.devRef main_arg1)) from by
      simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp, show (win0_1.blk t).view.emb (ix2 k l) = ix2 k l from by blk_ext [idx t], laid_at]

theorem h_at (i : Fin 512) (l : Fin 1024) : iblk m c 2 t (ix2 i l) = m ((c : Thread nD τ).loc main_arg2) (ix2 (row t i) l) := by
  blk_point [iblk, V, idx t]

theorem gate_at (l : Fin 1024) : iblk m c 3 t (ix2 0 l) = m ((c : Thread nD τ).loc main_arg3) (ix2 0 l) := by
  blk_point [iblk, V, idx t]

open Cert.DownReferenceIdeal.Read in
/-- The projection's tile. -/
theorem proj_at (i : Fin 512) (l : Fin 1024) : k0_pay1 (iblk m c 0 t) (iblk m c 1 t) (ix2 i l) = val_main_v1 (F := Ideal) (m ((c : Thread nD τ).loc main_arg0)) (m ((c : Thread nD τ).loc main_arg1)) (ix2 (row t i) l) := by
  pointwise [k0_pay1, act_at, w_at, val_main_v1, val_main_v0]
end

/-- The residual is the reference's. -/
theorem final4 (c : Dev nD) : (dats m 0 c).arrAt 4 cfg0.N = Cert.DownReferenceIdeal.Read.val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, l, rfl⟩ : ∃ (i : Fin 512) (l : Fin 1024), y = ix2 i l := ⟨y 0, y 1, Shape.idx_ext₂ rfl rfl⟩
  rw [show (win0_4.blk t).view.emb (ix2 i l) = ix2 (row t i) l from by blk_ext [idx t], out4]
  open Cert.DownReferenceIdeal.Read in
  pointwise [k0_pay2, proj_at, h_at, gate_at, val_main_v8, val_main_v7, val_main_v6, val_main_v5, val_main_v4, val_main_v3, val_main_v2, val_main_cst, val_main_cst_0]

/-- The projection is the reference's. -/
theorem final5 (c : Dev nD) : (dats m 0 c).arrAt 5 cfg0.N = Cert.DownReferenceIdeal.Read.val_main_v1 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  obtain ⟨i, l, rfl⟩ : ∃ (i : Fin 512) (l : Fin 1024), y = ix2 i l := ⟨y 0, y 1, Shape.idx_ext₂ rfl rfl⟩
  rw [show (win0_5.blk t).view.emb (ix2 i l) = ix2 (row t i) l from by blk_ext [idx t], out5]
  exact proj_at m c t i l

end Cert.DownKernelIdeal.Value

namespace Cert.Down

/-- The kernel's two results are the reference's. -/
theorem algebraic : Cert.algebraic_DownKernelIdeal_DownReferenceIdeal := by
  pair_intro
  · run_from Cert.DownKernelIdeal.Value.run_blocks m g
  · run_from Cert.DownReferenceIdeal.Value.run m' g'
    all_goals first
      | exact (Cert.DownKernelIdeal.Value.final4 m c).symm
      | exact (Cert.DownKernelIdeal.Value.final5 m c).symm

end Cert.Down

end
-- ==== Proof.AdaValue.lean ====
/- What the modulation's projection leaves, and what its weights' gradient and step leave. -/
module

public import proofs.«01_k».proof.Proof.Gen.AdaKernelIdeal.Frame
public import proofs.«01_k».proof.Proof.Common
public import proofs.«01_k».proof.Proof.SbHost
public import proofs.«01_k».proof.Defs
public import proofs.«01_k».proof.Proof.Gen.AdaReferenceIdeal.Run
public import proofs.«01_k».proof.Proof.Gen.AdaReferenceIdeal.Read
public import Idealize.ShloMosaic.Lib.Tactic
public import Idealize.ShloMosaic.Lib.Pipeline.Value

@[expose] public section

set_option maxRecDepth 16384

noncomputable section

namespace Cert.AdaKernelIdeal.Value

open Cert.AdaKernelIdeal Cert.AdaKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

/-- The silu. -/
def sl (x : EReal) : EReal := x * Ideal.logistic x

/-! ## What the two bodies leave -/

theorem out03 (x0 : Vec Ideal S16x1024 .f32) (x1 : Vec Ideal S1024x512 .f32) (x2 : Vec Ideal S1x512 .f32) : out0_3 x0 x1 x2 = k0_pay2 x0 x1 x2 := by
  frame_out
theorem out04 (x0 : Vec Ideal S16x1024 .f32) (x1 : Vec Ideal S1024x512 .f32) (x2 : Vec Ideal S1x512 .f32) : out0_4 x0 x1 x2 = k0_pay1 x0 := by
  frame_out
theorem pay5 (x0 : Vec Ideal S256x8 .f32) (x1 : Vec Ideal S8x256 .f32) (x2 x3 x4 : Vec Ideal S256x256 .f32) : k1_pay5 x0 x1 x2 x3 x4 = k1_pay4 x0 x1 := by
  unfold k1_pay5
  rw [show View.ld x0 r1_0 = x0 from by frame_out, show View.ld x1 r1_1 = x1 from by frame_out]
theorem out15 (x0 : Vec Ideal S256x8 .f32) (x1 : Vec Ideal S8x256 .f32) (x2 x3 x4 : Vec Ideal S256x256 .f32) : out1_5 x0 x1 x2 x3 x4 = k1_pay4 x0 x1 := by
  frame_out
theorem out16 (x0 : Vec Ideal S256x8 .f32) (x1 : Vec Ideal S8x256 .f32) (x2 x3 x4 : Vec Ideal S256x256 .f32) : out1_6 x0 x1 x2 x3 x4 = k1_pay3 (k1_pay4 x0 x1) x2 x3 x4 := by
  rw [← pay5 x0 x1 x2 x3 x4]
  frame_out
theorem out17 (x0 : Vec Ideal S256x8 .f32) (x1 : Vec Ideal S8x256 .f32) (x2 x3 x4 : Vec Ideal S256x256 .f32) : out1_7 x0 x1 x2 x3 x4 = k1_pay1 (k1_pay4 x0 x1) x3 := by
  rw [← pay5 x0 x1 x2 x3 x4]
  frame_out
theorem out18 (x0 : Vec Ideal S256x8 .f32) (x1 : Vec Ideal S8x256 .f32) (x2 x3 x4 : Vec Ideal S256x256 .f32) : out1_8 x0 x1 x2 x3 x4 = k1_pay2 (k1_pay4 x0 x1) x4 := by
  rw [← pay5 x0 x1 x2 x3 x4]
  frame_out

theorem silu_at (x0 : Vec Ideal S16x1024 .f32) (i : Fin 16) (k : Fin 1024) : k0_pay1 x0 (ix2 i k) = sl (x0 (ix2 i k)) := by
  pointwise [k0_pay1]
  rfl

theorem proj_at (x0 : Vec Ideal S16x1024 .f32) (x1 : Vec Ideal S1024x512 .f32) (x2 : Vec Ideal S1x512 .f32) (i : Fin 16) (l : Fin 512) :
    k0_pay2 x0 x1 x2 (ix2 i l) = (∑ k, sl (x0 (ix2 i k)) * x1 (ix2 k l)) + x2 (ix2 0 l) := by
  pointwise [k0_pay2, silu_at]

theorem outer_at (x0 : Vec Ideal S256x8 .f32) (x1 : Vec Ideal S8x256 .f32) (i l : Fin 256) : k1_pay4 x0 x1 (ix2 i l) = ∑ q, x0 (ix2 i q) * x1 (ix2 q l) := by
  pointwise [k1_pay4]
  rw [Fin.sum_univ_eight]

/-! ## The arrays the host lays out -/

abbrev padded (x : FVec Ideal S8x1024 .f32) : FVec Ideal S16x1024 .f32 := pad S16x1024 ![0, 0] ![8, 0] ![0, 0] x (sitofp .f32 (constantI S_ 32 0#32)) pads_S8x1024_S16x1024_080_000 h_S_

abbrev cols (w : FVec Ideal S2x1024x1152 .f32) (f : FVec Ideal S1024x256 .f32) : FVec Ideal S1024x2560 .f32 :=
  concatenate S1024x2560 1 [⟨S1024x1152, shapeCast S1024x1152 (extractStridedSlice S1x1024x1152 ![0, 0, 0] w slices_S2x1024x1152_S1x1024x1152_0_0_0) shapeCasts_S1x1024x1152_S1024x1152⟩,
    ⟨S1024x1152, shapeCast S1024x1152 (extractStridedSlice S1x1024x1152 ![1, 0, 0] w slices_S2x1024x1152_S1x1024x1152_1_0_0) shapeCasts_S1x1024x1152_S1024x1152⟩, ⟨S1024x256, f⟩] concatenates_S1024x1152_S1024x1152_S1024x256_S1024x2560_d1

abbrev bias (b : FVec Ideal S2x1152 .f32) (f : FVec Ideal S256 .f32) : FVec Ideal S1x2560 .f32 :=
  concatenate S1x2560 1 [⟨S1x2304, shapeCast S1x2304 b shapeCasts_S2x1152_S1x2304⟩, ⟨S1x256, shapeCast S1x256 f shapeCasts_S256_S1x256⟩] concatenates_S1x2304_S1x256_S1x2560_d1

theorem padded_at (x : FVec Ideal S8x1024 .f32) (i : Fin 8) (k : Fin 1024) : padded x (ix2 ⟨i.val, by omega⟩ k) = x (ix2 i k) := by
  pointwise

section
variable (w : FVec Ideal S2x1024x1152 .f32) (f : FVec Ideal S1024x256 .f32) (b : FVec Ideal S2x1152 .f32) (fb : FVec Ideal S256 .f32) (k : Fin 1024)

theorem cols_0 (j : Fin 1152) : cols w f (ix2 k ⟨j.val, by omega⟩) = w (ix3 0 k j) := by
  pointwise
theorem cols_1 (j : Fin 1152) : cols w f (ix2 k ⟨1152 + j.val, by omega⟩) = w (ix3 1 k j) := by
  pointwise
theorem cols_2 (j : Fin 256) : cols w f (ix2 k ⟨2304 + j.val, by omega⟩) = f (ix2 k j) := by
  pointwise
  rw [dif_neg (by omega), dif_neg (by omega)]
  exact congrArg (fun x => f (ix2 k x)) (Fin.ext (by dsimp only; omega))
theorem bias_0 (j : Fin 1152) : bias b fb (ix2 0 ⟨j.val, by omega⟩) = b (ix2 0 j) := by
  pointwise
  rw [dif_pos (by omega)]
  exact congrArg₂ (fun x y => b (ix2 x y)) (Fin.ext (Nat.div_eq_of_lt j.isLt)) (Fin.ext (Nat.mod_eq_of_lt j.isLt))
theorem bias_1 (j : Fin 1152) : bias b fb (ix2 0 ⟨1152 + j.val, by omega⟩) = b (ix2 1 j) := by
  pointwise
  rw [dif_pos (by omega)]
  exact congrArg (fun x => b (ix2 x j)) (Fin.ext (Nat.div_eq_of_lt_le (by omega) (by omega)))
theorem bias_2 (j : Fin 256) : bias b fb (ix2 0 ⟨2304 + j.val, by omega⟩) = fb (ix1 j) := by
  pointwise
end

/-! ## The reference -/

section
open Cert.AdaReferenceIdeal.Read
theorem v0_at (x0 : FVec Ideal S8x1024 .f32) (i : Fin 8) (k : Fin 1024) : val_main_v0 (F := Ideal) x0 (ix2 i k) = sl (x0 (ix2 i k)) := by
  pointwise [val_main_v0, val_main_call0_v5, val_main_call0_v4, val_main_call0_v3, val_main_call0_v2, val_main_call0_v1, val_main_call0_v0, val_main_call0_cst, val_main_call0_cst_0, ofBits_one]
  rfl

theorem v11_at (x0 : FVec Ideal S8x1024 .f32) (i : Fin 8) (k : Fin 1024) : val_main_v11 (F := Ideal) x0 (ix2 i k) = sl (x0 (ix2 i k)) := by
  pointwise [val_main_v11, val_main_call1_v5, val_main_call1_v4, val_main_call1_v3, val_main_call1_v2, val_main_call1_v1, val_main_call1_v0, val_main_call1_cst, val_main_call1_cst_0, ofBits_one]
  rfl

theorem v20_at (x0 : FVec Ideal S8x1024 .f32) (i : Fin 8) (k : Fin 1024) : val_main_v20 (F := Ideal) x0 (ix2 i k) = sl (x0 (ix2 i k)) := by
  pointwise [val_main_v20, val_main_call2_v5, val_main_call2_v4, val_main_call2_v3, val_main_call2_v2, val_main_call2_v1, val_main_call2_v0, val_main_call2_cst, val_main_call2_cst_0, ofBits_one]
  rfl

theorem v6_at (x0 : FVec Ideal S8x1024 .f32) (x5 : FVec Ideal S8x256 .f32) (i : Fin 1024) (l : Fin 256) : val_main_v6 (F := Ideal) x0 x5 (ix2 i l) = ∑ q, sl (x0 (ix2 q i)) * x5 (ix2 q l) := by
  pointwise [val_main_v6, val_main_v5, v0_at]
  exact Finset.sum_congr rfl fun q _ => mul_comm _ _

/-- The modulation, from the arrays the host lays out. -/
theorem ref_mod (x0 : FVec Ideal S8x1024 .f32) (x1 : FVec Ideal S2x1024x1152 .f32) (x2 : FVec Ideal S2x1152 .f32) (x3 : FVec Ideal S1024x256 .f32) (x4 : FVec Ideal S256 .f32) (i : Fin 8) (j : Fin 2560) :
    val_main_v25 (F := Ideal) x0 x1 x2 x3 x4 (ix2 i j) = (∑ k, sl (x0 (ix2 i k)) * cols x1 x3 (ix2 k j)) + bias x2 x4 (ix2 0 j) := by
  rcases (by omega : j.val < 1152 ∨ (1152 ≤ j.val ∧ j.val < 2304) ∨ 2304 ≤ j.val) with h | h | h
  · obtain ⟨l, e⟩ : ∃ l : Fin 1152, j = ⟨l.val, by omega⟩ := ⟨⟨j.val, h⟩, rfl⟩
    rw [e]
    simp only [cols_0, bias_0]
    pointwise [val_main_v25, val_main_v15, val_main_v14, val_main_v13, val_main_v12, val_main_v10, val_main_v9, val_main_v8, val_main_v7, v11_at]
  · obtain ⟨l, e⟩ : ∃ l : Fin 1152, j = ⟨1152 + l.val, by omega⟩ := ⟨⟨j.val - 1152, by omega⟩, Fin.ext (by dsimp only; omega)⟩
    rw [e]
    simp only [cols_1, bias_1]
    pointwise [val_main_v25, val_main_v24, val_main_v23, val_main_v22, val_main_v21, val_main_v19, val_main_v18, val_main_v17, val_main_v16, v20_at]
  · obtain ⟨l, e⟩ : ∃ l : Fin 256, j = ⟨2304 + l.val, by omega⟩ := ⟨⟨j.val - 2304, by omega⟩, Fin.ext (by dsimp only; omega)⟩
    rw [e]
    simp only [cols_2, bias_2]
    pointwise [val_main_v25, val_main_v4, val_main_v3, val_main_v2, val_main_v1, v0_at]
    rw [dif_neg (by omega), dif_neg (by omega)]
    exact congrArg (fun x : Fin 256 => (∑ k, sl (x0 (ix2 i k)) * x3 (ix2 k x)) + x4 (ix1 x)) (Fin.ext (by dsimp only; omega))
end

/-! ## The projection's call -/

abbrev lane (t : Fin cfg0.N) (l : Fin 512) : Fin 2560 := ⟨512 * t.val + l.val, by have := t.isLt; have hN : cfg0.N = 5 := N_0; omega⟩
abbrev row (t : Fin cfg1.N) (i : Fin 256) : Fin 1024 := ⟨256 * t.val + i.val, by have := t.isLt; have hN : cfg1.N = 4 := N_1; omega⟩

theorem idx0 : ∀ t : Fin cfg0.N, win0_0.index t = ![0, 0] ∧ win0_1.index t = ![0, t.val] ∧ win0_2.index t = ![0, t.val] ∧ win0_3.index t = ![0, t.val] ∧ win0_4.index t = ![0, 0] :=
  (by decide +kernel : ∀ t : Fin grid0.N, _)

theorem idx1 : ∀ t : Fin cfg1.N, win1_0.index t = ![t.val, 0] ∧ win1_1.index t = ![0, 0] ∧ win1_2.index t = ![t.val, 0] ∧ win1_3.index t = ![t.val, 0] ∧ win1_4.index t = ![t.val, 0]
    ∧ win1_5.index t = ![t.val, 0] ∧ win1_6.index t = ![t.val, 0] ∧ win1_7.index t = ![t.val, 0] ∧ win1_8.index t = ![t.val, 0] :=
  (by decide +kernel : ∀ t : Fin grid1.N, _)

theorem V_padded (c : Dev nD) : V2 m ρ c main_v8 = padded (m (c, Proc.tc.devRef main_arg0)) := by
  simp only [V2, W2, W1, W0, hostOps0, hostOps0_1, StableHlo.TRef.binary, StableHlo.TRef.nullary, StableHlo.TRef.unary, StableHlo.TRef.toBuf, StableHlo.TRef.ofBuf, cast_eq]
  after_results_simp
theorem V_cols (c : Dev nD) : V2 m ρ c main_v4 = cols (m (c, Proc.tc.devRef main_arg1)) (m (c, Proc.tc.devRef main_arg3)) := by
  simp only [V2, W2, W1, W0, hostOps0, hostOps0_1, StableHlo.TRef.binary, StableHlo.TRef.nullary, StableHlo.TRef.unary, StableHlo.TRef.toBuf, StableHlo.TRef.ofBuf, cast_eq]
  after_results_simp
  rfl
theorem V_bias (c : Dev nD) : V2 m ρ c main_v7 = bias (m (c, Proc.tc.devRef main_arg2)) (m (c, Proc.tc.devRef main_arg4)) := by
  simp only [V2, W2, W1, W0, hostOps0, hostOps0_1, StableHlo.TRef.binary, StableHlo.TRef.nullary, StableHlo.TRef.unary, StableHlo.TRef.toBuf, StableHlo.TRef.ofBuf, cast_eq]
  after_results_simp
  rfl

section
variable (c : Dev nD)

theorem c_at (t : Fin cfg0.N) (i : Fin 16) (k : Fin 1024) : iblk0 (V2 m ρ) c 0 t (ix2 i k) = padded (m ((c : Thread nD τ).loc main_arg0)) (ix2 i k) := by
  show V2 m ρ c main_v8 ((win0_0.blk t).view.emb (ix2 i k)) = _
  rw [show (win0_0.blk t).view.emb (ix2 i k) = ix2 i k from by blk_ext [idx0 t], V_padded]

theorem cols_at (t : Fin cfg0.N) (k : Fin 1024) (l : Fin 512) : iblk0 (V2 m ρ) c 1 t (ix2 k l) = cols (m ((c : Thread nD τ).loc main_arg1)) (m ((c : Thread nD τ).loc main_arg3)) (ix2 k (lane t l)) := by
  show V2 m ρ c main_v4 ((win0_1.blk t).view.emb (ix2 k l)) = _
  rw [show (win0_1.blk t).view.emb (ix2 k l) = ix2 k (lane t l) from by blk_ext [idx0 t], V_cols]

theorem bias_at (t : Fin cfg0.N) (l : Fin 512) : iblk0 (V2 m ρ) c 2 t (ix2 0 l) = bias (m ((c : Thread nD τ).loc main_arg2)) (m ((c : Thread nD τ).loc main_arg4)) (ix2 0 (lane t l)) := by
  show V2 m ρ c main_v7 ((win0_2.blk t).view.emb (ix2 0 l)) = _
  rw [show (win0_2.blk t).view.emb (ix2 0 l) = ix2 0 (lane t l) from by blk_ext [idx0 t], V_bias]

/-- The projection of the padded rows. -/
def line (i : Fin 16) (j : Fin 2560) : EReal := (∑ k, sl (padded (m ((c : Thread nD τ).loc main_arg0)) (ix2 i k)) * cols (m ((c : Thread nD τ).loc main_arg1)) (m ((c : Thread nD τ).loc main_arg3)) (ix2 k j))
  + bias (m ((c : Thread nD τ).loc main_arg2)) (m ((c : Thread nD τ).loc main_arg4)) (ix2 0 j)
def whole (y : S16x2560.Idx) : EReal := line m c (y 0) (y 1)

theorem final0_3 : (dat0 (V2 m ρ) c).arrAt 3 cfg0.N = whole m c := by
  refine (dat0 (V2 m ρ) c).arrAt_eq_of_covers 3 _ (by decide +kernel) fun t _ y => ?_
  blk_simp
  rw [after0_3]
  obtain ⟨i, l, rfl⟩ : ∃ (i : Fin 16) (l : Fin 512), y = ix2 i l := ⟨y 0, y 1, Shape.idx_ext₂ rfl rfl⟩
  rw [show (win0_3.blk t).view.emb (ix2 i l) = ix2 i (lane t l) from by blk_ext [idx0 t], out03, proj_at]
  simp only [c_at, cols_at, bias_at]
  rfl

theorem final0_4 : (dat0 (V2 m ρ) c).arrAt 4 cfg0.N = fun y : S16x1024.Idx => sl (padded (m ((c : Thread nD τ).loc main_arg0)) y) := by
  refine (dat0 (V2 m ρ) c).arrAt_eq_of_covers 4 _ (by decide +kernel) fun t _ y => ?_
  blk_simp
  rw [after0_4]
  obtain ⟨i, l, rfl⟩ : ∃ (i : Fin 16) (l : Fin 1024), y = ix2 i l := ⟨y 0, y 1, Shape.idx_ext₂ rfl rfl⟩
  rw [show (win0_4.blk t).view.emb (ix2 i l) = ix2 i l from by blk_ext [idx0 t], out04, silu_at, c_at]

theorem head_at (v : FVec Ideal S16x2560 .f32) (i : Fin 8) (j : Fin 2560) : (extractStridedSlice S8x2560 ![0, 0] v slices_S16x2560_S8x2560_0_0 : FVec Ideal S8x2560 .f32) (ix2 i j) = v (ix2 ⟨i.val, by omega⟩ j) := by
  pointwise

/-- The modulation is the reference's. -/
theorem final_mod : W6 m ρ c (Proc.devRef .tc main_v13) = Cert.AdaReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W6 m ρ c (Proc.devRef .tc main_v13) = extractStridedSlice S8x2560 ![0, 0] (W5 m ρ c (Proc.devRef .tc main_v9_0) : FVec Ideal S16x2560 .f32) slices_S16x2560_S8x2560_0_0 := by
    simp only [W6, hostOps2]
    after_results_simp
  rw [e, W5_of m ρ c main_v9_0 (by decide), W4_of m ρ c main_v9_0 (by decide), show W3 m ρ c (Proc.devRef .tc main_v9_0) = _ from W3_arr m ρ c 3, final0_3]
  funext y
  obtain ⟨i, j, rfl⟩ : ∃ (i : Fin 8) (j : Fin 2560), y = ix2 i j := ⟨y 0, y 1, Shape.idx_ext₂ rfl rfl⟩
  rw [head_at, ref_mod]
  show line m c ⟨i.val, _⟩ j = _
  simp only [line, padded_at]

/-! ## The step's call -/

theorem turned_at (v : FVec Ideal S16x1024 .f32) (i : Fin 1024) (q : Fin 8) : (transpose S1024x8 [1, 0] (extractStridedSlice S8x1024 ![0, 0] v slices_S16x1024_S8x1024_0_0) transposes_S8x1024_S1024x8_1_0 : FVec Ideal S1024x8 .f32) (ix2 i q) = v (ix2 ⟨q.val, by omega⟩ i) := by
  pointwise

theorem cond_at (t : Fin cfg1.N) (i : Fin 256) (q : Fin 8) : iblk1 (V4 m ρ) c 0 t (ix2 i q) = sl (m ((c : Thread nD τ).loc main_arg0) (ix2 q (row t i))) := by
  show V4 m ρ c main_v11 ((win1_0.blk t).view.emb (ix2 i q)) = _
  have e : V4 m ρ c main_v11 = transpose S1024x8 [1, 0] (extractStridedSlice S8x1024 ![0, 0] (W3 m ρ c (Proc.devRef .tc main_v9_1) : FVec Ideal S16x1024 .f32) slices_S16x1024_S8x1024_0_0) transposes_S8x1024_S1024x8_1_0 := by
    simp only [V4, W4, hostOps1]
    after_results_simp
  rw [show (win1_0.blk t).view.emb (ix2 i q) = ix2 (row t i) q from by blk_ext [idx1 t], e, turned_at, show W3 m ρ c (Proc.devRef .tc main_v9_1) = _ from W3_arr m ρ c 4, final0_4]
  show sl (padded _ (ix2 ⟨q.val, _⟩ _)) = _
  rw [padded_at]

theorem dmod_at (t : Fin cfg1.N) (q : Fin 8) (l : Fin 256) : iblk1 (V4 m ρ) c 1 t (ix2 q l) = m ((c : Thread nD τ).loc main_arg5) (ix2 q l) := by
  show V4 m ρ c main_arg5 ((win1_1.blk t).view.emb (ix2 q l)) = _
  rw [show (win1_1.blk t).view.emb (ix2 q l) = ix2 q l from by blk_ext [idx1 t]]
  exact congrFun (W4_args m ρ c main_arg5 (by decide)) _

theorem w_at (t : Fin cfg1.N) (i l : Fin 256) : iblk1 (V4 m ρ) c 2 t (ix2 i l) = m ((c : Thread nD τ).loc main_arg3) (ix2 (row t i) l) := by
  show V4 m ρ c main_arg3 ((win1_2.blk t).view.emb (ix2 i l)) = _
  rw [show (win1_2.blk t).view.emb (ix2 i l) = ix2 (row t i) l from by blk_ext [idx1 t]]
  exact congrFun (W4_args m ρ c main_arg3 (by decide)) _

theorem m_at (t : Fin cfg1.N) (i l : Fin 256) : iblk1 (V4 m ρ) c 3 t (ix2 i l) = m ((c : Thread nD τ).loc main_arg6) (ix2 (row t i) l) := by
  show V4 m ρ c main_arg6 ((win1_3.blk t).view.emb (ix2 i l)) = _
  rw [show (win1_3.blk t).view.emb (ix2 i l) = ix2 (row t i) l from by blk_ext [idx1 t]]
  exact congrFun (W4_args m ρ c main_arg6 (by decide)) _

theorem v_at (t : Fin cfg1.N) (i l : Fin 256) : iblk1 (V4 m ρ) c 4 t (ix2 i l) = m ((c : Thread nD τ).loc main_arg7) (ix2 (row t i) l) := by
  show V4 m ρ c main_arg7 ((win1_4.blk t).view.emb (ix2 i l)) = _
  rw [show (win1_4.blk t).view.emb (ix2 i l) = ix2 (row t i) l from by blk_ext [idx1 t]]
  exact congrFun (W4_args m ρ c main_arg7 (by decide)) _

open Cert.AdaReferenceIdeal.Read

theorem grad_at (t : Fin cfg1.N) (i l : Fin 256) : k1_pay4 (iblk1 (V4 m ρ) c 0 t) (iblk1 (V4 m ρ) c 1 t) (ix2 i l) = val_main_v6 (F := Ideal) (m ((c : Thread nD τ).loc main_arg0)) (m ((c : Thread nD τ).loc main_arg5)) (ix2 (row t i) l) := by
  rw [outer_at, v6_at]
  simp only [cond_at, dmod_at]

theorem m1_at (t : Fin cfg1.N) (i l : Fin 256) : k1_pay1 (k1_pay4 (iblk1 (V4 m ρ) c 0 t) (iblk1 (V4 m ρ) c 1 t)) (iblk1 (V4 m ρ) c 3 t) (ix2 i l) = val_main_v30 (F := Ideal) (m ((c : Thread nD τ).loc main_arg0)) (m ((c : Thread nD τ).loc main_arg5)) (m ((c : Thread nD τ).loc main_arg6)) (ix2 (row t i) l) := by
  pointwise [k1_pay1, grad_at, m_at, val_main_v30, val_main_v29, val_main_v28, val_main_v27, val_main_v26, val_main_cst, val_main_cst_0]

theorem m2_at (t : Fin cfg1.N) (i l : Fin 256) : k1_pay2 (k1_pay4 (iblk1 (V4 m ρ) c 0 t) (iblk1 (V4 m ρ) c 1 t)) (iblk1 (V4 m ρ) c 4 t) (ix2 i l) = val_main_v36 (F := Ideal) (m ((c : Thread nD τ).loc main_arg0)) (m ((c : Thread nD τ).loc main_arg5)) (m ((c : Thread nD τ).loc main_arg7)) (ix2 (row t i) l) := by
  pointwise [k1_pay2, grad_at, v_at, val_main_v36, val_main_v35, val_main_v34, val_main_v33, val_main_v32, val_main_v31, val_main_cst_1, val_main_cst_2]

theorem delta_at (t : Fin cfg1.N) (i l : Fin 256) : k1_pay3 (k1_pay4 (iblk1 (V4 m ρ) c 0 t) (iblk1 (V4 m ρ) c 1 t)) (iblk1 (V4 m ρ) c 2 t) (iblk1 (V4 m ρ) c 3 t) (iblk1 (V4 m ρ) c 4 t) (ix2 i l) = val_main_v49 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (ix2 (row t i) l) := by
  pointwise [k1_pay3, m1_at, m2_at, w_at, val_main_v49, val_main_v48, val_main_v47, val_main_v46, val_main_v45, val_main_v44, val_main_v43, val_main_v42, val_main_v41, val_main_v40, val_main_v39, val_main_v38, val_main_v37, val_main_cst_3, val_main_cst_4, val_main_cst_5, val_main_cst_6, val_main_cst_7]

/-- The gradient of the weights is the reference's. -/
theorem final1_5 : (dat1 (V4 m ρ) c).arrAt 5 cfg1.N = val_main_v6 (F := Ideal) (m ((c : Thread nD τ).loc main_arg0)) (m ((c : Thread nD τ).loc main_arg5)) := by
  refine (dat1 (V4 m ρ) c).arrAt_eq_of_covers 5 _ (by decide +kernel) fun t _ y => ?_
  blk_simp
  rw [after1_5]
  obtain ⟨i, l, rfl⟩ : ∃ (i l : Fin 256), y = ix2 i l := ⟨y 0, y 1, Shape.idx_ext₂ rfl rfl⟩
  rw [show (win1_5.blk t).view.emb (ix2 i l) = ix2 (row t i) l from by blk_ext [idx1 t], out15]
  exact grad_at m ρ c t i l

/-- The change of the weights is the reference's. -/
theorem final1_6 : (dat1 (V4 m ρ) c).arrAt 6 cfg1.N = val_main_v49 (F := Ideal) (m ((c : Thread nD τ).loc main_arg0)) (m ((c : Thread nD τ).loc main_arg3)) (m ((c : Thread nD τ).loc main_arg5)) (m ((c : Thread nD τ).loc main_arg6)) (m ((c : Thread nD τ).loc main_arg7)) := by
  refine (dat1 (V4 m ρ) c).arrAt_eq_of_covers 6 _ (by decide +kernel) fun t _ y => ?_
  blk_simp
  rw [after1_6]
  obtain ⟨i, l, rfl⟩ : ∃ (i l : Fin 256), y = ix2 i l := ⟨y 0, y 1, Shape.idx_ext₂ rfl rfl⟩
  rw [show (win1_6.blk t).view.emb (ix2 i l) = ix2 (row t i) l from by blk_ext [idx1 t], out16]
  exact delta_at m ρ c t i l

/-- The first moment is the reference's. -/
theorem final1_7 : (dat1 (V4 m ρ) c).arrAt 7 cfg1.N = val_main_v30 (F := Ideal) (m ((c : Thread nD τ).loc main_arg0)) (m ((c : Thread nD τ).loc main_arg5)) (m ((c : Thread nD τ).loc main_arg6)) := by
  refine (dat1 (V4 m ρ) c).arrAt_eq_of_covers 7 _ (by decide +kernel) fun t _ y => ?_
  blk_simp
  rw [after1_7]
  obtain ⟨i, l, rfl⟩ : ∃ (i l : Fin 256), y = ix2 i l := ⟨y 0, y 1, Shape.idx_ext₂ rfl rfl⟩
  rw [show (win1_7.blk t).view.emb (ix2 i l) = ix2 (row t i) l from by blk_ext [idx1 t], out17]
  exact m1_at m ρ c t i l

/-- The second moment is the reference's. -/
theorem final1_8 : (dat1 (V4 m ρ) c).arrAt 8 cfg1.N = val_main_v36 (F := Ideal) (m ((c : Thread nD τ).loc main_arg0)) (m ((c : Thread nD τ).loc main_arg5)) (m ((c : Thread nD τ).loc main_arg7)) := by
  refine (dat1 (V4 m ρ) c).arrAt_eq_of_covers 8 _ (by decide +kernel) fun t _ y => ?_
  blk_simp
  rw [after1_8]
  obtain ⟨i, l, rfl⟩ : ∃ (i l : Fin 256), y = ix2 i l := ⟨y 0, y 1, Shape.idx_ext₂ rfl rfl⟩
  rw [show (win1_8.blk t).view.emb (ix2 i l) = ix2 (row t i) l from by blk_ext [idx1 t], out18]
  exact m2_at m ρ c t i l

end

local notation "𝕄" => MT nD τ sig Unit (Elt Ideal) ℕ (UR sig nD τ) ℕ
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

/-- The run leaves what the two calls write; the arguments are unchanged. -/
theorem run : θ_run defs (onTc (τ := τ) (main (F := Ideal))) ⟨m, fun _ => 0, ρ⟩ (fun r => ∀ c : Dev nD,
      r.2.mem ((c.tc : Thread nD τ).loc main_v13) = W6 m ρ c (Proc.devRef .tc main_v13)
      ∧ r.2.mem ((c.tc : Thread nD τ).loc main_v12_0) = (dat1 (V4 m ρ) c).arrAt 5 cfg1.N
      ∧ r.2.mem ((c.tc : Thread nD τ).loc main_v12_1) = (dat1 (V4 m ρ) c).arrAt 6 cfg1.N
      ∧ r.2.mem ((c.tc : Thread nD τ).loc main_v12_2) = (dat1 (V4 m ρ) c).arrAt 7 cfg1.N
      ∧ r.2.mem ((c.tc : Thread nD τ).loc main_v12_3) = (dat1 (V4 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v13 (by decide)),
       (h c _ (mem_uc main_v12_0 (by decide))).trans ((W6_of m ρ c main_v12_0 (by decide)).trans (W5_arr m ρ c 5)),
       (h c _ (mem_uc main_v12_1 (by decide))).trans ((W6_of m ρ c main_v12_1 (by decide)).trans (W5_arr m ρ c 6)),
       (h c _ (mem_uc main_v12_2 (by decide))).trans ((W6_of m ρ c main_v12_2 (by decide)).trans (W5_arr m ρ c 7)),
       (h c _ (mem_uc main_v12_3 (by decide))).trans ((W6_of m ρ c main_v12_3 (by decide)).trans (W5_arr m ρ c 8)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.AdaKernelIdeal.Value

namespace Cert.Ada

open Cert.AdaKernelIdeal Cert.AdaKernelIdeal.Value Idealize.ShloMosaic Idealize.ShloMosaic.TcCoe Idealize.SL.Sem

/-- The kernel's five results are the reference's. -/
theorem algebraic : Cert.algebraic_AdaKernelIdeal_AdaReferenceIdeal := by
  intro m g m' g' _ hagree
  refine ⟨fun c => Cert.AdaReferenceIdeal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.AdaReferenceIdeal.Read.val_main_v6 (F := Ideal) (m ((c.tc : Thread nD τ).loc main_arg0)) (m ((c.tc : Thread nD τ).loc main_arg5)),
    fun c => Cert.AdaReferenceIdeal.Read.val_main_v49 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)),
    fun c => Cert.AdaReferenceIdeal.Read.val_main_v30 (F := Ideal) (m ((c.tc : Thread nD τ).loc main_arg0)) (m ((c.tc : Thread nD τ).loc main_arg5)) (m ((c.tc : Thread nD τ).loc main_arg6)),
    fun c => Cert.AdaReferenceIdeal.Read.val_main_v36 (F := Ideal) (m ((c.tc : Thread nD τ).loc main_arg0)) (m ((c.tc : Thread nD τ).loc main_arg5)) (m ((c.tc : Thread nD τ).loc main_arg7)), ?_, ?_⟩
  · refine (θ_run defs _ _).mono (fun r h c => ?_) (Cert.AdaKernelIdeal.Value.run m g)
    exact ⟨(h c).1.trans (final_mod m g c), (h c).2.1.trans (final1_5 m g c), (h c).2.2.1.trans (final1_6 m g c), (h c).2.2.2.1.trans (final1_7 m g c), (h c).2.2.2.2.1.trans (final1_8 m g c), (h c).2.2.2.2.2⟩
  · refine (θ_run Cert.AdaReferenceIdeal.defs _ _).mono (fun r h c => ?_) (Cert.AdaReferenceIdeal.Value.run m' g')
    obtain ⟨h0, h1, h2, h3, h4, h5, h6, h7⟩ := hagree c
    refine ⟨(h c).1.trans ((Cert.AdaReferenceIdeal.Read.val_main_v25_eq _ _ _ _ _).trans ?_),
      (h c).2.1.trans ((Cert.AdaReferenceIdeal.Read.val_main_v6_eq _ _).trans ?_),
      (h c).2.2.1.trans ((Cert.AdaReferenceIdeal.Read.val_main_v49_eq _ _ _ _ _).trans ?_),
      (h c).2.2.2.1.trans ((Cert.AdaReferenceIdeal.Read.val_main_v30_eq _ _ _).trans ?_),
      (h c).2.2.2.2.1.trans ((Cert.AdaReferenceIdeal.Read.val_main_v36_eq _ _ _).trans ?_), (h c).2.2.2.2.2⟩
    all_goals simp only [h0, h1, h2, h3, h4, h5, h6, h7]

end Cert.Ada

end
-- ==== Proof.OptValue.lean ====
/- What the optimiser's step over the chips' parts leaves in its four results. -/
module

public import proofs.«01_k».proof.Proof.Gen.OptKernelIdeal.Value
public import proofs.«01_k».proof.Proof.Common
public import proofs.«01_k».proof.Proof.SbHost
public import proofs.«01_k».proof.Defs
public import proofs.«01_k».proof.Proof.Gen.OptReferenceIdeal.Run
public import proofs.«01_k».proof.Proof.Gen.OptReferenceIdeal.Read
public import Idealize.ShloMosaic.Lib.Tactic

@[expose] public section

set_option maxRecDepth 16384

noncomputable section

namespace Cert.OptKernelIdeal.Value

open Cert.OptKernelIdeal Cert.OptKernelIdeal.Gen Idealize.ShloMosaic Idealize.ShloMosaic.TcCoe Idealize.SL.Sem
open Idealize.ShloMosaic.Pipeline (Dat)
open Cert.Common

variable (m : (ℓ : Loc nD τ sig) → Buf (Elt Ideal) ℓ) (ρ : Dev nD → PrngReg)

/-- The moments and the change of an entry. -/
def first (a g : EReal) : EReal := Scalar.ofBits (F := Ideal) .f32 0x3F666666#32 * a + Scalar.ofBits (F := Ideal) .f32 0x3DCCCCCD#32 * g
def second (b g : EReal) : EReal := Scalar.ofBits (F := Ideal) .f32 0x3F7FBE77#32 * b + Scalar.ofBits (F := Ideal) .f32 0x3A83126F#32 * (g * g)
def change (w a b : EReal) : EReal := Scalar.ofBits (F := Ideal) .f32 0xBA83126F#32 * (Ideal.div (Ideal.div a (Scalar.ofBits (F := Ideal) .f32 0x3F26BD02#32)) (Ideal.sqrt (Ideal.div b (Scalar.ofBits (F := Ideal) .f32 0x3C231ACC#32)) + Scalar.ofBits (F := Ideal) .f32 0x322BCC77#32) + Scalar.ofBits (F := Ideal) .f32 0x3C23D70A#32 * w)

/-! ## What the body leaves -/

theorem out4 (x0 : Vec Ideal S4x352x1024 .bf16) (x1 x2 x3 : Vec Ideal S352x1024 .f32) : out0_4 x0 x1 x2 x3 = k0_pay2 (View.ld x0 r0_0) (View.ld x0 r0_1) (View.ld x0 r0_2) (View.ld x0 r0_3) := by
  frame_out
theorem pay6 (x0 : Vec Ideal S4x352x1024 .bf16) (x1 x2 x3 : Vec Ideal S352x1024 .f32) : k0_pay6 x0 x1 x2 x3 = k0_pay4 (View.ld x0 r0_0) (View.ld x0 r0_1) (View.ld x0 r0_2) (View.ld x0 r0_3) x2 := by
  unfold k0_pay6
  rw [show View.ld x2 r0_4 = x2 from by frame_out]
theorem pay7 (x0 : Vec Ideal S4x352x1024 .bf16) (x1 x2 x3 : Vec Ideal S352x1024 .f32) : k0_pay7 x0 x1 x2 x3 = k0_pay5 (View.ld x0 r0_0) (View.ld x0 r0_1) (View.ld x0 r0_2) (View.ld x0 r0_3) x3 := by
  unfold k0_pay7
  rw [show View.ld x3 r0_4 = x3 from by frame_out]
theorem out5 (x0 : Vec Ideal S4x352x1024 .bf16) (x1 x2 x3 : Vec Ideal S352x1024 .f32) : out0_5 x0 x1 x2 x3 = k0_pay1 (k0_pay3 x1) (k0_pay4 (View.ld x0 r0_0) (View.ld x0 r0_1) (View.ld x0 r0_2) (View.ld x0 r0_3) x2) (k0_pay5 (View.ld x0 r0_0) (View.ld x0 r0_1) (View.ld x0 r0_2) (View.ld x0 r0_3) x3) (Scalar.ofBits .f32 0x3F26BD02#32) := by
  rw [← pay6 x0 x1 x2 x3, ← pay7 x0 x1 x2 x3]
  frame_out
theorem out6 (x0 : Vec Ideal S4x352x1024 .bf16) (x1 x2 x3 : Vec Ideal S352x1024 .f32) : out0_6 x0 x1 x2 x3 = k0_pay4 (View.ld x0 r0_0) (View.ld x0 r0_1) (View.ld x0 r0_2) (View.ld x0 r0_3) x2 := by
  rw [← pay6 x0 x1 x2 x3]
  frame_out
theorem out7 (x0 : Vec Ideal S4x352x1024 .bf16) (x1 x2 x3 : Vec Ideal S352x1024 .f32) : out0_7 x0 x1 x2 x3 = k0_pay5 (View.ld x0 r0_0) (View.ld x0 r0_1) (View.ld x0 r0_2) (View.ld x0 r0_3) x3 := by
  rw [← pay7 x0 x1 x2 x3]
  frame_out

section
variable (x0 : Vec Ideal S4x352x1024 .bf16) (x1 x2 x3 : Vec Ideal S352x1024 .f32) (i : Fin 352) (l : Fin 1024)

theorem sum_at : k0_pay2 (View.ld x0 r0_0) (View.ld x0 r0_1) (View.ld x0 r0_2) (View.ld x0 r0_3) (ix2 i l) = (∑ q, x0 (ix3 q i l)) := by
  rw [Fin.sum_univ_four]
  pointwise [k0_pay2]
theorem at4 : out0_4 x0 x1 x2 x3 (ix2 i l) = (∑ q, x0 (ix3 q i l)) := by
  rw [out4, sum_at]
theorem at6 : out0_6 x0 x1 x2 x3 (ix2 i l) = first (x2 (ix2 i l)) (∑ q, x0 (ix3 q i l)) := by
  rw [out6]
  pointwise [k0_pay4, sum_at, first]
theorem at7 : out0_7 x0 x1 x2 x3 (ix2 i l) = second (x3 (ix2 i l)) (∑ q, x0 (ix3 q i l)) := by
  rw [out7]
  pointwise [k0_pay5, sum_at, second]
theorem at5 : out0_5 x0 x1 x2 x3 (ix2 i l) = change (x1 (ix2 i l)) (first (x2 (ix2 i l)) (∑ q, x0 (ix3 q i l))) (second (x3 (ix2 i l)) (∑ q, x0 (ix3 q i l))) := by
  rw [← at6 x0 x1 x2 x3, ← at7 x0 x1 x2 x3, out6, out7, out5]
  pointwise [k0_pay1, k0_pay3, change]
end

/-! ## The arrays the host lays out -/

abbrev laid (w : FVec Ideal S1024x352 .f32) : FVec Ideal S352x1024 .f32 := pad S352x1024 ![0, 0] ![0, 0] ![0, 0] (transpose S352x1024 [1, 0] w transposes_S1024x352_S352x1024_1_0) (sitofp .f32 (constantI S_ 32 0#32)) pads_S352x1024_S352x1024_000_000 h_S_
abbrev kept (w : FVec Ideal S352x1024 .f32) : FVec Ideal S352x1024 .f32 := pad S352x1024 ![0, 0] ![0, 0] ![0, 0] w (sitofp .f32 (constantI S_ 32 0#32)) pads_S352x1024_S352x1024_000_000 h_S_
def cat (a b d : FVec Ideal S352x1024 .f32) : FVec Ideal S1056x1024 .f32 := concatenate S1056x1024 0 [⟨S352x1024, a⟩, ⟨S352x1024, b⟩, ⟨S352x1024, d⟩] concatenates_S352x1024_S352x1024_S352x1024_S1056x1024_d0
def tall (a b d : FVec Ideal S4x352x1024 .bf16) : FVec Ideal S4x1056x1024 .bf16 := concatenate S4x1056x1024 1 [⟨S4x352x1024, a⟩, ⟨S4x352x1024, b⟩, ⟨S4x352x1024, d⟩] concatenates_S4x352x1024_S4x352x1024_S4x352x1024_S4x1056x1024_d1
abbrev pack (a b : FVec Ideal S1024x352 .f32) (d : FVec Ideal S352x1024 .f32) : FVec Ideal S1056x1024 .f32 := cat (laid a) (laid b) (kept d)

theorem laid_at (w : FVec Ideal S1024x352 .f32) (i : Fin 352) (l : Fin 1024) : laid w (ix2 i l) = w (ix2 l i) := by
  pointwise
theorem kept_at (w : FVec Ideal S352x1024 .f32) (i : Fin 352) (l : Fin 1024) : kept w (ix2 i l) = w (ix2 i l) := by
  pointwise

theorem cut (r : Fin 1056) : (∃ i : Fin 352, r = ⟨i.val, by omega⟩) ∨ (∃ i : Fin 352, r = ⟨352 + i.val, by omega⟩) ∨ ∃ i : Fin 352, r = ⟨704 + i.val, by omega⟩ := by
  rcases (by omega : r.val < 352 ∨ (352 ≤ r.val ∧ r.val < 704) ∨ 704 ≤ r.val) with h | h | h
  · exact .inl ⟨⟨r.val, h⟩, rfl⟩
  · exact .inr (.inl ⟨⟨r.val - 352, by omega⟩, Fin.ext (by dsimp only; omega)⟩)
  · exact .inr (.inr ⟨⟨r.val - 704, by omega⟩, Fin.ext (by dsimp only; omega)⟩)

section
variable (a b d : FVec Ideal S352x1024 .f32) (i : Fin 352) (l : Fin 1024)
theorem cat_0 : cat a b d (ix2 ⟨i.val, by omega⟩ l) = a (ix2 i l) := by
  pointwise [cat]
theorem cat_1 : cat a b d (ix2 ⟨352 + i.val, by omega⟩ l) = b (ix2 i l) := by
  pointwise [cat]
theorem cat_2 : cat a b d (ix2 ⟨704 + i.val, by omega⟩ l) = d (ix2 i l) := by
  pointwise [cat]
  rw [dif_neg (by omega), dif_neg (by omega)]
  exact congrArg (fun x => d (ix2 x l)) (Fin.ext (by dsimp only; omega))
end
section
variable (a b d : FVec Ideal S4x352x1024 .bf16) (q : Fin 4) (i : Fin 352) (l : Fin 1024)
theorem tall_0 : tall a b d (ix3 q ⟨i.val, by omega⟩ l) = a (ix3 q i l) := by
  pointwise [tall]
theorem tall_1 : tall a b d (ix3 q ⟨352 + i.val, by omega⟩ l) = b (ix3 q i l) := by
  pointwise [tall]
theorem tall_2 : tall a b d (ix3 q ⟨704 + i.val, by omega⟩ l) = d (ix3 q i l) := by
  pointwise [tall]
  rw [dif_neg (by omega), dif_neg (by omega)]
  exact congrArg (fun x => d (ix3 q x l)) (Fin.ext (by dsimp only; omega))
end

/-! ## The reference -/

section
open Cert.OptReferenceIdeal.Read

theorem total0 (g : FVec Ideal S4x352x1024 .bf16) (i : Fin 352) (j : Fin 1024) : val_main_v1 (F := Ideal) g (ix2 i j) = ∑ q, g (ix3 q i j) := by
  pointwise [val_main_v1, val_main_v0, val_main_cst]
theorem grad0 (g : FVec Ideal S4x352x1024 .bf16) (i : Fin 1024) (j : Fin 352) : val_main_v2 (F := Ideal) g (ix2 i j) = ∑ q, g (ix3 q j i) := by
  pointwise [val_main_v2, total0]
theorem first0 (g : FVec Ideal S4x352x1024 .bf16) (a : FVec Ideal S1024x352 .f32) (i : Fin 1024) (j : Fin 352) : val_main_v12 (F := Ideal) g a (ix2 i j) = first (a (ix2 i j)) (∑ q, g (ix3 q j i)) := by
  pointwise [val_main_v12, val_main_v11, val_main_v10, val_main_v9, val_main_v8, val_main_cst_2, val_main_cst_3, grad0, first]
theorem second0 (g : FVec Ideal S4x352x1024 .bf16) (b : FVec Ideal S1024x352 .f32) (i : Fin 1024) (j : Fin 352) : val_main_v18 (F := Ideal) g b (ix2 i j) = second (b (ix2 i j)) (∑ q, g (ix3 q j i)) := by
  pointwise [val_main_v18, val_main_v17, val_main_v16, val_main_v15, val_main_v14, val_main_v13, val_main_cst_4, val_main_cst_5, grad0, second]
theorem change0 (g : FVec Ideal S4x352x1024 .bf16) (w a b : FVec Ideal S1024x352 .f32) (i : Fin 1024) (j : Fin 352) : val_main_v31 (F := Ideal) g w a b (ix2 i j) = change (w (ix2 i j)) (first (a (ix2 i j)) (∑ q, g (ix3 q j i))) (second (b (ix2 i j)) (∑ q, g (ix3 q j i))) := by
  pointwise [val_main_v31, val_main_v30, val_main_v29, val_main_v28, val_main_v27, val_main_v26, val_main_v25, val_main_v24, val_main_v23, val_main_v22, val_main_v21, val_main_v20, val_main_v19, val_main_cst_6, val_main_cst_7, val_main_cst_8, val_main_cst_9, val_main_cst_10, first0 g a, second0 g b, change]

theorem total1 (g : FVec Ideal S4x352x1024 .bf16) (i : Fin 352) (j : Fin 1024) : val_main_v4 (F := Ideal) g (ix2 i j) = ∑ q, g (ix3 q i j) := by
  pointwise [val_main_v4, val_main_v3, val_main_cst_0]
theorem grad1 (g : FVec Ideal S4x352x1024 .bf16) (i : Fin 1024) (j : Fin 352) : val_main_v5 (F := Ideal) g (ix2 i j) = ∑ q, g (ix3 q j i) := by
  pointwise [val_main_v5, total1]
theorem first1 (g : FVec Ideal S4x352x1024 .bf16) (a : FVec Ideal S1024x352 .f32) (i : Fin 1024) (j : Fin 352) : val_main_v36 (F := Ideal) g a (ix2 i j) = first (a (ix2 i j)) (∑ q, g (ix3 q j i)) := by
  pointwise [val_main_v36, val_main_v35, val_main_v34, val_main_v33, val_main_v32, val_main_cst_11, val_main_cst_12, grad1, first]
theorem second1 (g : FVec Ideal S4x352x1024 .bf16) (b : FVec Ideal S1024x352 .f32) (i : Fin 1024) (j : Fin 352) : val_main_v42 (F := Ideal) g b (ix2 i j) = second (b (ix2 i j)) (∑ q, g (ix3 q j i)) := by
  pointwise [val_main_v42, val_main_v41, val_main_v40, val_main_v39, val_main_v38, val_main_v37, val_main_cst_13, val_main_cst_14, grad1, second]
theorem change1 (g : FVec Ideal S4x352x1024 .bf16) (w a b : FVec Ideal S1024x352 .f32) (i : Fin 1024) (j : Fin 352) : val_main_v55 (F := Ideal) g w a b (ix2 i j) = change (w (ix2 i j)) (first (a (ix2 i j)) (∑ q, g (ix3 q j i))) (second (b (ix2 i j)) (∑ q, g (ix3 q j i))) := by
  pointwise [val_main_v55, val_main_v54, val_main_v53, val_main_v52, val_main_v51, val_main_v50, val_main_v49, val_main_v48, val_main_v47, val_main_v46, val_main_v45, val_main_v44, val_main_v43, val_main_cst_15, val_main_cst_16, val_main_cst_17, val_main_cst_18, val_main_cst_19, first1 g a, second1 g b, change]

theorem total2 (g : FVec Ideal S4x352x1024 .bf16) (i : Fin 352) (j : Fin 1024) : val_main_v7 (F := Ideal) g (ix2 i j) = ∑ q, g (ix3 q i j) := by
  pointwise [val_main_v7, val_main_v6, val_main_cst_1]
theorem first2 (g : FVec Ideal S4x352x1024 .bf16) (a : FVec Ideal S352x1024 .f32) (i : Fin 352) (j : Fin 1024) : val_main_v60 (F := Ideal) g a (ix2 i j) = first (a (ix2 i j)) (∑ q, g (ix3 q i j)) := by
  pointwise [val_main_v60, val_main_v59, val_main_v58, val_main_v57, val_main_v56, val_main_cst_20, val_main_cst_21, total2, first]
theorem second2 (g : FVec Ideal S4x352x1024 .bf16) (b : FVec Ideal S352x1024 .f32) (i : Fin 352) (j : Fin 1024) : val_main_v66 (F := Ideal) g b (ix2 i j) = second (b (ix2 i j)) (∑ q, g (ix3 q i j)) := by
  pointwise [val_main_v66, val_main_v65, val_main_v64, val_main_v63, val_main_v62, val_main_v61, val_main_cst_22, val_main_cst_23, total2, second]
theorem change2 (g : FVec Ideal S4x352x1024 .bf16) (w a b : FVec Ideal S352x1024 .f32) (i : Fin 352) (j : Fin 1024) : val_main_v79 (F := Ideal) g w a b (ix2 i j) = change (w (ix2 i j)) (first (a (ix2 i j)) (∑ q, g (ix3 q i j))) (second (b (ix2 i j)) (∑ q, g (ix3 q i j))) := by
  pointwise [val_main_v79, val_main_v78, val_main_v77, val_main_v76, val_main_v75, val_main_v74, val_main_v73, val_main_v72, val_main_v71, val_main_v70, val_main_v69, val_main_v68, val_main_v67, val_main_cst_24, val_main_cst_25, val_main_cst_26, val_main_cst_27, val_main_cst_28, first2 g a, second2 g b, change]

variable (x0 x1 x2 : FVec Ideal S4x352x1024 .bf16) (x3 x4 : FVec Ideal S1024x352 .f32) (x5 : FVec Ideal S352x1024 .f32) (x6 x7 : FVec Ideal S1024x352 .f32) (x8 : FVec Ideal S352x1024 .f32) (x9 x10 : FVec Ideal S1024x352 .f32) (x11 : FVec Ideal S352x1024 .f32)

theorem ref_g (r : Fin 1056) (l : Fin 1024) : val_main_v82 (F := Ideal) x0 x1 x2 (ix2 r l) = (∑ q, tall x0 x1 x2 (ix3 q r l)) := by
  obtain ⟨i, rfl⟩ | ⟨i, rfl⟩ | ⟨i, rfl⟩ := cut r
  · rw [show val_main_v82 (F := Ideal) x0 x1 x2 = cat ((val_main_v80 (F := Ideal) x0 : FVec Ideal S352x1024 .f32)) ((val_main_v81 (F := Ideal) x1 : FVec Ideal S352x1024 .f32)) ((val_main_v7 (F := Ideal) x2 : FVec Ideal S352x1024 .f32)) from rfl, cat_0]
    simp only [tall_0, laid_at, kept_at]
    pointwise [val_main_v80, grad0]
  · rw [show val_main_v82 (F := Ideal) x0 x1 x2 = cat ((val_main_v80 (F := Ideal) x0 : FVec Ideal S352x1024 .f32)) ((val_main_v81 (F := Ideal) x1 : FVec Ideal S352x1024 .f32)) ((val_main_v7 (F := Ideal) x2 : FVec Ideal S352x1024 .f32)) from rfl, cat_1]
    simp only [tall_1, laid_at, kept_at]
    pointwise [val_main_v81, grad1]
  · rw [show val_main_v82 (F := Ideal) x0 x1 x2 = cat ((val_main_v80 (F := Ideal) x0 : FVec Ideal S352x1024 .f32)) ((val_main_v81 (F := Ideal) x1 : FVec Ideal S352x1024 .f32)) ((val_main_v7 (F := Ideal) x2 : FVec Ideal S352x1024 .f32)) from rfl, cat_2]
    simp only [tall_2, laid_at, kept_at]
    pointwise [total2]

theorem ref_m (r : Fin 1056) (l : Fin 1024) : val_main_v88 (F := Ideal) x0 x1 x2 x6 x7 x8 (ix2 r l) = first (pack x6 x7 x8 (ix2 r l)) (∑ q, tall x0 x1 x2 (ix3 q r l)) := by
  obtain ⟨i, rfl⟩ | ⟨i, rfl⟩ | ⟨i, rfl⟩ := cut r
  · rw [show val_main_v88 (F := Ideal) x0 x1 x2 x6 x7 x8 = cat ((val_main_v86 (F := Ideal) x0 x6 : FVec Ideal S352x1024 .f32)) ((val_main_v87 (F := Ideal) x1 x7 : FVec Ideal S352x1024 .f32)) ((val_main_v60 (F := Ideal) x2 x8 : FVec Ideal S352x1024 .f32)) from rfl, cat_0]
    simp only [tall_0, cat_0, laid_at, kept_at]
    pointwise [val_main_v86, first0 x0 x6]
  · rw [show val_main_v88 (F := Ideal) x0 x1 x2 x6 x7 x8 = cat ((val_main_v86 (F := Ideal) x0 x6 : FVec Ideal S352x1024 .f32)) ((val_main_v87 (F := Ideal) x1 x7 : FVec Ideal S352x1024 .f32)) ((val_main_v60 (F := Ideal) x2 x8 : FVec Ideal S352x1024 .f32)) from rfl, cat_1]
    simp only [tall_1, cat_1, laid_at, kept_at]
    pointwise [val_main_v87, first1 x1 x7]
  · rw [show val_main_v88 (F := Ideal) x0 x1 x2 x6 x7 x8 = cat ((val_main_v86 (F := Ideal) x0 x6 : FVec Ideal S352x1024 .f32)) ((val_main_v87 (F := Ideal) x1 x7 : FVec Ideal S352x1024 .f32)) ((val_main_v60 (F := Ideal) x2 x8 : FVec Ideal S352x1024 .f32)) from rfl, cat_2]
    simp only [tall_2, cat_2, laid_at, kept_at]
    pointwise [first2 x2 x8]

theorem ref_v (r : Fin 1056) (l : Fin 1024) : val_main_v91 (F := Ideal) x0 x1 x2 x9 x10 x11 (ix2 r l) = second (pack x9 x10 x11 (ix2 r l)) (∑ q, tall x0 x1 x2 (ix3 q r l)) := by
  obtain ⟨i, rfl⟩ | ⟨i, rfl⟩ | ⟨i, rfl⟩ := cut r
  · rw [show val_main_v91 (F := Ideal) x0 x1 x2 x9 x10 x11 = cat ((val_main_v89 (F := Ideal) x0 x9 : FVec Ideal S352x1024 .f32)) ((val_main_v90 (F := Ideal) x1 x10 : FVec Ideal S352x1024 .f32)) ((val_main_v66 (F := Ideal) x2 x11 : FVec Ideal S352x1024 .f32)) from rfl, cat_0]
    simp only [tall_0, cat_0, laid_at, kept_at]
    pointwise [val_main_v89, second0 x0 x9]
  · rw [show val_main_v91 (F := Ideal) x0 x1 x2 x9 x10 x11 = cat ((val_main_v89 (F := Ideal) x0 x9 : FVec Ideal S352x1024 .f32)) ((val_main_v90 (F := Ideal) x1 x10 : FVec Ideal S352x1024 .f32)) ((val_main_v66 (F := Ideal) x2 x11 : FVec Ideal S352x1024 .f32)) from rfl, cat_1]
    simp only [tall_1, cat_1, laid_at, kept_at]
    pointwise [val_main_v90, second1 x1 x10]
  · rw [show val_main_v91 (F := Ideal) x0 x1 x2 x9 x10 x11 = cat ((val_main_v89 (F := Ideal) x0 x9 : FVec Ideal S352x1024 .f32)) ((val_main_v90 (F := Ideal) x1 x10 : FVec Ideal S352x1024 .f32)) ((val_main_v66 (F := Ideal) x2 x11 : FVec Ideal S352x1024 .f32)) from rfl, cat_2]
    simp only [tall_2, cat_2, laid_at, kept_at]
    pointwise [second2 x2 x11]

theorem ref_d (r : Fin 1056) (l : Fin 1024) : val_main_v85 (F := Ideal) x0 x1 x2 x3 x4 x5 x6 x7 x8 x9 x10 x11 (ix2 r l) = change (pack x3 x4 x5 (ix2 r l)) (first (pack x6 x7 x8 (ix2 r l)) (∑ q, tall x0 x1 x2 (ix3 q r l))) (second (pack x9 x10 x11 (ix2 r l)) (∑ q, tall x0 x1 x2 (ix3 q r l))) := by
  obtain ⟨i, rfl⟩ | ⟨i, rfl⟩ | ⟨i, rfl⟩ := cut r
  · rw [show val_main_v85 (F := Ideal) x0 x1 x2 x3 x4 x5 x6 x7 x8 x9 x10 x11 = cat ((val_main_v83 (F := Ideal) x0 x3 x6 x9 : FVec Ideal S352x1024 .f32)) ((val_main_v84 (F := Ideal) x1 x4 x7 x10 : FVec Ideal S352x1024 .f32)) ((val_main_v79 (F := Ideal) x2 x5 x8 x11 : FVec Ideal S352x1024 .f32)) from rfl, cat_0]
    simp only [tall_0, cat_0, laid_at, kept_at]
    pointwise [val_main_v83, change0 x0 x3 x6 x9]
  · rw [show val_main_v85 (F := Ideal) x0 x1 x2 x3 x4 x5 x6 x7 x8 x9 x10 x11 = cat ((val_main_v83 (F := Ideal) x0 x3 x6 x9 : FVec Ideal S352x1024 .f32)) ((val_main_v84 (F := Ideal) x1 x4 x7 x10 : FVec Ideal S352x1024 .f32)) ((val_main_v79 (F := Ideal) x2 x5 x8 x11 : FVec Ideal S352x1024 .f32)) from rfl, cat_1]
    simp only [tall_1, cat_1, laid_at, kept_at]
    pointwise [val_main_v84, change1 x1 x4 x7 x10]
  · rw [show val_main_v85 (F := Ideal) x0 x1 x2 x3 x4 x5 x6 x7 x8 x9 x10 x11 = cat ((val_main_v83 (F := Ideal) x0 x3 x6 x9 : FVec Ideal S352x1024 .f32)) ((val_main_v84 (F := Ideal) x1 x4 x7 x10 : FVec Ideal S352x1024 .f32)) ((val_main_v79 (F := Ideal) x2 x5 x8 x11 : FVec Ideal S352x1024 .f32)) from rfl, cat_2]
    simp only [tall_2, cat_2, laid_at, kept_at]
    pointwise [change2 x2 x5 x8 x11]

end

/-! ## The blocks of a grid point -/

abbrev row (t : Fin cfg0.N) (i : Fin 352) : Fin 1056 := ⟨352 * t.val + i.val, by have := t.isLt; have hN : cfg0.N = 3 := N_0; omega⟩

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (c : Dev nD) (t : Fin cfg0.N)

theorem g_at (q : Fin 4) (i : Fin 352) (l : Fin 1024) : iblk m c 0 t (ix3 q i l) = tall (m ((c : Thread nD τ).loc main_arg0)) (m ((c : Thread nD τ).loc main_arg1)) (m ((c : Thread nD τ).loc main_arg2)) (ix3 q (row t i) l) := by
  show V m c main_v0 ((win0_0.blk t).view.emb (ix3 q i l)) = _
  rw [show V m c main_v0 = tall (m (c, Proc.tc.devRef main_arg0)) (m (c, Proc.tc.devRef main_arg1)) (m (c, Proc.tc.devRef main_arg2)) from by
      simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp
      rfl, show (win0_0.blk t).view.emb (ix3 q i l) = ix3 q (row t i) l from by blk_ext [idx t]]

theorem w_at (i : Fin 352) (l : Fin 1024) : iblk m c 1 t (ix2 i l) = pack (m ((c : Thread nD τ).loc main_arg3)) (m ((c : Thread nD τ).loc main_arg4)) (m ((c : Thread nD τ).loc main_arg5)) (ix2 (row t i) l) := by
  show V m c main_v6 ((win0_1.blk t).view.emb (ix2 i l)) = _
  rw [show V m c main_v6 = pack (m (c, Proc.tc.devRef main_arg3)) (m (c, Proc.tc.devRef main_arg4)) (m (c, Proc.tc.devRef main_arg5)) from by
      simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp
      rfl, show (win0_1.blk t).view.emb (ix2 i l) = ix2 (row t i) l from by blk_ext [idx t]]

theorem m_at (i : Fin 352) (l : Fin 1024) : iblk m c 2 t (ix2 i l) = pack (m ((c : Thread nD τ).loc main_arg6)) (m ((c : Thread nD τ).loc main_arg7)) (m ((c : Thread nD τ).loc main_arg8)) (ix2 (row t i) l) := by
  show V m c main_v12 ((win0_2.blk t).view.emb (ix2 i l)) = _
  rw [show V m c main_v12 = pack (m (c, Proc.tc.devRef main_arg6)) (m (c, Proc.tc.devRef main_arg7)) (m (c, Proc.tc.devRef main_arg8)) from by
      simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp
      rfl, show (win0_2.blk t).view.emb (ix2 i l) = ix2 (row t i) l from by blk_ext [idx t]]

theorem v_at (i : Fin 352) (l : Fin 1024) : iblk m c 3 t (ix2 i l) = pack (m ((c : Thread nD τ).loc main_arg9)) (m ((c : Thread nD τ).loc main_arg10)) (m ((c : Thread nD τ).loc main_arg11)) (ix2 (row t i) l) := by
  show V m c main_v18 ((win0_3.blk t).view.emb (ix2 i l)) = _
  rw [show V m c main_v18 = pack (m (c, Proc.tc.devRef main_arg9)) (m (c, Proc.tc.devRef main_arg10)) (m (c, Proc.tc.devRef main_arg11)) from by
      simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp
      rfl, show (win0_3.blk t).view.emb (ix2 i l) = ix2 (row t i) l from by blk_ext [idx t]]

open Cert.OptReferenceIdeal.Read

/-- The gradients are the reference's. -/
theorem final4 : (dats m 0 c).arrAt 4 cfg0.N = val_main_v82 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨i, l, rfl⟩ : ∃ (i : Fin 352) (l : Fin 1024), y = ix2 i l := ⟨y 0, y 1, Shape.idx_ext₂ rfl rfl⟩
  rw [show (win0_4.blk t).view.emb (ix2 i l) = ix2 (row t i) l from by blk_ext [idx t], at4, ref_g]
  simp only [g_at]

/-- The weights' changes are the reference's. -/
theorem final5 : (dats m 0 c).arrAt 5 cfg0.N = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 5 _ (by decide +kernel) fun t _ y => ?_
  blk_simp
  rw [after0_5]
  obtain ⟨i, l, rfl⟩ : ∃ (i : Fin 352) (l : Fin 1024), y = ix2 i l := ⟨y 0, y 1, Shape.idx_ext₂ rfl rfl⟩
  rw [show (win0_5.blk t).view.emb (ix2 i l) = ix2 (row t i) l from by blk_ext [idx t], at5, ref_d]
  simp only [g_at, w_at, m_at, v_at]

/-- The first moments are the reference's. -/
theorem final6 : (dats m 0 c).arrAt 6 cfg0.N = val_main_v88 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  refine (dats m 0 c).arrAt_eq_of_covers 6 _ (by decide +kernel) fun t _ y => ?_
  blk_simp
  rw [after0_6]
  obtain ⟨i, l, rfl⟩ : ∃ (i : Fin 352) (l : Fin 1024), y = ix2 i l := ⟨y 0, y 1, Shape.idx_ext₂ rfl rfl⟩
  rw [show (win0_6.blk t).view.emb (ix2 i l) = ix2 (row t i) l from by blk_ext [idx t], at6, ref_m]
  simp only [g_at, m_at]

/-- The second moments are the reference's. -/
theorem final7 : (dats m 0 c).arrAt 7 cfg0.N = val_main_v91 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) := by
  refine (dats m 0 c).arrAt_eq_of_covers 7 _ (by decide +kernel) fun t _ y => ?_
  blk_simp
  rw [after0_7]
  obtain ⟨i, l, rfl⟩ : ∃ (i : Fin 352) (l : Fin 1024), y = ix2 i l := ⟨y 0, y 1, Shape.idx_ext₂ rfl rfl⟩
  rw [show (win0_7.blk t).view.emb (ix2 i l) = ix2 (row t i) l from by blk_ext [idx t], at7, ref_v]
  simp only [g_at, v_at]

end

end Cert.OptKernelIdeal.Value

namespace Cert.Opt

open Cert.OptKernelIdeal Cert.OptKernelIdeal.Value Idealize.ShloMosaic Idealize.ShloMosaic.TcCoe Idealize.SL.Sem

/-- The kernel's four results are the reference's. -/
theorem algebraic : Cert.algebraic_OptKernelIdeal_OptReferenceIdeal := by
  intro m g m' g' _ hagree
  refine ⟨fun c => Cert.OptReferenceIdeal.Read.val_main_v82 (F := Ideal) (m ((c.tc : Thread nD τ).loc main_arg0)) (m ((c.tc : Thread nD τ).loc main_arg1)) (m ((c.tc : Thread nD τ).loc main_arg2)),
    fun c => Cert.OptReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)),
    fun c => Cert.OptReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)),
    fun c => Cert.OptReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)), ?_, ?_⟩
  · refine (θ_run defs _ _).mono (fun r h c => ?_) (Cert.OptKernelIdeal.Value.run_blocks m g)
    obtain ⟨h4, h5, h6, h7, hk⟩ := h c
    exact ⟨h4.trans (final4 m c), h5.trans (final5 m c), h6.trans (final6 m c), h7.trans (final7 m c), hk⟩
  · refine (θ_run Cert.OptReferenceIdeal.defs _ _).mono (fun r h c => ?_) (Cert.OptReferenceIdeal.Value.run m' g')
    obtain ⟨e0, e1, e2, e3, hk⟩ := h c
    obtain ⟨h0, h1, h2, h3, h4, h5, h6, h7, h8, h9, h10, h11⟩ := hagree c
    refine ⟨e0.trans ((Cert.OptReferenceIdeal.Read.val_main_v82_eq _ _ _).trans ?_), e1.trans ((Cert.OptReferenceIdeal.Read.val_main_v85_eq m' c).trans ?_),
      e2.trans ((Cert.OptReferenceIdeal.Read.val_main_v88_eq _ _ _ _ _ _).trans ?_), e3.trans ((Cert.OptReferenceIdeal.Read.val_main_v91_eq _ _ _ _ _ _).trans ?_), hk⟩
    all_goals simp only [h0, h1, h2, h3, h4, h5, h6, h7, h8, h9, h10, h11]

end Cert.Opt

end
-- ==== Proof.MmValue.lean ====
/- What the mixers' input projection leaves in its result. -/
module

public import proofs.«01_k».proof.Proof.Gen.MmKernelIdeal.Value
public import proofs.«01_k».proof.Proof.Common
public import proofs.«01_k».proof.Proof.Pack
public import proofs.«01_k».proof.Proof.DgmixValue
public import proofs.«01_k».proof.Defs
public import proofs.«01_k».proof.Proof.Gen.MmReferenceIdeal.Run
public import proofs.«01_k».proof.Proof.Gen.MmReferenceIdeal.Read
public import Idealize.ShloMosaic.Lib.Tactic

@[expose] public section

set_option maxRecDepth 16384

noncomputable section

namespace Cert.MmKernelIdeal.Value

open Cert.MmKernelIdeal Cert.MmKernelIdeal.Gen Idealize.ShloMosaic Idealize.ShloMosaic.TcCoe Idealize.SL.Sem
open Idealize.ShloMosaic.Pipeline (Dat)
open Cert.Common Cert.Pack

variable (m : (ℓ : Loc nD τ sig) → Buf (Elt Ideal) ℓ) (ρ : Dev nD → PrngReg)

theorem out2 (c : Dev nD) (i : grid0.Coords) (a1 : Memref sig .tc .vmem S4096x1024 .bf16) (h1 : a1.IsWhole) (a2 : Memref sig .tc .vmem S512x1024 .bf16) (h2 : a2.IsWhole) (a3 : Memref sig .tc .vmem S4096x512 .f32) (h3 : a3.IsWhole) (a4 : Memref sig .tc .vmem S4096x512 .f32) (h4 : a4.IsWhole) (hc0 : cond0_0 i) (hc1 : ¬cond0_1 i) (hc2 : cond0_2 i) (x0 : Vec Ideal S4096x1024 .bf16) (x1 : Vec Ideal S512x1024 .bf16) :
    out0_A_2 c i a1 h1 a2 h2 a3 h3 a4 h4 hc0 hc1 hc2 x0 x1 = k0_pay2 x0 x1 := by
  frame_out

abbrev row (t : Fin cfg0.N) (i : Fin 4096) : Fin 8192 := ⟨4096 * (t.val / 11) + i.val, by have := t.isLt; have hN : cfg0.N = 22 := N_0; omega⟩
abbrev lane (t : Fin cfg0.N) (l : Fin 512) : Fin 5632 := ⟨512 * (t.val % 11) + l.val, by omega⟩

theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

/-! ## The blocks of a grid point -/

section
variable (c : Dev nD) (t : Fin cfg0.N)

theorem u_at (i : Fin 4096) (k : Fin 1024) : iblk m c 0 t (ix2 i k) = m ((c : Thread nD τ).loc main_arg0) (ix2 (row t i) k) := by
  blk_point [iblk, V, idx t]

theorem w_at (l : Fin 512) (k : Fin 1024) : iblk m c 1 t (ix2 l k) = spread (fun j => (m ((c : Thread nD τ).loc main_arg1) : FVec Ideal S1024x5128 .f32) (ix2 k j)) (lane t l) := by
  show V m c main_v11 ((win0_1.blk t).view.emb (ix2 l k)) = _
  rw [show V m c main_v11 = Cert.DgmixKernelIdeal.Value.weights (m (c, Proc.tc.devRef main_arg1)) from by
      simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
      after_results_simp
      rfl, show (win0_1.blk t).view.emb (ix2 l k) = ix2 (lane t l) k from by blk_ext [idx t]]
  exact Cert.DgmixKernelIdeal.Value.weights_spread _ _ _

theorem tile_at (i : Fin 4096) (l : Fin 512) : k0_pay2 (iblk m c 0 t) (iblk m c 1 t) (ix2 i l)
    = ∑ k, HMul.hMul (α := EReal) (β := EReal) (m ((c : Thread nD τ).loc main_arg0) (ix2 (row t i) k)) (spread (fun j => (m ((c : Thread nD τ).loc main_arg1) : FVec Ideal S1024x5128 .f32) (ix2 k j)) (lane t l)) := by
  pointwise [k0_pay2, k0_pay1, u_at, w_at]
end

/-! ## The reference -/

section
open Cert.MmReferenceIdeal.Read
variable (x0 : FVec Ideal S8192x1024 .bf16) (x1 : FVec Ideal S1024x5128 .f32)

theorem v1_at (i : Fin 8192) (j : Fin 5128) : val_main_v1 (F := Ideal) x0 x1 (ix2 i j) = ∑ k, x0 (ix2 i k) * x1 (ix2 k j) := by
  pointwise [val_main_v1, val_main_v0]

/-- The spread steps' columns. -/
theorem v6_at (i : Fin 8192) (q : Fin 512) : val_main_v6 (F := Ideal) x0 x1 (ix2 i q)
    = (if h : q.val % 128 < 2 then ∑ k, x0 (ix2 i k) * x1 (ix2 k ⟨5120 + (q.val / 128 * 2 + q.val % 128), by omega⟩) else (0 : EReal) : EReal) := by
  by_cases hq : q.val % 128 < 2
  · rw [dif_pos hq]
    pointwise [val_main_v6, val_main_v4, val_main_v3, val_main_v2, v1_at]
    exact dif_pos ⟨by omega, hq⟩
  · rw [dif_neg hq]
    pointwise [val_main_v6, val_main_v4, val_main_v3, val_main_v2, val_main_call0_v0, val_main_c, v1_at]
    refine (dif_neg fun h => hq h.2).trans ?_
    show (((0#32 : BitVec 32).toInt : ℝ) : EReal) = 0
    simp

/-- A column of the packed product is the product with the packed column. -/
theorem v7_at (i : Fin 8192) (l : Fin 5632) : val_main_v7 (F := Ideal) x0 x1 (ix2 i l) = ∑ k, x0 (ix2 i k) * spread (fun j => x1 (ix2 k j)) l := by
  unfold spread
  by_cases h : l.val < 5120
  · simp only [dif_pos h]
    pointwise [val_main_v7, val_main_v5]
    rw [dif_pos h, v1_at]
  simp only [dif_neg h]
  by_cases hq : (l.val - 5120) % 128 < 2
  · simp only [dif_pos hq]
    pointwise [val_main_v7]
    rw [dif_neg h, v6_at, dif_pos hq]
  · simp only [dif_neg hq, mul_zero, Finset.sum_const_zero]
    pointwise [val_main_v7]
    rw [dif_neg h, v6_at, dif_neg hq]
end

/-- The product is the reference's. -/
theorem final2 (c : Dev nD) : (dats m 0 c).arrAt 2 cfg0.N = Cert.MmReferenceIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  obtain ⟨i, l, rfl⟩ : ∃ (i : Fin 4096) (l : Fin 512), y = ix2 i l := ⟨y 0, y 1, Shape.idx_ext₂ rfl rfl⟩
  rw [show (win0_2.blk t).view.emb (ix2 i l) = ix2 (row t i) (lane t l) from by blk_ext [idx t], out2, v7_at]
  exact tile_at m c t i l

end Cert.MmKernelIdeal.Value

namespace Cert.Mm

/-- The kernel's result is the reference's. -/
theorem algebraic : Cert.algebraic_MmKernelIdeal_MmReferenceIdeal := by
  pair_intro
  · run_from Cert.MmKernelIdeal.Value.run_blocks m g
  · run_from Cert.MmReferenceIdeal.Value.run m' g'
    exact (Cert.MmKernelIdeal.Value.final2 m c).symm

end Cert.Mm

end
-- ==== Proof.lean ====
/- The certificate: every claim of the statement, from the runs and the value modules. -/
module

public import proofs.«01_k».proof.Defs
public import proofs.«01_k».proof.Proof.Gen.GateKernel.Frame
public import proofs.«01_k».proof.Proof.Gen.GateKernelIdeal.Frame
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.GateValue
public import proofs.«01_k».proof.Proof.Gen.SbKernel
public import proofs.«01_k».proof.Proof.SbKernelFrame
public import proofs.«01_k».proof.Proof.Gen.SbReferenceIdeal.Run
public import proofs.«01_k».proof.Proof.Gen.SbReferenceIdeal.Read
public import proofs.«01_k».proof.Proof.SbValue
public import proofs.«01_k».proof.Proof.Gen.SbfKernel
public import proofs.«01_k».proof.Proof.SbfKernelFrame
public import proofs.«01_k».proof.Proof.Gen.SbfReferenceIdeal.Run
public import proofs.«01_k».proof.Proof.Gen.SbfReferenceIdeal.Read
public import proofs.«01_k».proof.Proof.SbfValue
public import proofs.«01_k».proof.Proof.Gen.FinalKernel.Frame
public import proofs.«01_k».proof.Proof.Gen.FinalKernelIdeal.Frame
public import proofs.«01_k».proof.Proof.Gen.FinalKernelIdeal.Value
public import proofs.«01_k».proof.Proof.Gen.FinalReferenceIdeal.Run
public import proofs.«01_k».proof.Proof.Gen.FinalReferenceIdeal.Read
public import proofs.«01_k».proof.Proof.FinalValue
public import proofs.«01_k».proof.Proof.Gen.GnormKernel.Frame
public import proofs.«01_k».proof.Proof.Gen.GnormKernelIdeal.Frame
public import proofs.«01_k».proof.Proof.Gen.GnormKernelIdeal.Value
public import proofs.«01_k».proof.Proof.Gen.GnormReferenceIdeal.Run
public import proofs.«01_k».proof.Proof.Gen.GnormReferenceIdeal.Read
public import proofs.«01_k».proof.Proof.GnormValue
public import proofs.«01_k».proof.Proof.Gen.DactKernel.Frame
public import proofs.«01_k».proof.Proof.Gen.DactKernelIdeal.Frame
public import proofs.«01_k».proof.Proof.Gen.DactKernelIdeal.Value
public import proofs.«01_k».proof.Proof.Gen.DactReferenceIdeal.Run
public import proofs.«01_k».proof.Proof.Gen.DactReferenceIdeal.Read
public import proofs.«01_k».proof.Proof.DactValue
public import proofs.«01_k».proof.Proof.Gen.DgffnKernel.Frame
public import proofs.«01_k».proof.Proof.Gen.DgffnKernelIdeal.Frame
public import proofs.«01_k».proof.Proof.Gen.DgffnKernelIdeal.Value
public import proofs.«01_k».proof.Proof.Gen.DgffnReferenceIdeal.Run
public import proofs.«01_k».proof.Proof.Gen.DgffnReferenceIdeal.Read
public import proofs.«01_k».proof.Proof.DgffnValue
public import proofs.«01_k».proof.Proof.Gen.DgmixKernel.Frame
public import proofs.«01_k».proof.Proof.Gen.DgmixKernelIdeal.Frame
public import proofs.«01_k».proof.Proof.Gen.DgmixKernelIdeal.Value
public import proofs.«01_k».proof.Proof.Gen.DgmixReferenceIdeal.Run
public import proofs.«01_k».proof.Proof.Gen.DgmixReferenceIdeal.Read
public import proofs.«01_k».proof.Proof.DgmixValue
public import proofs.«01_k».proof.Proof.Gen.ConvKernel.Frame
public import proofs.«01_k».proof.Proof.Gen.ConvKernelIdeal.Frame
public import proofs.«01_k».proof.Proof.Gen.ConvReferenceIdeal.Run
public import proofs.«01_k».proof.Proof.Gen.ConvReferenceIdeal.Read
public import proofs.«01_k».proof.Proof.ConvValue
public import proofs.«01_k».proof.Proof.Gen.ModKernel.Frame
public import proofs.«01_k».proof.Proof.Gen.ModKernelIdeal.Frame
public import proofs.«01_k».proof.Proof.Gen.ModKernelIdeal.Value
public import proofs.«01_k».proof.Proof.Gen.ModReferenceIdeal.Run
public import proofs.«01_k».proof.Proof.Gen.ModReferenceIdeal.Read
public import proofs.«01_k».proof.Proof.ModValue
public import proofs.«01_k».proof.Proof.Gen.GnfKernel.Frame
public import proofs.«01_k».proof.Proof.Gen.GnfKernelIdeal.Frame
public import proofs.«01_k».proof.Proof.Gen.GnfKernelIdeal.Value
public import proofs.«01_k».proof.Proof.Gen.GnfReferenceIdeal.Run
public import proofs.«01_k».proof.Proof.Gen.GnfReferenceIdeal.Read
public import proofs.«01_k».proof.Proof.GnfValue
public import proofs.«01_k».proof.Proof.Gen.UpKernel.Frame
public import proofs.«01_k».proof.Proof.Gen.UpKernelIdeal.Frame
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.UpValue
public import proofs.«01_k».proof.Proof.Gen.DownKernel.Frame
public import proofs.«01_k».proof.Proof.Gen.DownKernelIdeal.Frame
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.DownValue
public import proofs.«01_k».proof.Proof.Gen.AdaKernel.Frame
public import proofs.«01_k».proof.Proof.Gen.AdaKernelIdeal.Frame
public import proofs.«01_k».proof.Proof.Gen.AdaReferenceIdeal.Run
public import proofs.«01_k».proof.Proof.Gen.AdaReferenceIdeal.Read
public import proofs.«01_k».proof.Proof.AdaValue
public import proofs.«01_k».proof.Proof.Gen.OptKernel.Frame
public import proofs.«01_k».proof.Proof.Gen.OptKernelIdeal.Frame
public import proofs.«01_k».proof.Proof.Gen.OptKernelIdeal.Value
public import proofs.«01_k».proof.Proof.Gen.OptReferenceIdeal.Run
public import proofs.«01_k».proof.Proof.Gen.OptReferenceIdeal.Read
public import proofs.«01_k».proof.Proof.OptValue
public import proofs.«01_k».proof.Proof.Gen.MmKernel.Frame
public import proofs.«01_k».proof.Proof.Gen.MmKernelIdeal.Frame
public import proofs.«01_k».proof.Proof.Gen.MmKernelIdeal.Value
public import proofs.«01_k».proof.Proof.Gen.MmReferenceIdeal.Run
public import proofs.«01_k».proof.Proof.Gen.MmReferenceIdeal.Read
public import proofs.«01_k».proof.Proof.MmValue
public import proofs.«01_k».proof.Proof.Gen.Pre_sb_finite
public import proofs.«01_k».proof.Proof.Gen.Pre_sbf_finite
public import proofs.«01_k».proof.Proof.Gen.Pre_final_finite
public import proofs.«01_k».proof.Proof.Gen.Pre_gnorm_finite
public import proofs.«01_k».proof.Proof.Gen.Pre_dact_finite
public import proofs.«01_k».proof.Proof.Gen.Pre_dgffn_finite
public import proofs.«01_k».proof.Proof.Gen.Pre_dgmix_finite
public import proofs.«01_k».proof.Proof.Gen.Pre_conv_finite
public import Idealize.ShloMosaic.Adequacy
public import Idealize.ShloMosaic.Init

@[expose] public section

noncomputable section

namespace Cert.Proof

open Idealize.ShloMosaic Idealize.SL.Sem

theorem claim : Cert.Claim := ⟨Cert.GateKernel.Gen.facts,
  Cert.GateKernelIdeal.Gen.facts,
  Cert.GateReferenceIdeal.Gen.facts,
  Cert.SbKernel.Gen.facts,
  Cert.SbKernelIdeal.Gen.facts,
  Cert.SbReferenceIdeal.Gen.facts,
  Cert.SbfKernel.Gen.facts,
  Cert.SbfKernelIdeal.Gen.facts,
  Cert.SbfReferenceIdeal.Gen.facts,
  Cert.FinalKernel.Gen.facts,
  Cert.FinalKernelIdeal.Gen.facts,
  Cert.FinalReferenceIdeal.Gen.facts,
  Cert.GnormKernel.Gen.facts,
  Cert.GnormKernelIdeal.Gen.facts,
  Cert.GnormReferenceIdeal.Gen.facts,
  Cert.DactKernel.Gen.facts,
  Cert.DactKernelIdeal.Gen.facts,
  Cert.DactReferenceIdeal.Gen.facts,
  Cert.DgffnKernel.Gen.facts,
  Cert.DgffnKernelIdeal.Gen.facts,
  Cert.DgffnReferenceIdeal.Gen.facts,
  Cert.DgmixKernel.Gen.facts,
  Cert.DgmixKernelIdeal.Gen.facts,
  Cert.DgmixReferenceIdeal.Gen.facts,
  Cert.ConvKernel.Gen.facts,
  Cert.ConvKernelIdeal.Gen.facts,
  Cert.ConvReferenceIdeal.Gen.facts,
  Cert.ModKernel.Gen.facts,
  Cert.ModKernelIdeal.Gen.facts,
  Cert.ModReferenceIdeal.Gen.facts,
  Cert.GnfKernel.Gen.facts,
  Cert.GnfKernelIdeal.Gen.facts,
  Cert.GnfReferenceIdeal.Gen.facts,
  Cert.UpKernel.Gen.facts,
  Cert.UpKernelIdeal.Gen.facts,
  Cert.UpReferenceIdeal.Gen.facts,
  Cert.DownKernel.Gen.facts,
  Cert.DownKernelIdeal.Gen.facts,
  Cert.DownReferenceIdeal.Gen.facts,
  Cert.AdaKernel.Gen.facts,
  Cert.AdaKernelIdeal.Gen.facts,
  Cert.AdaReferenceIdeal.Gen.facts,
  Cert.OptKernel.Gen.facts,
  Cert.OptKernelIdeal.Gen.facts,
  Cert.OptReferenceIdeal.Gen.facts,
  Cert.MmKernel.Gen.facts,
  Cert.MmKernelIdeal.Gen.facts,
  Cert.MmReferenceIdeal.Gen.facts,
  Cert.Pre_sb_finite.Gen.facts,
  Cert.Pre_sbf_finite.Gen.facts,
  Cert.Pre_final_finite.Gen.facts,
  Cert.Pre_gnorm_finite.Gen.facts,
  Cert.Pre_dact_finite.Gen.facts,
  Cert.Pre_dgffn_finite.Gen.facts,
  Cert.Pre_dgmix_finite.Gen.facts,
  Cert.Pre_conv_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.GateKernel.Gen.frame m ρ
  · exact fun m ρ _ => Cert.GateKernelIdeal.Gen.frame m ρ
  · exact fun m ρ _ => (θ_run Cert.GateReferenceIdeal.defs _ _).mono (fun r h => ⟨fun c => (h c).2.2, sem_eq_zero_of_no_sems (by decide) r.2⟩) (Cert.GateReferenceIdeal.Value.run m ρ)
  · exact Cert.Sb.frame_kernel
  · exact fun m ρ _ => Cert.SbKernelIdeal.Sb.unchanged m ρ
  · exact fun m ρ _ => Cert.SbKernelIdeal.Sb.unchanged m ρ
  · exact fun m ρ _ => (θ_run Cert.SbReferenceIdeal.defs _ _).mono (fun r h => ⟨fun c => (h c).2.2.2, sem_eq_zero_of_no_sems (by decide) r.2⟩) (Cert.SbReferenceIdeal.Value.run m ρ)
  · exact fun m ρ _ => (θ_run Cert.SbReferenceIdeal.defs _ _).mono (fun r h => ⟨fun c => (h c).2.2.2, sem_eq_zero_of_no_sems (by decide) r.2⟩) (Cert.SbReferenceIdeal.Value.run m ρ)
  · exact Cert.Sbf.frame_kernel
  · exact fun m ρ _ => Cert.SbfKernelIdeal.Sb.unchanged m ρ
  · exact fun m ρ _ => Cert.SbfKernelIdeal.Sb.unchanged m ρ
  · exact fun m ρ _ => (θ_run Cert.SbfReferenceIdeal.defs _ _).mono (fun r h => ⟨fun c => (h c).2.2, sem_eq_zero_of_no_sems (by decide) r.2⟩) (Cert.SbfReferenceIdeal.Value.run m ρ)
  · exact fun m ρ _ => (θ_run Cert.SbfReferenceIdeal.defs _ _).mono (fun r h => ⟨fun c => (h c).2.2, sem_eq_zero_of_no_sems (by decide) r.2⟩) (Cert.SbfReferenceIdeal.Value.run m ρ)
  · exact fun m ρ _ => Cert.FinalKernel.Gen.frame m ρ
  · exact fun m ρ _ => Cert.FinalKernelIdeal.Gen.frame m ρ
  · exact fun m ρ _ => Cert.FinalKernelIdeal.Gen.frame m ρ
  · exact fun m ρ _ => (θ_run Cert.FinalReferenceIdeal.defs _ _).mono (fun r h => ⟨fun c => (h c).2.2, sem_eq_zero_of_no_sems (by decide) r.2⟩) (Cert.FinalReferenceIdeal.Value.run m ρ)
  · exact fun m ρ _ => (θ_run Cert.FinalReferenceIdeal.defs _ _).mono (fun r h => ⟨fun c => (h c).2.2, sem_eq_zero_of_no_sems (by decide) r.2⟩) (Cert.FinalReferenceIdeal.Value.run m ρ)
  · exact fun m ρ _ => Cert.GnormKernel.Gen.frame m ρ
  · exact fun m ρ _ => Cert.GnormKernelIdeal.Gen.frame m ρ
  · exact fun m ρ _ => Cert.GnormKernelIdeal.Gen.frame m ρ
  · exact fun m ρ _ => (θ_run Cert.GnormReferenceIdeal.defs _ _).mono (fun r h => ⟨fun c => (h c).2.2.2, sem_eq_zero_of_no_sems (by decide) r.2⟩) (Cert.GnormReferenceIdeal.Value.run m ρ)
  · exact fun m ρ _ => (θ_run Cert.GnormReferenceIdeal.defs _ _).mono (fun r h => ⟨fun c => (h c).2.2.2, sem_eq_zero_of_no_sems (by decide) r.2⟩) (Cert.GnormReferenceIdeal.Value.run m ρ)
  · exact fun m ρ _ => Cert.DactKernel.Gen.frame m ρ
  · exact fun m ρ _ => Cert.DactKernelIdeal.Gen.frame m ρ
  · exact fun m ρ _ => Cert.DactKernelIdeal.Gen.frame m ρ
  · exact fun m ρ _ => (θ_run Cert.DactReferenceIdeal.defs _ _).mono (fun r h => ⟨fun c => (h c).2.2, sem_eq_zero_of_no_sems (by decide) r.2⟩) (Cert.DactReferenceIdeal.Value.run m ρ)
  · exact fun m ρ _ => (θ_run Cert.DactReferenceIdeal.defs _ _).mono (fun r h => ⟨fun c => (h c).2.2, sem_eq_zero_of_no_sems (by decide) r.2⟩) (Cert.DactReferenceIdeal.Value.run m ρ)
  · exact fun m ρ _ => Cert.DgffnKernel.Gen.frame m ρ
  · exact fun m ρ _ => Cert.DgffnKernelIdeal.Gen.frame m ρ
  · exact fun m ρ _ => Cert.DgffnKernelIdeal.Gen.frame m ρ
  · exact fun m ρ _ => (θ_run Cert.DgffnReferenceIdeal.defs _ _).mono (fun r h => ⟨fun c => (h c).2.2, sem_eq_zero_of_no_sems (by decide) r.2⟩) (Cert.DgffnReferenceIdeal.Value.run m ρ)
  · exact fun m ρ _ => (θ_run Cert.DgffnReferenceIdeal.defs _ _).mono (fun r h => ⟨fun c => (h c).2.2, sem_eq_zero_of_no_sems (by decide) r.2⟩) (Cert.DgffnReferenceIdeal.Value.run m ρ)
  · exact fun m ρ _ => Cert.DgmixKernel.Gen.frame m ρ
  · exact fun m ρ _ => Cert.DgmixKernelIdeal.Gen.frame m ρ
  · exact fun m ρ _ => Cert.DgmixKernelIdeal.Gen.frame m ρ
  · exact fun m ρ _ => (θ_run Cert.DgmixReferenceIdeal.defs _ _).mono (fun r h => ⟨fun c => (h c).2.2, sem_eq_zero_of_no_sems (by decide) r.2⟩) (Cert.DgmixReferenceIdeal.Value.run m ρ)
  · exact fun m ρ _ => (θ_run Cert.DgmixReferenceIdeal.defs _ _).mono (fun r h => ⟨fun c => (h c).2.2, sem_eq_zero_of_no_sems (by decide) r.2⟩) (Cert.DgmixReferenceIdeal.Value.run m ρ)
  · exact fun m ρ _ => Cert.ConvKernel.Gen.frame m ρ
  · exact fun m ρ _ => Cert.ConvKernelIdeal.Gen.frame m ρ
  · exact fun m ρ _ => Cert.ConvKernelIdeal.Gen.frame m ρ
  · exact fun m ρ _ => (θ_run Cert.ConvReferenceIdeal.defs _ _).mono (fun r h => ⟨fun c => (h c).2.2.2, sem_eq_zero_of_no_sems (by decide) r.2⟩) (Cert.ConvReferenceIdeal.Value.run m ρ)
  · exact fun m ρ _ => (θ_run Cert.ConvReferenceIdeal.defs _ _).mono (fun r h => ⟨fun c => (h c).2.2.2, sem_eq_zero_of_no_sems (by decide) r.2⟩) (Cert.ConvReferenceIdeal.Value.run m ρ)
  · exact fun m ρ _ => Cert.ModKernel.Gen.frame m ρ
  · exact fun m ρ _ => Cert.ModKernelIdeal.Gen.frame m ρ
  · exact fun m ρ _ => (θ_run Cert.ModReferenceIdeal.defs _ _).mono (fun r h => ⟨fun c => (h c).2, sem_eq_zero_of_no_sems (by decide) r.2⟩) (Cert.ModReferenceIdeal.Value.run m ρ)
  · exact fun m ρ _ => Cert.GnfKernel.Gen.frame m ρ
  · exact fun m ρ _ => Cert.GnfKernelIdeal.Gen.frame m ρ
  · exact fun m ρ _ => (θ_run Cert.GnfReferenceIdeal.defs _ _).mono (fun r h => ⟨fun c => (h c).2, sem_eq_zero_of_no_sems (by decide) r.2⟩) (Cert.GnfReferenceIdeal.Value.run m ρ)
  · exact fun m ρ _ => Cert.UpKernel.Gen.frame m ρ
  · exact fun m ρ _ => Cert.UpKernelIdeal.Gen.frame m ρ
  · exact fun m ρ _ => (θ_run Cert.UpReferenceIdeal.defs _ _).mono (fun r h => ⟨fun c => (h c).2.2.2, sem_eq_zero_of_no_sems (by decide) r.2⟩) (Cert.UpReferenceIdeal.Value.run m ρ)
  · exact fun m ρ _ => Cert.DownKernel.Gen.frame m ρ
  · exact fun m ρ _ => Cert.DownKernelIdeal.Gen.frame m ρ
  · exact fun m ρ _ => (θ_run Cert.DownReferenceIdeal.defs _ _).mono (fun r h => ⟨fun c => (h c).2.2, sem_eq_zero_of_no_sems (by decide) r.2⟩) (Cert.DownReferenceIdeal.Value.run m ρ)
  · exact fun m ρ _ => Cert.AdaKernel.Gen.frame m ρ
  · exact fun m ρ _ => Cert.AdaKernelIdeal.Gen.frame m ρ
  · exact fun m ρ _ => (θ_run Cert.AdaReferenceIdeal.defs _ _).mono (fun r h => ⟨fun c => (h c).2.2.2.2.2, sem_eq_zero_of_no_sems (by decide) r.2⟩) (Cert.AdaReferenceIdeal.Value.run m ρ)
  · exact fun m ρ _ => Cert.OptKernel.Gen.frame m ρ
  · exact fun m ρ _ => Cert.OptKernelIdeal.Gen.frame m ρ
  · exact fun m ρ _ => (θ_run Cert.OptReferenceIdeal.defs _ _).mono (fun r h => ⟨fun c => (h c).2.2.2.2, sem_eq_zero_of_no_sems (by decide) r.2⟩) (Cert.OptReferenceIdeal.Value.run m ρ)
  · exact fun m ρ _ => Cert.MmKernel.Gen.frame m ρ
  · exact fun m ρ _ => Cert.MmKernelIdeal.Gen.frame m ρ
  · exact fun m ρ _ => (θ_run Cert.MmReferenceIdeal.defs _ _).mono (fun r h => ⟨fun c => (h c).2, sem_eq_zero_of_no_sems (by decide) r.2⟩) (Cert.MmReferenceIdeal.Value.run m ρ)
  · exact trivial
  · exact Cert.Gate.algebraic
  · exact IdealRules.named_const.statement Cert.SbKernelIdeal.κ "no_skip" .f32 0xC2F00000#32 ⊥ rfl
  · exact Cert.Sb.algebraic
  · exact IdealRules.named_const.statement Cert.SbfKernelIdeal.κ "no_skip" .f32 0xC2F00000#32 ⊥ rfl
  · exact Cert.Sbf.algebraic
  · exact trivial
  · exact Cert.Final.algebraic
  · exact trivial
  · exact Cert.Gnorm.algebraic
  · exact trivial
  · exact Cert.Dact.algebraic
  · exact trivial
  · exact Cert.Dgffn.algebraic
  · exact trivial
  · exact Cert.Dgmix.algebraic
  · exact trivial
  · exact Cert.Conv.algebraic
  · exact trivial
  · exact Cert.Mod.algebraic
  · exact trivial
  · exact Cert.Gnf.algebraic
  · exact trivial
  · exact Cert.Up.algebraic
  · exact trivial
  · exact Cert.Down.algebraic
  · exact trivial
  · exact Cert.Ada.algebraic
  · exact trivial
  · exact Cert.Opt.algebraic
  · exact trivial
  · exact Cert.Mm.algebraic
⟩

end Cert.Proof

end
